-- ==== Defs.lean ====
def Pre_MoeUp [hPre_in_range : Cert.Pre_in_range.Facts] (m : (ℓ : Loc Cert.MoeUp.nD Cert.MoeUp.τ Cert.MoeUp.sig) → Buf (Elt Bits) ℓ) : Prop :=
  ∀ c : Dev Cert.MoeUp.nD,
    (Cert.Pre_in_range.fn (F := Bits) (m ((c.tc : Thread Cert.MoeUp.nD Cert.MoeUp.τ).loc Cert.MoeUp.main_arg0)) (m ((c.tc : Thread Cert.MoeUp.nD Cert.MoeUp.τ).loc Cert.MoeUp.main_arg1)) (m ((c.tc : Thread Cert.MoeUp.nD Cert.MoeUp.τ).loc Cert.MoeUp.main_arg2)) (m ((c.tc : Thread Cert.MoeUp.nD Cert.MoeUp.τ).loc Cert.MoeUp.main_arg3)) (m ((c.tc : Thread Cert.MoeUp.nD Cert.MoeUp.τ).loc Cert.MoeUp.main_arg4))) = (fun _ => 1#1)

def Pre_MoeUpIdeal [hPre_in_range : Cert.Pre_in_range.Facts] (m : (ℓ : Loc Cert.MoeUpIdeal.nD Cert.MoeUpIdeal.τ Cert.MoeUpIdeal.sig) → Buf (Elt Ideal) ℓ) : Prop :=
  ∀ c : Dev Cert.MoeUpIdeal.nD,
    (Cert.Pre_in_range.fn (F := Ideal) (m ((c.tc : Thread Cert.MoeUpIdeal.nD Cert.MoeUpIdeal.τ).loc Cert.MoeUpIdeal.main_arg0)) (m ((c.tc : Thread Cert.MoeUpIdeal.nD Cert.MoeUpIdeal.τ).loc Cert.MoeUpIdeal.main_arg1)) (m ((c.tc : Thread Cert.MoeUpIdeal.nD Cert.MoeUpIdeal.τ).loc Cert.MoeUpIdeal.main_arg2)) (m ((c.tc : Thread Cert.MoeUpIdeal.nD Cert.MoeUpIdeal.τ).loc Cert.MoeUpIdeal.main_arg3)) (m ((c.tc : Thread Cert.MoeUpIdeal.nD Cert.MoeUpIdeal.τ).loc Cert.MoeUpIdeal.main_arg4))) = (fun _ => 1#1)

def Pre_MoeUpRefIdeal (m : (ℓ : Loc Cert.MoeUpRefIdeal.nD Cert.MoeUpRefIdeal.τ Cert.MoeUpRefIdeal.sig) → Buf (Elt Ideal) ℓ) : Prop :=
  True

def Pre_MoeUpRefIdeal_in_range [hPre_in_range : Cert.Pre_in_range.Facts] (m : (ℓ : Loc Cert.MoeUpRefIdeal.nD Cert.MoeUpRefIdeal.τ Cert.MoeUpRefIdeal.sig) → Buf (Elt Ideal) ℓ) : Prop :=
  ∀ c : Dev Cert.MoeUpRefIdeal.nD,
    (Cert.Pre_in_range.fn (F := Ideal) (m ((c.tc : Thread Cert.MoeUpRefIdeal.nD Cert.MoeUpRefIdeal.τ).loc Cert.MoeUpRefIdeal.main_arg0)) (m ((c.tc : Thread Cert.MoeUpRefIdeal.nD Cert.MoeUpRefIdeal.τ).loc Cert.MoeUpRefIdeal.main_arg1)) (m ((c.tc : Thread Cert.MoeUpRefIdeal.nD Cert.MoeUpRefIdeal.τ).loc Cert.MoeUpRefIdeal.main_arg2)) (m ((c.tc : Thread Cert.MoeUpRefIdeal.nD Cert.MoeUpRefIdeal.τ).loc Cert.MoeUpRefIdeal.main_arg3)) (m ((c.tc : Thread Cert.MoeUpRefIdeal.nD Cert.MoeUpRefIdeal.τ).loc Cert.MoeUpRefIdeal.main_arg4))) = (fun _ => 1#1)

def Pre_MoeDown [hPre_in_range2 : Cert.Pre_in_range2.Facts] (m : (ℓ : Loc Cert.MoeDown.nD Cert.MoeDown.τ Cert.MoeDown.sig) → Buf (Elt Bits) ℓ) : Prop :=
  ∀ c : Dev Cert.MoeDown.nD,
    (Cert.Pre_in_range2.fn (F := Bits) (m ((c.tc : Thread Cert.MoeDown.nD Cert.MoeDown.τ).loc Cert.MoeDown.main_arg0)) (m ((c.tc : Thread Cert.MoeDown.nD Cert.MoeDown.τ).loc Cert.MoeDown.main_arg1)) (m ((c.tc : Thread Cert.MoeDown.nD Cert.MoeDown.τ).loc Cert.MoeDown.main_arg2)) (m ((c.tc : Thread Cert.MoeDown.nD Cert.MoeDown.τ).loc Cert.MoeDown.main_arg3))) = (fun _ => 1#1)

def Pre_MoeDownIdeal [hPre_in_range2 : Cert.Pre_in_range2.Facts] (m : (ℓ : Loc Cert.MoeDownIdeal.nD Cert.MoeDownIdeal.τ Cert.MoeDownIdeal.sig) → Buf (Elt Ideal) ℓ) : Prop :=
  ∀ c : Dev Cert.MoeDownIdeal.nD,
    (Cert.Pre_in_range2.fn (F := Ideal) (m ((c.tc : Thread Cert.MoeDownIdeal.nD Cert.MoeDownIdeal.τ).loc Cert.MoeDownIdeal.main_arg0)) (m ((c.tc : Thread Cert.MoeDownIdeal.nD Cert.MoeDownIdeal.τ).loc Cert.MoeDownIdeal.main_arg1)) (m ((c.tc : Thread Cert.MoeDownIdeal.nD Cert.MoeDownIdeal.τ).loc Cert.MoeDownIdeal.main_arg2)) (m ((c.tc : Thread Cert.MoeDownIdeal.nD Cert.MoeDownIdeal.τ).loc Cert.MoeDownIdeal.main_arg3))) = (fun _ => 1#1)

def Pre_MoeDownRefIdeal (m : (ℓ : Loc Cert.MoeDownRefIdeal.nD Cert.MoeDownRefIdeal.τ Cert.MoeDownRefIdeal.sig) → Buf (Elt Ideal) ℓ) : Prop :=
  True

def Pre_MoeDownRefIdeal_in_range2 [hPre_in_range2 : Cert.Pre_in_range2.Facts] (m : (ℓ : Loc Cert.MoeDownRefIdeal.nD Cert.MoeDownRefIdeal.τ Cert.MoeDownRefIdeal.sig) → Buf (Elt Ideal) ℓ) : Prop :=
  ∀ c : Dev Cert.MoeDownRefIdeal.nD,
    (Cert.Pre_in_range2.fn (F := Ideal) (m ((c.tc : Thread Cert.MoeDownRefIdeal.nD Cert.MoeDownRefIdeal.τ).loc Cert.MoeDownRefIdeal.main_arg0)) (m ((c.tc : Thread Cert.MoeDownRefIdeal.nD Cert.MoeDownRefIdeal.τ).loc Cert.MoeDownRefIdeal.main_arg1)) (m ((c.tc : Thread Cert.MoeDownRefIdeal.nD Cert.MoeDownRefIdeal.τ).loc Cert.MoeDownRefIdeal.main_arg2)) (m ((c.tc : Thread Cert.MoeDownRefIdeal.nD Cert.MoeDownRefIdeal.τ).loc Cert.MoeDownRefIdeal.main_arg3))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SampleRefIdeal (m : (ℓ : Loc Cert.SampleRefIdeal.nD Cert.SampleRefIdeal.τ Cert.SampleRefIdeal.sig) → Buf (Elt Ideal) ℓ) : Prop :=
  True

def Pre_InLast (m : (ℓ : Loc Cert.InLast.nD Cert.InLast.τ Cert.InLast.sig) → Buf (Elt Bits) ℓ) : Prop :=
  True

def Pre_InLastIdeal (m : (ℓ : Loc Cert.InLastIdeal.nD Cert.InLastIdeal.τ Cert.InLastIdeal.sig) → Buf (Elt Ideal) ℓ) : Prop :=
  True

def Pre_InLastRefIdeal (m : (ℓ : Loc Cert.InLastRefIdeal.nD Cert.InLastRefIdeal.τ Cert.InLastRefIdeal.sig) → Buf (Elt Ideal) ℓ) : Prop :=
  True

def quiescent_MoeUp [hMoeUp : Cert.MoeUp.Facts] [hPre_in_range : Cert.Pre_in_range.Facts] : Prop :=
  ∀ (m : (ℓ : Loc Cert.MoeUp.nD Cert.MoeUp.τ Cert.MoeUp.sig) → Buf (Elt Bits) ℓ) (g : Dev Cert.MoeUp.nD → PrngReg), Pre_MoeUp m →
    θ_run (Cert.MoeUp.defs (F := Bits)) (onTc (τ := Cert.MoeUp.τ) (Cert.MoeUp.main (F := Bits))) ⟨m, fun _ => 0, g⟩ (fun r => (∀ c : Dev Cert.MoeUp.nD,
      r.2.mem ((c.tc : Thread Cert.MoeUp.nD Cert.MoeUp.τ).loc Cert.MoeUp.main_arg0) = m ((c.tc : Thread Cert.MoeUp.nD Cert.MoeUp.τ).loc Cert.MoeUp.main_arg0)
      ∧ r.2.mem ((c.tc : Thread Cert.MoeUp.nD Cert.MoeUp.τ).loc Cert.MoeUp.main_arg1) = m ((c.tc : Thread Cert.MoeUp.nD Cert.MoeUp.τ).loc Cert.MoeUp.main_arg1)
      ∧ r.2.mem ((c.tc : Thread Cert.MoeUp.nD Cert.MoeUp.τ).loc Cert.MoeUp.main_arg2) = m ((c.tc : Thread Cert.MoeUp.nD Cert.MoeUp.τ).loc Cert.MoeUp.main_arg2)
      ∧ r.2.mem ((c.tc : Thread Cert.MoeUp.nD Cert.MoeUp.τ).loc Cert.MoeUp.main_arg3) = m ((c.tc : Thread Cert.MoeUp.nD Cert.MoeUp.τ).loc Cert.MoeUp.main_arg3)
      ∧ r.2.mem ((c.tc : Thread Cert.MoeUp.nD Cert.MoeUp.τ).loc Cert.MoeUp.main_arg4) = m ((c.tc : Thread Cert.MoeUp.nD Cert.MoeUp.τ).loc Cert.MoeUp.main_arg4))
      ∧ r.2.sem = fun _ => 0)

def quiescent_MoeUpIdeal [hMoeUpIdeal : Cert.MoeUpIdeal.Facts] [hPre_in_range : Cert.Pre_in_range.Facts] : Prop :=
  ∀ (m : (ℓ : Loc Cert.MoeUpIdeal.nD Cert.MoeUpIdeal.τ Cert.MoeUpIdeal.sig) → Buf (Elt Ideal) ℓ) (g : Dev Cert.MoeUpIdeal.nD → PrngReg), Pre_MoeUpIdeal m →
    θ_run (Cert.MoeUpIdeal.defs (F := Ideal)) (onTc (τ := Cert.MoeUpIdeal.τ) (Cert.MoeUpIdeal.main (F := Ideal))) ⟨m, fun _ => 0, g⟩ (fun r => (∀ c : Dev Cert.MoeUpIdeal.nD,
      r.2.mem ((c.tc : Thread Cert.MoeUpIdeal.nD Cert.MoeUpIdeal.τ).loc Cert.MoeUpIdeal.main_arg0) = m ((c.tc : Thread Cert.MoeUpIdeal.nD Cert.MoeUpIdeal.τ).loc Cert.MoeUpIdeal.main_arg0)
      ∧ r.2.mem ((c.tc : Thread Cert.MoeUpIdeal.nD Cert.MoeUpIdeal.τ).loc Cert.MoeUpIdeal.main_arg1) = m ((c.tc : Thread Cert.MoeUpIdeal.nD Cert.MoeUpIdeal.τ).loc Cert.MoeUpIdeal.main_arg1)
      ∧ r.2.mem ((c.tc : Thread Cert.MoeUpIdeal.nD Cert.MoeUpIdeal.τ).loc Cert.MoeUpIdeal.main_arg2) = m ((c.tc : Thread Cert.MoeUpIdeal.nD Cert.MoeUpIdeal.τ).loc Cert.MoeUpIdeal.main_arg2)
      ∧ r.2.mem ((c.tc : Thread Cert.MoeUpIdeal.nD Cert.MoeUpIdeal.τ).loc Cert.MoeUpIdeal.main_arg3) = m ((c.tc : Thread Cert.MoeUpIdeal.nD Cert.MoeUpIdeal.τ).loc Cert.MoeUpIdeal.main_arg3)
      ∧ r.2.mem ((c.tc : Thread Cert.MoeUpIdeal.nD Cert.MoeUpIdeal.τ).loc Cert.MoeUpIdeal.main_arg4) = m ((c.tc : Thread Cert.MoeUpIdeal.nD Cert.MoeUpIdeal.τ).loc Cert.MoeUpIdeal.main_arg4))
      ∧ r.2.sem = fun _ => 0)

def quiescent_MoeUpRefIdeal [hMoeUpRefIdeal : Cert.MoeUpRefIdeal.Facts] : Prop :=
  ∀ (m : (ℓ : Loc Cert.MoeUpRefIdeal.nD Cert.MoeUpRefIdeal.τ Cert.MoeUpRefIdeal.sig) → Buf (Elt Ideal) ℓ) (g : Dev Cert.MoeUpRefIdeal.nD → PrngReg), Pre_MoeUpRefIdeal m →
    θ_run (Cert.MoeUpRefIdeal.defs (F := Ideal)) (onTc (τ := Cert.MoeUpRefIdeal.τ) (Cert.MoeUpRefIdeal.main (F := Ideal))) ⟨m, fun _ => 0, g⟩ (fun r => (∀ c : Dev Cert.MoeUpRefIdeal.nD,
      r.2.mem ((c.tc : Thread Cert.MoeUpRefIdeal.nD Cert.MoeUpRefIdeal.τ).loc Cert.MoeUpRefIdeal.main_arg0) = m ((c.tc : Thread Cert.MoeUpRefIdeal.nD Cert.MoeUpRefIdeal.τ).loc Cert.MoeUpRefIdeal.main_arg0)
      ∧ r.2.mem ((c.tc : Thread Cert.MoeUpRefIdeal.nD Cert.MoeUpRefIdeal.τ).loc Cert.MoeUpRefIdeal.main_arg1) = m ((c.tc : Thread Cert.MoeUpRefIdeal.nD Cert.MoeUpRefIdeal.τ).loc Cert.MoeUpRefIdeal.main_arg1)
      ∧ r.2.mem ((c.tc : Thread Cert.MoeUpRefIdeal.nD Cert.MoeUpRefIdeal.τ).loc Cert.MoeUpRefIdeal.main_arg2) = m ((c.tc : Thread Cert.MoeUpRefIdeal.nD Cert.MoeUpRefIdeal.τ).loc Cert.MoeUpRefIdeal.main_arg2)
      ∧ r.2.mem ((c.tc : Thread Cert.MoeUpRefIdeal.nD Cert.MoeUpRefIdeal.τ).loc Cert.MoeUpRefIdeal.main_arg3) = m ((c.tc : Thread Cert.MoeUpRefIdeal.nD Cert.MoeUpRefIdeal.τ).loc Cert.MoeUpRefIdeal.main_arg3)
      ∧ r.2.mem ((c.tc : Thread Cert.MoeUpRefIdeal.nD Cert.MoeUpRefIdeal.τ).loc Cert.MoeUpRefIdeal.main_arg4) = m ((c.tc : Thread Cert.MoeUpRefIdeal.nD Cert.MoeUpRefIdeal.τ).loc Cert.MoeUpRefIdeal.main_arg4))
      ∧ r.2.sem = fun _ => 0)

def quiescent_MoeUpRefIdeal_pre_in_range [hMoeUpRefIdeal : Cert.MoeUpRefIdeal.Facts] [hPre_in_range : Cert.Pre_in_range.Facts] : Prop :=
  ∀ (m : (ℓ : Loc Cert.MoeUpRefIdeal.nD Cert.MoeUpRefIdeal.τ Cert.MoeUpRefIdeal.sig) → Buf (Elt Ideal) ℓ) (g : Dev Cert.MoeUpRefIdeal.nD → PrngReg), Pre_MoeUpRefIdeal_in_range m →
    θ_run (Cert.MoeUpRefIdeal.defs (F := Ideal)) (onTc (τ := Cert.MoeUpRefIdeal.τ) (Cert.MoeUpRefIdeal.main (F := Ideal))) ⟨m, fun _ => 0, g⟩ (fun r => (∀ c : Dev Cert.MoeUpRefIdeal.nD,
      r.2.mem ((c.tc : Thread Cert.MoeUpRefIdeal.nD Cert.MoeUpRefIdeal.τ).loc Cert.MoeUpRefIdeal.main_arg0) = m ((c.tc : Thread Cert.MoeUpRefIdeal.nD Cert.MoeUpRefIdeal.τ).loc Cert.MoeUpRefIdeal.main_arg0)
      ∧ r.2.mem ((c.tc : Thread Cert.MoeUpRefIdeal.nD Cert.MoeUpRefIdeal.τ).loc Cert.MoeUpRefIdeal.main_arg1) = m ((c.tc : Thread Cert.MoeUpRefIdeal.nD Cert.MoeUpRefIdeal.τ).loc Cert.MoeUpRefIdeal.main_arg1)
      ∧ r.2.mem ((c.tc : Thread Cert.MoeUpRefIdeal.nD Cert.MoeUpRefIdeal.τ).loc Cert.MoeUpRefIdeal.main_arg2) = m ((c.tc : Thread Cert.MoeUpRefIdeal.nD Cert.MoeUpRefIdeal.τ).loc Cert.MoeUpRefIdeal.main_arg2)
      ∧ r.2.mem ((c.tc : Thread Cert.MoeUpRefIdeal.nD Cert.MoeUpRefIdeal.τ).loc Cert.MoeUpRefIdeal.main_arg3) = m ((c.tc : Thread Cert.MoeUpRefIdeal.nD Cert.MoeUpRefIdeal.τ).loc Cert.MoeUpRefIdeal.main_arg3)
      ∧ r.2.mem ((c.tc : Thread Cert.MoeUpRefIdeal.nD Cert.MoeUpRefIdeal.τ).loc Cert.MoeUpRefIdeal.main_arg4) = m ((c.tc : Thread Cert.MoeUpRefIdeal.nD Cert.MoeUpRefIdeal.τ).loc Cert.MoeUpRefIdeal.main_arg4))
      ∧ r.2.sem = fun _ => 0)

def quiescent_MoeDown [hMoeDown : Cert.MoeDown.Facts] [hPre_in_range2 : Cert.Pre_in_range2.Facts] : Prop :=
  ∀ (m : (ℓ : Loc Cert.MoeDown.nD Cert.MoeDown.τ Cert.MoeDown.sig) → Buf (Elt Bits) ℓ) (g : Dev Cert.MoeDown.nD → PrngReg), Pre_MoeDown m →
    θ_run (Cert.MoeDown.defs (F := Bits)) (onTc (τ := Cert.MoeDown.τ) (Cert.MoeDown.main (F := Bits))) ⟨m, fun _ => 0, g⟩ (fun r => (∀ c : Dev Cert.MoeDown.nD,
      r.2.mem ((c.tc : Thread Cert.MoeDown.nD Cert.MoeDown.τ).loc Cert.MoeDown.main_arg0) = m ((c.tc : Thread Cert.MoeDown.nD Cert.MoeDown.τ).loc Cert.MoeDown.main_arg0)
      ∧ r.2.mem ((c.tc : Thread Cert.MoeDown.nD Cert.MoeDown.τ).loc Cert.MoeDown.main_arg1) = m ((c.tc : Thread Cert.MoeDown.nD Cert.MoeDown.τ).loc Cert.MoeDown.main_arg1)
      ∧ r.2.mem ((c.tc : Thread Cert.MoeDown.nD Cert.MoeDown.τ).loc Cert.MoeDown.main_arg2) = m ((c.tc : Thread Cert.MoeDown.nD Cert.MoeDown.τ).loc Cert.MoeDown.main_arg2)
      ∧ r.2.mem ((c.tc : Thread Cert.MoeDown.nD Cert.MoeDown.τ).loc Cert.MoeDown.main_arg3) = m ((c.tc : Thread Cert.MoeDown.nD Cert.MoeDown.τ).loc Cert.MoeDown.main_arg3))
      ∧ r.2.sem = fun _ => 0)

def quiescent_MoeDownIdeal [hMoeDownIdeal : Cert.MoeDownIdeal.Facts] [hPre_in_range2 : Cert.Pre_in_range2.Facts] : Prop :=
  ∀ (m : (ℓ : Loc Cert.MoeDownIdeal.nD Cert.MoeDownIdeal.τ Cert.MoeDownIdeal.sig) → Buf (Elt Ideal) ℓ) (g : Dev Cert.MoeDownIdeal.nD → PrngReg), Pre_MoeDownIdeal m →
    θ_run (Cert.MoeDownIdeal.defs (F := Ideal)) (onTc (τ := Cert.MoeDownIdeal.τ) (Cert.MoeDownIdeal.main (F := Ideal))) ⟨m, fun _ => 0, g⟩ (fun r => (∀ c : Dev Cert.MoeDownIdeal.nD,
      r.2.mem ((c.tc : Thread Cert.MoeDownIdeal.nD Cert.MoeDownIdeal.τ).loc Cert.MoeDownIdeal.main_arg0) = m ((c.tc : Thread Cert.MoeDownIdeal.nD Cert.MoeDownIdeal.τ).loc Cert.MoeDownIdeal.main_arg0)
      ∧ r.2.mem ((c.tc : Thread Cert.MoeDownIdeal.nD Cert.MoeDownIdeal.τ).loc Cert.MoeDownIdeal.main_arg1) = m ((c.tc : Thread Cert.MoeDownIdeal.nD Cert.MoeDownIdeal.τ).loc Cert.MoeDownIdeal.main_arg1)
      ∧ r.2.mem ((c.tc : Thread Cert.MoeDownIdeal.nD Cert.MoeDownIdeal.τ).loc Cert.MoeDownIdeal.main_arg2) = m ((c.tc : Thread Cert.MoeDownIdeal.nD Cert.MoeDownIdeal.τ).loc Cert.MoeDownIdeal.main_arg2)
      ∧ r.2.mem ((c.tc : Thread Cert.MoeDownIdeal.nD Cert.MoeDownIdeal.τ).loc Cert.MoeDownIdeal.main_arg3) = m ((c.tc : Thread Cert.MoeDownIdeal.nD Cert.MoeDownIdeal.τ).loc Cert.MoeDownIdeal.main_arg3))
      ∧ r.2.sem = fun _ => 0)

def quiescent_MoeDownRefIdeal [hMoeDownRefIdeal : Cert.MoeDownRefIdeal.Facts] : Prop :=
  ∀ (m : (ℓ : Loc Cert.MoeDownRefIdeal.nD Cert.MoeDownRefIdeal.τ Cert.MoeDownRefIdeal.sig) → Buf (Elt Ideal) ℓ) (g : Dev Cert.MoeDownRefIdeal.nD → PrngReg), Pre_MoeDownRefIdeal m →
    θ_run (Cert.MoeDownRefIdeal.defs (F := Ideal)) (onTc (τ := Cert.MoeDownRefIdeal.τ) (Cert.MoeDownRefIdeal.main (F := Ideal))) ⟨m, fun _ => 0, g⟩ (fun r => (∀ c : Dev Cert.MoeDownRefIdeal.nD,
      r.2.mem ((c.tc : Thread Cert.MoeDownRefIdeal.nD Cert.MoeDownRefIdeal.τ).loc Cert.MoeDownRefIdeal.main_arg0) = m ((c.tc : Thread Cert.MoeDownRefIdeal.nD Cert.MoeDownRefIdeal.τ).loc Cert.MoeDownRefIdeal.main_arg0)
      ∧ r.2.mem ((c.tc : Thread Cert.MoeDownRefIdeal.nD Cert.MoeDownRefIdeal.τ).loc Cert.MoeDownRefIdeal.main_arg1) = m ((c.tc : Thread Cert.MoeDownRefIdeal.nD Cert.MoeDownRefIdeal.τ).loc Cert.MoeDownRefIdeal.main_arg1)
      ∧ r.2.mem ((c.tc : Thread Cert.MoeDownRefIdeal.nD Cert.MoeDownRefIdeal.τ).loc Cert.MoeDownRefIdeal.main_arg2) = m ((c.tc : Thread Cert.MoeDownRefIdeal.nD Cert.MoeDownRefIdeal.τ).loc Cert.MoeDownRefIdeal.main_arg2)
      ∧ r.2.mem ((c.tc : Thread Cert.MoeDownRefIdeal.nD Cert.MoeDownRefIdeal.τ).loc Cert.MoeDownRefIdeal.main_arg3) = m ((c.tc : Thread Cert.MoeDownRefIdeal.nD Cert.MoeDownRefIdeal.τ).loc Cert.MoeDownRefIdeal.main_arg3))
      ∧ r.2.sem = fun _ => 0)

def quiescent_MoeDownRefIdeal_pre_in_range2 [hMoeDownRefIdeal : Cert.MoeDownRefIdeal.Facts] [hPre_in_range2 : Cert.Pre_in_range2.Facts] : Prop :=
  ∀ (m : (ℓ : Loc Cert.MoeDownRefIdeal.nD Cert.MoeDownRefIdeal.τ Cert.MoeDownRefIdeal.sig) → Buf (Elt Ideal) ℓ) (g : Dev Cert.MoeDownRefIdeal.nD → PrngReg), Pre_MoeDownRefIdeal_in_range2 m →
    θ_run (Cert.MoeDownRefIdeal.defs (F := Ideal)) (onTc (τ := Cert.MoeDownRefIdeal.τ) (Cert.MoeDownRefIdeal.main (F := Ideal))) ⟨m, fun _ => 0, g⟩ (fun r => (∀ c : Dev Cert.MoeDownRefIdeal.nD,
      r.2.mem ((c.tc : Thread Cert.MoeDownRefIdeal.nD Cert.MoeDownRefIdeal.τ).loc Cert.MoeDownRefIdeal.main_arg0) = m ((c.tc : Thread Cert.MoeDownRefIdeal.nD Cert.MoeDownRefIdeal.τ).loc Cert.MoeDownRefIdeal.main_arg0)
      ∧ r.2.mem ((c.tc : Thread Cert.MoeDownRefIdeal.nD Cert.MoeDownRefIdeal.τ).loc Cert.MoeDownRefIdeal.main_arg1) = m ((c.tc : Thread Cert.MoeDownRefIdeal.nD Cert.MoeDownRefIdeal.τ).loc Cert.MoeDownRefIdeal.main_arg1)
      ∧ r.2.mem ((c.tc : Thread Cert.MoeDownRefIdeal.nD Cert.MoeDownRefIdeal.τ).loc Cert.MoeDownRefIdeal.main_arg2) = m ((c.tc : Thread Cert.MoeDownRefIdeal.nD Cert.MoeDownRefIdeal.τ).loc Cert.MoeDownRefIdeal.main_arg2)
      ∧ r.2.mem ((c.tc : Thread Cert.MoeDownRefIdeal.nD Cert.MoeDownRefIdeal.τ).loc Cert.MoeDownRefIdeal.main_arg3) = m ((c.tc : Thread Cert.MoeDownRefIdeal.nD Cert.MoeDownRefIdeal.τ).loc Cert.MoeDownRefIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2)
      ∧ r.2.mem ((c.tc : Thread Cert.FfnDown.nD Cert.FfnDown.τ).loc Cert.FfnDown.main_arg3) = m ((c.tc : Thread Cert.FfnDown.nD Cert.FfnDown.τ).loc Cert.FfnDown.main_arg3))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2)
      ∧ r.2.mem ((c.tc : Thread Cert.FfnDownRefIdeal.nD Cert.FfnDownRefIdeal.τ).loc Cert.FfnDownRefIdeal.main_arg3) = m ((c.tc : Thread Cert.FfnDownRefIdeal.nD Cert.FfnDownRefIdeal.τ).loc Cert.FfnDownRefIdeal.main_arg3))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1)
      ∧ r.2.mem ((c.tc : Thread Cert.Sample.nD Cert.Sample.τ).loc Cert.Sample.main_arg2) = m ((c.tc : Thread Cert.Sample.nD Cert.Sample.τ).loc Cert.Sample.main_arg2)
      ∧ r.2.mem ((c.tc : Thread Cert.Sample.nD Cert.Sample.τ).loc Cert.Sample.main_arg3) = m ((c.tc : Thread Cert.Sample.nD Cert.Sample.τ).loc Cert.Sample.main_arg3)
      ∧ r.2.mem ((c.tc : Thread Cert.Sample.nD Cert.Sample.τ).loc Cert.Sample.main_arg4) = m ((c.tc : Thread Cert.Sample.nD Cert.Sample.τ).loc Cert.Sample.main_arg4)
      ∧ r.2.mem ((c.tc : Thread Cert.Sample.nD Cert.Sample.τ).loc Cert.Sample.main_arg5) = m ((c.tc : Thread Cert.Sample.nD Cert.Sample.τ).loc Cert.Sample.main_arg5)
      ∧ r.2.mem ((c.tc : Thread Cert.Sample.nD Cert.Sample.τ).loc Cert.Sample.main_arg6) = m ((c.tc : Thread Cert.Sample.nD Cert.Sample.τ).loc Cert.Sample.main_arg6)
      ∧ r.2.mem ((c.tc : Thread Cert.Sample.nD Cert.Sample.τ).loc Cert.Sample.main_arg7) = m ((c.tc : Thread Cert.Sample.nD Cert.Sample.τ).loc Cert.Sample.main_arg7)
      ∧ r.2.mem ((c.tc : Thread Cert.Sample.nD Cert.Sample.τ).loc Cert.Sample.main_arg8) = m ((c.tc : Thread Cert.Sample.nD Cert.Sample.τ).loc Cert.Sample.main_arg8)
      ∧ r.2.mem ((c.tc : Thread Cert.Sample.nD Cert.Sample.τ).loc Cert.Sample.main_arg9) = m ((c.tc : Thread Cert.Sample.nD Cert.Sample.τ).loc Cert.Sample.main_arg9)
      ∧ r.2.mem ((c.tc : Thread Cert.Sample.nD Cert.Sample.τ).loc Cert.Sample.main_arg10) = m ((c.tc : Thread Cert.Sample.nD Cert.Sample.τ).loc Cert.Sample.main_arg10)
      ∧ r.2.mem ((c.tc : Thread Cert.Sample.nD Cert.Sample.τ).loc Cert.Sample.main_arg11) = m ((c.tc : Thread Cert.Sample.nD Cert.Sample.τ).loc Cert.Sample.main_arg11)
      ∧ r.2.mem ((c.tc : Thread Cert.Sample.nD Cert.Sample.τ).loc Cert.Sample.main_arg12) = m ((c.tc : Thread Cert.Sample.nD Cert.Sample.τ).loc Cert.Sample.main_arg12)
      ∧ r.2.mem ((c.tc : Thread Cert.Sample.nD Cert.Sample.τ).loc Cert.Sample.main_arg13) = m ((c.tc : Thread Cert.Sample.nD Cert.Sample.τ).loc Cert.Sample.main_arg13)
      ∧ r.2.mem ((c.tc : Thread Cert.Sample.nD Cert.Sample.τ).loc Cert.Sample.main_arg14) = m ((c.tc : Thread Cert.Sample.nD Cert.Sample.τ).loc Cert.Sample.main_arg14)
      ∧ r.2.mem ((c.tc : Thread Cert.Sample.nD Cert.Sample.τ).loc Cert.Sample.main_arg15) = m ((c.tc : Thread Cert.Sample.nD Cert.Sample.τ).loc Cert.Sample.main_arg15)
      ∧ r.2.mem ((c.tc : Thread Cert.Sample.nD Cert.Sample.τ).loc Cert.Sample.main_arg16) = m ((c.tc : Thread Cert.Sample.nD Cert.Sample.τ).loc Cert.Sample.main_arg16)
      ∧ r.2.mem ((c.tc : Thread Cert.Sample.nD Cert.Sample.τ).loc Cert.Sample.main_arg17) = m ((c.tc : Thread Cert.Sample.nD Cert.Sample.τ).loc Cert.Sample.main_arg17)
      ∧ r.2.mem ((c.tc : Thread Cert.Sample.nD Cert.Sample.τ).loc Cert.Sample.main_arg18) = m ((c.tc : Thread Cert.Sample.nD Cert.Sample.τ).loc Cert.Sample.main_arg18)
      ∧ r.2.mem ((c.tc : Thread Cert.Sample.nD Cert.Sample.τ).loc Cert.Sample.main_arg19) = m ((c.tc : Thread Cert.Sample.nD Cert.Sample.τ).loc Cert.Sample.main_arg19)
      ∧ r.2.mem ((c.tc : Thread Cert.Sample.nD Cert.Sample.τ).loc Cert.Sample.main_arg20) = m ((c.tc : Thread Cert.Sample.nD Cert.Sample.τ).loc Cert.Sample.main_arg20)
      ∧ r.2.mem ((c.tc : Thread Cert.Sample.nD Cert.Sample.τ).loc Cert.Sample.main_arg21) = m ((c.tc : Thread Cert.Sample.nD Cert.Sample.τ).loc Cert.Sample.main_arg21)
      ∧ r.2.mem ((c.tc : Thread Cert.Sample.nD Cert.Sample.τ).loc Cert.Sample.main_arg22) = m ((c.tc : Thread Cert.Sample.nD Cert.Sample.τ).loc Cert.Sample.main_arg22))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
      ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
      ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
      ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
      ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7)
      ∧ r.2.mem ((c.tc : Thread Cert.SampleIdeal.nD Cert.SampleIdeal.τ).loc Cert.SampleIdeal.main_arg8) = m ((c.tc : Thread Cert.SampleIdeal.nD Cert.SampleIdeal.τ).loc Cert.SampleIdeal.main_arg8)
      ∧ r.2.mem ((c.tc : Thread Cert.SampleIdeal.nD Cert.SampleIdeal.τ).loc Cert.SampleIdeal.main_arg9) = m ((c.tc : Thread Cert.SampleIdeal.nD Cert.SampleIdeal.τ).loc Cert.SampleIdeal.main_arg9)
      ∧ r.2.mem ((c.tc : Thread Cert.SampleIdeal.nD Cert.SampleIdeal.τ).loc Cert.SampleIdeal.main_arg10) = m ((c.tc : Thread Cert.SampleIdeal.nD Cert.SampleIdeal.τ).loc Cert.SampleIdeal.main_arg10)
      ∧ r.2.mem ((c.tc : Thread Cert.SampleIdeal.nD Cert.SampleIdeal.τ).loc Cert.SampleIdeal.main_arg11) = m ((c.tc : Thread Cert.SampleIdeal.nD Cert.SampleIdeal.τ).loc Cert.SampleIdeal.main_arg11)
      ∧ r.2.mem ((c.tc : Thread Cert.SampleIdeal.nD Cert.SampleIdeal.τ).loc Cert.SampleIdeal.main_arg12) = m ((c.tc : Thread Cert.SampleIdeal.nD Cert.SampleIdeal.τ).loc Cert.SampleIdeal.main_arg12)
      ∧ r.2.mem ((c.tc : Thread Cert.SampleIdeal.nD Cert.SampleIdeal.τ).loc Cert.SampleIdeal.main_arg13) = m ((c.tc : Thread Cert.SampleIdeal.nD Cert.SampleIdeal.τ).loc Cert.SampleIdeal.main_arg13)
      ∧ r.2.mem ((c.tc : Thread Cert.SampleIdeal.nD Cert.SampleIdeal.τ).loc Cert.SampleIdeal.main_arg14) = m ((c.tc : Thread Cert.SampleIdeal.nD Cert.SampleIdeal.τ).loc Cert.SampleIdeal.main_arg14)
      ∧ r.2.mem ((c.tc : Thread Cert.SampleIdeal.nD Cert.SampleIdeal.τ).loc Cert.SampleIdeal.main_arg15) = m ((c.tc : Thread Cert.SampleIdeal.nD Cert.SampleIdeal.τ).loc Cert.SampleIdeal.main_arg15)
      ∧ r.2.mem ((c.tc : Thread Cert.SampleIdeal.nD Cert.SampleIdeal.τ).loc Cert.SampleIdeal.main_arg16) = m ((c.tc : Thread Cert.SampleIdeal.nD Cert.SampleIdeal.τ).loc Cert.SampleIdeal.main_arg16)
      ∧ r.2.mem ((c.tc : Thread Cert.SampleIdeal.nD Cert.SampleIdeal.τ).loc Cert.SampleIdeal.main_arg17) = m ((c.tc : Thread Cert.SampleIdeal.nD Cert.SampleIdeal.τ).loc Cert.SampleIdeal.main_arg17)
      ∧ r.2.mem ((c.tc : Thread Cert.SampleIdeal.nD Cert.SampleIdeal.τ).loc Cert.SampleIdeal.main_arg18) = m ((c.tc : Thread Cert.SampleIdeal.nD Cert.SampleIdeal.τ).loc Cert.SampleIdeal.main_arg18)
      ∧ r.2.mem ((c.tc : Thread Cert.SampleIdeal.nD Cert.SampleIdeal.τ).loc Cert.SampleIdeal.main_arg19) = m ((c.tc : Thread Cert.SampleIdeal.nD Cert.SampleIdeal.τ).loc Cert.SampleIdeal.main_arg19)
      ∧ r.2.mem ((c.tc : Thread Cert.SampleIdeal.nD Cert.SampleIdeal.τ).loc Cert.SampleIdeal.main_arg20) = m ((c.tc : Thread Cert.SampleIdeal.nD Cert.SampleIdeal.τ).loc Cert.SampleIdeal.main_arg20)
      ∧ r.2.mem ((c.tc : Thread Cert.SampleIdeal.nD Cert.SampleIdeal.τ).loc Cert.SampleIdeal.main_arg21) = m ((c.tc : Thread Cert.SampleIdeal.nD Cert.SampleIdeal.τ).loc Cert.SampleIdeal.main_arg21)
      ∧ r.2.mem ((c.tc : Thread Cert.SampleIdeal.nD Cert.SampleIdeal.τ).loc Cert.SampleIdeal.main_arg22) = m ((c.tc : Thread Cert.SampleIdeal.nD Cert.SampleIdeal.τ).loc Cert.SampleIdeal.main_arg22))
      ∧ r.2.sem = fun _ => 0)

def quiescent_SampleRefIdeal [hSampleRefIdeal : Cert.SampleRefIdeal.Facts] : Prop :=
  ∀ (m : (ℓ : Loc Cert.SampleRefIdeal.nD Cert.SampleRefIdeal.τ Cert.SampleRefIdeal.sig) → Buf (Elt Ideal) ℓ) (g : Dev Cert.SampleRefIdeal.nD → PrngReg), Pre_SampleRefIdeal m →
    θ_run (Cert.SampleRefIdeal.defs (F := Ideal)) (onTc (τ := Cert.SampleRefIdeal.τ) (Cert.SampleRefIdeal.main (F := Ideal))) ⟨m, fun _ => 0, g⟩ (fun r => (∀ c : Dev Cert.SampleRefIdeal.nD,
      r.2.mem ((c.tc : Thread Cert.SampleRefIdeal.nD Cert.SampleRefIdeal.τ).loc Cert.SampleRefIdeal.main_arg0) = m ((c.tc : Thread Cert.SampleRefIdeal.nD Cert.SampleRefIdeal.τ).loc Cert.SampleRefIdeal.main_arg0)
      ∧ r.2.mem ((c.tc : Thread Cert.SampleRefIdeal.nD Cert.SampleRefIdeal.τ).loc Cert.SampleRefIdeal.main_arg1) = m ((c.tc : Thread Cert.SampleRefIdeal.nD Cert.SampleRefIdeal.τ).loc Cert.SampleRefIdeal.main_arg1)
      ∧ r.2.mem ((c.tc : Thread Cert.SampleRefIdeal.nD Cert.SampleRefIdeal.τ).loc Cert.SampleRefIdeal.main_arg2) = m ((c.tc : Thread Cert.SampleRefIdeal.nD Cert.SampleRefIdeal.τ).loc Cert.SampleRefIdeal.main_arg2)
      ∧ r.2.mem ((c.tc : Thread Cert.SampleRefIdeal.nD Cert.SampleRefIdeal.τ).loc Cert.SampleRefIdeal.main_arg3) = m ((c.tc : Thread Cert.SampleRefIdeal.nD Cert.SampleRefIdeal.τ).loc Cert.SampleRefIdeal.main_arg3)
      ∧ r.2.mem ((c.tc : Thread Cert.SampleRefIdeal.nD Cert.SampleRefIdeal.τ).loc Cert.SampleRefIdeal.main_arg4) = m ((c.tc : Thread Cert.SampleRefIdeal.nD Cert.SampleRefIdeal.τ).loc Cert.SampleRefIdeal.main_arg4)
      ∧ r.2.mem ((c.tc : Thread Cert.SampleRefIdeal.nD Cert.SampleRefIdeal.τ).loc Cert.SampleRefIdeal.main_arg5) = m ((c.tc : Thread Cert.SampleRefIdeal.nD Cert.SampleRefIdeal.τ).loc Cert.SampleRefIdeal.main_arg5)
      ∧ r.2.mem ((c.tc : Thread Cert.SampleRefIdeal.nD Cert.SampleRefIdeal.τ).loc Cert.SampleRefIdeal.main_arg6) = m ((c.tc : Thread Cert.SampleRefIdeal.nD Cert.SampleRefIdeal.τ).loc Cert.SampleRefIdeal.main_arg6)
      ∧ r.2.mem ((c.tc : Thread Cert.SampleRefIdeal.nD Cert.SampleRefIdeal.τ).loc Cert.SampleRefIdeal.main_arg7) = m ((c.tc : Thread Cert.SampleRefIdeal.nD Cert.SampleRefIdeal.τ).loc Cert.SampleRefIdeal.main_arg7)
      ∧ r.2.mem ((c.tc : Thread Cert.SampleRefIdeal.nD Cert.SampleRefIdeal.τ).loc Cert.SampleRefIdeal.main_arg8) = m ((c.tc : Thread Cert.SampleRefIdeal.nD Cert.SampleRefIdeal.τ).loc Cert.SampleRefIdeal.main_arg8)
      ∧ r.2.mem ((c.tc : Thread Cert.SampleRefIdeal.nD Cert.SampleRefIdeal.τ).loc Cert.SampleRefIdeal.main_arg9) = m ((c.tc : Thread Cert.SampleRefIdeal.nD Cert.SampleRefIdeal.τ).loc Cert.SampleRefIdeal.main_arg9)
      ∧ r.2.mem ((c.tc : Thread Cert.SampleRefIdeal.nD Cert.SampleRefIdeal.τ).loc Cert.SampleRefIdeal.main_arg10) = m ((c.tc : Thread Cert.SampleRefIdeal.nD Cert.SampleRefIdeal.τ).loc Cert.SampleRefIdeal.main_arg10)
      ∧ r.2.mem ((c.tc : Thread Cert.SampleRefIdeal.nD Cert.SampleRefIdeal.τ).loc Cert.SampleRefIdeal.main_arg11) = m ((c.tc : Thread Cert.SampleRefIdeal.nD Cert.SampleRefIdeal.τ).loc Cert.SampleRefIdeal.main_arg11)
      ∧ r.2.mem ((c.tc : Thread Cert.SampleRefIdeal.nD Cert.SampleRefIdeal.τ).loc Cert.SampleRefIdeal.main_arg12) = m ((c.tc : Thread Cert.SampleRefIdeal.nD Cert.SampleRefIdeal.τ).loc Cert.SampleRefIdeal.main_arg12)
      ∧ r.2.mem ((c.tc : Thread Cert.SampleRefIdeal.nD Cert.SampleRefIdeal.τ).loc Cert.SampleRefIdeal.main_arg13) = m ((c.tc : Thread Cert.SampleRefIdeal.nD Cert.SampleRefIdeal.τ).loc Cert.SampleRefIdeal.main_arg13)
      ∧ r.2.mem ((c.tc : Thread Cert.SampleRefIdeal.nD Cert.SampleRefIdeal.τ).loc Cert.SampleRefIdeal.main_arg14) = m ((c.tc : Thread Cert.SampleRefIdeal.nD Cert.SampleRefIdeal.τ).loc Cert.SampleRefIdeal.main_arg14)
      ∧ r.2.mem ((c.tc : Thread Cert.SampleRefIdeal.nD Cert.SampleRefIdeal.τ).loc Cert.SampleRefIdeal.main_arg15) = m ((c.tc : Thread Cert.SampleRefIdeal.nD Cert.SampleRefIdeal.τ).loc Cert.SampleRefIdeal.main_arg15)
      ∧ r.2.mem ((c.tc : Thread Cert.SampleRefIdeal.nD Cert.SampleRefIdeal.τ).loc Cert.SampleRefIdeal.main_arg16) = m ((c.tc : Thread Cert.SampleRefIdeal.nD Cert.SampleRefIdeal.τ).loc Cert.SampleRefIdeal.main_arg16)
      ∧ r.2.mem ((c.tc : Thread Cert.SampleRefIdeal.nD Cert.SampleRefIdeal.τ).loc Cert.SampleRefIdeal.main_arg17) = m ((c.tc : Thread Cert.SampleRefIdeal.nD Cert.SampleRefIdeal.τ).loc Cert.SampleRefIdeal.main_arg17)
      ∧ r.2.mem ((c.tc : Thread Cert.SampleRefIdeal.nD Cert.SampleRefIdeal.τ).loc Cert.SampleRefIdeal.main_arg18) = m ((c.tc : Thread Cert.SampleRefIdeal.nD Cert.SampleRefIdeal.τ).loc Cert.SampleRefIdeal.main_arg18)
      ∧ r.2.mem ((c.tc : Thread Cert.SampleRefIdeal.nD Cert.SampleRefIdeal.τ).loc Cert.SampleRefIdeal.main_arg19) = m ((c.tc : Thread Cert.SampleRefIdeal.nD Cert.SampleRefIdeal.τ).loc Cert.SampleRefIdeal.main_arg19)
      ∧ r.2.mem ((c.tc : Thread Cert.SampleRefIdeal.nD Cert.SampleRefIdeal.τ).loc Cert.SampleRefIdeal.main_arg20) = m ((c.tc : Thread Cert.SampleRefIdeal.nD Cert.SampleRefIdeal.τ).loc Cert.SampleRefIdeal.main_arg20)
      ∧ r.2.mem ((c.tc : Thread Cert.SampleRefIdeal.nD Cert.SampleRefIdeal.τ).loc Cert.SampleRefIdeal.main_arg21) = m ((c.tc : Thread Cert.SampleRefIdeal.nD Cert.SampleRefIdeal.τ).loc Cert.SampleRefIdeal.main_arg21)
      ∧ r.2.mem ((c.tc : Thread Cert.SampleRefIdeal.nD Cert.SampleRefIdeal.τ).loc Cert.SampleRefIdeal.main_arg22) = m ((c.tc : Thread Cert.SampleRefIdeal.nD Cert.SampleRefIdeal.τ).loc Cert.SampleRefIdeal.main_arg22))
      ∧ r.2.sem = fun _ => 0)

def quiescent_InLast [hInLast : Cert.InLast.Facts] : Prop :=
  ∀ (m : (ℓ : Loc Cert.InLast.nD Cert.InLast.τ Cert.InLast.sig) → Buf (Elt Bits) ℓ) (g : Dev Cert.InLast.nD → PrngReg), Pre_InLast m →
    θ_run (Cert.InLast.defs (F := Bits)) (onTc (τ := Cert.InLast.τ) (Cert.InLast.main (F := Bits))) ⟨m, fun _ => 0, g⟩ (fun r => (∀ c : Dev Cert.InLast.nD,
      r.2.mem ((c.tc : Thread Cert.InLast.nD Cert.InLast.τ).loc Cert.InLast.main_arg0) = m ((c.tc : Thread Cert.InLast.nD Cert.InLast.τ).loc Cert.InLast.main_arg0)
      ∧ r.2.mem ((c.tc : Thread Cert.InLast.nD Cert.InLast.τ).loc Cert.InLast.main_arg1) = m ((c.tc : Thread Cert.InLast.nD Cert.InLast.τ).loc Cert.InLast.main_arg1)
      ∧ r.2.mem ((c.tc : Thread Cert.InLast.nD Cert.InLast.τ).loc Cert.InLast.main_arg2) = m ((c.tc : Thread Cert.InLast.nD Cert.InLast.τ).loc Cert.InLast.main_arg2)
      ∧ r.2.mem ((c.tc : Thread Cert.InLast.nD Cert.InLast.τ).loc Cert.InLast.main_arg3) = m ((c.tc : Thread Cert.InLast.nD Cert.InLast.τ).loc Cert.InLast.main_arg3))
      ∧ r.2.sem = fun _ => 0)

def quiescent_InLastIdeal [hInLastIdeal : Cert.InLastIdeal.Facts] : Prop :=
  ∀ (m : (ℓ : Loc Cert.InLastIdeal.nD Cert.InLastIdeal.τ Cert.InLastIdeal.sig) → Buf (Elt Ideal) ℓ) (g : Dev Cert.InLastIdeal.nD → PrngReg), Pre_InLastIdeal m →
    θ_run (Cert.InLastIdeal.defs (F := Ideal)) (onTc (τ := Cert.InLastIdeal.τ) (Cert.InLastIdeal.main (F := Ideal))) ⟨m, fun _ => 0, g⟩ (fun r => (∀ c : Dev Cert.InLastIdeal.nD,
      r.2.mem ((c.tc : Thread Cert.InLastIdeal.nD Cert.InLastIdeal.τ).loc Cert.InLastIdeal.main_arg0) = m ((c.tc : Thread Cert.InLastIdeal.nD Cert.InLastIdeal.τ).loc Cert.InLastIdeal.main_arg0)
      ∧ r.2.mem ((c.tc : Thread Cert.InLastIdeal.nD Cert.InLastIdeal.τ).loc Cert.InLastIdeal.main_arg1) = m ((c.tc : Thread Cert.InLastIdeal.nD Cert.InLastIdeal.τ).loc Cert.InLastIdeal.main_arg1)
      ∧ r.2.mem ((c.tc : Thread Cert.InLastIdeal.nD Cert.InLastIdeal.τ).loc Cert.InLastIdeal.main_arg2) = m ((c.tc : Thread Cert.InLastIdeal.nD Cert.InLastIdeal.τ).loc Cert.InLastIdeal.main_arg2)
      ∧ r.2.mem ((c.tc : Thread Cert.InLastIdeal.nD Cert.InLastIdeal.τ).loc Cert.InLastIdeal.main_arg3) = m ((c.tc : Thread Cert.InLastIdeal.nD Cert.InLastIdeal.τ).loc Cert.InLastIdeal.main_arg3))
      ∧ r.2.sem = fun _ => 0)

def quiescent_InLastRefIdeal [hInLastRefIdeal : Cert.InLastRefIdeal.Facts] : Prop :=
  ∀ (m : (ℓ : Loc Cert.InLastRefIdeal.nD Cert.InLastRefIdeal.τ Cert.InLastRefIdeal.sig) → Buf (Elt Ideal) ℓ) (g : Dev Cert.InLastRefIdeal.nD → PrngReg), Pre_InLastRefIdeal m →
    θ_run (Cert.InLastRefIdeal.defs (F := Ideal)) (onTc (τ := Cert.InLastRefIdeal.τ) (Cert.InLastRefIdeal.main (F := Ideal))) ⟨m, fun _ => 0, g⟩ (fun r => (∀ c : Dev Cert.InLastRefIdeal.nD,
      r.2.mem ((c.tc : Thread Cert.InLastRefIdeal.nD Cert.InLastRefIdeal.τ).loc Cert.InLastRefIdeal.main_arg0) = m ((c.tc : Thread Cert.InLastRefIdeal.nD Cert.InLastRefIdeal.τ).loc Cert.InLastRefIdeal.main_arg0)
      ∧ r.2.mem ((c.tc : Thread Cert.InLastRefIdeal.nD Cert.InLastRefIdeal.τ).loc Cert.InLastRefIdeal.main_arg1) = m ((c.tc : Thread Cert.InLastRefIdeal.nD Cert.InLastRefIdeal.τ).loc Cert.InLastRefIdeal.main_arg1)
      ∧ r.2.mem ((c.tc : Thread Cert.InLastRefIdeal.nD Cert.InLastRefIdeal.τ).loc Cert.InLastRefIdeal.main_arg2) = m ((c.tc : Thread Cert.InLastRefIdeal.nD Cert.InLastRefIdeal.τ).loc Cert.InLastRefIdeal.main_arg2)
      ∧ r.2.mem ((c.tc : Thread Cert.InLastRefIdeal.nD Cert.InLastRefIdeal.τ).loc Cert.InLastRefIdeal.main_arg3) = m ((c.tc : Thread Cert.InLastRefIdeal.nD Cert.InLastRefIdeal.τ).loc Cert.InLastRefIdeal.main_arg3))
      ∧ r.2.sem = fun _ => 0)

def preserves_MoeUp_MoeUpIdeal : Prop :=
  True

def algebraic_MoeUpIdeal_MoeUpRefIdeal [hMoeUpIdeal : Cert.MoeUpIdeal.Facts] [hMoeUpRefIdeal : Cert.MoeUpRefIdeal.Facts] [hPre_in_range : Cert.Pre_in_range.Facts] : Prop :=
  ∀ (m : (ℓ : Loc Cert.MoeUpIdeal.nD Cert.MoeUpIdeal.τ Cert.MoeUpIdeal.sig) → Buf (Elt Ideal) ℓ) (g : Dev Cert.MoeUpIdeal.nD → PrngReg)
    (m' : (ℓ : Loc Cert.MoeUpRefIdeal.nD Cert.MoeUpRefIdeal.τ Cert.MoeUpRefIdeal.sig) → Buf (Elt Ideal) ℓ) (g' : Dev Cert.MoeUpRefIdeal.nD → PrngReg), Pre_MoeUpIdeal m →
    (∀ c : Dev Cert.MoeUpIdeal.nD,
      m' ((c.tc : Thread Cert.MoeUpRefIdeal.nD Cert.MoeUpRefIdeal.τ).loc Cert.MoeUpRefIdeal.main_arg0) = m ((c.tc : Thread Cert.MoeUpIdeal.nD Cert.MoeUpIdeal.τ).loc Cert.MoeUpIdeal.main_arg0)
      ∧ m' ((c.tc : Thread Cert.MoeUpRefIdeal.nD Cert.MoeUpRefIdeal.τ).loc Cert.MoeUpRefIdeal.main_arg1) = m ((c.tc : Thread Cert.MoeUpIdeal.nD Cert.MoeUpIdeal.τ).loc Cert.MoeUpIdeal.main_arg1)
      ∧ m' ((c.tc : Thread Cert.MoeUpRefIdeal.nD Cert.MoeUpRefIdeal.τ).loc Cert.MoeUpRefIdeal.main_arg2) = m ((c.tc : Thread Cert.MoeUpIdeal.nD Cert.MoeUpIdeal.τ).loc Cert.MoeUpIdeal.main_arg2)
      ∧ m' ((c.tc : Thread Cert.MoeUpRefIdeal.nD Cert.MoeUpRefIdeal.τ).loc Cert.MoeUpRefIdeal.main_arg3) = m ((c.tc : Thread Cert.MoeUpIdeal.nD Cert.MoeUpIdeal.τ).loc Cert.MoeUpIdeal.main_arg3)
      ∧ m' ((c.tc : Thread Cert.MoeUpRefIdeal.nD Cert.MoeUpRefIdeal.τ).loc Cert.MoeUpRefIdeal.main_arg4) = m ((c.tc : Thread Cert.MoeUpIdeal.nD Cert.MoeUpIdeal.τ).loc Cert.MoeUpIdeal.main_arg4)) →
    ∃ (v0 : (c : Dev Cert.MoeUpIdeal.nD) → Buf (Elt Ideal) ((c.tc : Thread Cert.MoeUpIdeal.nD Cert.MoeUpIdeal.τ).loc Cert.MoeUpIdeal.main_v0)),
      θ_run (Cert.MoeUpIdeal.defs (F := Ideal)) (onTc (τ := Cert.MoeUpIdeal.τ) (Cert.MoeUpIdeal.main (F := Ideal))) ⟨m, fun _ => 0, g⟩ (fun r => ∀ c : Dev Cert.MoeUpIdeal.nD,
          r.2.mem ((c.tc : Thread Cert.MoeUpIdeal.nD Cert.MoeUpIdeal.τ).loc Cert.MoeUpIdeal.main_v0) = v0 c
          ∧ r.2.mem ((c.tc : Thread Cert.MoeUpIdeal.nD Cert.MoeUpIdeal.τ).loc Cert.MoeUpIdeal.main_arg0) = m ((c.tc : Thread Cert.MoeUpIdeal.nD Cert.MoeUpIdeal.τ).loc Cert.MoeUpIdeal.main_arg0)
          ∧ r.2.mem ((c.tc : Thread Cert.MoeUpIdeal.nD Cert.MoeUpIdeal.τ).loc Cert.MoeUpIdeal.main_arg1) = m ((c.tc : Thread Cert.MoeUpIdeal.nD Cert.MoeUpIdeal.τ).loc Cert.MoeUpIdeal.main_arg1)
          ∧ r.2.mem ((c.tc : Thread Cert.MoeUpIdeal.nD Cert.MoeUpIdeal.τ).loc Cert.MoeUpIdeal.main_arg2) = m ((c.tc : Thread Cert.MoeUpIdeal.nD Cert.MoeUpIdeal.τ).loc Cert.MoeUpIdeal.main_arg2)
          ∧ r.2.mem ((c.tc : Thread Cert.MoeUpIdeal.nD Cert.MoeUpIdeal.τ).loc Cert.MoeUpIdeal.main_arg3) = m ((c.tc : Thread Cert.MoeUpIdeal.nD Cert.MoeUpIdeal.τ).loc Cert.MoeUpIdeal.main_arg3)
          ∧ r.2.mem ((c.tc : Thread Cert.MoeUpIdeal.nD Cert.MoeUpIdeal.τ).loc Cert.MoeUpIdeal.main_arg4) = m ((c.tc : Thread Cert.MoeUpIdeal.nD Cert.MoeUpIdeal.τ).loc Cert.MoeUpIdeal.main_arg4))
      ∧ θ_run (Cert.MoeUpRefIdeal.defs (F := Ideal)) (onTc (τ := Cert.MoeUpRefIdeal.τ) (Cert.MoeUpRefIdeal.main (F := Ideal))) ⟨m', fun _ => 0, g'⟩ (fun r => ∀ c : Dev Cert.MoeUpRefIdeal.nD,
          r.2.mem ((c.tc : Thread Cert.MoeUpRefIdeal.nD Cert.MoeUpRefIdeal.τ).loc Cert.MoeUpRefIdeal.main_v121) = v0 c
          ∧ r.2.mem ((c.tc : Thread Cert.MoeUpRefIdeal.nD Cert.MoeUpRefIdeal.τ).loc Cert.MoeUpRefIdeal.main_arg0) = m' ((c.tc : Thread Cert.MoeUpRefIdeal.nD Cert.MoeUpRefIdeal.τ).loc Cert.MoeUpRefIdeal.main_arg0)
          ∧ r.2.mem ((c.tc : Thread Cert.MoeUpRefIdeal.nD Cert.MoeUpRefIdeal.τ).loc Cert.MoeUpRefIdeal.main_arg1) = m' ((c.tc : Thread Cert.MoeUpRefIdeal.nD Cert.MoeUpRefIdeal.τ).loc Cert.MoeUpRefIdeal.main_arg1)
          ∧ r.2.mem ((c.tc : Thread Cert.MoeUpRefIdeal.nD Cert.MoeUpRefIdeal.τ).loc Cert.MoeUpRefIdeal.main_arg2) = m' ((c.tc : Thread Cert.MoeUpRefIdeal.nD Cert.MoeUpRefIdeal.τ).loc Cert.MoeUpRefIdeal.main_arg2)
          ∧ r.2.mem ((c.tc : Thread Cert.MoeUpRefIdeal.nD Cert.MoeUpRefIdeal.τ).loc Cert.MoeUpRefIdeal.main_arg3) = m' ((c.tc : Thread Cert.MoeUpRefIdeal.nD Cert.MoeUpRefIdeal.τ).loc Cert.MoeUpRefIdeal.main_arg3)
          ∧ r.2.mem ((c.tc : Thread Cert.MoeUpRefIdeal.nD Cert.MoeUpRefIdeal.τ).loc Cert.MoeUpRefIdeal.main_arg4) = m' ((c.tc : Thread Cert.MoeUpRefIdeal.nD Cert.MoeUpRefIdeal.τ).loc Cert.MoeUpRefIdeal.main_arg4))

def preserves_MoeDown_MoeDownIdeal : Prop :=
  True

def algebraic_MoeDownIdeal_MoeDownRefIdeal [hMoeDownIdeal : Cert.MoeDownIdeal.Facts] [hMoeDownRefIdeal : Cert.MoeDownRefIdeal.Facts] [hPre_in_range2 : Cert.Pre_in_range2.Facts] : Prop :=
  ∀ (m : (ℓ : Loc Cert.MoeDownIdeal.nD Cert.MoeDownIdeal.τ Cert.MoeDownIdeal.sig) → Buf (Elt Ideal) ℓ) (g : Dev Cert.MoeDownIdeal.nD → PrngReg)
    (m' : (ℓ : Loc Cert.MoeDownRefIdeal.nD Cert.MoeDownRefIdeal.τ Cert.MoeDownRefIdeal.sig) → Buf (Elt Ideal) ℓ) (g' : Dev Cert.MoeDownRefIdeal.nD → PrngReg), Pre_MoeDownIdeal m →
    (∀ c : Dev Cert.MoeDownIdeal.nD,
      m' ((c.tc : Thread Cert.MoeDownRefIdeal.nD Cert.MoeDownRefIdeal.τ).loc Cert.MoeDownRefIdeal.main_arg0) = m ((c.tc : Thread Cert.MoeDownIdeal.nD Cert.MoeDownIdeal.τ).loc Cert.MoeDownIdeal.main_arg0)
      ∧ m' ((c.tc : Thread Cert.MoeDownRefIdeal.nD Cert.MoeDownRefIdeal.τ).loc Cert.MoeDownRefIdeal.main_arg1) = m ((c.tc : Thread Cert.MoeDownIdeal.nD Cert.MoeDownIdeal.τ).loc Cert.MoeDownIdeal.main_arg1)
      ∧ m' ((c.tc : Thread Cert.MoeDownRefIdeal.nD Cert.MoeDownRefIdeal.τ).loc Cert.MoeDownRefIdeal.main_arg2) = m ((c.tc : Thread Cert.MoeDownIdeal.nD Cert.MoeDownIdeal.τ).loc Cert.MoeDownIdeal.main_arg2)
      ∧ m' ((c.tc : Thread Cert.MoeDownRefIdeal.nD Cert.MoeDownRefIdeal.τ).loc Cert.MoeDownRefIdeal.main_arg3) = m ((c.tc : Thread Cert.MoeDownIdeal.nD Cert.MoeDownIdeal.τ).loc Cert.MoeDownIdeal.main_arg3)) →
    ∃ (v0 : (c : Dev Cert.MoeDownIdeal.nD) → Buf (Elt Ideal) ((c.tc : Thread Cert.MoeDownIdeal.nD Cert.MoeDownIdeal.τ).loc Cert.MoeDownIdeal.main_v0)),
      θ_run (Cert.MoeDownIdeal.defs (F := Ideal)) (onTc (τ := Cert.MoeDownIdeal.τ) (Cert.MoeDownIdeal.main (F := Ideal))) ⟨m, fun _ => 0, g⟩ (fun r => ∀ c : Dev Cert.MoeDownIdeal.nD,
          r.2.mem ((c.tc : Thread Cert.MoeDownIdeal.nD Cert.MoeDownIdeal.τ).loc Cert.MoeDownIdeal.main_v0) = v0 c
          ∧ r.2.mem ((c.tc : Thread Cert.MoeDownIdeal.nD Cert.MoeDownIdeal.τ).loc Cert.MoeDownIdeal.main_arg0) = m ((c.tc : Thread Cert.MoeDownIdeal.nD Cert.MoeDownIdeal.τ).loc Cert.MoeDownIdeal.main_arg0)
          ∧ r.2.mem ((c.tc : Thread Cert.MoeDownIdeal.nD Cert.MoeDownIdeal.τ).loc Cert.MoeDownIdeal.main_arg1) = m ((c.tc : Thread Cert.MoeDownIdeal.nD Cert.MoeDownIdeal.τ).loc Cert.MoeDownIdeal.main_arg1)
          ∧ r.2.mem ((c.tc : Thread Cert.MoeDownIdeal.nD Cert.MoeDownIdeal.τ).loc Cert.MoeDownIdeal.main_arg2) = m ((c.tc : Thread Cert.MoeDownIdeal.nD Cert.MoeDownIdeal.τ).loc Cert.MoeDownIdeal.main_arg2)
          ∧ r.2.mem ((c.tc : Thread Cert.MoeDownIdeal.nD Cert.MoeDownIdeal.τ).loc Cert.MoeDownIdeal.main_arg3) = m ((c.tc : Thread Cert.MoeDownIdeal.nD Cert.MoeDownIdeal.τ).loc Cert.MoeDownIdeal.main_arg3))
      ∧ θ_run (Cert.MoeDownRefIdeal.defs (F := Ideal)) (onTc (τ := Cert.MoeDownRefIdeal.τ) (Cert.MoeDownRefIdeal.main (F := Ideal))) ⟨m', fun _ => 0, g'⟩ (fun r => ∀ c : Dev Cert.MoeDownRefIdeal.nD,
          r.2.mem ((c.tc : Thread Cert.MoeDownRefIdeal.nD Cert.MoeDownRefIdeal.τ).loc Cert.MoeDownRefIdeal.main_v80) = v0 c
          ∧ r.2.mem ((c.tc : Thread Cert.MoeDownRefIdeal.nD Cert.MoeDownRefIdeal.τ).loc Cert.MoeDownRefIdeal.main_arg0) = m' ((c.tc : Thread Cert.MoeDownRefIdeal.nD Cert.MoeDownRefIdeal.τ).loc Cert.MoeDownRefIdeal.main_arg0)
          ∧ r.2.mem ((c.tc : Thread Cert.MoeDownRefIdeal.nD Cert.MoeDownRefIdeal.τ).loc Cert.MoeDownRefIdeal.main_arg1) = m' ((c.tc : Thread Cert.MoeDownRefIdeal.nD Cert.MoeDownRefIdeal.τ).loc Cert.MoeDownRefIdeal.main_arg1)
          ∧ r.2.mem ((c.tc : Thread Cert.MoeDownRefIdeal.nD Cert.MoeDownRefIdeal.τ).loc Cert.MoeDownRefIdeal.main_arg2) = m' ((c.tc : Thread Cert.MoeDownRefIdeal.nD Cert.MoeDownRefIdeal.τ).loc Cert.MoeDownRefIdeal.main_arg2)
          ∧ r.2.mem ((c.tc : Thread Cert.MoeDownRefIdeal.nD Cert.MoeDownRefIdeal.τ).loc Cert.MoeDownRefIdeal.main_arg3) = m' ((c.tc : Thread Cert.MoeDownRefIdeal.nD Cert.MoeDownRefIdeal.τ).loc Cert.MoeDownRefIdeal.main_arg3))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v8) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v0)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v7) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)
      ∧ m' ((c.tc : Thread Cert.FfnDownRefIdeal.nD Cert.FfnDownRefIdeal.τ).loc Cert.FfnDownRefIdeal.main_arg3) = m ((c.tc : Thread Cert.FfnDownIdeal.nD Cert.FfnDownIdeal.τ).loc Cert.FfnDownIdeal.main_arg3)) →
    ∃ (v0 : (c : Dev Cert.FfnDownIdeal.nD) → Buf (Elt Ideal) ((c.tc : Thread Cert.FfnDownIdeal.nD Cert.FfnDownIdeal.τ).loc Cert.FfnDownIdeal.main_v1_0)) (v1 : (c : Dev Cert.FfnDownIdeal.nD) → Buf (Elt Ideal) ((c.tc : Thread Cert.FfnDownIdeal.nD Cert.FfnDownIdeal.τ).loc Cert.FfnDownIdeal.main_v1_1)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v1_0) = v0 c
          ∧ r.2.mem ((c.tc : Thread Cert.FfnDownIdeal.nD Cert.FfnDownIdeal.τ).loc Cert.FfnDownIdeal.main_v1_1) = v1 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
          ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v3) = v0 c
          ∧ r.2.mem ((c.tc : Thread Cert.FfnDownRefIdeal.nD Cert.FfnDownRefIdeal.τ).loc Cert.FfnDownRefIdeal.main_v17) = v1 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2)
          ∧ r.2.mem ((c.tc : Thread Cert.FfnDownRefIdeal.nD Cert.FfnDownRefIdeal.τ).loc Cert.FfnDownRefIdeal.main_arg3) = m' ((c.tc : Thread Cert.FfnDownRefIdeal.nD Cert.FfnDownRefIdeal.τ).loc Cert.FfnDownRefIdeal.main_arg3))

def preserves_Sample_SampleIdeal : Prop :=
  IdealRules.named_const.Statement Cert.SampleIdeal.κ "slope0" .f32 0x3F3504F3#32 (((Real.sqrt 2)⁻¹ : ℝ) : EReal)
  ∧ IdealRules.named_const.Statement Cert.SampleIdeal.κ "slope2" .f32 0x3EB504F3#32 (((Real.sqrt 8)⁻¹ : ℝ) : EReal)
  ∧ IdealRules.named_const.Statement Cert.SampleIdeal.κ "mask" .f32 0xF149F2CA#32 ⊥
  ∧ IdealRules.named_const.Statement Cert.SampleIdeal.κ "slope4" .f32 0x3E3504F3#32 (((Real.sqrt 32)⁻¹ : ℝ) : EReal)
  ∧ IdealRules.named_const.Statement Cert.SampleIdeal.κ "slope6" .f32 0x3DB504F3#32 (((Real.sqrt 128)⁻¹ : ℝ) : EReal)
  ∧ IdealRules.named_const.Statement Cert.SampleIdeal.κ "slope8" .f32 0x3D3504F3#32 (((Real.sqrt 512)⁻¹ : ℝ) : EReal)
  ∧ IdealRules.named_const.Statement Cert.SampleIdeal.κ "slope10" .f32 0x3CB504F3#32 (((Real.sqrt 2048)⁻¹ : ℝ) : EReal)
  ∧ IdealRules.named_const.Statement Cert.SampleIdeal.κ "slope12" .f32 0x3C3504F3#32 (((Real.sqrt 8192)⁻¹ : ℝ) : EReal)
  ∧ IdealRules.named_const.Statement Cert.SampleIdeal.κ "slope14" .f32 0x3BB504F3#32 (((Real.sqrt 32768)⁻¹ : ℝ) : EReal)

def algebraic_SampleIdeal_SampleRefIdeal [hSampleIdeal : Cert.SampleIdeal.Facts] [hSampleRefIdeal : Cert.SampleRefIdeal.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleRefIdeal.nD Cert.SampleRefIdeal.τ Cert.SampleRefIdeal.sig) → Buf (Elt Ideal) ℓ) (g' : Dev Cert.SampleRefIdeal.nD → PrngReg), Pre_SampleIdeal m →
    (∀ c : Dev Cert.SampleIdeal.nD,
      m' ((c.tc : Thread Cert.SampleRefIdeal.nD Cert.SampleRefIdeal.τ).loc Cert.SampleRefIdeal.main_arg0) = m ((c.tc : Thread Cert.SampleIdeal.nD Cert.SampleIdeal.τ).loc Cert.SampleIdeal.main_arg0)
      ∧ m' ((c.tc : Thread Cert.SampleRefIdeal.nD Cert.SampleRefIdeal.τ).loc Cert.SampleRefIdeal.main_arg1) = m ((c.tc : Thread Cert.SampleIdeal.nD Cert.SampleIdeal.τ).loc Cert.SampleIdeal.main_arg1)
      ∧ m' ((c.tc : Thread Cert.SampleRefIdeal.nD Cert.SampleRefIdeal.τ).loc Cert.SampleRefIdeal.main_arg2) = m ((c.tc : Thread Cert.SampleIdeal.nD Cert.SampleIdeal.τ).loc Cert.SampleIdeal.main_arg2)
      ∧ m' ((c.tc : Thread Cert.SampleRefIdeal.nD Cert.SampleRefIdeal.τ).loc Cert.SampleRefIdeal.main_arg3) = m ((c.tc : Thread Cert.SampleIdeal.nD Cert.SampleIdeal.τ).loc Cert.SampleIdeal.main_arg3)
      ∧ m' ((c.tc : Thread Cert.SampleRefIdeal.nD Cert.SampleRefIdeal.τ).loc Cert.SampleRefIdeal.main_arg4) = m ((c.tc : Thread Cert.SampleIdeal.nD Cert.SampleIdeal.τ).loc Cert.SampleIdeal.main_arg4)
      ∧ m' ((c.tc : Thread Cert.SampleRefIdeal.nD Cert.SampleRefIdeal.τ).loc Cert.SampleRefIdeal.main_arg5) = m ((c.tc : Thread Cert.SampleIdeal.nD Cert.SampleIdeal.τ).loc Cert.SampleIdeal.main_arg5)
      ∧ m' ((c.tc : Thread Cert.SampleRefIdeal.nD Cert.SampleRefIdeal.τ).loc Cert.SampleRefIdeal.main_arg6) = m ((c.tc : Thread Cert.SampleIdeal.nD Cert.SampleIdeal.τ).loc Cert.SampleIdeal.main_arg6)
      ∧ m' ((c.tc : Thread Cert.SampleRefIdeal.nD Cert.SampleRefIdeal.τ).loc Cert.SampleRefIdeal.main_arg7) = m ((c.tc : Thread Cert.SampleIdeal.nD Cert.SampleIdeal.τ).loc Cert.SampleIdeal.main_arg7)
      ∧ m' ((c.tc : Thread Cert.SampleRefIdeal.nD Cert.SampleRefIdeal.τ).loc Cert.SampleRefIdeal.main_arg8) = m ((c.tc : Thread Cert.SampleIdeal.nD Cert.SampleIdeal.τ).loc Cert.SampleIdeal.main_arg8)
      ∧ m' ((c.tc : Thread Cert.SampleRefIdeal.nD Cert.SampleRefIdeal.τ).loc Cert.SampleRefIdeal.main_arg9) = m ((c.tc : Thread Cert.SampleIdeal.nD Cert.SampleIdeal.τ).loc Cert.SampleIdeal.main_arg9)
      ∧ m' ((c.tc : Thread Cert.SampleRefIdeal.nD Cert.SampleRefIdeal.τ).loc Cert.SampleRefIdeal.main_arg10) = m ((c.tc : Thread Cert.SampleIdeal.nD Cert.SampleIdeal.τ).loc Cert.SampleIdeal.main_arg10)
      ∧ m' ((c.tc : Thread Cert.SampleRefIdeal.nD Cert.SampleRefIdeal.τ).loc Cert.SampleRefIdeal.main_arg11) = m ((c.tc : Thread Cert.SampleIdeal.nD Cert.SampleIdeal.τ).loc Cert.SampleIdeal.main_arg11)
      ∧ m' ((c.tc : Thread Cert.SampleRefIdeal.nD Cert.SampleRefIdeal.τ).loc Cert.SampleRefIdeal.main_arg12) = m ((c.tc : Thread Cert.SampleIdeal.nD Cert.SampleIdeal.τ).loc Cert.SampleIdeal.main_arg12)
      ∧ m' ((c.tc : Thread Cert.SampleRefIdeal.nD Cert.SampleRefIdeal.τ).loc Cert.SampleRefIdeal.main_arg13) = m ((c.tc : Thread Cert.SampleIdeal.nD Cert.SampleIdeal.τ).loc Cert.SampleIdeal.main_arg13)
      ∧ m' ((c.tc : Thread Cert.SampleRefIdeal.nD Cert.SampleRefIdeal.τ).loc Cert.SampleRefIdeal.main_arg14) = m ((c.tc : Thread Cert.SampleIdeal.nD Cert.SampleIdeal.τ).loc Cert.SampleIdeal.main_arg14)
      ∧ m' ((c.tc : Thread Cert.SampleRefIdeal.nD Cert.SampleRefIdeal.τ).loc Cert.SampleRefIdeal.main_arg15) = m ((c.tc : Thread Cert.SampleIdeal.nD Cert.SampleIdeal.τ).loc Cert.SampleIdeal.main_arg15)
      ∧ m' ((c.tc : Thread Cert.SampleRefIdeal.nD Cert.SampleRefIdeal.τ).loc Cert.SampleRefIdeal.main_arg16) = m ((c.tc : Thread Cert.SampleIdeal.nD Cert.SampleIdeal.τ).loc Cert.SampleIdeal.main_arg16)
      ∧ m' ((c.tc : Thread Cert.SampleRefIdeal.nD Cert.SampleRefIdeal.τ).loc Cert.SampleRefIdeal.main_arg17) = m ((c.tc : Thread Cert.SampleIdeal.nD Cert.SampleIdeal.τ).loc Cert.SampleIdeal.main_arg17)
      ∧ m' ((c.tc : Thread Cert.SampleRefIdeal.nD Cert.SampleRefIdeal.τ).loc Cert.SampleRefIdeal.main_arg18) = m ((c.tc : Thread Cert.SampleIdeal.nD Cert.SampleIdeal.τ).loc Cert.SampleIdeal.main_arg18)
      ∧ m' ((c.tc : Thread Cert.SampleRefIdeal.nD Cert.SampleRefIdeal.τ).loc Cert.SampleRefIdeal.main_arg19) = m ((c.tc : Thread Cert.SampleIdeal.nD Cert.SampleIdeal.τ).loc Cert.SampleIdeal.main_arg19)
      ∧ m' ((c.tc : Thread Cert.SampleRefIdeal.nD Cert.SampleRefIdeal.τ).loc Cert.SampleRefIdeal.main_arg20) = m ((c.tc : Thread Cert.SampleIdeal.nD Cert.SampleIdeal.τ).loc Cert.SampleIdeal.main_arg20)
      ∧ m' ((c.tc : Thread Cert.SampleRefIdeal.nD Cert.SampleRefIdeal.τ).loc Cert.SampleRefIdeal.main_arg21) = m ((c.tc : Thread Cert.SampleIdeal.nD Cert.SampleIdeal.τ).loc Cert.SampleIdeal.main_arg21)
      ∧ m' ((c.tc : Thread Cert.SampleRefIdeal.nD Cert.SampleRefIdeal.τ).loc Cert.SampleRefIdeal.main_arg22) = m ((c.tc : Thread Cert.SampleIdeal.nD Cert.SampleIdeal.τ).loc Cert.SampleIdeal.main_arg22)) →
    ∃ (v0 : (c : Dev Cert.SampleIdeal.nD) → Buf (Elt Ideal) ((c.tc : Thread Cert.SampleIdeal.nD Cert.SampleIdeal.τ).loc Cert.SampleIdeal.main_v64_1)) (v1 : (c : Dev Cert.SampleIdeal.nD) → Buf (Elt Ideal) ((c.tc : Thread Cert.SampleIdeal.nD Cert.SampleIdeal.τ).loc Cert.SampleIdeal.main_v64_2)) (v2 : (c : Dev Cert.SampleIdeal.nD) → Buf (Elt Ideal) ((c.tc : Thread Cert.SampleIdeal.nD Cert.SampleIdeal.τ).loc Cert.SampleIdeal.main_v64_4)) (v3 : (c : Dev Cert.SampleIdeal.nD) → Buf (Elt Ideal) ((c.tc : Thread Cert.SampleIdeal.nD Cert.SampleIdeal.τ).loc Cert.SampleIdeal.main_v64_6)) (v4 : (c : Dev Cert.SampleIdeal.nD) → Buf (Elt Ideal) ((c.tc : Thread Cert.SampleIdeal.nD Cert.SampleIdeal.τ).loc Cert.SampleIdeal.main_v64_7)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v64_1) = v0 c
          ∧ r.2.mem ((c.tc : Thread Cert.SampleIdeal.nD Cert.SampleIdeal.τ).loc Cert.SampleIdeal.main_v64_2) = v1 c
          ∧ r.2.mem ((c.tc : Thread Cert.SampleIdeal.nD Cert.SampleIdeal.τ).loc Cert.SampleIdeal.main_v64_4) = v2 c
          ∧ r.2.mem ((c.tc : Thread Cert.SampleIdeal.nD Cert.SampleIdeal.τ).loc Cert.SampleIdeal.main_v64_6) = v3 c
          ∧ r.2.mem ((c.tc : Thread Cert.SampleIdeal.nD Cert.SampleIdeal.τ).loc Cert.SampleIdeal.main_v64_7) = v4 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
          ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
          ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
          ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
          ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
          ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
          ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
          ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7)
          ∧ r.2.mem ((c.tc : Thread Cert.SampleIdeal.nD Cert.SampleIdeal.τ).loc Cert.SampleIdeal.main_arg8) = m ((c.tc : Thread Cert.SampleIdeal.nD Cert.SampleIdeal.τ).loc Cert.SampleIdeal.main_arg8)
          ∧ r.2.mem ((c.tc : Thread Cert.SampleIdeal.nD Cert.SampleIdeal.τ).loc Cert.SampleIdeal.main_arg9) = m ((c.tc : Thread Cert.SampleIdeal.nD Cert.SampleIdeal.τ).loc Cert.SampleIdeal.main_arg9)
          ∧ r.2.mem ((c.tc : Thread Cert.SampleIdeal.nD Cert.SampleIdeal.τ).loc Cert.SampleIdeal.main_arg10) = m ((c.tc : Thread Cert.SampleIdeal.nD Cert.SampleIdeal.τ).loc Cert.SampleIdeal.main_arg10)
          ∧ r.2.mem ((c.tc : Thread Cert.SampleIdeal.nD Cert.SampleIdeal.τ).loc Cert.SampleIdeal.main_arg11) = m ((c.tc : Thread Cert.SampleIdeal.nD Cert.SampleIdeal.τ).loc Cert.SampleIdeal.main_arg11)
          ∧ r.2.mem ((c.tc : Thread Cert.SampleIdeal.nD Cert.SampleIdeal.τ).loc Cert.SampleIdeal.main_arg12) = m ((c.tc : Thread Cert.SampleIdeal.nD Cert.SampleIdeal.τ).loc Cert.SampleIdeal.main_arg12)
          ∧ r.2.mem ((c.tc : Thread Cert.SampleIdeal.nD Cert.SampleIdeal.τ).loc Cert.SampleIdeal.main_arg13) = m ((c.tc : Thread Cert.SampleIdeal.nD Cert.SampleIdeal.τ).loc Cert.SampleIdeal.main_arg13)
          ∧ r.2.mem ((c.tc : Thread Cert.SampleIdeal.nD Cert.SampleIdeal.τ).loc Cert.SampleIdeal.main_arg14) = m ((c.tc : Thread Cert.SampleIdeal.nD Cert.SampleIdeal.τ).loc Cert.SampleIdeal.main_arg14)
          ∧ r.2.mem ((c.tc : Thread Cert.SampleIdeal.nD Cert.SampleIdeal.τ).loc Cert.SampleIdeal.main_arg15) = m ((c.tc : Thread Cert.SampleIdeal.nD Cert.SampleIdeal.τ).loc Cert.SampleIdeal.main_arg15)
          ∧ r.2.mem ((c.tc : Thread Cert.SampleIdeal.nD Cert.SampleIdeal.τ).loc Cert.SampleIdeal.main_arg16) = m ((c.tc : Thread Cert.SampleIdeal.nD Cert.SampleIdeal.τ).loc Cert.SampleIdeal.main_arg16)
          ∧ r.2.mem ((c.tc : Thread Cert.SampleIdeal.nD Cert.SampleIdeal.τ).loc Cert.SampleIdeal.main_arg17) = m ((c.tc : Thread Cert.SampleIdeal.nD Cert.SampleIdeal.τ).loc Cert.SampleIdeal.main_arg17)
          ∧ r.2.mem ((c.tc : Thread Cert.SampleIdeal.nD Cert.SampleIdeal.τ).loc Cert.SampleIdeal.main_arg18) = m ((c.tc : Thread Cert.SampleIdeal.nD Cert.SampleIdeal.τ).loc Cert.SampleIdeal.main_arg18)
          ∧ r.2.mem ((c.tc : Thread Cert.SampleIdeal.nD Cert.SampleIdeal.τ).loc Cert.SampleIdeal.main_arg19) = m ((c.tc : Thread Cert.SampleIdeal.nD Cert.SampleIdeal.τ).loc Cert.SampleIdeal.main_arg19)
          ∧ r.2.mem ((c.tc : Thread Cert.SampleIdeal.nD Cert.SampleIdeal.τ).loc Cert.SampleIdeal.main_arg20) = m ((c.tc : Thread Cert.SampleIdeal.nD Cert.SampleIdeal.τ).loc Cert.SampleIdeal.main_arg20)
          ∧ r.2.mem ((c.tc : Thread Cert.SampleIdeal.nD Cert.SampleIdeal.τ).loc Cert.SampleIdeal.main_arg21) = m ((c.tc : Thread Cert.SampleIdeal.nD Cert.SampleIdeal.τ).loc Cert.SampleIdeal.main_arg21)
          ∧ r.2.mem ((c.tc : Thread Cert.SampleIdeal.nD Cert.SampleIdeal.τ).loc Cert.SampleIdeal.main_arg22) = m ((c.tc : Thread Cert.SampleIdeal.nD Cert.SampleIdeal.τ).loc Cert.SampleIdeal.main_arg22))
      ∧ θ_run (Cert.SampleRefIdeal.defs (F := Ideal)) (onTc (τ := Cert.SampleRefIdeal.τ) (Cert.SampleRefIdeal.main (F := Ideal))) ⟨m', fun _ => 0, g'⟩ (fun r => ∀ c : Dev Cert.SampleRefIdeal.nD,
          r.2.mem ((c.tc : Thread Cert.SampleRefIdeal.nD Cert.SampleRefIdeal.τ).loc Cert.SampleRefIdeal.main_v171) = v0 c
          ∧ r.2.mem ((c.tc : Thread Cert.SampleRefIdeal.nD Cert.SampleRefIdeal.τ).loc Cert.SampleRefIdeal.main_v175) = v1 c
          ∧ r.2.mem ((c.tc : Thread Cert.SampleRefIdeal.nD Cert.SampleRefIdeal.τ).loc Cert.SampleRefIdeal.main_v178) = v2 c
          ∧ r.2.mem ((c.tc : Thread Cert.SampleRefIdeal.nD Cert.SampleRefIdeal.τ).loc Cert.SampleRefIdeal.main_v181) = v3 c
          ∧ r.2.mem ((c.tc : Thread Cert.SampleRefIdeal.nD Cert.SampleRefIdeal.τ).loc Cert.SampleRefIdeal.main_v183) = v4 c
          ∧ r.2.mem ((c.tc : Thread Cert.SampleRefIdeal.nD Cert.SampleRefIdeal.τ).loc Cert.SampleRefIdeal.main_arg0) = m' ((c.tc : Thread Cert.SampleRefIdeal.nD Cert.SampleRefIdeal.τ).loc Cert.SampleRefIdeal.main_arg0)
          ∧ r.2.mem ((c.tc : Thread Cert.SampleRefIdeal.nD Cert.SampleRefIdeal.τ).loc Cert.SampleRefIdeal.main_arg1) = m' ((c.tc : Thread Cert.SampleRefIdeal.nD Cert.SampleRefIdeal.τ).loc Cert.SampleRefIdeal.main_arg1)
          ∧ r.2.mem ((c.tc : Thread Cert.SampleRefIdeal.nD Cert.SampleRefIdeal.τ).loc Cert.SampleRefIdeal.main_arg2) = m' ((c.tc : Thread Cert.SampleRefIdeal.nD Cert.SampleRefIdeal.τ).loc Cert.SampleRefIdeal.main_arg2)
          ∧ r.2.mem ((c.tc : Thread Cert.SampleRefIdeal.nD Cert.SampleRefIdeal.τ).loc Cert.SampleRefIdeal.main_arg3) = m' ((c.tc : Thread Cert.SampleRefIdeal.nD Cert.SampleRefIdeal.τ).loc Cert.SampleRefIdeal.main_arg3)
          ∧ r.2.mem ((c.tc : Thread Cert.SampleRefIdeal.nD Cert.SampleRefIdeal.τ).loc Cert.SampleRefIdeal.main_arg4) = m' ((c.tc : Thread Cert.SampleRefIdeal.nD Cert.SampleRefIdeal.τ).loc Cert.SampleRefIdeal.main_arg4)
          ∧ r.2.mem ((c.tc : Thread Cert.SampleRefIdeal.nD Cert.SampleRefIdeal.τ).loc Cert.SampleRefIdeal.main_arg5) = m' ((c.tc : Thread Cert.SampleRefIdeal.nD Cert.SampleRefIdeal.τ).loc Cert.SampleRefIdeal.main_arg5)
          ∧ r.2.mem ((c.tc : Thread Cert.SampleRefIdeal.nD Cert.SampleRefIdeal.τ).loc Cert.SampleRefIdeal.main_arg6) = m' ((c.tc : Thread Cert.SampleRefIdeal.nD Cert.SampleRefIdeal.τ).loc Cert.SampleRefIdeal.main_arg6)
          ∧ r.2.mem ((c.tc : Thread Cert.SampleRefIdeal.nD Cert.SampleRefIdeal.τ).loc Cert.SampleRefIdeal.main_arg7) = m' ((c.tc : Thread Cert.SampleRefIdeal.nD Cert.SampleRefIdeal.τ).loc Cert.SampleRefIdeal.main_arg7)
          ∧ r.2.mem ((c.tc : Thread Cert.SampleRefIdeal.nD Cert.SampleRefIdeal.τ).loc Cert.SampleRefIdeal.main_arg8) = m' ((c.tc : Thread Cert.SampleRefIdeal.nD Cert.SampleRefIdeal.τ).loc Cert.SampleRefIdeal.main_arg8)
          ∧ r.2.mem ((c.tc : Thread Cert.SampleRefIdeal.nD Cert.SampleRefIdeal.τ).loc Cert.SampleRefIdeal.main_arg9) = m' ((c.tc : Thread Cert.SampleRefIdeal.nD Cert.SampleRefIdeal.τ).loc Cert.SampleRefIdeal.main_arg9)
          ∧ r.2.mem ((c.tc : Thread Cert.SampleRefIdeal.nD Cert.SampleRefIdeal.τ).loc Cert.SampleRefIdeal.main_arg10) = m' ((c.tc : Thread Cert.SampleRefIdeal.nD Cert.SampleRefIdeal.τ).loc Cert.SampleRefIdeal.main_arg10)
          ∧ r.2.mem ((c.tc : Thread Cert.SampleRefIdeal.nD Cert.SampleRefIdeal.τ).loc Cert.SampleRefIdeal.main_arg11) = m' ((c.tc : Thread Cert.SampleRefIdeal.nD Cert.SampleRefIdeal.τ).loc Cert.SampleRefIdeal.main_arg11)
          ∧ r.2.mem ((c.tc : Thread Cert.SampleRefIdeal.nD Cert.SampleRefIdeal.τ).loc Cert.SampleRefIdeal.main_arg12) = m' ((c.tc : Thread Cert.SampleRefIdeal.nD Cert.SampleRefIdeal.τ).loc Cert.SampleRefIdeal.main_arg12)
          ∧ r.2.mem ((c.tc : Thread Cert.SampleRefIdeal.nD Cert.SampleRefIdeal.τ).loc Cert.SampleRefIdeal.main_arg13) = m' ((c.tc : Thread Cert.SampleRefIdeal.nD Cert.SampleRefIdeal.τ).loc Cert.SampleRefIdeal.main_arg13)
          ∧ r.2.mem ((c.tc : Thread Cert.SampleRefIdeal.nD Cert.SampleRefIdeal.τ).loc Cert.SampleRefIdeal.main_arg14) = m' ((c.tc : Thread Cert.SampleRefIdeal.nD Cert.SampleRefIdeal.τ).loc Cert.SampleRefIdeal.main_arg14)
          ∧ r.2.mem ((c.tc : Thread Cert.SampleRefIdeal.nD Cert.SampleRefIdeal.τ).loc Cert.SampleRefIdeal.main_arg15) = m' ((c.tc : Thread Cert.SampleRefIdeal.nD Cert.SampleRefIdeal.τ).loc Cert.SampleRefIdeal.main_arg15)
          ∧ r.2.mem ((c.tc : Thread Cert.SampleRefIdeal.nD Cert.SampleRefIdeal.τ).loc Cert.SampleRefIdeal.main_arg16) = m' ((c.tc : Thread Cert.SampleRefIdeal.nD Cert.SampleRefIdeal.τ).loc Cert.SampleRefIdeal.main_arg16)
          ∧ r.2.mem ((c.tc : Thread Cert.SampleRefIdeal.nD Cert.SampleRefIdeal.τ).loc Cert.SampleRefIdeal.main_arg17) = m' ((c.tc : Thread Cert.SampleRefIdeal.nD Cert.SampleRefIdeal.τ).loc Cert.SampleRefIdeal.main_arg17)
          ∧ r.2.mem ((c.tc : Thread Cert.SampleRefIdeal.nD Cert.SampleRefIdeal.τ).loc Cert.SampleRefIdeal.main_arg18) = m' ((c.tc : Thread Cert.SampleRefIdeal.nD Cert.SampleRefIdeal.τ).loc Cert.SampleRefIdeal.main_arg18)
          ∧ r.2.mem ((c.tc : Thread Cert.SampleRefIdeal.nD Cert.SampleRefIdeal.τ).loc Cert.SampleRefIdeal.main_arg19) = m' ((c.tc : Thread Cert.SampleRefIdeal.nD Cert.SampleRefIdeal.τ).loc Cert.SampleRefIdeal.main_arg19)
          ∧ r.2.mem ((c.tc : Thread Cert.SampleRefIdeal.nD Cert.SampleRefIdeal.τ).loc Cert.SampleRefIdeal.main_arg20) = m' ((c.tc : Thread Cert.SampleRefIdeal.nD Cert.SampleRefIdeal.τ).loc Cert.SampleRefIdeal.main_arg20)
          ∧ r.2.mem ((c.tc : Thread Cert.SampleRefIdeal.nD Cert.SampleRefIdeal.τ).loc Cert.SampleRefIdeal.main_arg21) = m' ((c.tc : Thread Cert.SampleRefIdeal.nD Cert.SampleRefIdeal.τ).loc Cert.SampleRefIdeal.main_arg21)
          ∧ r.2.mem ((c.tc : Thread Cert.SampleRefIdeal.nD Cert.SampleRefIdeal.τ).loc Cert.SampleRefIdeal.main_arg22) = m' ((c.tc : Thread Cert.SampleRefIdeal.nD Cert.SampleRefIdeal.τ).loc Cert.SampleRefIdeal.main_arg22))

def preserves_InLast_InLastIdeal : Prop :=
  True

def algebraic_InLastIdeal_InLastRefIdeal [hInLastIdeal : Cert.InLastIdeal.Facts] [hInLastRefIdeal : Cert.InLastRefIdeal.Facts] : Prop :=
  ∀ (m : (ℓ : Loc Cert.InLastIdeal.nD Cert.InLastIdeal.τ Cert.InLastIdeal.sig) → Buf (Elt Ideal) ℓ) (g : Dev Cert.InLastIdeal.nD → PrngReg)
    (m' : (ℓ : Loc Cert.InLastRefIdeal.nD Cert.InLastRefIdeal.τ Cert.InLastRefIdeal.sig) → Buf (Elt Ideal) ℓ) (g' : Dev Cert.InLastRefIdeal.nD → PrngReg), Pre_InLastIdeal m →
    (∀ c : Dev Cert.InLastIdeal.nD,
      m' ((c.tc : Thread Cert.InLastRefIdeal.nD Cert.InLastRefIdeal.τ).loc Cert.InLastRefIdeal.main_arg0) = m ((c.tc : Thread Cert.InLastIdeal.nD Cert.InLastIdeal.τ).loc Cert.InLastIdeal.main_arg0)
      ∧ m' ((c.tc : Thread Cert.InLastRefIdeal.nD Cert.InLastRefIdeal.τ).loc Cert.InLastRefIdeal.main_arg1) = m ((c.tc : Thread Cert.InLastIdeal.nD Cert.InLastIdeal.τ).loc Cert.InLastIdeal.main_arg1)
      ∧ m' ((c.tc : Thread Cert.InLastRefIdeal.nD Cert.InLastRefIdeal.τ).loc Cert.InLastRefIdeal.main_arg2) = m ((c.tc : Thread Cert.InLastIdeal.nD Cert.InLastIdeal.τ).loc Cert.InLastIdeal.main_arg2)
      ∧ m' ((c.tc : Thread Cert.InLastRefIdeal.nD Cert.InLastRefIdeal.τ).loc Cert.InLastRefIdeal.main_arg3) = m ((c.tc : Thread Cert.InLastIdeal.nD Cert.InLastIdeal.τ).loc Cert.InLastIdeal.main_arg3)) →
    ∃ (v0 : (c : Dev Cert.InLastIdeal.nD) → Buf (Elt Ideal) ((c.tc : Thread Cert.InLastIdeal.nD Cert.InLastIdeal.τ).loc Cert.InLastIdeal.main_v24)) (v1 : (c : Dev Cert.InLastIdeal.nD) → Buf (Elt Ideal) ((c.tc : Thread Cert.InLastIdeal.nD Cert.InLastIdeal.τ).loc Cert.InLastIdeal.main_v27)),
      θ_run (Cert.InLastIdeal.defs (F := Ideal)) (onTc (τ := Cert.InLastIdeal.τ) (Cert.InLastIdeal.main (F := Ideal))) ⟨m, fun _ => 0, g⟩ (fun r => ∀ c : Dev Cert.InLastIdeal.nD,
          r.2.mem ((c.tc : Thread Cert.InLastIdeal.nD Cert.InLastIdeal.τ).loc Cert.InLastIdeal.main_v24) = v0 c
          ∧ r.2.mem ((c.tc : Thread Cert.InLastIdeal.nD Cert.InLastIdeal.τ).loc Cert.InLastIdeal.main_v27) = v1 c
          ∧ r.2.mem ((c.tc : Thread Cert.InLastIdeal.nD Cert.InLastIdeal.τ).loc Cert.InLastIdeal.main_arg0) = m ((c.tc : Thread Cert.InLastIdeal.nD Cert.InLastIdeal.τ).loc Cert.InLastIdeal.main_arg0)
          ∧ r.2.mem ((c.tc : Thread Cert.InLastIdeal.nD Cert.InLastIdeal.τ).loc Cert.InLastIdeal.main_arg1) = m ((c.tc : Thread Cert.InLastIdeal.nD Cert.InLastIdeal.τ).loc Cert.InLastIdeal.main_arg1)
          ∧ r.2.mem ((c.tc : Thread Cert.InLastIdeal.nD Cert.InLastIdeal.τ).loc Cert.InLastIdeal.main_arg2) = m ((c.tc : Thread Cert.InLastIdeal.nD Cert.InLastIdeal.τ).loc Cert.InLastIdeal.main_arg2)
          ∧ r.2.mem ((c.tc : Thread Cert.InLastIdeal.nD Cert.InLastIdeal.τ).loc Cert.InLastIdeal.main_arg3) = m ((c.tc : Thread Cert.InLastIdeal.nD Cert.InLastIdeal.τ).loc Cert.InLastIdeal.main_arg3))
      ∧ θ_run (Cert.InLastRefIdeal.defs (F := Ideal)) (onTc (τ := Cert.InLastRefIdeal.τ) (Cert.InLastRefIdeal.main (F := Ideal))) ⟨m', fun _ => 0, g'⟩ (fun r => ∀ c : Dev Cert.InLastRefIdeal.nD,
          r.2.mem ((c.tc : Thread Cert.InLastRefIdeal.nD Cert.InLastRefIdeal.τ).loc Cert.InLastRefIdeal.main_v22) = v0 c
          ∧ r.2.mem ((c.tc : Thread Cert.InLastRefIdeal.nD Cert.InLastRefIdeal.τ).loc Cert.InLastRefIdeal.main_v25) = v1 c
          ∧ r.2.mem ((c.tc : Thread Cert.InLastRefIdeal.nD Cert.InLastRefIdeal.τ).loc Cert.InLastRefIdeal.main_arg0) = m' ((c.tc : Thread Cert.InLastRefIdeal.nD Cert.InLastRefIdeal.τ).loc Cert.InLastRefIdeal.main_arg0)
          ∧ r.2.mem ((c.tc : Thread Cert.InLastRefIdeal.nD Cert.InLastRefIdeal.τ).loc Cert.InLastRefIdeal.main_arg1) = m' ((c.tc : Thread Cert.InLastRefIdeal.nD Cert.InLastRefIdeal.τ).loc Cert.InLastRefIdeal.main_arg1)
          ∧ r.2.mem ((c.tc : Thread Cert.InLastRefIdeal.nD Cert.InLastRefIdeal.τ).loc Cert.InLastRefIdeal.main_arg2) = m' ((c.tc : Thread Cert.InLastRefIdeal.nD Cert.InLastRefIdeal.τ).loc Cert.InLastRefIdeal.main_arg2)
          ∧ r.2.mem ((c.tc : Thread Cert.InLastRefIdeal.nD Cert.InLastRefIdeal.τ).loc Cert.InLastRefIdeal.main_arg3) = m' ((c.tc : Thread Cert.InLastRefIdeal.nD Cert.InLastRefIdeal.τ).loc Cert.InLastRefIdeal.main_arg3))

def Claim : Prop :=
  ∃ (hMoeUp : Cert.MoeUp.Facts) (hMoeUpIdeal : Cert.MoeUpIdeal.Facts) (hMoeUpRefIdeal : Cert.MoeUpRefIdeal.Facts) (hMoeDown : Cert.MoeDown.Facts) (hMoeDownIdeal : Cert.MoeDownIdeal.Facts) (hMoeDownRefIdeal : Cert.MoeDownRefIdeal.Facts) (hInProj : Cert.InProj.Facts) (hInProjIdeal : Cert.InProjIdeal.Facts) (hInProjRefIdeal : Cert.InProjRefIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hSample : Cert.Sample.Facts) (hSampleIdeal : Cert.SampleIdeal.Facts) (hSampleRefIdeal : Cert.SampleRefIdeal.Facts) (hInLast : Cert.InLast.Facts) (hInLastIdeal : Cert.InLastIdeal.Facts) (hInLastRefIdeal : Cert.InLastRefIdeal.Facts) (hPre_in_range : Cert.Pre_in_range.Facts) (hPre_in_range2 : Cert.Pre_in_range2.Facts),
    quiescent_MoeUp (hMoeUp := hMoeUp) (hPre_in_range := hPre_in_range)
    ∧ quiescent_MoeUpIdeal (hMoeUpIdeal := hMoeUpIdeal) (hPre_in_range := hPre_in_range)
    ∧ quiescent_MoeUpRefIdeal (hMoeUpRefIdeal := hMoeUpRefIdeal)
    ∧ quiescent_MoeUpRefIdeal_pre_in_range (hMoeUpRefIdeal := hMoeUpRefIdeal) (hPre_in_range := hPre_in_range)
    ∧ quiescent_MoeDown (hMoeDown := hMoeDown) (hPre_in_range2 := hPre_in_range2)
    ∧ quiescent_MoeDownIdeal (hMoeDownIdeal := hMoeDownIdeal) (hPre_in_range2 := hPre_in_range2)
    ∧ quiescent_MoeDownRefIdeal (hMoeDownRefIdeal := hMoeDownRefIdeal)
    ∧ quiescent_MoeDownRefIdeal_pre_in_range2 (hMoeDownRefIdeal := hMoeDownRefIdeal) (hPre_in_range2 := hPre_in_range2)
    ∧ quiescent_InProj (hInProj := hInProj)
    ∧ quiescent_InProjIdeal (hInProjIdeal := hInProjIdeal)
    ∧ quiescent_InProjRefIdeal (hInProjRefIdeal := hInProjRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_Sample (hSample := hSample)
    ∧ quiescent_SampleIdeal (hSampleIdeal := hSampleIdeal)
    ∧ quiescent_SampleRefIdeal (hSampleRefIdeal := hSampleRefIdeal)
    ∧ quiescent_InLast (hInLast := hInLast)
    ∧ quiescent_InLastIdeal (hInLastIdeal := hInLastIdeal)
    ∧ quiescent_InLastRefIdeal (hInLastRefIdeal := hInLastRefIdeal)
    ∧ preserves_MoeUp_MoeUpIdeal
    ∧ algebraic_MoeUpIdeal_MoeUpRefIdeal (hMoeUpIdeal := hMoeUpIdeal) (hMoeUpRefIdeal := hMoeUpRefIdeal) (hPre_in_range := hPre_in_range)
    ∧ preserves_MoeDown_MoeDownIdeal
    ∧ algebraic_MoeDownIdeal_MoeDownRefIdeal (hMoeDownIdeal := hMoeDownIdeal) (hMoeDownRefIdeal := hMoeDownRefIdeal) (hPre_in_range2 := hPre_in_range2)
    ∧ preserves_InProj_InProjIdeal
    ∧ algebraic_InProjIdeal_InProjRefIdeal (hInProjIdeal := hInProjIdeal) (hInProjRefIdeal := hInProjRefIdeal)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_Sample_SampleIdeal
    ∧ algebraic_SampleIdeal_SampleRefIdeal (hSampleIdeal := hSampleIdeal) (hSampleRefIdeal := hSampleRefIdeal)
    ∧ preserves_InLast_InLastIdeal
    ∧ algebraic_InLastIdeal_InLastRefIdeal (hInLastIdeal := hInLastIdeal) (hInLastRefIdeal := hInLastRefIdeal)
-- ==== Pre_in_range.lean ====
abbrev S20480x2048 : Shape := ⟨2, ![20480, 2048]⟩
abbrev S1x8x2048x5632 : Shape := ⟨4, ![1, 8, 2048, 5632]⟩
abbrev S80 : Shape := ⟨1, ![80]⟩
abbrev S1 : Shape := ⟨1, ![1]⟩
abbrev S_ : Shape := ⟨0, ![]⟩

class Facts : Prop where
  bcast_S_S80 : S_.BroadcastsInDim S80 (![] : Fin 0 → Fin S80.rank)
  reducesTo_S80_S_d0 : S80.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S20480x2048 .f32) (main_arg1 : FVec F S1x8x2048x5632 .bf16) (main_arg2 : FVec F S1x8x2048x5632 .bf16) (main_arg3 : IVec S80 32) (main_arg4 : IVec S1 32) : IVec S_ 1 :=
  let main_c : IVec S_ 32 := constantI S_ 32 0#32
  let main_v0 : IVec S80 32 := broadcastInDim S80 ![] bcast_S_S80 main_c
  let main_v1 : IVec S80 1 := cmpi .sge main_arg3 main_v0
  let main_c_0 : IVec S_ 1 := constantI S_ 1 1#1
  let main_v2 : IVec S_ 1 := (fun x v => Host.reduce IntOp.andi x v reducesTo_S80_S_d0 h_S_) main_v1 main_c_0
  let main_c_1 : IVec S_ 32 := constantI S_ 32 8#32
  let main_v3 : IVec S80 32 := broadcastInDim S80 ![] bcast_S_S80 main_c_1
  let main_v4 : IVec S80 1 := cmpi .slt main_arg3 main_v3
  let main_c_2 : IVec S_ 1 := constantI S_ 1 1#1
  let main_v5 : IVec S_ 1 := (fun x v => Host.reduce IntOp.andi x v reducesTo_S80_S_d0 h_S_) main_v4 main_c_2
  let main_v6 : IVec S_ 1 := andi main_v2 main_v5
  let main_c_3 : IVec S_ 32 := constantI S_ 32 1#32
  let main_v7 : IVec S1 32 := broadcastInDim S1 ![] bcast_S_S1 main_c_3
  let main_v8 : IVec S1 1 := cmpi .sge main_arg4 main_v7
  let main_c_4 : IVec S_ 1 := constantI S_ 1 1#1
  let main_v9 : IVec S_ 1 := (fun x v => Host.reduce IntOp.andi x v reducesTo_S1_S_d0 h_S_) main_v8 main_c_4
  let main_v10 : IVec S_ 1 := andi main_v6 main_v9
  main_v10
-- ==== Pre_in_range2.lean ====
abbrev S20480x5632 : Shape := ⟨2, ![20480, 5632]⟩
abbrev S1x8x5632x2048 : Shape := ⟨4, ![1, 8, 5632, 2048]⟩
abbrev S80 : Shape := ⟨1, ![80]⟩
abbrev S1 : Shape := ⟨1, ![1]⟩
abbrev S_ : Shape := ⟨0, ![]⟩

class Facts : Prop where
  bcast_S_S80 : S_.BroadcastsInDim S80 (![] : Fin 0 → Fin S80.rank)
  reducesTo_S80_S_d0 : S80.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S20480x5632 .bf16) (main_arg1 : FVec F S1x8x5632x2048 .bf16) (main_arg2 : IVec S80 32) (main_arg3 : IVec S1 32) : IVec S_ 1 :=
  let main_c : IVec S_ 32 := constantI S_ 32 0#32
  let main_v0 : IVec S80 32 := broadcastInDim S80 ![] bcast_S_S80 main_c
  let main_v1 : IVec S80 1 := cmpi .sge main_arg2 main_v0
  let main_c_0 : IVec S_ 1 := constantI S_ 1 1#1
  let main_v2 : IVec S_ 1 := (fun x v => Host.reduce IntOp.andi x v reducesTo_S80_S_d0 h_S_) main_v1 main_c_0
  let main_c_1 : IVec S_ 32 := constantI S_ 32 8#32
  let main_v3 : IVec S80 32 := broadcastInDim S80 ![] bcast_S_S80 main_c_1
  let main_v4 : IVec S80 1 := cmpi .slt main_arg2 main_v3
  let main_c_2 : IVec S_ 1 := constantI S_ 1 1#1
  let main_v5 : IVec S_ 1 := (fun x v => Host.reduce IntOp.andi x v reducesTo_S80_S_d0 h_S_) main_v4 main_c_2
  let main_v6 : IVec S_ 1 := andi main_v2 main_v5
  let main_c_3 : IVec S_ 32 := constantI S_ 32 1#32
  let main_v7 : IVec S1 32 := broadcastInDim S1 ![] bcast_S_S1 main_c_3
  let main_v8 : IVec S1 1 := cmpi .sge main_arg3 main_v7
  let main_c_4 : IVec S_ 1 := constantI S_ 1 1#1
  let main_v9 : IVec S_ 1 := (fun x v => Host.reduce IntOp.andi x v reducesTo_S1_S_d0 h_S_) main_v8 main_c_4
  let main_v10 : IVec S_ 1 := andi main_v6 main_v9
  main_v10
-- ==== MoeUp.lean ====
abbrev S20480x2048 : Shape := ⟨2, ![20480, 2048]⟩
abbrev S1x8x2048x5632 : Shape := ⟨4, ![1, 8, 2048, 5632]⟩
abbrev S80 : Shape := ⟨1, ![80]⟩
abbrev S1 : Shape := ⟨1, ![1]⟩
abbrev S20480x5632 : Shape := ⟨2, ![20480, 5632]⟩
abbrev S256x2048 : Shape := ⟨2, ![256, 2048]⟩
abbrev S1x1x2048x1408 : Shape := ⟨4, ![1, 1, 2048, 1408]⟩
abbrev S256x1408 : Shape := ⟨2, ![256, 1408]⟩
abbrev S2048x1408 : Shape := ⟨2, ![2048, 1408]⟩

abbrev nBuf : Space → Nat
  | .hbm => 4
  | .vmem => 8
  | .smem => 2
  | _ => 0

abbrev bufTy : (tb : Table) → Fin (tcTables nBuf tb) → BufTy
  | .hbm, ⟨0, _⟩ => ⟨S20480x2048, .f32⟩
  | .hbm, ⟨1, _⟩ => ⟨S1x8x2048x5632, .bf16⟩
  | .hbm, ⟨2, _⟩ => ⟨S1x8x2048x5632, .bf16⟩
  | .hbm, ⟨3, _⟩ => ⟨S20480x5632, .bf16⟩
  | .local _ .vmem, ⟨0, _⟩ => ⟨S256x2048, .f32⟩
  | .local _ .vmem, ⟨1, _⟩ => ⟨S256x2048, .f32⟩
  | .local _ .vmem, ⟨2, _⟩ => ⟨S1x1x2048x1408, .bf16⟩
  | .local _ .vmem, ⟨3, _⟩ => ⟨S1x1x2048x1408, .bf16⟩
  | .local _ .vmem, ⟨4, _⟩ => ⟨S1x1x2048x1408, .bf16⟩
  | .local _ .vmem, ⟨5, _⟩ => ⟨S1x1x2048x1408, .bf16⟩
  | .local _ .vmem, ⟨6, _⟩ => ⟨S256x1408, .bf16⟩
  | .local _ .vmem, ⟨7, _⟩ => ⟨S256x1408, .bf16⟩
  | .local _ .smem, ⟨0, _⟩ => ⟨S80, .i32⟩
  | .local _ .smem, ⟨1, _⟩ => ⟨S1, .i32⟩
  | _, _ => ⟨S20480x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg3 : Ref sig .tc := ⟨.smem, 0, rfl⟩
abbrev main_arg4 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 80], ![false, false]⟩

abbrev pre0 : Pipeline.Prefetch sig := ⟨2, ![main_arg3.idx, main_arg4.idx], fun | 0 => main_arg3.names | 1 => main_arg4.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S80.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S80) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (k0_off1_inb : ∀ i : grid0.Coords, ∀ a, (k0_off1 i) a + S1.size a ≤ S80.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S80) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MoeUpRefIdeal.lean ====
abbrev S20480x2048 : Shape := ⟨2, ![20480, 2048]⟩
abbrev S1x8x2048x5632 : Shape := ⟨4, ![1, 8, 2048, 5632]⟩
abbrev S80 : Shape := ⟨1, ![80]⟩
abbrev S1 : Shape := ⟨1, ![1]⟩
abbrev S_ : Shape := ⟨0, ![]⟩
abbrev S80x1 : Shape := ⟨2, ![80, 1]⟩
abbrev S80x256 : Shape := ⟨2, ![80, 256]⟩
abbrev S20480 : Shape := ⟨1, ![20480]⟩
abbrev S20480x5632 : Shape := ⟨2, ![20480, 5632]⟩
abbrev S1x1x2048x5632 : Shape := ⟨4, ![1, 1, 2048, 5632]⟩
abbrev S2048x5632 : Shape := ⟨2, ![2048, 5632]⟩
abbrev S20480x1 : Shape := ⟨2, ![20480, 1]⟩

abbrev nBuf : Space → Nat
  | .hbm => 211
  | .vmem => 0
  | .smem => 0
  | _ => 0

abbrev hbmTy0_0 (i : Nat) : BufTy := match i % 128 with
  | 0 => ⟨S20480x2048, .f32⟩
  | 1 => ⟨S1x8x2048x5632, .bf16⟩
  | 2 => ⟨S1x8x2048x5632, .bf16⟩
  | 3 => ⟨S80, .i32⟩
  | 4 => ⟨S1, .i32⟩
  | 5 => ⟨S80, .i32⟩
  | 6 => ⟨S_, .i32⟩
  | 7 => ⟨S80, .i32⟩
  | 8 => ⟨S80, .i1⟩
  | 9 => ⟨S_, .i32⟩
  | 10 => ⟨S_, .i32⟩
  | 11 => ⟨S80, .i32⟩
  | 12 => ⟨S80, .i32⟩
  | 13 => ⟨S80x1, .i32⟩
  | 14 => ⟨S80x256, .i32⟩
  | 15 => ⟨S20480, .i32⟩
  | 16 => ⟨S_, .f32⟩
  | 17 => ⟨S20480x5632, .f32⟩
  | 18 => ⟨S1x1x2048x5632, .bf16⟩
  | 19 => ⟨S2048x5632, .bf16⟩
  | 20 => ⟨S2048x5632, .f32⟩
  | 21 => ⟨S20480x5632, .f32⟩
  | 22 => ⟨S1x1x2048x5632, .bf16⟩
  | 23 => ⟨S2048x5632, .bf16⟩
  | 24 => ⟨S2048x5632, .f32⟩
  | 25 => ⟨S20480x5632, .f32⟩
  | 26 => ⟨S_, .i32⟩
  | 27 => ⟨S20480, .i32⟩
  | 28 => ⟨S20480, .i1⟩
  | 29 => ⟨S20480x1, .i1⟩
  | 30 => ⟨S20480x5632, .f32⟩
  | 31 => ⟨S20480x5632, .f32⟩
  | 32 => ⟨S_, .f32⟩
  | 33 => ⟨S20480x5632, .f32⟩
  | 34 => ⟨S20480x5632, .f32⟩
  | 35 => ⟨S_, .f32⟩
  | 36 => ⟨S20480x5632, .f32⟩
  | 37 => ⟨S20480x5632, .f32⟩
  | 38 => ⟨S20480x5632, .f32⟩
  | 39 => ⟨S20480x5632, .f32⟩
  | 40 => ⟨S20480x5632, .i1⟩
  | 41 => ⟨S20480x5632, .f32⟩
  | 42 => ⟨S1x1x2048x5632, .bf16⟩
  | 43 => ⟨S2048x5632, .bf16⟩
  | 44 => ⟨S2048x5632, .f32⟩
  | 45 => ⟨S20480x5632, .f32⟩
  | 46 => ⟨S1x1x2048x5632, .bf16⟩
  | 47 => ⟨S2048x5632, .bf16⟩
  | 48 => ⟨S2048x5632, .f32⟩
  | 49 => ⟨S20480x5632, .f32⟩
  | 50 => ⟨S_, .i32⟩
  | 51 => ⟨S20480, .i32⟩
  | 52 => ⟨S20480, .i1⟩
  | 53 => ⟨S20480x1, .i1⟩
  | 54 => ⟨S20480x5632, .f32⟩
  | 55 => ⟨S20480x5632, .f32⟩
  | 56 => ⟨S_, .f32⟩
  | 57 => ⟨S20480x5632, .f32⟩
  | 58 => ⟨S20480x5632, .f32⟩
  | 59 => ⟨S_, .f32⟩
  | 60 => ⟨S20480x5632, .f32⟩
  | 61 => ⟨S20480x5632, .f32⟩
  | 62 => ⟨S20480x5632, .f32⟩
  | 63 => ⟨S20480x5632, .f32⟩
  | 64 => ⟨S20480x5632, .i1⟩
  | 65 => ⟨S20480x5632, .f32⟩
  | 66 => ⟨S1x1x2048x5632, .bf16⟩
  | 67 => ⟨S2048x5632, .bf16⟩
  | 68 => ⟨S2048x5632, .f32⟩
  | 69 => ⟨S20480x5632, .f32⟩
  | 70 => ⟨S1x1x2048x5632, .bf16⟩
  | 71 => ⟨S2048x5632, .bf16⟩
  | 72 => ⟨S2048x5632, .f32⟩
  | 73 => ⟨S20480x5632, .f32⟩
  | 74 => ⟨S_, .i32⟩
  | 75 => ⟨S20480, .i32⟩
  | 76 => ⟨S20480, .i1⟩
  | 77 => ⟨S20480x1, .i1⟩
  | 78 => ⟨S20480x5632, .f32⟩
  | 79 => ⟨S20480x5632, .f32⟩
  | 80 => ⟨S_, .f32⟩
  | 81 => ⟨S20480x5632, .f32⟩
  | 82 => ⟨S20480x5632, .f32⟩
  | 83 => ⟨S_, .f32⟩
  | 84 => ⟨S20480x5632, .f32⟩
  | 85 => ⟨S20480x5632, .f32⟩
  | 86 => ⟨S20480x5632, .f32⟩
  | 87 => ⟨S20480x5632, .f32⟩
  | 88 => ⟨S20480x5632, .i1⟩
  | 89 => ⟨S20480x5632, .f32⟩
  | 90 => ⟨S1x1x2048x5632, .bf16⟩
  | 91 => ⟨S2048x5632, .bf16⟩
  | 92 => ⟨S2048x5632, .f32⟩
  | 93 => ⟨S20480x5632, .f32⟩
  | 94 => ⟨S1x1x2048x5632, .bf16⟩
  | 95 => ⟨S2048x5632, .bf16⟩
  | 96 => ⟨S2048x5632, .f32⟩
  | 97 => ⟨S20480x5632, .f32⟩
  | 98 => ⟨S_, .i32⟩
  | 99 => ⟨S20480, .i32⟩
  | 100 => ⟨S20480, .i1⟩
  | 101 => ⟨S20480x1, .i1⟩
  | 102 => ⟨S20480x5632, .f32⟩
  | 103 => ⟨S20480x5632, .f32⟩
  | 104 => ⟨S_, .f32⟩
  | 105 => ⟨S20480x5632, .f32⟩
  | 106 => ⟨S20480x5632, .f32⟩
  | 107 => ⟨S_, .f32⟩
  | 108 => ⟨S20480x5632, .f32⟩
  | 109 => ⟨S20480x5632, .f32⟩
  | 110 => ⟨S20480x5632, .f32⟩
  | 111 => ⟨S20480x5632, .f32⟩
  | 112 => ⟨S20480x5632, .i1⟩
  | 113 => ⟨S20480x5632, .f32⟩
  | 114 => ⟨S1x1x2048x5632, .bf16⟩
  | 115 => ⟨S2048x5632, .bf16⟩
  | 116 => ⟨S2048x5632, .f32⟩
  | 117 => ⟨S20480x5632, .f32⟩
  | 118 => ⟨S1x1x2048x5632, .bf16⟩
  | 119 => ⟨S2048x5632, .bf16⟩
  | 120 => ⟨S2048x5632, .f32⟩
  | 121 => ⟨S20480x5632, .f32⟩
  | 122 => ⟨S_, .i32⟩
  | 123 => ⟨S20480, .i32⟩
  | 124 => ⟨S20480, .i1⟩
  | 125 => ⟨S20480x1, .i1⟩
  | 126 => ⟨S20480x5632, .f32⟩
  | 127 => ⟨S20480x5632, .f32⟩
  | _ => ⟨S20480x2048, .f32⟩

abbrev hbmTy0_1 (i : Nat) : BufTy := match i % 128 with
  | 0 => ⟨S_, .f32⟩
  | 1 => ⟨S20480x5632, .f32⟩
  | 2 => ⟨S20480x5632, .f32⟩
  | 3 => ⟨S_, .f32⟩
  | 4 => ⟨S20480x5632, .f32⟩
  | 5 => ⟨S20480x5632, .f32⟩
  | 6 => ⟨S20480x5632, .f32⟩
  | 7 => ⟨S20480x5632, .f32⟩
  | 8 => ⟨S20480x5632, .i1⟩
  | 9 => ⟨S20480x5632, .f32⟩
  | 10 => ⟨S1x1x2048x5632, .bf16⟩
  | 11 => ⟨S2048x5632, .bf16⟩
  | 12 => ⟨S2048x5632, .f32⟩
  | 13 => ⟨S20480x5632, .f32⟩
  | 14 => ⟨S1x1x2048x5632, .bf16⟩
  | 15 => ⟨S2048x5632, .bf16⟩
  | 16 => ⟨S2048x5632, .f32⟩
  | 17 => ⟨S20480x5632, .f32⟩
  | 18 => ⟨S_, .i32⟩
  | 19 => ⟨S20480, .i32⟩
  | 20 => ⟨S20480, .i1⟩
  | 21 => ⟨S20480x1, .i1⟩
  | 22 => ⟨S20480x5632, .f32⟩
  | 23 => ⟨S20480x5632, .f32⟩
  | 24 => ⟨S_, .f32⟩
  | 25 => ⟨S20480x5632, .f32⟩
  | 26 => ⟨S20480x5632, .f32⟩
  | 27 => ⟨S_, .f32⟩
  | 28 => ⟨S20480x5632, .f32⟩
  | 29 => ⟨S20480x5632, .f32⟩
  | 30 => ⟨S20480x5632, .f32⟩
  | 31 => ⟨S20480x5632, .f32⟩
  | 32 => ⟨S20480x5632, .i1⟩
  | 33 => ⟨S20480x5632, .f32⟩
  | 34 => ⟨S1x1x2048x5632, .bf16⟩
  | 35 => ⟨S2048x5632, .bf16⟩
  | 36 => ⟨S2048x5632, .f32⟩
  | 37 => ⟨S20480x5632, .f32⟩
  | 38 => ⟨S1x1x2048x5632, .bf16⟩
  | 39 => ⟨S2048x5632, .bf16⟩
  | 40 => ⟨S2048x5632, .f32⟩
  | 41 => ⟨S20480x5632, .f32⟩
  | 42 => ⟨S_, .i32⟩
  | 43 => ⟨S20480, .i32⟩
  | 44 => ⟨S20480, .i1⟩
  | 45 => ⟨S20480x1, .i1⟩
  | 46 => ⟨S20480x5632, .f32⟩
  | 47 => ⟨S20480x5632, .f32⟩
  | 48 => ⟨S_, .f32⟩
  | 49 => ⟨S20480x5632, .f32⟩
  | 50 => ⟨S20480x5632, .f32⟩
  | 51 => ⟨S_, .f32⟩
  | 52 => ⟨S20480x5632, .f32⟩
  | 53 => ⟨S20480x5632, .f32⟩
  | 54 => ⟨S20480x5632, .f32⟩
  | 55 => ⟨S20480x5632, .f32⟩
  | 56 => ⟨S20480x5632, .i1⟩
  | 57 => ⟨S20480x5632, .f32⟩
  | 58 => ⟨S1x1x2048x5632, .bf16⟩
  | 59 => ⟨S2048x5632, .bf16⟩
  | 60 => ⟨S2048x5632, .f32⟩
  | 61 => ⟨S20480x5632, .f32⟩
  | 62 => ⟨S1x1x2048x5632, .bf16⟩
  | 63 => ⟨S2048x5632, .bf16⟩
  | 64 => ⟨S2048x5632, .f32⟩
  | 65 => ⟨S20480x5632, .f32⟩
  | 66 => ⟨S_, .i32⟩
  | 67 => ⟨S20480, .i32⟩
  | 68 => ⟨S20480, .i1⟩
  | 69 => ⟨S20480x1, .i1⟩
  | 70 => ⟨S20480x5632, .f32⟩
  | 71 => ⟨S20480x5632, .f32⟩
  | 72 => ⟨S_, .f32⟩
  | 73 => ⟨S20480x5632, .f32⟩
  | 74 => ⟨S20480x5632, .f32⟩
  | 75 => ⟨S_, .f32⟩
  | 76 => ⟨S20480x5632, .f32⟩
  | 77 => ⟨S20480x5632, .f32⟩
  | 78 => ⟨S20480x5632, .f32⟩
  | 79 => ⟨S20480x5632, .f32⟩
  | 80 => ⟨S20480x5632, .i1⟩
  | 81 => ⟨S20480x5632, .f32⟩
  | 82 => ⟨S20480x5632, .bf16⟩
  | _ => ⟨S20480x2048, .f32⟩

abbrev hbmTy (i : Nat) : BufTy := match i / 128 with
  | 0 => hbmTy0_0 i
  | 1 => hbmTy0_1 i
  | _ => ⟨S20480x2048, .f32⟩

abbrev bufTy : (tb : Table) → Fin (tcTables nBuf tb) → BufTy
  | .hbm, ⟨i, _⟩ => hbmTy i
  | _, _ => ⟨S20480x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call1_v0 : Ref sig .tc := ⟨.hbm, 30, rfl⟩
abbrev main_call1_v1 : Ref sig .tc := ⟨.hbm, 31, rfl⟩
abbrev main_call1_cst : Ref sig .tc := ⟨.hbm, 32, rfl⟩
abbrev main_call1_v2 : Ref sig .tc := ⟨.hbm, 33, rfl⟩
abbrev main_call1_v3 : Ref sig .tc := ⟨.hbm, 34, rfl⟩
abbrev main_call1_cst_0 : Ref sig .tc := ⟨.hbm, 35, rfl⟩
abbrev main_call1_v4 : Ref sig .tc := ⟨.hbm, 36, rfl⟩
abbrev main_call1_v5 : Ref sig .tc := ⟨.hbm, 37, rfl⟩
abbrev main_v20 : Ref sig .tc := ⟨.hbm, 38, rfl⟩
abbrev main_v21 : Ref sig .tc := ⟨.hbm, 39, rfl⟩
abbrev main_call2_v0 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_1 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_call3_v0 : Ref sig .tc := ⟨.hbm, 54, rfl⟩
abbrev main_call3_v1 : Ref sig .tc := ⟨.hbm, 55, rfl⟩
abbrev main_call3_cst : Ref sig .tc := ⟨.hbm, 56, rfl⟩
abbrev main_call3_v2 : Ref sig .tc := ⟨.hbm, 57, rfl⟩
abbrev main_call3_v3 : Ref sig .tc := ⟨.hbm, 58, rfl⟩
abbrev main_call3_cst_0 : Ref sig .tc := ⟨.hbm, 59, rfl⟩
abbrev main_call3_v4 : Ref sig .tc := ⟨.hbm, 60, rfl⟩
abbrev main_call3_v5 : Ref sig .tc := ⟨.hbm, 61, rfl⟩
abbrev main_v34 : Ref sig .tc := ⟨.hbm, 62, rfl⟩
abbrev main_v35 : Ref sig .tc := ⟨.hbm, 63, rfl⟩
abbrev main_call4_v0 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_c_2 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_call5_v0 : Ref sig .tc := ⟨.hbm, 78, rfl⟩
abbrev main_call5_v1 : Ref sig .tc := ⟨.hbm, 79, rfl⟩
abbrev main_call5_cst : Ref sig .tc := ⟨.hbm, 80, rfl⟩
abbrev main_call5_v2 : Ref sig .tc := ⟨.hbm, 81, rfl⟩
abbrev main_call5_v3 : Ref sig .tc := ⟨.hbm, 82, rfl⟩
abbrev main_call5_cst_0 : Ref sig .tc := ⟨.hbm, 83, rfl⟩
abbrev main_call5_v4 : Ref sig .tc := ⟨.hbm, 84, rfl⟩
abbrev main_call5_v5 : Ref sig .tc := ⟨.hbm, 85, rfl⟩
abbrev main_v48 : Ref sig .tc := ⟨.hbm, 86, rfl⟩
abbrev main_v49 : Ref sig .tc := ⟨.hbm, 87, rfl⟩
abbrev main_call6_v0 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_c_3 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_call7_v0 : Ref sig .tc := ⟨.hbm, 102, rfl⟩
abbrev main_call7_v1 : Ref sig .tc := ⟨.hbm, 103, rfl⟩
abbrev main_call7_cst : Ref sig .tc := ⟨.hbm, 104, rfl⟩
abbrev main_call7_v2 : Ref sig .tc := ⟨.hbm, 105, rfl⟩
abbrev main_call7_v3 : Ref sig .tc := ⟨.hbm, 106, rfl⟩
abbrev main_call7_cst_0 : Ref sig .tc := ⟨.hbm, 107, rfl⟩
abbrev main_call7_v4 : Ref sig .tc := ⟨.hbm, 108, rfl⟩
abbrev main_call7_v5 : Ref sig .tc := ⟨.hbm, 109, rfl⟩
abbrev main_v62 : Ref sig .tc := ⟨.hbm, 110, rfl⟩
abbrev main_v63 : Ref sig .tc := ⟨.hbm, 111, rfl⟩
abbrev main_call8_v0 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_c_4 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_call9_v0 : Ref sig .tc := ⟨.hbm, 126, rfl⟩
abbrev main_call9_v1 : Ref sig .tc := ⟨.hbm, 127, rfl⟩
abbrev main_call9_cst : Ref sig .tc := ⟨.hbm, 128, rfl⟩
abbrev main_call9_v2 : Ref sig .tc := ⟨.hbm, 129, rfl⟩
abbrev main_call9_v3 : Ref sig .tc := ⟨.hbm, 130, rfl⟩
abbrev main_call9_cst_0 : Ref sig .tc := ⟨.hbm, 131, rfl⟩
abbrev main_call9_v4 : Ref sig .tc := ⟨.hbm, 132, rfl⟩
abbrev main_call9_v5 : Ref sig .tc := ⟨.hbm, 133, rfl⟩
abbrev main_v76 : Ref sig .tc := ⟨.hbm, 134, rfl⟩
abbrev main_v77 : Ref sig .tc := ⟨.hbm, 135, rfl⟩
abbrev main_call10_v0 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_c_5 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_call11_v0 : Ref sig .tc := ⟨.hbm, 150, rfl⟩
abbrev main_call11_v1 : Ref sig .tc := ⟨.hbm, 151, rfl⟩
abbrev main_call11_cst : Ref sig .tc := ⟨.hbm, 152, rfl⟩
abbrev main_call11_v2 : Ref sig .tc := ⟨.hbm, 153, rfl⟩
abbrev main_call11_v3 : Ref sig .tc := ⟨.hbm, 154, rfl⟩
abbrev main_call11_cst_0 : Ref sig .tc := ⟨.hbm, 155, rfl⟩
abbrev main_call11_v4 : Ref sig .tc := ⟨.hbm, 156, rfl⟩
abbrev main_call11_v5 : Ref sig .tc := ⟨.hbm, 157, rfl⟩
abbrev main_v90 : Ref sig .tc := ⟨.hbm, 158, rfl⟩
abbrev main_v91 : Ref sig .tc := ⟨.hbm, 159, rfl⟩
abbrev main_call12_v0 : Ref sig .tc := ⟨.hbm, 160, rfl⟩
abbrev main_v92 : Ref sig .tc := ⟨.hbm, 161, rfl⟩
abbrev main_v93 : Ref sig .tc := ⟨.hbm, 162, rfl⟩
abbrev main_v94 : Ref sig .tc := ⟨.hbm, 163, rfl⟩
abbrev main_v95 : Ref sig .tc := ⟨.hbm, 164, rfl⟩
abbrev main_v96 : Ref sig .tc := ⟨.hbm, 165, rfl⟩
abbrev main_v97 : Ref sig .tc := ⟨.hbm, 166, rfl⟩
abbrev main_v98 : Ref sig .tc := ⟨.hbm, 167, rfl⟩
abbrev main_v99 : Ref sig .tc := ⟨.hbm, 168, rfl⟩
abbrev main_v100 : Ref sig .tc := ⟨.hbm, 169, rfl⟩
abbrev main_c_6 : Ref sig .tc := ⟨.hbm, 170, rfl⟩
abbrev main_v101 : Ref sig .tc := ⟨.hbm, 171, rfl⟩
abbrev main_v102 : Ref sig .tc := ⟨.hbm, 172, rfl⟩
abbrev main_v103 : Ref sig .tc := ⟨.hbm, 173, rfl⟩
abbrev main_call13_v0 : Ref sig .tc := ⟨.hbm, 174, rfl⟩
abbrev main_call13_v1 : Ref sig .tc := ⟨.hbm, 175, rfl⟩
abbrev main_call13_cst : Ref sig .tc := ⟨.hbm, 176, rfl⟩
abbrev main_call13_v2 : Ref sig .tc := ⟨.hbm, 177, rfl⟩
abbrev main_call13_v3 : Ref sig .tc := ⟨.hbm, 178, rfl⟩
abbrev main_call13_cst_0 : Ref sig .tc := ⟨.hbm, 179, rfl⟩
abbrev main_call13_v4 : Ref sig .tc := ⟨.hbm, 180, rfl⟩
abbrev main_call13_v5 : Ref sig .tc := ⟨.hbm, 181, rfl⟩
abbrev main_v104 : Ref sig .tc := ⟨.hbm, 182, rfl⟩
abbrev main_v105 : Ref sig .tc := ⟨.hbm, 183, rfl⟩
abbrev main_call14_v0 : Ref sig .tc := ⟨.hbm, 184, rfl⟩
abbrev main_v106 : Ref sig .tc := ⟨.hbm, 185, rfl⟩
abbrev main_v107 : Ref sig .tc := ⟨.hbm, 186, rfl⟩
abbrev main_v108 : Ref sig .tc := ⟨.hbm, 187, rfl⟩
abbrev main_v109 : Ref sig .tc := ⟨.hbm, 188, rfl⟩
abbrev main_v110 : Ref sig .tc := ⟨.hbm, 189, rfl⟩
abbrev main_v111 : Ref sig .tc := ⟨.hbm, 190, rfl⟩
abbrev main_v112 : Ref sig .tc := ⟨.hbm, 191, rfl⟩
abbrev main_v113 : Ref sig .tc := ⟨.hbm, 192, rfl⟩
abbrev main_v114 : Ref sig .tc := ⟨.hbm, 193, rfl⟩
abbrev main_c_7 : Ref sig .tc := ⟨.hbm, 194, rfl⟩
abbrev main_v115 : Ref sig .tc := ⟨.hbm, 195, rfl⟩
abbrev main_v116 : Ref sig .tc := ⟨.hbm, 196, rfl⟩
abbrev main_v117 : Ref sig .tc := ⟨.hbm, 197, rfl⟩
abbrev main_call15_v0 : Ref sig .tc := ⟨.hbm, 198, rfl⟩
abbrev main_call15_v1 : Ref sig .tc := ⟨.hbm, 199, rfl⟩
abbrev main_call15_cst : Ref sig .tc := ⟨.hbm, 200, rfl⟩
abbrev main_call15_v2 : Ref sig .tc := ⟨.hbm, 201, rfl⟩
abbrev main_call15_v3 : Ref sig .tc := ⟨.hbm, 202, rfl⟩
abbrev main_call15_cst_0 : Ref sig .tc := ⟨.hbm, 203, rfl⟩
abbrev main_call15_v4 : Ref sig .tc := ⟨.hbm, 204, rfl⟩
abbrev main_call15_v5 : Ref sig .tc := ⟨.hbm, 205, rfl⟩
abbrev main_v118 : Ref sig .tc := ⟨.hbm, 206, rfl⟩
abbrev main_v119 : Ref sig .tc := ⟨.hbm, 207, rfl⟩
abbrev main_call16_v0 : Ref sig .tc := ⟨.hbm, 208, rfl⟩
abbrev main_v120 : Ref sig .tc := ⟨.hbm, 209, rfl⟩
abbrev main_v121 : Ref sig .tc := ⟨.hbm, 210, rfl⟩

abbrev nD : Nat := 1
abbrev τ : Topo := Topo.v7x

variable {F : FTy → Type} [FloatOps F]
-- ==== MoeDown.lean ====
abbrev S20480x5632 : Shape := ⟨2, ![20480, 5632]⟩
abbrev S1x8x5632x2048 : Shape := ⟨4, ![1, 8, 5632, 2048]⟩
abbrev S80 : Shape := ⟨1, ![80]⟩
abbrev S1 : Shape := ⟨1, ![1]⟩
abbrev S20480x2048 : Shape := ⟨2, ![20480, 2048]⟩
abbrev S256x5632 : Shape := ⟨2, ![256, 5632]⟩
abbrev S1x1x5632x1024 : Shape := ⟨4, ![1, 1, 5632, 1024]⟩
abbrev S256x1024 : Shape := ⟨2, ![256, 1024]⟩
abbrev S5632x1024 : Shape := ⟨2, ![5632, 1024]⟩

abbrev nBuf : Space → Nat
  | .hbm => 3
  | .vmem => 6
  | .smem => 2
  | _ => 0

abbrev bufTy : (tb : Table) → Fin (tcTables nBuf tb) → BufTy
  | .hbm, ⟨0, _⟩ => ⟨S20480x5632, .bf16⟩
  | .hbm, ⟨1, _⟩ => ⟨S1x8x5632x2048, .bf16⟩
  | .hbm, ⟨2, _⟩ => ⟨S20480x2048, .f32⟩
  | .local _ .vmem, ⟨0, _⟩ => ⟨S256x5632, .bf16⟩
  | .local _ .vmem, ⟨1, _⟩ => ⟨S256x5632, .bf16⟩
  | .local _ .vmem, ⟨2, _⟩ => ⟨S1x1x5632x1024, .bf16⟩
  | .local _ .vmem, ⟨3, _⟩ => ⟨S1x1x5632x1024, .bf16⟩
  | .local _ .vmem, ⟨4, _⟩ => ⟨S256x1024, .f32⟩
  | .local _ .vmem, ⟨5, _⟩ => ⟨S256x1024, .f32⟩
  | .local _ .smem, ⟨0, _⟩ => ⟨S80, .i32⟩
  | .local _ .smem, ⟨1, _⟩ => ⟨S1, .i32⟩
  | _, _ => ⟨S20480x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev main_arg3 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 80], ![false, false]⟩

abbrev pre0 : Pipeline.Prefetch sig := ⟨2, ![main_arg2.idx, main_arg3.idx], fun | 0 => main_arg2.names | 1 => main_arg3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S80.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S80) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x5632x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MoeDownRefIdeal.lean ====
abbrev S20480x5632 : Shape := ⟨2, ![20480, 5632]⟩
abbrev S1x8x5632x2048 : Shape := ⟨4, ![1, 8, 5632, 2048]⟩
abbrev S80 : Shape := ⟨1, ![80]⟩
abbrev S1 : Shape := ⟨1, ![1]⟩
abbrev S_ : Shape := ⟨0, ![]⟩
abbrev S80x1 : Shape := ⟨2, ![80, 1]⟩
abbrev S80x256 : Shape := ⟨2, ![80, 256]⟩
abbrev S20480 : Shape := ⟨1, ![20480]⟩
abbrev S20480x2048 : Shape := ⟨2, ![20480, 2048]⟩
abbrev S20480x1 : Shape := ⟨2, ![20480, 1]⟩
abbrev S1x1x5632x2048 : Shape := ⟨4, ![1, 1, 5632, 2048]⟩
abbrev S5632x2048 : Shape := ⟨2, ![5632, 2048]⟩

abbrev nBuf : Space → Nat
  | .hbm => 105
  | .vmem => 0
  | .smem => 0
  | _ => 0

abbrev bufTy : (tb : Table) → Fin (tcTables nBuf tb) → BufTy
  | .hbm, ⟨0, _⟩ => ⟨S20480x5632, .bf16⟩
  | .hbm, ⟨1, _⟩ => ⟨S1x8x5632x2048, .bf16⟩
  | .hbm, ⟨2, _⟩ => ⟨S80, .i32⟩
  | .hbm, ⟨3, _⟩ => ⟨S1, .i32⟩
  | .hbm, ⟨4, _⟩ => ⟨S80, .i32⟩
  | .hbm, ⟨5, _⟩ => ⟨S_, .i32⟩
  | .hbm, ⟨6, _⟩ => ⟨S80, .i32⟩
  | .hbm, ⟨7, _⟩ => ⟨S80, .i1⟩
  | .hbm, ⟨8, _⟩ => ⟨S_, .i32⟩
  | .hbm, ⟨9, _⟩ => ⟨S_, .i32⟩
  | .hbm, ⟨10, _⟩ => ⟨S80, .i32⟩
  | .hbm, ⟨11, _⟩ => ⟨S80, .i32⟩
  | .hbm, ⟨12, _⟩ => ⟨S80x1, .i32⟩
  | .hbm, ⟨13, _⟩ => ⟨S80x256, .i32⟩
  | .hbm, ⟨14, _⟩ => ⟨S20480, .i32⟩
  | .hbm, ⟨15, _⟩ => ⟨S_, .f32⟩
  | .hbm, ⟨16, _⟩ => ⟨S20480x2048, .f32⟩
  | .hbm, ⟨17, _⟩ => ⟨S_, .i32⟩
  | .hbm, ⟨18, _⟩ => ⟨S20480, .i32⟩
  | .hbm, ⟨19, _⟩ => ⟨S20480, .i1⟩
  | .hbm, ⟨20, _⟩ => ⟨S20480x1, .i1⟩
  | .hbm, ⟨21, _⟩ => ⟨S20480x5632, .f32⟩
  | .hbm, ⟨22, _⟩ => ⟨S1x1x5632x2048, .bf16⟩
  | .hbm, ⟨23, _⟩ => ⟨S5632x2048, .bf16⟩
  | .hbm, ⟨24, _⟩ => ⟨S5632x2048, .f32⟩
  | .hbm, ⟨25, _⟩ => ⟨S20480x2048, .f32⟩
  | .hbm, ⟨26, _⟩ => ⟨S20480x2048, .i1⟩
  | .hbm, ⟨27, _⟩ => ⟨S20480x2048, .f32⟩
  | .hbm, ⟨28, _⟩ => ⟨S_, .i32⟩
  | .hbm, ⟨29, _⟩ => ⟨S20480, .i32⟩
  | .hbm, ⟨30, _⟩ => ⟨S20480, .i1⟩
  | .hbm, ⟨31, _⟩ => ⟨S20480x1, .i1⟩
  | .hbm, ⟨32, _⟩ => ⟨S20480x5632, .f32⟩
  | .hbm, ⟨33, _⟩ => ⟨S1x1x5632x2048, .bf16⟩
  | .hbm, ⟨34, _⟩ => ⟨S5632x2048, .bf16⟩
  | .hbm, ⟨35, _⟩ => ⟨S5632x2048, .f32⟩
  | .hbm, ⟨36, _⟩ => ⟨S20480x2048, .f32⟩
  | .hbm, ⟨37, _⟩ => ⟨S20480x2048, .i1⟩
  | .hbm, ⟨38, _⟩ => ⟨S20480x2048, .f32⟩
  | .hbm, ⟨39, _⟩ => ⟨S_, .i32⟩
  | .hbm, ⟨40, _⟩ => ⟨S20480, .i32⟩
  | .hbm, ⟨41, _⟩ => ⟨S20480, .i1⟩
  | .hbm, ⟨42, _⟩ => ⟨S20480x1, .i1⟩
  | .hbm, ⟨43, _⟩ => ⟨S20480x5632, .f32⟩
  | .hbm, ⟨44, _⟩ => ⟨S1x1x5632x2048, .bf16⟩
  | .hbm, ⟨45, _⟩ => ⟨S5632x2048, .bf16⟩
  | .hbm, ⟨46, _⟩ => ⟨S5632x2048, .f32⟩
  | .hbm, ⟨47, _⟩ => ⟨S20480x2048, .f32⟩
  | .hbm, ⟨48, _⟩ => ⟨S20480x2048, .i1⟩
  | .hbm, ⟨49, _⟩ => ⟨S20480x2048, .f32⟩
  | .hbm, ⟨50, _⟩ => ⟨S_, .i32⟩
  | .hbm, ⟨51, _⟩ => ⟨S20480, .i32⟩
  | .hbm, ⟨52, _⟩ => ⟨S20480, .i1⟩
  | .hbm, ⟨53, _⟩ => ⟨S20480x1, .i1⟩
  | .hbm, ⟨54, _⟩ => ⟨S20480x5632, .f32⟩
  | .hbm, ⟨55, _⟩ => ⟨S1x1x5632x2048, .bf16⟩
  | .hbm, ⟨56, _⟩ => ⟨S5632x2048, .bf16⟩
  | .hbm, ⟨57, _⟩ => ⟨S5632x2048, .f32⟩
  | .hbm, ⟨58, _⟩ => ⟨S20480x2048, .f32⟩
  | .hbm, ⟨59, _⟩ => ⟨S20480x2048, .i1⟩
  | .hbm, ⟨60, _⟩ => ⟨S20480x2048, .f32⟩
  | .hbm, ⟨61, _⟩ => ⟨S_, .i32⟩
  | .hbm, ⟨62, _⟩ => ⟨S20480, .i32⟩
  | .hbm, ⟨63, _⟩ => ⟨S20480, .i1⟩
  | .hbm, ⟨64, _⟩ => ⟨S20480x1, .i1⟩
  | .hbm, ⟨65, _⟩ => ⟨S20480x5632, .f32⟩
  | .hbm, ⟨66, _⟩ => ⟨S1x1x5632x2048, .bf16⟩
  | .hbm, ⟨67, _⟩ => ⟨S5632x2048, .bf16⟩
  | .hbm, ⟨68, _⟩ => ⟨S5632x2048, .f32⟩
  | .hbm, ⟨69, _⟩ => ⟨S20480x2048, .f32⟩
  | .hbm, ⟨70, _⟩ => ⟨S20480x2048, .i1⟩
  | .hbm, ⟨71, _⟩ => ⟨S20480x2048, .f32⟩
  | .hbm, ⟨72, _⟩ => ⟨S_, .i32⟩
  | .hbm, ⟨73, _⟩ => ⟨S20480, .i32⟩
  | .hbm, ⟨74, _⟩ => ⟨S20480, .i1⟩
  | .hbm, ⟨75, _⟩ => ⟨S20480x1, .i1⟩
  | .hbm, ⟨76, _⟩ => ⟨S20480x5632, .f32⟩
  | .hbm, ⟨77, _⟩ => ⟨S1x1x5632x2048, .bf16⟩
  | .hbm, ⟨78, _⟩ => ⟨S5632x2048, .bf16⟩
  | .hbm, ⟨79, _⟩ => ⟨S5632x2048, .f32⟩
  | .hbm, ⟨80, _⟩ => ⟨S20480x2048, .f32⟩
  | .hbm, ⟨81, _⟩ => ⟨S20480x2048, .i1⟩
  | .hbm, ⟨82, _⟩ => ⟨S20480x2048, .f32⟩
  | .hbm, ⟨83, _⟩ => ⟨S_, .i32⟩
  | .hbm, ⟨84, _⟩ => ⟨S20480, .i32⟩
  | .hbm, ⟨85, _⟩ => ⟨S20480, .i1⟩
  | .hbm, ⟨86, _⟩ => ⟨S20480x1, .i1⟩
  | .hbm, ⟨87, _⟩ => ⟨S20480x5632, .f32⟩
  | .hbm, ⟨88, _⟩ => ⟨S1x1x5632x2048, .bf16⟩
  | .hbm, ⟨89, _⟩ => ⟨S5632x2048, .bf16⟩
  | .hbm, ⟨90, _⟩ => ⟨S5632x2048, .f32⟩
  | .hbm, ⟨91, _⟩ => ⟨S20480x2048, .f32⟩
  | .hbm, ⟨92, _⟩ => ⟨S20480x2048, .i1⟩
  | .hbm, ⟨93, _⟩ => ⟨S20480x2048, .f32⟩
  | .hbm, ⟨94, _⟩ => ⟨S_, .i32⟩
  | .hbm, ⟨95, _⟩ => ⟨S20480, .i32⟩
  | .hbm, ⟨96, _⟩ => ⟨S20480, .i1⟩
  | .hbm, ⟨97, _⟩ => ⟨S20480x1, .i1⟩
  | .hbm, ⟨98, _⟩ => ⟨S20480x5632, .f32⟩
  | .hbm, ⟨99, _⟩ => ⟨S1x1x5632x2048, .bf16⟩
  | .hbm, ⟨100, _⟩ => ⟨S5632x2048, .bf16⟩
  | .hbm, ⟨101, _⟩ => ⟨S5632x2048, .f32⟩
  | .hbm, ⟨102, _⟩ => ⟨S20480x2048, .f32⟩
  | .hbm, ⟨103, _⟩ => ⟨S20480x2048, .i1⟩
  | .hbm, ⟨104, _⟩ => ⟨S20480x2048, .f32⟩
  | _, _ => ⟨S20480x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call1_v0 : Ref sig .tc := ⟨.hbm, 26, rfl⟩
abbrev main_v17 : Ref sig .tc := ⟨.hbm, 27, rfl⟩
abbrev main_c_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_call2_v0 : Ref sig .tc := ⟨.hbm, 37, rfl⟩
abbrev main_v26 : Ref sig .tc := ⟨.hbm, 38, rfl⟩
abbrev main_c_2 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_call3_v0 : Ref sig .tc := ⟨.hbm, 48, rfl⟩
abbrev main_v35 : Ref sig .tc := ⟨.hbm, 49, rfl⟩
abbrev main_c_3 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call4_v0 : Ref sig .tc := ⟨.hbm, 59, rfl⟩
abbrev main_v44 : Ref sig .tc := ⟨.hbm, 60, rfl⟩
abbrev main_c_4 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_call5_v0 : Ref sig .tc := ⟨.hbm, 70, rfl⟩
abbrev main_v53 : Ref sig .tc := ⟨.hbm, 71, rfl⟩
abbrev main_c_5 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_call6_v0 : Ref sig .tc := ⟨.hbm, 81, rfl⟩
abbrev main_v62 : Ref sig .tc := ⟨.hbm, 82, rfl⟩
abbrev main_c_6 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_call7_v0 : Ref sig .tc := ⟨.hbm, 92, rfl⟩
abbrev main_v71 : Ref sig .tc := ⟨.hbm, 93, rfl⟩
abbrev main_c_7 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_call8_v0 : Ref sig .tc := ⟨.hbm, 103, rfl⟩
abbrev main_v80 : Ref sig .tc := ⟨.hbm, 104, rfl⟩

abbrev nD : Nat := 1
abbrev τ : Topo := Topo.v7x

variable {F : FTy → Type} [FloatOps F]
-- ==== InProj.lean ====
abbrev S9472x2048 : Shape := ⟨2, ![9472, 2048]⟩
abbrev S2048x11776 : Shape := ⟨2, ![2048, 11776]⟩
abbrev S9472x11776 : Shape := ⟨2, ![9472, 11776]⟩
abbrev S2368x2048 : Shape := ⟨2, ![2368, 2048]⟩
abbrev S2048x512 : Shape := ⟨2, ![2048, 512]⟩
abbrev S2368x512 : Shape := ⟨2, ![2368, 512]⟩

abbrev nBuf : Space → Nat
  | .hbm => 3
  | .vmem => 6
  | .smem => 0
  | _ => 0

abbrev bufTy : (tb : Table) → Fin (tcTables nBuf tb) → BufTy
  | .hbm, ⟨0, _⟩ => ⟨S9472x2048, .bf16⟩
  | .hbm, ⟨1, _⟩ => ⟨S2048x11776, .bf16⟩
  | .hbm, ⟨2, _⟩ => ⟨S9472x11776, .bf16⟩
  | .local _ .vmem, ⟨0, _⟩ => ⟨S2368x2048, .bf16⟩
  | .local _ .vmem, ⟨1, _⟩ => ⟨S2368x2048, .bf16⟩
  | .local _ .vmem, ⟨2, _⟩ => ⟨S2048x512, .bf16⟩
  | .local _ .vmem, ⟨3, _⟩ => ⟨S2048x512, .bf16⟩
  | .local _ .vmem, ⟨4, _⟩ => ⟨S2368x512, .bf16⟩
  | .local _ .vmem, ⟨5, _⟩ => ⟨S2368x512, .bf16⟩
  | _, _ => ⟨S9472x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 23], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg1 c2_i32
  let c22_i32 : BitVec 32 := 22#32
  let v1 : BitVec 1 := Scalar.cmpi .slt arg1 c22_i32
  let c1_i32 : BitVec 32 := 1#32
  let v2 : BitVec 32 := Scalar.addi arg1 c1_i32
  let c2_i32_0 : BitVec 32 := 2#32
  let v3 : BitVec 32 := Scalar.select v1 v2 c2_i32_0
  let v4 : BitVec 32 := Scalar.select v0 arg1 v3
  let c0_i32 : BitVec 32 := 0#32
  let c0_i32_1 : BitVec 32 := 0#32
  ![c0_i32.toNat, v4.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2368x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2368x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjRefIdeal.lean ====
abbrev S9472x2048 : Shape := ⟨2, ![9472, 2048]⟩
abbrev S2048x11776 : Shape := ⟨2, ![2048, 11776]⟩
abbrev S9472x11776 : Shape := ⟨2, ![9472, 11776]⟩
abbrev S9472x1024 : Shape := ⟨2, ![9472, 1024]⟩
abbrev S9472x256 : Shape := ⟨2, ![9472, 256]⟩
abbrev S9472x10240 : Shape := ⟨2, ![9472, 10240]⟩

abbrev nBuf : Space → Nat
  | .hbm => 11
  | .vmem => 0
  | .smem => 0
  | _ => 0

abbrev bufTy : (tb : Table) → Fin (tcTables nBuf tb) → BufTy
  | .hbm, ⟨0, _⟩ => ⟨S9472x2048, .bf16⟩
  | .hbm, ⟨1, _⟩ => ⟨S2048x11776, .bf16⟩
  | .hbm, ⟨2, _⟩ => ⟨S9472x2048, .f32⟩
  | .hbm, ⟨3, _⟩ => ⟨S2048x11776, .f32⟩
  | .hbm, ⟨4, _⟩ => ⟨S9472x11776, .f32⟩
  | .hbm, ⟨5, _⟩ => ⟨S9472x1024, .f32⟩
  | .hbm, ⟨6, _⟩ => ⟨S9472x256, .f32⟩
  | .hbm, ⟨7, _⟩ => ⟨S9472x256, .f32⟩
  | .hbm, ⟨8, _⟩ => ⟨S9472x10240, .f32⟩
  | .hbm, ⟨9, _⟩ => ⟨S9472x11776, .f32⟩
  | .hbm, ⟨10, _⟩ => ⟨S9472x11776, .bf16⟩
  | _, _ => ⟨S9472x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== FfnUp.lean ====
abbrev S9472x2048 : Shape := ⟨2, ![9472, 2048]⟩
abbrev S2048x5632 : Shape := ⟨2, ![2048, 5632]⟩
abbrev S9472x5632 : Shape := ⟨2, ![9472, 5632]⟩
abbrev S1184x2048 : Shape := ⟨2, ![1184, 2048]⟩
abbrev S2048x512 : Shape := ⟨2, ![2048, 512]⟩
abbrev S1184x512 : Shape := ⟨2, ![1184, 512]⟩

abbrev nBuf : Space → Nat
  | .hbm => 4
  | .vmem => 8
  | .smem => 0
  | _ => 0

abbrev bufTy : (tb : Table) → Fin (tcTables nBuf tb) → BufTy
  | .hbm, ⟨0, _⟩ => ⟨S9472x2048, .bf16⟩
  | .hbm, ⟨1, _⟩ => ⟨S2048x5632, .bf16⟩
  | .hbm, ⟨2, _⟩ => ⟨S2048x5632, .bf16⟩
  | .hbm, ⟨3, _⟩ => ⟨S9472x5632, .bf16⟩
  | .local _ .vmem, ⟨0, _⟩ => ⟨S1184x2048, .bf16⟩
  | .local _ .vmem, ⟨1, _⟩ => ⟨S1184x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S1184x512, .bf16⟩
  | .local _ .vmem, ⟨7, _⟩ => ⟨S1184x512, .bf16⟩
  | _, _ => ⟨S9472x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1184x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1184x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnUpRefIdeal.lean ====
abbrev S9472x2048 : Shape := ⟨2, ![9472, 2048]⟩
abbrev S2048x5632 : Shape := ⟨2, ![2048, 5632]⟩
abbrev S9472x5632 : Shape := ⟨2, ![9472, 5632]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S9472x2048, .bf16⟩
  | .hbm, ⟨1, _⟩ => ⟨S2048x5632, .bf16⟩
  | .hbm, ⟨2, _⟩ => ⟨S2048x5632, .bf16⟩
  | .hbm, ⟨3, _⟩ => ⟨S9472x2048, .f32⟩
  | .hbm, ⟨4, _⟩ => ⟨S2048x5632, .f32⟩
  | .hbm, ⟨5, _⟩ => ⟨S9472x5632, .f32⟩
  | .hbm, ⟨6, _⟩ => ⟨S9472x5632, .f32⟩
  | .hbm, ⟨7, _⟩ => ⟨S9472x5632, .f32⟩
  | .hbm, ⟨8, _⟩ => ⟨S_, .f32⟩
  | .hbm, ⟨9, _⟩ => ⟨S9472x5632, .f32⟩
  | .hbm, ⟨10, _⟩ => ⟨S9472x5632, .f32⟩
  | .hbm, ⟨11, _⟩ => ⟨S_, .f32⟩
  | .hbm, ⟨12, _⟩ => ⟨S9472x5632, .f32⟩
  | .hbm, ⟨13, _⟩ => ⟨S9472x5632, .f32⟩
  | .hbm, ⟨14, _⟩ => ⟨S9472x5632, .f32⟩
  | .hbm, ⟨15, _⟩ => ⟨S2048x5632, .f32⟩
  | .hbm, ⟨16, _⟩ => ⟨S9472x5632, .f32⟩
  | .hbm, ⟨17, _⟩ => ⟨S9472x5632, .f32⟩
  | .hbm, ⟨18, _⟩ => ⟨S9472x5632, .bf16⟩
  | _, _ => ⟨S9472x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== FfnDown.lean ====
abbrev S9472x5632 : Shape := ⟨2, ![9472, 5632]⟩
abbrev S5632x2048 : Shape := ⟨2, ![5632, 2048]⟩
abbrev S9472x2048 : Shape := ⟨2, ![9472, 2048]⟩
abbrev S2048 : Shape := ⟨1, ![2048]⟩
abbrev S1x2048 : Shape := ⟨2, ![1, 2048]⟩
abbrev S256x5632 : Shape := ⟨2, ![256, 5632]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S9472x5632, .bf16⟩
  | .hbm, ⟨1, _⟩ => ⟨S5632x2048, .bf16⟩
  | .hbm, ⟨2, _⟩ => ⟨S9472x2048, .f32⟩
  | .hbm, ⟨3, _⟩ => ⟨S2048, .f32⟩
  | .hbm, ⟨4, _⟩ => ⟨S1x2048, .f32⟩
  | .hbm, ⟨5, _⟩ => ⟨S9472x2048, .f32⟩
  | .hbm, ⟨6, _⟩ => ⟨S9472x2048, .bf16⟩
  | .local _ .vmem, ⟨0, _⟩ => ⟨S256x5632, .bf16⟩
  | .local _ .vmem, ⟨1, _⟩ => ⟨S256x5632, .bf16⟩
  | .local _ .vmem, ⟨2, _⟩ => ⟨S5632x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | _, _ => ⟨S9472x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![37], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnDownRefIdeal.lean ====
abbrev S9472x5632 : Shape := ⟨2, ![9472, 5632]⟩
abbrev S5632x2048 : Shape := ⟨2, ![5632, 2048]⟩
abbrev S9472x2048 : Shape := ⟨2, ![9472, 2048]⟩
abbrev S2048 : Shape := ⟨1, ![2048]⟩
abbrev S_ : Shape := ⟨0, ![]⟩
abbrev S9472 : Shape := ⟨1, ![9472]⟩
abbrev S9472x1 : Shape := ⟨2, ![9472, 1]⟩
abbrev S1x2048 : Shape := ⟨2, ![1, 2048]⟩

abbrev nBuf : Space → Nat
  | .hbm => 25
  | .vmem => 0
  | .smem => 0
  | _ => 0

abbrev bufTy : (tb : Table) → Fin (tcTables nBuf tb) → BufTy
  | .hbm, ⟨0, _⟩ => ⟨S9472x5632, .bf16⟩
  | .hbm, ⟨1, _⟩ => ⟨S5632x2048, .bf16⟩
  | .hbm, ⟨2, _⟩ => ⟨S9472x2048, .f32⟩
  | .hbm, ⟨3, _⟩ => ⟨S2048, .f32⟩
  | .hbm, ⟨4, _⟩ => ⟨S9472x5632, .f32⟩
  | .hbm, ⟨5, _⟩ => ⟨S5632x2048, .f32⟩
  | .hbm, ⟨6, _⟩ => ⟨S9472x2048, .f32⟩
  | .hbm, ⟨7, _⟩ => ⟨S9472x2048, .f32⟩
  | .hbm, ⟨8, _⟩ => ⟨S9472x2048, .f32⟩
  | .hbm, ⟨9, _⟩ => ⟨S_, .f32⟩
  | .hbm, ⟨10, _⟩ => ⟨S9472, .f32⟩
  | .hbm, ⟨11, _⟩ => ⟨S9472x1, .f32⟩
  | .hbm, ⟨12, _⟩ => ⟨S_, .f32⟩
  | .hbm, ⟨13, _⟩ => ⟨S9472x1, .f32⟩
  | .hbm, ⟨14, _⟩ => ⟨S9472x1, .f32⟩
  | .hbm, ⟨15, _⟩ => ⟨S_, .f32⟩
  | .hbm, ⟨16, _⟩ => ⟨S9472x1, .f32⟩
  | .hbm, ⟨17, _⟩ => ⟨S9472x1, .f32⟩
  | .hbm, ⟨18, _⟩ => ⟨S9472x1, .f32⟩
  | .hbm, ⟨19, _⟩ => ⟨S9472x2048, .f32⟩
  | .hbm, ⟨20, _⟩ => ⟨S9472x2048, .f32⟩
  | .hbm, ⟨21, _⟩ => ⟨S1x2048, .f32⟩
  | .hbm, ⟨22, _⟩ => ⟨S9472x2048, .f32⟩
  | .hbm, ⟨23, _⟩ => ⟨S9472x2048, .f32⟩
  | .hbm, ⟨24, _⟩ => ⟨S9472x2048, .bf16⟩
  | _, _ => ⟨S9472x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Sample.lean ====
abbrev S9472x11776 : Shape := ⟨2, ![9472, 11776]⟩
abbrev S2x16 : Shape := ⟨2, ![2, 16]⟩
abbrev S2x128x128x4x64 : Shape := ⟨5, ![2, 128, 128, 4, 64]⟩
abbrev S2x128x30x1024 : Shape := ⟨4, ![2, 128, 30, 1024]⟩
abbrev S2x128x3x1024 : Shape := ⟨4, ![2, 128, 3, 1024]⟩
abbrev S2x128x1024 : Shape := ⟨3, ![2, 128, 1024]⟩
abbrev S2x31x1024 : Shape := ⟨3, ![2, 31, 1024]⟩
abbrev S2x1024 : Shape := ⟨2, ![2, 1024]⟩
abbrev S2x4x1024 : Shape := ⟨3, ![2, 4, 1024]⟩
abbrev S2x16x64x64 : Shape := ⟨4, ![2, 16, 64, 64]⟩
abbrev S256x128x256 : Shape := ⟨3, ![256, 128, 256]⟩
abbrev S256x30x1024 : Shape := ⟨3, ![256, 30, 1024]⟩
abbrev S256x3x1024 : Shape := ⟨3, ![256, 3, 1024]⟩
abbrev S256x1024 : Shape := ⟨2, ![256, 1024]⟩
abbrev S1x16 : Shape := ⟨2, ![1, 16]⟩
abbrev S16 : Shape := ⟨1, ![16]⟩
abbrev S1x31x1024 : Shape := ⟨3, ![1, 31, 1024]⟩
abbrev S31x1024 : Shape := ⟨2, ![31, 1024]⟩
abbrev S1x1024 : Shape := ⟨2, ![1, 1024]⟩
abbrev S1024 : Shape := ⟨1, ![1024]⟩
abbrev S1x4x1024 : Shape := ⟨3, ![1, 4, 1024]⟩
abbrev S4x1024 : Shape := ⟨2, ![4, 1024]⟩
abbrev S1x16x64x64 : Shape := ⟨4, ![1, 16, 64, 64]⟩
abbrev S16x64x64 : Shape := ⟨3, ![16, 64, 64]⟩
abbrev S4x4x64x64 : Shape := ⟨4, ![4, 4, 64, 64]⟩
abbrev S4x4 : Shape := ⟨2, ![4, 4]⟩
abbrev S_ : Shape := ⟨0, ![]⟩
abbrev S4x4x64x1x64 : Shape := ⟨5, ![4, 4, 64, 1, 64]⟩
abbrev S1x4x1x4x1 : Shape := ⟨5, ![1, 4, 1, 4, 1]⟩
abbrev S4x4x64x4x64 : Shape := ⟨5, ![4, 4, 64, 4, 64]⟩
abbrev S4x256x256 : Shape := ⟨3, ![4, 256, 256]⟩
abbrev S1024x1024 : Shape := ⟨2, ![1024, 1024]⟩
abbrev S64x1024 : Shape := ⟨2, ![64, 1024]⟩
abbrev S64x256 : Shape := ⟨2, ![64, 256]⟩
abbrev S8x128x256 : Shape := ⟨3, ![8, 128, 256]⟩
abbrev S8x30x1024 : Shape := ⟨3, ![8, 30, 1024]⟩
abbrev S8x3x1024 : Shape := ⟨3, ![8, 3, 1024]⟩
abbrev S8x1024 : Shape := ⟨2, ![8, 1024]⟩
abbrev S8x40x1024 : Shape := ⟨3, ![8, 40, 1024]⟩
abbrev S8x16x1024 : Shape := ⟨3, ![8, 16, 1024]⟩
abbrev S8x8x1024 : Shape := ⟨3, ![8, 8, 1024]⟩
abbrev S8x8x256 : Shape := ⟨3, ![8, 8, 256]⟩
abbrev S8x120x256 : Shape := ⟨3, ![8, 120, 256]⟩
abbrev S8x256x256 : Shape := ⟨3, ![8, 256, 256]⟩
abbrev S32x256 : Shape := ⟨2, ![32, 256]⟩
abbrev S32x1 : Shape := ⟨2, ![32, 1]⟩
abbrev S1 : Shape := ⟨1, ![1]⟩
abbrev S8x256x64 : Shape := ⟨3, ![8, 256, 64]⟩
abbrev S8x8x64 : Shape := ⟨3, ![8, 8, 64]⟩
abbrev S8x32x64 : Shape := ⟨3, ![8, 32, 64]⟩
abbrev S8x32x256 : Shape := ⟨3, ![8, 32, 256]⟩
abbrev S1x32x256 : Shape := ⟨3, ![1, 32, 256]⟩
abbrev S1x32x1 : Shape := ⟨3, ![1, 32, 1]⟩
abbrev S8x32 : Shape := ⟨2, ![8, 32]⟩
abbrev S8x32x1 : Shape := ⟨3, ![8, 32, 1]⟩
abbrev S64x64 : Shape := ⟨2, ![64, 64]⟩
abbrev S1x2x1024 : Shape := ⟨3, ![1, 2, 1024]⟩
abbrev S1x30x1024 : Shape := ⟨3, ![1, 30, 1024]⟩
abbrev S30x1024 : Shape := ⟨2, ![30, 1024]⟩
abbrev S1x8x1024 : Shape := ⟨3, ![1, 8, 1024]⟩
abbrev S1x16x1024 : Shape := ⟨3, ![1, 16, 1024]⟩
abbrev S16x1024 : Shape := ⟨2, ![16, 1024]⟩
abbrev S64 : Shape := ⟨1, ![64]⟩
abbrev S64x1 : Shape := ⟨2, ![64, 1]⟩
abbrev S1x3x1024 : Shape := ⟨3, ![1, 3, 1024]⟩
abbrev S3x1024 : Shape := ⟨2, ![3, 1024]⟩
abbrev S1x256x256 : Shape := ⟨3, ![1, 256, 256]⟩
abbrev S256x256 : Shape := ⟨2, ![256, 256]⟩
abbrev S1x256 : Shape := ⟨2, ![1, 256]⟩

abbrev nBuf : Space → Nat
  | .hbm => 97
  | .vmem => 58
  | .smem => 1
  | _ => 0

abbrev bufTy : (tb : Table) → Fin (tcTables nBuf tb) → BufTy
  | .hbm, ⟨0, _⟩ => ⟨S9472x11776, .bf16⟩
  | .hbm, ⟨1, _⟩ => ⟨S2x16, .f32⟩
  | .hbm, ⟨2, _⟩ => ⟨S2x128x128x4x64, .f32⟩
  | .hbm, ⟨3, _⟩ => ⟨S2x128x128x4x64, .f32⟩
  | .hbm, ⟨4, _⟩ => ⟨S2x128x30x1024, .f32⟩
  | .hbm, ⟨5, _⟩ => ⟨S2x128x3x1024, .f32⟩
  | .hbm, ⟨6, _⟩ => ⟨S2x128x1024, .f32⟩
  | .hbm, ⟨7, _⟩ => ⟨S2x31x1024, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S2x4x1024, .f32⟩
  | .hbm, ⟨12, _⟩ => ⟨S2x1024, .f32⟩
  | .hbm, ⟨13, _⟩ => ⟨S2x16x64x64, .f32⟩
  | .hbm, ⟨14, _⟩ => ⟨S2x1024, .f32⟩
  | .hbm, ⟨15, _⟩ => ⟨S2x16x64x64, .f32⟩
  | .hbm, ⟨16, _⟩ => ⟨S2x1024, .f32⟩
  | .hbm, ⟨17, _⟩ => ⟨S2x1024, .f32⟩
  | .hbm, ⟨18, _⟩ => ⟨S256x128x256, .f32⟩
  | .hbm, ⟨19, _⟩ => ⟨S256x128x256, .f32⟩
  | .hbm, ⟨20, _⟩ => ⟨S256x30x1024, .f32⟩
  | .hbm, ⟨21, _⟩ => ⟨S256x3x1024, .f32⟩
  | .hbm, ⟨22, _⟩ => ⟨S256x1024, .f32⟩
  | .hbm, ⟨23, _⟩ => ⟨S256x128x256, .f32⟩
  | .hbm, ⟨24, _⟩ => ⟨S256x128x256, .f32⟩
  | .hbm, ⟨25, _⟩ => ⟨S256x30x1024, .f32⟩
  | .hbm, ⟨26, _⟩ => ⟨S256x3x1024, .f32⟩
  | .hbm, ⟨27, _⟩ => ⟨S256x1024, .f32⟩
  | .hbm, ⟨28, _⟩ => ⟨S1x16, .f32⟩
  | .hbm, ⟨29, _⟩ => ⟨S16, .f32⟩
  | .hbm, ⟨30, _⟩ => ⟨S1x31x1024, .f32⟩
  | .hbm, ⟨31, _⟩ => ⟨S31x1024, .f32⟩
  | .hbm, ⟨32, _⟩ => ⟨S1x1024, .f32⟩
  | .hbm, ⟨33, _⟩ => ⟨S1024, .f32⟩
  | .hbm, ⟨34, _⟩ => ⟨S1x1024, .f32⟩
  | .hbm, ⟨35, _⟩ => ⟨S1024, .f32⟩
  | .hbm, ⟨36, _⟩ => ⟨S1x1024, .f32⟩
  | .hbm, ⟨37, _⟩ => ⟨S1024, .f32⟩
  | .hbm, ⟨38, _⟩ => ⟨S1x4x1024, .f32⟩
  | .hbm, ⟨39, _⟩ => ⟨S4x1024, .f32⟩
  | .hbm, ⟨40, _⟩ => ⟨S1x1024, .f32⟩
  | .hbm, ⟨41, _⟩ => ⟨S1024, .f32⟩
  | .hbm, ⟨42, _⟩ => ⟨S1x16x64x64, .f32⟩
  | .hbm, ⟨43, _⟩ => ⟨S16x64x64, .f32⟩
  | .hbm, ⟨44, _⟩ => ⟨S4x4x64x64, .f32⟩
  | .hbm, ⟨45, _⟩ => ⟨S4x4, .i32⟩
  | .hbm, ⟨46, _⟩ => ⟨S4x4, .i32⟩
  | .hbm, ⟨47, _⟩ => ⟨S_, .i32⟩
  | .hbm, ⟨48, _⟩ => ⟨S4x4, .i32⟩
  | .hbm, ⟨49, _⟩ => ⟨S4x4, .i32⟩
  | .hbm, ⟨50, _⟩ => ⟨S4x4, .i1⟩
  | .hbm, ⟨51, _⟩ => ⟨S4x4, .f32⟩
  | .hbm, ⟨52, _⟩ => ⟨S4x4x64x1x64, .f32⟩
  | .hbm, ⟨53, _⟩ => ⟨S1x4x1x4x1, .f32⟩
  | .hbm, ⟨54, _⟩ => ⟨S4x4x64x4x64, .f32⟩
  | .hbm, ⟨55, _⟩ => ⟨S4x4x64x4x64, .f32⟩
  | .hbm, ⟨56, _⟩ => ⟨S4x4x64x4x64, .f32⟩
  | .hbm, ⟨57, _⟩ => ⟨S4x256x256, .f32⟩
  | .hbm, ⟨58, _⟩ => ⟨S4x256x256, .bf16⟩
  | .hbm, ⟨59, _⟩ => ⟨S1x1024, .f32⟩
  | .hbm, ⟨60, _⟩ => ⟨S1024, .f32⟩
  | .hbm, ⟨61, _⟩ => ⟨S1x16x64x64, .f32⟩
  | .hbm, ⟨62, _⟩ => ⟨S16x64x64, .f32⟩
  | .hbm, ⟨63, _⟩ => ⟨S4x4x64x64, .f32⟩
  | .hbm, ⟨64, _⟩ => ⟨S4x4, .i32⟩
  | .hbm, ⟨65, _⟩ => ⟨S4x4, .i32⟩
  | .hbm, ⟨66, _⟩ => ⟨S_, .i32⟩
  | .hbm, ⟨67, _⟩ => ⟨S4x4, .i32⟩
  | .hbm, ⟨68, _⟩ => ⟨S4x4, .i32⟩
  | .hbm, ⟨69, _⟩ => ⟨S4x4, .i1⟩
  | .hbm, ⟨70, _⟩ => ⟨S4x4, .f32⟩
  | .hbm, ⟨71, _⟩ => ⟨S4x4x64x1x64, .f32⟩
  | .hbm, ⟨72, _⟩ => ⟨S1x4x1x4x1, .f32⟩
  | .hbm, ⟨73, _⟩ => ⟨S4x4x64x4x64, .f32⟩
  | .hbm, ⟨74, _⟩ => ⟨S4x4x64x4x64, .f32⟩
  | .hbm, ⟨75, _⟩ => ⟨S4x4x64x4x64, .f32⟩
  | .hbm, ⟨76, _⟩ => ⟨S4x256x256, .f32⟩
  | .hbm, ⟨77, _⟩ => ⟨S4x256x256, .bf16⟩
  | .hbm, ⟨78, _⟩ => ⟨S1x1024, .f32⟩
  | .hbm, ⟨79, _⟩ => ⟨S1024, .f32⟩
  | .hbm, ⟨80, _⟩ => ⟨S1x1024, .f32⟩
  | .hbm, ⟨81, _⟩ => ⟨S1024, .f32⟩
  | .hbm, ⟨82, _⟩ => ⟨S1x1024, .f32⟩
  | .hbm, ⟨83, _⟩ => ⟨S1x1024, .f32⟩
  | .hbm, ⟨84, _⟩ => ⟨S1x1024, .f32⟩
  | .hbm, ⟨85, _⟩ => ⟨S1x1024, .f32⟩
  | .hbm, ⟨86, _⟩ => ⟨S1x1024, .f32⟩
  | .hbm, ⟨87, _⟩ => ⟨S1x1024, .f32⟩
  | .hbm, ⟨88, _⟩ => ⟨S1x1024, .f32⟩
  | .hbm, ⟨89, _⟩ => ⟨S1024x1024, .bf16⟩
  | .hbm, ⟨90, _⟩ => ⟨S256x128x256, .f32⟩
  | .hbm, ⟨91, _⟩ => ⟨S256x128x256, .f32⟩
  | .hbm, ⟨92, _⟩ => ⟨S1024x1024, .bf16⟩
  | .hbm, ⟨93, _⟩ => ⟨S256x30x1024, .f32⟩
  | .hbm, ⟨94, _⟩ => ⟨S1024x1024, .bf16⟩
  | .hbm, ⟨95, _⟩ => ⟨S256x3x1024, .f32⟩
  | .hbm, ⟨96, _⟩ => ⟨S256x1024, .f32⟩
  | .local _ .vmem, ⟨0, _⟩ => ⟨S64x1024, .bf16⟩
  | .local _ .vmem, ⟨1, _⟩ => ⟨S64x1024, .bf16⟩
  | .local _ .vmem, ⟨2, _⟩ => ⟨S64x256, .bf16⟩
  | .local _ .vmem, ⟨3, _⟩ => ⟨S64x256, .bf16⟩
  | .local _ .vmem, ⟨4, _⟩ => ⟨S64x256, .bf16⟩
  | .local _ .vmem, ⟨5, _⟩ => ⟨S64x256, .bf16⟩
  | .local _ .vmem, ⟨6, _⟩ => ⟨S8x128x256, .f32⟩
  | .local _ .vmem, ⟨7, _⟩ => ⟨S8x128x256, .f32⟩
  | .local _ .vmem, ⟨8, _⟩ => ⟨S8x128x256, .f32⟩
  | .local _ .vmem, ⟨9, _⟩ => ⟨S8x128x256, .f32⟩
  | .local _ .vmem, ⟨10, _⟩ => ⟨S64x1024, .bf16⟩
  | .local _ .vmem, ⟨11, _⟩ => ⟨S64x1024, .bf16⟩
  | .local _ .vmem, ⟨12, _⟩ => ⟨S64x1024, .bf16⟩
  | .local _ .vmem, ⟨13, _⟩ => ⟨S64x1024, .bf16⟩
  | .local _ .vmem, ⟨14, _⟩ => ⟨S8x30x1024, .f32⟩
  | .local _ .vmem, ⟨15, _⟩ => ⟨S8x30x1024, .f32⟩
  | .local _ .vmem, ⟨16, _⟩ => ⟨S31x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S64x1024, .bf16⟩
  | .local _ .vmem, ⟨21, _⟩ => ⟨S64x1024, .bf16⟩
  | .local _ .vmem, ⟨22, _⟩ => ⟨S64x1024, .bf16⟩
  | .local _ .vmem, ⟨23, _⟩ => ⟨S64x1024, .bf16⟩
  | .local _ .vmem, ⟨24, _⟩ => ⟨S8x3x1024, .f32⟩
  | .local _ .vmem, ⟨25, _⟩ => ⟨S8x3x1024, .f32⟩
  | .local _ .vmem, ⟨26, _⟩ => ⟨S8x1024, .f32⟩
  | .local _ .vmem, ⟨27, _⟩ => ⟨S8x1024, .f32⟩
  | .local _ .vmem, ⟨28, _⟩ => ⟨S4x1024, .f32⟩
  | .local _ .vmem, ⟨29, _⟩ => ⟨S1x1024, .f32⟩
  | .local _ .vmem, ⟨30, _⟩ => ⟨S4x256x256, .bf16⟩
  | .local _ .vmem, ⟨31, _⟩ => ⟨S1x1024, .f32⟩
  | .local _ .vmem, ⟨32, _⟩ => ⟨S4x256x256, .bf16⟩
  | .local _ .vmem, ⟨33, _⟩ => ⟨S1x1024, .f32⟩
  | .local _ .vmem, ⟨34, _⟩ => ⟨S1x1024, .f32⟩
  | .local _ .vmem, ⟨35, _⟩ => ⟨S64x1024, .bf16⟩
  | .local _ .vmem, ⟨36, _⟩ => ⟨S64x1024, .bf16⟩
  | .local _ .vmem, ⟨37, _⟩ => ⟨S8x128x256, .f32⟩
  | .local _ .vmem, ⟨38, _⟩ => ⟨S8x128x256, .f32⟩
  | .local _ .vmem, ⟨39, _⟩ => ⟨S8x128x256, .f32⟩
  | .local _ .vmem, ⟨40, _⟩ => ⟨S8x128x256, .f32⟩
  | .local _ .vmem, ⟨41, _⟩ => ⟨S64x1024, .bf16⟩
  | .local _ .vmem, ⟨42, _⟩ => ⟨S64x1024, .bf16⟩
  | .local _ .vmem, ⟨43, _⟩ => ⟨S8x30x1024, .f32⟩
  | .local _ .vmem, ⟨44, _⟩ => ⟨S8x30x1024, .f32⟩
  | .local _ .vmem, ⟨45, _⟩ => ⟨S64x1024, .bf16⟩
  | .local _ .vmem, ⟨46, _⟩ => ⟨S64x1024, .bf16⟩
  | .local _ .vmem, ⟨47, _⟩ => ⟨S8x3x1024, .f32⟩
  | .local _ .vmem, ⟨48, _⟩ => ⟨S8x3x1024, .f32⟩
  | .local _ .vmem, ⟨49, _⟩ => ⟨S8x1024, .f32⟩
  | .local _ .vmem, ⟨50, _⟩ => ⟨S8x1024, .f32⟩
  | .local _ .vmem, ⟨51, _⟩ => ⟨S8x40x1024, .f32⟩
  | .local _ .vmem, ⟨52, _⟩ => ⟨S64x1024, .f32⟩
  | .local _ .vmem, ⟨53, _⟩ => ⟨S8x16x1024, .f32⟩
  | .local _ .vmem, ⟨54, _⟩ => ⟨S64x1024, .f32⟩
  | .local _ .vmem, ⟨55, _⟩ => ⟨S64x1024, .f32⟩
  | .local _ .vmem, ⟨56, _⟩ => ⟨S64x1024, .f32⟩
  | .local _ .vmem, ⟨57, _⟩ => ⟨S64x1024, .f32⟩
  | .local _ .smem, ⟨0, _⟩ => ⟨S16, .f32⟩
  | _, _ => ⟨S9472x11776, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .smem, ⟨0, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_c : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c_0 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64_0 : Ref sig .tc := ⟨.hbm, 89, rfl⟩
abbrev main_v64_1 : Ref sig .tc := ⟨.hbm, 90, rfl⟩
abbrev main_v64_2 : Ref sig .tc := ⟨.hbm, 91, rfl⟩
abbrev main_v64_3 : Ref sig .tc := ⟨.hbm, 92, rfl⟩
abbrev main_v64_4 : Ref sig .tc := ⟨.hbm, 93, rfl⟩
abbrev main_v64_5 : Ref sig .tc := ⟨.hbm, 94, rfl⟩
abbrev main_v64_6 : Ref sig .tc := ⟨.hbm, 95, rfl⟩
abbrev main_v64_7 : Ref sig .tc := ⟨.hbm, 96, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg19_0 : Ref sig .tc := ⟨.vmem, 30, rfl⟩
abbrev cc0_stg20_0 : Ref sig .tc := ⟨.vmem, 31, rfl⟩
abbrev cc0_stg21_0 : Ref sig .tc := ⟨.vmem, 32, rfl⟩
abbrev cc0_stg22_0 : Ref sig .tc := ⟨.vmem, 33, rfl⟩
abbrev cc0_stg23_0 : Ref sig .tc := ⟨.vmem, 34, rfl⟩
abbrev cc0_stg24_0 : Ref sig .tc := ⟨.vmem, 35, rfl⟩
abbrev cc0_stg24_1 : Ref sig .tc := ⟨.vmem, 36, rfl⟩
abbrev cc0_stg25_0 : Ref sig .tc := ⟨.vmem, 37, rfl⟩
abbrev cc0_stg25_1 : Ref sig .tc := ⟨.vmem, 38, rfl⟩
abbrev cc0_stg26_0 : Ref sig .tc := ⟨.vmem, 39, rfl⟩
abbrev cc0_stg26_1 : Ref sig .tc := ⟨.vmem, 40, rfl⟩
abbrev cc0_stg27_0 : Ref sig .tc := ⟨.vmem, 41, rfl⟩
abbrev cc0_stg27_1 : Ref sig .tc := ⟨.vmem, 42, rfl⟩
abbrev cc0_stg28_0 : Ref sig .tc := ⟨.vmem, 43, rfl⟩
abbrev cc0_stg28_1 : Ref sig .tc := ⟨.vmem, 44, rfl⟩
abbrev cc0_stg29_0 : Ref sig .tc := ⟨.vmem, 45, rfl⟩
abbrev cc0_stg29_1 : Ref sig .tc := ⟨.vmem, 46, rfl⟩
abbrev cc0_stg30_0 : Ref sig .tc := ⟨.vmem, 47, rfl⟩
abbrev cc0_stg30_1 : Ref sig .tc := ⟨.vmem, 48, rfl⟩
abbrev cc0_stg31_0 : Ref sig .tc := ⟨.vmem, 49, rfl⟩
abbrev cc0_stg31_1 : Ref sig .tc := ⟨.vmem, 50, rfl⟩
abbrev cc0_scratch0 : Ref sig .tc := ⟨.vmem, 51, rfl⟩
abbrev cc0_scratch1 : Ref sig .tc := ⟨.vmem, 52, rfl⟩
abbrev cc0_scratch2 : Ref sig .tc := ⟨.vmem, 53, rfl⟩
abbrev cc0_scratch3 : Ref sig .tc := ⟨.vmem, 54, rfl⟩
abbrev cc0_scratch4 : Ref sig .tc := ⟨.vmem, 55, rfl⟩
abbrev cc0_scratch5 : Ref sig .tc := ⟨.vmem, 56, rfl⟩
abbrev cc0_scratch6 : Ref sig .tc := ⟨.vmem, 57, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem18_0 : DmaSem sig := 30
abbrev cc0_sem19_0 : DmaSem sig := 31
abbrev cc0_sem20_0 : DmaSem sig := 32
abbrev cc0_sem21_0 : DmaSem sig := 33
abbrev cc0_sem22_0 : DmaSem sig := 34
abbrev cc0_sem23_0 : DmaSem sig := 35
abbrev cc0_sem24_0 : DmaSem sig := 36
abbrev cc0_sem24_1 : DmaSem sig := 37
abbrev cc0_sem25_0 : DmaSem sig := 38
abbrev cc0_sem25_1 : DmaSem sig := 39
abbrev cc0_sem26_0 : DmaSem sig := 40
abbrev cc0_sem26_1 : DmaSem sig := 41
abbrev cc0_sem27_0 : DmaSem sig := 42
abbrev cc0_sem27_1 : DmaSem sig := 43
abbrev cc0_sem28_0 : DmaSem sig := 44
abbrev cc0_sem28_1 : DmaSem sig := 45
abbrev cc0_sem29_0 : DmaSem sig := 46
abbrev cc0_sem29_1 : DmaSem sig := 47
abbrev cc0_sem30_0 : DmaSem sig := 48
abbrev cc0_sem30_1 : DmaSem sig := 49
abbrev cc0_sem31_0 : DmaSem sig := 50
abbrev cc0_sem31_1 : DmaSem sig := 51

abbrev nD : Nat := 1
abbrev τ : Topo := Topo.v7x

variable {F : FTy → Type} [FloatOps F]

abbrev grid0 : Pipeline.Grid := ⟨1, ![16], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c132_i32 : BitVec 32 := 132#32
  let v0 : BitVec 32 := Scalar.addi c132_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c132_i32 : BitVec 32 := 132#32
  let v0 : BitVec 32 := Scalar.addi c132_i32 arg0
  let c44_i32 : BitVec 32 := 44#32
  let c0_i32 : BitVec 32 := 0#32
  ![v0.toNat, c44_i32.toNat]

def cc0_transform_3 (i : grid0.Coords) : Fin 2 → Nat :=
  let arg0 : BitVec 32 := BitVec.ofNat 32 (i 0).val
  let c132_i32 : BitVec 32 := 132#32
  let v0 : BitVec 32 := Scalar.addi c132_i32 arg0
  let c45_i32 : BitVec 32 := 45#32
  let c0_i32 : BitVec 32 := 0#32
  ![v0.toNat, c45_i32.toNat]

def cc0_transform_4 (i : grid0.Coords) : Fin 3 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 3 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 2 → Nat :=
  let arg0 : BitVec 32 := BitVec.ofNat 32 (i 0).val
  let c132_i32 : BitVec 32 := 132#32
  let v0 : BitVec 32 := Scalar.addi c132_i32 arg0
  let c1_i32 : BitVec 32 := 1#32
  let c0_i32 : BitVec 32 := 0#32
  ![v0.toNat, c1_i32.toNat]

def cc0_transform_7 (i : grid0.Coords) : Fin 2 → Nat :=
  let arg0 : BitVec 32 := BitVec.ofNat 32 (i 0).val
  let c132_i32 : BitVec 32 := 132#32
  let v0 : BitVec 32 := Scalar.addi c132_i32 arg0
  let c2_i32 : BitVec 32 := 2#32
  let c0_i32 : BitVec 32 := 0#32
  ![v0.toNat, c2_i32.toNat]

def cc0_transform_8 (i : grid0.Coords) : Fin 3 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![v0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c132_i32 : BitVec 32 := 132#32
  let v0 : BitVec 32 := Scalar.addi c132_i32 arg0
  let c3_i32 : BitVec 32 := 3#32
  let c0_i32 : BitVec 32 := 0#32
  ![v0.toNat, c3_i32.toNat]

def cc0_transform_14 (i : grid0.Coords) : Fin 2 → Nat :=
  let arg0 : BitVec 32 := BitVec.ofNat 32 (i 0).val
  let c132_i32 : BitVec 32 := 132#32
  let v0 : BitVec 32 := Scalar.addi c132_i32 arg0
  let c4_i32 : BitVec 32 := 4#32
  let c0_i32 : BitVec 32 := 0#32
  ![v0.toNat, c4_i32.toNat]

def cc0_transform_15 (i : grid0.Coords) : Fin 3 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![v0.toNat, c0_i32.toNat, c0_i32_0.toNat]

def cc0_transform_16 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_30 (i : grid0.Coords) : Fin 3 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![v0.toNat, c0_i32.toNat, c0_i32_0.toNat]

def cc0_transform_31 (i : grid0.Coords) : Fin 3 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![v0.toNat, c0_i32.toNat, c0_i32_0.toNat]

def cc0_transform_32 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_33 (i : grid0.Coords) : Fin 3 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![v0.toNat, c0_i32.toNat, c0_i32_0.toNat]

def cc0_transform_34 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_35 (i : grid0.Coords) : Fin 3 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![v0.toNat, c0_i32.toNat, c0_i32_0.toNat]

def cc0_transform_36 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x30x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S31x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S64x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S64x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x3x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S8x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S4x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S4x256x256 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S4x256x256 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 2 → Memref sig .tc .vmem S64x1024 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S8x128x256 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S8x128x256 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S64x1024 .bf16 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S8x30x1024 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S64x1024 .bf16 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S8x3x1024 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 2 → Memref sig .tc .vmem S8x1024 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]
-- ==== SampleIdeal.lean ====
variable {F : FTy → Type} [FloatOps F] [Named F]
def κ : String → Option EReal := fun
  | "mask" => some ⊥
  | "slope0" => some (((Real.sqrt 2)⁻¹ : ℝ) : EReal)
  | "slope10" => some (((Real.sqrt 2048)⁻¹ : ℝ) : EReal)
  | "slope12" => some (((Real.sqrt 8192)⁻¹ : ℝ) : EReal)
  | "slope14" => some (((Real.sqrt 32768)⁻¹ : ℝ) : EReal)
  | "slope2" => some (((Real.sqrt 8)⁻¹ : ℝ) : EReal)
  | "slope4" => some (((Real.sqrt 32)⁻¹ : ℝ) : EReal)
  | "slope6" => some (((Real.sqrt 128)⁻¹ : ℝ) : EReal)
  | "slope8" => some (((Real.sqrt 512)⁻¹ : ℝ) : EReal)
  | _ => none
-- ==== SampleRefIdeal.lean ====
abbrev S9472x11776 : Shape := ⟨2, ![9472, 11776]⟩
abbrev S2x16 : Shape := ⟨2, ![2, 16]⟩
abbrev S2x128x128x4x64 : Shape := ⟨5, ![2, 128, 128, 4, 64]⟩
abbrev S2x128x30x1024 : Shape := ⟨4, ![2, 128, 30, 1024]⟩
abbrev S2x128x3x1024 : Shape := ⟨4, ![2, 128, 3, 1024]⟩
abbrev S2x128x1024 : Shape := ⟨3, ![2, 128, 1024]⟩
abbrev S2x31x1024 : Shape := ⟨3, ![2, 31, 1024]⟩
abbrev S2x1024 : Shape := ⟨2, ![2, 1024]⟩
abbrev S2x4x1024 : Shape := ⟨3, ![2, 4, 1024]⟩
abbrev S2x16x64x64 : Shape := ⟨4, ![2, 16, 64, 64]⟩
abbrev S256x128x256 : Shape := ⟨3, ![256, 128, 256]⟩
abbrev S256x30x1024 : Shape := ⟨3, ![256, 30, 1024]⟩
abbrev S256x3x1024 : Shape := ⟨3, ![256, 3, 1024]⟩
abbrev S256x1024 : Shape := ⟨2, ![256, 1024]⟩
abbrev S1024x11776 : Shape := ⟨2, ![1024, 11776]⟩
abbrev S128x8x11776 : Shape := ⟨3, ![128, 8, 11776]⟩
abbrev S128x8x1024 : Shape := ⟨3, ![128, 8, 1024]⟩
abbrev S128x8x6144 : Shape := ⟨3, ![128, 8, 6144]⟩
abbrev S128x8x256 : Shape := ⟨3, ![128, 8, 256]⟩
abbrev S1x128x128x4x64 : Shape := ⟨5, ![1, 128, 128, 4, 64]⟩
abbrev S128x128x4x64 : Shape := ⟨4, ![128, 128, 4, 64]⟩
abbrev S128x8x4x64 : Shape := ⟨4, ![128, 8, 4, 64]⟩
abbrev S128x136x4x64 : Shape := ⟨4, ![128, 136, 4, 64]⟩
abbrev S1x128x30x1024 : Shape := ⟨4, ![1, 128, 30, 1024]⟩
abbrev S128x30x1024 : Shape := ⟨3, ![128, 30, 1024]⟩
abbrev S_ : Shape := ⟨0, ![]⟩
abbrev S128x38x1024 : Shape := ⟨3, ![128, 38, 1024]⟩
abbrev S1x128x3x1024 : Shape := ⟨4, ![1, 128, 3, 1024]⟩
abbrev S128x3x1024 : Shape := ⟨3, ![128, 3, 1024]⟩
abbrev S128x11x1024 : Shape := ⟨3, ![128, 11, 1024]⟩
abbrev S1x4x1024 : Shape := ⟨3, ![1, 4, 1024]⟩
abbrev S4x1024 : Shape := ⟨2, ![4, 1024]⟩
abbrev S1x1024 : Shape := ⟨2, ![1, 1024]⟩
abbrev S1024 : Shape := ⟨1, ![1024]⟩
abbrev S1x1x1024 : Shape := ⟨3, ![1, 1, 1024]⟩
abbrev S128x8x16x64 : Shape := ⟨4, ![128, 8, 16, 64]⟩
abbrev S1x16x64x64 : Shape := ⟨4, ![1, 16, 64, 64]⟩
abbrev S16x64x64 : Shape := ⟨3, ![16, 64, 64]⟩
abbrev S16x64x128x8 : Shape := ⟨4, ![16, 64, 128, 8]⟩
abbrev S1x128x1024 : Shape := ⟨3, ![1, 128, 1024]⟩
abbrev S128x1024 : Shape := ⟨2, ![128, 1024]⟩
abbrev S128x1x1024 : Shape := ⟨3, ![128, 1, 1024]⟩
abbrev S128x128x256 : Shape := ⟨3, ![128, 128, 256]⟩

abbrev nBuf : Space → Nat
  | .hbm => 229
  | .vmem => 0
  | .smem => 0
  | _ => 0

abbrev hbmTy0_0 (i : Nat) : BufTy := match i % 128 with
  | 0 => ⟨S9472x11776, .bf16⟩
  | 1 => ⟨S2x16, .f32⟩
  | 2 => ⟨S2x128x128x4x64, .f32⟩
  | 3 => ⟨S2x128x128x4x64, .f32⟩
  | 4 => ⟨S2x128x30x1024, .f32⟩
  | 5 => ⟨S2x128x3x1024, .f32⟩
  | 6 => ⟨S2x128x1024, .f32⟩
  | 7 => ⟨S2x31x1024, .f32⟩
  | 8 => ⟨S2x1024, .f32⟩
  | 9 => ⟨S2x1024, .f32⟩
  | 10 => ⟨S2x1024, .f32⟩
  | 11 => ⟨S2x4x1024, .f32⟩
  | 12 => ⟨S2x1024, .f32⟩
  | 13 => ⟨S2x16x64x64, .f32⟩
  | 14 => ⟨S2x1024, .f32⟩
  | 15 => ⟨S2x16x64x64, .f32⟩
  | 16 => ⟨S2x1024, .f32⟩
  | 17 => ⟨S2x1024, .f32⟩
  | 18 => ⟨S256x128x256, .f32⟩
  | 19 => ⟨S256x128x256, .f32⟩
  | 20 => ⟨S256x30x1024, .f32⟩
  | 21 => ⟨S256x3x1024, .f32⟩
  | 22 => ⟨S256x1024, .f32⟩
  | 23 => ⟨S1024x11776, .bf16⟩
  | 24 => ⟨S1024x11776, .f32⟩
  | 25 => ⟨S128x8x11776, .f32⟩
  | 26 => ⟨S128x8x1024, .f32⟩
  | 27 => ⟨S128x8x1024, .f32⟩
  | 28 => ⟨S128x8x1024, .f32⟩
  | 29 => ⟨S128x8x1024, .f32⟩
  | 30 => ⟨S128x8x1024, .f32⟩
  | 31 => ⟨S128x8x6144, .f32⟩
  | 32 => ⟨S128x8x256, .f32⟩
  | 33 => ⟨S128x8x256, .f32⟩
  | 34 => ⟨S1x128x128x4x64, .f32⟩
  | 35 => ⟨S128x128x4x64, .f32⟩
  | 36 => ⟨S128x8x4x64, .f32⟩
  | 37 => ⟨S128x136x4x64, .f32⟩
  | 38 => ⟨S1x128x128x4x64, .f32⟩
  | 39 => ⟨S128x128x4x64, .f32⟩
  | 40 => ⟨S128x8x4x64, .f32⟩
  | 41 => ⟨S128x136x4x64, .f32⟩
  | 42 => ⟨S1x128x30x1024, .f32⟩
  | 43 => ⟨S128x30x1024, .f32⟩
  | 44 => ⟨S128x8x1024, .f32⟩
  | 45 => ⟨S128x8x1024, .f32⟩
  | 46 => ⟨S_, .f32⟩
  | 47 => ⟨S128x8x1024, .f32⟩
  | 48 => ⟨S128x8x1024, .f32⟩
  | 49 => ⟨S_, .f32⟩
  | 50 => ⟨S128x8x1024, .f32⟩
  | 51 => ⟨S128x8x1024, .f32⟩
  | 52 => ⟨S128x8x1024, .f32⟩
  | 53 => ⟨S128x38x1024, .f32⟩
  | 54 => ⟨S1x128x3x1024, .f32⟩
  | 55 => ⟨S128x3x1024, .f32⟩
  | 56 => ⟨S128x11x1024, .f32⟩
  | 57 => ⟨S1x4x1024, .f32⟩
  | 58 => ⟨S4x1024, .f32⟩
  | 59 => ⟨S1x1024, .f32⟩
  | 60 => ⟨S1024, .f32⟩
  | 61 => ⟨S_, .f32⟩
  | 62 => ⟨S128x8x1024, .f32⟩
  | 63 => ⟨S128x8x1024, .f32⟩
  | 64 => ⟨S1x1024, .f32⟩
  | 65 => ⟨S1024, .f32⟩
  | 66 => ⟨S1x1x1024, .f32⟩
  | 67 => ⟨S128x8x1024, .f32⟩
  | 68 => ⟨S128x8x1024, .f32⟩
  | 69 => ⟨S128x8x1024, .f32⟩
  | 70 => ⟨S128x8x1024, .f32⟩
  | 71 => ⟨S1x1024, .f32⟩
  | 72 => ⟨S1024, .f32⟩
  | 73 => ⟨S1x1x1024, .f32⟩
  | 74 => ⟨S128x8x1024, .f32⟩
  | 75 => ⟨S128x8x1024, .f32⟩
  | 76 => ⟨S128x8x1024, .f32⟩
  | 77 => ⟨S128x8x1024, .f32⟩
  | 78 => ⟨S1x1024, .f32⟩
  | 79 => ⟨S1024, .f32⟩
  | 80 => ⟨S1x1x1024, .f32⟩
  | 81 => ⟨S128x8x1024, .f32⟩
  | 82 => ⟨S128x8x1024, .f32⟩
  | 83 => ⟨S128x8x1024, .f32⟩
  | 84 => ⟨S128x8x1024, .f32⟩
  | 85 => ⟨S1x1024, .f32⟩
  | 86 => ⟨S1024, .f32⟩
  | 87 => ⟨S1x1x1024, .f32⟩
  | 88 => ⟨S128x8x1024, .f32⟩
  | 89 => ⟨S128x8x1024, .f32⟩
  | 90 => ⟨S128x8x1024, .f32⟩
  | 91 => ⟨S1x1x1024, .f32⟩
  | 92 => ⟨S128x8x1024, .f32⟩
  | 93 => ⟨S128x8x1024, .f32⟩
  | 94 => ⟨S128x8x16x64, .f32⟩
  | 95 => ⟨S1x16x64x64, .f32⟩
  | 96 => ⟨S16x64x64, .f32⟩
  | 97 => ⟨S16x64x128x8, .f32⟩
  | 98 => ⟨S128x8x16x64, .f32⟩
  | 99 => ⟨S128x8x1024, .f32⟩
  | 100 => ⟨S1x1024, .f32⟩
  | 101 => ⟨S1024, .f32⟩
  | 102 => ⟨S1x1x1024, .f32⟩
  | 103 => ⟨S128x8x1024, .f32⟩
  | 104 => ⟨S128x8x1024, .f32⟩
  | 105 => ⟨S128x8x1024, .f32⟩
  | 106 => ⟨S128x8x1024, .f32⟩
  | 107 => ⟨S_, .f32⟩
  | 108 => ⟨S128x8x1024, .f32⟩
  | 109 => ⟨S128x8x1024, .f32⟩
  | 110 => ⟨S_, .f32⟩
  | 111 => ⟨S128x8x1024, .f32⟩
  | 112 => ⟨S128x8x1024, .f32⟩
  | 113 => ⟨S1x16x64x64, .f32⟩
  | 114 => ⟨S16x64x64, .f32⟩
  | 115 => ⟨S16x64x128x8, .f32⟩
  | 116 => ⟨S128x8x16x64, .f32⟩
  | 117 => ⟨S128x8x1024, .f32⟩
  | 118 => ⟨S1x1024, .f32⟩
  | 119 => ⟨S1024, .f32⟩
  | 120 => ⟨S1x1x1024, .f32⟩
  | 121 => ⟨S128x8x1024, .f32⟩
  | 122 => ⟨S128x8x1024, .f32⟩
  | 123 => ⟨S128x8x1024, .f32⟩
  | 124 => ⟨S128x8x1024, .f32⟩
  | 125 => ⟨S_, .f32⟩
  | 126 => ⟨S128x8x1024, .f32⟩
  | 127 => ⟨S128x8x1024, .f32⟩
  | _ => ⟨S9472x11776, .bf16⟩

abbrev hbmTy0_1 (i : Nat) : BufTy := match i % 128 with
  | 0 => ⟨S_, .f32⟩
  | 1 => ⟨S128x8x1024, .f32⟩
  | 2 => ⟨S128x8x1024, .f32⟩
  | 3 => ⟨S_, .f32⟩
  | 4 => ⟨S128x8x1024, .f32⟩
  | 5 => ⟨S128x8x1024, .f32⟩
  | 6 => ⟨S1x1024, .f32⟩
  | 7 => ⟨S1024, .f32⟩
  | 8 => ⟨S1024, .f32⟩
  | 9 => ⟨S_, .f32⟩
  | 10 => ⟨S1024, .f32⟩
  | 11 => ⟨S1024, .f32⟩
  | 12 => ⟨S1024, .f32⟩
  | 13 => ⟨S1024, .f32⟩
  | 14 => ⟨S1024, .i1⟩
  | 15 => ⟨S1024, .f32⟩
  | 16 => ⟨S1024, .f32⟩
  | 17 => ⟨S1024, .f32⟩
  | 18 => ⟨S1024, .f32⟩
  | 19 => ⟨S1024, .f32⟩
  | 20 => ⟨S1024, .f32⟩
  | 21 => ⟨S1024, .f32⟩
  | 22 => ⟨S1024, .f32⟩
  | 23 => ⟨S1x1x1024, .f32⟩
  | 24 => ⟨S128x8x1024, .f32⟩
  | 25 => ⟨S128x8x1024, .f32⟩
  | 26 => ⟨S128x8x1024, .f32⟩
  | 27 => ⟨S_, .f32⟩
  | 28 => ⟨S128x8x1024, .f32⟩
  | 29 => ⟨S128x8x1024, .f32⟩
  | 30 => ⟨S128x8x1024, .f32⟩
  | 31 => ⟨S128x8x1024, .f32⟩
  | 32 => ⟨S128x8x1024, .f32⟩
  | 33 => ⟨S128x8x1024, .f32⟩
  | 34 => ⟨S128x8x1024, .f32⟩
  | 35 => ⟨S1x128x1024, .f32⟩
  | 36 => ⟨S128x1024, .f32⟩
  | 37 => ⟨S128x1x1024, .f32⟩
  | 38 => ⟨S128x1024, .f32⟩
  | 39 => ⟨S128x1024, .f32⟩
  | 40 => ⟨S128x1x1024, .f32⟩
  | 41 => ⟨S128x1024, .f32⟩
  | 42 => ⟨S128x1024, .f32⟩
  | 43 => ⟨S128x1x1024, .f32⟩
  | 44 => ⟨S128x1024, .f32⟩
  | 45 => ⟨S128x1024, .f32⟩
  | 46 => ⟨S128x1x1024, .f32⟩
  | 47 => ⟨S128x1024, .f32⟩
  | 48 => ⟨S128x1024, .f32⟩
  | 49 => ⟨S128x1x1024, .f32⟩
  | 50 => ⟨S128x1024, .f32⟩
  | 51 => ⟨S128x1024, .f32⟩
  | 52 => ⟨S128x1x1024, .f32⟩
  | 53 => ⟨S128x1024, .f32⟩
  | 54 => ⟨S128x1024, .f32⟩
  | 55 => ⟨S128x1x1024, .f32⟩
  | 56 => ⟨S128x1024, .f32⟩
  | 57 => ⟨S128x1024, .f32⟩
  | 58 => ⟨S128x1x1024, .f32⟩
  | 59 => ⟨S128x1024, .f32⟩
  | 60 => ⟨S128x1024, .f32⟩
  | 61 => ⟨S128x1x1024, .f32⟩
  | 62 => ⟨S128x1024, .f32⟩
  | 63 => ⟨S128x1024, .f32⟩
  | 64 => ⟨S128x1x1024, .f32⟩
  | 65 => ⟨S128x1024, .f32⟩
  | 66 => ⟨S128x1024, .f32⟩
  | 67 => ⟨S128x1x1024, .f32⟩
  | 68 => ⟨S128x1024, .f32⟩
  | 69 => ⟨S128x1024, .f32⟩
  | 70 => ⟨S128x1x1024, .f32⟩
  | 71 => ⟨S128x1024, .f32⟩
  | 72 => ⟨S128x1024, .f32⟩
  | 73 => ⟨S128x1x1024, .f32⟩
  | 74 => ⟨S128x1024, .f32⟩
  | 75 => ⟨S128x1024, .f32⟩
  | 76 => ⟨S128x1x1024, .f32⟩
  | 77 => ⟨S128x1024, .f32⟩
  | 78 => ⟨S128x1024, .f32⟩
  | 79 => ⟨S128x1x1024, .f32⟩
  | 80 => ⟨S128x1024, .f32⟩
  | 81 => ⟨S128x1024, .f32⟩
  | 82 => ⟨S128x1x1024, .f32⟩
  | 83 => ⟨S128x1024, .f32⟩
  | 84 => ⟨S128x1024, .f32⟩
  | 85 => ⟨S128x128x4x64, .f32⟩
  | 86 => ⟨S128x128x256, .f32⟩
  | 87 => ⟨S128x128x256, .f32⟩
  | 88 => ⟨S256x128x256, .f32⟩
  | 89 => ⟨S128x128x4x64, .f32⟩
  | 90 => ⟨S128x128x256, .f32⟩
  | 91 => ⟨S128x128x256, .f32⟩
  | 92 => ⟨S256x128x256, .f32⟩
  | 93 => ⟨S128x30x1024, .f32⟩
  | 94 => ⟨S128x30x1024, .f32⟩
  | 95 => ⟨S256x30x1024, .f32⟩
  | 96 => ⟨S128x3x1024, .f32⟩
  | 97 => ⟨S128x3x1024, .f32⟩
  | 98 => ⟨S256x3x1024, .f32⟩
  | 99 => ⟨S128x1024, .f32⟩
  | 100 => ⟨S256x1024, .f32⟩
  | _ => ⟨S9472x11776, .bf16⟩

abbrev hbmTy (i : Nat) : BufTy := match i / 128 with
  | 0 => hbmTy0_0 i
  | 1 => hbmTy0_1 i
  | _ => ⟨S9472x11776, .bf16⟩

abbrev bufTy : (tb : Table) → Fin (tcTables nBuf tb) → BufTy
  | .hbm, ⟨i, _⟩ => hbmTy i
  | _, _ => ⟨S9472x11776, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst : Ref sig .tc := ⟨.hbm, 46, rfl⟩
abbrev main_v23 : Ref sig .tc := ⟨.hbm, 47, rfl⟩
abbrev main_v24 : Ref sig .tc := ⟨.hbm, 48, rfl⟩
abbrev main_cst_0 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_1 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_cst_2 : Ref sig .tc := ⟨.hbm, 107, rfl⟩
abbrev main_v81 : Ref sig .tc := ⟨.hbm, 108, rfl⟩
abbrev main_v82 : Ref sig .tc := ⟨.hbm, 109, rfl⟩
abbrev main_cst_3 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_cst_4 : Ref sig .tc := ⟨.hbm, 125, rfl⟩
abbrev main_v97 : Ref sig .tc := ⟨.hbm, 126, rfl⟩
abbrev main_v98 : Ref sig .tc := ⟨.hbm, 127, rfl⟩
abbrev main_cst_5 : Ref sig .tc := ⟨.hbm, 128, rfl⟩
abbrev main_v99 : Ref sig .tc := ⟨.hbm, 129, rfl⟩
abbrev main_v100 : Ref sig .tc := ⟨.hbm, 130, rfl⟩
abbrev main_cst_6 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_call0_cst : Ref sig .tc := ⟨.hbm, 137, rfl⟩
abbrev main_call0_v0 : Ref sig .tc := ⟨.hbm, 138, rfl⟩
abbrev main_call0_v1 : Ref sig .tc := ⟨.hbm, 139, rfl⟩
abbrev main_call0_v2 : Ref sig .tc := ⟨.hbm, 140, rfl⟩
abbrev main_call0_v3 : Ref sig .tc := ⟨.hbm, 141, rfl⟩
abbrev main_call0_v4 : Ref sig .tc := ⟨.hbm, 142, rfl⟩
abbrev main_call0_v5 : Ref sig .tc := ⟨.hbm, 143, rfl⟩
abbrev main_call0_v6 : Ref sig .tc := ⟨.hbm, 144, rfl⟩
abbrev main_call0_v7 : Ref sig .tc := ⟨.hbm, 145, rfl⟩
abbrev main_call0_v8 : Ref sig .tc := ⟨.hbm, 146, rfl⟩
abbrev main_call0_v9 : Ref sig .tc := ⟨.hbm, 147, rfl⟩
abbrev main_call0_v10 : Ref sig .tc := ⟨.hbm, 148, rfl⟩
abbrev main_call0_v11 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_cst_7 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_v177 : Ref sig .tc := ⟨.hbm, 222, rfl⟩
abbrev main_v178 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_v182 : Ref sig .tc := ⟨.hbm, 227, rfl⟩
abbrev main_v183 : Ref sig .tc := ⟨.hbm, 228, rfl⟩

abbrev nD : Nat := 1
abbrev τ : Topo := Topo.v7x

variable {F : FTy → Type} [FloatOps F]
-- ==== InLast.lean ====
abbrev S9472x2048 : Shape := ⟨2, ![9472, 2048]⟩
abbrev S2048x11776 : Shape := ⟨2, ![2048, 11776]⟩
abbrev S9472x11776 : Shape := ⟨2, ![9472, 11776]⟩
abbrev S1184x2048 : Shape := ⟨2, ![1184, 2048]⟩
abbrev S2048x512 : Shape := ⟨2, ![2048, 512]⟩
abbrev S1184x512 : Shape := ⟨2, ![1184, 512]⟩
abbrev S2368x2048 : Shape := ⟨2, ![2368, 2048]⟩
abbrev S2368x512 : Shape := ⟨2, ![2368, 512]⟩
abbrev S128x512 : Shape := ⟨2, ![128, 512]⟩
abbrev S1x128x512 : Shape := ⟨3, ![1, 128, 512]⟩
abbrev S2x128x512 : Shape := ⟨3, ![2, 128, 512]⟩
abbrev S2x128x256 : Shape := ⟨3, ![2, 128, 256]⟩
abbrev S2x128x4x64 : Shape := ⟨4, ![2, 128, 4, 64]⟩
abbrev S1x2x128x4x64 : Shape := ⟨5, ![1, 2, 128, 4, 64]⟩
abbrev S2x2x128x4x64 : Shape := ⟨5, ![2, 2, 128, 4, 64]⟩

abbrev nBuf : Space → Nat
  | .hbm => 32
  | .vmem => 12
  | .smem => 0
  | _ => 0

abbrev bufTy : (tb : Table) → Fin (tcTables nBuf tb) → BufTy
  | .hbm, ⟨0, _⟩ => ⟨S9472x2048, .bf16⟩
  | .hbm, ⟨1, _⟩ => ⟨S2048x11776, .bf16⟩
  | .hbm, ⟨2, _⟩ => ⟨S9472x2048, .bf16⟩
  | .hbm, ⟨3, _⟩ => ⟨S2048x11776, .bf16⟩
  | .hbm, ⟨4, _⟩ => ⟨S9472x11776, .bf16⟩
  | .hbm, ⟨5, _⟩ => ⟨S9472x11776, .bf16⟩
  | .hbm, ⟨6, _⟩ => ⟨S128x512, .bf16⟩
  | .hbm, ⟨7, _⟩ => ⟨S128x512, .bf16⟩
  | .hbm, ⟨8, _⟩ => ⟨S1x128x512, .bf16⟩
  | .hbm, ⟨9, _⟩ => ⟨S1x128x512, .bf16⟩
  | .hbm, ⟨10, _⟩ => ⟨S2x128x512, .bf16⟩
  | .hbm, ⟨11, _⟩ => ⟨S2x128x512, .f32⟩
  | .hbm, ⟨12, _⟩ => ⟨S2x128x256, .f32⟩
  | .hbm, ⟨13, _⟩ => ⟨S2x128x4x64, .f32⟩
  | .hbm, ⟨14, _⟩ => ⟨S2x128x256, .f32⟩
  | .hbm, ⟨15, _⟩ => ⟨S2x128x4x64, .f32⟩
  | .hbm, ⟨16, _⟩ => ⟨S128x512, .bf16⟩
  | .hbm, ⟨17, _⟩ => ⟨S128x512, .bf16⟩
  | .hbm, ⟨18, _⟩ => ⟨S1x128x512, .bf16⟩
  | .hbm, ⟨19, _⟩ => ⟨S1x128x512, .bf16⟩
  | .hbm, ⟨20, _⟩ => ⟨S2x128x512, .bf16⟩
  | .hbm, ⟨21, _⟩ => ⟨S2x128x512, .f32⟩
  | .hbm, ⟨22, _⟩ => ⟨S2x128x256, .f32⟩
  | .hbm, ⟨23, _⟩ => ⟨S2x128x4x64, .f32⟩
  | .hbm, ⟨24, _⟩ => ⟨S2x128x256, .f32⟩
  | .hbm, ⟨25, _⟩ => ⟨S2x128x4x64, .f32⟩
  | .hbm, ⟨26, _⟩ => ⟨S1x2x128x4x64, .f32⟩
  | .hbm, ⟨27, _⟩ => ⟨S1x2x128x4x64, .f32⟩
  | .hbm, ⟨28, _⟩ => ⟨S2x2x128x4x64, .f32⟩
  | .hbm, ⟨29, _⟩ => ⟨S1x2x128x4x64, .f32⟩
  | .hbm, ⟨30, _⟩ => ⟨S1x2x128x4x64, .f32⟩
  | .hbm, ⟨31, _⟩ => ⟨S2x2x128x4x64, .f32⟩
  | .local _ .vmem, ⟨0, _⟩ => ⟨S1184x2048, .bf16⟩
  | .local _ .vmem, ⟨1, _⟩ => ⟨S1184x2048, .bf16⟩
  | .local _ .vmem, ⟨2, _⟩ => ⟨S2048x512, .bf16⟩
  | .local _ .vmem, ⟨3, _⟩ => ⟨S2048x512, .bf16⟩
  | .local _ .vmem, ⟨4, _⟩ => ⟨S1184x512, .bf16⟩
  | .local _ .vmem, ⟨5, _⟩ => ⟨S1184x512, .bf16⟩
  | .local _ .vmem, ⟨6, _⟩ => ⟨S2368x2048, .bf16⟩
  | .local _ .vmem, ⟨7, _⟩ => ⟨S2368x2048, .bf16⟩
  | .local _ .vmem, ⟨8, _⟩ => ⟨S2048x512, .bf16⟩
  | .local _ .vmem, ⟨9, _⟩ => ⟨S2048x512, .bf16⟩
  | .local _ .vmem, ⟨10, _⟩ => ⟨S2368x512, .bf16⟩
  | .local _ .vmem, ⟨11, _⟩ => ⟨S2368x512, .bf16⟩
  | _, _ => ⟨S9472x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![8, 23], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg1 c2_i32
  let c22_i32 : BitVec 32 := 22#32
  let v1 : BitVec 1 := Scalar.cmpi .slt arg1 c22_i32
  let c1_i32 : BitVec 32 := 1#32
  let v2 : BitVec 32 := Scalar.addi arg1 c1_i32
  let c2_i32_0 : BitVec 32 := 2#32
  let v3 : BitVec 32 := Scalar.select v1 v2 c2_i32_0
  let v4 : BitVec 32 := Scalar.select v0 arg1 v3
  let c0_i32 : BitVec 32 := 0#32
  let c0_i32_1 : BitVec 32 := 0#32
  ![c0_i32.toNat, v4.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1184x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1184x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 23], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg1 c2_i32
  let c22_i32 : BitVec 32 := 22#32
  let v1 : BitVec 1 := Scalar.cmpi .slt arg1 c22_i32
  let c1_i32 : BitVec 32 := 1#32
  let v2 : BitVec 32 := Scalar.addi arg1 c1_i32
  let c2_i32_0 : BitVec 32 := 2#32
  let v3 : BitVec 32 := Scalar.select v1 v2 c2_i32_0
  let v4 : BitVec 32 := Scalar.select v0 arg1 v3
  let c0_i32 : BitVec 32 := 0#32
  let c0_i32_1 : BitVec 32 := 0#32
  ![c0_i32.toNat, v4.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S2368x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2368x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== InLastRefIdeal.lean ====
abbrev S9472x2048 : Shape := ⟨2, ![9472, 2048]⟩
abbrev S2048x11776 : Shape := ⟨2, ![2048, 11776]⟩
abbrev S9472x11776 : Shape := ⟨2, ![9472, 11776]⟩
abbrev S8448x11776 : Shape := ⟨2, ![8448, 11776]⟩
abbrev S2x4224x11776 : Shape := ⟨3, ![2, 4224, 11776]⟩
abbrev S2x128x11776 : Shape := ⟨3, ![2, 128, 11776]⟩
abbrev S2x128x256 : Shape := ⟨3, ![2, 128, 256]⟩
abbrev S2x128x4x64 : Shape := ⟨4, ![2, 128, 4, 64]⟩
abbrev S1x2x128x4x64 : Shape := ⟨5, ![1, 2, 128, 4, 64]⟩
abbrev S2x2x128x4x64 : Shape := ⟨5, ![2, 2, 128, 4, 64]⟩

abbrev nBuf : Space → Nat
  | .hbm => 30
  | .vmem => 0
  | .smem => 0
  | _ => 0

abbrev bufTy : (tb : Table) → Fin (tcTables nBuf tb) → BufTy
  | .hbm, ⟨0, _⟩ => ⟨S9472x2048, .bf16⟩
  | .hbm, ⟨1, _⟩ => ⟨S2048x11776, .bf16⟩
  | .hbm, ⟨2, _⟩ => ⟨S9472x2048, .bf16⟩
  | .hbm, ⟨3, _⟩ => ⟨S2048x11776, .bf16⟩
  | .hbm, ⟨4, _⟩ => ⟨S9472x2048, .f32⟩
  | .hbm, ⟨5, _⟩ => ⟨S2048x11776, .f32⟩
  | .hbm, ⟨6, _⟩ => ⟨S9472x11776, .f32⟩
  | .hbm, ⟨7, _⟩ => ⟨S8448x11776, .f32⟩
  | .hbm, ⟨8, _⟩ => ⟨S2x4224x11776, .f32⟩
  | .hbm, ⟨9, _⟩ => ⟨S2x128x11776, .f32⟩
  | .hbm, ⟨10, _⟩ => ⟨S2x128x256, .f32⟩
  | .hbm, ⟨11, _⟩ => ⟨S2x128x4x64, .f32⟩
  | .hbm, ⟨12, _⟩ => ⟨S2x128x256, .f32⟩
  | .hbm, ⟨13, _⟩ => ⟨S2x128x4x64, .f32⟩
  | .hbm, ⟨14, _⟩ => ⟨S9472x2048, .f32⟩
  | .hbm, ⟨15, _⟩ => ⟨S2048x11776, .f32⟩
  | .hbm, ⟨16, _⟩ => ⟨S9472x11776, .f32⟩
  | .hbm, ⟨17, _⟩ => ⟨S8448x11776, .f32⟩
  | .hbm, ⟨18, _⟩ => ⟨S2x4224x11776, .f32⟩
  | .hbm, ⟨19, _⟩ => ⟨S2x128x11776, .f32⟩
  | .hbm, ⟨20, _⟩ => ⟨S2x128x256, .f32⟩
  | .hbm, ⟨21, _⟩ => ⟨S2x128x4x64, .f32⟩
  | .hbm, ⟨22, _⟩ => ⟨S2x128x256, .f32⟩
  | .hbm, ⟨23, _⟩ => ⟨S2x128x4x64, .f32⟩
  | .hbm, ⟨24, _⟩ => ⟨S1x2x128x4x64, .f32⟩
  | .hbm, ⟨25, _⟩ => ⟨S1x2x128x4x64, .f32⟩
  | .hbm, ⟨26, _⟩ => ⟨S2x2x128x4x64, .f32⟩
  | .hbm, ⟨27, _⟩ => ⟨S1x2x128x4x64, .f32⟩
  | .hbm, ⟨28, _⟩ => ⟨S1x2x128x4x64, .f32⟩
  | .hbm, ⟨29, _⟩ => ⟨S2x2x128x4x64, .f32⟩
  | _, _ => ⟨S9472x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩

abbrev nD : Nat := 1
abbrev τ : Topo := Topo.v7x

variable {F : FTy → Type} [FloatOps F]
-- ==== Proof.Tile.lean ====
/- Words and indices the tiled products share: a tile's number as a word, the last used tile, an expert's number. -/
module

public import Idealize.ShloMosaic.Lib.Pipeline.ValueKit
public import Idealize.ShloMosaic.Lib.WordCmp
public import Idealize.ShloMosaic.Lib.Affine
public import Idealize.ShloMosaic.Lib.ReduceAll

@[expose] public section

namespace Cert.Tile

open Idealize.ShloMosaic

/-- The row block an index map takes: the tile's own, the last used one for an idle tile. -/
theorem used_lt (n : ℕ) (hn : n < 80) (w : BitVec 32) (hw : 1 ≤ w.toInt) :
    (Scalar.minsi (BitVec.ofNat 32 n) (Scalar.subi w 1#32)).toNat < 80 := by
  have e : (BitVec.ofNat 32 n).toInt = n := by rw [BitVec.toInt_eq_toNat_of_lt] <;> simp <;> omega
  unfold Scalar.minsi Scalar.subi IntOp.minsi IntOp.subi
  rw [BitVec.toInt_eq_toNat_cond] at hw
  have := w.isLt
  split_ifs at hw with h1
  · have e2 : (w - 1#32).toNat = w.toNat - 1 := by
      rw [BitVec.toNat_sub]; simp; omega
    have e3 : (w - 1#32).toInt = (w.toNat - 1 : ℕ) := by rw [BitVec.toInt_eq_toNat_of_lt] <;> omega
    split_ifs with h
    · rw [BitVec.toNat_ofNat]; omega
    · simp only [BitVec.slt, e, e3, decide_eq_true_eq] at h; rw [e2]; omega
  · omega

theorem used_eq (n : ℕ) (hn : n < 80) (w : BitVec 32) (hw : (n : ℤ) < w.toInt) :
    (Scalar.minsi (BitVec.ofNat 32 n) (Scalar.subi w 1#32)).toNat = n := by
  have e : (BitVec.ofNat 32 n).toInt = n := by rw [BitVec.toInt_eq_toNat_of_lt] <;> simp <;> omega
  unfold Scalar.minsi Scalar.subi IntOp.minsi IntOp.subi
  rw [BitVec.toInt_eq_toNat_cond] at hw
  have := w.isLt
  split_ifs at hw with h1
  · have e2 : (w - 1#32).toNat = w.toNat - 1 := by
      rw [BitVec.toNat_sub]; simp; omega
    have e3 : (w - 1#32).toInt = (w.toNat - 1 : ℕ) := by rw [BitVec.toInt_eq_toNat_of_lt] <;> omega
    split_ifs with h
    · rw [BitVec.toNat_ofNat]; omega
    · simp only [BitVec.slt, e, e3, decide_eq_true_eq] at h; rw [e2]; omega
  · omega

/-- One row of a grid coordinate as a word read back. -/
theorem word_lt (n : ℕ) (hn : n < 80) : (Scalar.indexCast (BitVec.ofNat 32 n)).toNat = n := by
  simp [Scalar.indexCast]; omega

theorem ext2 {n0 n1 : ℕ} (f g : (⟨2, ![n0, n1]⟩ : Shape).Idx) (h0 : (f 0).val = (g 0).val) (h1 : (f 1).val = (g 1).val) : f = g := by
  funext a
  match a with
  | 0 => exact Fin.ext h0
  | 1 => exact Fin.ext h1

theorem ext4 {n0 n1 n2 n3 : ℕ} (f g : (⟨4, ![n0, n1, n2, n3]⟩ : Shape).Idx) (h0 : (f 0).val = (g 0).val) (h1 : (f 1).val = (g 1).val)
    (h2 : (f 2).val = (g 2).val) (h3 : (f 3).val = (g 3).val) : f = g := by
  funext a
  match a with
  | 0 => exact Fin.ext h0
  | 1 => exact Fin.ext h1
  | 2 => exact Fin.ext h2
  | 3 => exact Fin.ext h3

theorem cmp_iff (n : ℕ) (hn : n < 80) (v : BitVec 32) : IntOp.cmpi .slt (BitVec.ofNat 32 n) v = 1#1 ↔ (n : ℤ) < v.toInt := by
  have e : (BitVec.ofNat 32 n).toInt = n := by rw [BitVec.toInt_eq_toNat_of_lt] <;> simp <;> omega
  rw [WordCmp.cmpi_slt_eq, WordCmp.ofBool_decide_eq_one_iff, e]

/-- The body's condition in words: the tile's number below the count of used tiles. -/
theorem cond_iff (n : ℕ) (hn : n < 80) (v : BitVec 32) :
    (Scalar.cmpi .ne (Scalar.extui (Scalar.cmpi .slt (BitVec.ofNat 32 n) v) : BitVec 32) 0#32 = 1#1) ↔ (n : ℤ) < v.toInt := by
  have b : ∀ b : BitVec 1, (Scalar.cmpi .ne (Scalar.extui b : BitVec 32) 0#32 = 1#1) ↔ b = 1#1 := by decide
  rw [b]
  exact cmp_iff n hn v

theorem word_fin (w : BitVec 32) (h : w.toNat < 8) : ∃ e : Fin 8, w = BitVec.ofNat 32 e := ⟨⟨w.toNat, h⟩, by simp⟩

/-- A word read as a number in range, from the two comparisons a precondition makes of it. -/
theorem range_word (w : BitVec 32) (h0 : IntOp.cmpi .sge w 0#32 = 1#1) (h8 : IntOp.cmpi .slt w 8#32 = 1#1) : w.toNat < 8 := by
  rw [WordCmp.cmpi_sge_eq, WordCmp.ofBool_decide_eq_one_iff] at h0
  rw [WordCmp.cmpi_slt_eq, WordCmp.ofBool_decide_eq_one_iff] at h8
  have e0 : (0#32 : BitVec 32).toInt = 0 := by decide
  have e8 : (8#32 : BitVec 32).toInt = 8 := by decide
  rw [e0] at h0
  rw [e8] at h8
  rw [BitVec.toInt_eq_toNat_cond] at h0 h8
  have := w.isLt
  split_ifs at h0 h8 <;> omega

/-- A word at least one, from the comparison a precondition makes of it. -/
theorem one_word (w : BitVec 32) (h : IntOp.cmpi .sge w 1#32 = 1#1) : 1 ≤ w.toInt := by
  rw [WordCmp.cmpi_sge_eq, WordCmp.ofBool_decide_eq_one_iff] at h
  have e : (1#32 : BitVec 32).toInt = 1 := by decide
  rwa [e] at h

theorem andi_one (a b : BitVec 1) : IntOp.andi a b = 1#1 ↔ a = 1#1 ∧ b = 1#1 := by revert a b; decide

end Cert.Tile
-- ==== Proof.MoeOk.lean ====
/- The experts' programs under their precondition: the tables' words in range, so every block lies inside its array. -/
module

public import proofs.«01_k».proof.Proof.Gen.MoeUp.Frame
public import proofs.«01_k».proof.Proof.Gen.MoeDown.Frame
public import proofs.«01_k».proof.Proof.Gen.Pre_in_range
public import proofs.«01_k».proof.Proof.Gen.Pre_in_range2
public import proofs.«01_k».proof.Proof.Tile
public import Idealize.ShloMosaic.Lib.Pointwise

@[expose] public section

set_option maxRecDepth 16384

noncomputable section

open Idealize.ShloMosaic Idealize.ShloMosaic.TcCoe Idealize.SL.Sem

/-- What the precondition of `MoeUp` says of its two tables. -/
theorem Cert.Pre_in_range.words {F : FTy → Type} [FloatOps F] (x w1 w3 te nu) (h : Cert.Pre_in_range.fn (F := F) x w1 w3 te nu = fun _ => 1#1) :
    (∀ n : Fin 80, BitVec.toNat (w := 32) (te (ix1 n)) < 8) ∧ 1 ≤ BitVec.toInt (n := 32) (nu (ix1 0)) := by
  have h := congrFun h ix0
  dsimp only [Cert.Pre_in_range.fn, andi] at h
  obtain ⟨h, hn⟩ := (Cert.Tile.andi_one _ _).1 h
  obtain ⟨h0, h8⟩ := (Cert.Tile.andi_one _ _).1 h
  haveI : Subsingleton Cert.Pre_in_range.S_.Idx := ⟨fun a b => funext fun i => i.elim0⟩
  refine ⟨fun n => Cert.Tile.range_word _ ?_ ?_, Cert.Tile.one_word _ ?_⟩
  · exact Host.reduce_andi_all _ _ _ _ _ h0 (ix1 n)
  · exact Host.reduce_andi_all _ _ _ _ _ h8 (ix1 n)
  · exact Host.reduce_andi_all _ _ _ _ _ hn (ix1 0)

/-- What the precondition of `MoeDown` says of its two tables. -/
theorem Cert.Pre_in_range2.words {F : FTy → Type} [FloatOps F] (x w te nu) (h : Cert.Pre_in_range2.fn (F := F) x w te nu = fun _ => 1#1) :
    (∀ n : Fin 80, BitVec.toNat (w := 32) (te (ix1 n)) < 8) ∧ 1 ≤ BitVec.toInt (n := 32) (nu (ix1 0)) := by
  have h := congrFun h ix0
  dsimp only [Cert.Pre_in_range2.fn, andi] at h
  obtain ⟨h, hn⟩ := (Cert.Tile.andi_one _ _).1 h
  obtain ⟨h0, h8⟩ := (Cert.Tile.andi_one _ _).1 h
  haveI : Subsingleton Cert.Pre_in_range2.S_.Idx := ⟨fun a b => funext fun i => i.elim0⟩
  refine ⟨fun n => Cert.Tile.range_word _ ?_ ?_, Cert.Tile.one_word _ ?_⟩
  · exact Host.reduce_andi_all _ _ _ _ _ h0 (ix1 n)
  · exact Host.reduce_andi_all _ _ _ _ _ h8 (ix1 n)
  · exact Host.reduce_andi_all _ _ _ _ _ hn (ix1 0)

namespace Cert.MoeUp.Point

open Cert.MoeUp Cert.MoeUp.Gen Cert.Tile

variable {F : FTy → Type} [FloatOps F]

theorem at0 (pf : pre0.Contents (Elt F)) (n : ℕ) (h h') (hn : n < 80) :
   pf.at 0 (Rect.unit (s := S80) ![n] S1.size h) h' = pf 0 (ix1 ⟨n, hn⟩) := by
  apply congrArg (pf 0)
  idx_ext

theorem at1 (pf : pre0.Contents (Elt F)) (h h') :
   pf.at 1 (Rect.unit (s := S1) ![0] S1.size h) h' = pf 1 (ix1 0) := by
  apply congrArg (pf 1)
  idx_ext

/-- The tables' words in range put every window's block inside its array. -/
theorem ok_of_range (pf : pre0.Contents (Elt F)) (hte : ∀ n : Fin 80, BitVec.toNat (w := 32) (pf 0 (ix1 n)) < 8)
    (hnu : 1 ≤ BitVec.toInt (n := 32) (pf 1 (ix1 0))) : ok0 pf := by
  refine ⟨fun i => ⟨?_, .inl rfl⟩, fun i => ⟨?_, .inr (Affine.block_words_dvd (of_decide_eq_true rfl) (by decide))⟩, fun i => ⟨?_, .inr (Affine.block_words_dvd (of_decide_eq_true rfl) (by decide))⟩⟩
  · intro a
    unfold cc0_transform_0
    have h1 : (i 1).val < 80 := (i 1).isLt
    have := used_lt _ h1 _ hnu
    dsimp only
    rw [at1]
    · fin_cases a <;> simp <;> omega
    · rfl
  all_goals
    intro a
    first | unfold cc0_transform_1 | unfold cc0_transform_2
    have h0 : (i 0).val < 4 := (i 0).isLt
    have h1 : (i 1).val < 80 := (i 1).isLt
    have := hte ⟨_, h1⟩
    dsimp only
    simp only [word_lt _ h1]
    rw [at0 (hn := h1)]
    fin_cases a
    · simp
    · simp only [BitVec.toNat_ofNat] at *; exact (by omega : ∀ k < 8, (k + 1) * 1 ≤ 8) _ this
    · simp
    · simp; omega

end Cert.MoeUp.Point

namespace Cert.MoeDown.Point

open Cert.MoeDown Cert.MoeDown.Gen Cert.Tile

variable {F : FTy → Type} [FloatOps F]

theorem at0 (pf : pre0.Contents (Elt F)) (n : ℕ) (h h') (hn : n < 80) :
   pf.at 0 (Rect.unit (s := S80) ![n] S1.size h) h' = pf 0 (ix1 ⟨n, hn⟩) := by
  apply congrArg (pf 0)
  idx_ext

theorem at1 (pf : pre0.Contents (Elt F)) (h h') :
   pf.at 1 (Rect.unit (s := S1) ![0] S1.size h) h' = pf 1 (ix1 0) := by
  apply congrArg (pf 1)
  idx_ext

/-- The tables' words in range put every window's block inside its array. -/
theorem ok_of_range (pf : pre0.Contents (Elt F)) (hte : ∀ n : Fin 80, BitVec.toNat (w := 32) (pf 0 (ix1 n)) < 8)
    (hnu : 1 ≤ BitVec.toInt (n := 32) (pf 1 (ix1 0))) : ok0 pf := by
  refine ⟨fun i => ⟨?_, .inr (Affine.block_words_dvd (of_decide_eq_true rfl) (by decide))⟩, fun i => ⟨?_, .inr (Affine.block_words_dvd (of_decide_eq_true rfl) (by decide))⟩⟩
  · intro a
    unfold cc0_transform_0
    have h1 : (i 1).val < 80 := (i 1).isLt
    have := used_lt _ h1 _ hnu
    dsimp only
    rw [at1]
    · fin_cases a <;> simp <;> omega
    · rfl
  · intro a
    unfold cc0_transform_1
    have h0 : (i 0).val < 2 := (i 0).isLt
    have h1 : (i 1).val < 80 := (i 1).isLt
    have := hte ⟨_, h1⟩
    dsimp only
    simp only [word_lt _ h1]
    rw [at0 (hn := h1)]
    fin_cases a
    · simp
    · simp only [BitVec.toNat_ofNat] at *; exact (by omega : ∀ k < 8, (k + 1) * 1 ≤ 8) _ this
    · simp
    · simp; omega

end Cert.MoeDown.Point

end
-- ==== Proof.MoeUp.lean ====
/- The value of the experts' first half: each tile of rows gets its own expert's gated product, an idle tile zeros. -/
module

public import proofs.«01_k».proof.Proof.Gen.MoeUpIdeal.Frame
public import proofs.«01_k».proof.Proof.Gen.MoeUpRefIdeal
public import proofs.«01_k».proof.Proof.Tile
public import Idealize.ShloMosaic.Lib.Pipeline.ValueKit
public import Idealize.ShloMosaic.Lib.Pipeline.Covers
public import Idealize.ShloMosaic.Lib.Pointwise
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.MoeUpIdeal.Point

open Cert.MoeUpIdeal Cert.MoeUpIdeal.Gen Cert.Tile

variable {F : FTy → Type} [FloatOps F]
variable (m : (ℓ : Loc nD τ sig) → Buf (Elt Ideal) ℓ)
/-- Each row's expert as the reference computes it: its tile's table word, −1 for an idle tile. -/
def rowExpert (te : IVec Cert.MoeUpRefIdeal.S80 32) (nu : IVec Cert.MoeUpRefIdeal.S1 32) : IVec Cert.MoeUpRefIdeal.S20480 32 :=
  shapeCast _ (broadcastInDim Cert.MoeUpRefIdeal.S80x256 ![0, 1] Cert.MoeUpRefIdeal.Gen.bcast_S80x1_S80x256_0_1 (broadcastInDim Cert.MoeUpRefIdeal.S80x1 ![0] Cert.MoeUpRefIdeal.Gen.bcast_S80_S80x1_0 (select (cmpi .slt (iotaInDim Cert.MoeUpRefIdeal.S80 32 0) (broadcastInDim Cert.MoeUpRefIdeal.S80 ![] Cert.MoeUpRefIdeal.Gen.bcast_S_S80 (shapeCast _ nu Cert.MoeUpRefIdeal.Gen.shapeCasts_S1_S_))) te (broadcastInDim Cert.MoeUpRefIdeal.S80 ![] Cert.MoeUpRefIdeal.Gen.bcast_S_S80 (id (constantI Cert.MoeUpRefIdeal.S_ 32 4294967295#32)))))) Cert.MoeUpRefIdeal.Gen.shapeCasts_S80x256_S20480

/-- One weight array's projection of all rows by the expert the slice takes. -/
def proj (x : FVec Ideal Cert.MoeUpRefIdeal.S20480x2048 .f32) (w : FVec Ideal Cert.MoeUpRefIdeal.S1x8x2048x5632 .bf16) (e : ℕ)
    (h : Cert.MoeUpRefIdeal.S1x8x2048x5632.Slices ![0, e, 0, 0] Cert.MoeUpRefIdeal.S1x1x2048x5632) : FVec Ideal Cert.MoeUpRefIdeal.S20480x5632 .f32 :=
  Host.dotGeneral Cert.MoeUpRefIdeal.dot_S20480x2048_S2048x5632_S20480x5632_1_0_0_1_n_n none x (extf .f32 (shapeCast _ (extractStridedSlice Cert.MoeUpRefIdeal.S1x1x2048x5632 ![0, e, 0, 0] w h) Cert.MoeUpRefIdeal.Gen.shapeCasts_S1x1x2048x5632_S2048x5632) Cert.MoeUpRefIdeal.Gen.bitsLt_bf16_f32)

/-- One step of the reference's loop over the experts: the rows of expert `e` get its gated product. -/
def layer (x : FVec Ideal Cert.MoeUpRefIdeal.S20480x2048 .f32) (w1 w3 : FVec Ideal Cert.MoeUpRefIdeal.S1x8x2048x5632 .bf16)
    (r : IVec Cert.MoeUpRefIdeal.S20480 32) (e : ℕ) (word : BitVec 32)
    (h : Cert.MoeUpRefIdeal.S1x8x2048x5632.Slices ![0, e, 0, 0] Cert.MoeUpRefIdeal.S1x1x2048x5632)
    (rest : FVec Ideal Cert.MoeUpRefIdeal.S20480x5632 .f32) : FVec Ideal Cert.MoeUpRefIdeal.S20480x5632 .f32 :=
  select (broadcastInDim Cert.MoeUpRefIdeal.S20480x5632 ![0, 1] Cert.MoeUpRefIdeal.Gen.bcast_S20480x1_S20480x5632_0_1 (broadcastInDim Cert.MoeUpRefIdeal.S20480x1 ![0] Cert.MoeUpRefIdeal.Gen.bcast_S20480_S20480x1_0 (cmpi .eq r (broadcastInDim Cert.MoeUpRefIdeal.S20480 ![] Cert.MoeUpRefIdeal.Gen.bcast_S_S20480 (constantI Cert.MoeUpRefIdeal.S_ 32 word))))) (mulf (mulf (proj x w1 e h) (Host.divf (broadcastInDim Cert.MoeUpRefIdeal.S20480x5632 ![] Cert.MoeUpRefIdeal.Gen.bcast_S_S20480x5632 (constant Cert.MoeUpRefIdeal.S_ .f32 0x3F800000#32)) (addf (broadcastInDim Cert.MoeUpRefIdeal.S20480x5632 ![] Cert.MoeUpRefIdeal.Gen.bcast_S_S20480x5632 (constant Cert.MoeUpRefIdeal.S_ .f32 0x3F800000#32)) (Host.exp (Host.negf (proj x w1 e h)))))) (proj x w3 e h)) rest

/-- The reference's result over its arguments. -/
def ref0 (x : FVec Ideal Cert.MoeUpRefIdeal.S20480x2048 .f32) (w1 w3 : FVec Ideal Cert.MoeUpRefIdeal.S1x8x2048x5632 .bf16)
    (te : IVec Cert.MoeUpRefIdeal.S80 32) (nu : IVec Cert.MoeUpRefIdeal.S1 32) : FVec Ideal Cert.MoeUpRefIdeal.S20480x5632 .bf16 :=
  truncf .bf16 (layer x w1 w3 (rowExpert te nu) 7 7#32 Cert.MoeUpRefIdeal.Gen.slices_S1x8x2048x5632_S1x1x2048x5632_0_7_0_0
    (layer x w1 w3 (rowExpert te nu) 6 6#32 Cert.MoeUpRefIdeal.Gen.slices_S1x8x2048x5632_S1x1x2048x5632_0_6_0_0
    (layer x w1 w3 (rowExpert te nu) 5 5#32 Cert.MoeUpRefIdeal.Gen.slices_S1x8x2048x5632_S1x1x2048x5632_0_5_0_0
    (layer x w1 w3 (rowExpert te nu) 4 4#32 Cert.MoeUpRefIdeal.Gen.slices_S1x8x2048x5632_S1x1x2048x5632_0_4_0_0
    (layer x w1 w3 (rowExpert te nu) 3 3#32 Cert.MoeUpRefIdeal.Gen.slices_S1x8x2048x5632_S1x1x2048x5632_0_3_0_0
    (layer x w1 w3 (rowExpert te nu) 2 2#32 Cert.MoeUpRefIdeal.Gen.slices_S1x8x2048x5632_S1x1x2048x5632_0_2_0_0
    (layer x w1 w3 (rowExpert te nu) 1 1#32 Cert.MoeUpRefIdeal.Gen.slices_S1x8x2048x5632_S1x1x2048x5632_0_1_0_0
    (layer x w1 w3 (rowExpert te nu) 0 0#32 Cert.MoeUpRefIdeal.Gen.slices_S1x8x2048x5632_S1x1x2048x5632_0_0_0_0
      (broadcastInDim Cert.MoeUpRefIdeal.S20480x5632 ![] Cert.MoeUpRefIdeal.Gen.bcast_S_S20480x5632 (constant Cert.MoeUpRefIdeal.S_ .f32 0x00000000#32)))))))))) Cert.MoeUpRefIdeal.Gen.bitsLt_bf16_f32

/-- Expert `e`'s gated product at one row and column. -/
def gated (x : FVec Ideal Cert.MoeUpRefIdeal.S20480x2048 .f32) (w1 w3 : FVec Ideal Cert.MoeUpRefIdeal.S1x8x2048x5632 .bf16)
    (e : Fin 8) (y : Cert.MoeUpRefIdeal.S20480x5632.Idx) : EReal :=
  (∑ k, x (ix2 (y 0) k) * w1 (ix4 0 e k (y 1))) *
      Ideal.div 1 (1 + Ideal.exp (-∑ k, x (ix2 (y 0) k) * w1 (ix4 0 e k (y 1)))) *
    ∑ k, x (ix2 (y 0) k) * w3 (ix4 0 e k (y 1))

theorem proj_apply (x w) (e : Fin 8) (h) (y : Cert.MoeUpRefIdeal.S20480x5632.Idx) :
    proj x w e h y = ∑ k, x (ix2 (y 0) k) * w (ix4 0 e k (y 1)) := by
  pointwise [proj]

theorem rowExpert_apply (te nu) (y : Cert.MoeUpRefIdeal.S20480.Idx) (h) : rowExpert te nu y
    = if IntOp.cmpi CmpIPredicate.slt (BitVec.ofNat 32 ((y 0).val / 256)) (nu (ix1 0)) = 1#1
      then te (ix1 ⟨(y 0).val / 256, h⟩) else 4294967295#32 := by
  pointwise [rowExpert]
  rfl

theorem layer_apply (x w1 w3 r) (e : Fin 8) (word h rest) (y : Cert.MoeUpRefIdeal.S20480x5632.Idx) :
    layer x w1 w3 r e word h rest y = if r (ix1 (y 0)) = word then gated x w1 w3 e y else rest y := by
  pointwise [layer, proj_apply x w1 e, proj_apply x w3 e, gated]
  by_cases hr : r (ix1 (y 0)) = word <;> simp [Scalar.select, IntOp.cmpi, hr, beq_eq_false_iff_ne.mpr]

theorem at0 (pf : pre0.Contents (Elt F)) (n : ℕ) (h h') (hn : n < 80) :
   pf.at 0 (Rect.unit (s := S80) ![n] S1.size h) h' = pf 0 (ix1 ⟨n, hn⟩) := by
  apply congrArg (pf 0)
  idx_ext

theorem at1 (pf : pre0.Contents (Elt F)) (h h') :
   pf.at 1 (Rect.unit (s := S1) ![0] S1.size h) h' = pf 1 (ix1 0) := by
  apply congrArg (pf 1)
  idx_ext

/-- The tables' words in range put every window's block inside its array. -/
theorem ok_of_range (pf : pre0.Contents (Elt F)) (hte : ∀ n : Fin 80, BitVec.toNat (w := 32) (pf 0 (ix1 n)) < 8)
    (hnu : 1 ≤ BitVec.toInt (n := 32) (pf 1 (ix1 0))) : ok0 pf := by
  refine ⟨fun i => ⟨?_, .inl rfl⟩, fun i => ⟨?_, .inr (Affine.block_words_dvd (of_decide_eq_true rfl) (by decide))⟩, fun i => ⟨?_, .inr (Affine.block_words_dvd (of_decide_eq_true rfl) (by decide))⟩⟩
  · intro a
    unfold cc0_transform_0
    have h1 : (i 1).val < 80 := (i 1).isLt
    have := used_lt _ h1 _ hnu
    dsimp only
    rw [at1]
    · fin_cases a <;> simp <;> omega
    · rfl
  all_goals
    intro a
    first | unfold cc0_transform_1 | unfold cc0_transform_2
    have h0 : (i 0).val < 4 := (i 0).isLt
    have h1 : (i 1).val < 80 := (i 1).isLt
    have := hte ⟨_, h1⟩
    dsimp only
    simp only [word_lt _ h1]
    rw [at0 (hn := h1)]
    fin_cases a
    · simp
    · simp only [BitVec.toNat_ofNat] at *; exact (by omega : ∀ k < 8, (k + 1) * 1 ≤ 8) _ this
    · simp
    · simp; omega

/-- Every block of the result is some grid point's. -/
theorem cover (hO : Ok m) : ((cfgM m hO).win 3).Covers := by
  refine Pipeline.Window.covers_of_indexMap_surj _ rfl (fun a => ?_) fun β => ?_
  · exact (by decide : ∀ a, 0 < S256x1408.size a) a
  · have h0 : (β (0 : Fin 2)).val < 80 := (β (0 : Fin 2)).isLt.trans_eq (by show (Pipeline.Window.nblk _ _) = 80; simp [Pipeline.Window.nblk])
    have h1 : (β (1 : Fin 2)).val < 4 := (β (1 : Fin 2)).isLt.trans_eq (by show (Pipeline.Window.nblk _ _) = 4; simp [Pipeline.Window.nblk])
    let i : grid0.Coords := fun | 0 => ⟨_, h1⟩ | 1 => ⟨_, h0⟩
    refine ⟨i, (Fin.forall_fin_two.mpr ⟨?_, ?_⟩ : ∀ a : Fin 2, cc0_transform_3 i a = (β a).val)⟩
    · show (BitVec.ofNat 32 (β (0 : Fin 2)).val).toNat = _; rw [BitVec.toNat_ofNat]; omega
    · show (BitVec.ofNat 32 (β (1 : Fin 2)).val).toNat = _; rw [BitVec.toNat_ofNat]; omega

/-- Where the result's block lies. -/
theorem emb3 (hO : Ok m) (t : Fin (cfgM m hO).N) (y : S256x1408.Idx) (p q) :
    (((cfgM m hO).win 3).blk t).view.emb y = ix2 ⟨(grid0.coords t 1).val * 256 + (y 0).val, p⟩ ⟨(grid0.coords t 0).val * 1408 + (y 1).val, q⟩ := by
  have h0 : (grid0.coords t 0).val < 4 := (grid0.coords t 0).isLt
  have h1 : (grid0.coords t 1).val < 80 := (grid0.coords t 1).isLt
  refine ext2 _ _ ?_ ?_
  · refine (ValueKit.view_emb_slice_whole_unit_val _ _ _ _ _ _).trans ?_
    show (BitVec.ofNat 32 (grid0.coords t 1).val).toNat * 256 + (y 0).val = _
    rw [BitVec.toNat_ofNat, Nat.mod_eq_of_lt (by omega)]; rfl
  · refine (ValueKit.view_emb_slice_whole_unit_val _ _ _ _ _ _).trans ?_
    show (BitVec.ofNat 32 (grid0.coords t 0).val).toNat * 1408 + (y 1).val = _
    rw [BitVec.toNat_ofNat, Nat.mod_eq_of_lt (by omega)]; rfl

theorem blk0 (hO : Ok m) (c : Dev nD) (t : Fin (cfgM m hO).N) (x : S256x2048.Idx) (p)
    (h : ((grid0.coords t 1).val : ℤ) < BitVec.toInt (n := 32) (m ((c : Thread nD τ).loc main_arg4) (ix1 0))) :
    iblk m hO c 0 t x = m ((c : Thread nD τ).loc main_arg0) (ix2 ⟨(grid0.coords t 1).val * 256 + (x 0).val, p⟩ (x 1)) := by
  have h1 : (grid0.coords t 1).val < 80 := (grid0.coords t 1).isLt
  obtain rfl : c = 0 := Subsingleton.elim _ _
  refine congrArg (m _) (ext2 _ _ ?_ ?_)
  · refine (ValueKit.view_emb_slice_whole_unit_val _ _ _ _ _ _).trans ?_
    show (Scalar.minsi (BitVec.ofNat 32 (grid0.coords t 1).val) (Scalar.subi ((tbl m).at 1 (Rect.unit (s := S1) ![0] S1.size inb_S1_S1_0) numel1_S1) 1#32)).toNat * 256 + (x 0).val = _
    rw [at1]
    swap
    · rfl
    exact congrArg (· * 256 + (x 0).val) (used_eq _ h1 _ h)
  · refine (ValueKit.view_emb_slice_whole_unit_val _ _ _ _ _ _).trans ?_
    show 0 * 2048 + (x 1).val = (x 1).val
    omega

theorem blk1 (hO : Ok m) (c : Dev nD) (t : Fin (cfgM m hO).N) (x : S1x1x2048x1408.Idx) (h1) (e : Fin 8)
    (he : m ((c : Thread nD τ).loc main_arg3) (ix1 ⟨(grid0.coords t 1).val, h1⟩) = BitVec.ofNat 32 e) (q) :
    iblk m hO c 1 t x = m ((c : Thread nD τ).loc main_arg1) (ix4 0 e (x 2) ⟨(grid0.coords t 0).val * 1408 + (x 3).val, q⟩) := by
  obtain rfl : c = 0 := Subsingleton.elim _ _
  have h0 : (grid0.coords t 0).val < 4 := (grid0.coords t 0).isLt
  have hx0 : (x 0).val < 1 := (x 0).isLt
  have hx1 : (x 1).val < 1 := (x 1).isLt
  refine congrArg (m _) (ext4 _ _ ?_ ?_ ?_ ?_)
  all_goals refine (ValueKit.view_emb_slice_whole_unit_val _ _ _ _ _ _).trans ?_
  · show 0 * 1 + (x 0).val = 0
    omega
  · show BitVec.toNat (w := 32) ((tbl m).at 0 (Rect.unit (s := S80) ![(Scalar.indexCast (BitVec.ofNat 32 (grid0.coords t 1).val)).toNat] S1.size (k0_off1_inb (grid0.coords t))) numel1_S1) * 1 + (x 1).val = e.val
    simp only [word_lt _ h1]
    rw [at0 (hn := h1), Nat.mul_one]
    refine (congrArg (fun w : BitVec 32 => w.toNat + (x 1).val) he).trans ?_
    have : e.val < 8 := e.isLt
    show (BitVec.ofNat 32 e.val).toNat + _ = _
    rw [BitVec.toNat_ofNat, Nat.mod_eq_of_lt (by omega)]
    omega
  · show 0 * 2048 + (x 2).val = (x 2).val
    omega
  · show (BitVec.ofNat 32 (grid0.coords t 0).val).toNat * 1408 + (x 3).val = _
    rw [BitVec.toNat_ofNat, Nat.mod_eq_of_lt (by omega)]; rfl

theorem blk2 (hO : Ok m) (c : Dev nD) (t : Fin (cfgM m hO).N) (x : S1x1x2048x1408.Idx) (h1) (e : Fin 8)
    (he : m ((c : Thread nD τ).loc main_arg3) (ix1 ⟨(grid0.coords t 1).val, h1⟩) = BitVec.ofNat 32 e) (q) :
    iblk m hO c 2 t x = m ((c : Thread nD τ).loc main_arg2) (ix4 0 e (x 2) ⟨(grid0.coords t 0).val * 1408 + (x 3).val, q⟩) := by
  obtain rfl : c = 0 := Subsingleton.elim _ _
  have h0 : (grid0.coords t 0).val < 4 := (grid0.coords t 0).isLt
  have hx0 : (x 0).val < 1 := (x 0).isLt
  have hx1 : (x 1).val < 1 := (x 1).isLt
  refine congrArg (m _) (ext4 _ _ ?_ ?_ ?_ ?_)
  all_goals refine (ValueKit.view_emb_slice_whole_unit_val _ _ _ _ _ _).trans ?_
  · show 0 * 1 + (x 0).val = 0
    omega
  · show BitVec.toNat (w := 32) ((tbl m).at 0 (Rect.unit (s := S80) ![(Scalar.indexCast (BitVec.ofNat 32 (grid0.coords t 1).val)).toNat] S1.size (k0_off1_inb (grid0.coords t))) numel1_S1) * 1 + (x 1).val = e.val
    simp only [word_lt _ h1]
    rw [at0 (hn := h1), Nat.mul_one]
    refine (congrArg (fun w : BitVec 32 => w.toNat + (x 1).val) he).trans ?_
    have : e.val < 8 := e.isLt
    show (BitVec.ofNat 32 e.val).toNat + _ = _
    rw [BitVec.toNat_ofNat, Nat.mod_eq_of_lt (by omega)]
    omega
  · show 0 * 2048 + (x 2).val = (x 2).val
    omega
  · show (BitVec.ofNat 32 (grid0.coords t 0).val).toNat * 1408 + (x 3).val = _
    rw [BitVec.toNat_ofNat, Nat.mod_eq_of_lt (by omega)]; rfl

/-- The reference at a row of a used tile whose word names expert `e`, -/
theorem ref0_used (x w1 w3 te nu) (y : Cert.MoeUpRefIdeal.S20480x5632.Idx) (e : Fin 8)
    (h : rowExpert te nu (ix1 (y 0)) = BitVec.ofNat 32 e) : ref0 x w1 w3 te nu y = gated x w1 w3 e y := by
  have L : ∀ (k : Fin 8) word hs rest, layer x w1 w3 (rowExpert te nu) k word hs rest y
      = if BitVec.ofNat 32 e = word then gated x w1 w3 k y else rest y := by
    intro k word hs rest
    rw [layer_apply, h]
  clear h
  unfold ref0
  fin_cases e
  · refine (L 7 _ _ _).trans ?_
    refine (if_neg (by decide)).trans ?_
    refine (L 6 _ _ _).trans ?_
    refine (if_neg (by decide)).trans ?_
    refine (L 5 _ _ _).trans ?_
    refine (if_neg (by decide)).trans ?_
    refine (L 4 _ _ _).trans ?_
    refine (if_neg (by decide)).trans ?_
    refine (L 3 _ _ _).trans ?_
    refine (if_neg (by decide)).trans ?_
    refine (L 2 _ _ _).trans ?_
    refine (if_neg (by decide)).trans ?_
    refine (L 1 _ _ _).trans ?_
    refine (if_neg (by decide)).trans ?_
    refine (L 0 _ _ _).trans ?_
    exact if_pos rfl
  · refine (L 7 _ _ _).trans ?_
    refine (if_neg (by decide)).trans ?_
    refine (L 6 _ _ _).trans ?_
    refine (if_neg (by decide)).trans ?_
    refine (L 5 _ _ _).trans ?_
    refine (if_neg (by decide)).trans ?_
    refine (L 4 _ _ _).trans ?_
    refine (if_neg (by decide)).trans ?_
    refine (L 3 _ _ _).trans ?_
    refine (if_neg (by decide)).trans ?_
    refine (L 2 _ _ _).trans ?_
    refine (if_neg (by decide)).trans ?_
    refine (L 1 _ _ _).trans ?_
    exact if_pos rfl
  · refine (L 7 _ _ _).trans ?_
    refine (if_neg (by decide)).trans ?_
    refine (L 6 _ _ _).trans ?_
    refine (if_neg (by decide)).trans ?_
    refine (L 5 _ _ _).trans ?_
    refine (if_neg (by decide)).trans ?_
    refine (L 4 _ _ _).trans ?_
    refine (if_neg (by decide)).trans ?_
    refine (L 3 _ _ _).trans ?_
    refine (if_neg (by decide)).trans ?_
    refine (L 2 _ _ _).trans ?_
    exact if_pos rfl
  · refine (L 7 _ _ _).trans ?_
    refine (if_neg (by decide)).trans ?_
    refine (L 6 _ _ _).trans ?_
    refine (if_neg (by decide)).trans ?_
    refine (L 5 _ _ _).trans ?_
    refine (if_neg (by decide)).trans ?_
    refine (L 4 _ _ _).trans ?_
    refine (if_neg (by decide)).trans ?_
    refine (L 3 _ _ _).trans ?_
    exact if_pos rfl
  · refine (L 7 _ _ _).trans ?_
    refine (if_neg (by decide)).trans ?_
    refine (L 6 _ _ _).trans ?_
    refine (if_neg (by decide)).trans ?_
    refine (L 5 _ _ _).trans ?_
    refine (if_neg (by decide)).trans ?_
    refine (L 4 _ _ _).trans ?_
    exact if_pos rfl
  · refine (L 7 _ _ _).trans ?_
    refine (if_neg (by decide)).trans ?_
    refine (L 6 _ _ _).trans ?_
    refine (if_neg (by decide)).trans ?_
    refine (L 5 _ _ _).trans ?_
    exact if_pos rfl
  · refine (L 7 _ _ _).trans ?_
    refine (if_neg (by decide)).trans ?_
    refine (L 6 _ _ _).trans ?_
    exact if_pos rfl
  · refine (L 7 _ _ _).trans ?_
    exact if_pos rfl

/-- and at a row of an idle tile. -/
theorem ref0_idle (x w1 w3 te nu) (y : Cert.MoeUpRefIdeal.S20480x5632.Idx)
    (h : rowExpert te nu (ix1 (y 0)) = 4294967295#32) : ref0 x w1 w3 te nu y = 0 := by
  have L : ∀ (k : Fin 8) word hs rest, layer x w1 w3 (rowExpert te nu) k word hs rest y
      = if 4294967295#32 = word then gated x w1 w3 k y else rest y := by
    intro k word hs rest
    rw [layer_apply, h]
  clear h
  unfold ref0
  refine (L 7 _ _ _).trans ?_
  refine (if_neg (by decide)).trans ?_
  refine (L 6 _ _ _).trans ?_
  refine (if_neg (by decide)).trans ?_
  refine (L 5 _ _ _).trans ?_
  refine (if_neg (by decide)).trans ?_
  refine (L 4 _ _ _).trans ?_
  refine (if_neg (by decide)).trans ?_
  refine (L 3 _ _ _).trans ?_
  refine (if_neg (by decide)).trans ?_
  refine (L 2 _ _ _).trans ?_
  refine (if_neg (by decide)).trans ?_
  refine (L 1 _ _ _).trans ?_
  refine (if_neg (by decide)).trans ?_
  refine (L 0 _ _ _).trans ?_
  refine (if_neg (by decide)).trans ?_
  pointwise []

theorem ref0_used' (x w1 w3 te nu) (a : Fin 20480) (b : Fin 5632) (e : Fin 8)
    (h : rowExpert te nu (ix1 a) = BitVec.ofNat 32 e) : ref0 x w1 w3 te nu (ix2 a b) = gated x w1 w3 e (ix2 a b) :=
  ref0_used x w1 w3 te nu (ix2 a b) e h

theorem ref0_idle' (x w1 w3 te nu) (a : Fin 20480) (b : Fin 5632)
    (h : rowExpert te nu (ix1 a) = 4294967295#32) : ref0 x w1 w3 te nu (ix2 a b) = 0 :=
  ref0_idle x w1 w3 te nu (ix2 a b) h

/-- What the body leaves at a used tile, -/
theorem outA (c i a4 h4 a5 h5 a6 h6 a7 h7 x0 x1 x2 xt0 xt1 hc) :
    out0_A_3 (F := Ideal) c i a4 h4 a5 h5 a6 h6 a7 h7 x0 x1 x2 xt0 xt1 hc = k0_pay2 x0 x1 x2 := by
  frame_out

/-- and at an idle one. -/
theorem outB (c i a4 h4 a5 h5 a6 h6 a7 h7 x0 x1 x2 xt0 xt1 hc) :
    out0_B_3 (F := Ideal) c i a4 h4 a5 h5 a6 h6 a7 h7 x0 x1 x2 xt0 xt1 hc = k0_pay1 (F := Ideal) := by
  frame_out

theorem pay1_apply (y) : k0_pay1 (F := Ideal) y = 0 := by
  pointwise [k0_pay1]

theorem pay2_apply (a b d y) : k0_pay2 (F := Ideal) a b d y
    = (∑ x, a (ix2 (y 0) x) * b (ix4 0 0 x (y 1))) *
        Ideal.div 1 (1 + Ideal.exp (-∑ x, a (ix2 (y 0) x) * b (ix4 0 0 x (y 1)))) *
      ∑ x, a (ix2 (y 0) x) * d (ix4 0 0 x (y 1)) := by
  pointwise [k0_pay2]
  simp only [zero_sub]

/-- The payload over blocks that are the arrays' at tile `i`, column block `j` and expert `e` is the gated product there. -/
theorem pay2_gated (X w1 w3) (b0 : Vec Ideal S256x2048 .f32) (b1 b2 : Vec Ideal S1x1x2048x1408 .bf16) (i j : ℕ) (hi : i < 80) (hj : j < 4) (e : Fin 8)
    (h0 : ∀ x p, b0 x = X (ix2 ⟨i * 256 + (x 0).val, p⟩ (x 1)))
    (h1 : ∀ x q, b1 x = w1 (ix4 0 e (x 2) ⟨j * 1408 + (x 3).val, q⟩))
    (h2 : ∀ x q, b2 x = w3 (ix4 0 e (x 2) ⟨j * 1408 + (x 3).val, q⟩)) (y : S256x1408.Idx) (p q) :
    k0_pay2 (F := Ideal) b0 b1 b2 y = gated X w1 w3 e (ix2 ⟨i * 256 + (y 0).val, p⟩ ⟨j * 1408 + (y 1).val, q⟩) := by
  have s1 : ∀ k, b0 (ix2 (y 0) k) * b1 (ix4 0 0 k (y 1)) = X (ix2 ⟨i * 256 + (y 0).val, p⟩ k) * w1 (ix4 0 e k ⟨j * 1408 + (y 1).val, q⟩) :=
    fun k => congrArg₂ (· * ·) (h0 (ix2 (y 0) k) p) (h1 (ix4 0 0 k (y 1)) q)
  have s2 : ∀ k, b0 (ix2 (y 0) k) * b2 (ix4 0 0 k (y 1)) = X (ix2 ⟨i * 256 + (y 0).val, p⟩ k) * w3 (ix4 0 e k ⟨j * 1408 + (y 1).val, q⟩) :=
    fun k => congrArg₂ (· * ·) (h0 (ix2 (y 0) k) p) (h2 (ix4 0 0 k (y 1)) q)
  rw [pay2_apply]
  simp only [s1, s2]
  rfl

theorem final (hO : Ok m) (c : Dev nD) (hte : ∀ n : Fin 80, BitVec.toNat (w := 32) (m ((c : Thread nD τ).loc main_arg3) (ix1 n)) < 8) :
    (dats m hO 0 c).arrAt 3 (cfgM m hO).N
    = ref0 (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m hO 0 c).arrAt_eq_of_covers 3 _ (cover m hO) fun t hf y => ?_
  have e0 : (grid0.coords t 0).val < 4 := (grid0.coords t 0).isLt
  have e1 : (grid0.coords t 1).val < 80 := (grid0.coords t 1).isLt
  have y0 : (y (0 : Fin 2)).val < 256 := (y (0 : Fin 2)).isLt
  have y1 : (y (1 : Fin 2)).val < 1408 := (y (1 : Fin 2)).isLt
  rw [emb3 m hO t y (by omega) (by omega)]
  have r : rowExpert (m ((c : Thread nD τ).loc main_arg3)) (m ((c : Thread nD τ).loc main_arg4)) (ix1 ⟨(grid0.coords t 1).val * 256 + (y (0 : Fin 2)).val, by omega⟩)
      = if ((grid0.coords t 1).val : ℤ) < BitVec.toInt (n := 32) (m ((c : Thread nD τ).loc main_arg4) (ix1 0))
        then m ((c : Thread nD τ).loc main_arg3) (ix1 ⟨(grid0.coords t 1).val, e1⟩) else 4294967295#32 := by
    have q : ((grid0.coords t 1).val * 256 + (y (0 : Fin 2)).val) / 256 = (grid0.coords t 1).val := by omega
    refine (rowExpert_apply _ _ _ (by show (_ * 256 + _) / 256 < 80; omega)).trans ?_
    show (if IntOp.cmpi .slt (BitVec.ofNat 32 (((grid0.coords t 1).val * 256 + (y (0 : Fin 2)).val) / 256)) _ = _ then
      m ((c : Thread nD τ).loc main_arg3) (ix1 ⟨((grid0.coords t 1).val * 256 + (y (0 : Fin 2)).val) / 256, _⟩) else _) = _
    simp only [q, cmp_iff _ e1]
  blk_simp; rw [after0_3]
  have w : tbM0_1.view.readAt (Elt Ideal) (Rect.unit (s := S1) ![0] S1.size inb_S1_S1_0).toLoadRect (tbl m 1) (Shape.Idx.first (numel1_S1.symm ▸ Nat.one_pos)) = m ((c : Thread nD τ).loc main_arg4) (ix1 0) := by
    obtain rfl : c = 0 := Subsingleton.elim _ _
    exact at1 (tbl m) _ rfl
  by_cases h0 : cond0_0 (grid0.coords t) (tbM0_1.view.readAt (Elt Ideal) (Rect.unit (s := S1) ![0] S1.size inb_S1_S1_0).toLoadRect (tbl m 1) (Shape.Idx.first (numel1_S1.symm ▸ Nat.one_pos)))
  · rw [outsAt0_A m hO c t h0]
    refine (congrFun (outA _ _ _ _ _ _ _ _ _ _ _ _ _ _ _ _) y).trans ?_
    rw [w] at h0
    have h0 := (cond_iff _ e1 _).1 h0
    rw [if_pos h0] at r
    obtain ⟨e, he⟩ : ∃ e : Fin 8, m ((c : Thread nD τ).loc main_arg3) (ix1 ⟨(grid0.coords t 1).val, e1⟩) = BitVec.ofNat 32 e :=
      word_fin _ (hte ⟨(grid0.coords t 1).val, e1⟩)
    rw [he] at r
    refine Eq.trans ?_ (ref0_used' _ _ _ _ _ _ _ e r).symm
    exact pay2_gated _ _ _ _ _ _ _ _ e1 e0 e (fun x p => blk0 m hO c t x p h0) (fun x q => blk1 m hO c t x e1 e he q)
      (fun x q => blk2 m hO c t x e1 e he q) y _ _
  · rw [outsAt0_B m hO c t h0]
    refine (congrFun (outB _ _ _ _ _ _ _ _ _ _ _ _ _ _ _ _) y).trans ?_
    rw [w] at h0
    have h0 := fun h => h0 ((cond_iff _ e1 _).2 h)
    rw [if_neg h0] at r
    exact (pay1_apply _).trans (ref0_idle' _ _ _ _ _ _ _ r).symm

end Cert.MoeUpIdeal.Point

end
-- ==== Proof.MoeDown.lean ====
/- The value of the experts' second half: each tile of rows gets its own expert's product, an idle tile zeros. -/
module

public import proofs.«01_k».proof.Proof.Gen.MoeDownIdeal.Frame
public import proofs.«01_k».proof.Proof.Gen.MoeDownRefIdeal
public import proofs.«01_k».proof.Proof.Tile
public import Idealize.ShloMosaic.Lib.Pipeline.ValueKit
public import Idealize.ShloMosaic.Lib.Pipeline.Covers
public import Idealize.ShloMosaic.Lib.Pointwise
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.MoeDownIdeal.Point

open Cert.MoeDownIdeal Cert.MoeDownIdeal.Gen Cert.Tile

variable {F : FTy → Type} [FloatOps F]
variable (m : (ℓ : Loc nD τ sig) → Buf (Elt Ideal) ℓ)
/-- Each row's expert as the reference computes it: its tile's table word, −1 for an idle tile. -/
def rowExpert (te : IVec Cert.MoeDownRefIdeal.S80 32) (nu : IVec Cert.MoeDownRefIdeal.S1 32) : IVec Cert.MoeDownRefIdeal.S20480 32 :=
  shapeCast _ (broadcastInDim Cert.MoeDownRefIdeal.S80x256 ![0, 1] Cert.MoeDownRefIdeal.Gen.bcast_S80x1_S80x256_0_1 (broadcastInDim Cert.MoeDownRefIdeal.S80x1 ![0] Cert.MoeDownRefIdeal.Gen.bcast_S80_S80x1_0 (select (cmpi .slt (iotaInDim Cert.MoeDownRefIdeal.S80 32 0) (broadcastInDim Cert.MoeDownRefIdeal.S80 ![] Cert.MoeDownRefIdeal.Gen.bcast_S_S80 (shapeCast _ nu Cert.MoeDownRefIdeal.Gen.shapeCasts_S1_S_))) te (broadcastInDim Cert.MoeDownRefIdeal.S80 ![] Cert.MoeDownRefIdeal.Gen.bcast_S_S80 (id (constantI Cert.MoeDownRefIdeal.S_ 32 4294967295#32)))))) Cert.MoeDownRefIdeal.Gen.shapeCasts_S80x256_S20480

/-- All rows times the weights of the expert the slice takes. -/
def proj (x : FVec Ideal Cert.MoeDownRefIdeal.S20480x5632 .bf16) (w : FVec Ideal Cert.MoeDownRefIdeal.S1x8x5632x2048 .bf16) (e : ℕ)
    (h : Cert.MoeDownRefIdeal.S1x8x5632x2048.Slices ![0, e, 0, 0] Cert.MoeDownRefIdeal.S1x1x5632x2048) : FVec Ideal Cert.MoeDownRefIdeal.S20480x2048 .f32 :=
  Host.dotGeneral Cert.MoeDownRefIdeal.dot_S20480x5632_S5632x2048_S20480x2048_1_0_0_1_n_n none (extf .f32 x Cert.MoeDownRefIdeal.Gen.bitsLt_bf16_f32) (extf .f32 (shapeCast _ (extractStridedSlice Cert.MoeDownRefIdeal.S1x1x5632x2048 ![0, e, 0, 0] w h) Cert.MoeDownRefIdeal.Gen.shapeCasts_S1x1x5632x2048_S5632x2048) Cert.MoeDownRefIdeal.Gen.bitsLt_bf16_f32)

/-- One step of the reference's loop over the experts: the rows of expert `e` get their product. -/
def layer (x : FVec Ideal Cert.MoeDownRefIdeal.S20480x5632 .bf16) (w : FVec Ideal Cert.MoeDownRefIdeal.S1x8x5632x2048 .bf16)
    (r : IVec Cert.MoeDownRefIdeal.S20480 32) (e : ℕ) (word : BitVec 32)
    (h : Cert.MoeDownRefIdeal.S1x8x5632x2048.Slices ![0, e, 0, 0] Cert.MoeDownRefIdeal.S1x1x5632x2048)
    (rest : FVec Ideal Cert.MoeDownRefIdeal.S20480x2048 .f32) : FVec Ideal Cert.MoeDownRefIdeal.S20480x2048 .f32 :=
  select (broadcastInDim Cert.MoeDownRefIdeal.S20480x2048 ![0, 1] Cert.MoeDownRefIdeal.Gen.bcast_S20480x1_S20480x2048_0_1 (broadcastInDim Cert.MoeDownRefIdeal.S20480x1 ![0] Cert.MoeDownRefIdeal.Gen.bcast_S20480_S20480x1_0 (cmpi .eq r (broadcastInDim Cert.MoeDownRefIdeal.S20480 ![] Cert.MoeDownRefIdeal.Gen.bcast_S_S20480 (constantI Cert.MoeDownRefIdeal.S_ 32 word))))) (proj x w e h) rest

/-- The reference's result over its arguments. -/
def ref0 (x : FVec Ideal Cert.MoeDownRefIdeal.S20480x5632 .bf16) (w : FVec Ideal Cert.MoeDownRefIdeal.S1x8x5632x2048 .bf16)
    (te : IVec Cert.MoeDownRefIdeal.S80 32) (nu : IVec Cert.MoeDownRefIdeal.S1 32) : FVec Ideal Cert.MoeDownRefIdeal.S20480x2048 .f32 :=
  layer x w (rowExpert te nu) 7 7#32 Cert.MoeDownRefIdeal.Gen.slices_S1x8x5632x2048_S1x1x5632x2048_0_7_0_0
    (layer x w (rowExpert te nu) 6 6#32 Cert.MoeDownRefIdeal.Gen.slices_S1x8x5632x2048_S1x1x5632x2048_0_6_0_0
    (layer x w (rowExpert te nu) 5 5#32 Cert.MoeDownRefIdeal.Gen.slices_S1x8x5632x2048_S1x1x5632x2048_0_5_0_0
    (layer x w (rowExpert te nu) 4 4#32 Cert.MoeDownRefIdeal.Gen.slices_S1x8x5632x2048_S1x1x5632x2048_0_4_0_0
    (layer x w (rowExpert te nu) 3 3#32 Cert.MoeDownRefIdeal.Gen.slices_S1x8x5632x2048_S1x1x5632x2048_0_3_0_0
    (layer x w (rowExpert te nu) 2 2#32 Cert.MoeDownRefIdeal.Gen.slices_S1x8x5632x2048_S1x1x5632x2048_0_2_0_0
    (layer x w (rowExpert te nu) 1 1#32 Cert.MoeDownRefIdeal.Gen.slices_S1x8x5632x2048_S1x1x5632x2048_0_1_0_0
    (layer x w (rowExpert te nu) 0 0#32 Cert.MoeDownRefIdeal.Gen.slices_S1x8x5632x2048_S1x1x5632x2048_0_0_0_0
      (broadcastInDim Cert.MoeDownRefIdeal.S20480x2048 ![] Cert.MoeDownRefIdeal.Gen.bcast_S_S20480x2048 (constant Cert.MoeDownRefIdeal.S_ .f32 0x00000000#32)))))))))

/-- Expert `e`'s product at one row and column. -/
def prod (x : FVec Ideal Cert.MoeDownRefIdeal.S20480x5632 .bf16) (w : FVec Ideal Cert.MoeDownRefIdeal.S1x8x5632x2048 .bf16)
    (e : Fin 8) (y : Cert.MoeDownRefIdeal.S20480x2048.Idx) : EReal := ∑ k, x (ix2 (y 0) k) * w (ix4 0 e k (y 1))

theorem proj_apply (x w) (e : Fin 8) (h) (y : Cert.MoeDownRefIdeal.S20480x2048.Idx) :
    proj x w e h y = ∑ k, x (ix2 (y 0) k) * w (ix4 0 e k (y 1)) := by
  pointwise [proj]

theorem rowExpert_apply (te nu) (y : Cert.MoeDownRefIdeal.S20480.Idx) (h) : rowExpert te nu y
    = if IntOp.cmpi CmpIPredicate.slt (BitVec.ofNat 32 ((y 0).val / 256)) (nu (ix1 0)) = 1#1
      then te (ix1 ⟨(y 0).val / 256, h⟩) else 4294967295#32 := by
  pointwise [rowExpert]
  rfl

theorem layer_apply (x w r) (e : Fin 8) (word h rest) (y : Cert.MoeDownRefIdeal.S20480x2048.Idx) :
    layer x w r e word h rest y = if r (ix1 (y 0)) = word then prod x w e y else rest y := by
  pointwise [layer, proj_apply x w e, prod]
  by_cases hr : r (ix1 (y 0)) = word <;> simp [Scalar.select, IntOp.cmpi, hr, beq_eq_false_iff_ne.mpr]

theorem at0 (pf : pre0.Contents (Elt F)) (n : ℕ) (h h') (hn : n < 80) :
   pf.at 0 (Rect.unit (s := S80) ![n] S1.size h) h' = pf 0 (ix1 ⟨n, hn⟩) := by
  apply congrArg (pf 0)
  idx_ext

theorem at1 (pf : pre0.Contents (Elt F)) (h h') :
   pf.at 1 (Rect.unit (s := S1) ![0] S1.size h) h' = pf 1 (ix1 0) := by
  apply congrArg (pf 1)
  idx_ext

/-- The tables' words in range put every window's block inside its array. -/
theorem ok_of_range (pf : pre0.Contents (Elt F)) (hte : ∀ n : Fin 80, BitVec.toNat (w := 32) (pf 0 (ix1 n)) < 8)
    (hnu : 1 ≤ BitVec.toInt (n := 32) (pf 1 (ix1 0))) : ok0 pf := by
  refine ⟨fun i => ⟨?_, .inr (Affine.block_words_dvd (of_decide_eq_true rfl) (by decide))⟩, fun i => ⟨?_, .inr (Affine.block_words_dvd (of_decide_eq_true rfl) (by decide))⟩⟩
  · intro a
    unfold cc0_transform_0
    have h1 : (i 1).val < 80 := (i 1).isLt
    have := used_lt _ h1 _ hnu
    dsimp only
    rw [at1]
    · fin_cases a <;> simp <;> omega
    · rfl
  · intro a
    unfold cc0_transform_1
    have h0 : (i 0).val < 2 := (i 0).isLt
    have h1 : (i 1).val < 80 := (i 1).isLt
    have := hte ⟨_, h1⟩
    dsimp only
    simp only [word_lt _ h1]
    rw [at0 (hn := h1)]
    fin_cases a
    · simp
    · simp only [BitVec.toNat_ofNat] at *; exact (by omega : ∀ k < 8, (k + 1) * 1 ≤ 8) _ this
    · simp
    · simp; omega

/-- Every block of the result is some grid point's. -/
theorem cover (hO : Ok m) : ((cfgM m hO).win 2).Covers := by
  refine Pipeline.Window.covers_of_indexMap_surj _ rfl (fun a => ?_) fun β => ?_
  · exact (by decide : ∀ a, 0 < S256x1024.size a) a
  · have h0 : (β (0 : Fin 2)).val < 80 := (β (0 : Fin 2)).isLt.trans_eq (by show (Pipeline.Window.nblk _ _) = 80; simp [Pipeline.Window.nblk])
    have h1 : (β (1 : Fin 2)).val < 2 := (β (1 : Fin 2)).isLt.trans_eq (by show (Pipeline.Window.nblk _ _) = 2; simp [Pipeline.Window.nblk])
    let i : grid0.Coords := fun | 0 => ⟨_, h1⟩ | 1 => ⟨_, h0⟩
    refine ⟨i, (Fin.forall_fin_two.mpr ⟨?_, ?_⟩ : ∀ a : Fin 2, cc0_transform_2 i a = (β a).val)⟩
    · show (BitVec.ofNat 32 (β (0 : Fin 2)).val).toNat = _; rw [BitVec.toNat_ofNat]; omega
    · show (BitVec.ofNat 32 (β (1 : Fin 2)).val).toNat = _; rw [BitVec.toNat_ofNat]; omega

/-- Where the result's block lies. -/
theorem emb2 (hO : Ok m) (t : Fin (cfgM m hO).N) (y : S256x1024.Idx) (p q) :
    (((cfgM m hO).win 2).blk t).view.emb y = ix2 ⟨(grid0.coords t 1).val * 256 + (y 0).val, p⟩ ⟨(grid0.coords t 0).val * 1024 + (y 1).val, q⟩ := by
  have h0 : (grid0.coords t 0).val < 2 := (grid0.coords t 0).isLt
  have h1 : (grid0.coords t 1).val < 80 := (grid0.coords t 1).isLt
  refine ext2 _ _ ?_ ?_
  · refine (ValueKit.view_emb_slice_whole_unit_val _ _ _ _ _ _).trans ?_
    show (BitVec.ofNat 32 (grid0.coords t 1).val).toNat * 256 + (y 0).val = _
    rw [BitVec.toNat_ofNat, Nat.mod_eq_of_lt (by omega)]; rfl
  · refine (ValueKit.view_emb_slice_whole_unit_val _ _ _ _ _ _).trans ?_
    show (BitVec.ofNat 32 (grid0.coords t 0).val).toNat * 1024 + (y 1).val = _
    rw [BitVec.toNat_ofNat, Nat.mod_eq_of_lt (by omega)]; rfl

theorem blk0 (hO : Ok m) (c : Dev nD) (t : Fin (cfgM m hO).N) (x : S256x5632.Idx) (p)
    (h : ((grid0.coords t 1).val : ℤ) < BitVec.toInt (n := 32) (m ((c : Thread nD τ).loc main_arg3) (ix1 0))) :
    iblk m hO c 0 t x = m ((c : Thread nD τ).loc main_arg0) (ix2 ⟨(grid0.coords t 1).val * 256 + (x 0).val, p⟩ (x 1)) := by
  have h1 : (grid0.coords t 1).val < 80 := (grid0.coords t 1).isLt
  obtain rfl : c = 0 := Subsingleton.elim _ _
  refine congrArg (m _) (ext2 _ _ ?_ ?_)
  · refine (ValueKit.view_emb_slice_whole_unit_val _ _ _ _ _ _).trans ?_
    show (Scalar.minsi (BitVec.ofNat 32 (grid0.coords t 1).val) (Scalar.subi ((tbl m).at 1 (Rect.unit (s := S1) ![0] S1.size inb_S1_S1_0) numel1_S1) 1#32)).toNat * 256 + (x 0).val = _
    rw [at1]
    swap
    · rfl
    exact congrArg (· * 256 + (x 0).val) (used_eq _ h1 _ h)
  · refine (ValueKit.view_emb_slice_whole_unit_val _ _ _ _ _ _).trans ?_
    show 0 * 5632 + (x 1).val = (x 1).val
    omega

theorem blk1 (hO : Ok m) (c : Dev nD) (t : Fin (cfgM m hO).N) (x : S1x1x5632x1024.Idx) (h1) (e : Fin 8)
    (he : m ((c : Thread nD τ).loc main_arg2) (ix1 ⟨(grid0.coords t 1).val, h1⟩) = BitVec.ofNat 32 e) (q) :
    iblk m hO c 1 t x = m ((c : Thread nD τ).loc main_arg1) (ix4 0 e (x 2) ⟨(grid0.coords t 0).val * 1024 + (x 3).val, q⟩) := by
  obtain rfl : c = 0 := Subsingleton.elim _ _
  have h0 : (grid0.coords t 0).val < 2 := (grid0.coords t 0).isLt
  have hx0 : (x 0).val < 1 := (x 0).isLt
  have hx1 : (x 1).val < 1 := (x 1).isLt
  refine congrArg (m _) (ext4 _ _ ?_ ?_ ?_ ?_)
  all_goals refine (ValueKit.view_emb_slice_whole_unit_val _ _ _ _ _ _).trans ?_
  · show 0 * 1 + (x 0).val = 0
    omega
  · show BitVec.toNat (w := 32) ((tbl m).at 0 (Rect.unit (s := S80) ![(Scalar.indexCast (BitVec.ofNat 32 (grid0.coords t 1).val)).toNat] S1.size (k0_off1_inb (grid0.coords t))) numel1_S1) * 1 + (x 1).val = e.val
    simp only [word_lt _ h1]
    rw [at0 (hn := h1), Nat.mul_one]
    refine (congrArg (fun w : BitVec 32 => w.toNat + (x 1).val) he).trans ?_
    have : e.val < 8 := e.isLt
    show (BitVec.ofNat 32 e.val).toNat + _ = _
    rw [BitVec.toNat_ofNat, Nat.mod_eq_of_lt (by omega)]
    omega
  · show 0 * 5632 + (x 2).val = (x 2).val
    omega
  · show (BitVec.ofNat 32 (grid0.coords t 0).val).toNat * 1024 + (x 3).val = _
    rw [BitVec.toNat_ofNat, Nat.mod_eq_of_lt (by omega)]; rfl

/-- The reference at a row of a used tile whose word names expert `e`, -/
theorem ref0_used (x w te nu) (y : Cert.MoeDownRefIdeal.S20480x2048.Idx) (e : Fin 8)
    (h : rowExpert te nu (ix1 (y 0)) = BitVec.ofNat 32 e) : ref0 x w te nu y = prod x w e y := by
  have L : ∀ (k : Fin 8) word hs rest, layer x w (rowExpert te nu) k word hs rest y
      = if BitVec.ofNat 32 e = word then prod x w k y else rest y := by
    intro k word hs rest
    rw [layer_apply, h]
  clear h
  unfold ref0
  fin_cases e
  · refine (L 7 _ _ _).trans ?_
    refine (if_neg (by decide)).trans ?_
    refine (L 6 _ _ _).trans ?_
    refine (if_neg (by decide)).trans ?_
    refine (L 5 _ _ _).trans ?_
    refine (if_neg (by decide)).trans ?_
    refine (L 4 _ _ _).trans ?_
    refine (if_neg (by decide)).trans ?_
    refine (L 3 _ _ _).trans ?_
    refine (if_neg (by decide)).trans ?_
    refine (L 2 _ _ _).trans ?_
    refine (if_neg (by decide)).trans ?_
    refine (L 1 _ _ _).trans ?_
    refine (if_neg (by decide)).trans ?_
    refine (L 0 _ _ _).trans ?_
    exact if_pos rfl
  · refine (L 7 _ _ _).trans ?_
    refine (if_neg (by decide)).trans ?_
    refine (L 6 _ _ _).trans ?_
    refine (if_neg (by decide)).trans ?_
    refine (L 5 _ _ _).trans ?_
    refine (if_neg (by decide)).trans ?_
    refine (L 4 _ _ _).trans ?_
    refine (if_neg (by decide)).trans ?_
    refine (L 3 _ _ _).trans ?_
    refine (if_neg (by decide)).trans ?_
    refine (L 2 _ _ _).trans ?_
    refine (if_neg (by decide)).trans ?_
    refine (L 1 _ _ _).trans ?_
    exact if_pos rfl
  · refine (L 7 _ _ _).trans ?_
    refine (if_neg (by decide)).trans ?_
    refine (L 6 _ _ _).trans ?_
    refine (if_neg (by decide)).trans ?_
    refine (L 5 _ _ _).trans ?_
    refine (if_neg (by decide)).trans ?_
    refine (L 4 _ _ _).trans ?_
    refine (if_neg (by decide)).trans ?_
    refine (L 3 _ _ _).trans ?_
    refine (if_neg (by decide)).trans ?_
    refine (L 2 _ _ _).trans ?_
    exact if_pos rfl
  · refine (L 7 _ _ _).trans ?_
    refine (if_neg (by decide)).trans ?_
    refine (L 6 _ _ _).trans ?_
    refine (if_neg (by decide)).trans ?_
    refine (L 5 _ _ _).trans ?_
    refine (if_neg (by decide)).trans ?_
    refine (L 4 _ _ _).trans ?_
    refine (if_neg (by decide)).trans ?_
    refine (L 3 _ _ _).trans ?_
    exact if_pos rfl
  · refine (L 7 _ _ _).trans ?_
    refine (if_neg (by decide)).trans ?_
    refine (L 6 _ _ _).trans ?_
    refine (if_neg (by decide)).trans ?_
    refine (L 5 _ _ _).trans ?_
    refine (if_neg (by decide)).trans ?_
    refine (L 4 _ _ _).trans ?_
    exact if_pos rfl
  · refine (L 7 _ _ _).trans ?_
    refine (if_neg (by decide)).trans ?_
    refine (L 6 _ _ _).trans ?_
    refine (if_neg (by decide)).trans ?_
    refine (L 5 _ _ _).trans ?_
    exact if_pos rfl
  · refine (L 7 _ _ _).trans ?_
    refine (if_neg (by decide)).trans ?_
    refine (L 6 _ _ _).trans ?_
    exact if_pos rfl
  · refine (L 7 _ _ _).trans ?_
    exact if_pos rfl

/-- and at a row of an idle tile. -/
theorem ref0_idle (x w te nu) (y : Cert.MoeDownRefIdeal.S20480x2048.Idx)
    (h : rowExpert te nu (ix1 (y 0)) = 4294967295#32) : ref0 x w te nu y = 0 := by
  have L : ∀ (k : Fin 8) word hs rest, layer x w (rowExpert te nu) k word hs rest y
      = if 4294967295#32 = word then prod x w k y else rest y := by
    intro k word hs rest
    rw [layer_apply, h]
  clear h
  unfold ref0
  refine (L 7 _ _ _).trans ?_
  refine (if_neg (by decide)).trans ?_
  refine (L 6 _ _ _).trans ?_
  refine (if_neg (by decide)).trans ?_
  refine (L 5 _ _ _).trans ?_
  refine (if_neg (by decide)).trans ?_
  refine (L 4 _ _ _).trans ?_
  refine (if_neg (by decide)).trans ?_
  refine (L 3 _ _ _).trans ?_
  refine (if_neg (by decide)).trans ?_
  refine (L 2 _ _ _).trans ?_
  refine (if_neg (by decide)).trans ?_
  refine (L 1 _ _ _).trans ?_
  refine (if_neg (by decide)).trans ?_
  refine (L 0 _ _ _).trans ?_
  refine (if_neg (by decide)).trans ?_
  pointwise []

theorem ref0_used' (x w te nu) (a : Fin 20480) (b : Fin 2048) (e : Fin 8)
    (h : rowExpert te nu (ix1 a) = BitVec.ofNat 32 e) : ref0 x w te nu (ix2 a b) = prod x w e (ix2 a b) :=
  ref0_used x w te nu (ix2 a b) e h

theorem ref0_idle' (x w te nu) (a : Fin 20480) (b : Fin 2048)
    (h : rowExpert te nu (ix1 a) = 4294967295#32) : ref0 x w te nu (ix2 a b) = 0 :=
  ref0_idle x w te nu (ix2 a b) h

/-- What the body leaves at a used tile, -/
theorem outA (c i a4 h4 a5 h5 a6 h6 x0 x1 xt0 xt1 hc) :
    out0_A_2 (F := Ideal) c i a4 h4 a5 h5 a6 h6 x0 x1 xt0 xt1 hc = k0_pay2 x0 x1 := by
  frame_out

/-- and at an idle one. -/
theorem outB (c i a4 h4 a5 h5 a6 h6 x0 x1 xt0 xt1 hc) :
    out0_B_2 (F := Ideal) c i a4 h4 a5 h5 a6 h6 x0 x1 xt0 xt1 hc = k0_pay1 (F := Ideal) := by
  frame_out

theorem pay1_apply (y) : k0_pay1 (F := Ideal) y = 0 := by
  pointwise [k0_pay1]

theorem pay2_apply (a b y) : k0_pay2 (F := Ideal) a b y = ∑ x, a (ix2 (y 0) x) * b (ix4 0 0 x (y 1)) := by
  pointwise [k0_pay2]

/-- The payload over blocks that are the arrays' at tile `i`, column block `j` and expert `e` is the product there. -/
theorem pay2_prod (X w) (b0 : Vec Ideal S256x5632 .bf16) (b1 : Vec Ideal S1x1x5632x1024 .bf16) (i j : ℕ) (hi : i < 80) (hj : j < 2) (e : Fin 8)
    (h0 : ∀ x p, b0 x = X (ix2 ⟨i * 256 + (x 0).val, p⟩ (x 1)))
    (h1 : ∀ x q, b1 x = w (ix4 0 e (x 2) ⟨j * 1024 + (x 3).val, q⟩)) (y : S256x1024.Idx) (p q) :
    k0_pay2 (F := Ideal) b0 b1 y = prod X w e (ix2 ⟨i * 256 + (y 0).val, p⟩ ⟨j * 1024 + (y 1).val, q⟩) := by
  have s1 : ∀ k, b0 (ix2 (y 0) k) * b1 (ix4 0 0 k (y 1)) = X (ix2 ⟨i * 256 + (y 0).val, p⟩ k) * w (ix4 0 e k ⟨j * 1024 + (y 1).val, q⟩) :=
    fun k => congrArg₂ (· * ·) (h0 (ix2 (y 0) k) p) (h1 (ix4 0 0 k (y 1)) q)
  rw [pay2_apply]
  simp only [s1]
  rfl

theorem final (hO : Ok m) (c : Dev nD) (hte : ∀ n : Fin 80, BitVec.toNat (w := 32) (m ((c : Thread nD τ).loc main_arg2) (ix1 n)) < 8) :
    (dats m hO 0 c).arrAt 2 (cfgM m hO).N
    = ref0 (m ((c : Thread nD τ).loc main_arg0)) (m ((c : Thread nD τ).loc main_arg1))
        (m ((c : Thread nD τ).loc main_arg2)) (m ((c : Thread nD τ).loc main_arg3)) := by
  refine (dats m hO 0 c).arrAt_eq_of_covers 2 _ (cover m hO) fun t hf y => ?_
  have e0 : (grid0.coords t 0).val < 2 := (grid0.coords t 0).isLt
  have e1 : (grid0.coords t 1).val < 80 := (grid0.coords t 1).isLt
  have y0 : (y (0 : Fin 2)).val < 256 := (y (0 : Fin 2)).isLt
  have y1 : (y (1 : Fin 2)).val < 1024 := (y (1 : Fin 2)).isLt
  rw [emb2 m hO t y (by omega) (by omega)]
  have r : rowExpert (m ((c : Thread nD τ).loc main_arg2)) (m ((c : Thread nD τ).loc main_arg3)) (ix1 ⟨(grid0.coords t 1).val * 256 + (y (0 : Fin 2)).val, by omega⟩)
      = if ((grid0.coords t 1).val : ℤ) < BitVec.toInt (n := 32) (m ((c : Thread nD τ).loc main_arg3) (ix1 0))
        then m ((c : Thread nD τ).loc main_arg2) (ix1 ⟨(grid0.coords t 1).val, e1⟩) else 4294967295#32 := by
    have q : ((grid0.coords t 1).val * 256 + (y (0 : Fin 2)).val) / 256 = (grid0.coords t 1).val := by omega
    refine (rowExpert_apply _ _ _ (by show (_ * 256 + _) / 256 < 80; omega)).trans ?_
    show (if IntOp.cmpi .slt (BitVec.ofNat 32 (((grid0.coords t 1).val * 256 + (y (0 : Fin 2)).val) / 256)) _ = _ then
      m ((c : Thread nD τ).loc main_arg2) (ix1 ⟨((grid0.coords t 1).val * 256 + (y (0 : Fin 2)).val) / 256, _⟩) else _) = _
    simp only [q, cmp_iff _ e1]
  blk_simp; rw [after0_2]
  have w : tbM0_1.view.readAt (Elt Ideal) (Rect.unit (s := S1) ![0] S1.size inb_S1_S1_0).toLoadRect (tbl m 1) (Shape.Idx.first (numel1_S1.symm ▸ Nat.one_pos)) = m ((c : Thread nD τ).loc main_arg3) (ix1 0) := by
    obtain rfl : c = 0 := Subsingleton.elim _ _
    exact at1 (tbl m) _ rfl
  by_cases h0 : cond0_0 (grid0.coords t) (tbM0_1.view.readAt (Elt Ideal) (Rect.unit (s := S1) ![0] S1.size inb_S1_S1_0).toLoadRect (tbl m 1) (Shape.Idx.first (numel1_S1.symm ▸ Nat.one_pos)))
  · rw [outsAt0_A m hO c t h0]
    refine (congrFun (outA _ _ _ _ _ _ _ _ _ _ _ _ _) y).trans ?_
    rw [w] at h0
    have h0 := (cond_iff _ e1 _).1 h0
    rw [if_pos h0] at r
    obtain ⟨e, he⟩ : ∃ e : Fin 8, m ((c : Thread nD τ).loc main_arg2) (ix1 ⟨(grid0.coords t 1).val, e1⟩) = BitVec.ofNat 32 e :=
      word_fin _ (hte ⟨(grid0.coords t 1).val, e1⟩)
    rw [he] at r
    refine Eq.trans ?_ (ref0_used' _ _ _ _ _ _ e r).symm
    exact pay2_prod _ _ _ _ _ _ e1 e0 e (fun x p => blk0 m hO c t x p h0) (fun x q => blk1 m hO c t x e1 e he q) y _ _
  · rw [outsAt0_B m hO c t h0]
    refine (congrFun (outB _ _ _ _ _ _ _ _ _ _ _ _ _) y).trans ?_
    rw [w] at h0
    have h0 := fun h => h0 ((cond_iff _ e1 _).2 h)
    rw [if_neg h0] at r
    exact (pay1_apply _).trans (ref0_idle' _ _ _ _ _ _ r).symm

end Cert.MoeDownIdeal.Point

end
-- ==== Proof.InProj.lean ====
/- The value of the input projection: the array the grid leaves is the reference's product with its columns reordered. -/
module

public import proofs.«01_k».proof.Proof.Gen.InProjIdeal.Frame
public import proofs.«01_k».proof.Proof.Gen.InProjRefIdeal
public import Idealize.ShloMosaic.Lib.Pipeline.ValueKit
public import Idealize.ShloMosaic.Lib.Pointwise
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.InProjIdeal.Point

open Cert.InProjIdeal Cert.InProjIdeal.Gen

variable (m : (ℓ : Loc nD τ sig) → Buf (Elt Ideal) ℓ)

/-- The reference's result 0 over its arguments. -/
abbrev ref0 (a0 : FVec Ideal Cert.InProjRefIdeal.S9472x2048 .bf16) (a1 : FVec Ideal Cert.InProjRefIdeal.S2048x11776 .bf16) : FVec Ideal Cert.InProjRefIdeal.S9472x11776 .bf16 :=
  truncf .bf16 ((concatenate Cert.InProjRefIdeal.S9472x11776 1 [⟨Cert.InProjRefIdeal.S9472x1024, ((extractStridedSlice Cert.InProjRefIdeal.S9472x1024 ![0, 0] (Host.dotGeneral Cert.InProjRefIdeal.dot_S9472x2048_S2048x11776_S9472x11776_1_0_0_1_n_n none (extf .f32 a0 Cert.InProjRefIdeal.Gen.bitsLt_bf16_f32) (extf .f32 a1 Cert.InProjRefIdeal.Gen.bitsLt_bf16_f32)) Cert.InProjRefIdeal.Gen.slices_S9472x11776_S9472x1024_0_0) : (⟨Cert.InProjRefIdeal.S9472x1024, .f32⟩ : BufTy).Contents (Elt Ideal))⟩, ⟨Cert.InProjRefIdeal.S9472x10240, ((extractStridedSlice Cert.InProjRefIdeal.S9472x10240 ![0, 1536] (Host.dotGeneral Cert.InProjRefIdeal.dot_S9472x2048_S2048x11776_S9472x11776_1_0_0_1_n_n none (extf .f32 a0 Cert.InProjRefIdeal.Gen.bitsLt_bf16_f32) (extf .f32 a1 Cert.InProjRefIdeal.Gen.bitsLt_bf16_f32)) Cert.InProjRefIdeal.Gen.slices_S9472x11776_S9472x10240_0_1536) : (⟨Cert.InProjRefIdeal.S9472x10240, .f32⟩ : BufTy).Contents (Elt Ideal))⟩, ⟨Cert.InProjRefIdeal.S9472x256, ((extractStridedSlice Cert.InProjRefIdeal.S9472x256 ![0, 1024] (Host.dotGeneral Cert.InProjRefIdeal.dot_S9472x2048_S2048x11776_S9472x11776_1_0_0_1_n_n none (extf .f32 a0 Cert.InProjRefIdeal.Gen.bitsLt_bf16_f32) (extf .f32 a1 Cert.InProjRefIdeal.Gen.bitsLt_bf16_f32)) Cert.InProjRefIdeal.Gen.slices_S9472x11776_S9472x256_0_1024) : (⟨Cert.InProjRefIdeal.S9472x256, .f32⟩ : BufTy).Contents (Elt Ideal))⟩, ⟨Cert.InProjRefIdeal.S9472x256, ((extractStridedSlice Cert.InProjRefIdeal.S9472x256 ![0, 1280] (Host.dotGeneral Cert.InProjRefIdeal.dot_S9472x2048_S2048x11776_S9472x11776_1_0_0_1_n_n none (extf .f32 a0 Cert.InProjRefIdeal.Gen.bitsLt_bf16_f32) (extf .f32 a1 Cert.InProjRefIdeal.Gen.bitsLt_bf16_f32)) Cert.InProjRefIdeal.Gen.slices_S9472x11776_S9472x256_0_1280) : (⟨Cert.InProjRefIdeal.S9472x256, .f32⟩ : BufTy).Contents (Elt Ideal))⟩] Cert.InProjRefIdeal.Gen.concatenates_S9472x1024_S9472x10240_S9472x256_S9472x256_S9472x11776_d1 : (⟨Cert.InProjRefIdeal.S9472x11776, .f32⟩ : BufTy).Contents (Elt Ideal))) Cert.InProjRefIdeal.Gen.bitsLt_bf16_f32

/-- Where each window's block lies at every grid point. -/
theorem idx : ∀ t : Fin cfg0.N, win0_0.index t = ![t.val / 23, 0]
    ∧ win0_1.index t = ![0, if t.val % 23 < 2 then t.val % 23 else if t.val % 23 < 22 then t.val % 23 + 1 else 2]
    ∧ win0_2.index t = ![t.val / 23, t.val % 23] :=
  (by decide +kernel : ∀ t : Fin grid0.N, _)

theorem point (c : Dev nD) (t : Fin cfg0.N) (y) :
    k0_pay1 (iblk m c 0 t) (iblk m c 1 t) y
      = ref0 (m ((c : Thread nD τ).loc main_arg0)) (m ((c : Thread nD τ).loc main_arg1))
          (((cfg0.win 2).blk t).view.emb y) := by
  pointwise [k0_pay1, ref0]
  blk_simp [iblk, V, idx t]
  split_ifs <;> blk_point [idx t] <;> split_ifs <;> omega

/-- The array after the run. -/
theorem final (c : Dev nD) : (dats m 0 c).arrAt 2 cfg0.N
    = ref0 (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.InProjIdeal.Point

end
-- ==== Proof.FfnUp.lean ====
/- The value of the feed-forward block's first half: the array the grid leaves is the reference's gated product. -/
module

public import proofs.«01_k».proof.Proof.Gen.FfnUpIdeal.Frame
public import proofs.«01_k».proof.Proof.Gen.FfnUpRefIdeal
public import Idealize.ShloMosaic.Lib.Pipeline.ValueKit
public import Idealize.ShloMosaic.Lib.Pointwise
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.FfnUpIdeal.Point

open Cert.FfnUpIdeal Cert.FfnUpIdeal.Gen

variable (m : (ℓ : Loc nD τ sig) → Buf (Elt Ideal) ℓ)

/-- The reference's result 0 over its arguments. -/
abbrev ref0 (a0 : FVec Ideal Cert.FfnUpRefIdeal.S9472x2048 .bf16) (a1 a2 : FVec Ideal Cert.FfnUpRefIdeal.S2048x5632 .bf16) : FVec Ideal Cert.FfnUpRefIdeal.S9472x5632 .bf16 :=
  truncf .bf16 (mulf (mulf (Host.dotGeneral Cert.FfnUpRefIdeal.dot_S9472x2048_S2048x5632_S9472x5632_1_0_0_1_n_n none (extf .f32 a0 Cert.FfnUpRefIdeal.Gen.bitsLt_bf16_f32) (extf .f32 a1 Cert.FfnUpRefIdeal.Gen.bitsLt_bf16_f32)) (Host.divf (broadcastInDim Cert.FfnUpRefIdeal.S9472x5632 ![] Cert.FfnUpRefIdeal.Gen.bcast_S_S9472x5632 (constant Cert.FfnUpRefIdeal.S_ .f32 0x3F800000#32)) (addf (broadcastInDim Cert.FfnUpRefIdeal.S9472x5632 ![] Cert.FfnUpRefIdeal.Gen.bcast_S_S9472x5632 (constant Cert.FfnUpRefIdeal.S_ .f32 0x3F800000#32)) (Host.exp (Host.negf (Host.dotGeneral Cert.FfnUpRefIdeal.dot_S9472x2048_S2048x5632_S9472x5632_1_0_0_1_n_n none (extf .f32 a0 Cert.FfnUpRefIdeal.Gen.bitsLt_bf16_f32) (extf .f32 a1 Cert.FfnUpRefIdeal.Gen.bitsLt_bf16_f32))))))) (Host.dotGeneral Cert.FfnUpRefIdeal.dot_S9472x2048_S2048x5632_S9472x5632_1_0_0_1_n_n none (extf .f32 a0 Cert.FfnUpRefIdeal.Gen.bitsLt_bf16_f32) (extf .f32 a2 Cert.FfnUpRefIdeal.Gen.bitsLt_bf16_f32))) Cert.FfnUpRefIdeal.Gen.bitsLt_bf16_f32

/-- Where each window's block lies at every grid point. -/
theorem idx : ∀ t : Fin cfg0.N, win0_0.index t = ![t.val / 11, 0]
    ∧ win0_1.index t = ![0, t.val % 11] ∧ win0_2.index t = ![0, t.val % 11]
    ∧ win0_3.index t = ![t.val / 11, t.val % 11] :=
  (by decide +kernel : ∀ t : Fin grid0.N, _)

theorem point (c : Dev nD) (t : Fin cfg0.N) (y) :
    k0_pay1 (iblk m c 0 t) (iblk m c 1 t) (iblk m c 2 t) y
      = ref0 (m ((c : Thread nD τ).loc main_arg0)) (m ((c : Thread nD τ).loc main_arg1))
          (m ((c : Thread nD τ).loc main_arg2)) (((cfg0.win 3).blk t).view.emb y) := by
  pointwise [k0_pay1, ref0]
  simp only [zero_sub]
  blk_point [iblk, V, idx t]

/-- The array after the run. -/
theorem final (c : Dev nD) : (dats m 0 c).arrAt 3 cfg0.N
    = ref0 (m ((c : Thread nD τ).loc main_arg0)) (m ((c : Thread nD τ).loc main_arg1))
        (m ((c : Thread nD τ).loc main_arg2)) := by
  refine (dats m 0 c).arrAt_eq_of_covers 3 _ (by decide +kernel) fun t hf y => ?_
  blk_simp; rw [after0_3]; frame_out
  exact point m c t y

end Cert.FfnUpIdeal.Point

end
-- ==== Proof.FfnDown.lean ====
/- The value of the feed-forward block's second half: the new residual stream and its normalised rows. -/
module

public import proofs.«01_k».proof.Proof.Gen.FfnDownIdeal.Frame
public import proofs.«01_k».proof.Proof.Gen.FfnDownRefIdeal
public import Idealize.ShloMosaic.Lib.Pipeline.ValueKit
public import Idealize.ShloMosaic.Lib.Pointwise
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.FfnDownIdeal.Point

open Cert.FfnDownIdeal Cert.FfnDownIdeal.Gen

variable (m : (ℓ : Loc nD τ sig) → Buf (Elt Ideal) ℓ)

/-- The reference's result 0 over its arguments. -/
abbrev ref0 (a0 : FVec Ideal Cert.FfnDownRefIdeal.S9472x5632 .bf16) (a1 : FVec Ideal Cert.FfnDownRefIdeal.S5632x2048 .bf16) (a2 : FVec Ideal Cert.FfnDownRefIdeal.S9472x2048 .f32) : FVec Ideal Cert.FfnDownRefIdeal.S9472x2048 .f32 :=
  addf a2 (Host.dotGeneral Cert.FfnDownRefIdeal.dot_S9472x5632_S5632x2048_S9472x2048_1_0_0_1_n_n none (extf .f32 a0 Cert.FfnDownRefIdeal.Gen.bitsLt_bf16_f32) (extf .f32 a1 Cert.FfnDownRefIdeal.Gen.bitsLt_bf16_f32))

/-- The reference's result 1 over its arguments. -/
abbrev ref1 (a0 : FVec Ideal Cert.FfnDownRefIdeal.S9472x5632 .bf16) (a1 : FVec Ideal Cert.FfnDownRefIdeal.S5632x2048 .bf16) (a2 : FVec Ideal Cert.FfnDownRefIdeal.S9472x2048 .f32) (a3 : FVec Ideal Cert.FfnDownRefIdeal.S2048 .f32) : FVec Ideal Cert.FfnDownRefIdeal.S9472x2048 .bf16 :=
  truncf .bf16 (mulf (mulf (addf a2 (Host.dotGeneral Cert.FfnDownRefIdeal.dot_S9472x5632_S5632x2048_S9472x2048_1_0_0_1_n_n none (extf .f32 a0 Cert.FfnDownRefIdeal.Gen.bitsLt_bf16_f32) (extf .f32 a1 Cert.FfnDownRefIdeal.Gen.bitsLt_bf16_f32))) (broadcastInDim Cert.FfnDownRefIdeal.S9472x2048 ![0, 1] Cert.FfnDownRefIdeal.Gen.bcast_S9472x1_S9472x2048_0_1 (Host.rsqrt (addf (Host.divf (broadcastInDim Cert.FfnDownRefIdeal.S9472x1 ![0] Cert.FfnDownRefIdeal.Gen.bcast_S9472_S9472x1_0 (Host.reduceAdd (mulf (addf a2 (Host.dotGeneral Cert.FfnDownRefIdeal.dot_S9472x5632_S5632x2048_S9472x2048_1_0_0_1_n_n none (extf .f32 a0 Cert.FfnDownRefIdeal.Gen.bitsLt_bf16_f32) (extf .f32 a1 Cert.FfnDownRefIdeal.Gen.bitsLt_bf16_f32))) (addf a2 (Host.dotGeneral Cert.FfnDownRefIdeal.dot_S9472x5632_S5632x2048_S9472x2048_1_0_0_1_n_n none (extf .f32 a0 Cert.FfnDownRefIdeal.Gen.bitsLt_bf16_f32) (extf .f32 a1 Cert.FfnDownRefIdeal.Gen.bitsLt_bf16_f32)))) (constant Cert.FfnDownRefIdeal.S_ .f32 0x00000000#32) Cert.FfnDownRefIdeal.Gen.reducesTo_S9472x2048_S9472_d1 Cert.FfnDownRefIdeal.Gen.h_S_)) (broadcastInDim Cert.FfnDownRefIdeal.S9472x1 ![] Cert.FfnDownRefIdeal.Gen.bcast_S_S9472x1 (constant Cert.FfnDownRefIdeal.S_ .f32 0x45000000#32))) (broadcastInDim Cert.FfnDownRefIdeal.S9472x1 ![] Cert.FfnDownRefIdeal.Gen.bcast_S_S9472x1 (constant Cert.FfnDownRefIdeal.S_ .f32 0x358637BD#32)))))) (broadcastInDim Cert.FfnDownRefIdeal.S9472x2048 ![0, 1] Cert.FfnDownRefIdeal.Gen.bcast_S1x2048_S9472x2048_0_1 (broadcastInDim Cert.FfnDownRefIdeal.S1x2048 ![1] Cert.FfnDownRefIdeal.Gen.bcast_S2048_S1x2048_1 a3))) Cert.FfnDownRefIdeal.Gen.bitsLt_bf16_f32

/-- Where each window's block lies at every grid point. -/
theorem idx : ∀ t : Fin cfg0.N, win0_0.index t = ![t.val, 0]
    ∧ win0_1.index t = ![0, 0] ∧ win0_2.index t = ![t.val, 0] ∧ win0_3.index t = ![0, 0]
    ∧ win0_4.index t = ![t.val, 0] ∧ win0_5.index t = ![t.val, 0] :=
  (by decide +kernel : ∀ t : Fin grid0.N, _)

theorem point0 (c : Dev nD) (t : Fin cfg0.N) (y) :
    k0_pay1 (iblk m c 2 t) (iblk m c 0 t) (iblk m c 1 t) y
      = ref0 (m ((c : Thread nD τ).loc main_arg0)) (m ((c : Thread nD τ).loc main_arg1))
          (m ((c : Thread nD τ).loc main_arg2)) (((cfg0.win 4).blk t).view.emb y) := by
  pointwise [k0_pay1, ref0]
  blk_point [iblk, V, idx t]

theorem point1 (c : Dev nD) (t : Fin cfg0.N) (y) :
    k0_pay2 (iblk m c 2 t) (iblk m c 0 t) (iblk m c 1 t) (iblk m c 3 t) y
      = ref1 (m ((c : Thread nD τ).loc main_arg0)) (m ((c : Thread nD τ).loc main_arg1))
          (m ((c : Thread nD τ).loc main_arg2)) (m ((c : Thread nD τ).loc main_arg3)) (((cfg0.win 5).blk t).view.emb y) := by
  pointwise [k0_pay2, k0_pay1, ref1]
  blk_point [iblk, V, idx t]

/-- The new residual stream after the run. -/
theorem final0 (c : Dev nD) : (dats m 0 c).arrAt 4 cfg0.N = ref0 (m ((c : Thread nD τ).loc main_arg0)) (m ((c : Thread nD τ).loc main_arg1))
          (m ((c : Thread nD τ).loc main_arg2)) := by
  refine (dats m 0 c).arrAt_eq_of_covers 4 _ (by decide +kernel) fun t hf y => ?_
  blk_simp; rw [after0_4]; frame_out
  exact point0 m c t y

/-- Its normalised rows after the run. -/
theorem final1 (c : Dev nD) : (dats m 0 c).arrAt 5 cfg0.N = ref1 (m ((c : Thread nD τ).loc main_arg0)) (m ((c : Thread nD τ).loc main_arg1))
          (m ((c : Thread nD τ).loc main_arg2)) (m ((c : Thread nD τ).loc main_arg3)) := by
  refine (dats m 0 c).arrAt_eq_of_covers 5 _ (by decide +kernel) fun t hf y => ?_
  blk_simp; rw [after0_5]; frame_out
  exact point1 m c t y

end Cert.FfnDownIdeal.Point

end
-- ==== Proof.SampleIdealFrame.lean ====
module

public import proofs.«01_k».proof.Proof.Gen.SampleIdeal.Frame.RunA
public import Idealize.ShloMosaic.Lib.Claim

@[expose] public section

-- membership in a rectangle of production extents (`View.cover_of_tiled`): the elaborator's structural look
-- recurses once per coordinate of the long axes
set_option maxRecDepth 16384

noncomputable section

namespace Cert.SampleIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The run's pieces for output 24 tile its block. -/
theorem cover0_A_24 (c : Dev nD) (i : grid0.Coords) (arg1 : Memref sig .tc .smem S16 .f32) (harg1 : arg1.IsWhole) (arg2 : Memref sig .tc .vmem S64x1024 .bf16) (harg2 : arg2.IsWhole) (arg3 : Memref sig .tc .vmem S64x256 .bf16) (harg3 : arg3.IsWhole) (arg4 : Memref sig .tc .vmem S64x256 .bf16) (harg4 : arg4.IsWhole) (arg5 : Memref sig .tc .vmem S8x128x256 .f32) (harg5 : arg5.IsWhole) (arg6 : Memref sig .tc .vmem S8x128x256 .f32) (harg6 : arg6.IsWhole) (arg7 : Memref sig .tc .vmem S64x1024 .bf16) (harg7 : arg7.IsWhole) (arg8 : Memref sig .tc .vmem S64x1024 .bf16) (harg8 : arg8.IsWhole) (arg9 : Memref sig .tc .vmem S8x30x1024 .f32) (harg9 : arg9.IsWhole) (arg10 : Memref sig .tc .vmem S31x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S64x1024 .bf16) (harg14 : arg14.IsWhole) (arg15 : Memref sig .tc .vmem S64x1024 .bf16) (harg15 : arg15.IsWhole) (arg16 : Memref sig .tc .vmem S8x3x1024 .f32) (harg16 : arg16.IsWhole) (arg17 : Memref sig .tc .vmem S8x1024 .f32) (harg17 : arg17.IsWhole) (arg18 : Memref sig .tc .vmem S4x1024 .f32) (harg18 : arg18.IsWhole) (arg19 : Memref sig .tc .vmem S1x1024 .f32) (harg19 : arg19.IsWhole) (arg20 : Memref sig .tc .vmem S4x256x256 .bf16) (harg20 : arg20.IsWhole) (arg21 : Memref sig .tc .vmem S1x1024 .f32) (harg21 : arg21.IsWhole) (arg22 : Memref sig .tc .vmem S4x256x256 .bf16) (harg22 : arg22.IsWhole) (arg23 : Memref sig .tc .vmem S1x1024 .f32) (harg23 : arg23.IsWhole) (arg24 : Memref sig .tc .vmem S1x1024 .f32) (harg24 : arg24.IsWhole) (arg30 : Memref sig .tc .vmem S64x1024 .bf16) (harg30 : arg30.IsWhole) (arg31 : Memref sig .tc .vmem S8x128x256 .f32) (harg31 : arg31.IsWhole) (arg32 : Memref sig .tc .vmem S8x128x256 .f32) (harg32 : arg32.IsWhole) (arg33 : Memref sig .tc .vmem S64x1024 .bf16) (harg33 : arg33.IsWhole) (arg34 : Memref sig .tc .vmem S8x30x1024 .f32) (harg34 : arg34.IsWhole) (arg35 : Memref sig .tc .vmem S64x1024 .bf16) (harg35 : arg35.IsWhole) (arg36 : Memref sig .tc .vmem S8x3x1024 .f32) (harg36 : arg36.IsWhole) (arg37 : Memref sig .tc .vmem S8x1024 .f32) (harg37 : arg37.IsWhole) (arg38 : Memref sig .tc .vmem S8x40x1024 .f32) (harg38 : arg38.IsWhole) (arg39 : Memref sig .tc .vmem S64x1024 .f32) (harg39 : arg39.IsWhole) (arg40 : Memref sig .tc .vmem S8x16x1024 .f32) (harg40 : arg40.IsWhole) (arg41 : Memref sig .tc .vmem S64x1024 .f32) (harg41 : arg41.IsWhole) (arg42 : Memref sig .tc .vmem S64x1024 .f32) (harg42 : arg42.IsWhole) (arg43 : Memref sig .tc .vmem S64x1024 .f32) (harg43 : arg43.IsWhole) (arg44 : Memref sig .tc .vmem S64x1024 .f32) (harg44 : arg44.IsWhole)
    (x0 : Vec F S16 .f32) (x1 : Vec F S64x1024 .bf16) (x2 : Vec F S64x256 .bf16) (x3 : Vec F S64x256 .bf16) (x4 : Vec F S8x128x256 .f32) (x5 : Vec F S8x128x256 .f32) (x6 : Vec F S64x1024 .bf16) (x7 : Vec F S64x1024 .bf16) (x8 : Vec F S8x30x1024 .f32) (x9 : Vec F S31x1024 .f32) (x10 : Vec F S1x1024 .f32) (x11 : Vec F S1x1024 .f32) (x12 : Vec F S1x1024 .f32) (x13 : Vec F S64x1024 .bf16) (x14 : Vec F S64x1024 .bf16) (x15 : Vec F S8x3x1024 .f32) (x16 : Vec F S8x1024 .f32) (x17 : Vec F S4x1024 .f32) (x18 : Vec F S1x1024 .f32) (x19 : Vec F S4x256x256 .bf16) (x20 : Vec F S1x1024 .f32) (x21 : Vec F S4x256x256 .bf16) (x22 : Vec F S1x1024 .f32) (x23 : Vec F S1x1024 .f32) (y : S64x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg30 harg30 arg31 harg31 arg32 harg32 arg33 harg33 arg34 harg34 arg35 harg35 arg36 harg36 arg37 harg37 arg38 harg38 arg39 harg39 arg40 harg40 arg41 harg41 arg42 harg42 arg43 harg43 arg44 harg44 x0 x1 x2 x3 x4 x5 x6 x7 x8 x9 x10 x11 x12 x13 x14 x15 x16 x17 x18 x19 x20 x21 x22 x23).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg30 harg30 arg31 harg31 arg32 harg32 arg33 harg33 arg34 harg34 arg35 harg35 arg36 harg36 arg37 harg37 arg38 harg38 arg39 harg39 arg40 harg40 arg41 harg41 arg42 harg42 arg43 harg43 arg44 harg44 x0 x1 x2 x3 x4 x5 x6 x7 x8 x9 x10 x11 x12 x13 x14 x15 x16 x17 x18 x19 x20 x21 x22 x23).1 S64x64.size (by sl_kernel_rfl) y

/-- What the run leaves in output 24's staging buffer: its pieces read back over junk. -/
def out0_A_24 (c : Dev nD) (i : grid0.Coords) (arg1 : Memref sig .tc .smem S16 .f32) (harg1 : arg1.IsWhole) (arg2 : Memref sig .tc .vmem S64x1024 .bf16) (harg2 : arg2.IsWhole) (arg3 : Memref sig .tc .vmem S64x256 .bf16) (harg3 : arg3.IsWhole) (arg4 : Memref sig .tc .vmem S64x256 .bf16) (harg4 : arg4.IsWhole) (arg5 : Memref sig .tc .vmem S8x128x256 .f32) (harg5 : arg5.IsWhole) (arg6 : Memref sig .tc .vmem S8x128x256 .f32) (harg6 : arg6.IsWhole) (arg7 : Memref sig .tc .vmem S64x1024 .bf16) (harg7 : arg7.IsWhole) (arg8 : Memref sig .tc .vmem S64x1024 .bf16) (harg8 : arg8.IsWhole) (arg9 : Memref sig .tc .vmem S8x30x1024 .f32) (harg9 : arg9.IsWhole) (arg10 : Memref sig .tc .vmem S31x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S64x1024 .bf16) (harg14 : arg14.IsWhole) (arg15 : Memref sig .tc .vmem S64x1024 .bf16) (harg15 : arg15.IsWhole) (arg16 : Memref sig .tc .vmem S8x3x1024 .f32) (harg16 : arg16.IsWhole) (arg17 : Memref sig .tc .vmem S8x1024 .f32) (harg17 : arg17.IsWhole) (arg18 : Memref sig .tc .vmem S4x1024 .f32) (harg18 : arg18.IsWhole) (arg19 : Memref sig .tc .vmem S1x1024 .f32) (harg19 : arg19.IsWhole) (arg20 : Memref sig .tc .vmem S4x256x256 .bf16) (harg20 : arg20.IsWhole) (arg21 : Memref sig .tc .vmem S1x1024 .f32) (harg21 : arg21.IsWhole) (arg22 : Memref sig .tc .vmem S4x256x256 .bf16) (harg22 : arg22.IsWhole) (arg23 : Memref sig .tc .vmem S1x1024 .f32) (harg23 : arg23.IsWhole) (arg24 : Memref sig .tc .vmem S1x1024 .f32) (harg24 : arg24.IsWhole) (arg30 : Memref sig .tc .vmem S64x1024 .bf16) (harg30 : arg30.IsWhole) (arg31 : Memref sig .tc .vmem S8x128x256 .f32) (harg31 : arg31.IsWhole) (arg32 : Memref sig .tc .vmem S8x128x256 .f32) (harg32 : arg32.IsWhole) (arg33 : Memref sig .tc .vmem S64x1024 .bf16) (harg33 : arg33.IsWhole) (arg34 : Memref sig .tc .vmem S8x30x1024 .f32) (harg34 : arg34.IsWhole) (arg35 : Memref sig .tc .vmem S64x1024 .bf16) (harg35 : arg35.IsWhole) (arg36 : Memref sig .tc .vmem S8x3x1024 .f32) (harg36 : arg36.IsWhole) (arg37 : Memref sig .tc .vmem S8x1024 .f32) (harg37 : arg37.IsWhole) (arg38 : Memref sig .tc .vmem S8x40x1024 .f32) (harg38 : arg38.IsWhole) (arg39 : Memref sig .tc .vmem S64x1024 .f32) (harg39 : arg39.IsWhole) (arg40 : Memref sig .tc .vmem S8x16x1024 .f32) (harg40 : arg40.IsWhole) (arg41 : Memref sig .tc .vmem S64x1024 .f32) (harg41 : arg41.IsWhole) (arg42 : Memref sig .tc .vmem S64x1024 .f32) (harg42 : arg42.IsWhole) (arg43 : Memref sig .tc .vmem S64x1024 .f32) (harg43 : arg43.IsWhole) (arg44 : Memref sig .tc .vmem S64x1024 .f32) (harg44 : arg44.IsWhole)
    (x0 : Vec F S16 .f32) (x1 : Vec F S64x1024 .bf16) (x2 : Vec F S64x256 .bf16) (x3 : Vec F S64x256 .bf16) (x4 : Vec F S8x128x256 .f32) (x5 : Vec F S8x128x256 .f32) (x6 : Vec F S64x1024 .bf16) (x7 : Vec F S64x1024 .bf16) (x8 : Vec F S8x30x1024 .f32) (x9 : Vec F S31x1024 .f32) (x10 : Vec F S1x1024 .f32) (x11 : Vec F S1x1024 .f32) (x12 : Vec F S1x1024 .f32) (x13 : Vec F S64x1024 .bf16) (x14 : Vec F S64x1024 .bf16) (x15 : Vec F S8x3x1024 .f32) (x16 : Vec F S8x1024 .f32) (x17 : Vec F S4x1024 .f32) (x18 : Vec F S1x1024 .f32) (x19 : Vec F S4x256x256 .bf16) (x20 : Vec F S1x1024 .f32) (x21 : Vec F S4x256x256 .bf16) (x22 : Vec F S1x1024 .f32) (x23 : Vec F S1x1024 .f32) : Vec F S64x1024 .bf16 :=
  VO0_24.read (Elt F) (VO0_24.writes (Elt F) VO0_24.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg30 harg30 arg31 harg31 arg32 harg32 arg33 harg33 arg34 harg34 arg35 harg35 arg36 harg36 arg37 harg37 arg38 harg38 arg39 harg39 arg40 harg40 arg41 harg41 arg42 harg42 arg43 harg43 arg44 harg44 x0 x1 x2 x3 x4 x5 x6 x7 x8 x9 x10 x11 x12 x13 x14 x15 x16 x17 x18 x19 x20 x21 x22 x23).1)

/-- The run's pieces for output 25 are of two sizes; cut into equal blocks they tile its own. -/
theorem cover0_A_25 (c : Dev nD) (i : grid0.Coords) (arg1 : Memref sig .tc .smem S16 .f32) (harg1 : arg1.IsWhole) (arg2 : Memref sig .tc .vmem S64x1024 .bf16) (harg2 : arg2.IsWhole) (arg3 : Memref sig .tc .vmem S64x256 .bf16) (harg3 : arg3.IsWhole) (arg4 : Memref sig .tc .vmem S64x256 .bf16) (harg4 : arg4.IsWhole) (arg5 : Memref sig .tc .vmem S8x128x256 .f32) (harg5 : arg5.IsWhole) (arg6 : Memref sig .tc .vmem S8x128x256 .f32) (harg6 : arg6.IsWhole) (arg7 : Memref sig .tc .vmem S64x1024 .bf16) (harg7 : arg7.IsWhole) (arg8 : Memref sig .tc .vmem S64x1024 .bf16) (harg8 : arg8.IsWhole) (arg9 : Memref sig .tc .vmem S8x30x1024 .f32) (harg9 : arg9.IsWhole) (arg10 : Memref sig .tc .vmem S31x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S64x1024 .bf16) (harg14 : arg14.IsWhole) (arg15 : Memref sig .tc .vmem S64x1024 .bf16) (harg15 : arg15.IsWhole) (arg16 : Memref sig .tc .vmem S8x3x1024 .f32) (harg16 : arg16.IsWhole) (arg17 : Memref sig .tc .vmem S8x1024 .f32) (harg17 : arg17.IsWhole) (arg18 : Memref sig .tc .vmem S4x1024 .f32) (harg18 : arg18.IsWhole) (arg19 : Memref sig .tc .vmem S1x1024 .f32) (harg19 : arg19.IsWhole) (arg20 : Memref sig .tc .vmem S4x256x256 .bf16) (harg20 : arg20.IsWhole) (arg21 : Memref sig .tc .vmem S1x1024 .f32) (harg21 : arg21.IsWhole) (arg22 : Memref sig .tc .vmem S4x256x256 .bf16) (harg22 : arg22.IsWhole) (arg23 : Memref sig .tc .vmem S1x1024 .f32) (harg23 : arg23.IsWhole) (arg24 : Memref sig .tc .vmem S1x1024 .f32) (harg24 : arg24.IsWhole) (arg30 : Memref sig .tc .vmem S64x1024 .bf16) (harg30 : arg30.IsWhole) (arg31 : Memref sig .tc .vmem S8x128x256 .f32) (harg31 : arg31.IsWhole) (arg32 : Memref sig .tc .vmem S8x128x256 .f32) (harg32 : arg32.IsWhole) (arg33 : Memref sig .tc .vmem S64x1024 .bf16) (harg33 : arg33.IsWhole) (arg34 : Memref sig .tc .vmem S8x30x1024 .f32) (harg34 : arg34.IsWhole) (arg35 : Memref sig .tc .vmem S64x1024 .bf16) (harg35 : arg35.IsWhole) (arg36 : Memref sig .tc .vmem S8x3x1024 .f32) (harg36 : arg36.IsWhole) (arg37 : Memref sig .tc .vmem S8x1024 .f32) (harg37 : arg37.IsWhole) (arg38 : Memref sig .tc .vmem S8x40x1024 .f32) (harg38 : arg38.IsWhole) (arg39 : Memref sig .tc .vmem S64x1024 .f32) (harg39 : arg39.IsWhole) (arg40 : Memref sig .tc .vmem S8x16x1024 .f32) (harg40 : arg40.IsWhole) (arg41 : Memref sig .tc .vmem S64x1024 .f32) (harg41 : arg41.IsWhole) (arg42 : Memref sig .tc .vmem S64x1024 .f32) (harg42 : arg42.IsWhole) (arg43 : Memref sig .tc .vmem S64x1024 .f32) (harg43 : arg43.IsWhole) (arg44 : Memref sig .tc .vmem S64x1024 .f32) (harg44 : arg44.IsWhole)
    (x0 : Vec F S16 .f32) (x1 : Vec F S64x1024 .bf16) (x2 : Vec F S64x256 .bf16) (x3 : Vec F S64x256 .bf16) (x4 : Vec F S8x128x256 .f32) (x5 : Vec F S8x128x256 .f32) (x6 : Vec F S64x1024 .bf16) (x7 : Vec F S64x1024 .bf16) (x8 : Vec F S8x30x1024 .f32) (x9 : Vec F S31x1024 .f32) (x10 : Vec F S1x1024 .f32) (x11 : Vec F S1x1024 .f32) (x12 : Vec F S1x1024 .f32) (x13 : Vec F S64x1024 .bf16) (x14 : Vec F S64x1024 .bf16) (x15 : Vec F S8x3x1024 .f32) (x16 : Vec F S8x1024 .f32) (x17 : Vec F S4x1024 .f32) (x18 : Vec F S1x1024 .f32) (x19 : Vec F S4x256x256 .bf16) (x20 : Vec F S1x1024 .f32) (x21 : Vec F S4x256x256 .bf16) (x22 : Vec F S1x1024 .f32) (x23 : Vec F S1x1024 .f32) (y : S8x128x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg30 harg30 arg31 harg31 arg32 harg32 arg33 harg33 arg34 harg34 arg35 harg35 arg36 harg36 arg37 harg37 arg38 harg38 arg39 harg39 arg40 harg40 arg41 harg41 arg42 harg42 arg43 harg43 arg44 harg44 x0 x1 x2 x3 x4 x5 x6 x7 x8 x9 x10 x11 x12 x13 x14 x15 x16 x17 x18 x19 x20 x21 x22 x23).2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg30 harg30 arg31 harg31 arg32 harg32 arg33 harg33 arg34 harg34 arg35 harg35 arg36 harg36 arg37 harg37 arg38 harg38 arg39 harg39 arg40 harg40 arg41 harg41 arg42 harg42 arg43 harg43 arg44 harg44 x0 x1 x2 x3 x4 x5 x6 x7 x8 x9 x10 x11 x12 x13 x14 x15 x16 x17 x18 x19 x20 x21 x22 x23).2.1 ![8, 8, 256] (by sl_kernel_rfl) y

/-- What the run leaves in output 25's staging buffer: its pieces read back over junk. -/
def out0_A_25 (c : Dev nD) (i : grid0.Coords) (arg1 : Memref sig .tc .smem S16 .f32) (harg1 : arg1.IsWhole) (arg2 : Memref sig .tc .vmem S64x1024 .bf16) (harg2 : arg2.IsWhole) (arg3 : Memref sig .tc .vmem S64x256 .bf16) (harg3 : arg3.IsWhole) (arg4 : Memref sig .tc .vmem S64x256 .bf16) (harg4 : arg4.IsWhole) (arg5 : Memref sig .tc .vmem S8x128x256 .f32) (harg5 : arg5.IsWhole) (arg6 : Memref sig .tc .vmem S8x128x256 .f32) (harg6 : arg6.IsWhole) (arg7 : Memref sig .tc .vmem S64x1024 .bf16) (harg7 : arg7.IsWhole) (arg8 : Memref sig .tc .vmem S64x1024 .bf16) (harg8 : arg8.IsWhole) (arg9 : Memref sig .tc .vmem S8x30x1024 .f32) (harg9 : arg9.IsWhole) (arg10 : Memref sig .tc .vmem S31x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S64x1024 .bf16) (harg14 : arg14.IsWhole) (arg15 : Memref sig .tc .vmem S64x1024 .bf16) (harg15 : arg15.IsWhole) (arg16 : Memref sig .tc .vmem S8x3x1024 .f32) (harg16 : arg16.IsWhole) (arg17 : Memref sig .tc .vmem S8x1024 .f32) (harg17 : arg17.IsWhole) (arg18 : Memref sig .tc .vmem S4x1024 .f32) (harg18 : arg18.IsWhole) (arg19 : Memref sig .tc .vmem S1x1024 .f32) (harg19 : arg19.IsWhole) (arg20 : Memref sig .tc .vmem S4x256x256 .bf16) (harg20 : arg20.IsWhole) (arg21 : Memref sig .tc .vmem S1x1024 .f32) (harg21 : arg21.IsWhole) (arg22 : Memref sig .tc .vmem S4x256x256 .bf16) (harg22 : arg22.IsWhole) (arg23 : Memref sig .tc .vmem S1x1024 .f32) (harg23 : arg23.IsWhole) (arg24 : Memref sig .tc .vmem S1x1024 .f32) (harg24 : arg24.IsWhole) (arg30 : Memref sig .tc .vmem S64x1024 .bf16) (harg30 : arg30.IsWhole) (arg31 : Memref sig .tc .vmem S8x128x256 .f32) (harg31 : arg31.IsWhole) (arg32 : Memref sig .tc .vmem S8x128x256 .f32) (harg32 : arg32.IsWhole) (arg33 : Memref sig .tc .vmem S64x1024 .bf16) (harg33 : arg33.IsWhole) (arg34 : Memref sig .tc .vmem S8x30x1024 .f32) (harg34 : arg34.IsWhole) (arg35 : Memref sig .tc .vmem S64x1024 .bf16) (harg35 : arg35.IsWhole) (arg36 : Memref sig .tc .vmem S8x3x1024 .f32) (harg36 : arg36.IsWhole) (arg37 : Memref sig .tc .vmem S8x1024 .f32) (harg37 : arg37.IsWhole) (arg38 : Memref sig .tc .vmem S8x40x1024 .f32) (harg38 : arg38.IsWhole) (arg39 : Memref sig .tc .vmem S64x1024 .f32) (harg39 : arg39.IsWhole) (arg40 : Memref sig .tc .vmem S8x16x1024 .f32) (harg40 : arg40.IsWhole) (arg41 : Memref sig .tc .vmem S64x1024 .f32) (harg41 : arg41.IsWhole) (arg42 : Memref sig .tc .vmem S64x1024 .f32) (harg42 : arg42.IsWhole) (arg43 : Memref sig .tc .vmem S64x1024 .f32) (harg43 : arg43.IsWhole) (arg44 : Memref sig .tc .vmem S64x1024 .f32) (harg44 : arg44.IsWhole)
    (x0 : Vec F S16 .f32) (x1 : Vec F S64x1024 .bf16) (x2 : Vec F S64x256 .bf16) (x3 : Vec F S64x256 .bf16) (x4 : Vec F S8x128x256 .f32) (x5 : Vec F S8x128x256 .f32) (x6 : Vec F S64x1024 .bf16) (x7 : Vec F S64x1024 .bf16) (x8 : Vec F S8x30x1024 .f32) (x9 : Vec F S31x1024 .f32) (x10 : Vec F S1x1024 .f32) (x11 : Vec F S1x1024 .f32) (x12 : Vec F S1x1024 .f32) (x13 : Vec F S64x1024 .bf16) (x14 : Vec F S64x1024 .bf16) (x15 : Vec F S8x3x1024 .f32) (x16 : Vec F S8x1024 .f32) (x17 : Vec F S4x1024 .f32) (x18 : Vec F S1x1024 .f32) (x19 : Vec F S4x256x256 .bf16) (x20 : Vec F S1x1024 .f32) (x21 : Vec F S4x256x256 .bf16) (x22 : Vec F S1x1024 .f32) (x23 : Vec F S1x1024 .f32) : Vec F S8x128x256 .f32 :=
  VO0_25.read (Elt F) (VO0_25.writes (Elt F) VO0_25.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg30 harg30 arg31 harg31 arg32 harg32 arg33 harg33 arg34 harg34 arg35 harg35 arg36 harg36 arg37 harg37 arg38 harg38 arg39 harg39 arg40 harg40 arg41 harg41 arg42 harg42 arg43 harg43 arg44 harg44 x0 x1 x2 x3 x4 x5 x6 x7 x8 x9 x10 x11 x12 x13 x14 x15 x16 x17 x18 x19 x20 x21 x22 x23).2.1)

/-- The run's pieces for output 26 are of two sizes; cut into equal blocks they tile its own. -/
theorem cover0_A_26 (c : Dev nD) (i : grid0.Coords) (arg1 : Memref sig .tc .smem S16 .f32) (harg1 : arg1.IsWhole) (arg2 : Memref sig .tc .vmem S64x1024 .bf16) (harg2 : arg2.IsWhole) (arg3 : Memref sig .tc .vmem S64x256 .bf16) (harg3 : arg3.IsWhole) (arg4 : Memref sig .tc .vmem S64x256 .bf16) (harg4 : arg4.IsWhole) (arg5 : Memref sig .tc .vmem S8x128x256 .f32) (harg5 : arg5.IsWhole) (arg6 : Memref sig .tc .vmem S8x128x256 .f32) (harg6 : arg6.IsWhole) (arg7 : Memref sig .tc .vmem S64x1024 .bf16) (harg7 : arg7.IsWhole) (arg8 : Memref sig .tc .vmem S64x1024 .bf16) (harg8 : arg8.IsWhole) (arg9 : Memref sig .tc .vmem S8x30x1024 .f32) (harg9 : arg9.IsWhole) (arg10 : Memref sig .tc .vmem S31x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S64x1024 .bf16) (harg14 : arg14.IsWhole) (arg15 : Memref sig .tc .vmem S64x1024 .bf16) (harg15 : arg15.IsWhole) (arg16 : Memref sig .tc .vmem S8x3x1024 .f32) (harg16 : arg16.IsWhole) (arg17 : Memref sig .tc .vmem S8x1024 .f32) (harg17 : arg17.IsWhole) (arg18 : Memref sig .tc .vmem S4x1024 .f32) (harg18 : arg18.IsWhole) (arg19 : Memref sig .tc .vmem S1x1024 .f32) (harg19 : arg19.IsWhole) (arg20 : Memref sig .tc .vmem S4x256x256 .bf16) (harg20 : arg20.IsWhole) (arg21 : Memref sig .tc .vmem S1x1024 .f32) (harg21 : arg21.IsWhole) (arg22 : Memref sig .tc .vmem S4x256x256 .bf16) (harg22 : arg22.IsWhole) (arg23 : Memref sig .tc .vmem S1x1024 .f32) (harg23 : arg23.IsWhole) (arg24 : Memref sig .tc .vmem S1x1024 .f32) (harg24 : arg24.IsWhole) (arg30 : Memref sig .tc .vmem S64x1024 .bf16) (harg30 : arg30.IsWhole) (arg31 : Memref sig .tc .vmem S8x128x256 .f32) (harg31 : arg31.IsWhole) (arg32 : Memref sig .tc .vmem S8x128x256 .f32) (harg32 : arg32.IsWhole) (arg33 : Memref sig .tc .vmem S64x1024 .bf16) (harg33 : arg33.IsWhole) (arg34 : Memref sig .tc .vmem S8x30x1024 .f32) (harg34 : arg34.IsWhole) (arg35 : Memref sig .tc .vmem S64x1024 .bf16) (harg35 : arg35.IsWhole) (arg36 : Memref sig .tc .vmem S8x3x1024 .f32) (harg36 : arg36.IsWhole) (arg37 : Memref sig .tc .vmem S8x1024 .f32) (harg37 : arg37.IsWhole) (arg38 : Memref sig .tc .vmem S8x40x1024 .f32) (harg38 : arg38.IsWhole) (arg39 : Memref sig .tc .vmem S64x1024 .f32) (harg39 : arg39.IsWhole) (arg40 : Memref sig .tc .vmem S8x16x1024 .f32) (harg40 : arg40.IsWhole) (arg41 : Memref sig .tc .vmem S64x1024 .f32) (harg41 : arg41.IsWhole) (arg42 : Memref sig .tc .vmem S64x1024 .f32) (harg42 : arg42.IsWhole) (arg43 : Memref sig .tc .vmem S64x1024 .f32) (harg43 : arg43.IsWhole) (arg44 : Memref sig .tc .vmem S64x1024 .f32) (harg44 : arg44.IsWhole)
    (x0 : Vec F S16 .f32) (x1 : Vec F S64x1024 .bf16) (x2 : Vec F S64x256 .bf16) (x3 : Vec F S64x256 .bf16) (x4 : Vec F S8x128x256 .f32) (x5 : Vec F S8x128x256 .f32) (x6 : Vec F S64x1024 .bf16) (x7 : Vec F S64x1024 .bf16) (x8 : Vec F S8x30x1024 .f32) (x9 : Vec F S31x1024 .f32) (x10 : Vec F S1x1024 .f32) (x11 : Vec F S1x1024 .f32) (x12 : Vec F S1x1024 .f32) (x13 : Vec F S64x1024 .bf16) (x14 : Vec F S64x1024 .bf16) (x15 : Vec F S8x3x1024 .f32) (x16 : Vec F S8x1024 .f32) (x17 : Vec F S4x1024 .f32) (x18 : Vec F S1x1024 .f32) (x19 : Vec F S4x256x256 .bf16) (x20 : Vec F S1x1024 .f32) (x21 : Vec F S4x256x256 .bf16) (x22 : Vec F S1x1024 .f32) (x23 : Vec F S1x1024 .f32) (y : S8x128x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg30 harg30 arg31 harg31 arg32 harg32 arg33 harg33 arg34 harg34 arg35 harg35 arg36 harg36 arg37 harg37 arg38 harg38 arg39 harg39 arg40 harg40 arg41 harg41 arg42 harg42 arg43 harg43 arg44 harg44 x0 x1 x2 x3 x4 x5 x6 x7 x8 x9 x10 x11 x12 x13 x14 x15 x16 x17 x18 x19 x20 x21 x22 x23).2.2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg30 harg30 arg31 harg31 arg32 harg32 arg33 harg33 arg34 harg34 arg35 harg35 arg36 harg36 arg37 harg37 arg38 harg38 arg39 harg39 arg40 harg40 arg41 harg41 arg42 harg42 arg43 harg43 arg44 harg44 x0 x1 x2 x3 x4 x5 x6 x7 x8 x9 x10 x11 x12 x13 x14 x15 x16 x17 x18 x19 x20 x21 x22 x23).2.2.1 ![8, 8, 256] (by sl_kernel_rfl) y

/-- What the run leaves in output 26's staging buffer: its pieces read back over junk. -/
def out0_A_26 (c : Dev nD) (i : grid0.Coords) (arg1 : Memref sig .tc .smem S16 .f32) (harg1 : arg1.IsWhole) (arg2 : Memref sig .tc .vmem S64x1024 .bf16) (harg2 : arg2.IsWhole) (arg3 : Memref sig .tc .vmem S64x256 .bf16) (harg3 : arg3.IsWhole) (arg4 : Memref sig .tc .vmem S64x256 .bf16) (harg4 : arg4.IsWhole) (arg5 : Memref sig .tc .vmem S8x128x256 .f32) (harg5 : arg5.IsWhole) (arg6 : Memref sig .tc .vmem S8x128x256 .f32) (harg6 : arg6.IsWhole) (arg7 : Memref sig .tc .vmem S64x1024 .bf16) (harg7 : arg7.IsWhole) (arg8 : Memref sig .tc .vmem S64x1024 .bf16) (harg8 : arg8.IsWhole) (arg9 : Memref sig .tc .vmem S8x30x1024 .f32) (harg9 : arg9.IsWhole) (arg10 : Memref sig .tc .vmem S31x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S64x1024 .bf16) (harg14 : arg14.IsWhole) (arg15 : Memref sig .tc .vmem S64x1024 .bf16) (harg15 : arg15.IsWhole) (arg16 : Memref sig .tc .vmem S8x3x1024 .f32) (harg16 : arg16.IsWhole) (arg17 : Memref sig .tc .vmem S8x1024 .f32) (harg17 : arg17.IsWhole) (arg18 : Memref sig .tc .vmem S4x1024 .f32) (harg18 : arg18.IsWhole) (arg19 : Memref sig .tc .vmem S1x1024 .f32) (harg19 : arg19.IsWhole) (arg20 : Memref sig .tc .vmem S4x256x256 .bf16) (harg20 : arg20.IsWhole) (arg21 : Memref sig .tc .vmem S1x1024 .f32) (harg21 : arg21.IsWhole) (arg22 : Memref sig .tc .vmem S4x256x256 .bf16) (harg22 : arg22.IsWhole) (arg23 : Memref sig .tc .vmem S1x1024 .f32) (harg23 : arg23.IsWhole) (arg24 : Memref sig .tc .vmem S1x1024 .f32) (harg24 : arg24.IsWhole) (arg30 : Memref sig .tc .vmem S64x1024 .bf16) (harg30 : arg30.IsWhole) (arg31 : Memref sig .tc .vmem S8x128x256 .f32) (harg31 : arg31.IsWhole) (arg32 : Memref sig .tc .vmem S8x128x256 .f32) (harg32 : arg32.IsWhole) (arg33 : Memref sig .tc .vmem S64x1024 .bf16) (harg33 : arg33.IsWhole) (arg34 : Memref sig .tc .vmem S8x30x1024 .f32) (harg34 : arg34.IsWhole) (arg35 : Memref sig .tc .vmem S64x1024 .bf16) (harg35 : arg35.IsWhole) (arg36 : Memref sig .tc .vmem S8x3x1024 .f32) (harg36 : arg36.IsWhole) (arg37 : Memref sig .tc .vmem S8x1024 .f32) (harg37 : arg37.IsWhole) (arg38 : Memref sig .tc .vmem S8x40x1024 .f32) (harg38 : arg38.IsWhole) (arg39 : Memref sig .tc .vmem S64x1024 .f32) (harg39 : arg39.IsWhole) (arg40 : Memref sig .tc .vmem S8x16x1024 .f32) (harg40 : arg40.IsWhole) (arg41 : Memref sig .tc .vmem S64x1024 .f32) (harg41 : arg41.IsWhole) (arg42 : Memref sig .tc .vmem S64x1024 .f32) (harg42 : arg42.IsWhole) (arg43 : Memref sig .tc .vmem S64x1024 .f32) (harg43 : arg43.IsWhole) (arg44 : Memref sig .tc .vmem S64x1024 .f32) (harg44 : arg44.IsWhole)
    (x0 : Vec F S16 .f32) (x1 : Vec F S64x1024 .bf16) (x2 : Vec F S64x256 .bf16) (x3 : Vec F S64x256 .bf16) (x4 : Vec F S8x128x256 .f32) (x5 : Vec F S8x128x256 .f32) (x6 : Vec F S64x1024 .bf16) (x7 : Vec F S64x1024 .bf16) (x8 : Vec F S8x30x1024 .f32) (x9 : Vec F S31x1024 .f32) (x10 : Vec F S1x1024 .f32) (x11 : Vec F S1x1024 .f32) (x12 : Vec F S1x1024 .f32) (x13 : Vec F S64x1024 .bf16) (x14 : Vec F S64x1024 .bf16) (x15 : Vec F S8x3x1024 .f32) (x16 : Vec F S8x1024 .f32) (x17 : Vec F S4x1024 .f32) (x18 : Vec F S1x1024 .f32) (x19 : Vec F S4x256x256 .bf16) (x20 : Vec F S1x1024 .f32) (x21 : Vec F S4x256x256 .bf16) (x22 : Vec F S1x1024 .f32) (x23 : Vec F S1x1024 .f32) : Vec F S8x128x256 .f32 :=
  VO0_26.read (Elt F) (VO0_26.writes (Elt F) VO0_26.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg30 harg30 arg31 harg31 arg32 harg32 arg33 harg33 arg34 harg34 arg35 harg35 arg36 harg36 arg37 harg37 arg38 harg38 arg39 harg39 arg40 harg40 arg41 harg41 arg42 harg42 arg43 harg43 arg44 harg44 x0 x1 x2 x3 x4 x5 x6 x7 x8 x9 x10 x11 x12 x13 x14 x15 x16 x17 x18 x19 x20 x21 x22 x23).2.2.1)

/-- The run's pieces for output 27 tile its block. -/
theorem cover0_A_27 (c : Dev nD) (i : grid0.Coords) (arg1 : Memref sig .tc .smem S16 .f32) (harg1 : arg1.IsWhole) (arg2 : Memref sig .tc .vmem S64x1024 .bf16) (harg2 : arg2.IsWhole) (arg3 : Memref sig .tc .vmem S64x256 .bf16) (harg3 : arg3.IsWhole) (arg4 : Memref sig .tc .vmem S64x256 .bf16) (harg4 : arg4.IsWhole) (arg5 : Memref sig .tc .vmem S8x128x256 .f32) (harg5 : arg5.IsWhole) (arg6 : Memref sig .tc .vmem S8x128x256 .f32) (harg6 : arg6.IsWhole) (arg7 : Memref sig .tc .vmem S64x1024 .bf16) (harg7 : arg7.IsWhole) (arg8 : Memref sig .tc .vmem S64x1024 .bf16) (harg8 : arg8.IsWhole) (arg9 : Memref sig .tc .vmem S8x30x1024 .f32) (harg9 : arg9.IsWhole) (arg10 : Memref sig .tc .vmem S31x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S64x1024 .bf16) (harg14 : arg14.IsWhole) (arg15 : Memref sig .tc .vmem S64x1024 .bf16) (harg15 : arg15.IsWhole) (arg16 : Memref sig .tc .vmem S8x3x1024 .f32) (harg16 : arg16.IsWhole) (arg17 : Memref sig .tc .vmem S8x1024 .f32) (harg17 : arg17.IsWhole) (arg18 : Memref sig .tc .vmem S4x1024 .f32) (harg18 : arg18.IsWhole) (arg19 : Memref sig .tc .vmem S1x1024 .f32) (harg19 : arg19.IsWhole) (arg20 : Memref sig .tc .vmem S4x256x256 .bf16) (harg20 : arg20.IsWhole) (arg21 : Memref sig .tc .vmem S1x1024 .f32) (harg21 : arg21.IsWhole) (arg22 : Memref sig .tc .vmem S4x256x256 .bf16) (harg22 : arg22.IsWhole) (arg23 : Memref sig .tc .vmem S1x1024 .f32) (harg23 : arg23.IsWhole) (arg24 : Memref sig .tc .vmem S1x1024 .f32) (harg24 : arg24.IsWhole) (arg30 : Memref sig .tc .vmem S64x1024 .bf16) (harg30 : arg30.IsWhole) (arg31 : Memref sig .tc .vmem S8x128x256 .f32) (harg31 : arg31.IsWhole) (arg32 : Memref sig .tc .vmem S8x128x256 .f32) (harg32 : arg32.IsWhole) (arg33 : Memref sig .tc .vmem S64x1024 .bf16) (harg33 : arg33.IsWhole) (arg34 : Memref sig .tc .vmem S8x30x1024 .f32) (harg34 : arg34.IsWhole) (arg35 : Memref sig .tc .vmem S64x1024 .bf16) (harg35 : arg35.IsWhole) (arg36 : Memref sig .tc .vmem S8x3x1024 .f32) (harg36 : arg36.IsWhole) (arg37 : Memref sig .tc .vmem S8x1024 .f32) (harg37 : arg37.IsWhole) (arg38 : Memref sig .tc .vmem S8x40x1024 .f32) (harg38 : arg38.IsWhole) (arg39 : Memref sig .tc .vmem S64x1024 .f32) (harg39 : arg39.IsWhole) (arg40 : Memref sig .tc .vmem S8x16x1024 .f32) (harg40 : arg40.IsWhole) (arg41 : Memref sig .tc .vmem S64x1024 .f32) (harg41 : arg41.IsWhole) (arg42 : Memref sig .tc .vmem S64x1024 .f32) (harg42 : arg42.IsWhole) (arg43 : Memref sig .tc .vmem S64x1024 .f32) (harg43 : arg43.IsWhole) (arg44 : Memref sig .tc .vmem S64x1024 .f32) (harg44 : arg44.IsWhole)
    (x0 : Vec F S16 .f32) (x1 : Vec F S64x1024 .bf16) (x2 : Vec F S64x256 .bf16) (x3 : Vec F S64x256 .bf16) (x4 : Vec F S8x128x256 .f32) (x5 : Vec F S8x128x256 .f32) (x6 : Vec F S64x1024 .bf16) (x7 : Vec F S64x1024 .bf16) (x8 : Vec F S8x30x1024 .f32) (x9 : Vec F S31x1024 .f32) (x10 : Vec F S1x1024 .f32) (x11 : Vec F S1x1024 .f32) (x12 : Vec F S1x1024 .f32) (x13 : Vec F S64x1024 .bf16) (x14 : Vec F S64x1024 .bf16) (x15 : Vec F S8x3x1024 .f32) (x16 : Vec F S8x1024 .f32) (x17 : Vec F S4x1024 .f32) (x18 : Vec F S1x1024 .f32) (x19 : Vec F S4x256x256 .bf16) (x20 : Vec F S1x1024 .f32) (x21 : Vec F S4x256x256 .bf16) (x22 : Vec F S1x1024 .f32) (x23 : Vec F S1x1024 .f32) (y : S64x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg30 harg30 arg31 harg31 arg32 harg32 arg33 harg33 arg34 harg34 arg35 harg35 arg36 harg36 arg37 harg37 arg38 harg38 arg39 harg39 arg40 harg40 arg41 harg41 arg42 harg42 arg43 harg43 arg44 harg44 x0 x1 x2 x3 x4 x5 x6 x7 x8 x9 x10 x11 x12 x13 x14 x15 x16 x17 x18 x19 x20 x21 x22 x23).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg30 harg30 arg31 harg31 arg32 harg32 arg33 harg33 arg34 harg34 arg35 harg35 arg36 harg36 arg37 harg37 arg38 harg38 arg39 harg39 arg40 harg40 arg41 harg41 arg42 harg42 arg43 harg43 arg44 harg44 x0 x1 x2 x3 x4 x5 x6 x7 x8 x9 x10 x11 x12 x13 x14 x15 x16 x17 x18 x19 x20 x21 x22 x23).2.2.2.1 S64x1024.size (by sl_kernel_rfl) y

/-- What the run leaves in output 27's staging buffer: its pieces read back over junk. -/
def out0_A_27 (c : Dev nD) (i : grid0.Coords) (arg1 : Memref sig .tc .smem S16 .f32) (harg1 : arg1.IsWhole) (arg2 : Memref sig .tc .vmem S64x1024 .bf16) (harg2 : arg2.IsWhole) (arg3 : Memref sig .tc .vmem S64x256 .bf16) (harg3 : arg3.IsWhole) (arg4 : Memref sig .tc .vmem S64x256 .bf16) (harg4 : arg4.IsWhole) (arg5 : Memref sig .tc .vmem S8x128x256 .f32) (harg5 : arg5.IsWhole) (arg6 : Memref sig .tc .vmem S8x128x256 .f32) (harg6 : arg6.IsWhole) (arg7 : Memref sig .tc .vmem S64x1024 .bf16) (harg7 : arg7.IsWhole) (arg8 : Memref sig .tc .vmem S64x1024 .bf16) (harg8 : arg8.IsWhole) (arg9 : Memref sig .tc .vmem S8x30x1024 .f32) (harg9 : arg9.IsWhole) (arg10 : Memref sig .tc .vmem S31x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S64x1024 .bf16) (harg14 : arg14.IsWhole) (arg15 : Memref sig .tc .vmem S64x1024 .bf16) (harg15 : arg15.IsWhole) (arg16 : Memref sig .tc .vmem S8x3x1024 .f32) (harg16 : arg16.IsWhole) (arg17 : Memref sig .tc .vmem S8x1024 .f32) (harg17 : arg17.IsWhole) (arg18 : Memref sig .tc .vmem S4x1024 .f32) (harg18 : arg18.IsWhole) (arg19 : Memref sig .tc .vmem S1x1024 .f32) (harg19 : arg19.IsWhole) (arg20 : Memref sig .tc .vmem S4x256x256 .bf16) (harg20 : arg20.IsWhole) (arg21 : Memref sig .tc .vmem S1x1024 .f32) (harg21 : arg21.IsWhole) (arg22 : Memref sig .tc .vmem S4x256x256 .bf16) (harg22 : arg22.IsWhole) (arg23 : Memref sig .tc .vmem S1x1024 .f32) (harg23 : arg23.IsWhole) (arg24 : Memref sig .tc .vmem S1x1024 .f32) (harg24 : arg24.IsWhole) (arg30 : Memref sig .tc .vmem S64x1024 .bf16) (harg30 : arg30.IsWhole) (arg31 : Memref sig .tc .vmem S8x128x256 .f32) (harg31 : arg31.IsWhole) (arg32 : Memref sig .tc .vmem S8x128x256 .f32) (harg32 : arg32.IsWhole) (arg33 : Memref sig .tc .vmem S64x1024 .bf16) (harg33 : arg33.IsWhole) (arg34 : Memref sig .tc .vmem S8x30x1024 .f32) (harg34 : arg34.IsWhole) (arg35 : Memref sig .tc .vmem S64x1024 .bf16) (harg35 : arg35.IsWhole) (arg36 : Memref sig .tc .vmem S8x3x1024 .f32) (harg36 : arg36.IsWhole) (arg37 : Memref sig .tc .vmem S8x1024 .f32) (harg37 : arg37.IsWhole) (arg38 : Memref sig .tc .vmem S8x40x1024 .f32) (harg38 : arg38.IsWhole) (arg39 : Memref sig .tc .vmem S64x1024 .f32) (harg39 : arg39.IsWhole) (arg40 : Memref sig .tc .vmem S8x16x1024 .f32) (harg40 : arg40.IsWhole) (arg41 : Memref sig .tc .vmem S64x1024 .f32) (harg41 : arg41.IsWhole) (arg42 : Memref sig .tc .vmem S64x1024 .f32) (harg42 : arg42.IsWhole) (arg43 : Memref sig .tc .vmem S64x1024 .f32) (harg43 : arg43.IsWhole) (arg44 : Memref sig .tc .vmem S64x1024 .f32) (harg44 : arg44.IsWhole)
    (x0 : Vec F S16 .f32) (x1 : Vec F S64x1024 .bf16) (x2 : Vec F S64x256 .bf16) (x3 : Vec F S64x256 .bf16) (x4 : Vec F S8x128x256 .f32) (x5 : Vec F S8x128x256 .f32) (x6 : Vec F S64x1024 .bf16) (x7 : Vec F S64x1024 .bf16) (x8 : Vec F S8x30x1024 .f32) (x9 : Vec F S31x1024 .f32) (x10 : Vec F S1x1024 .f32) (x11 : Vec F S1x1024 .f32) (x12 : Vec F S1x1024 .f32) (x13 : Vec F S64x1024 .bf16) (x14 : Vec F S64x1024 .bf16) (x15 : Vec F S8x3x1024 .f32) (x16 : Vec F S8x1024 .f32) (x17 : Vec F S4x1024 .f32) (x18 : Vec F S1x1024 .f32) (x19 : Vec F S4x256x256 .bf16) (x20 : Vec F S1x1024 .f32) (x21 : Vec F S4x256x256 .bf16) (x22 : Vec F S1x1024 .f32) (x23 : Vec F S1x1024 .f32) : Vec F S64x1024 .bf16 :=
  VO0_27.read (Elt F) (VO0_27.writes (Elt F) VO0_27.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg30 harg30 arg31 harg31 arg32 harg32 arg33 harg33 arg34 harg34 arg35 harg35 arg36 harg36 arg37 harg37 arg38 harg38 arg39 harg39 arg40 harg40 arg41 harg41 arg42 harg42 arg43 harg43 arg44 harg44 x0 x1 x2 x3 x4 x5 x6 x7 x8 x9 x10 x11 x12 x13 x14 x15 x16 x17 x18 x19 x20 x21 x22 x23).2.2.2.1)

/-- The run's pieces for output 28 tile its block. -/
theorem cover0_A_28 (c : Dev nD) (i : grid0.Coords) (arg1 : Memref sig .tc .smem S16 .f32) (harg1 : arg1.IsWhole) (arg2 : Memref sig .tc .vmem S64x1024 .bf16) (harg2 : arg2.IsWhole) (arg3 : Memref sig .tc .vmem S64x256 .bf16) (harg3 : arg3.IsWhole) (arg4 : Memref sig .tc .vmem S64x256 .bf16) (harg4 : arg4.IsWhole) (arg5 : Memref sig .tc .vmem S8x128x256 .f32) (harg5 : arg5.IsWhole) (arg6 : Memref sig .tc .vmem S8x128x256 .f32) (harg6 : arg6.IsWhole) (arg7 : Memref sig .tc .vmem S64x1024 .bf16) (harg7 : arg7.IsWhole) (arg8 : Memref sig .tc .vmem S64x1024 .bf16) (harg8 : arg8.IsWhole) (arg9 : Memref sig .tc .vmem S8x30x1024 .f32) (harg9 : arg9.IsWhole) (arg10 : Memref sig .tc .vmem S31x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S64x1024 .bf16) (harg14 : arg14.IsWhole) (arg15 : Memref sig .tc .vmem S64x1024 .bf16) (harg15 : arg15.IsWhole) (arg16 : Memref sig .tc .vmem S8x3x1024 .f32) (harg16 : arg16.IsWhole) (arg17 : Memref sig .tc .vmem S8x1024 .f32) (harg17 : arg17.IsWhole) (arg18 : Memref sig .tc .vmem S4x1024 .f32) (harg18 : arg18.IsWhole) (arg19 : Memref sig .tc .vmem S1x1024 .f32) (harg19 : arg19.IsWhole) (arg20 : Memref sig .tc .vmem S4x256x256 .bf16) (harg20 : arg20.IsWhole) (arg21 : Memref sig .tc .vmem S1x1024 .f32) (harg21 : arg21.IsWhole) (arg22 : Memref sig .tc .vmem S4x256x256 .bf16) (harg22 : arg22.IsWhole) (arg23 : Memref sig .tc .vmem S1x1024 .f32) (harg23 : arg23.IsWhole) (arg24 : Memref sig .tc .vmem S1x1024 .f32) (harg24 : arg24.IsWhole) (arg30 : Memref sig .tc .vmem S64x1024 .bf16) (harg30 : arg30.IsWhole) (arg31 : Memref sig .tc .vmem S8x128x256 .f32) (harg31 : arg31.IsWhole) (arg32 : Memref sig .tc .vmem S8x128x256 .f32) (harg32 : arg32.IsWhole) (arg33 : Memref sig .tc .vmem S64x1024 .bf16) (harg33 : arg33.IsWhole) (arg34 : Memref sig .tc .vmem S8x30x1024 .f32) (harg34 : arg34.IsWhole) (arg35 : Memref sig .tc .vmem S64x1024 .bf16) (harg35 : arg35.IsWhole) (arg36 : Memref sig .tc .vmem S8x3x1024 .f32) (harg36 : arg36.IsWhole) (arg37 : Memref sig .tc .vmem S8x1024 .f32) (harg37 : arg37.IsWhole) (arg38 : Memref sig .tc .vmem S8x40x1024 .f32) (harg38 : arg38.IsWhole) (arg39 : Memref sig .tc .vmem S64x1024 .f32) (harg39 : arg39.IsWhole) (arg40 : Memref sig .tc .vmem S8x16x1024 .f32) (harg40 : arg40.IsWhole) (arg41 : Memref sig .tc .vmem S64x1024 .f32) (harg41 : arg41.IsWhole) (arg42 : Memref sig .tc .vmem S64x1024 .f32) (harg42 : arg42.IsWhole) (arg43 : Memref sig .tc .vmem S64x1024 .f32) (harg43 : arg43.IsWhole) (arg44 : Memref sig .tc .vmem S64x1024 .f32) (harg44 : arg44.IsWhole)
    (x0 : Vec F S16 .f32) (x1 : Vec F S64x1024 .bf16) (x2 : Vec F S64x256 .bf16) (x3 : Vec F S64x256 .bf16) (x4 : Vec F S8x128x256 .f32) (x5 : Vec F S8x128x256 .f32) (x6 : Vec F S64x1024 .bf16) (x7 : Vec F S64x1024 .bf16) (x8 : Vec F S8x30x1024 .f32) (x9 : Vec F S31x1024 .f32) (x10 : Vec F S1x1024 .f32) (x11 : Vec F S1x1024 .f32) (x12 : Vec F S1x1024 .f32) (x13 : Vec F S64x1024 .bf16) (x14 : Vec F S64x1024 .bf16) (x15 : Vec F S8x3x1024 .f32) (x16 : Vec F S8x1024 .f32) (x17 : Vec F S4x1024 .f32) (x18 : Vec F S1x1024 .f32) (x19 : Vec F S4x256x256 .bf16) (x20 : Vec F S1x1024 .f32) (x21 : Vec F S4x256x256 .bf16) (x22 : Vec F S1x1024 .f32) (x23 : Vec F S1x1024 .f32) (y : S8x30x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg30 harg30 arg31 harg31 arg32 harg32 arg33 harg33 arg34 harg34 arg35 harg35 arg36 harg36 arg37 harg37 arg38 harg38 arg39 harg39 arg40 harg40 arg41 harg41 arg42 harg42 arg43 harg43 arg44 harg44 x0 x1 x2 x3 x4 x5 x6 x7 x8 x9 x10 x11 x12 x13 x14 x15 x16 x17 x18 x19 x20 x21 x22 x23).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg30 harg30 arg31 harg31 arg32 harg32 arg33 harg33 arg34 harg34 arg35 harg35 arg36 harg36 arg37 harg37 arg38 harg38 arg39 harg39 arg40 harg40 arg41 harg41 arg42 harg42 arg43 harg43 arg44 harg44 x0 x1 x2 x3 x4 x5 x6 x7 x8 x9 x10 x11 x12 x13 x14 x15 x16 x17 x18 x19 x20 x21 x22 x23).2.2.2.2.1 S1x30x1024.size (by sl_kernel_rfl) y

/-- What the run leaves in output 28's staging buffer: its pieces read back over junk. -/
def out0_A_28 (c : Dev nD) (i : grid0.Coords) (arg1 : Memref sig .tc .smem S16 .f32) (harg1 : arg1.IsWhole) (arg2 : Memref sig .tc .vmem S64x1024 .bf16) (harg2 : arg2.IsWhole) (arg3 : Memref sig .tc .vmem S64x256 .bf16) (harg3 : arg3.IsWhole) (arg4 : Memref sig .tc .vmem S64x256 .bf16) (harg4 : arg4.IsWhole) (arg5 : Memref sig .tc .vmem S8x128x256 .f32) (harg5 : arg5.IsWhole) (arg6 : Memref sig .tc .vmem S8x128x256 .f32) (harg6 : arg6.IsWhole) (arg7 : Memref sig .tc .vmem S64x1024 .bf16) (harg7 : arg7.IsWhole) (arg8 : Memref sig .tc .vmem S64x1024 .bf16) (harg8 : arg8.IsWhole) (arg9 : Memref sig .tc .vmem S8x30x1024 .f32) (harg9 : arg9.IsWhole) (arg10 : Memref sig .tc .vmem S31x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S64x1024 .bf16) (harg14 : arg14.IsWhole) (arg15 : Memref sig .tc .vmem S64x1024 .bf16) (harg15 : arg15.IsWhole) (arg16 : Memref sig .tc .vmem S8x3x1024 .f32) (harg16 : arg16.IsWhole) (arg17 : Memref sig .tc .vmem S8x1024 .f32) (harg17 : arg17.IsWhole) (arg18 : Memref sig .tc .vmem S4x1024 .f32) (harg18 : arg18.IsWhole) (arg19 : Memref sig .tc .vmem S1x1024 .f32) (harg19 : arg19.IsWhole) (arg20 : Memref sig .tc .vmem S4x256x256 .bf16) (harg20 : arg20.IsWhole) (arg21 : Memref sig .tc .vmem S1x1024 .f32) (harg21 : arg21.IsWhole) (arg22 : Memref sig .tc .vmem S4x256x256 .bf16) (harg22 : arg22.IsWhole) (arg23 : Memref sig .tc .vmem S1x1024 .f32) (harg23 : arg23.IsWhole) (arg24 : Memref sig .tc .vmem S1x1024 .f32) (harg24 : arg24.IsWhole) (arg30 : Memref sig .tc .vmem S64x1024 .bf16) (harg30 : arg30.IsWhole) (arg31 : Memref sig .tc .vmem S8x128x256 .f32) (harg31 : arg31.IsWhole) (arg32 : Memref sig .tc .vmem S8x128x256 .f32) (harg32 : arg32.IsWhole) (arg33 : Memref sig .tc .vmem S64x1024 .bf16) (harg33 : arg33.IsWhole) (arg34 : Memref sig .tc .vmem S8x30x1024 .f32) (harg34 : arg34.IsWhole) (arg35 : Memref sig .tc .vmem S64x1024 .bf16) (harg35 : arg35.IsWhole) (arg36 : Memref sig .tc .vmem S8x3x1024 .f32) (harg36 : arg36.IsWhole) (arg37 : Memref sig .tc .vmem S8x1024 .f32) (harg37 : arg37.IsWhole) (arg38 : Memref sig .tc .vmem S8x40x1024 .f32) (harg38 : arg38.IsWhole) (arg39 : Memref sig .tc .vmem S64x1024 .f32) (harg39 : arg39.IsWhole) (arg40 : Memref sig .tc .vmem S8x16x1024 .f32) (harg40 : arg40.IsWhole) (arg41 : Memref sig .tc .vmem S64x1024 .f32) (harg41 : arg41.IsWhole) (arg42 : Memref sig .tc .vmem S64x1024 .f32) (harg42 : arg42.IsWhole) (arg43 : Memref sig .tc .vmem S64x1024 .f32) (harg43 : arg43.IsWhole) (arg44 : Memref sig .tc .vmem S64x1024 .f32) (harg44 : arg44.IsWhole)
    (x0 : Vec F S16 .f32) (x1 : Vec F S64x1024 .bf16) (x2 : Vec F S64x256 .bf16) (x3 : Vec F S64x256 .bf16) (x4 : Vec F S8x128x256 .f32) (x5 : Vec F S8x128x256 .f32) (x6 : Vec F S64x1024 .bf16) (x7 : Vec F S64x1024 .bf16) (x8 : Vec F S8x30x1024 .f32) (x9 : Vec F S31x1024 .f32) (x10 : Vec F S1x1024 .f32) (x11 : Vec F S1x1024 .f32) (x12 : Vec F S1x1024 .f32) (x13 : Vec F S64x1024 .bf16) (x14 : Vec F S64x1024 .bf16) (x15 : Vec F S8x3x1024 .f32) (x16 : Vec F S8x1024 .f32) (x17 : Vec F S4x1024 .f32) (x18 : Vec F S1x1024 .f32) (x19 : Vec F S4x256x256 .bf16) (x20 : Vec F S1x1024 .f32) (x21 : Vec F S4x256x256 .bf16) (x22 : Vec F S1x1024 .f32) (x23 : Vec F S1x1024 .f32) : Vec F S8x30x1024 .f32 :=
  VO0_28.read (Elt F) (VO0_28.writes (Elt F) VO0_28.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg30 harg30 arg31 harg31 arg32 harg32 arg33 harg33 arg34 harg34 arg35 harg35 arg36 harg36 arg37 harg37 arg38 harg38 arg39 harg39 arg40 harg40 arg41 harg41 arg42 harg42 arg43 harg43 arg44 harg44 x0 x1 x2 x3 x4 x5 x6 x7 x8 x9 x10 x11 x12 x13 x14 x15 x16 x17 x18 x19 x20 x21 x22 x23).2.2.2.2.1)

/-- The run's pieces for output 29 tile its block. -/
theorem cover0_A_29 (c : Dev nD) (i : grid0.Coords) (arg1 : Memref sig .tc .smem S16 .f32) (harg1 : arg1.IsWhole) (arg2 : Memref sig .tc .vmem S64x1024 .bf16) (harg2 : arg2.IsWhole) (arg3 : Memref sig .tc .vmem S64x256 .bf16) (harg3 : arg3.IsWhole) (arg4 : Memref sig .tc .vmem S64x256 .bf16) (harg4 : arg4.IsWhole) (arg5 : Memref sig .tc .vmem S8x128x256 .f32) (harg5 : arg5.IsWhole) (arg6 : Memref sig .tc .vmem S8x128x256 .f32) (harg6 : arg6.IsWhole) (arg7 : Memref sig .tc .vmem S64x1024 .bf16) (harg7 : arg7.IsWhole) (arg8 : Memref sig .tc .vmem S64x1024 .bf16) (harg8 : arg8.IsWhole) (arg9 : Memref sig .tc .vmem S8x30x1024 .f32) (harg9 : arg9.IsWhole) (arg10 : Memref sig .tc .vmem S31x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S64x1024 .bf16) (harg14 : arg14.IsWhole) (arg15 : Memref sig .tc .vmem S64x1024 .bf16) (harg15 : arg15.IsWhole) (arg16 : Memref sig .tc .vmem S8x3x1024 .f32) (harg16 : arg16.IsWhole) (arg17 : Memref sig .tc .vmem S8x1024 .f32) (harg17 : arg17.IsWhole) (arg18 : Memref sig .tc .vmem S4x1024 .f32) (harg18 : arg18.IsWhole) (arg19 : Memref sig .tc .vmem S1x1024 .f32) (harg19 : arg19.IsWhole) (arg20 : Memref sig .tc .vmem S4x256x256 .bf16) (harg20 : arg20.IsWhole) (arg21 : Memref sig .tc .vmem S1x1024 .f32) (harg21 : arg21.IsWhole) (arg22 : Memref sig .tc .vmem S4x256x256 .bf16) (harg22 : arg22.IsWhole) (arg23 : Memref sig .tc .vmem S1x1024 .f32) (harg23 : arg23.IsWhole) (arg24 : Memref sig .tc .vmem S1x1024 .f32) (harg24 : arg24.IsWhole) (arg30 : Memref sig .tc .vmem S64x1024 .bf16) (harg30 : arg30.IsWhole) (arg31 : Memref sig .tc .vmem S8x128x256 .f32) (harg31 : arg31.IsWhole) (arg32 : Memref sig .tc .vmem S8x128x256 .f32) (harg32 : arg32.IsWhole) (arg33 : Memref sig .tc .vmem S64x1024 .bf16) (harg33 : arg33.IsWhole) (arg34 : Memref sig .tc .vmem S8x30x1024 .f32) (harg34 : arg34.IsWhole) (arg35 : Memref sig .tc .vmem S64x1024 .bf16) (harg35 : arg35.IsWhole) (arg36 : Memref sig .tc .vmem S8x3x1024 .f32) (harg36 : arg36.IsWhole) (arg37 : Memref sig .tc .vmem S8x1024 .f32) (harg37 : arg37.IsWhole) (arg38 : Memref sig .tc .vmem S8x40x1024 .f32) (harg38 : arg38.IsWhole) (arg39 : Memref sig .tc .vmem S64x1024 .f32) (harg39 : arg39.IsWhole) (arg40 : Memref sig .tc .vmem S8x16x1024 .f32) (harg40 : arg40.IsWhole) (arg41 : Memref sig .tc .vmem S64x1024 .f32) (harg41 : arg41.IsWhole) (arg42 : Memref sig .tc .vmem S64x1024 .f32) (harg42 : arg42.IsWhole) (arg43 : Memref sig .tc .vmem S64x1024 .f32) (harg43 : arg43.IsWhole) (arg44 : Memref sig .tc .vmem S64x1024 .f32) (harg44 : arg44.IsWhole)
    (x0 : Vec F S16 .f32) (x1 : Vec F S64x1024 .bf16) (x2 : Vec F S64x256 .bf16) (x3 : Vec F S64x256 .bf16) (x4 : Vec F S8x128x256 .f32) (x5 : Vec F S8x128x256 .f32) (x6 : Vec F S64x1024 .bf16) (x7 : Vec F S64x1024 .bf16) (x8 : Vec F S8x30x1024 .f32) (x9 : Vec F S31x1024 .f32) (x10 : Vec F S1x1024 .f32) (x11 : Vec F S1x1024 .f32) (x12 : Vec F S1x1024 .f32) (x13 : Vec F S64x1024 .bf16) (x14 : Vec F S64x1024 .bf16) (x15 : Vec F S8x3x1024 .f32) (x16 : Vec F S8x1024 .f32) (x17 : Vec F S4x1024 .f32) (x18 : Vec F S1x1024 .f32) (x19 : Vec F S4x256x256 .bf16) (x20 : Vec F S1x1024 .f32) (x21 : Vec F S4x256x256 .bf16) (x22 : Vec F S1x1024 .f32) (x23 : Vec F S1x1024 .f32) (y : S64x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg30 harg30 arg31 harg31 arg32 harg32 arg33 harg33 arg34 harg34 arg35 harg35 arg36 harg36 arg37 harg37 arg38 harg38 arg39 harg39 arg40 harg40 arg41 harg41 arg42 harg42 arg43 harg43 arg44 harg44 x0 x1 x2 x3 x4 x5 x6 x7 x8 x9 x10 x11 x12 x13 x14 x15 x16 x17 x18 x19 x20 x21 x22 x23).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg30 harg30 arg31 harg31 arg32 harg32 arg33 harg33 arg34 harg34 arg35 harg35 arg36 harg36 arg37 harg37 arg38 harg38 arg39 harg39 arg40 harg40 arg41 harg41 arg42 harg42 arg43 harg43 arg44 harg44 x0 x1 x2 x3 x4 x5 x6 x7 x8 x9 x10 x11 x12 x13 x14 x15 x16 x17 x18 x19 x20 x21 x22 x23).2.2.2.2.2.1 S64x1024.size (by sl_kernel_rfl) y

/-- What the run leaves in output 29's staging buffer: its pieces read back over junk. -/
def out0_A_29 (c : Dev nD) (i : grid0.Coords) (arg1 : Memref sig .tc .smem S16 .f32) (harg1 : arg1.IsWhole) (arg2 : Memref sig .tc .vmem S64x1024 .bf16) (harg2 : arg2.IsWhole) (arg3 : Memref sig .tc .vmem S64x256 .bf16) (harg3 : arg3.IsWhole) (arg4 : Memref sig .tc .vmem S64x256 .bf16) (harg4 : arg4.IsWhole) (arg5 : Memref sig .tc .vmem S8x128x256 .f32) (harg5 : arg5.IsWhole) (arg6 : Memref sig .tc .vmem S8x128x256 .f32) (harg6 : arg6.IsWhole) (arg7 : Memref sig .tc .vmem S64x1024 .bf16) (harg7 : arg7.IsWhole) (arg8 : Memref sig .tc .vmem S64x1024 .bf16) (harg8 : arg8.IsWhole) (arg9 : Memref sig .tc .vmem S8x30x1024 .f32) (harg9 : arg9.IsWhole) (arg10 : Memref sig .tc .vmem S31x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S64x1024 .bf16) (harg14 : arg14.IsWhole) (arg15 : Memref sig .tc .vmem S64x1024 .bf16) (harg15 : arg15.IsWhole) (arg16 : Memref sig .tc .vmem S8x3x1024 .f32) (harg16 : arg16.IsWhole) (arg17 : Memref sig .tc .vmem S8x1024 .f32) (harg17 : arg17.IsWhole) (arg18 : Memref sig .tc .vmem S4x1024 .f32) (harg18 : arg18.IsWhole) (arg19 : Memref sig .tc .vmem S1x1024 .f32) (harg19 : arg19.IsWhole) (arg20 : Memref sig .tc .vmem S4x256x256 .bf16) (harg20 : arg20.IsWhole) (arg21 : Memref sig .tc .vmem S1x1024 .f32) (harg21 : arg21.IsWhole) (arg22 : Memref sig .tc .vmem S4x256x256 .bf16) (harg22 : arg22.IsWhole) (arg23 : Memref sig .tc .vmem S1x1024 .f32) (harg23 : arg23.IsWhole) (arg24 : Memref sig .tc .vmem S1x1024 .f32) (harg24 : arg24.IsWhole) (arg30 : Memref sig .tc .vmem S64x1024 .bf16) (harg30 : arg30.IsWhole) (arg31 : Memref sig .tc .vmem S8x128x256 .f32) (harg31 : arg31.IsWhole) (arg32 : Memref sig .tc .vmem S8x128x256 .f32) (harg32 : arg32.IsWhole) (arg33 : Memref sig .tc .vmem S64x1024 .bf16) (harg33 : arg33.IsWhole) (arg34 : Memref sig .tc .vmem S8x30x1024 .f32) (harg34 : arg34.IsWhole) (arg35 : Memref sig .tc .vmem S64x1024 .bf16) (harg35 : arg35.IsWhole) (arg36 : Memref sig .tc .vmem S8x3x1024 .f32) (harg36 : arg36.IsWhole) (arg37 : Memref sig .tc .vmem S8x1024 .f32) (harg37 : arg37.IsWhole) (arg38 : Memref sig .tc .vmem S8x40x1024 .f32) (harg38 : arg38.IsWhole) (arg39 : Memref sig .tc .vmem S64x1024 .f32) (harg39 : arg39.IsWhole) (arg40 : Memref sig .tc .vmem S8x16x1024 .f32) (harg40 : arg40.IsWhole) (arg41 : Memref sig .tc .vmem S64x1024 .f32) (harg41 : arg41.IsWhole) (arg42 : Memref sig .tc .vmem S64x1024 .f32) (harg42 : arg42.IsWhole) (arg43 : Memref sig .tc .vmem S64x1024 .f32) (harg43 : arg43.IsWhole) (arg44 : Memref sig .tc .vmem S64x1024 .f32) (harg44 : arg44.IsWhole)
    (x0 : Vec F S16 .f32) (x1 : Vec F S64x1024 .bf16) (x2 : Vec F S64x256 .bf16) (x3 : Vec F S64x256 .bf16) (x4 : Vec F S8x128x256 .f32) (x5 : Vec F S8x128x256 .f32) (x6 : Vec F S64x1024 .bf16) (x7 : Vec F S64x1024 .bf16) (x8 : Vec F S8x30x1024 .f32) (x9 : Vec F S31x1024 .f32) (x10 : Vec F S1x1024 .f32) (x11 : Vec F S1x1024 .f32) (x12 : Vec F S1x1024 .f32) (x13 : Vec F S64x1024 .bf16) (x14 : Vec F S64x1024 .bf16) (x15 : Vec F S8x3x1024 .f32) (x16 : Vec F S8x1024 .f32) (x17 : Vec F S4x1024 .f32) (x18 : Vec F S1x1024 .f32) (x19 : Vec F S4x256x256 .bf16) (x20 : Vec F S1x1024 .f32) (x21 : Vec F S4x256x256 .bf16) (x22 : Vec F S1x1024 .f32) (x23 : Vec F S1x1024 .f32) : Vec F S64x1024 .bf16 :=
  VO0_29.read (Elt F) (VO0_29.writes (Elt F) VO0_29.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg30 harg30 arg31 harg31 arg32 harg32 arg33 harg33 arg34 harg34 arg35 harg35 arg36 harg36 arg37 harg37 arg38 harg38 arg39 harg39 arg40 harg40 arg41 harg41 arg42 harg42 arg43 harg43 arg44 harg44 x0 x1 x2 x3 x4 x5 x6 x7 x8 x9 x10 x11 x12 x13 x14 x15 x16 x17 x18 x19 x20 x21 x22 x23).2.2.2.2.2.1)

/-- The run's pieces for output 30 tile its block. -/
theorem cover0_A_30 (c : Dev nD) (i : grid0.Coords) (arg1 : Memref sig .tc .smem S16 .f32) (harg1 : arg1.IsWhole) (arg2 : Memref sig .tc .vmem S64x1024 .bf16) (harg2 : arg2.IsWhole) (arg3 : Memref sig .tc .vmem S64x256 .bf16) (harg3 : arg3.IsWhole) (arg4 : Memref sig .tc .vmem S64x256 .bf16) (harg4 : arg4.IsWhole) (arg5 : Memref sig .tc .vmem S8x128x256 .f32) (harg5 : arg5.IsWhole) (arg6 : Memref sig .tc .vmem S8x128x256 .f32) (harg6 : arg6.IsWhole) (arg7 : Memref sig .tc .vmem S64x1024 .bf16) (harg7 : arg7.IsWhole) (arg8 : Memref sig .tc .vmem S64x1024 .bf16) (harg8 : arg8.IsWhole) (arg9 : Memref sig .tc .vmem S8x30x1024 .f32) (harg9 : arg9.IsWhole) (arg10 : Memref sig .tc .vmem S31x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S64x1024 .bf16) (harg14 : arg14.IsWhole) (arg15 : Memref sig .tc .vmem S64x1024 .bf16) (harg15 : arg15.IsWhole) (arg16 : Memref sig .tc .vmem S8x3x1024 .f32) (harg16 : arg16.IsWhole) (arg17 : Memref sig .tc .vmem S8x1024 .f32) (harg17 : arg17.IsWhole) (arg18 : Memref sig .tc .vmem S4x1024 .f32) (harg18 : arg18.IsWhole) (arg19 : Memref sig .tc .vmem S1x1024 .f32) (harg19 : arg19.IsWhole) (arg20 : Memref sig .tc .vmem S4x256x256 .bf16) (harg20 : arg20.IsWhole) (arg21 : Memref sig .tc .vmem S1x1024 .f32) (harg21 : arg21.IsWhole) (arg22 : Memref sig .tc .vmem S4x256x256 .bf16) (harg22 : arg22.IsWhole) (arg23 : Memref sig .tc .vmem S1x1024 .f32) (harg23 : arg23.IsWhole) (arg24 : Memref sig .tc .vmem S1x1024 .f32) (harg24 : arg24.IsWhole) (arg30 : Memref sig .tc .vmem S64x1024 .bf16) (harg30 : arg30.IsWhole) (arg31 : Memref sig .tc .vmem S8x128x256 .f32) (harg31 : arg31.IsWhole) (arg32 : Memref sig .tc .vmem S8x128x256 .f32) (harg32 : arg32.IsWhole) (arg33 : Memref sig .tc .vmem S64x1024 .bf16) (harg33 : arg33.IsWhole) (arg34 : Memref sig .tc .vmem S8x30x1024 .f32) (harg34 : arg34.IsWhole) (arg35 : Memref sig .tc .vmem S64x1024 .bf16) (harg35 : arg35.IsWhole) (arg36 : Memref sig .tc .vmem S8x3x1024 .f32) (harg36 : arg36.IsWhole) (arg37 : Memref sig .tc .vmem S8x1024 .f32) (harg37 : arg37.IsWhole) (arg38 : Memref sig .tc .vmem S8x40x1024 .f32) (harg38 : arg38.IsWhole) (arg39 : Memref sig .tc .vmem S64x1024 .f32) (harg39 : arg39.IsWhole) (arg40 : Memref sig .tc .vmem S8x16x1024 .f32) (harg40 : arg40.IsWhole) (arg41 : Memref sig .tc .vmem S64x1024 .f32) (harg41 : arg41.IsWhole) (arg42 : Memref sig .tc .vmem S64x1024 .f32) (harg42 : arg42.IsWhole) (arg43 : Memref sig .tc .vmem S64x1024 .f32) (harg43 : arg43.IsWhole) (arg44 : Memref sig .tc .vmem S64x1024 .f32) (harg44 : arg44.IsWhole)
    (x0 : Vec F S16 .f32) (x1 : Vec F S64x1024 .bf16) (x2 : Vec F S64x256 .bf16) (x3 : Vec F S64x256 .bf16) (x4 : Vec F S8x128x256 .f32) (x5 : Vec F S8x128x256 .f32) (x6 : Vec F S64x1024 .bf16) (x7 : Vec F S64x1024 .bf16) (x8 : Vec F S8x30x1024 .f32) (x9 : Vec F S31x1024 .f32) (x10 : Vec F S1x1024 .f32) (x11 : Vec F S1x1024 .f32) (x12 : Vec F S1x1024 .f32) (x13 : Vec F S64x1024 .bf16) (x14 : Vec F S64x1024 .bf16) (x15 : Vec F S8x3x1024 .f32) (x16 : Vec F S8x1024 .f32) (x17 : Vec F S4x1024 .f32) (x18 : Vec F S1x1024 .f32) (x19 : Vec F S4x256x256 .bf16) (x20 : Vec F S1x1024 .f32) (x21 : Vec F S4x256x256 .bf16) (x22 : Vec F S1x1024 .f32) (x23 : Vec F S1x1024 .f32) (y : S8x3x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg30 harg30 arg31 harg31 arg32 harg32 arg33 harg33 arg34 harg34 arg35 harg35 arg36 harg36 arg37 harg37 arg38 harg38 arg39 harg39 arg40 harg40 arg41 harg41 arg42 harg42 arg43 harg43 arg44 harg44 x0 x1 x2 x3 x4 x5 x6 x7 x8 x9 x10 x11 x12 x13 x14 x15 x16 x17 x18 x19 x20 x21 x22 x23).2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg30 harg30 arg31 harg31 arg32 harg32 arg33 harg33 arg34 harg34 arg35 harg35 arg36 harg36 arg37 harg37 arg38 harg38 arg39 harg39 arg40 harg40 arg41 harg41 arg42 harg42 arg43 harg43 arg44 harg44 x0 x1 x2 x3 x4 x5 x6 x7 x8 x9 x10 x11 x12 x13 x14 x15 x16 x17 x18 x19 x20 x21 x22 x23).2.2.2.2.2.2.1 S1x3x1024.size (by sl_kernel_rfl) y

/-- What the run leaves in output 30's staging buffer: its pieces read back over junk. -/
def out0_A_30 (c : Dev nD) (i : grid0.Coords) (arg1 : Memref sig .tc .smem S16 .f32) (harg1 : arg1.IsWhole) (arg2 : Memref sig .tc .vmem S64x1024 .bf16) (harg2 : arg2.IsWhole) (arg3 : Memref sig .tc .vmem S64x256 .bf16) (harg3 : arg3.IsWhole) (arg4 : Memref sig .tc .vmem S64x256 .bf16) (harg4 : arg4.IsWhole) (arg5 : Memref sig .tc .vmem S8x128x256 .f32) (harg5 : arg5.IsWhole) (arg6 : Memref sig .tc .vmem S8x128x256 .f32) (harg6 : arg6.IsWhole) (arg7 : Memref sig .tc .vmem S64x1024 .bf16) (harg7 : arg7.IsWhole) (arg8 : Memref sig .tc .vmem S64x1024 .bf16) (harg8 : arg8.IsWhole) (arg9 : Memref sig .tc .vmem S8x30x1024 .f32) (harg9 : arg9.IsWhole) (arg10 : Memref sig .tc .vmem S31x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S64x1024 .bf16) (harg14 : arg14.IsWhole) (arg15 : Memref sig .tc .vmem S64x1024 .bf16) (harg15 : arg15.IsWhole) (arg16 : Memref sig .tc .vmem S8x3x1024 .f32) (harg16 : arg16.IsWhole) (arg17 : Memref sig .tc .vmem S8x1024 .f32) (harg17 : arg17.IsWhole) (arg18 : Memref sig .tc .vmem S4x1024 .f32) (harg18 : arg18.IsWhole) (arg19 : Memref sig .tc .vmem S1x1024 .f32) (harg19 : arg19.IsWhole) (arg20 : Memref sig .tc .vmem S4x256x256 .bf16) (harg20 : arg20.IsWhole) (arg21 : Memref sig .tc .vmem S1x1024 .f32) (harg21 : arg21.IsWhole) (arg22 : Memref sig .tc .vmem S4x256x256 .bf16) (harg22 : arg22.IsWhole) (arg23 : Memref sig .tc .vmem S1x1024 .f32) (harg23 : arg23.IsWhole) (arg24 : Memref sig .tc .vmem S1x1024 .f32) (harg24 : arg24.IsWhole) (arg30 : Memref sig .tc .vmem S64x1024 .bf16) (harg30 : arg30.IsWhole) (arg31 : Memref sig .tc .vmem S8x128x256 .f32) (harg31 : arg31.IsWhole) (arg32 : Memref sig .tc .vmem S8x128x256 .f32) (harg32 : arg32.IsWhole) (arg33 : Memref sig .tc .vmem S64x1024 .bf16) (harg33 : arg33.IsWhole) (arg34 : Memref sig .tc .vmem S8x30x1024 .f32) (harg34 : arg34.IsWhole) (arg35 : Memref sig .tc .vmem S64x1024 .bf16) (harg35 : arg35.IsWhole) (arg36 : Memref sig .tc .vmem S8x3x1024 .f32) (harg36 : arg36.IsWhole) (arg37 : Memref sig .tc .vmem S8x1024 .f32) (harg37 : arg37.IsWhole) (arg38 : Memref sig .tc .vmem S8x40x1024 .f32) (harg38 : arg38.IsWhole) (arg39 : Memref sig .tc .vmem S64x1024 .f32) (harg39 : arg39.IsWhole) (arg40 : Memref sig .tc .vmem S8x16x1024 .f32) (harg40 : arg40.IsWhole) (arg41 : Memref sig .tc .vmem S64x1024 .f32) (harg41 : arg41.IsWhole) (arg42 : Memref sig .tc .vmem S64x1024 .f32) (harg42 : arg42.IsWhole) (arg43 : Memref sig .tc .vmem S64x1024 .f32) (harg43 : arg43.IsWhole) (arg44 : Memref sig .tc .vmem S64x1024 .f32) (harg44 : arg44.IsWhole)
    (x0 : Vec F S16 .f32) (x1 : Vec F S64x1024 .bf16) (x2 : Vec F S64x256 .bf16) (x3 : Vec F S64x256 .bf16) (x4 : Vec F S8x128x256 .f32) (x5 : Vec F S8x128x256 .f32) (x6 : Vec F S64x1024 .bf16) (x7 : Vec F S64x1024 .bf16) (x8 : Vec F S8x30x1024 .f32) (x9 : Vec F S31x1024 .f32) (x10 : Vec F S1x1024 .f32) (x11 : Vec F S1x1024 .f32) (x12 : Vec F S1x1024 .f32) (x13 : Vec F S64x1024 .bf16) (x14 : Vec F S64x1024 .bf16) (x15 : Vec F S8x3x1024 .f32) (x16 : Vec F S8x1024 .f32) (x17 : Vec F S4x1024 .f32) (x18 : Vec F S1x1024 .f32) (x19 : Vec F S4x256x256 .bf16) (x20 : Vec F S1x1024 .f32) (x21 : Vec F S4x256x256 .bf16) (x22 : Vec F S1x1024 .f32) (x23 : Vec F S1x1024 .f32) : Vec F S8x3x1024 .f32 :=
  VO0_30.read (Elt F) (VO0_30.writes (Elt F) VO0_30.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg30 harg30 arg31 harg31 arg32 harg32 arg33 harg33 arg34 harg34 arg35 harg35 arg36 harg36 arg37 harg37 arg38 harg38 arg39 harg39 arg40 harg40 arg41 harg41 arg42 harg42 arg43 harg43 arg44 harg44 x0 x1 x2 x3 x4 x5 x6 x7 x8 x9 x10 x11 x12 x13 x14 x15 x16 x17 x18 x19 x20 x21 x22 x23).2.2.2.2.2.2.1)

/-- The run's pieces for output 31 tile its block. -/
theorem cover0_A_31 (c : Dev nD) (i : grid0.Coords) (arg1 : Memref sig .tc .smem S16 .f32) (harg1 : arg1.IsWhole) (arg2 : Memref sig .tc .vmem S64x1024 .bf16) (harg2 : arg2.IsWhole) (arg3 : Memref sig .tc .vmem S64x256 .bf16) (harg3 : arg3.IsWhole) (arg4 : Memref sig .tc .vmem S64x256 .bf16) (harg4 : arg4.IsWhole) (arg5 : Memref sig .tc .vmem S8x128x256 .f32) (harg5 : arg5.IsWhole) (arg6 : Memref sig .tc .vmem S8x128x256 .f32) (harg6 : arg6.IsWhole) (arg7 : Memref sig .tc .vmem S64x1024 .bf16) (harg7 : arg7.IsWhole) (arg8 : Memref sig .tc .vmem S64x1024 .bf16) (harg8 : arg8.IsWhole) (arg9 : Memref sig .tc .vmem S8x30x1024 .f32) (harg9 : arg9.IsWhole) (arg10 : Memref sig .tc .vmem S31x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S64x1024 .bf16) (harg14 : arg14.IsWhole) (arg15 : Memref sig .tc .vmem S64x1024 .bf16) (harg15 : arg15.IsWhole) (arg16 : Memref sig .tc .vmem S8x3x1024 .f32) (harg16 : arg16.IsWhole) (arg17 : Memref sig .tc .vmem S8x1024 .f32) (harg17 : arg17.IsWhole) (arg18 : Memref sig .tc .vmem S4x1024 .f32) (harg18 : arg18.IsWhole) (arg19 : Memref sig .tc .vmem S1x1024 .f32) (harg19 : arg19.IsWhole) (arg20 : Memref sig .tc .vmem S4x256x256 .bf16) (harg20 : arg20.IsWhole) (arg21 : Memref sig .tc .vmem S1x1024 .f32) (harg21 : arg21.IsWhole) (arg22 : Memref sig .tc .vmem S4x256x256 .bf16) (harg22 : arg22.IsWhole) (arg23 : Memref sig .tc .vmem S1x1024 .f32) (harg23 : arg23.IsWhole) (arg24 : Memref sig .tc .vmem S1x1024 .f32) (harg24 : arg24.IsWhole) (arg30 : Memref sig .tc .vmem S64x1024 .bf16) (harg30 : arg30.IsWhole) (arg31 : Memref sig .tc .vmem S8x128x256 .f32) (harg31 : arg31.IsWhole) (arg32 : Memref sig .tc .vmem S8x128x256 .f32) (harg32 : arg32.IsWhole) (arg33 : Memref sig .tc .vmem S64x1024 .bf16) (harg33 : arg33.IsWhole) (arg34 : Memref sig .tc .vmem S8x30x1024 .f32) (harg34 : arg34.IsWhole) (arg35 : Memref sig .tc .vmem S64x1024 .bf16) (harg35 : arg35.IsWhole) (arg36 : Memref sig .tc .vmem S8x3x1024 .f32) (harg36 : arg36.IsWhole) (arg37 : Memref sig .tc .vmem S8x1024 .f32) (harg37 : arg37.IsWhole) (arg38 : Memref sig .tc .vmem S8x40x1024 .f32) (harg38 : arg38.IsWhole) (arg39 : Memref sig .tc .vmem S64x1024 .f32) (harg39 : arg39.IsWhole) (arg40 : Memref sig .tc .vmem S8x16x1024 .f32) (harg40 : arg40.IsWhole) (arg41 : Memref sig .tc .vmem S64x1024 .f32) (harg41 : arg41.IsWhole) (arg42 : Memref sig .tc .vmem S64x1024 .f32) (harg42 : arg42.IsWhole) (arg43 : Memref sig .tc .vmem S64x1024 .f32) (harg43 : arg43.IsWhole) (arg44 : Memref sig .tc .vmem S64x1024 .f32) (harg44 : arg44.IsWhole)
    (x0 : Vec F S16 .f32) (x1 : Vec F S64x1024 .bf16) (x2 : Vec F S64x256 .bf16) (x3 : Vec F S64x256 .bf16) (x4 : Vec F S8x128x256 .f32) (x5 : Vec F S8x128x256 .f32) (x6 : Vec F S64x1024 .bf16) (x7 : Vec F S64x1024 .bf16) (x8 : Vec F S8x30x1024 .f32) (x9 : Vec F S31x1024 .f32) (x10 : Vec F S1x1024 .f32) (x11 : Vec F S1x1024 .f32) (x12 : Vec F S1x1024 .f32) (x13 : Vec F S64x1024 .bf16) (x14 : Vec F S64x1024 .bf16) (x15 : Vec F S8x3x1024 .f32) (x16 : Vec F S8x1024 .f32) (x17 : Vec F S4x1024 .f32) (x18 : Vec F S1x1024 .f32) (x19 : Vec F S4x256x256 .bf16) (x20 : Vec F S1x1024 .f32) (x21 : Vec F S4x256x256 .bf16) (x22 : Vec F S1x1024 .f32) (x23 : Vec F S1x1024 .f32) (y : S8x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg30 harg30 arg31 harg31 arg32 harg32 arg33 harg33 arg34 harg34 arg35 harg35 arg36 harg36 arg37 harg37 arg38 harg38 arg39 harg39 arg40 harg40 arg41 harg41 arg42 harg42 arg43 harg43 arg44 harg44 x0 x1 x2 x3 x4 x5 x6 x7 x8 x9 x10 x11 x12 x13 x14 x15 x16 x17 x18 x19 x20 x21 x22 x23).2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg30 harg30 arg31 harg31 arg32 harg32 arg33 harg33 arg34 harg34 arg35 harg35 arg36 harg36 arg37 harg37 arg38 harg38 arg39 harg39 arg40 harg40 arg41 harg41 arg42 harg42 arg43 harg43 arg44 harg44 x0 x1 x2 x3 x4 x5 x6 x7 x8 x9 x10 x11 x12 x13 x14 x15 x16 x17 x18 x19 x20 x21 x22 x23).2.2.2.2.2.2.2.1 S1x1024.size (by sl_kernel_rfl) y

/-- What the run leaves in output 31's staging buffer: its pieces read back over junk. -/
def out0_A_31 (c : Dev nD) (i : grid0.Coords) (arg1 : Memref sig .tc .smem S16 .f32) (harg1 : arg1.IsWhole) (arg2 : Memref sig .tc .vmem S64x1024 .bf16) (harg2 : arg2.IsWhole) (arg3 : Memref sig .tc .vmem S64x256 .bf16) (harg3 : arg3.IsWhole) (arg4 : Memref sig .tc .vmem S64x256 .bf16) (harg4 : arg4.IsWhole) (arg5 : Memref sig .tc .vmem S8x128x256 .f32) (harg5 : arg5.IsWhole) (arg6 : Memref sig .tc .vmem S8x128x256 .f32) (harg6 : arg6.IsWhole) (arg7 : Memref sig .tc .vmem S64x1024 .bf16) (harg7 : arg7.IsWhole) (arg8 : Memref sig .tc .vmem S64x1024 .bf16) (harg8 : arg8.IsWhole) (arg9 : Memref sig .tc .vmem S8x30x1024 .f32) (harg9 : arg9.IsWhole) (arg10 : Memref sig .tc .vmem S31x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S64x1024 .bf16) (harg14 : arg14.IsWhole) (arg15 : Memref sig .tc .vmem S64x1024 .bf16) (harg15 : arg15.IsWhole) (arg16 : Memref sig .tc .vmem S8x3x1024 .f32) (harg16 : arg16.IsWhole) (arg17 : Memref sig .tc .vmem S8x1024 .f32) (harg17 : arg17.IsWhole) (arg18 : Memref sig .tc .vmem S4x1024 .f32) (harg18 : arg18.IsWhole) (arg19 : Memref sig .tc .vmem S1x1024 .f32) (harg19 : arg19.IsWhole) (arg20 : Memref sig .tc .vmem S4x256x256 .bf16) (harg20 : arg20.IsWhole) (arg21 : Memref sig .tc .vmem S1x1024 .f32) (harg21 : arg21.IsWhole) (arg22 : Memref sig .tc .vmem S4x256x256 .bf16) (harg22 : arg22.IsWhole) (arg23 : Memref sig .tc .vmem S1x1024 .f32) (harg23 : arg23.IsWhole) (arg24 : Memref sig .tc .vmem S1x1024 .f32) (harg24 : arg24.IsWhole) (arg30 : Memref sig .tc .vmem S64x1024 .bf16) (harg30 : arg30.IsWhole) (arg31 : Memref sig .tc .vmem S8x128x256 .f32) (harg31 : arg31.IsWhole) (arg32 : Memref sig .tc .vmem S8x128x256 .f32) (harg32 : arg32.IsWhole) (arg33 : Memref sig .tc .vmem S64x1024 .bf16) (harg33 : arg33.IsWhole) (arg34 : Memref sig .tc .vmem S8x30x1024 .f32) (harg34 : arg34.IsWhole) (arg35 : Memref sig .tc .vmem S64x1024 .bf16) (harg35 : arg35.IsWhole) (arg36 : Memref sig .tc .vmem S8x3x1024 .f32) (harg36 : arg36.IsWhole) (arg37 : Memref sig .tc .vmem S8x1024 .f32) (harg37 : arg37.IsWhole) (arg38 : Memref sig .tc .vmem S8x40x1024 .f32) (harg38 : arg38.IsWhole) (arg39 : Memref sig .tc .vmem S64x1024 .f32) (harg39 : arg39.IsWhole) (arg40 : Memref sig .tc .vmem S8x16x1024 .f32) (harg40 : arg40.IsWhole) (arg41 : Memref sig .tc .vmem S64x1024 .f32) (harg41 : arg41.IsWhole) (arg42 : Memref sig .tc .vmem S64x1024 .f32) (harg42 : arg42.IsWhole) (arg43 : Memref sig .tc .vmem S64x1024 .f32) (harg43 : arg43.IsWhole) (arg44 : Memref sig .tc .vmem S64x1024 .f32) (harg44 : arg44.IsWhole)
    (x0 : Vec F S16 .f32) (x1 : Vec F S64x1024 .bf16) (x2 : Vec F S64x256 .bf16) (x3 : Vec F S64x256 .bf16) (x4 : Vec F S8x128x256 .f32) (x5 : Vec F S8x128x256 .f32) (x6 : Vec F S64x1024 .bf16) (x7 : Vec F S64x1024 .bf16) (x8 : Vec F S8x30x1024 .f32) (x9 : Vec F S31x1024 .f32) (x10 : Vec F S1x1024 .f32) (x11 : Vec F S1x1024 .f32) (x12 : Vec F S1x1024 .f32) (x13 : Vec F S64x1024 .bf16) (x14 : Vec F S64x1024 .bf16) (x15 : Vec F S8x3x1024 .f32) (x16 : Vec F S8x1024 .f32) (x17 : Vec F S4x1024 .f32) (x18 : Vec F S1x1024 .f32) (x19 : Vec F S4x256x256 .bf16) (x20 : Vec F S1x1024 .f32) (x21 : Vec F S4x256x256 .bf16) (x22 : Vec F S1x1024 .f32) (x23 : Vec F S1x1024 .f32) : Vec F S8x1024 .f32 :=
  VO0_31.read (Elt F) (VO0_31.writes (Elt F) VO0_31.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg30 harg30 arg31 harg31 arg32 harg32 arg33 harg33 arg34 harg34 arg35 harg35 arg36 harg36 arg37 harg37 arg38 harg38 arg39 harg39 arg40 harg40 arg41 harg41 arg42 harg42 arg43 harg43 arg44 harg44 x0 x1 x2 x3 x4 x5 x6 x7 x8 x9 x10 x11 x12 x13 x14 x15 x16 x17 x18 x19 x20 x21 x22 x23).2.2.2.2.2.2.2.1)

/-! ## What the outputs hold after each point -/

/-- What the outputs' staging buffers hold after the body at point `t`. -/
def outsAt0 (c : Dev nD) (t : Fin cfg0.N) : Vec F S64x1024 .bf16 × Vec F S8x128x256 .f32 × Vec F S8x128x256 .f32 × Vec F S64x1024 .bf16 × Vec F S8x30x1024 .f32 × Vec F S64x1024 .bf16 × Vec F S8x3x1024 .f32 × Vec F S8x1024 .f32 :=
  (out0_A_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (X0_1 m c t) (iblk m c 2 t) (iblk m c 3 t) (iblk m c 4 t) (iblk m c 5 t) (X0_6 m c t) (X0_7 m c t) (iblk m c 8 t) (iblk m c 9 t) (iblk m c 10 t) (iblk m c 11 t) (iblk m c 12 t) (X0_13 m c t) (X0_14 m c t) (iblk m c 15 t) (iblk m c 16 t) (iblk m c 17 t) (iblk m c 18 t) (iblk m c 19 t) (iblk m c 20 t) (iblk m c 21 t) (iblk m c 22 t) (iblk m c 23 t), out0_A_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (X0_1 m c t) (iblk m c 2 t) (iblk m c 3 t) (iblk m c 4 t) (iblk m c 5 t) (X0_6 m c t) (X0_7 m c t) (iblk m c 8 t) (iblk m c 9 t) (iblk m c 10 t) (iblk m c 11 t) (iblk m c 12 t) (X0_13 m c t) (X0_14 m c t) (iblk m c 15 t) (iblk m c 16 t) (iblk m c 17 t) (iblk m c 18 t) (iblk m c 19 t) (iblk m c 20 t) (iblk m c 21 t) (iblk m c 22 t) (iblk m c 23 t), out0_A_26 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (X0_1 m c t) (iblk m c 2 t) (iblk m c 3 t) (iblk m c 4 t) (iblk m c 5 t) (X0_6 m c t) (X0_7 m c t) (iblk m c 8 t) (iblk m c 9 t) (iblk m c 10 t) (iblk m c 11 t) (iblk m c 12 t) (X0_13 m c t) (X0_14 m c t) (iblk m c 15 t) (iblk m c 16 t) (iblk m c 17 t) (iblk m c 18 t) (iblk m c 19 t) (iblk m c 20 t) (iblk m c 21 t) (iblk m c 22 t) (iblk m c 23 t), out0_A_27 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (X0_1 m c t) (iblk m c 2 t) (iblk m c 3 t) (iblk m c 4 t) (iblk m c 5 t) (X0_6 m c t) (X0_7 m c t) (iblk m c 8 t) (iblk m c 9 t) (iblk m c 10 t) (iblk m c 11 t) (iblk m c 12 t) (X0_13 m c t) (X0_14 m c t) (iblk m c 15 t) (iblk m c 16 t) (iblk m c 17 t) (iblk m c 18 t) (iblk m c 19 t) (iblk m c 20 t) (iblk m c 21 t) (iblk m c 22 t) (iblk m c 23 t), out0_A_28 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (X0_1 m c t) (iblk m c 2 t) (iblk m c 3 t) (iblk m c 4 t) (iblk m c 5 t) (X0_6 m c t) (X0_7 m c t) (iblk m c 8 t) (iblk m c 9 t) (iblk m c 10 t) (iblk m c 11 t) (iblk m c 12 t) (X0_13 m c t) (X0_14 m c t) (iblk m c 15 t) (iblk m c 16 t) (iblk m c 17 t) (iblk m c 18 t) (iblk m c 19 t) (iblk m c 20 t) (iblk m c 21 t) (iblk m c 22 t) (iblk m c 23 t), out0_A_29 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (X0_1 m c t) (iblk m c 2 t) (iblk m c 3 t) (iblk m c 4 t) (iblk m c 5 t) (X0_6 m c t) (X0_7 m c t) (iblk m c 8 t) (iblk m c 9 t) (iblk m c 10 t) (iblk m c 11 t) (iblk m c 12 t) (X0_13 m c t) (X0_14 m c t) (iblk m c 15 t) (iblk m c 16 t) (iblk m c 17 t) (iblk m c 18 t) (iblk m c 19 t) (iblk m c 20 t) (iblk m c 21 t) (iblk m c 22 t) (iblk m c 23 t), out0_A_30 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (X0_1 m c t) (iblk m c 2 t) (iblk m c 3 t) (iblk m c 4 t) (iblk m c 5 t) (X0_6 m c t) (X0_7 m c t) (iblk m c 8 t) (iblk m c 9 t) (iblk m c 10 t) (iblk m c 11 t) (iblk m c 12 t) (X0_13 m c t) (X0_14 m c t) (iblk m c 15 t) (iblk m c 16 t) (iblk m c 17 t) (iblk m c 18 t) (iblk m c 19 t) (iblk m c 20 t) (iblk m c 21 t) (iblk m c 22 t) (iblk m c 23 t), out0_A_31 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (X0_1 m c t) (iblk m c 2 t) (iblk m c 3 t) (iblk m c 4 t) (iblk m c 5 t) (X0_6 m c t) (X0_7 m c t) (iblk m c 8 t) (iblk m c 9 t) (iblk m c 10 t) (iblk m c 11 t) (iblk m c 12 t) (X0_13 m c t) (X0_14 m c t) (iblk m c 15 t) (iblk m c 16 t) (iblk m c 17 t) (iblk m c 18 t) (iblk m c 19 t) (iblk m c 20 t) (iblk m c 21 t) (iblk m c 22 t) (iblk m c 23 t))

/-! ## The pipeline's proof data -/

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => iblk m c 3 t
    | ⟨4, _⟩ => iblk m c 4 t
    | ⟨5, _⟩ => iblk m c 5 t
    | ⟨6, _⟩ => X0_6 m c t
    | ⟨7, _⟩ => X0_7 m c t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => X0_13 m c t
    | ⟨14, _⟩ => X0_14 m c t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => (outsAt0 m c t).1
    | ⟨25, _⟩ => (outsAt0 m c t).2.1
    | ⟨26, _⟩ => (outsAt0 m c t).2.2.1
    | ⟨27, _⟩ => (outsAt0 m c t).2.2.2.1
    | ⟨28, _⟩ => (outsAt0 m c t).2.2.2.2.1
    | ⟨29, _⟩ => (outsAt0 m c t).2.2.2.2.2.1
    | ⟨30, _⟩ => (outsAt0 m c t).2.2.2.2.2.2.1
    | ⟨31, _⟩ => (outsAt0 m c t).2.2.2.2.2.2.2
    | ⟨_ + 32, h⟩ => absurd h (Nat.not_lt.2 (Nat.le_add_left _ _))
  Φ _ := Pipeline.ΦA spec0 c
  q w := Pipeline.shareOf spec0 w
  owed _ := 0

/-- The proof data's arrays are the region-entry contents. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = X0_6 m c t := by dsimp only [dats]
theorem after0_7 (c : Dev nD) (t : Fin cfg0.N) : (dats m 0 c).after 7 t = X0_7 m c t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = X0_13 m c t := by dsimp only [dats]
theorem after0_14 (c : Dev nD) (t : Fin cfg0.N) : (dats m 0 c).after 14 t = X0_14 m c t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = (outsAt0 m c t).1 := by dsimp only [dats]
theorem after0_25 (c : Dev nD) (t : Fin cfg0.N) : (dats m 0 c).after 25 t = (outsAt0 m c t).2.1 := by dsimp only [dats]
theorem after0_26 (c : Dev nD) (t : Fin cfg0.N) : (dats m 0 c).after 26 t = (outsAt0 m c t).2.2.1 := by dsimp only [dats]
theorem after0_27 (c : Dev nD) (t : Fin cfg0.N) : (dats m 0 c).after 27 t = (outsAt0 m c t).2.2.2.1 := by dsimp only [dats]
theorem after0_28 (c : Dev nD) (t : Fin cfg0.N) : (dats m 0 c).after 28 t = (outsAt0 m c t).2.2.2.2.1 := by dsimp only [dats]
theorem after0_29 (c : Dev nD) (t : Fin cfg0.N) : (dats m 0 c).after 29 t = (outsAt0 m c t).2.2.2.2.2.1 := by dsimp only [dats]
theorem after0_30 (c : Dev nD) (t : Fin cfg0.N) : (dats m 0 c).after 30 t = (outsAt0 m c t).2.2.2.2.2.2.1 := by dsimp only [dats]
theorem after0_31 (c : Dev nD) (t : Fin cfg0.N) : (dats m 0 c).after 31 t = (outsAt0 m c t).2.2.2.2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = X0_6 m c t :=
  before0_6_of m (dats m 0 c) (A_eq m c 6) (after0_6 m c) t d
theorem before0_7 (c : Dev nD) (t : Fin cfg0.N) (d) : (dats m 0 c).before 7 t d = X0_7 m c t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = X0_13 m c t :=
  before0_13_of m (dats m 0 c) (A_eq m c 13) (after0_13 m c) t d
theorem before0_14 (c : Dev nD) (t : Fin cfg0.N) (d) : (dats m 0 c).before 14 t d = X0_14 m c t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d

/-! ## The body obligation, at a generic point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d))
    ∗ (∃ d, owns (c : Thread nD τ) (ms0_30 t) fullShare ((dats m 0 c).before 30 t d))
    ∗ (∃ d, owns (c : Thread nD τ) (ms0_31 t) fullShare ((dats m 0 c).before 31 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t)
    ∗ owns (c : Thread nD τ) (ms0_29 t) fullShare ((dats m 0 c).after 29 t)
    ∗ owns (c : Thread nD τ) (ms0_30 t) fullShare ((dats m 0 c).after 30 t)
    ∗ owns (c : Thread nD τ) (ms0_31 t) fullShare ((dats m 0 c).after 31 t))

set_option maxHeartbeats 3600000 in
/-- The body at any point: the inputs' memrefs hold their blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31]
  rw [show (dats m 0 c).Φ t.castSucc = Pipeline.ΦA spec0 c from rfl, PhiA0_eq]
  unfold outsAt0
  unfold out0_A_24 out0_A_25 out0_A_26 out0_A_27 out0_A_28 out0_A_29 out0_A_30 out0_A_31; (try dsimp only)
  iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (X0_1 m c t) (iblk m c 2 t) (iblk m c 3 t) (iblk m c 4 t) (iblk m c 5 t) (X0_6 m c t) (X0_7 m c t) (iblk m c 8 t) (iblk m c 9 t) (iblk m c 10 t) (iblk m c 11 t) (iblk m c 12 t) (X0_13 m c t) (X0_14 m c t) (iblk m c 15 t) (iblk m c 16 t) (iblk m c 17 t) (iblk m c 18 t) (iblk m c 19 t) (iblk m c 20 t) (iblk m c 21 t) (iblk m c 22 t) (iblk m c 23 t)).2.2.2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, H8, H9, H10, H11, H12, H13, H14, H15, H16, H17, H18, H19, H20, H21, H22, H23, ⟨%e24, H24⟩, ⟨%e25, H25⟩, ⟨%e26, H26⟩, ⟨%e27, H27⟩, ⟨%e28, H28⟩, ⟨%e29, H29⟩, ⟨%e30, H30⟩, ⟨%e31, H31⟩, ⟨%fT0, HS0⟩, ⟨%fT1, HS1⟩, ⟨%fT2, HS2⟩, ⟨%fT3, HS3⟩, ⟨%fT4, HS4⟩, ⟨%fT5, HS5⟩, ⟨%fT6, HS6⟩⟩
  isplitl [HS0 HS1 HS2 HS3 HS4 HS5 HS6 Hg]
  · isplitl [HS0 HS1 HS2 HS3 HS4 HS5 HS6]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · iexists _; unfold owns; iexists _; isplitr
        swap; · iexact HS3
        ipureintro; rfl
      isplitl [HS4]
      · iexists _; unfold owns; iexists _; isplitr
        swap; · iexact HS4
        ipureintro; rfl
      isplitl [HS5]
      · iexists _; unfold owns; iexists _; isplitr
        swap; · iexact HS5
        ipureintro; rfl
      iexists _; unfold owns; iexists _; isplitr
      swap; · iexact HS6
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]
  · unfold owns; iexists _; isplitr
    swap; · iexact H24
    ipureintro; exact View.read_writes_of_cover _ _ _ _ _ (cover0_A_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H25]
  · unfold owns; iexists _; isplitr
    swap; · iexact H25
    ipureintro; exact View.read_writes_of_cover _ _ _ _ _ (cover0_A_25 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H26]
  · unfold owns; iexists _; isplitr
    swap; · iexact H26
    ipureintro; exact View.read_writes_of_cover _ _ _ _ _ (cover0_A_26 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H27]
  · unfold owns; iexists _; isplitr
    swap; · iexact H27
    ipureintro; exact View.read_writes_of_cover _ _ _ _ _ (cover0_A_27 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H28]
  · unfold owns; iexists _; isplitr
    swap; · iexact H28
    ipureintro; exact View.read_writes_of_cover _ _ _ _ _ (cover0_A_28 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H29]
  · unfold owns; iexists _; isplitr
    swap; · iexact H29
    ipureintro; exact View.read_writes_of_cover _ _ _ _ _ (cover0_A_29 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H30]
  · unfold owns; iexists _; isplitr
    swap; · iexact H30
    ipureintro; exact View.read_writes_of_cover _ _ _ _ _ (cover0_A_30 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H31
  ipureintro; exact View.read_writes_of_cover _ _ _ _ _ (cover0_A_31 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 2000000 in
/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  frame_of m ρ (dats m) (A_eq m) (run_main m ρ)

/-- THE FRAME: `Cert.quiescent_SampleIdeal`'s statement. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22))
      ∧ r.2.sem = fun _ => 0) :=
  θ_run_and (unchanged m ρ) ((θ_run defs _ _).mono (fun _ h => h.2) (run_main_quiescent m ρ))

end Cert.SampleIdeal.Gen

end
-- ==== Proof.StateRef.lean ====
/- The states the reference leaves, as functions of its arguments. -/
module

public import proofs.«01_k».proof.Proof.Gen.SampleRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.SampleRefIdeal.State

open Cert.SampleRefIdeal Cert.SampleRefIdeal.Gen

/-- The sample rows of the projection, by sequence. -/
def v2 (a0 : FVec Ideal S9472x11776 .bf16) : FVec Ideal S128x8x11776 .f32 :=
  shapeCast _ (extf .f32 (extractStridedSlice S1024x11776 ![8448, 0] a0 slices_S9472x11776_S1024x11776_8448_0) bitsLt_bf16_f32) shapeCasts_S1024x11776_S128x8x11776

/-- The recurrent branch's inputs: the three of the state, then the new ones. -/
def v31 (a0 : FVec Ideal S9472x11776 .bf16) (a5 : FVec Ideal S2x128x3x1024 .f32) : FVec Ideal S128x11x1024 .f32 :=
  concatenate S128x11x1024 1 [⟨S128x3x1024, (shapeCast _ (extractStridedSlice S1x128x3x1024 ![1, 0, 0, 0] a5 slices_S2x128x3x1024_S1x128x3x1024_1_0_0_0) shapeCasts_S1x128x3x1024_S128x3x1024)⟩, ⟨S128x8x1024, (extractStridedSlice S128x8x1024 ![0, 0, 3072] (v2 a0) slices_S128x8x11776_S128x8x1024_0_0_3072)⟩] concatenates_S128x3x1024_S128x8x1024_S128x11x1024_d1

/-- The taps. -/
def v33 (a11 : FVec Ideal S2x4x1024 .f32) : FVec Ideal S4x1024 .f32 :=
  shapeCast _ (extractStridedSlice S1x4x1024 ![1, 0, 0] a11 slices_S2x4x1024_S1x4x1024_1_0_0) shapeCasts_S1x4x1024_S4x1024

/-- The four-tap convolution. -/
def v67 (a0 : FVec Ideal S9472x11776 .bf16) (a5 : FVec Ideal S2x128x3x1024 .f32) (a11 : FVec Ideal S2x4x1024 .f32) (a12 : FVec Ideal S2x1024 .f32) : FVec Ideal S128x8x1024 .f32 :=
  addf (addf (addf (addf (addf (broadcastInDim S128x8x1024 ![] bcast_S_S128x8x1024 (constant S_ .f32 0x00000000#32)) (mulf (extractStridedSlice S128x8x1024 ![0, 0, 0] (v31 a0 a5) slices_S128x11x1024_S128x8x1024_0_0_0) (broadcastInDim S128x8x1024 ![0, 1, 2] bcast_S1x1x1024_S128x8x1024_0_1_2 (broadcastInDim S1x1x1024 ![2] bcast_S1024_S1x1x1024_2 (shapeCast _ (extractStridedSlice S1x1024 ![0, 0] (v33 a11) slices_S4x1024_S1x1024_0_0) shapeCasts_S1x1024_S1024))))) (mulf (extractStridedSlice S128x8x1024 ![0, 1, 0] (v31 a0 a5) slices_S128x11x1024_S128x8x1024_0_1_0) (broadcastInDim S128x8x1024 ![0, 1, 2] bcast_S1x1x1024_S128x8x1024_0_1_2 (broadcastInDim S1x1x1024 ![2] bcast_S1024_S1x1x1024_2 (shapeCast _ (extractStridedSlice S1x1024 ![1, 0] (v33 a11) slices_S4x1024_S1x1024_1_0) shapeCasts_S1x1024_S1024))))) (mulf (extractStridedSlice S128x8x1024 ![0, 2, 0] (v31 a0 a5) slices_S128x11x1024_S128x8x1024_0_2_0) (broadcastInDim S128x8x1024 ![0, 1, 2] bcast_S1x1x1024_S128x8x1024_0_1_2 (broadcastInDim S1x1x1024 ![2] bcast_S1024_S1x1x1024_2 (shapeCast _ (extractStridedSlice S1x1024 ![2, 0] (v33 a11) slices_S4x1024_S1x1024_2_0) shapeCasts_S1x1024_S1024))))) (mulf (extractStridedSlice S128x8x1024 ![0, 3, 0] (v31 a0 a5) slices_S128x11x1024_S128x8x1024_0_3_0) (broadcastInDim S128x8x1024 ![0, 1, 2] bcast_S1x1x1024_S128x8x1024_0_1_2 (broadcastInDim S1x1x1024 ![2] bcast_S1024_S1x1x1024_2 (shapeCast _ (extractStridedSlice S1x1024 ![3, 0] (v33 a11) slices_S4x1024_S1x1024_3_0) shapeCasts_S1x1024_S1024))))) (broadcastInDim S128x8x1024 ![0, 1, 2] bcast_S1x1x1024_S128x8x1024_0_1_2 (broadcastInDim S1x1x1024 ![2] bcast_S1024_S1x1x1024_2 (shapeCast _ (extractStridedSlice S1x1024 ![1, 0] a12 slices_S2x1024_S1x1024_1_0) shapeCasts_S1x1024_S1024)))

/-- Its heads. -/
def v68 (a0 : FVec Ideal S9472x11776 .bf16) (a5 : FVec Ideal S2x128x3x1024 .f32) (a11 : FVec Ideal S2x4x1024 .f32) (a12 : FVec Ideal S2x1024 .f32) : FVec Ideal S128x8x16x64 .f32 :=
  shapeCast _ (v67 a0 a5 a11 a12) shapeCasts_S128x8x1024_S128x8x16x64

/-- The negated decay parameter. -/
def v105 (a17 : FVec Ideal S2x1024 .f32) : FVec Ideal S1024 .f32 :=
  Host.negf (shapeCast _ (extractStridedSlice S1x1024 ![1, 0] a17 slices_S2x1024_S1x1024_1_0) shapeCasts_S1x1024_S1024)

/-- Zero. -/
def c0  : FVec Ideal S_ .f32 :=
  constant S_ .f32 0x00000000#32

/-- The parameter less zero. -/
def c3 (a17 : FVec Ideal S2x1024 .f32) : FVec Ideal S1024 .f32 :=
  subf (v105 a17) (broadcastInDim S1024 ![] bcast_S_S1024 c0)

/-- The logarithm of the decay. -/
def v109 (a0 : FVec Ideal S9472x11776 .bf16) (a5 : FVec Ideal S2x128x3x1024 .f32) (a11 : FVec Ideal S2x4x1024 .f32) (a12 : FVec Ideal S2x1024 .f32) (a13 : FVec Ideal S2x16x64x64 .f32) (a14 : FVec Ideal S2x1024 .f32) (a17 : FVec Ideal S2x1024 .f32) : FVec Ideal S128x8x1024 .f32 :=
  mulf (mulf (broadcastInDim S128x8x1024 ![] bcast_S_S128x8x1024 (constant S_ .f32 0xC1000000#32)) (Host.divf (broadcastInDim S128x8x1024 ![] bcast_S_S128x8x1024 (constant S_ .f32 0x3F800000#32)) (addf (broadcastInDim S128x8x1024 ![] bcast_S_S128x8x1024 (constant S_ .f32 0x3F800000#32)) (Host.exp (Host.negf (addf (shapeCast _ (transpose S128x8x16x64 [2, 3, 0, 1] (Host.dotGeneral dot_S16x64x64_S128x8x16x64_S16x64x128x8_1_3_2_01_0_2 none (shapeCast _ (extractStridedSlice S1x16x64x64 ![1, 0, 0, 0] a13 slices_S2x16x64x64_S1x16x64x64_1_0_0_0) shapeCasts_S1x16x64x64_S16x64x64) (v68 a0 a5 a11 a12)) transposes_S16x64x128x8_S128x8x16x64_2_3_0_1) shapeCasts_S128x8x16x64_S128x8x1024) (broadcastInDim S128x8x1024 ![0, 1, 2] bcast_S1x1x1024_S128x8x1024_0_1_2 (broadcastInDim S1x1x1024 ![2] bcast_S1024_S1x1x1024_2 (shapeCast _ (extractStridedSlice S1x1024 ![1, 0] a14 slices_S2x1024_S1x1024_1_0) shapeCasts_S1x1024_S1024))))))))) (broadcastInDim S128x8x1024 ![0, 1, 2] bcast_S1x1x1024_S128x8x1024_0_1_2 (broadcastInDim S1x1x1024 ![2] bcast_S1024_S1x1x1024_2 (select (cmpf .une (c3 a17) (c3 a17)) (addf (v105 a17) (broadcastInDim S1024 ![] bcast_S_S1024 c0)) (addf (maximumf (v105 a17) (broadcastInDim S1024 ![] bcast_S_S1024 c0)) (Host.log1p (Host.exp (Host.negf (Host.absf (c3 a17)))))))))

/-- The decay. -/
def v110 (a0 : FVec Ideal S9472x11776 .bf16) (a5 : FVec Ideal S2x128x3x1024 .f32) (a11 : FVec Ideal S2x4x1024 .f32) (a12 : FVec Ideal S2x1024 .f32) (a13 : FVec Ideal S2x16x64x64 .f32) (a14 : FVec Ideal S2x1024 .f32) (a17 : FVec Ideal S2x1024 .f32) : FVec Ideal S128x8x1024 .f32 :=
  Host.exp (v109 a0 a5 a11 a12 a13 a14 a17)

/-- The gated input. -/
def v117 (a0 : FVec Ideal S9472x11776 .bf16) (a5 : FVec Ideal S2x128x3x1024 .f32) (a11 : FVec Ideal S2x4x1024 .f32) (a12 : FVec Ideal S2x1024 .f32) (a13 : FVec Ideal S2x16x64x64 .f32) (a14 : FVec Ideal S2x1024 .f32) (a15 : FVec Ideal S2x16x64x64 .f32) (a16 : FVec Ideal S2x1024 .f32) (a17 : FVec Ideal S2x1024 .f32) : FVec Ideal S128x8x1024 .f32 :=
  mulf (Host.sqrt (Host.negf (Host.expm1 (mulf (broadcastInDim S128x8x1024 ![] bcast_S_S128x8x1024 (constant S_ .f32 0x40000000#32)) (v109 a0 a5 a11 a12 a13 a14 a17))))) (mulf (Host.divf (broadcastInDim S128x8x1024 ![] bcast_S_S128x8x1024 (constant S_ .f32 0x3F800000#32)) (addf (broadcastInDim S128x8x1024 ![] bcast_S_S128x8x1024 (constant S_ .f32 0x3F800000#32)) (Host.exp (Host.negf (addf (shapeCast _ (transpose S128x8x16x64 [2, 3, 0, 1] (Host.dotGeneral dot_S16x64x64_S128x8x16x64_S16x64x128x8_1_3_2_01_0_2 none (shapeCast _ (extractStridedSlice S1x16x64x64 ![1, 0, 0, 0] a15 slices_S2x16x64x64_S1x16x64x64_1_0_0_0) shapeCasts_S1x16x64x64_S16x64x64) (v68 a0 a5 a11 a12)) transposes_S16x64x128x8_S128x8x16x64_2_3_0_1) shapeCasts_S128x8x16x64_S128x8x1024) (broadcastInDim S128x8x1024 ![0, 1, 2] bcast_S1x1x1024_S128x8x1024_0_1_2 (broadcastInDim S1x1x1024 ![2] bcast_S1024_S1x1x1024_2 (shapeCast _ (extractStridedSlice S1x1024 ![1, 0] a16 slices_S2x1024_S1x1024_1_0) shapeCasts_S1x1024_S1024)))))))) (v67 a0 a5 a11 a12))

/-- Result 8. -/
def sk (a0 : FVec Ideal S9472x11776 .bf16) (a2 : FVec Ideal S2x128x128x4x64 .f32) (a18 : FVec Ideal S256x128x256 .f32) : FVec Ideal S256x128x256 .f32 :=
  concatenate S256x128x256 0 [⟨S128x128x256, (extractStridedSlice S128x128x256 ![0, 0, 0] a18 slices_S256x128x256_S128x128x256_0_0_0)⟩, ⟨S128x128x256, (shapeCast _ (extractStridedSlice S128x128x4x64 ![0, 8, 0, 0] (concatenate S128x136x4x64 1 [⟨S128x128x4x64, (shapeCast _ (extractStridedSlice S1x128x128x4x64 ![1, 0, 0, 0, 0] a2 slices_S2x128x128x4x64_S1x128x128x4x64_1_0_0_0_0) shapeCasts_S1x128x128x4x64_S128x128x4x64)⟩, ⟨S128x8x4x64, (shapeCast _ (extractStridedSlice S128x8x256 ![0, 0, 11264] (v2 a0) slices_S128x8x11776_S128x8x256_0_0_11264) shapeCasts_S128x8x256_S128x8x4x64)⟩] concatenates_S128x128x4x64_S128x8x4x64_S128x136x4x64_d1) slices_S128x136x4x64_S128x128x4x64_0_8_0_0) shapeCasts_S128x128x4x64_S128x128x256)⟩] concatenates_S128x128x256_S128x128x256_S256x128x256_d0

/-- Result 9. -/
def sv (a0 : FVec Ideal S9472x11776 .bf16) (a3 : FVec Ideal S2x128x128x4x64 .f32) (a19 : FVec Ideal S256x128x256 .f32) : FVec Ideal S256x128x256 .f32 :=
  concatenate S256x128x256 0 [⟨S128x128x256, (extractStridedSlice S128x128x256 ![0, 0, 0] a19 slices_S256x128x256_S128x128x256_0_0_0)⟩, ⟨S128x128x256, (shapeCast _ (extractStridedSlice S128x128x4x64 ![0, 8, 0, 0] (concatenate S128x136x4x64 1 [⟨S128x128x4x64, (shapeCast _ (extractStridedSlice S1x128x128x4x64 ![1, 0, 0, 0, 0] a3 slices_S2x128x128x4x64_S1x128x128x4x64_1_0_0_0_0) shapeCasts_S1x128x128x4x64_S128x128x4x64)⟩, ⟨S128x8x4x64, (shapeCast _ (extractStridedSlice S128x8x256 ![0, 0, 11520] (v2 a0) slices_S128x8x11776_S128x8x256_0_0_11520) shapeCasts_S128x8x256_S128x8x4x64)⟩] concatenates_S128x128x4x64_S128x8x4x64_S128x136x4x64_d1) slices_S128x136x4x64_S128x128x4x64_0_8_0_0) shapeCasts_S128x128x4x64_S128x128x256)⟩] concatenates_S128x128x256_S128x128x256_S256x128x256_d0

/-- Result 10. -/
def sconv (a0 : FVec Ideal S9472x11776 .bf16) (a4 : FVec Ideal S2x128x30x1024 .f32) (a20 : FVec Ideal S256x30x1024 .f32) : FVec Ideal S256x30x1024 .f32 :=
  concatenate S256x30x1024 0 [⟨S128x30x1024, (extractStridedSlice S128x30x1024 ![0, 0, 0] a20 slices_S256x30x1024_S128x30x1024_0_0_0)⟩, ⟨S128x30x1024, (extractStridedSlice S128x30x1024 ![0, 8, 0] (concatenate S128x38x1024 1 [⟨S128x30x1024, (shapeCast _ (extractStridedSlice S1x128x30x1024 ![1, 0, 0, 0] a4 slices_S2x128x30x1024_S1x128x30x1024_1_0_0_0) shapeCasts_S1x128x30x1024_S128x30x1024)⟩, ⟨S128x8x1024, (mulf (extractStridedSlice S128x8x1024 ![0, 0, 1024] (v2 a0) slices_S128x8x11776_S128x8x1024_0_0_1024) (Host.divf (broadcastInDim S128x8x1024 ![] bcast_S_S128x8x1024 (constant S_ .f32 0x3F800000#32)) (addf (broadcastInDim S128x8x1024 ![] bcast_S_S128x8x1024 (constant S_ .f32 0x3F800000#32)) (Host.exp (Host.negf (extractStridedSlice S128x8x1024 ![0, 0, 2048] (v2 a0) slices_S128x8x11776_S128x8x1024_0_0_2048))))))⟩] concatenates_S128x30x1024_S128x8x1024_S128x38x1024_d1) slices_S128x38x1024_S128x30x1024_0_8_0)⟩] concatenates_S128x30x1024_S128x30x1024_S256x30x1024_d0

/-- Result 11. -/
def slconv (a0 : FVec Ideal S9472x11776 .bf16) (a5 : FVec Ideal S2x128x3x1024 .f32) (a21 : FVec Ideal S256x3x1024 .f32) : FVec Ideal S256x3x1024 .f32 :=
  concatenate S256x3x1024 0 [⟨S128x3x1024, (extractStridedSlice S128x3x1024 ![0, 0, 0] a21 slices_S256x3x1024_S128x3x1024_0_0_0)⟩, ⟨S128x3x1024, (extractStridedSlice S128x3x1024 ![0, 8, 0] (v31 a0 a5) slices_S128x11x1024_S128x3x1024_0_8_0)⟩] concatenates_S128x3x1024_S128x3x1024_S256x3x1024_d0

set_option maxRecDepth 8192 in
/-- Result 12. -/
def sh (a0 : FVec Ideal S9472x11776 .bf16) (a5 : FVec Ideal S2x128x3x1024 .f32) (a6 : FVec Ideal S2x128x1024 .f32) (a11 : FVec Ideal S2x4x1024 .f32) (a12 : FVec Ideal S2x1024 .f32) (a13 : FVec Ideal S2x16x64x64 .f32) (a14 : FVec Ideal S2x1024 .f32) (a15 : FVec Ideal S2x16x64x64 .f32) (a16 : FVec Ideal S2x1024 .f32) (a17 : FVec Ideal S2x1024 .f32) (a22 : FVec Ideal S256x1024 .f32) : FVec Ideal S256x1024 .f32 :=
  concatenate S256x1024 0 [⟨S128x1024, (extractStridedSlice S128x1024 ![0, 0] a22 slices_S256x1024_S128x1024_0_0)⟩, ⟨S128x1024, (addf (mulf (shapeCast _ (extractStridedSlice S128x1x1024 ![0, 7, 0] (v110 a0 a5 a11 a12 a13 a14 a17) slices_S128x8x1024_S128x1x1024_0_7_0) shapeCasts_S128x1x1024_S128x1024) (addf (mulf (shapeCast _ (extractStridedSlice S128x1x1024 ![0, 6, 0] (v110 a0 a5 a11 a12 a13 a14 a17) slices_S128x8x1024_S128x1x1024_0_6_0) shapeCasts_S128x1x1024_S128x1024) (addf (mulf (shapeCast _ (extractStridedSlice S128x1x1024 ![0, 5, 0] (v110 a0 a5 a11 a12 a13 a14 a17) slices_S128x8x1024_S128x1x1024_0_5_0) shapeCasts_S128x1x1024_S128x1024) (addf (mulf (shapeCast _ (extractStridedSlice S128x1x1024 ![0, 4, 0] (v110 a0 a5 a11 a12 a13 a14 a17) slices_S128x8x1024_S128x1x1024_0_4_0) shapeCasts_S128x1x1024_S128x1024) (addf (mulf (shapeCast _ (extractStridedSlice S128x1x1024 ![0, 3, 0] (v110 a0 a5 a11 a12 a13 a14 a17) slices_S128x8x1024_S128x1x1024_0_3_0) shapeCasts_S128x1x1024_S128x1024) (addf (mulf (shapeCast _ (extractStridedSlice S128x1x1024 ![0, 2, 0] (v110 a0 a5 a11 a12 a13 a14 a17) slices_S128x8x1024_S128x1x1024_0_2_0) shapeCasts_S128x1x1024_S128x1024) (addf (mulf (shapeCast _ (extractStridedSlice S128x1x1024 ![0, 1, 0] (v110 a0 a5 a11 a12 a13 a14 a17) slices_S128x8x1024_S128x1x1024_0_1_0) shapeCasts_S128x1x1024_S128x1024) (addf (mulf (shapeCast _ (extractStridedSlice S128x1x1024 ![0, 0, 0] (v110 a0 a5 a11 a12 a13 a14 a17) slices_S128x8x1024_S128x1x1024_0_0_0) shapeCasts_S128x1x1024_S128x1024) (shapeCast _ (extractStridedSlice S1x128x1024 ![1, 0, 0] a6 slices_S2x128x1024_S1x128x1024_1_0_0) shapeCasts_S1x128x1024_S128x1024)) (shapeCast _ (extractStridedSlice S128x1x1024 ![0, 0, 0] (v117 a0 a5 a11 a12 a13 a14 a15 a16 a17) slices_S128x8x1024_S128x1x1024_0_0_0) shapeCasts_S128x1x1024_S128x1024))) (shapeCast _ (extractStridedSlice S128x1x1024 ![0, 1, 0] (v117 a0 a5 a11 a12 a13 a14 a15 a16 a17) slices_S128x8x1024_S128x1x1024_0_1_0) shapeCasts_S128x1x1024_S128x1024))) (shapeCast _ (extractStridedSlice S128x1x1024 ![0, 2, 0] (v117 a0 a5 a11 a12 a13 a14 a15 a16 a17) slices_S128x8x1024_S128x1x1024_0_2_0) shapeCasts_S128x1x1024_S128x1024))) (shapeCast _ (extractStridedSlice S128x1x1024 ![0, 3, 0] (v117 a0 a5 a11 a12 a13 a14 a15 a16 a17) slices_S128x8x1024_S128x1x1024_0_3_0) shapeCasts_S128x1x1024_S128x1024))) (shapeCast _ (extractStridedSlice S128x1x1024 ![0, 4, 0] (v117 a0 a5 a11 a12 a13 a14 a15 a16 a17) slices_S128x8x1024_S128x1x1024_0_4_0) shapeCasts_S128x1x1024_S128x1024))) (shapeCast _ (extractStridedSlice S128x1x1024 ![0, 5, 0] (v117 a0 a5 a11 a12 a13 a14 a15 a16 a17) slices_S128x8x1024_S128x1x1024_0_5_0) shapeCasts_S128x1x1024_S128x1024))) (shapeCast _ (extractStridedSlice S128x1x1024 ![0, 6, 0] (v117 a0 a5 a11 a12 a13 a14 a15 a16 a17) slices_S128x8x1024_S128x1x1024_0_6_0) shapeCasts_S128x1x1024_S128x1024))) (shapeCast _ (extractStridedSlice S128x1x1024 ![0, 7, 0] (v117 a0 a5 a11 a12 a13 a14 a15 a16 a17) slices_S128x8x1024_S128x1x1024_0_7_0) shapeCasts_S128x1x1024_S128x1024))⟩] concatenates_S128x1024_S128x1024_S256x1024_d0

/-- The reference's run, its results by the functions above. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v171) = sk (m ((c.tc : Thread nD τ).loc main_arg0)) (m ((c.tc : Thread nD τ).loc main_arg2)) (m ((c.tc : Thread nD τ).loc main_arg18))
      ∧ r.2.mem ((c.tc : Thread nD τ).loc main_v175) = sv (m ((c.tc : Thread nD τ).loc main_arg0)) (m ((c.tc : Thread nD τ).loc main_arg3)) (m ((c.tc : Thread nD τ).loc main_arg19))
      ∧ r.2.mem ((c.tc : Thread nD τ).loc main_v178) = sconv (m ((c.tc : Thread nD τ).loc main_arg0)) (m ((c.tc : Thread nD τ).loc main_arg4)) (m ((c.tc : Thread nD τ).loc main_arg20))
      ∧ r.2.mem ((c.tc : Thread nD τ).loc main_v181) = slconv (m ((c.tc : Thread nD τ).loc main_arg0)) (m ((c.tc : Thread nD τ).loc main_arg5)) (m ((c.tc : Thread nD τ).loc main_arg21))
      ∧ r.2.mem ((c.tc : Thread nD τ).loc main_v183) = sh (m ((c.tc : Thread nD τ).loc main_arg0)) (m ((c.tc : Thread nD τ).loc main_arg5)) (m ((c.tc : Thread nD τ).loc main_arg6)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg22))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) :=
  (θ_run _ _ _).mono (fun r h c => ⟨(h c).1.trans rfl, (h c).2.1.trans rfl, (h c).2.2.1.trans rfl, (h c).2.2.2.1.trans rfl, (h c).2.2.2.2.1.trans rfl, (h c).2.2.2.2.2⟩) (Cert.SampleRefIdeal.Value.run m ρ)

end Cert.SampleRefIdeal.State
-- ==== Proof.SampleWords.lean ====
/- What the sample branches' kernel keeps in its scratch buffers. -/
module

public import proofs.«01_k».proof.Proof.SampleIdealFrame
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open scoped BigOperators

namespace Cert.SampleIdeal.Words

open Cert.SampleIdeal Cert.SampleIdeal.Gen

theorem idx_lt0 (y : S8x40x1024.Idx) : (y 0 : ℕ) < 8 := (y 0).isLt
theorem idx_lt1 (y : S8x40x1024.Idx) : (y 1 : ℕ) < 40 := (y 1).isLt
theorem lidx_lt0 (y : S8x16x1024.Idx) : (y 0 : ℕ) < 8 := (y 0).isLt
theorem lidx_lt1 (y : S8x16x1024.Idx) : (y 1 : ℕ) < 16 := (y 1).isLt

/-- The place of a block's entry along an axis. -/
theorem emb_at {s : Shape} {off size : Fin s.rank → ℕ} {inb} (x : (Rect.unit off size inb).shape.Idx) (a : Fin s.rank) :
    ((Rect.unit off size inb).emb x a : ℕ) = off a + (x a : ℕ) := by
  simp [Rect.emb, Rect.unit]

/-- The convolution's window of inputs at a grid point: two rows of zeros, the state's thirty, the eight new ones. -/
def cext (x6 : FVec Ideal S64x1024 .bf16) (x7 : FVec Ideal S64x1024 .bf16) (x8 : FVec Ideal S8x30x1024 .f32) : FVec Ideal S8x40x1024 .f32 := fun y =>
  if h : (y 1 : ℕ) < 2 then (0 : EReal)
  else if h' : (y 1 : ℕ) < 32 then x8 (ix3 (y 0) ⟨(y 1 : ℕ) - 2, by omega⟩ (y 2))
  else (x6 (ix2 ⟨8 * (y 0 : ℕ) + ((y 1 : ℕ) - 32), by have := idx_lt0 y; have := idx_lt1 y; omega⟩ (y 2)) : EReal)
    * Ideal.div 1 (1 + Ideal.exp (-(x7 (ix2 ⟨8 * (y 0 : ℕ) + ((y 1 : ℕ) - 32), by have := idx_lt0 y; have := idx_lt1 y; omega⟩ (y 2)) : EReal)))

/-- The recurrence's window of inputs at a grid point: the state's three rows stand just before row eight, the new ones from there on. -/
def lext (x13 : FVec Ideal S64x1024 .bf16) (x15 : FVec Ideal S8x3x1024 .f32) : FVec Ideal S8x16x1024 .f32 := fun y =>
  if h : (y 1 : ℕ) < 8 then x15 (ix3 (y 0) ⟨(y 1 : ℕ) - 5, by omega⟩ (y 2))
  else x13 (ix2 ⟨8 * (y 0 : ℕ) + ((y 1 : ℕ) - 8), by have := lidx_lt0 y; have := lidx_lt1 y; omega⟩ (y 2))

theorem lext_new (x13 : FVec Ideal S64x1024 .bf16) (x15 : FVec Ideal S8x3x1024 .f32) (y : S8x16x1024.Idx) (j : S64x1024.Idx)
    (h : 8 ≤ (y 1 : ℕ)) (h0 : (j 0 : ℕ) = 8 * (y 0 : ℕ) + ((y 1 : ℕ) - 8)) (h1 : (j 1 : ℕ) = (y 2 : ℕ)) : lext x13 x15 y = x13 j := by
  unfold lext
  rw [dif_neg (by omega)]
  refine congrArg x13 (funext fun d => Fin.ext ?_)
  fin_cases d
  · exact h0.symm
  · exact h1.symm

theorem lext_state (x13 : FVec Ideal S64x1024 .bf16) (x15 : FVec Ideal S8x3x1024 .f32) (y : S8x16x1024.Idx) (j : S8x3x1024.Idx)
    (h : (y 1 : ℕ) < 8) (h0 : (j 0 : ℕ) = (y 0 : ℕ)) (h1 : (j 1 : ℕ) = (y 1 : ℕ) - 5) (h2 : (j 2 : ℕ) = (y 2 : ℕ)) : lext x13 x15 y = x15 j := by
  unfold lext
  rw [dif_pos h]
  refine congrArg x15 (funext fun d => Fin.ext ?_)
  fin_cases d
  · exact h0.symm
  · exact h1.symm
  · exact h2.symm

theorem cext_new (x6 x7 : FVec Ideal S64x1024 .bf16) (x8 : FVec Ideal S8x30x1024 .f32) (y : S8x40x1024.Idx) (j : S64x1024.Idx)
    (h : 32 ≤ (y 1 : ℕ)) (h0 : (j 0 : ℕ) = 8 * (y 0 : ℕ) + ((y 1 : ℕ) - 32)) (h1 : (j 1 : ℕ) = (y 2 : ℕ)) :
    cext x6 x7 x8 y = (x6 j : EReal) * Ideal.div 1 (1 + Ideal.exp (-(x7 j : EReal))) := by
  unfold cext
  rw [dif_neg (by omega), dif_neg (by omega)]
  have e : (ix2 ⟨8 * (y 0 : ℕ) + ((y 1 : ℕ) - 32), by have := idx_lt0 y; have := idx_lt1 y; omega⟩ (y 2) : S64x1024.Idx) = j := by
    refine funext fun d => Fin.ext ?_
    fin_cases d
    · exact h0.symm
    · exact h1.symm
  exact congrArg (fun q => (x6 q : EReal) * Ideal.div 1 (1 + Ideal.exp (-(x7 q : EReal)))) e

theorem cext_state (x6 x7 : FVec Ideal S64x1024 .bf16) (x8 : FVec Ideal S8x30x1024 .f32) (y : S8x40x1024.Idx) (j : S8x30x1024.Idx)
    (h : 2 ≤ (y 1 : ℕ)) (h' : (y 1 : ℕ) < 32) (h0 : (j 0 : ℕ) = (y 0 : ℕ)) (h1 : (j 1 : ℕ) = (y 1 : ℕ) - 2) (h2 : (j 2 : ℕ) = (y 2 : ℕ)) :
    cext x6 x7 x8 y = x8 j := by
  unfold cext
  rw [dif_neg (by omega), dif_pos h']
  refine congrArg x8 (funext fun d => Fin.ext ?_)
  fin_cases d
  · exact h0.symm
  · exact h1.symm
  · exact h2.symm

/-- A piece that reads one block of the inputs, at the block's place. -/
theorem lext_piece (x13 : FVec Ideal S64x1024 .bf16) (x15 : FVec Ideal S8x3x1024 .f32) (y : S8x16x1024.Idx) (x : S1x8x1024.Idx) (g : ℕ) (r : ℕ) (hr : r + (x 1 : ℕ) < 64)
    (h0 : (y 0 : ℕ) = g) (h1 : (y 1 : ℕ) = 8 + (x 1 : ℕ)) (h2 : (y 2 : ℕ) = (x 2 : ℕ)) (hg : r = 8 * g) :
    x13 (ix2 ⟨r + (x 1 : ℕ), hr⟩ (x 2)) = lext x13 x15 y :=
  (lext_new x13 x15 y _ (by omega) (by show r + (x 1 : ℕ) = _; omega) h2.symm).symm

theorem lext_pieceZ (x13 : FVec Ideal S64x1024 .bf16) (x15 : FVec Ideal S8x3x1024 .f32) (y : S8x16x1024.Idx) (x : S1x8x1024.Idx) (hr : (x 1 : ℕ) < 64)
    (h0 : (y 0 : ℕ) = 0) (h1 : (y 1 : ℕ) = 8 + (x 1 : ℕ)) (h2 : (y 2 : ℕ) = (x 2 : ℕ)) :
    x13 (ix2 ⟨(x 1 : ℕ), hr⟩ (x 2)) = lext x13 x15 y :=
  (lext_new x13 x15 y _ (by omega) (by show (x 1 : ℕ) = _; omega) h2.symm).symm

theorem lext_piece' (x13 : FVec Ideal S64x1024 .bf16) (x15 : FVec Ideal S8x3x1024 .f32) (y : S8x16x1024.Idx) (x : S1x3x1024.Idx) (g : Fin 8)
    (h0 : (y 0 : ℕ) = g.val) (h1 : (y 1 : ℕ) = 5 + (x 1 : ℕ)) (h2 : (y 2 : ℕ) = (x 2 : ℕ)) :
    x15 (ix3 g (x 1) (x 2)) = lext x13 x15 y :=
  (lext_state x13 x15 y _ (by have b : (x 1 : ℕ) < 3 := (x 1).isLt; omega) h0.symm (by show (x 1 : ℕ) = _; omega) h2.symm).symm

theorem cext_piece (x6 x7 : FVec Ideal S64x1024 .bf16) (x8 : FVec Ideal S8x30x1024 .f32) (y : S8x40x1024.Idx) (x : S1x8x1024.Idx) (g : ℕ) (r : ℕ) (hr : r + (x 1 : ℕ) < 64)
    (h0 : (y 0 : ℕ) = g) (h1 : (y 1 : ℕ) = 32 + (x 1 : ℕ)) (h2 : (y 2 : ℕ) = (x 2 : ℕ)) (hg : r = 8 * g) :
    (x6 (ix2 ⟨r + (x 1 : ℕ), hr⟩ (x 2)) : EReal) * Ideal.div 1 (1 + Ideal.exp (0 - (x7 (ix2 ⟨r + (x 1 : ℕ), hr⟩ (x 2)) : EReal))) = cext x6 x7 x8 y := by
  rw [zero_sub]
  exact (cext_new x6 x7 x8 y _ (by omega) (by show r + (x 1 : ℕ) = _; omega) h2.symm).symm

theorem cext_pieceZ (x6 x7 : FVec Ideal S64x1024 .bf16) (x8 : FVec Ideal S8x30x1024 .f32) (y : S8x40x1024.Idx) (x : S1x8x1024.Idx) (hr : (x 1 : ℕ) < 64)
    (h0 : (y 0 : ℕ) = 0) (h1 : (y 1 : ℕ) = 32 + (x 1 : ℕ)) (h2 : (y 2 : ℕ) = (x 2 : ℕ)) :
    (x6 (ix2 ⟨(x 1 : ℕ), hr⟩ (x 2)) : EReal) * Ideal.div 1 (1 + Ideal.exp (0 - (x7 (ix2 ⟨(x 1 : ℕ), hr⟩ (x 2)) : EReal))) = cext x6 x7 x8 y := by
  rw [zero_sub]
  exact (cext_new x6 x7 x8 y _ (by omega) (by show (x 1 : ℕ) = _; omega) h2.symm).symm

theorem cext_piece' (x6 x7 : FVec Ideal S64x1024 .bf16) (x8 : FVec Ideal S8x30x1024 .f32) (y : S8x40x1024.Idx) (x : S1x30x1024.Idx) (g : Fin 8)
    (h0 : (y 0 : ℕ) = g.val) (h1 : (y 1 : ℕ) = 2 + (x 1 : ℕ)) (h2 : (y 2 : ℕ) = (x 2 : ℕ)) :
    x8 (ix3 g (x 1) (x 2)) = cext x6 x7 x8 y :=
  (cext_state x6 x7 x8 y _ (by omega) (by have b : (x 1 : ℕ) < 30 := (x 1).isLt; omega) h0.symm (by show (x 1 : ℕ) = _; omega) h2.symm).symm

theorem cext_piece0 (x6 x7 : FVec Ideal S64x1024 .bf16) (x8 : FVec Ideal S8x30x1024 .f32) (y : S8x40x1024.Idx) (x : S1x2x1024.Idx)
    (h1 : (y 1 : ℕ) = 0 + (x 1 : ℕ)) : (0 : EReal) = cext x6 x7 x8 y := by
  unfold cext
  rw [dif_pos (by have b : (x 1 : ℕ) < 2 := (x 1).isLt; omega)]

set_option maxHeartbeats 4000000 in
theorem canon2 (c : Dev nD) (arg14 : Memref sig .tc .vmem S64x1024 .bf16) (harg14 : arg14.IsWhole) (arg16 : Memref sig .tc .vmem S8x3x1024 .f32) (harg16 : arg16.IsWhole) (x13 : FVec Ideal S64x1024 .bf16) (x15 : FVec Ideal S8x3x1024 .f32) (y : S8x16x1024.Idx) (hy : 5 ≤ (y 1 : ℕ)) :
    View.canon (kernelRun0_A.sl.HS2_16 (F := Ideal) c arg14 harg14 arg16 harg16 x13 x15) y = lext x13 x15 y := by
  have e := View.canon_append_of_piecesOf (Val := Elt Ideal) (lext x13 x15) [] (kernelRun0_A.sl.HS2_16 (F := Ideal) c arg14 harg14 arg16 harg16 x13 x15) ?_ y ?_
  · rwa [List.append_nil] at e
  · frame_open
    frame_out
    refine ⟨fun (x : S1x8x1024.Idx) => ?_, fun (x : S1x3x1024.Idx) => ?_, fun (x : S1x8x1024.Idx) => ?_, fun (x : S1x3x1024.Idx) => ?_, fun (x : S1x8x1024.Idx) => ?_, fun (x : S1x3x1024.Idx) => ?_, fun (x : S1x8x1024.Idx) => ?_, fun (x : S1x3x1024.Idx) => ?_, fun (x : S1x8x1024.Idx) => ?_, fun (x : S1x3x1024.Idx) => ?_, fun (x : S1x8x1024.Idx) => ?_, fun (x : S1x3x1024.Idx) => ?_, fun (x : S1x8x1024.Idx) => ?_, fun (x : S1x3x1024.Idx) => ?_, fun (x : S1x8x1024.Idx) => ?_, fun (x : S1x3x1024.Idx) => ?_, trivial⟩
    · pointwise []
      exact lext_piece x13 x15 _ x 7 56 _ (by rw [emb_at]; show 7 + (x 0 : ℕ) = 7; have b : (x 0 : ℕ) < 1 := (x 0).isLt; omega) (by rw [emb_at]; rfl) (by rw [emb_at]; exact Nat.zero_add _) rfl
    · pointwise []
      exact lext_piece' x13 x15 _ x 7 (by rw [emb_at]; show 7 + (x 0 : ℕ) = 7; have b : (x 0 : ℕ) < 1 := (x 0).isLt; omega) (by rw [emb_at]; rfl) (by rw [emb_at]; exact Nat.zero_add _)
    · pointwise []
      exact lext_piece x13 x15 _ x 6 48 _ (by rw [emb_at]; show 6 + (x 0 : ℕ) = 6; have b : (x 0 : ℕ) < 1 := (x 0).isLt; omega) (by rw [emb_at]; rfl) (by rw [emb_at]; exact Nat.zero_add _) rfl
    · pointwise []
      exact lext_piece' x13 x15 _ x 6 (by rw [emb_at]; show 6 + (x 0 : ℕ) = 6; have b : (x 0 : ℕ) < 1 := (x 0).isLt; omega) (by rw [emb_at]; rfl) (by rw [emb_at]; exact Nat.zero_add _)
    · pointwise []
      exact lext_piece x13 x15 _ x 5 40 _ (by rw [emb_at]; show 5 + (x 0 : ℕ) = 5; have b : (x 0 : ℕ) < 1 := (x 0).isLt; omega) (by rw [emb_at]; rfl) (by rw [emb_at]; exact Nat.zero_add _) rfl
    · pointwise []
      exact lext_piece' x13 x15 _ x 5 (by rw [emb_at]; show 5 + (x 0 : ℕ) = 5; have b : (x 0 : ℕ) < 1 := (x 0).isLt; omega) (by rw [emb_at]; rfl) (by rw [emb_at]; exact Nat.zero_add _)
    · pointwise []
      exact lext_piece x13 x15 _ x 4 32 _ (by rw [emb_at]; show 4 + (x 0 : ℕ) = 4; have b : (x 0 : ℕ) < 1 := (x 0).isLt; omega) (by rw [emb_at]; rfl) (by rw [emb_at]; exact Nat.zero_add _) rfl
    · pointwise []
      exact lext_piece' x13 x15 _ x 4 (by rw [emb_at]; show 4 + (x 0 : ℕ) = 4; have b : (x 0 : ℕ) < 1 := (x 0).isLt; omega) (by rw [emb_at]; rfl) (by rw [emb_at]; exact Nat.zero_add _)
    · pointwise []
      exact lext_piece x13 x15 _ x 3 24 _ (by rw [emb_at]; show 3 + (x 0 : ℕ) = 3; have b : (x 0 : ℕ) < 1 := (x 0).isLt; omega) (by rw [emb_at]; rfl) (by rw [emb_at]; exact Nat.zero_add _) rfl
    · pointwise []
      exact lext_piece' x13 x15 _ x 3 (by rw [emb_at]; show 3 + (x 0 : ℕ) = 3; have b : (x 0 : ℕ) < 1 := (x 0).isLt; omega) (by rw [emb_at]; rfl) (by rw [emb_at]; exact Nat.zero_add _)
    · pointwise []
      exact lext_piece x13 x15 _ x 2 16 _ (by rw [emb_at]; show 2 + (x 0 : ℕ) = 2; have b : (x 0 : ℕ) < 1 := (x 0).isLt; omega) (by rw [emb_at]; rfl) (by rw [emb_at]; exact Nat.zero_add _) rfl
    · pointwise []
      exact lext_piece' x13 x15 _ x 2 (by rw [emb_at]; show 2 + (x 0 : ℕ) = 2; have b : (x 0 : ℕ) < 1 := (x 0).isLt; omega) (by rw [emb_at]; rfl) (by rw [emb_at]; exact Nat.zero_add _)
    · pointwise []
      exact lext_piece x13 x15 _ x 1 8 _ (by rw [emb_at]; show 1 + (x 0 : ℕ) = 1; have b : (x 0 : ℕ) < 1 := (x 0).isLt; omega) (by rw [emb_at]; rfl) (by rw [emb_at]; exact Nat.zero_add _) rfl
    · pointwise []
      exact lext_piece' x13 x15 _ x 1 (by rw [emb_at]; show 1 + (x 0 : ℕ) = 1; have b : (x 0 : ℕ) < 1 := (x 0).isLt; omega) (by rw [emb_at]; rfl) (by rw [emb_at]; exact Nat.zero_add _)
    · pointwise []
      exact lext_pieceZ x13 x15 _ x _ (by rw [emb_at]; show 0 + (x 0 : ℕ) = 0; have b : (x 0 : ℕ) < 1 := (x 0).isLt; omega) (by rw [emb_at]; rfl) (by rw [emb_at]; exact Nat.zero_add _)
    · pointwise []
      exact lext_piece' x13 x15 _ x 0 (by rw [emb_at]; show 0 + (x 0 : ℕ) = 0; have b : (x 0 : ℕ) < 1 := (x 0).isLt; omega) (by rw [emb_at]; rfl) (by rw [emb_at]; exact Nat.zero_add _)
  · unfold kernelRun0_A.sl.HS2_16
    have h0 := lidx_lt0 y
    have h1 := lidx_lt1 y
    have h2 : (y 2 : ℕ) < 1024 := (y 2).isLt
    interval_cases h : (y 0 : ℕ) <;> simp [Rect.mem_set_unit, Fin.forall_fin_succ, h] <;> omega

set_option maxHeartbeats 4000000 in
theorem canon0 (c : Dev nD) (arg7 : Memref sig .tc .vmem S64x1024 .bf16) (harg7 : arg7.IsWhole) (arg8 : Memref sig .tc .vmem S64x1024 .bf16) (harg8 : arg8.IsWhole) (arg9 : Memref sig .tc .vmem S8x30x1024 .f32) (harg9 : arg9.IsWhole) (x6 : FVec Ideal S64x1024 .bf16) (x7 : FVec Ideal S64x1024 .bf16) (x8 : FVec Ideal S8x30x1024 .f32) :
    View.canon (kernelRun0_A.sl.HS0_24 (F := Ideal) c arg7 harg7 arg8 harg8 arg9 harg9 x6 x7 x8) = cext x6 x7 x8 := by
  funext y
  have e := View.canon_append_of_piecesOf (Val := Elt Ideal) (cext x6 x7 x8) [] (kernelRun0_A.sl.HS0_24 (F := Ideal) c arg7 harg7 arg8 harg8 arg9 harg9 x6 x7 x8) ?_ y ?_
  · rwa [List.append_nil] at e
  · frame_open
    frame_out
    refine ⟨fun (x : S1x8x1024.Idx) => ?_, fun (x : S1x30x1024.Idx) => ?_, fun (x : S1x2x1024.Idx) => ?_, fun (x : S1x8x1024.Idx) => ?_, fun (x : S1x30x1024.Idx) => ?_, fun (x : S1x2x1024.Idx) => ?_, fun (x : S1x8x1024.Idx) => ?_, fun (x : S1x30x1024.Idx) => ?_, fun (x : S1x2x1024.Idx) => ?_, fun (x : S1x8x1024.Idx) => ?_, fun (x : S1x30x1024.Idx) => ?_, fun (x : S1x2x1024.Idx) => ?_, fun (x : S1x8x1024.Idx) => ?_, fun (x : S1x30x1024.Idx) => ?_, fun (x : S1x2x1024.Idx) => ?_, fun (x : S1x8x1024.Idx) => ?_, fun (x : S1x30x1024.Idx) => ?_, fun (x : S1x2x1024.Idx) => ?_, fun (x : S1x8x1024.Idx) => ?_, fun (x : S1x30x1024.Idx) => ?_, fun (x : S1x2x1024.Idx) => ?_, fun (x : S1x8x1024.Idx) => ?_, fun (x : S1x30x1024.Idx) => ?_, fun (x : S1x2x1024.Idx) => ?_, trivial⟩
    · pointwise []
      exact cext_piece x6 x7 x8 _ x 7 56 _ (by rw [emb_at]; show 7 + (x 0 : ℕ) = 7; have b : (x 0 : ℕ) < 1 := (x 0).isLt; omega) (by rw [emb_at]; rfl) (by rw [emb_at]; exact Nat.zero_add _) rfl
    · pointwise []
      exact cext_piece' x6 x7 x8 _ x 7 (by rw [emb_at]; show 7 + (x 0 : ℕ) = 7; have b : (x 0 : ℕ) < 1 := (x 0).isLt; omega) (by rw [emb_at]; rfl) (by rw [emb_at]; exact Nat.zero_add _)
    · pointwise []
      exact cext_piece0 x6 x7 x8 _ x (by rw [emb_at]; rfl)
    · pointwise []
      exact cext_piece x6 x7 x8 _ x 6 48 _ (by rw [emb_at]; show 6 + (x 0 : ℕ) = 6; have b : (x 0 : ℕ) < 1 := (x 0).isLt; omega) (by rw [emb_at]; rfl) (by rw [emb_at]; exact Nat.zero_add _) rfl
    · pointwise []
      exact cext_piece' x6 x7 x8 _ x 6 (by rw [emb_at]; show 6 + (x 0 : ℕ) = 6; have b : (x 0 : ℕ) < 1 := (x 0).isLt; omega) (by rw [emb_at]; rfl) (by rw [emb_at]; exact Nat.zero_add _)
    · pointwise []
      exact cext_piece0 x6 x7 x8 _ x (by rw [emb_at]; rfl)
    · pointwise []
      exact cext_piece x6 x7 x8 _ x 5 40 _ (by rw [emb_at]; show 5 + (x 0 : ℕ) = 5; have b : (x 0 : ℕ) < 1 := (x 0).isLt; omega) (by rw [emb_at]; rfl) (by rw [emb_at]; exact Nat.zero_add _) rfl
    · pointwise []
      exact cext_piece' x6 x7 x8 _ x 5 (by rw [emb_at]; show 5 + (x 0 : ℕ) = 5; have b : (x 0 : ℕ) < 1 := (x 0).isLt; omega) (by rw [emb_at]; rfl) (by rw [emb_at]; exact Nat.zero_add _)
    · pointwise []
      exact cext_piece0 x6 x7 x8 _ x (by rw [emb_at]; rfl)
    · pointwise []
      exact cext_piece x6 x7 x8 _ x 4 32 _ (by rw [emb_at]; show 4 + (x 0 : ℕ) = 4; have b : (x 0 : ℕ) < 1 := (x 0).isLt; omega) (by rw [emb_at]; rfl) (by rw [emb_at]; exact Nat.zero_add _) rfl
    · pointwise []
      exact cext_piece' x6 x7 x8 _ x 4 (by rw [emb_at]; show 4 + (x 0 : ℕ) = 4; have b : (x 0 : ℕ) < 1 := (x 0).isLt; omega) (by rw [emb_at]; rfl) (by rw [emb_at]; exact Nat.zero_add _)
    · pointwise []
      exact cext_piece0 x6 x7 x8 _ x (by rw [emb_at]; rfl)
    · pointwise []
      exact cext_piece x6 x7 x8 _ x 3 24 _ (by rw [emb_at]; show 3 + (x 0 : ℕ) = 3; have b : (x 0 : ℕ) < 1 := (x 0).isLt; omega) (by rw [emb_at]; rfl) (by rw [emb_at]; exact Nat.zero_add _) rfl
    · pointwise []
      exact cext_piece' x6 x7 x8 _ x 3 (by rw [emb_at]; show 3 + (x 0 : ℕ) = 3; have b : (x 0 : ℕ) < 1 := (x 0).isLt; omega) (by rw [emb_at]; rfl) (by rw [emb_at]; exact Nat.zero_add _)
    · pointwise []
      exact cext_piece0 x6 x7 x8 _ x (by rw [emb_at]; rfl)
    · pointwise []
      exact cext_piece x6 x7 x8 _ x 2 16 _ (by rw [emb_at]; show 2 + (x 0 : ℕ) = 2; have b : (x 0 : ℕ) < 1 := (x 0).isLt; omega) (by rw [emb_at]; rfl) (by rw [emb_at]; exact Nat.zero_add _) rfl
    · pointwise []
      exact cext_piece' x6 x7 x8 _ x 2 (by rw [emb_at]; show 2 + (x 0 : ℕ) = 2; have b : (x 0 : ℕ) < 1 := (x 0).isLt; omega) (by rw [emb_at]; rfl) (by rw [emb_at]; exact Nat.zero_add _)
    · pointwise []
      exact cext_piece0 x6 x7 x8 _ x (by rw [emb_at]; rfl)
    · pointwise []
      exact cext_piece x6 x7 x8 _ x 1 8 _ (by rw [emb_at]; show 1 + (x 0 : ℕ) = 1; have b : (x 0 : ℕ) < 1 := (x 0).isLt; omega) (by rw [emb_at]; rfl) (by rw [emb_at]; exact Nat.zero_add _) rfl
    · pointwise []
      exact cext_piece' x6 x7 x8 _ x 1 (by rw [emb_at]; show 1 + (x 0 : ℕ) = 1; have b : (x 0 : ℕ) < 1 := (x 0).isLt; omega) (by rw [emb_at]; rfl) (by rw [emb_at]; exact Nat.zero_add _)
    · pointwise []
      exact cext_piece0 x6 x7 x8 _ x (by rw [emb_at]; rfl)
    · pointwise []
      exact cext_pieceZ x6 x7 x8 _ x _ (by rw [emb_at]; show 0 + (x 0 : ℕ) = 0; have b : (x 0 : ℕ) < 1 := (x 0).isLt; omega) (by rw [emb_at]; rfl) (by rw [emb_at]; exact Nat.zero_add _)
    · pointwise []
      exact cext_piece' x6 x7 x8 _ x 0 (by rw [emb_at]; show 0 + (x 0 : ℕ) = 0; have b : (x 0 : ℕ) < 1 := (x 0).isLt; omega) (by rw [emb_at]; rfl) (by rw [emb_at]; exact Nat.zero_add _)
    · pointwise []
      exact cext_piece0 x6 x7 x8 _ x (by rw [emb_at]; rfl)
  · unfold kernelRun0_A.sl.HS0_24
    have h0 := idx_lt0 y
    have h1 := idx_lt1 y
    have h2 : (y 2 : ℕ) < 1024 := (y 2).isLt
    interval_cases h : (y 0 : ℕ) <;> simp [Rect.mem_set_unit, Fin.forall_fin_succ, h] <;> omega

end Cert.SampleIdeal.Words
-- ==== Proof.SampleBlocks.lean ====
/- What the sample branches' kernel reads at a grid point: each staged block, by the arguments. -/
module

public import proofs.«01_k».proof.Proof.Gen.SampleIdeal.Frame.Runs
public import Idealize.ShloMosaic.Lib.Pipeline.ValueKit
public import Idealize.ShloMosaic.Lib.Pointwise
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)
open scoped BigOperators

namespace Cert.SampleIdeal.Blocks

open Cert.SampleIdeal Cert.SampleIdeal.Gen

variable (m : (ℓ : Loc nD τ sig) → Buf (Elt Ideal) ℓ)

/-- Where each window's block lies at every grid point. -/
theorem idx : ∀ t : Fin cfg0.N, win0_2.index t = ![132 + t.val, 44] ∧ win0_3.index t = ![132 + t.val, 45]
    ∧ win0_4.index t = ![16 + t.val, 0, 0] ∧ win0_5.index t = ![16 + t.val, 0, 0] ∧ win0_6.index t = ![132 + t.val, 1]
    ∧ win0_7.index t = ![132 + t.val, 2] ∧ win0_8.index t = ![16 + t.val, 0, 0] ∧ win0_13.index t = ![132 + t.val, 3]
    ∧ win0_15.index t = ![16 + t.val, 0, 0] ∧ win0_16.index t = ![16 + t.val, 0] ∧ win0_17.index t = ![0, 0] ∧ win0_18.index t = ![0, 0]
    ∧ win0_19.index t = ![0, 0, 0] ∧ win0_20.index t = ![0, 0] ∧ win0_21.index t = ![0, 0, 0] ∧ win0_22.index t = ![0, 0]
    ∧ win0_23.index t = ![0, 0]
    ∧ win0_25.index t = ![16 + t.val, 0, 0] ∧ win0_26.index t = ![16 + t.val, 0, 0] ∧ win0_28.index t = ![16 + t.val, 0, 0]
    ∧ win0_30.index t = ![16 + t.val, 0, 0] ∧ win0_31.index t = ![16 + t.val, 0] :=
  (by decide +kernel : ∀ t : Fin grid0.N, _)

theorem N16 : cfg0.N = 16 := N_0

theorem lt16 (t : Fin cfg0.N) : t.val < 16 := lt_of_lt_of_eq t.isLt N16

theorem x2 (c : Dev nD) (t : Fin cfg0.N) (y : S64x256.Idx) (j : S9472x11776.Idx) (h0 : (j 0 : ℕ) = 8448 + 64 * t.val + y 0) (h1 : (j 1 : ℕ) = 11264 + y 1) :
    iblk m c 2 t y = m ((c : Thread nD τ).loc main_arg0) j := by
  blk_ext [iblk, V, idx t]

theorem x3 (c : Dev nD) (t : Fin cfg0.N) (y : S64x256.Idx) (j : S9472x11776.Idx) (h0 : (j 0 : ℕ) = 8448 + 64 * t.val + y 0) (h1 : (j 1 : ℕ) = 11520 + y 1) :
    iblk m c 3 t y = m ((c : Thread nD τ).loc main_arg0) j := by
  blk_ext [iblk, V, idx t]

theorem x6 (c : Dev nD) (t : Fin cfg0.N) (y : S64x1024.Idx) (j : S9472x11776.Idx) (h0 : (j 0 : ℕ) = 8448 + 64 * t.val + y 0) (h1 : (j 1 : ℕ) = 1024 + y 1) :
    X0_6 m c t y = m ((c : Thread nD τ).loc main_arg0) j := by
  unfold X0_6 Pipeline.Window.fill
  rw [dif_pos (moved0_6 t y)]
  blk_ext [iblk, V, idx t]

theorem x7 (c : Dev nD) (t : Fin cfg0.N) (y : S64x1024.Idx) (j : S9472x11776.Idx) (h0 : (j 0 : ℕ) = 8448 + 64 * t.val + y 0) (h1 : (j 1 : ℕ) = 2048 + y 1) :
    X0_7 m c t y = m ((c : Thread nD τ).loc main_arg0) j := by
  unfold X0_7 Pipeline.Window.fill
  rw [dif_pos (moved0_7 t y)]
  blk_ext [iblk, V, idx t]

theorem x13 (c : Dev nD) (t : Fin cfg0.N) (y : S64x1024.Idx) (j : S9472x11776.Idx) (h0 : (j 0 : ℕ) = 8448 + 64 * t.val + y 0) (h1 : (j 1 : ℕ) = 3072 + y 1) :
    X0_13 m c t y = m ((c : Thread nD τ).loc main_arg0) j := by
  unfold X0_13 Pipeline.Window.fill
  rw [dif_pos (moved0_13 t y)]
  blk_ext [iblk, V, idx t]

theorem cast0 (x : FVec Ideal S2x128x128x4x64 .f32) (q : S256x128x256.Idx) (j : S2x128x128x4x64.Idx) (h0 : (j 0 : ℕ) = (q 0 : ℕ) / 128) (h1 : (j 1 : ℕ) = (q 0 : ℕ) % 128) (h2 : (j 2 : ℕ) = q 1) (h3 : (j 3 : ℕ) = (q 2 : ℕ) / 64) (h4 : (j 4 : ℕ) = (q 2 : ℕ) % 64) :
    (shapeCast S256x128x256 x shapeCasts_S2x128x128x4x64_S256x128x256) q = x j := by
  pointwise
  blk_ext

theorem cast1 (x : FVec Ideal S2x128x128x4x64 .f32) (q : S256x128x256.Idx) (j : S2x128x128x4x64.Idx) (h0 : (j 0 : ℕ) = (q 0 : ℕ) / 128) (h1 : (j 1 : ℕ) = (q 0 : ℕ) % 128) (h2 : (j 2 : ℕ) = q 1) (h3 : (j 3 : ℕ) = (q 2 : ℕ) / 64) (h4 : (j 4 : ℕ) = (q 2 : ℕ) % 64) :
    (shapeCast S256x128x256 x shapeCasts_S2x128x128x4x64_S256x128x256) q = x j := by
  pointwise
  blk_ext

theorem cast2 (x : FVec Ideal S2x128x30x1024 .f32) (q : S256x30x1024.Idx) (j : S2x128x30x1024.Idx) (h0 : (j 0 : ℕ) = (q 0 : ℕ) / 128) (h1 : (j 1 : ℕ) = (q 0 : ℕ) % 128) (h2 : (j 2 : ℕ) = q 1) (h3 : (j 3 : ℕ) = q 2) :
    (shapeCast S256x30x1024 x shapeCasts_S2x128x30x1024_S256x30x1024) q = x j := by
  pointwise
  blk_ext

theorem cast3 (x : FVec Ideal S2x128x3x1024 .f32) (q : S256x3x1024.Idx) (j : S2x128x3x1024.Idx) (h0 : (j 0 : ℕ) = (q 0 : ℕ) / 128) (h1 : (j 1 : ℕ) = (q 0 : ℕ) % 128) (h2 : (j 2 : ℕ) = q 1) (h3 : (j 3 : ℕ) = q 2) :
    (shapeCast S256x3x1024 x shapeCasts_S2x128x3x1024_S256x3x1024) q = x j := by
  pointwise
  blk_ext

theorem cast4 (x : FVec Ideal S2x128x1024 .f32) (q : S256x1024.Idx) (j : S2x128x1024.Idx) (h0 : (j 0 : ℕ) = (q 0 : ℕ) / 128) (h1 : (j 1 : ℕ) = (q 0 : ℕ) % 128) (h2 : (j 2 : ℕ) = q 1) :
    (shapeCast S256x1024 x shapeCasts_S2x128x1024_S256x1024) q = x j := by
  pointwise
  blk_ext

theorem cast16 (x : FVec Ideal S2x4x1024 .f32) (q : S4x1024.Idx) (j : S2x4x1024.Idx) (h0 : (j 0 : ℕ) = 1) (h1 : (j 1 : ℕ) = q 0) (h2 : (j 2 : ℕ) = q 1) :
    (shapeCast S4x1024 (extractStridedSlice S1x4x1024 ![1, 0, 0] x slices_S2x4x1024_S1x4x1024_1_0_0) shapeCasts_S1x4x1024_S4x1024) q = x j := by
  pointwise
  blk_ext

theorem cast60 (x : FVec Ideal S2x1024 .f32) (q : S1x1024.Idx) (j : S2x1024.Idx) (h0 : (j 0 : ℕ) = 1) (h1 : (j 1 : ℕ) = q 1) :
    (shapeCast S1x1024 (shapeCast S1024 (extractStridedSlice S1x1024 ![1, 0] x slices_S2x1024_S1x1024_1_0) shapeCasts_S1x1024_S1024) shapeCasts_S1024_S1x1024) q = x j := by
  pointwise
  blk_ext

theorem cast61 (x : FVec Ideal S2x1024 .f32) (q : S1x1024.Idx) (j : S2x1024.Idx) (h0 : (j 0 : ℕ) = 1) (h1 : (j 1 : ℕ) = q 1) :
    (shapeCast S1x1024 (shapeCast S1024 (extractStridedSlice S1x1024 ![1, 0] x slices_S2x1024_S1x1024_1_0) shapeCasts_S1x1024_S1024) shapeCasts_S1024_S1x1024) q = x j := by
  pointwise
  blk_ext

theorem cast62 (x : FVec Ideal S2x1024 .f32) (q : S1x1024.Idx) (j : S2x1024.Idx) (h0 : (j 0 : ℕ) = 1) (h1 : (j 1 : ℕ) = q 1) :
    (shapeCast S1x1024 (shapeCast S1024 (extractStridedSlice S1x1024 ![1, 0] x slices_S2x1024_S1x1024_1_0) shapeCasts_S1x1024_S1024) shapeCasts_S1024_S1x1024) q = x j := by
  pointwise
  blk_ext

theorem cast63 (x : FVec Ideal S2x1024 .f32) (q : S1x1024.Idx) (j : S2x1024.Idx) (h0 : (j 0 : ℕ) = 1) (h1 : (j 1 : ℕ) = q 1) :
    (shapeCast S1x1024 (shapeCast S1024 (extractStridedSlice S1x1024 ![1, 0] x slices_S2x1024_S1x1024_1_0) shapeCasts_S1x1024_S1024) shapeCasts_S1024_S1x1024) q = x j := by
  pointwise
  blk_ext

/-- A recurrent weight laid out block-diagonally, four heads to a block. -/
def blockdiag (x : FVec Ideal S2x16x64x64 .f32) : FVec Ideal S4x256x256 .bf16 :=
  truncf .bf16 (shapeCast S4x256x256 (mulf (broadcastInDim S4x4x64x4x64 ![0, 1, 2, 3, 4] bcast_S4x4x64x1x64_S4x4x64x4x64_0_1_2_3_4 (broadcastInDim S4x4x64x1x64 ![0, 1, 2, 4] bcast_S4x4x64x64_S4x4x64x1x64_0_1_2_4 (shapeCast S4x4x64x64 (shapeCast S16x64x64 (extractStridedSlice S1x16x64x64 ![1, 0, 0, 0] x slices_S2x16x64x64_S1x16x64x64_1_0_0_0) shapeCasts_S1x16x64x64_S16x64x64) shapeCasts_S16x64x64_S4x4x64x64))) (broadcastInDim S4x4x64x4x64 ![0, 1, 2, 3, 4] bcast_S1x4x1x4x1_S4x4x64x4x64_0_1_2_3_4 (broadcastInDim S1x4x1x4x1 ![1, 3] bcast_S4x4_S1x4x1x4x1_1_3 (uitofp .f32 (cmpi .eq (addi (iotaInDim S4x4 32 0) (broadcastInDim S4x4 ![] bcast_S_S4x4 (constantI S_ 32 0#32))) (iotaInDim S4x4 32 1)))))) shapeCasts_S4x4x64x4x64_S4x256x256) bitsLt_bf16_f32

theorem eye (a b : ℕ) (ha : a < 4) (hb : b < 4) :
    (FloatOps.uitofp (F := Ideal) FTy.f32 (IntOp.cmpi CmpIPredicate.eq (IntOp.addi (BitVec.ofNat 32 a) 0#32) (BitVec.ofNat 32 b)) : EReal)
      = if a = b then 1 else 0 := by
  have h : ∀ a b : Fin 4, IntOp.cmpi CmpIPredicate.eq (IntOp.addi (BitVec.ofNat 32 a.val) 0#32) (BitVec.ofNat 32 b.val)
      = if a = b then 1#1 else 0#1 := by decide
  have h' := h ⟨a, ha⟩ ⟨b, hb⟩
  simp only [Fin.mk.injEq] at h'
  rw [h']
  split <;> simp [FloatOps.uitofp]

set_option maxHeartbeats 2000000 in
/-- A block-diagonal weight, entry by entry. -/
theorem castW (x : FVec Ideal S2x16x64x64 .f32) (q : S4x256x256.Idx) (j : S2x16x64x64.Idx) (h0 : (j 0 : ℕ) = 1) (h1 : (j 1 : ℕ) = 4 * (q 0 : ℕ) + (q 1 : ℕ) / 64)
    (h2 : (j 2 : ℕ) = (q 1 : ℕ) % 64) (h3 : (j 3 : ℕ) = (q 2 : ℕ) % 64) :
    (blockdiag x q : EReal) = x j * (if (q 1 : ℕ) / 64 = (q 2 : ℕ) / 64 then (1 : EReal) else 0) := by
  have b1 : (q 1 : ℕ) < 256 := (q 1).isLt
  have b2 : (q 2 : ℕ) < 256 := (q 2).isLt
  pointwise [blockdiag]
  rw [eye _ _ (by omega) (by omega)]
  congr 1
  blk_ext

theorem V_v0 (c : Dev nD) : V m c main_v0 = shapeCast S256x128x256 (m ((c : Thread nD τ).loc main_arg2)) shapeCasts_S2x128x128x4x64_S256x128x256 := by
  unfold V; unfold hostOps0; after_reads_simp; try rfl

theorem V0_at (c : Dev nD) (q : S256x128x256.Idx) (j : S2x128x128x4x64.Idx) (h0 : (j 0 : ℕ) = (q 0 : ℕ) / 128) (h1 : (j 1 : ℕ) = (q 0 : ℕ) % 128) (h2 : (j 2 : ℕ) = q 1) (h3 : (j 3 : ℕ) = (q 2 : ℕ) / 64) (h4 : (j 4 : ℕ) = (q 2 : ℕ) % 64) :
    V m c main_v0 q = m ((c : Thread nD τ).loc main_arg2) j := by
  rw [V_v0]
  exact cast0 _ q j h0 h1 h2 h3 h4

theorem x4 (c : Dev nD) (t : Fin cfg0.N) (y : S8x128x256.Idx) (j : S2x128x128x4x64.Idx) (h0 : (j 0 : ℕ) = 1) (h1 : (j 1 : ℕ) = 8 * t.val + y 0) (h2 : (j 2 : ℕ) = y 1) (h3 : (j 3 : ℕ) = (y 2 : ℕ) / 64) (h4 : (j 4 : ℕ) = (y 2 : ℕ) % 64) :
    iblk m c 4 t y = m ((c : Thread nD τ).loc main_arg2) j := by
  have := lt16 t
  have b0 : (y 0 : ℕ) < 8 := (y 0).isLt
  have b1 : (y 1 : ℕ) < 128 := (y 1).isLt
  have b2 : (y 2 : ℕ) < 256 := (y 2).isLt
  have e : iblk m c 4 t y = V m c main_v0 ((win0_4.blk t).view.emb y) := rfl
  rw [e]
  exact V0_at m c _ j (by blk_simp [idx t] <;> omega) (by blk_simp [idx t] <;> omega) (by blk_simp [idx t] <;> omega) (by blk_simp [idx t] <;> omega) (by blk_simp [idx t] <;> omega)

theorem V_v1 (c : Dev nD) : V m c main_v1 = shapeCast S256x128x256 (m ((c : Thread nD τ).loc main_arg3)) shapeCasts_S2x128x128x4x64_S256x128x256 := by
  unfold V; unfold hostOps0; after_reads_simp; try rfl

theorem V1_at (c : Dev nD) (q : S256x128x256.Idx) (j : S2x128x128x4x64.Idx) (h0 : (j 0 : ℕ) = (q 0 : ℕ) / 128) (h1 : (j 1 : ℕ) = (q 0 : ℕ) % 128) (h2 : (j 2 : ℕ) = q 1) (h3 : (j 3 : ℕ) = (q 2 : ℕ) / 64) (h4 : (j 4 : ℕ) = (q 2 : ℕ) % 64) :
    V m c main_v1 q = m ((c : Thread nD τ).loc main_arg3) j := by
  rw [V_v1]
  exact cast1 _ q j h0 h1 h2 h3 h4

theorem x5 (c : Dev nD) (t : Fin cfg0.N) (y : S8x128x256.Idx) (j : S2x128x128x4x64.Idx) (h0 : (j 0 : ℕ) = 1) (h1 : (j 1 : ℕ) = 8 * t.val + y 0) (h2 : (j 2 : ℕ) = y 1) (h3 : (j 3 : ℕ) = (y 2 : ℕ) / 64) (h4 : (j 4 : ℕ) = (y 2 : ℕ) % 64) :
    iblk m c 5 t y = m ((c : Thread nD τ).loc main_arg3) j := by
  have := lt16 t
  have b0 : (y 0 : ℕ) < 8 := (y 0).isLt
  have b1 : (y 1 : ℕ) < 128 := (y 1).isLt
  have b2 : (y 2 : ℕ) < 256 := (y 2).isLt
  have e : iblk m c 5 t y = V m c main_v1 ((win0_5.blk t).view.emb y) := rfl
  rw [e]
  exact V1_at m c _ j (by blk_simp [idx t] <;> omega) (by blk_simp [idx t] <;> omega) (by blk_simp [idx t] <;> omega) (by blk_simp [idx t] <;> omega) (by blk_simp [idx t] <;> omega)

theorem V_v2 (c : Dev nD) : V m c main_v2 = shapeCast S256x30x1024 (m ((c : Thread nD τ).loc main_arg4)) shapeCasts_S2x128x30x1024_S256x30x1024 := by
  unfold V; unfold hostOps0; after_reads_simp; try rfl

theorem V2_at (c : Dev nD) (q : S256x30x1024.Idx) (j : S2x128x30x1024.Idx) (h0 : (j 0 : ℕ) = (q 0 : ℕ) / 128) (h1 : (j 1 : ℕ) = (q 0 : ℕ) % 128) (h2 : (j 2 : ℕ) = q 1) (h3 : (j 3 : ℕ) = q 2) :
    V m c main_v2 q = m ((c : Thread nD τ).loc main_arg4) j := by
  rw [V_v2]
  exact cast2 _ q j h0 h1 h2 h3

theorem x8 (c : Dev nD) (t : Fin cfg0.N) (y : S8x30x1024.Idx) (j : S2x128x30x1024.Idx) (h0 : (j 0 : ℕ) = 1) (h1 : (j 1 : ℕ) = 8 * t.val + y 0) (h2 : (j 2 : ℕ) = y 1) (h3 : (j 3 : ℕ) = y 2) :
    iblk m c 8 t y = m ((c : Thread nD τ).loc main_arg4) j := by
  have := lt16 t
  have b0 : (y 0 : ℕ) < 8 := (y 0).isLt
  have b1 : (y 1 : ℕ) < 30 := (y 1).isLt
  have b2 : (y 2 : ℕ) < 1024 := (y 2).isLt
  have e : iblk m c 8 t y = V m c main_v2 ((win0_8.blk t).view.emb y) := rfl
  rw [e]
  exact V2_at m c _ j (by blk_simp [idx t] <;> omega) (by blk_simp [idx t] <;> omega) (by blk_simp [idx t] <;> omega) (by blk_simp [idx t] <;> omega)

theorem V_v3 (c : Dev nD) : V m c main_v3 = shapeCast S256x3x1024 (m ((c : Thread nD τ).loc main_arg5)) shapeCasts_S2x128x3x1024_S256x3x1024 := by
  unfold V; unfold hostOps0; after_reads_simp; try rfl

theorem V3_at (c : Dev nD) (q : S256x3x1024.Idx) (j : S2x128x3x1024.Idx) (h0 : (j 0 : ℕ) = (q 0 : ℕ) / 128) (h1 : (j 1 : ℕ) = (q 0 : ℕ) % 128) (h2 : (j 2 : ℕ) = q 1) (h3 : (j 3 : ℕ) = q 2) :
    V m c main_v3 q = m ((c : Thread nD τ).loc main_arg5) j := by
  rw [V_v3]
  exact cast3 _ q j h0 h1 h2 h3

theorem x15 (c : Dev nD) (t : Fin cfg0.N) (y : S8x3x1024.Idx) (j : S2x128x3x1024.Idx) (h0 : (j 0 : ℕ) = 1) (h1 : (j 1 : ℕ) = 8 * t.val + y 0) (h2 : (j 2 : ℕ) = y 1) (h3 : (j 3 : ℕ) = y 2) :
    iblk m c 15 t y = m ((c : Thread nD τ).loc main_arg5) j := by
  have := lt16 t
  have b0 : (y 0 : ℕ) < 8 := (y 0).isLt
  have b1 : (y 1 : ℕ) < 3 := (y 1).isLt
  have b2 : (y 2 : ℕ) < 1024 := (y 2).isLt
  have e : iblk m c 15 t y = V m c main_v3 ((win0_15.blk t).view.emb y) := rfl
  rw [e]
  exact V3_at m c _ j (by blk_simp [idx t] <;> omega) (by blk_simp [idx t] <;> omega) (by blk_simp [idx t] <;> omega) (by blk_simp [idx t] <;> omega)

theorem V_v4 (c : Dev nD) : V m c main_v4 = shapeCast S256x1024 (m ((c : Thread nD τ).loc main_arg6)) shapeCasts_S2x128x1024_S256x1024 := by
  unfold V; unfold hostOps0; after_reads_simp; try rfl

theorem V4_at (c : Dev nD) (q : S256x1024.Idx) (j : S2x128x1024.Idx) (h0 : (j 0 : ℕ) = (q 0 : ℕ) / 128) (h1 : (j 1 : ℕ) = (q 0 : ℕ) % 128) (h2 : (j 2 : ℕ) = q 1) :
    V m c main_v4 q = m ((c : Thread nD τ).loc main_arg6) j := by
  rw [V_v4]
  exact cast4 _ q j h0 h1 h2

theorem x16 (c : Dev nD) (t : Fin cfg0.N) (y : S8x1024.Idx) (j : S2x128x1024.Idx) (h0 : (j 0 : ℕ) = 1) (h1 : (j 1 : ℕ) = 8 * t.val + y 0) (h2 : (j 2 : ℕ) = y 1) :
    iblk m c 16 t y = m ((c : Thread nD τ).loc main_arg6) j := by
  have := lt16 t
  have b0 : (y 0 : ℕ) < 8 := (y 0).isLt
  have b1 : (y 1 : ℕ) < 1024 := (y 1).isLt
  have e : iblk m c 16 t y = V m c main_v4 ((win0_16.blk t).view.emb y) := rfl
  rw [e]
  exact V4_at m c _ j (by blk_simp [idx t] <;> omega) (by blk_simp [idx t] <;> omega) (by blk_simp [idx t] <;> omega)

theorem V_v16 (c : Dev nD) : V m c main_v16 = shapeCast S4x1024 (extractStridedSlice S1x4x1024 ![1, 0, 0] (m ((c : Thread nD τ).loc main_arg11)) slices_S2x4x1024_S1x4x1024_1_0_0) shapeCasts_S1x4x1024_S4x1024 := by
  unfold V; unfold hostOps0; after_reads_simp; try rfl

theorem V16_at (c : Dev nD) (q : S4x1024.Idx) (j : S2x4x1024.Idx) (h0 : (j 0 : ℕ) = 1) (h1 : (j 1 : ℕ) = q 0) (h2 : (j 2 : ℕ) = q 1) :
    V m c main_v16 q = m ((c : Thread nD τ).loc main_arg11) j := by
  rw [V_v16]
  exact cast16 _ q j h0 h1 h2

theorem x17 (c : Dev nD) (t : Fin cfg0.N) (y : S4x1024.Idx) (j : S2x4x1024.Idx) (h0 : (j 0 : ℕ) = 1) (h1 : (j 1 : ℕ) = y 0) (h2 : (j 2 : ℕ) = y 1) :
    iblk m c 17 t y = m ((c : Thread nD τ).loc main_arg11) j := by
  have := lt16 t
  have b0 : (y 0 : ℕ) < 4 := (y 0).isLt
  have b1 : (y 1 : ℕ) < 1024 := (y 1).isLt
  have e : iblk m c 17 t y = V m c main_v16 ((win0_17.blk t).view.emb y) := rfl
  rw [e]
  exact V16_at m c _ j h0 (by blk_simp [idx t] <;> omega) (by blk_simp [idx t] <;> omega)

theorem V_v60 (c : Dev nD) : V m c main_v60 = shapeCast S1x1024 (shapeCast S1024 (extractStridedSlice S1x1024 ![1, 0] (m ((c : Thread nD τ).loc main_arg12)) slices_S2x1024_S1x1024_1_0) shapeCasts_S1x1024_S1024) shapeCasts_S1024_S1x1024 := by
  unfold V; unfold hostOps0; after_reads_simp; try rfl

theorem V60_at (c : Dev nD) (q : S1x1024.Idx) (j : S2x1024.Idx) (h0 : (j 0 : ℕ) = 1) (h1 : (j 1 : ℕ) = q 1) :
    V m c main_v60 q = m ((c : Thread nD τ).loc main_arg12) j := by
  rw [V_v60]
  exact cast60 _ q j h0 h1

theorem x18 (c : Dev nD) (t : Fin cfg0.N) (y : S1x1024.Idx) (j : S2x1024.Idx) (h0 : (j 0 : ℕ) = 1) (h1 : (j 1 : ℕ) = y 1) :
    iblk m c 18 t y = m ((c : Thread nD τ).loc main_arg12) j := by
  have := lt16 t
  have b0 : (y 0 : ℕ) < 1 := (y 0).isLt
  have b1 : (y 1 : ℕ) < 1024 := (y 1).isLt
  have e : iblk m c 18 t y = V m c main_v60 ((win0_18.blk t).view.emb y) := rfl
  rw [e]
  exact V60_at m c _ j h0 (by blk_simp [idx t] <;> omega)

theorem V_v61 (c : Dev nD) : V m c main_v61 = shapeCast S1x1024 (shapeCast S1024 (extractStridedSlice S1x1024 ![1, 0] (m ((c : Thread nD τ).loc main_arg14)) slices_S2x1024_S1x1024_1_0) shapeCasts_S1x1024_S1024) shapeCasts_S1024_S1x1024 := by
  unfold V; unfold hostOps0; after_reads_simp; try rfl

theorem V61_at (c : Dev nD) (q : S1x1024.Idx) (j : S2x1024.Idx) (h0 : (j 0 : ℕ) = 1) (h1 : (j 1 : ℕ) = q 1) :
    V m c main_v61 q = m ((c : Thread nD τ).loc main_arg14) j := by
  rw [V_v61]
  exact cast61 _ q j h0 h1

theorem x20 (c : Dev nD) (t : Fin cfg0.N) (y : S1x1024.Idx) (j : S2x1024.Idx) (h0 : (j 0 : ℕ) = 1) (h1 : (j 1 : ℕ) = y 1) :
    iblk m c 20 t y = m ((c : Thread nD τ).loc main_arg14) j := by
  have := lt16 t
  have b0 : (y 0 : ℕ) < 1 := (y 0).isLt
  have b1 : (y 1 : ℕ) < 1024 := (y 1).isLt
  have e : iblk m c 20 t y = V m c main_v61 ((win0_20.blk t).view.emb y) := rfl
  rw [e]
  exact V61_at m c _ j h0 (by blk_simp [idx t] <;> omega)

theorem V_v62 (c : Dev nD) : V m c main_v62 = shapeCast S1x1024 (shapeCast S1024 (extractStridedSlice S1x1024 ![1, 0] (m ((c : Thread nD τ).loc main_arg16)) slices_S2x1024_S1x1024_1_0) shapeCasts_S1x1024_S1024) shapeCasts_S1024_S1x1024 := by
  unfold V; unfold hostOps0; after_reads_simp; try rfl

theorem V62_at (c : Dev nD) (q : S1x1024.Idx) (j : S2x1024.Idx) (h0 : (j 0 : ℕ) = 1) (h1 : (j 1 : ℕ) = q 1) :
    V m c main_v62 q = m ((c : Thread nD τ).loc main_arg16) j := by
  rw [V_v62]
  exact cast62 _ q j h0 h1

theorem x22 (c : Dev nD) (t : Fin cfg0.N) (y : S1x1024.Idx) (j : S2x1024.Idx) (h0 : (j 0 : ℕ) = 1) (h1 : (j 1 : ℕ) = y 1) :
    iblk m c 22 t y = m ((c : Thread nD τ).loc main_arg16) j := by
  have := lt16 t
  have b0 : (y 0 : ℕ) < 1 := (y 0).isLt
  have b1 : (y 1 : ℕ) < 1024 := (y 1).isLt
  have e : iblk m c 22 t y = V m c main_v62 ((win0_22.blk t).view.emb y) := rfl
  rw [e]
  exact V62_at m c _ j h0 (by blk_simp [idx t] <;> omega)

theorem V_v63 (c : Dev nD) : V m c main_v63 = shapeCast S1x1024 (shapeCast S1024 (extractStridedSlice S1x1024 ![1, 0] (m ((c : Thread nD τ).loc main_arg17)) slices_S2x1024_S1x1024_1_0) shapeCasts_S1x1024_S1024) shapeCasts_S1024_S1x1024 := by
  unfold V; unfold hostOps0; after_reads_simp; try rfl

theorem V63_at (c : Dev nD) (q : S1x1024.Idx) (j : S2x1024.Idx) (h0 : (j 0 : ℕ) = 1) (h1 : (j 1 : ℕ) = q 1) :
    V m c main_v63 q = m ((c : Thread nD τ).loc main_arg17) j := by
  rw [V_v63]
  exact cast63 _ q j h0 h1

theorem x23 (c : Dev nD) (t : Fin cfg0.N) (y : S1x1024.Idx) (j : S2x1024.Idx) (h0 : (j 0 : ℕ) = 1) (h1 : (j 1 : ℕ) = y 1) :
    iblk m c 23 t y = m ((c : Thread nD τ).loc main_arg17) j := by
  have := lt16 t
  have b0 : (y 0 : ℕ) < 1 := (y 0).isLt
  have b1 : (y 1 : ℕ) < 1024 := (y 1).isLt
  have e : iblk m c 23 t y = V m c main_v63 ((win0_23.blk t).view.emb y) := rfl
  rw [e]
  exact V63_at m c _ j h0 (by blk_simp [idx t] <;> omega)

theorem V_v64_1 (c : Dev nD) : V m c main_v64_1 = (m ((c : Thread nD τ).loc main_arg18)) := by
  unfold V; unfold hostOps0; after_reads_simp; try rfl

theorem V_v64_2 (c : Dev nD) : V m c main_v64_2 = (m ((c : Thread nD τ).loc main_arg19)) := by
  unfold V; unfold hostOps0; after_reads_simp; try rfl

theorem V_v64_4 (c : Dev nD) : V m c main_v64_4 = (m ((c : Thread nD τ).loc main_arg20)) := by
  unfold V; unfold hostOps0; after_reads_simp; try rfl

theorem V_v64_6 (c : Dev nD) : V m c main_v64_6 = (m ((c : Thread nD τ).loc main_arg21)) := by
  unfold V; unfold hostOps0; after_reads_simp; try rfl

theorem V_v64_7 (c : Dev nD) : V m c main_v64_7 = (m ((c : Thread nD τ).loc main_arg22)) := by
  unfold V; unfold hostOps0; after_reads_simp; try rfl

theorem V_v34 (c : Dev nD) : V m c main_v34 = blockdiag (m ((c : Thread nD τ).loc main_arg13)) := by
  unfold V; unfold hostOps0; after_reads_simp; try rfl

theorem x19 (c : Dev nD) (t : Fin cfg0.N) :
    iblk m c 19 t = blockdiag (m ((c : Thread nD τ).loc main_arg13)) := by
  funext y
  have e : iblk m c 19 t y = V m c main_v34 ((win0_19.blk t).view.emb y) := rfl
  have e' : (win0_19.blk t).view.emb y = y := by
    funext k; apply Fin.ext; fin_cases k <;> blk_simp [idx t]
  rw [e, e', V_v34]

theorem V_v52 (c : Dev nD) : V m c main_v52 = blockdiag (m ((c : Thread nD τ).loc main_arg15)) := by
  unfold V; unfold hostOps0; after_reads_simp; try rfl

theorem x21 (c : Dev nD) (t : Fin cfg0.N) :
    iblk m c 21 t = blockdiag (m ((c : Thread nD τ).loc main_arg15)) := by
  funext y
  have e : iblk m c 21 t y = V m c main_v52 ((win0_21.blk t).view.emb y) := rfl
  have e' : (win0_21.blk t).view.emb y = y := by
    funext k; apply Fin.ext; fin_cases k <;> blk_simp [idx t]
  rw [e, e', V_v52]

end Cert.SampleIdeal.Blocks
-- ==== Proof.StateAt.lean ====
/- The reference's states read at an index. -/
module

public import proofs.«01_k».proof.Proof.StateRef

@[expose] public section

set_option maxRecDepth 16384

noncomputable section

open Idealize.ShloMosaic Idealize.ShloMosaic.TcCoe Idealize.SL.Sem

namespace Cert.SampleRefIdeal.State

open Cert.SampleRefIdeal Cert.SampleRefIdeal.Gen

theorem v2_at (a0 : FVec Ideal S9472x11776 .bf16) (i : S128x8x11776.Idx) (j : S9472x11776.Idx) (h0 : (j 0 : ℕ) = 8448 + 8 * (i 0 : ℕ) + i 1) (h1 : (j 1 : ℕ) = i 2) : v2 a0 i = a0 j := by
  pointwise [v2]
  blk_ext

theorem sk_old (a0 : FVec Ideal S9472x11776 .bf16) (a2 : FVec Ideal S2x128x128x4x64 .f32) (a18 : FVec Ideal S256x128x256 .f32)
    (i : S256x128x256.Idx) (h : (i 0 : ℕ) < 128) : sk a0 a2 a18 i = a18 i := by
  pointwise [sk]
  rw [dif_pos h]

theorem sk_state (a0 : FVec Ideal S9472x11776 .bf16) (a2 : FVec Ideal S2x128x128x4x64 .f32) (a18 : FVec Ideal S256x128x256 .f32)
    (i : S256x128x256.Idx) (h : 128 ≤ (i 0 : ℕ)) (h' : (i 1 : ℕ) < 120) (j : S2x128x128x4x64.Idx) (h0 : (j 0 : ℕ) = 1) (h1 : (j 1 : ℕ) = (i 0 : ℕ) - 128)
    (h2 : (j 2 : ℕ) = 8 + (i 1 : ℕ)) (h3 : (j 3 : ℕ) = (i 2 : ℕ) / 64) (h4 : (j 4 : ℕ) = (i 2 : ℕ) % 64) : sk a0 a2 a18 i = a2 j := by
  pointwise [sk]
  rw [dif_neg (by omega), dif_pos (by omega)]
  blk_ext

theorem sk_new (a0 : FVec Ideal S9472x11776 .bf16) (a2 : FVec Ideal S2x128x128x4x64 .f32) (a18 : FVec Ideal S256x128x256 .f32)
    (i : S256x128x256.Idx) (h : 128 ≤ (i 0 : ℕ)) (h' : 120 ≤ (i 1 : ℕ)) (j : S9472x11776.Idx) (h0 : (j 0 : ℕ) = 8448 + 8 * ((i 0 : ℕ) - 128) + ((i 1 : ℕ) - 120))
    (h1 : (j 1 : ℕ) = 11264 + (i 2 : ℕ)) : sk a0 a2 a18 i = a0 j := by
  pointwise [sk]
  rw [dif_neg (by omega), dif_neg (by omega)]
  exact v2_at _ _ _ (h0.trans (by show _ = 8448 + 8 * ((i 0 : ℕ) - 128) + (8 + (i 1 : ℕ) - 128); omega)) (h1.trans rfl)

theorem sv_old (a0 : FVec Ideal S9472x11776 .bf16) (a2 : FVec Ideal S2x128x128x4x64 .f32) (a18 : FVec Ideal S256x128x256 .f32)
    (i : S256x128x256.Idx) (h : (i 0 : ℕ) < 128) : sv a0 a2 a18 i = a18 i := by
  pointwise [sv]
  rw [dif_pos h]

theorem sv_state (a0 : FVec Ideal S9472x11776 .bf16) (a2 : FVec Ideal S2x128x128x4x64 .f32) (a18 : FVec Ideal S256x128x256 .f32)
    (i : S256x128x256.Idx) (h : 128 ≤ (i 0 : ℕ)) (h' : (i 1 : ℕ) < 120) (j : S2x128x128x4x64.Idx) (h0 : (j 0 : ℕ) = 1) (h1 : (j 1 : ℕ) = (i 0 : ℕ) - 128)
    (h2 : (j 2 : ℕ) = 8 + (i 1 : ℕ)) (h3 : (j 3 : ℕ) = (i 2 : ℕ) / 64) (h4 : (j 4 : ℕ) = (i 2 : ℕ) % 64) : sv a0 a2 a18 i = a2 j := by
  pointwise [sv]
  rw [dif_neg (by omega), dif_pos (by omega)]
  blk_ext

theorem sv_new (a0 : FVec Ideal S9472x11776 .bf16) (a2 : FVec Ideal S2x128x128x4x64 .f32) (a18 : FVec Ideal S256x128x256 .f32)
    (i : S256x128x256.Idx) (h : 128 ≤ (i 0 : ℕ)) (h' : 120 ≤ (i 1 : ℕ)) (j : S9472x11776.Idx) (h0 : (j 0 : ℕ) = 8448 + 8 * ((i 0 : ℕ) - 128) + ((i 1 : ℕ) - 120))
    (h1 : (j 1 : ℕ) = 11520 + (i 2 : ℕ)) : sv a0 a2 a18 i = a0 j := by
  pointwise [sv]
  rw [dif_neg (by omega), dif_neg (by omega)]
  exact v2_at _ _ _ (h0.trans (by show _ = 8448 + 8 * ((i 0 : ℕ) - 128) + (8 + (i 1 : ℕ) - 128); omega)) (h1.trans rfl)

theorem slconv_old (a0 : FVec Ideal S9472x11776 .bf16) (a5 : FVec Ideal S2x128x3x1024 .f32) (a21 : FVec Ideal S256x3x1024 .f32) (i : S256x3x1024.Idx) (h : (i 0 : ℕ) < 128) : slconv a0 a5 a21 i = a21 i := by
  pointwise [slconv]
  rw [dif_pos h]

theorem v31_state (a0 : FVec Ideal S9472x11776 .bf16) (a5 : FVec Ideal S2x128x3x1024 .f32) (i : S128x11x1024.Idx) (h : (i 1 : ℕ) < 3) (j : S2x128x3x1024.Idx) (h0 : (j 0 : ℕ) = 1) (h1 : (j 1 : ℕ) = i 0) (h2 : (j 2 : ℕ) = i 1) (h3 : (j 3 : ℕ) = i 2) :
    v31 a0 a5 i = a5 j := by
  pointwise [v31]
  rw [dif_pos h]
  blk_ext

theorem v31_new (a0 : FVec Ideal S9472x11776 .bf16) (a5 : FVec Ideal S2x128x3x1024 .f32) (i : S128x11x1024.Idx) (h : 3 ≤ (i 1 : ℕ)) (j : S9472x11776.Idx) (h0 : (j 0 : ℕ) = 8448 + 8 * (i 0 : ℕ) + ((i 1 : ℕ) - 3)) (h1 : (j 1 : ℕ) = 3072 + (i 2 : ℕ)) :
    v31 a0 a5 i = a0 j := by
  pointwise [v31]
  rw [dif_neg (by omega)]
  exact v2_at _ _ _ (by blk_simp <;> omega) (by blk_simp <;> omega)

theorem slconv_new (a0 : FVec Ideal S9472x11776 .bf16) (a5 : FVec Ideal S2x128x3x1024 .f32) (a21 : FVec Ideal S256x3x1024 .f32) (i : S256x3x1024.Idx) (h : 128 ≤ (i 0 : ℕ)) (j : S9472x11776.Idx)
    (h0 : (j 0 : ℕ) = 8448 + 8 * ((i 0 : ℕ) - 128) + (5 + (i 1 : ℕ))) (h1 : (j 1 : ℕ) = 3072 + (i 2 : ℕ)) : slconv a0 a5 a21 i = a0 j := by
  pointwise [slconv]
  rw [dif_neg (by omega)]
  exact v31_new _ _ _ (by show 3 ≤ 8 + (i 1 : ℕ); omega) _ (h0.trans (by show _ = 8448 + 8 * ((i 0 : ℕ) - 128) + (8 + (i 1 : ℕ) - 3); omega)) (h1.trans rfl)

theorem sconv_old (a0 : FVec Ideal S9472x11776 .bf16) (a4 : FVec Ideal S2x128x30x1024 .f32) (a20 : FVec Ideal S256x30x1024 .f32) (i : S256x30x1024.Idx) (h : (i 0 : ℕ) < 128) : sconv a0 a4 a20 i = a20 i := by
  pointwise [sconv]
  rw [dif_pos h]

theorem sconv_state (a0 : FVec Ideal S9472x11776 .bf16) (a4 : FVec Ideal S2x128x30x1024 .f32) (a20 : FVec Ideal S256x30x1024 .f32) (i : S256x30x1024.Idx) (h : 128 ≤ (i 0 : ℕ)) (h' : (i 1 : ℕ) < 22)
    (j : S2x128x30x1024.Idx) (h0 : (j 0 : ℕ) = 1) (h1 : (j 1 : ℕ) = (i 0 : ℕ) - 128) (h2 : (j 2 : ℕ) = 8 + (i 1 : ℕ)) (h3 : (j 3 : ℕ) = i 2) : sconv a0 a4 a20 i = a4 j := by
  pointwise [sconv]
  rw [dif_neg (by omega), dif_pos (by omega)]
  blk_ext

theorem sconv_new (a0 : FVec Ideal S9472x11776 .bf16) (a4 : FVec Ideal S2x128x30x1024 .f32) (a20 : FVec Ideal S256x30x1024 .f32) (i : S256x30x1024.Idx) (h : 128 ≤ (i 0 : ℕ)) (h' : 22 ≤ (i 1 : ℕ))
    (j j' : S9472x11776.Idx) (h0 : (j 0 : ℕ) = 8448 + 8 * ((i 0 : ℕ) - 128) + ((i 1 : ℕ) - 22)) (h1 : (j 1 : ℕ) = 1024 + (i 2 : ℕ))
    (h0' : (j' 0 : ℕ) = 8448 + 8 * ((i 0 : ℕ) - 128) + ((i 1 : ℕ) - 22)) (h1' : (j' 1 : ℕ) = 2048 + (i 2 : ℕ)) : sconv a0 a4 a20 i = (a0 j : EReal) * Ideal.div 1 (1 + Ideal.exp (-(a0 j' : EReal))) := by
  pointwise [sconv]
  rw [dif_neg (by omega), dif_neg (by omega)]
  rw [v2_at a0 _ j (h0.trans (by show _ = 8448 + 8 * ((i 0 : ℕ) - 128) + (8 + (i 1 : ℕ) - 30); omega)) (h1.trans rfl),
    v2_at a0 _ j' (h0'.trans (by show _ = 8448 + 8 * ((i 0 : ℕ) - 128) + (8 + (i 1 : ℕ) - 30); omega)) (h1'.trans rfl)]

end Cert.SampleRefIdeal.State
-- ==== Proof.SampleKv.lean ====
/- The states the sample branches' kernel leaves: keys, values and the two convolutions' inputs. -/
module

public import proofs.«01_k».proof.Proof.SampleWords
public import proofs.«01_k».proof.Proof.SampleBlocks
public import proofs.«01_k».proof.Proof.StateAt
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open scoped BigOperators

open Idealize.ShloMosaic.Pipeline (Dat)

namespace Cert.SampleIdeal.Point

open Cert.SampleIdeal Cert.SampleIdeal.Gen Cert.SampleIdeal.Blocks Cert.SampleIdeal.Words
open Cert.SampleRefIdeal.State (sk sv sconv slconv sk_old sk_state sk_new sv_old sv_state sv_new sconv_old sconv_state sconv_new slconv_old slconv_new)

variable (m : (ℓ : Loc nD τ sig) → Buf (Elt Ideal) ℓ)

/-- A buffer whose pieces all are pieces of one array, read where they cover it. -/
theorem canon_of_pieces {s : Shape} {e : EltTy} (G : s.Idx → Elt Ideal e) (L : List (View.Piece (Elt Ideal) s e)) (h : View.PiecesOf G L) (y : s.Idx)
    (hc : ∃ p ∈ L, y ∈ p.1.set) : View.canon L y = G y := by
  have t := View.canon_append_of_piecesOf G [] L h y hc
  rwa [List.append_nil] at t

theorem v5_at (c : Dev nD) (arg3 : Memref sig .tc .vmem S64x256 .bf16) (harg3 : arg3.IsWhole) (v : FVec Ideal S64x256 .bf16) (x : S8x8x256.Idx) (j : S64x256.Idx)
    (h0 : (j 0 : ℕ) = 8 * (x 0 : ℕ) + (x 1 : ℕ)) (h1 : (j 1 : ℕ) = (x 2 : ℕ)) : (kernelRun0_A.sl.v5 (F := Ideal) c arg3 harg3 v) x = v j := by
  have b0 : (x 0 : ℕ) < 8 := (x 0).isLt
  have b1 : (x 1 : ℕ) < 8 := (x 1).isLt
  have e : j = ix2 ⟨(x 0 : ℕ) * 8 + (x 1 : ℕ), by omega⟩ (x 2) := by
    refine funext fun d => Fin.ext ?_
    fin_cases d
    · exact h0.trans (by rw [Nat.mul_comm]; rfl)
    · exact h1
  rw [e]
  unfold kernelRun0_A.sl.v5 kernelRun0_A.sl.v4
  frame_open
  frame_out
  pointwise []

theorem v8_at (c : Dev nD) (arg4 : Memref sig .tc .vmem S64x256 .bf16) (harg4 : arg4.IsWhole) (v : FVec Ideal S64x256 .bf16) (x : S8x8x256.Idx) (j : S64x256.Idx)
    (h0 : (j 0 : ℕ) = 8 * (x 0 : ℕ) + (x 1 : ℕ)) (h1 : (j 1 : ℕ) = (x 2 : ℕ)) : (kernelRun0_A.sl.v8 (F := Ideal) c arg4 harg4 v) x = v j := by
  have b0 : (x 0 : ℕ) < 8 := (x 0).isLt
  have b1 : (x 1 : ℕ) < 8 := (x 1).isLt
  have e : j = ix2 ⟨(x 0 : ℕ) * 8 + (x 1 : ℕ), by omega⟩ (x 2) := by
    refine funext fun d => Fin.ext ?_
    fin_cases d
    · exact h0.trans (by rw [Nat.mul_comm]; rfl)
    · exact h1
  rw [e]
  unfold kernelRun0_A.sl.v8 kernelRun0_A.sl.v7
  frame_open
  frame_out
  pointwise []

theorem v13_at (c : Dev nD) (arg5 : Memref sig .tc .vmem S8x128x256 .f32) (harg5 : arg5.IsWhole) (v : FVec Ideal S8x128x256 .f32) (x : S8x120x256.Idx) (j : S8x128x256.Idx)
    (h0 : (j 0 : ℕ) = (x 0 : ℕ)) (h1 : (j 1 : ℕ) = 8 + (x 1 : ℕ)) (h2 : (j 2 : ℕ) = (x 2 : ℕ)) : (kernelRun0_A.sl.v13 (F := Ideal) c arg5 harg5 v) x = v j := by
  have b1 : (x 1 : ℕ) < 120 := (x 1).isLt
  have e : j = ix3 (x 0) ⟨8 + (x 1 : ℕ), by omega⟩ (x 2) := by
    refine funext fun d => Fin.ext ?_
    fin_cases d
    · exact h0
    · exact h1
    · exact h2
  rw [e]
  unfold kernelRun0_A.sl.v13 kernelRun0_A.sl.v10
  frame_open
  frame_out
  pointwise []

theorem v16_at (c : Dev nD) (arg6 : Memref sig .tc .vmem S8x128x256 .f32) (harg6 : arg6.IsWhole) (v : FVec Ideal S8x128x256 .f32) (x : S8x120x256.Idx) (j : S8x128x256.Idx)
    (h0 : (j 0 : ℕ) = (x 0 : ℕ)) (h1 : (j 1 : ℕ) = 8 + (x 1 : ℕ)) (h2 : (j 2 : ℕ) = (x 2 : ℕ)) : (kernelRun0_A.sl.v16 (F := Ideal) c arg6 harg6 v) x = v j := by
  have b1 : (x 1 : ℕ) < 120 := (x 1).isLt
  have e : j = ix3 (x 0) ⟨8 + (x 1 : ℕ), by omega⟩ (x 2) := by
    refine funext fun d => Fin.ext ?_
    fin_cases d
    · exact h0
    · exact h1
    · exact h2
  rw [e]
  unfold kernelRun0_A.sl.v16 kernelRun0_A.sl.v12
  frame_open
  frame_out
  pointwise []

/-- Window 25's block at a grid point, by the reference. -/
def G25 (c : Dev nD) (t : Fin cfg0.N) : FVec Ideal S8x128x256 .f32 := fun y =>
  sk (m ((c : Thread nD τ).loc main_arg0)) (m ((c : Thread nD τ).loc main_arg2)) (m ((c : Thread nD τ).loc main_arg18)) (ix3 ⟨128 + 8 * t.val + (y 0 : ℕ), by have := lt16 t; have b : (y 0 : ℕ) < 8 := (y 0).isLt; omega⟩ (y 1) (y 2))

theorem piece25a (c : Dev nD) (t : Fin cfg0.N) (x : S8x8x256.Idx) (y : S8x128x256.Idx) (h0 : (y 0 : ℕ) = (x 0 : ℕ)) (h1 : (y 1 : ℕ) = 120 + (x 1 : ℕ)) (h2 : (y 2 : ℕ) = (x 2 : ℕ)) :
    (kernelRun0_A.sl.v5 (F := Ideal) c (ms0_2 t) (hs0_2 t) (iblk m c 2 t)) x = G25 m c t y := by
  have := lt16 t
  have b0 : (x 0 : ℕ) < 8 := (x 0).isLt
  have b1 : (x 1 : ℕ) < 8 := (x 1).isLt
  have b2 : (x 2 : ℕ) < 256 := (x 2).isLt
  refine (v5_at c _ _ _ x (ix2 ⟨8 * (x 0 : ℕ) + (x 1 : ℕ), by omega⟩ (x 2)) rfl rfl).trans ?_
  refine (x2 m c t _ (ix2 ⟨8448 + 64 * t.val + (8 * (x 0 : ℕ) + (x 1 : ℕ)), by omega⟩ ⟨11264 + (x 2 : ℕ), by omega⟩) rfl rfl).trans ?_
  refine (sk_new _ _ _ _ ?_ ?_ _ ?_ ?_).symm
  · show 128 ≤ 128 + 8 * t.val + (y 0 : ℕ)
    omega
  · show 120 ≤ (y 1 : ℕ)
    omega
  · show 8448 + 64 * t.val + (8 * (x 0 : ℕ) + (x 1 : ℕ)) = 8448 + 8 * (128 + 8 * t.val + (y 0 : ℕ) - 128) + ((y 1 : ℕ) - 120)
    omega
  · show 11264 + (x 2 : ℕ) = 11264 + (y 2 : ℕ)
    omega

theorem piece25b (c : Dev nD) (t : Fin cfg0.N) (x : S8x120x256.Idx) (y : S8x128x256.Idx) (h0 : (y 0 : ℕ) = (x 0 : ℕ)) (h1 : (y 1 : ℕ) = (x 1 : ℕ)) (h2 : (y 2 : ℕ) = (x 2 : ℕ)) :
    (kernelRun0_A.sl.v13 (F := Ideal) c (ms0_4 t) (hs0_4 t) (iblk m c 4 t)) x = G25 m c t y := by
  have := lt16 t
  have b0 : (x 0 : ℕ) < 8 := (x 0).isLt
  have b1 : (x 1 : ℕ) < 120 := (x 1).isLt
  have b2 : (x 2 : ℕ) < 256 := (x 2).isLt
  refine (v13_at c _ _ _ x (ix3 (x 0) ⟨8 + (x 1 : ℕ), by omega⟩ (x 2)) rfl rfl rfl).trans ?_
  refine (x4 m c t _ (ix5 1 ⟨8 * t.val + (x 0 : ℕ), by omega⟩ ⟨8 + (x 1 : ℕ), by omega⟩ ⟨(x 2 : ℕ) / 64, by omega⟩ ⟨(x 2 : ℕ) % 64, by omega⟩) rfl rfl rfl rfl rfl).trans ?_
  refine (sk_state _ _ _ _ ?_ ?_ _ rfl ?_ ?_ ?_ ?_).symm
  · show 128 ≤ 128 + 8 * t.val + (y 0 : ℕ)
    omega
  · show (y 1 : ℕ) < 120
    omega
  · show 8 * t.val + (x 0 : ℕ) = 128 + 8 * t.val + (y 0 : ℕ) - 128
    omega
  · show 8 + (x 1 : ℕ) = 8 + (y 1 : ℕ)
    omega
  · show (x 2 : ℕ) / 64 = (y 2 : ℕ) / 64
    omega
  · show (x 2 : ℕ) % 64 = (y 2 : ℕ) % 64
    omega

set_option maxHeartbeats 4000000 in
theorem blk25 (c : Dev nD) (t : Fin cfg0.N) : (dats m 0 c).after 25 t = G25 m c t := by
  rw [after0_25]
  unfold outsAt0
  dsimp only
  unfold out0_A_25
  unfold kernelRun0_A
  dsimp only
  rw [View.read_writes_junk_eq_canon]
  funext y
  refine canon_of_pieces (s := S8x128x256) (e := .f32) (G25 m c t) _ ?_ y ?_
  · refine ⟨fun (x : S8x8x256.Idx) => ?_, fun (x : S8x120x256.Idx) => ?_, trivial⟩
    · exact piece25a m c t x _ (by rw [emb_at]; exact Nat.zero_add _) (by rw [emb_at]; rfl) (by rw [emb_at]; exact Nat.zero_add _)
    · exact piece25b m c t x _ (by rw [emb_at]; exact Nat.zero_add _) (by rw [emb_at]; exact Nat.zero_add _) (by rw [emb_at]; exact Nat.zero_add _)
  · have h0 : (y 0 : ℕ) < 8 := (y 0).isLt
    have h1 : (y 1 : ℕ) < 128 := (y 1).isLt
    have h2 : (y 2 : ℕ) < 256 := (y 2).isLt
    simp [Rect.mem_set_unit, Fin.forall_fin_succ]
    omega

theorem emb25 (t : Fin cfg0.N) (y : ((cfg0.win 25).xblock (cfg0.grid.coords t)).Idx) :
    (((cfg0.win 25).blk t).view.emb y 0 : ℕ) = 128 + 8 * t.val + (y 0 : ℕ) ∧ (((cfg0.win 25).blk t).view.emb y 1 : ℕ) = (y 1 : ℕ)
      ∧ (((cfg0.win 25).blk t).view.emb y 2 : ℕ) = (y 2 : ℕ) := by
  refine ⟨?_, ?_, ?_⟩
  · blk_simp [idx t]
    omega
  · blk_simp [idx t]
  · blk_simp [idx t]

set_option maxHeartbeats 4000000 in
/-- The whole result: the old half kept, the new half by the reference. -/
theorem final25 (c : Dev nD) : (dats m 0 c).arrAt 25 cfg0.N = sk (m ((c : Thread nD τ).loc main_arg0)) (m ((c : Thread nD τ).loc main_arg2)) (m ((c : Thread nD τ).loc main_arg18)) := by
  have hw : (dats m 0 c).arrAt 25 cfg0.N = fun i => if 128 ≤ (i 0 : ℕ) then sk (m ((c : Thread nD τ).loc main_arg0)) (m ((c : Thread nD τ).loc main_arg2)) (m ((c : Thread nD τ).loc main_arg18)) i else V m c main_v64_1 i := by
    refine (dats m 0 c).arrAt_eq_of_coversWhere 25 _ (fun β => 16 ≤ β 0) (by decide +kernel) (fun t hf y => ?_) (fun j => by blk_simp [Pipeline.Window.cell_apply]; omega)
    refine Eq.trans (congrFun (blk25 m c t) ((cfg0.win 25).xinj (cfg0.grid.coords t) y)) ?_
    have ht := lt16 t
    unfold G25
    refine congrArg (sk (m ((c : Thread nD τ).loc main_arg0)) (m ((c : Thread nD τ).loc main_arg2)) (m ((c : Thread nD τ).loc main_arg18))) (funext fun d => Fin.ext ?_)
    fin_cases d
    · refine Eq.trans ?_ (emb25 t y).1.symm
      rfl
    · refine Eq.trans ?_ (emb25 t y).2.1.symm
      rfl
    · refine Eq.trans ?_ (emb25 t y).2.2.symm
      rfl
  rw [hw]
  funext i
  split
  · rfl
  · exact (congrFun (V_v64_1 m c) i).trans (sk_old _ _ _ i (by omega)).symm

/-- Window 26's block at a grid point, by the reference. -/
def G26 (c : Dev nD) (t : Fin cfg0.N) : FVec Ideal S8x128x256 .f32 := fun y =>
  sv (m ((c : Thread nD τ).loc main_arg0)) (m ((c : Thread nD τ).loc main_arg3)) (m ((c : Thread nD τ).loc main_arg19)) (ix3 ⟨128 + 8 * t.val + (y 0 : ℕ), by have := lt16 t; have b : (y 0 : ℕ) < 8 := (y 0).isLt; omega⟩ (y 1) (y 2))

theorem piece26a (c : Dev nD) (t : Fin cfg0.N) (x : S8x8x256.Idx) (y : S8x128x256.Idx) (h0 : (y 0 : ℕ) = (x 0 : ℕ)) (h1 : (y 1 : ℕ) = 120 + (x 1 : ℕ)) (h2 : (y 2 : ℕ) = (x 2 : ℕ)) :
    (kernelRun0_A.sl.v8 (F := Ideal) c (ms0_3 t) (hs0_3 t) (iblk m c 3 t)) x = G26 m c t y := by
  have := lt16 t
  have b0 : (x 0 : ℕ) < 8 := (x 0).isLt
  have b1 : (x 1 : ℕ) < 8 := (x 1).isLt
  have b2 : (x 2 : ℕ) < 256 := (x 2).isLt
  refine (v8_at c _ _ _ x (ix2 ⟨8 * (x 0 : ℕ) + (x 1 : ℕ), by omega⟩ (x 2)) rfl rfl).trans ?_
  refine (x3 m c t _ (ix2 ⟨8448 + 64 * t.val + (8 * (x 0 : ℕ) + (x 1 : ℕ)), by omega⟩ ⟨11520 + (x 2 : ℕ), by omega⟩) rfl rfl).trans ?_
  refine (sv_new _ _ _ _ ?_ ?_ _ ?_ ?_).symm
  · show 128 ≤ 128 + 8 * t.val + (y 0 : ℕ)
    omega
  · show 120 ≤ (y 1 : ℕ)
    omega
  · show 8448 + 64 * t.val + (8 * (x 0 : ℕ) + (x 1 : ℕ)) = 8448 + 8 * (128 + 8 * t.val + (y 0 : ℕ) - 128) + ((y 1 : ℕ) - 120)
    omega
  · show 11520 + (x 2 : ℕ) = 11520 + (y 2 : ℕ)
    omega

theorem piece26b (c : Dev nD) (t : Fin cfg0.N) (x : S8x120x256.Idx) (y : S8x128x256.Idx) (h0 : (y 0 : ℕ) = (x 0 : ℕ)) (h1 : (y 1 : ℕ) = (x 1 : ℕ)) (h2 : (y 2 : ℕ) = (x 2 : ℕ)) :
    (kernelRun0_A.sl.v16 (F := Ideal) c (ms0_5 t) (hs0_5 t) (iblk m c 5 t)) x = G26 m c t y := by
  have := lt16 t
  have b0 : (x 0 : ℕ) < 8 := (x 0).isLt
  have b1 : (x 1 : ℕ) < 120 := (x 1).isLt
  have b2 : (x 2 : ℕ) < 256 := (x 2).isLt
  refine (v16_at c _ _ _ x (ix3 (x 0) ⟨8 + (x 1 : ℕ), by omega⟩ (x 2)) rfl rfl rfl).trans ?_
  refine (x5 m c t _ (ix5 1 ⟨8 * t.val + (x 0 : ℕ), by omega⟩ ⟨8 + (x 1 : ℕ), by omega⟩ ⟨(x 2 : ℕ) / 64, by omega⟩ ⟨(x 2 : ℕ) % 64, by omega⟩) rfl rfl rfl rfl rfl).trans ?_
  refine (sv_state _ _ _ _ ?_ ?_ _ rfl ?_ ?_ ?_ ?_).symm
  · show 128 ≤ 128 + 8 * t.val + (y 0 : ℕ)
    omega
  · show (y 1 : ℕ) < 120
    omega
  · show 8 * t.val + (x 0 : ℕ) = 128 + 8 * t.val + (y 0 : ℕ) - 128
    omega
  · show 8 + (x 1 : ℕ) = 8 + (y 1 : ℕ)
    omega
  · show (x 2 : ℕ) / 64 = (y 2 : ℕ) / 64
    omega
  · show (x 2 : ℕ) % 64 = (y 2 : ℕ) % 64
    omega

set_option maxHeartbeats 4000000 in
theorem blk26 (c : Dev nD) (t : Fin cfg0.N) : (dats m 0 c).after 26 t = G26 m c t := by
  rw [after0_26]
  unfold outsAt0
  dsimp only
  unfold out0_A_26
  unfold kernelRun0_A
  dsimp only
  rw [View.read_writes_junk_eq_canon]
  funext y
  refine canon_of_pieces (s := S8x128x256) (e := .f32) (G26 m c t) _ ?_ y ?_
  · refine ⟨fun (x : S8x8x256.Idx) => ?_, fun (x : S8x120x256.Idx) => ?_, trivial⟩
    · exact piece26a m c t x _ (by rw [emb_at]; exact Nat.zero_add _) (by rw [emb_at]; rfl) (by rw [emb_at]; exact Nat.zero_add _)
    · exact piece26b m c t x _ (by rw [emb_at]; exact Nat.zero_add _) (by rw [emb_at]; exact Nat.zero_add _) (by rw [emb_at]; exact Nat.zero_add _)
  · have h0 : (y 0 : ℕ) < 8 := (y 0).isLt
    have h1 : (y 1 : ℕ) < 128 := (y 1).isLt
    have h2 : (y 2 : ℕ) < 256 := (y 2).isLt
    simp [Rect.mem_set_unit, Fin.forall_fin_succ]
    omega

theorem emb26 (t : Fin cfg0.N) (y : ((cfg0.win 26).xblock (cfg0.grid.coords t)).Idx) :
    (((cfg0.win 26).blk t).view.emb y 0 : ℕ) = 128 + 8 * t.val + (y 0 : ℕ) ∧ (((cfg0.win 26).blk t).view.emb y 1 : ℕ) = (y 1 : ℕ)
      ∧ (((cfg0.win 26).blk t).view.emb y 2 : ℕ) = (y 2 : ℕ) := by
  refine ⟨?_, ?_, ?_⟩
  · blk_simp [idx t]
    omega
  · blk_simp [idx t]
  · blk_simp [idx t]

set_option maxHeartbeats 4000000 in
/-- The whole result: the old half kept, the new half by the reference. -/
theorem final26 (c : Dev nD) : (dats m 0 c).arrAt 26 cfg0.N = sv (m ((c : Thread nD τ).loc main_arg0)) (m ((c : Thread nD τ).loc main_arg3)) (m ((c : Thread nD τ).loc main_arg19)) := by
  have hw : (dats m 0 c).arrAt 26 cfg0.N = fun i => if 128 ≤ (i 0 : ℕ) then sv (m ((c : Thread nD τ).loc main_arg0)) (m ((c : Thread nD τ).loc main_arg3)) (m ((c : Thread nD τ).loc main_arg19)) i else V m c main_v64_2 i := by
    refine (dats m 0 c).arrAt_eq_of_coversWhere 26 _ (fun β => 16 ≤ β 0) (by decide +kernel) (fun t hf y => ?_) (fun j => by blk_simp [Pipeline.Window.cell_apply]; omega)
    refine Eq.trans (congrFun (blk26 m c t) ((cfg0.win 26).xinj (cfg0.grid.coords t) y)) ?_
    have ht := lt16 t
    unfold G26
    refine congrArg (sv (m ((c : Thread nD τ).loc main_arg0)) (m ((c : Thread nD τ).loc main_arg3)) (m ((c : Thread nD τ).loc main_arg19))) (funext fun d => Fin.ext ?_)
    fin_cases d
    · refine Eq.trans ?_ (emb26 t y).1.symm
      rfl
    · refine Eq.trans ?_ (emb26 t y).2.1.symm
      rfl
    · refine Eq.trans ?_ (emb26 t y).2.2.symm
      rfl
  rw [hw]
  funext i
  split
  · rfl
  · exact (congrFun (V_v64_2 m c) i).trans (sv_old _ _ _ i (by omega)).symm

end Cert.SampleIdeal.Point
-- ==== Proof.SampleIn.lean ====
/- The states the sample branches' kernel leaves: keys, values and the two convolutions' inputs. -/
module

public import proofs.«01_k».proof.Proof.SampleWords
public import proofs.«01_k».proof.Proof.SampleBlocks
public import proofs.«01_k».proof.Proof.StateAt
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open scoped BigOperators

open Idealize.ShloMosaic.Pipeline (Dat)

namespace Cert.SampleIdeal.Point

open Cert.SampleIdeal Cert.SampleIdeal.Gen Cert.SampleIdeal.Blocks Cert.SampleIdeal.Words
open Cert.SampleRefIdeal.State (sk sv sconv slconv sk_old sk_state sk_new sv_old sv_state sv_new sconv_old sconv_state sconv_new slconv_old slconv_new)

variable (m : (ℓ : Loc nD τ sig) → Buf (Elt Ideal) ℓ)

theorem load0 (c : Dev nD) (arg7 : Memref sig .tc .vmem S64x1024 .bf16) (harg7 : arg7.IsWhole) (arg8 : Memref sig .tc .vmem S64x1024 .bf16) (harg8 : arg8.IsWhole) (arg9 : Memref sig .tc .vmem S8x30x1024 .f32) (harg9 : arg9.IsWhole) (x6 : FVec Ideal S64x1024 .bf16) (x7 : FVec Ideal S64x1024 .bf16) (x8 : FVec Ideal S8x30x1024 .f32) (v : View sig .tc .vmem S8x40x1024 .f32) (B : Rect S8x40x1024) :
    v.readCov (kernelRun0_A.sl.HS0_24 (F := Ideal) c arg7 harg7 arg8 harg8 arg9 harg9 x6 x7 x8) B.toLoadRect = View.ld (cext x6 x7 x8) B := by
  rw [View.readCov_eq_canon', canon0]

theorem loadL (c : Dev nD) (arg14 : Memref sig .tc .vmem S64x1024 .bf16) (harg14 : arg14.IsWhole) (arg16 : Memref sig .tc .vmem S8x3x1024 .f32) (harg16 : arg16.IsWhole) (x13 : FVec Ideal S64x1024 .bf16) (x15 : FVec Ideal S8x3x1024 .f32) (v : View sig .tc .vmem S8x16x1024 .f32) (B : Rect S8x16x1024) (h : 5 ≤ B.off 1) :
    v.readCov (kernelRun0_A.sl.HS2_16 (F := Ideal) c arg14 harg14 arg16 harg16 x13 x15) B.toLoadRect = View.ld (lext x13 x15) B := by
  rw [View.readCov_eq_canon']
  funext j
  exact canon2 c arg14 harg14 arg16 harg16 x13 x15 (B.emb j) (le_trans h (Nat.le_add_right _ _))

theorem conv0_at (c : Dev nD) (arg7 : Memref sig .tc .vmem S64x1024 .bf16) (harg7 : arg7.IsWhole) (arg8 : Memref sig .tc .vmem S64x1024 .bf16) (harg8 : arg8.IsWhole) (arg9 : Memref sig .tc .vmem S8x30x1024 .f32) (harg9 : arg9.IsWhole) (arg38 : Memref sig .tc .vmem S8x40x1024 .f32) (x6 : FVec Ideal S64x1024 .bf16) (x7 : FVec Ideal S64x1024 .bf16) (x8 : FVec Ideal S8x30x1024 .f32) (x : S1x30x1024.Idx) (g : Fin 8) (hg : g.val = 0) : (kernelRun0_A.sl.v809 (F := Ideal) c arg7 harg7 arg8 harg8 arg9 harg9 arg38 x6 x7 x8) x = cext x6 x7 x8 (ix3 g ⟨10 + (x 1 : ℕ), by have b : (x 1 : ℕ) < 30 := (x 1).isLt; omega⟩ (x 2)) := by
  have eg : g = 0 := Fin.ext hg
  rw [eg]
  unfold kernelRun0_A.sl.v809 kernelRun0_A.sl.v806 kernelRun0_A.sl.v805
  rw [load0]
  generalize cext x6 x7 x8 = e
  pointwise []

theorem conv1_at (c : Dev nD) (arg7 : Memref sig .tc .vmem S64x1024 .bf16) (harg7 : arg7.IsWhole) (arg8 : Memref sig .tc .vmem S64x1024 .bf16) (harg8 : arg8.IsWhole) (arg9 : Memref sig .tc .vmem S8x30x1024 .f32) (harg9 : arg9.IsWhole) (arg38 : Memref sig .tc .vmem S8x40x1024 .f32) (x6 : FVec Ideal S64x1024 .bf16) (x7 : FVec Ideal S64x1024 .bf16) (x8 : FVec Ideal S8x30x1024 .f32) (x : S1x30x1024.Idx) (g : Fin 8) (hg : g.val = 1) : (kernelRun0_A.sl.v1044 (F := Ideal) c arg7 harg7 arg8 harg8 arg9 harg9 arg38 x6 x7 x8) x = cext x6 x7 x8 (ix3 g ⟨10 + (x 1 : ℕ), by have b : (x 1 : ℕ) < 30 := (x 1).isLt; omega⟩ (x 2)) := by
  have eg : g = 1 := Fin.ext hg
  rw [eg]
  unfold kernelRun0_A.sl.v1044 kernelRun0_A.sl.v1041 kernelRun0_A.sl.v1040
  rw [load0]
  generalize cext x6 x7 x8 = e
  pointwise []

theorem conv2_at (c : Dev nD) (arg7 : Memref sig .tc .vmem S64x1024 .bf16) (harg7 : arg7.IsWhole) (arg8 : Memref sig .tc .vmem S64x1024 .bf16) (harg8 : arg8.IsWhole) (arg9 : Memref sig .tc .vmem S8x30x1024 .f32) (harg9 : arg9.IsWhole) (arg38 : Memref sig .tc .vmem S8x40x1024 .f32) (x6 : FVec Ideal S64x1024 .bf16) (x7 : FVec Ideal S64x1024 .bf16) (x8 : FVec Ideal S8x30x1024 .f32) (x : S1x30x1024.Idx) (g : Fin 8) (hg : g.val = 2) : (kernelRun0_A.sl.v1279 (F := Ideal) c arg7 harg7 arg8 harg8 arg9 harg9 arg38 x6 x7 x8) x = cext x6 x7 x8 (ix3 g ⟨10 + (x 1 : ℕ), by have b : (x 1 : ℕ) < 30 := (x 1).isLt; omega⟩ (x 2)) := by
  have eg : g = 2 := Fin.ext hg
  rw [eg]
  unfold kernelRun0_A.sl.v1279 kernelRun0_A.sl.v1276 kernelRun0_A.sl.v1275
  rw [load0]
  generalize cext x6 x7 x8 = e
  pointwise []

theorem conv3_at (c : Dev nD) (arg7 : Memref sig .tc .vmem S64x1024 .bf16) (harg7 : arg7.IsWhole) (arg8 : Memref sig .tc .vmem S64x1024 .bf16) (harg8 : arg8.IsWhole) (arg9 : Memref sig .tc .vmem S8x30x1024 .f32) (harg9 : arg9.IsWhole) (arg38 : Memref sig .tc .vmem S8x40x1024 .f32) (x6 : FVec Ideal S64x1024 .bf16) (x7 : FVec Ideal S64x1024 .bf16) (x8 : FVec Ideal S8x30x1024 .f32) (x : S1x30x1024.Idx) (g : Fin 8) (hg : g.val = 3) : (kernelRun0_A.sl.v1514 (F := Ideal) c arg7 harg7 arg8 harg8 arg9 harg9 arg38 x6 x7 x8) x = cext x6 x7 x8 (ix3 g ⟨10 + (x 1 : ℕ), by have b : (x 1 : ℕ) < 30 := (x 1).isLt; omega⟩ (x 2)) := by
  have eg : g = 3 := Fin.ext hg
  rw [eg]
  unfold kernelRun0_A.sl.v1514 kernelRun0_A.sl.v1511 kernelRun0_A.sl.v1510
  rw [load0]
  generalize cext x6 x7 x8 = e
  pointwise []

theorem conv4_at (c : Dev nD) (arg7 : Memref sig .tc .vmem S64x1024 .bf16) (harg7 : arg7.IsWhole) (arg8 : Memref sig .tc .vmem S64x1024 .bf16) (harg8 : arg8.IsWhole) (arg9 : Memref sig .tc .vmem S8x30x1024 .f32) (harg9 : arg9.IsWhole) (arg38 : Memref sig .tc .vmem S8x40x1024 .f32) (x6 : FVec Ideal S64x1024 .bf16) (x7 : FVec Ideal S64x1024 .bf16) (x8 : FVec Ideal S8x30x1024 .f32) (x : S1x30x1024.Idx) (g : Fin 8) (hg : g.val = 4) : (kernelRun0_A.sl.v1749 (F := Ideal) c arg7 harg7 arg8 harg8 arg9 harg9 arg38 x6 x7 x8) x = cext x6 x7 x8 (ix3 g ⟨10 + (x 1 : ℕ), by have b : (x 1 : ℕ) < 30 := (x 1).isLt; omega⟩ (x 2)) := by
  have eg : g = 4 := Fin.ext hg
  rw [eg]
  unfold kernelRun0_A.sl.v1749 kernelRun0_A.sl.v1746 kernelRun0_A.sl.v1745
  rw [load0]
  generalize cext x6 x7 x8 = e
  pointwise []

theorem conv5_at (c : Dev nD) (arg7 : Memref sig .tc .vmem S64x1024 .bf16) (harg7 : arg7.IsWhole) (arg8 : Memref sig .tc .vmem S64x1024 .bf16) (harg8 : arg8.IsWhole) (arg9 : Memref sig .tc .vmem S8x30x1024 .f32) (harg9 : arg9.IsWhole) (arg38 : Memref sig .tc .vmem S8x40x1024 .f32) (x6 : FVec Ideal S64x1024 .bf16) (x7 : FVec Ideal S64x1024 .bf16) (x8 : FVec Ideal S8x30x1024 .f32) (x : S1x30x1024.Idx) (g : Fin 8) (hg : g.val = 5) : (kernelRun0_A.sl.v1984 (F := Ideal) c arg7 harg7 arg8 harg8 arg9 harg9 arg38 x6 x7 x8) x = cext x6 x7 x8 (ix3 g ⟨10 + (x 1 : ℕ), by have b : (x 1 : ℕ) < 30 := (x 1).isLt; omega⟩ (x 2)) := by
  have eg : g = 5 := Fin.ext hg
  rw [eg]
  unfold kernelRun0_A.sl.v1984 kernelRun0_A.sl.v1981 kernelRun0_A.sl.v1980
  rw [load0]
  generalize cext x6 x7 x8 = e
  pointwise []

theorem conv6_at (c : Dev nD) (arg7 : Memref sig .tc .vmem S64x1024 .bf16) (harg7 : arg7.IsWhole) (arg8 : Memref sig .tc .vmem S64x1024 .bf16) (harg8 : arg8.IsWhole) (arg9 : Memref sig .tc .vmem S8x30x1024 .f32) (harg9 : arg9.IsWhole) (arg38 : Memref sig .tc .vmem S8x40x1024 .f32) (x6 : FVec Ideal S64x1024 .bf16) (x7 : FVec Ideal S64x1024 .bf16) (x8 : FVec Ideal S8x30x1024 .f32) (x : S1x30x1024.Idx) (g : Fin 8) (hg : g.val = 6) : (kernelRun0_A.sl.v2219 (F := Ideal) c arg7 harg7 arg8 harg8 arg9 harg9 arg38 x6 x7 x8) x = cext x6 x7 x8 (ix3 g ⟨10 + (x 1 : ℕ), by have b : (x 1 : ℕ) < 30 := (x 1).isLt; omega⟩ (x 2)) := by
  have eg : g = 6 := Fin.ext hg
  rw [eg]
  unfold kernelRun0_A.sl.v2219 kernelRun0_A.sl.v2216 kernelRun0_A.sl.v2215
  rw [load0]
  generalize cext x6 x7 x8 = e
  pointwise []

theorem conv7_at (c : Dev nD) (arg7 : Memref sig .tc .vmem S64x1024 .bf16) (harg7 : arg7.IsWhole) (arg8 : Memref sig .tc .vmem S64x1024 .bf16) (harg8 : arg8.IsWhole) (arg9 : Memref sig .tc .vmem S8x30x1024 .f32) (harg9 : arg9.IsWhole) (arg38 : Memref sig .tc .vmem S8x40x1024 .f32) (x6 : FVec Ideal S64x1024 .bf16) (x7 : FVec Ideal S64x1024 .bf16) (x8 : FVec Ideal S8x30x1024 .f32) (x : S1x30x1024.Idx) (g : Fin 8) (hg : g.val = 7) : (kernelRun0_A.sl.v2454 (F := Ideal) c arg7 harg7 arg8 harg8 arg9 harg9 arg38 x6 x7 x8) x = cext x6 x7 x8 (ix3 g ⟨10 + (x 1 : ℕ), by have b : (x 1 : ℕ) < 30 := (x 1).isLt; omega⟩ (x 2)) := by
  have eg : g = 7 := Fin.ext hg
  rw [eg]
  unfold kernelRun0_A.sl.v2454 kernelRun0_A.sl.v2451 kernelRun0_A.sl.v2450
  rw [load0]
  generalize cext x6 x7 x8 = e
  pointwise []

theorem lconv0_at (c : Dev nD) (arg14 : Memref sig .tc .vmem S64x1024 .bf16) (harg14 : arg14.IsWhole) (arg16 : Memref sig .tc .vmem S8x3x1024 .f32) (harg16 : arg16.IsWhole) (arg40 : Memref sig .tc .vmem S8x16x1024 .f32) (x13 : FVec Ideal S64x1024 .bf16) (x15 : FVec Ideal S8x3x1024 .f32) (x : S1x3x1024.Idx) (g : Fin 8) (hg : g.val = 0) : (kernelRun0_A.sl.v2604 (F := Ideal) c arg14 harg14 arg16 harg16 arg40 x13 x15) x = lext x13 x15 (ix3 g ⟨13 + (x 1 : ℕ), by have b : (x 1 : ℕ) < 3 := (x 1).isLt; omega⟩ (x 2)) := by
  have eg : g = 0 := Fin.ext hg
  rw [eg]
  unfold kernelRun0_A.sl.v2604 kernelRun0_A.sl.v2601 kernelRun0_A.sl.v2600
  rw [loadL _ _ _ _ _ _ _ _ _ (by decide)]
  generalize lext x13 x15 = e
  pointwise []

theorem lconv1_at (c : Dev nD) (arg14 : Memref sig .tc .vmem S64x1024 .bf16) (harg14 : arg14.IsWhole) (arg16 : Memref sig .tc .vmem S8x3x1024 .f32) (harg16 : arg16.IsWhole) (arg40 : Memref sig .tc .vmem S8x16x1024 .f32) (x13 : FVec Ideal S64x1024 .bf16) (x15 : FVec Ideal S8x3x1024 .f32) (x : S1x3x1024.Idx) (g : Fin 8) (hg : g.val = 1) : (kernelRun0_A.sl.v2645 (F := Ideal) c arg14 harg14 arg16 harg16 arg40 x13 x15) x = lext x13 x15 (ix3 g ⟨13 + (x 1 : ℕ), by have b : (x 1 : ℕ) < 3 := (x 1).isLt; omega⟩ (x 2)) := by
  have eg : g = 1 := Fin.ext hg
  rw [eg]
  unfold kernelRun0_A.sl.v2645 kernelRun0_A.sl.v2642 kernelRun0_A.sl.v2641
  rw [loadL _ _ _ _ _ _ _ _ _ (by decide)]
  generalize lext x13 x15 = e
  pointwise []

theorem lconv2_at (c : Dev nD) (arg14 : Memref sig .tc .vmem S64x1024 .bf16) (harg14 : arg14.IsWhole) (arg16 : Memref sig .tc .vmem S8x3x1024 .f32) (harg16 : arg16.IsWhole) (arg40 : Memref sig .tc .vmem S8x16x1024 .f32) (x13 : FVec Ideal S64x1024 .bf16) (x15 : FVec Ideal S8x3x1024 .f32) (x : S1x3x1024.Idx) (g : Fin 8) (hg : g.val = 2) : (kernelRun0_A.sl.v2686 (F := Ideal) c arg14 harg14 arg16 harg16 arg40 x13 x15) x = lext x13 x15 (ix3 g ⟨13 + (x 1 : ℕ), by have b : (x 1 : ℕ) < 3 := (x 1).isLt; omega⟩ (x 2)) := by
  have eg : g = 2 := Fin.ext hg
  rw [eg]
  unfold kernelRun0_A.sl.v2686 kernelRun0_A.sl.v2683 kernelRun0_A.sl.v2682
  rw [loadL _ _ _ _ _ _ _ _ _ (by decide)]
  generalize lext x13 x15 = e
  pointwise []

theorem lconv3_at (c : Dev nD) (arg14 : Memref sig .tc .vmem S64x1024 .bf16) (harg14 : arg14.IsWhole) (arg16 : Memref sig .tc .vmem S8x3x1024 .f32) (harg16 : arg16.IsWhole) (arg40 : Memref sig .tc .vmem S8x16x1024 .f32) (x13 : FVec Ideal S64x1024 .bf16) (x15 : FVec Ideal S8x3x1024 .f32) (x : S1x3x1024.Idx) (g : Fin 8) (hg : g.val = 3) : (kernelRun0_A.sl.v2727 (F := Ideal) c arg14 harg14 arg16 harg16 arg40 x13 x15) x = lext x13 x15 (ix3 g ⟨13 + (x 1 : ℕ), by have b : (x 1 : ℕ) < 3 := (x 1).isLt; omega⟩ (x 2)) := by
  have eg : g = 3 := Fin.ext hg
  rw [eg]
  unfold kernelRun0_A.sl.v2727 kernelRun0_A.sl.v2724 kernelRun0_A.sl.v
  rw [loadL _ _ _ _ _ _ _ _ _ (by decide)]
  generalize lext x13 x15 = e
  pointwise []

theorem lconv4_at (c : Dev nD) (arg14 : Memref sig .tc .vmem S64x1024 .bf16) (harg14 : arg14.IsWhole) (arg16 : Memref sig .tc .vmem S8x3x1024 .f32) (harg16 : arg16.IsWhole) (arg40 : Memref sig .tc .vmem S8x16x1024 .f32) (x13 : FVec Ideal S64x1024 .bf16) (x15 : FVec Ideal S8x3x1024 .f32) (x : S1x3x1024.Idx) (g : Fin 8) (hg : g.val = 4) : (kernelRun0_A.sl.v2768 (F := Ideal) c arg14 harg14 arg16 harg16 arg40 x13 x15) x = lext x13 x15 (ix3 g ⟨13 + (x 1 : ℕ), by have b : (x 1 : ℕ) < 3 := (x 1).isLt; omega⟩ (x 2)) := by
  have eg : g = 4 := Fin.ext hg
  rw [eg]
  unfold kernelRun0_A.sl.v2768 kernelRun0_A.sl.v2765 kernelRun0_A.sl.v2764
  rw [loadL _ _ _ _ _ _ _ _ _ (by decide)]
  generalize lext x13 x15 = e
  pointwise []

theorem lconv5_at (c : Dev nD) (arg14 : Memref sig .tc .vmem S64x1024 .bf16) (harg14 : arg14.IsWhole) (arg16 : Memref sig .tc .vmem S8x3x1024 .f32) (harg16 : arg16.IsWhole) (arg40 : Memref sig .tc .vmem S8x16x1024 .f32) (x13 : FVec Ideal S64x1024 .bf16) (x15 : FVec Ideal S8x3x1024 .f32) (x : S1x3x1024.Idx) (g : Fin 8) (hg : g.val = 5) : (kernelRun0_A.sl.v2809 (F := Ideal) c arg14 harg14 arg16 harg16 arg40 x13 x15) x = lext x13 x15 (ix3 g ⟨13 + (x 1 : ℕ), by have b : (x 1 : ℕ) < 3 := (x 1).isLt; omega⟩ (x 2)) := by
  have eg : g = 5 := Fin.ext hg
  rw [eg]
  unfold kernelRun0_A.sl.v2809 kernelRun0_A.sl.v2806 kernelRun0_A.sl.v2805
  rw [loadL _ _ _ _ _ _ _ _ _ (by decide)]
  generalize lext x13 x15 = e
  pointwise []

theorem lconv6_at (c : Dev nD) (arg14 : Memref sig .tc .vmem S64x1024 .bf16) (harg14 : arg14.IsWhole) (arg16 : Memref sig .tc .vmem S8x3x1024 .f32) (harg16 : arg16.IsWhole) (arg40 : Memref sig .tc .vmem S8x16x1024 .f32) (x13 : FVec Ideal S64x1024 .bf16) (x15 : FVec Ideal S8x3x1024 .f32) (x : S1x3x1024.Idx) (g : Fin 8) (hg : g.val = 6) : (kernelRun0_A.sl.v2850 (F := Ideal) c arg14 harg14 arg16 harg16 arg40 x13 x15) x = lext x13 x15 (ix3 g ⟨13 + (x 1 : ℕ), by have b : (x 1 : ℕ) < 3 := (x 1).isLt; omega⟩ (x 2)) := by
  have eg : g = 6 := Fin.ext hg
  rw [eg]
  unfold kernelRun0_A.sl.v2850 kernelRun0_A.sl.v2847 kernelRun0_A.sl.v2846
  rw [loadL _ _ _ _ _ _ _ _ _ (by decide)]
  generalize lext x13 x15 = e
  pointwise []

theorem lconv7_at (c : Dev nD) (arg14 : Memref sig .tc .vmem S64x1024 .bf16) (harg14 : arg14.IsWhole) (arg16 : Memref sig .tc .vmem S8x3x1024 .f32) (harg16 : arg16.IsWhole) (arg40 : Memref sig .tc .vmem S8x16x1024 .f32) (x13 : FVec Ideal S64x1024 .bf16) (x15 : FVec Ideal S8x3x1024 .f32) (x : S1x3x1024.Idx) (g : Fin 8) (hg : g.val = 7) : (kernelRun0_A.sl.v2891 (F := Ideal) c arg14 harg14 arg16 harg16 arg40 x13 x15) x = lext x13 x15 (ix3 g ⟨13 + (x 1 : ℕ), by have b : (x 1 : ℕ) < 3 := (x 1).isLt; omega⟩ (x 2)) := by
  have eg : g = 7 := Fin.ext hg
  rw [eg]
  unfold kernelRun0_A.sl.v2891 kernelRun0_A.sl.v2888 kernelRun0_A.sl.v2887
  rw [loadL _ _ _ _ _ _ _ _ _ (by decide)]
  generalize lext x13 x15 = e
  pointwise []

/-- Window 28's block at a grid point, by the reference. -/
def G28 (c : Dev nD) (t : Fin cfg0.N) : FVec Ideal S8x30x1024 .f32 := fun y =>
  sconv (m ((c : Thread nD τ).loc main_arg0)) (m ((c : Thread nD τ).loc main_arg4)) (m ((c : Thread nD τ).loc main_arg20)) (ix3 ⟨128 + 8 * t.val + (y 0 : ℕ), by have := lt16 t; have b : (y 0 : ℕ) < 8 := (y 0).isLt; omega⟩ (y 1) (y 2))

theorem piece28 (c : Dev nD) (t : Fin cfg0.N) (x : S1x30x1024.Idx) (y : S8x30x1024.Idx) (g : Fin 8) (h0 : (y 0 : ℕ) = g.val) (h1 : (y 1 : ℕ) = (x 1 : ℕ)) (h2 : (y 2 : ℕ) = (x 2 : ℕ)) :
    cext (X0_6 m c t) (X0_7 m c t) (iblk m c 8 t) (ix3 g ⟨10 + (x 1 : ℕ), by have b : (x 1 : ℕ) < 30 := (x 1).isLt; omega⟩ (x 2)) = G28 m c t y := by
  have := lt16 t
  have b0 : g.val < 8 := g.isLt
  have b1 : (x 1 : ℕ) < 30 := (x 1).isLt
  have b2 : (x 2 : ℕ) < 1024 := (x 2).isLt
  by_cases hc : (x 1 : ℕ) < 22
  · refine (cext_state _ _ _ _ (ix3 g ⟨8 + (x 1 : ℕ), by omega⟩ (x 2)) ?_ ?_ rfl ?_ rfl).trans ?_
    · show 2 ≤ 10 + (x 1 : ℕ)
      omega
    · show 10 + (x 1 : ℕ) < 32
      omega
    · show 8 + (x 1 : ℕ) = 10 + (x 1 : ℕ) - 2
      omega
    refine (x8 m c t _ (ix4 1 ⟨8 * t.val + g.val, by omega⟩ ⟨8 + (x 1 : ℕ), by omega⟩ (x 2)) rfl rfl rfl rfl).trans ?_
    refine (sconv_state _ _ _ _ ?_ ?_ _ rfl ?_ ?_ ?_).symm
    · show 128 ≤ 128 + 8 * t.val + (y 0 : ℕ)
      omega
    · show (y 1 : ℕ) < 22
      omega
    · show 8 * t.val + g.val = 128 + 8 * t.val + (y 0 : ℕ) - 128
      omega
    · show 8 + (x 1 : ℕ) = 8 + (y 1 : ℕ)
      omega
    · exact h2.symm
  · refine (cext_new _ _ _ _ (ix2 ⟨8 * g.val + ((x 1 : ℕ) - 22), by omega⟩ (x 2)) ?_ ?_ rfl).trans ?_
    · show 32 ≤ 10 + (x 1 : ℕ)
      omega
    · show 8 * g.val + ((x 1 : ℕ) - 22) = 8 * g.val + (10 + (x 1 : ℕ) - 32)
      omega
    rw [x6 m c t _ (ix2 ⟨8448 + 64 * t.val + (8 * g.val + ((x 1 : ℕ) - 22)), by omega⟩ ⟨1024 + (x 2 : ℕ), by omega⟩) rfl rfl,
      x7 m c t _ (ix2 ⟨8448 + 64 * t.val + (8 * g.val + ((x 1 : ℕ) - 22)), by omega⟩ ⟨2048 + (x 2 : ℕ), by omega⟩) rfl rfl]
    refine (sconv_new _ _ _ _ ?_ ?_ _ _ ?_ ?_ ?_ ?_).symm
    · show 128 ≤ 128 + 8 * t.val + (y 0 : ℕ)
      omega
    · show 22 ≤ (y 1 : ℕ)
      omega
    · show 8448 + 64 * t.val + (8 * g.val + ((x 1 : ℕ) - 22)) = 8448 + 8 * (128 + 8 * t.val + (y 0 : ℕ) - 128) + ((y 1 : ℕ) - 22)
      omega
    · show 1024 + (x 2 : ℕ) = 1024 + (y 2 : ℕ)
      omega
    · show 8448 + 64 * t.val + (8 * g.val + ((x 1 : ℕ) - 22)) = 8448 + 8 * (128 + 8 * t.val + (y 0 : ℕ) - 128) + ((y 1 : ℕ) - 22)
      omega
    · show 2048 + (x 2 : ℕ) = 2048 + (y 2 : ℕ)
      omega

/-- Window 30's block at a grid point, by the reference. -/
def G30 (c : Dev nD) (t : Fin cfg0.N) : FVec Ideal S8x3x1024 .f32 := fun y =>
  slconv (m ((c : Thread nD τ).loc main_arg0)) (m ((c : Thread nD τ).loc main_arg5)) (m ((c : Thread nD τ).loc main_arg21)) (ix3 ⟨128 + 8 * t.val + (y 0 : ℕ), by have := lt16 t; have b : (y 0 : ℕ) < 8 := (y 0).isLt; omega⟩ (y 1) (y 2))

theorem piece30 (c : Dev nD) (t : Fin cfg0.N) (x : S1x3x1024.Idx) (y : S8x3x1024.Idx) (g : Fin 8) (h0 : (y 0 : ℕ) = g.val) (h1 : (y 1 : ℕ) = (x 1 : ℕ)) (h2 : (y 2 : ℕ) = (x 2 : ℕ)) :
    lext (X0_13 m c t) (iblk m c 15 t) (ix3 g ⟨13 + (x 1 : ℕ), by have b : (x 1 : ℕ) < 3 := (x 1).isLt; omega⟩ (x 2)) = G30 m c t y := by
  have := lt16 t
  have b0 : g.val < 8 := g.isLt
  have b1 : (x 1 : ℕ) < 3 := (x 1).isLt
  have b2 : (x 2 : ℕ) < 1024 := (x 2).isLt
  refine (lext_new _ _ _ (ix2 ⟨8 * g.val + (5 + (x 1 : ℕ)), by omega⟩ (x 2)) ?_ ?_ rfl).trans ?_
  · show 8 ≤ 13 + (x 1 : ℕ)
    omega
  · show 8 * g.val + (5 + (x 1 : ℕ)) = 8 * g.val + (13 + (x 1 : ℕ) - 8)
    omega
  refine (x13 m c t _ (ix2 ⟨8448 + 64 * t.val + (8 * g.val + (5 + (x 1 : ℕ))), by omega⟩ ⟨3072 + (x 2 : ℕ), by omega⟩) rfl rfl).trans ?_
  refine (slconv_new _ _ _ _ ?_ _ ?_ ?_).symm
  · show 128 ≤ 128 + 8 * t.val + (y 0 : ℕ)
    omega
  · show 8448 + 64 * t.val + (8 * g.val + (5 + (x 1 : ℕ))) = 8448 + 8 * (128 + 8 * t.val + (y 0 : ℕ) - 128) + (5 + (y 1 : ℕ))
    omega
  · show 3072 + (x 2 : ℕ) = 3072 + (y 2 : ℕ)
    omega

theorem piece28_0 (c : Dev nD) (t : Fin cfg0.N) (x : S1x30x1024.Idx) (y : S8x30x1024.Idx) (h0 : (y 0 : ℕ) = 0) (h1 : (y 1 : ℕ) = (x 1 : ℕ)) (h2 : (y 2 : ℕ) = (x 2 : ℕ)) :
    (kernelRun0_A.sl.v809 (F := Ideal) c (ms0_6 t) (hs0_6 t) (ms0_7 t) (hs0_7 t) (ms0_8 t) (hs0_8 t) scM0_0 (X0_6 m c t) (X0_7 m c t) (iblk m c 8 t)) x = G28 m c t y := by
  rw [conv0_at c (ms0_6 t) (hs0_6 t) (ms0_7 t) (hs0_7 t) (ms0_8 t) (hs0_8 t) scM0_0 (X0_6 m c t) (X0_7 m c t) (iblk m c 8 t) x 0 rfl]
  exact piece28 m c t x y 0 h0 h1 h2

theorem piece28_1 (c : Dev nD) (t : Fin cfg0.N) (x : S1x30x1024.Idx) (y : S8x30x1024.Idx) (h0 : (y 0 : ℕ) = 1) (h1 : (y 1 : ℕ) = (x 1 : ℕ)) (h2 : (y 2 : ℕ) = (x 2 : ℕ)) :
    (kernelRun0_A.sl.v1044 (F := Ideal) c (ms0_6 t) (hs0_6 t) (ms0_7 t) (hs0_7 t) (ms0_8 t) (hs0_8 t) scM0_0 (X0_6 m c t) (X0_7 m c t) (iblk m c 8 t)) x = G28 m c t y := by
  rw [conv1_at c (ms0_6 t) (hs0_6 t) (ms0_7 t) (hs0_7 t) (ms0_8 t) (hs0_8 t) scM0_0 (X0_6 m c t) (X0_7 m c t) (iblk m c 8 t) x 1 rfl]
  exact piece28 m c t x y 1 h0 h1 h2

theorem piece28_2 (c : Dev nD) (t : Fin cfg0.N) (x : S1x30x1024.Idx) (y : S8x30x1024.Idx) (h0 : (y 0 : ℕ) = 2) (h1 : (y 1 : ℕ) = (x 1 : ℕ)) (h2 : (y 2 : ℕ) = (x 2 : ℕ)) :
    (kernelRun0_A.sl.v1279 (F := Ideal) c (ms0_6 t) (hs0_6 t) (ms0_7 t) (hs0_7 t) (ms0_8 t) (hs0_8 t) scM0_0 (X0_6 m c t) (X0_7 m c t) (iblk m c 8 t)) x = G28 m c t y := by
  rw [conv2_at c (ms0_6 t) (hs0_6 t) (ms0_7 t) (hs0_7 t) (ms0_8 t) (hs0_8 t) scM0_0 (X0_6 m c t) (X0_7 m c t) (iblk m c 8 t) x 2 rfl]
  exact piece28 m c t x y 2 h0 h1 h2

theorem piece28_3 (c : Dev nD) (t : Fin cfg0.N) (x : S1x30x1024.Idx) (y : S8x30x1024.Idx) (h0 : (y 0 : ℕ) = 3) (h1 : (y 1 : ℕ) = (x 1 : ℕ)) (h2 : (y 2 : ℕ) = (x 2 : ℕ)) :
    (kernelRun0_A.sl.v1514 (F := Ideal) c (ms0_6 t) (hs0_6 t) (ms0_7 t) (hs0_7 t) (ms0_8 t) (hs0_8 t) scM0_0 (X0_6 m c t) (X0_7 m c t) (iblk m c 8 t)) x = G28 m c t y := by
  rw [conv3_at c (ms0_6 t) (hs0_6 t) (ms0_7 t) (hs0_7 t) (ms0_8 t) (hs0_8 t) scM0_0 (X0_6 m c t) (X0_7 m c t) (iblk m c 8 t) x 3 rfl]
  exact piece28 m c t x y 3 h0 h1 h2

theorem piece28_4 (c : Dev nD) (t : Fin cfg0.N) (x : S1x30x1024.Idx) (y : S8x30x1024.Idx) (h0 : (y 0 : ℕ) = 4) (h1 : (y 1 : ℕ) = (x 1 : ℕ)) (h2 : (y 2 : ℕ) = (x 2 : ℕ)) :
    (kernelRun0_A.sl.v1749 (F := Ideal) c (ms0_6 t) (hs0_6 t) (ms0_7 t) (hs0_7 t) (ms0_8 t) (hs0_8 t) scM0_0 (X0_6 m c t) (X0_7 m c t) (iblk m c 8 t)) x = G28 m c t y := by
  rw [conv4_at c (ms0_6 t) (hs0_6 t) (ms0_7 t) (hs0_7 t) (ms0_8 t) (hs0_8 t) scM0_0 (X0_6 m c t) (X0_7 m c t) (iblk m c 8 t) x 4 rfl]
  exact piece28 m c t x y 4 h0 h1 h2

theorem piece28_5 (c : Dev nD) (t : Fin cfg0.N) (x : S1x30x1024.Idx) (y : S8x30x1024.Idx) (h0 : (y 0 : ℕ) = 5) (h1 : (y 1 : ℕ) = (x 1 : ℕ)) (h2 : (y 2 : ℕ) = (x 2 : ℕ)) :
    (kernelRun0_A.sl.v1984 (F := Ideal) c (ms0_6 t) (hs0_6 t) (ms0_7 t) (hs0_7 t) (ms0_8 t) (hs0_8 t) scM0_0 (X0_6 m c t) (X0_7 m c t) (iblk m c 8 t)) x = G28 m c t y := by
  rw [conv5_at c (ms0_6 t) (hs0_6 t) (ms0_7 t) (hs0_7 t) (ms0_8 t) (hs0_8 t) scM0_0 (X0_6 m c t) (X0_7 m c t) (iblk m c 8 t) x 5 rfl]
  exact piece28 m c t x y 5 h0 h1 h2

theorem piece28_6 (c : Dev nD) (t : Fin cfg0.N) (x : S1x30x1024.Idx) (y : S8x30x1024.Idx) (h0 : (y 0 : ℕ) = 6) (h1 : (y 1 : ℕ) = (x 1 : ℕ)) (h2 : (y 2 : ℕ) = (x 2 : ℕ)) :
    (kernelRun0_A.sl.v2219 (F := Ideal) c (ms0_6 t) (hs0_6 t) (ms0_7 t) (hs0_7 t) (ms0_8 t) (hs0_8 t) scM0_0 (X0_6 m c t) (X0_7 m c t) (iblk m c 8 t)) x = G28 m c t y := by
  rw [conv6_at c (ms0_6 t) (hs0_6 t) (ms0_7 t) (hs0_7 t) (ms0_8 t) (hs0_8 t) scM0_0 (X0_6 m c t) (X0_7 m c t) (iblk m c 8 t) x 6 rfl]
  exact piece28 m c t x y 6 h0 h1 h2

theorem piece28_7 (c : Dev nD) (t : Fin cfg0.N) (x : S1x30x1024.Idx) (y : S8x30x1024.Idx) (h0 : (y 0 : ℕ) = 7) (h1 : (y 1 : ℕ) = (x 1 : ℕ)) (h2 : (y 2 : ℕ) = (x 2 : ℕ)) :
    (kernelRun0_A.sl.v2454 (F := Ideal) c (ms0_6 t) (hs0_6 t) (ms0_7 t) (hs0_7 t) (ms0_8 t) (hs0_8 t) scM0_0 (X0_6 m c t) (X0_7 m c t) (iblk m c 8 t)) x = G28 m c t y := by
  rw [conv7_at c (ms0_6 t) (hs0_6 t) (ms0_7 t) (hs0_7 t) (ms0_8 t) (hs0_8 t) scM0_0 (X0_6 m c t) (X0_7 m c t) (iblk m c 8 t) x 7 rfl]
  exact piece28 m c t x y 7 h0 h1 h2

set_option maxHeartbeats 4000000 in
theorem blk28 (c : Dev nD) (t : Fin cfg0.N) : (dats m 0 c).after 28 t = G28 m c t := by
  rw [after0_28]
  unfold outsAt0
  dsimp only
  unfold out0_A_28
  unfold kernelRun0_A
  dsimp only
  rw [View.read_writes_junk_eq_canon]
  funext y
  canon_tiles x h
  case piece0 => exact piece28_7 m c t x y (by omega) (by omega) (by omega)
  case piece1 => exact piece28_6 m c t x y (by omega) (by omega) (by omega)
  case piece2 => exact piece28_5 m c t x y (by omega) (by omega) (by omega)
  case piece3 => exact piece28_4 m c t x y (by omega) (by omega) (by omega)
  case piece4 => exact piece28_3 m c t x y (by omega) (by omega) (by omega)
  case piece5 => exact piece28_2 m c t x y (by omega) (by omega) (by omega)
  case piece6 => exact piece28_1 m c t x y (by omega) (by omega) (by omega)
  case piece7 => exact piece28_0 m c t x y (by omega) (by omega) (by omega)

theorem emb28 (t : Fin cfg0.N) (y : ((cfg0.win 28).xblock (cfg0.grid.coords t)).Idx) :
    (((cfg0.win 28).blk t).view.emb y 0 : ℕ) = 128 + 8 * t.val + (y 0 : ℕ) ∧ (((cfg0.win 28).blk t).view.emb y 1 : ℕ) = (y 1 : ℕ)
      ∧ (((cfg0.win 28).blk t).view.emb y 2 : ℕ) = (y 2 : ℕ) := by
  refine ⟨?_, ?_, ?_⟩
  · blk_simp [idx t]
    omega
  · blk_simp [idx t]
  · blk_simp [idx t]

set_option maxHeartbeats 4000000 in
/-- The whole result: the old half kept, the new half by the reference. -/
theorem final28 (c : Dev nD) : (dats m 0 c).arrAt 28 cfg0.N = sconv (m ((c : Thread nD τ).loc main_arg0)) (m ((c : Thread nD τ).loc main_arg4)) (m ((c : Thread nD τ).loc main_arg20)) := by
  have hw : (dats m 0 c).arrAt 28 cfg0.N = fun i => if 128 ≤ (i 0 : ℕ) then sconv (m ((c : Thread nD τ).loc main_arg0)) (m ((c : Thread nD τ).loc main_arg4)) (m ((c : Thread nD τ).loc main_arg20)) i else V m c main_v64_4 i := by
    refine (dats m 0 c).arrAt_eq_of_coversWhere 28 _ (fun β => 16 ≤ β 0) (by decide +kernel) (fun t hf y => ?_) (fun j => by blk_simp [Pipeline.Window.cell_apply]; omega)
    refine Eq.trans (congrFun (blk28 m c t) ((cfg0.win 28).xinj (cfg0.grid.coords t) y)) ?_
    have ht := lt16 t
    unfold G28
    refine congrArg (sconv (m ((c : Thread nD τ).loc main_arg0)) (m ((c : Thread nD τ).loc main_arg4)) (m ((c : Thread nD τ).loc main_arg20))) (funext fun d => Fin.ext ?_)
    fin_cases d
    · refine Eq.trans ?_ (emb28 t y).1.symm
      rfl
    · refine Eq.trans ?_ (emb28 t y).2.1.symm
      rfl
    · refine Eq.trans ?_ (emb28 t y).2.2.symm
      rfl
  rw [hw]
  funext i
  split
  · rfl
  · exact (congrFun (V_v64_4 m c) i).trans (sconv_old _ _ _ i (by omega)).symm

theorem piece30_0 (c : Dev nD) (t : Fin cfg0.N) (x : S1x3x1024.Idx) (y : S8x3x1024.Idx) (h0 : (y 0 : ℕ) = 0) (h1 : (y 1 : ℕ) = (x 1 : ℕ)) (h2 : (y 2 : ℕ) = (x 2 : ℕ)) :
    (kernelRun0_A.sl.v2604 (F := Ideal) c (ms0_13 t) (hs0_13 t) (ms0_15 t) (hs0_15 t) scM0_2 (X0_13 m c t) (iblk m c 15 t)) x = G30 m c t y := by
  rw [lconv0_at c (ms0_13 t) (hs0_13 t) (ms0_15 t) (hs0_15 t) scM0_2 (X0_13 m c t) (iblk m c 15 t) x 0 rfl]
  exact piece30 m c t x y 0 h0 h1 h2

theorem piece30_1 (c : Dev nD) (t : Fin cfg0.N) (x : S1x3x1024.Idx) (y : S8x3x1024.Idx) (h0 : (y 0 : ℕ) = 1) (h1 : (y 1 : ℕ) = (x 1 : ℕ)) (h2 : (y 2 : ℕ) = (x 2 : ℕ)) :
    (kernelRun0_A.sl.v2645 (F := Ideal) c (ms0_13 t) (hs0_13 t) (ms0_15 t) (hs0_15 t) scM0_2 (X0_13 m c t) (iblk m c 15 t)) x = G30 m c t y := by
  rw [lconv1_at c (ms0_13 t) (hs0_13 t) (ms0_15 t) (hs0_15 t) scM0_2 (X0_13 m c t) (iblk m c 15 t) x 1 rfl]
  exact piece30 m c t x y 1 h0 h1 h2

theorem piece30_2 (c : Dev nD) (t : Fin cfg0.N) (x : S1x3x1024.Idx) (y : S8x3x1024.Idx) (h0 : (y 0 : ℕ) = 2) (h1 : (y 1 : ℕ) = (x 1 : ℕ)) (h2 : (y 2 : ℕ) = (x 2 : ℕ)) :
    (kernelRun0_A.sl.v2686 (F := Ideal) c (ms0_13 t) (hs0_13 t) (ms0_15 t) (hs0_15 t) scM0_2 (X0_13 m c t) (iblk m c 15 t)) x = G30 m c t y := by
  rw [lconv2_at c (ms0_13 t) (hs0_13 t) (ms0_15 t) (hs0_15 t) scM0_2 (X0_13 m c t) (iblk m c 15 t) x 2 rfl]
  exact piece30 m c t x y 2 h0 h1 h2

theorem piece30_3 (c : Dev nD) (t : Fin cfg0.N) (x : S1x3x1024.Idx) (y : S8x3x1024.Idx) (h0 : (y 0 : ℕ) = 3) (h1 : (y 1 : ℕ) = (x 1 : ℕ)) (h2 : (y 2 : ℕ) = (x 2 : ℕ)) :
    (kernelRun0_A.sl.v2727 (F := Ideal) c (ms0_13 t) (hs0_13 t) (ms0_15 t) (hs0_15 t) scM0_2 (X0_13 m c t) (iblk m c 15 t)) x = G30 m c t y := by
  rw [lconv3_at c (ms0_13 t) (hs0_13 t) (ms0_15 t) (hs0_15 t) scM0_2 (X0_13 m c t) (iblk m c 15 t) x 3 rfl]
  exact piece30 m c t x y 3 h0 h1 h2

theorem piece30_4 (c : Dev nD) (t : Fin cfg0.N) (x : S1x3x1024.Idx) (y : S8x3x1024.Idx) (h0 : (y 0 : ℕ) = 4) (h1 : (y 1 : ℕ) = (x 1 : ℕ)) (h2 : (y 2 : ℕ) = (x 2 : ℕ)) :
    (kernelRun0_A.sl.v2768 (F := Ideal) c (ms0_13 t) (hs0_13 t) (ms0_15 t) (hs0_15 t) scM0_2 (X0_13 m c t) (iblk m c 15 t)) x = G30 m c t y := by
  rw [lconv4_at c (ms0_13 t) (hs0_13 t) (ms0_15 t) (hs0_15 t) scM0_2 (X0_13 m c t) (iblk m c 15 t) x 4 rfl]
  exact piece30 m c t x y 4 h0 h1 h2

theorem piece30_5 (c : Dev nD) (t : Fin cfg0.N) (x : S1x3x1024.Idx) (y : S8x3x1024.Idx) (h0 : (y 0 : ℕ) = 5) (h1 : (y 1 : ℕ) = (x 1 : ℕ)) (h2 : (y 2 : ℕ) = (x 2 : ℕ)) :
    (kernelRun0_A.sl.v2809 (F := Ideal) c (ms0_13 t) (hs0_13 t) (ms0_15 t) (hs0_15 t) scM0_2 (X0_13 m c t) (iblk m c 15 t)) x = G30 m c t y := by
  rw [lconv5_at c (ms0_13 t) (hs0_13 t) (ms0_15 t) (hs0_15 t) scM0_2 (X0_13 m c t) (iblk m c 15 t) x 5 rfl]
  exact piece30 m c t x y 5 h0 h1 h2

theorem piece30_6 (c : Dev nD) (t : Fin cfg0.N) (x : S1x3x1024.Idx) (y : S8x3x1024.Idx) (h0 : (y 0 : ℕ) = 6) (h1 : (y 1 : ℕ) = (x 1 : ℕ)) (h2 : (y 2 : ℕ) = (x 2 : ℕ)) :
    (kernelRun0_A.sl.v2850 (F := Ideal) c (ms0_13 t) (hs0_13 t) (ms0_15 t) (hs0_15 t) scM0_2 (X0_13 m c t) (iblk m c 15 t)) x = G30 m c t y := by
  rw [lconv6_at c (ms0_13 t) (hs0_13 t) (ms0_15 t) (hs0_15 t) scM0_2 (X0_13 m c t) (iblk m c 15 t) x 6 rfl]
  exact piece30 m c t x y 6 h0 h1 h2

theorem piece30_7 (c : Dev nD) (t : Fin cfg0.N) (x : S1x3x1024.Idx) (y : S8x3x1024.Idx) (h0 : (y 0 : ℕ) = 7) (h1 : (y 1 : ℕ) = (x 1 : ℕ)) (h2 : (y 2 : ℕ) = (x 2 : ℕ)) :
    (kernelRun0_A.sl.v2891 (F := Ideal) c (ms0_13 t) (hs0_13 t) (ms0_15 t) (hs0_15 t) scM0_2 (X0_13 m c t) (iblk m c 15 t)) x = G30 m c t y := by
  rw [lconv7_at c (ms0_13 t) (hs0_13 t) (ms0_15 t) (hs0_15 t) scM0_2 (X0_13 m c t) (iblk m c 15 t) x 7 rfl]
  exact piece30 m c t x y 7 h0 h1 h2

set_option maxHeartbeats 4000000 in
theorem blk30 (c : Dev nD) (t : Fin cfg0.N) : (dats m 0 c).after 30 t = G30 m c t := by
  rw [after0_30]
  unfold outsAt0
  dsimp only
  unfold out0_A_30
  unfold kernelRun0_A
  dsimp only
  rw [View.read_writes_junk_eq_canon]
  funext y
  canon_tiles x h
  case piece0 => exact piece30_7 m c t x y (by omega) (by omega) (by omega)
  case piece1 => exact piece30_6 m c t x y (by omega) (by omega) (by omega)
  case piece2 => exact piece30_5 m c t x y (by omega) (by omega) (by omega)
  case piece3 => exact piece30_4 m c t x y (by omega) (by omega) (by omega)
  case piece4 => exact piece30_3 m c t x y (by omega) (by omega) (by omega)
  case piece5 => exact piece30_2 m c t x y (by omega) (by omega) (by omega)
  case piece6 => exact piece30_1 m c t x y (by omega) (by omega) (by omega)
  case piece7 => exact piece30_0 m c t x y (by omega) (by omega) (by omega)

theorem emb30 (t : Fin cfg0.N) (y : ((cfg0.win 30).xblock (cfg0.grid.coords t)).Idx) :
    (((cfg0.win 30).blk t).view.emb y 0 : ℕ) = 128 + 8 * t.val + (y 0 : ℕ) ∧ (((cfg0.win 30).blk t).view.emb y 1 : ℕ) = (y 1 : ℕ)
      ∧ (((cfg0.win 30).blk t).view.emb y 2 : ℕ) = (y 2 : ℕ) := by
  refine ⟨?_, ?_, ?_⟩
  · blk_simp [idx t]
    omega
  · blk_simp [idx t]
  · blk_simp [idx t]

set_option maxHeartbeats 4000000 in
/-- The whole result: the old half kept, the new half by the reference. -/
theorem final30 (c : Dev nD) : (dats m 0 c).arrAt 30 cfg0.N = slconv (m ((c : Thread nD τ).loc main_arg0)) (m ((c : Thread nD τ).loc main_arg5)) (m ((c : Thread nD τ).loc main_arg21)) := by
  have hw : (dats m 0 c).arrAt 30 cfg0.N = fun i => if 128 ≤ (i 0 : ℕ) then slconv (m ((c : Thread nD τ).loc main_arg0)) (m ((c : Thread nD τ).loc main_arg5)) (m ((c : Thread nD τ).loc main_arg21)) i else V m c main_v64_6 i := by
    refine (dats m 0 c).arrAt_eq_of_coversWhere 30 _ (fun β => 16 ≤ β 0) (by decide +kernel) (fun t hf y => ?_) (fun j => by blk_simp [Pipeline.Window.cell_apply]; omega)
    refine Eq.trans (congrFun (blk30 m c t) ((cfg0.win 30).xinj (cfg0.grid.coords t) y)) ?_
    have ht := lt16 t
    unfold G30
    refine congrArg (slconv (m ((c : Thread nD τ).loc main_arg0)) (m ((c : Thread nD τ).loc main_arg5)) (m ((c : Thread nD τ).loc main_arg21))) (funext fun d => Fin.ext ?_)
    fin_cases d
    · refine Eq.trans ?_ (emb30 t y).1.symm
      rfl
    · refine Eq.trans ?_ (emb30 t y).2.1.symm
      rfl
    · refine Eq.trans ?_ (emb30 t y).2.2.symm
      rfl
  rw [hw]
  funext i
  split
  · rfl
  · exact (congrFun (V_v64_6 m c) i).trans (slconv_old _ _ _ i (by omega)).symm

end Cert.SampleIdeal.Point
-- ==== Proof.SampleConv.lean ====
/- The short convolution of the sample branches' kernel, as its scratch buffer keeps it. -/
module

public import proofs.«01_k».proof.Proof.SampleWords
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open scoped BigOperators

namespace Cert.SampleIdeal.Words

open Cert.SampleIdeal Cert.SampleIdeal.Gen

/-- A tap's input: the window of row `y 0`'s sequence, `k` steps on. -/
def tap (x13 : FVec Ideal S64x1024 .bf16) (x15 : FVec Ideal S8x3x1024 .f32) (k : ℕ) (hk : k < 4) (y : S64x1024.Idx) : EReal :=
  lext x13 x15 (ix3 ⟨(y 0 : ℕ) / 8, by have b : (y 0 : ℕ) < 64 := (y 0).isLt; omega⟩ ⟨5 + k + (y 0 : ℕ) % 8, by omega⟩ (y 1))

/-- The short convolution: the bias and the four taps. -/
def xcv (x13 : FVec Ideal S64x1024 .bf16) (x15 : FVec Ideal S8x3x1024 .f32) (x17 : FVec Ideal S4x1024 .f32) (x18 : FVec Ideal S1x1024 .f32) : FVec Ideal S64x1024 .f32 := fun y =>
  ((((x18 (ix2 0 (y 1)) : EReal) + (x17 (ix2 0 (y 1)) : EReal) * tap x13 x15 0 (by omega) y) + (x17 (ix2 1 (y 1)) : EReal) * tap x13 x15 1 (by omega) y)
    + (x17 (ix2 2 (y 1)) : EReal) * tap x13 x15 2 (by omega) y) + (x17 (ix2 3 (y 1)) : EReal) * tap x13 x15 3 (by omega) y

/-- The convolution at row `8 g + t`. -/
theorem xcv_at (x13 : FVec Ideal S64x1024 .bf16) (x15 : FVec Ideal S8x3x1024 .f32) (x17 : FVec Ideal S4x1024 .f32) (x18 : FVec Ideal S1x1024 .f32) (y : S64x1024.Idx)
    (g : Fin 8) (t : ℕ) (q : Fin 1024) (ht : t < 8) (h0 : (y 0 : ℕ) = 8 * g.val + t) (h1 : (y 1 : ℕ) = q.val) :
    xcv x13 x15 x17 x18 y = ((((x18 (ix2 0 q) : EReal) + (x17 (ix2 0 q) : EReal) * lext x13 x15 (ix3 g ⟨5 + t, by omega⟩ q)) + (x17 (ix2 1 q) : EReal) * lext x13 x15 (ix3 g ⟨6 + t, by omega⟩ q))
      + (x17 (ix2 2 q) : EReal) * lext x13 x15 (ix3 g ⟨7 + t, by omega⟩ q)) + (x17 (ix2 3 q) : EReal) * lext x13 x15 (ix3 g ⟨8 + t, by omega⟩ q) := by
  have hq : y 1 = q := Fin.ext h1
  have ek : ∀ (k : ℕ) (hk : k < 4) (r : ℕ) (hr : r < 16) (_ : r = 5 + k + t), tap x13 x15 k hk y = lext x13 x15 (ix3 g ⟨r, hr⟩ q) := by
    intro k hk r hr e
    refine congrArg (lext x13 x15) (funext fun d => Fin.ext ?_)
    fin_cases d
    · show (y 0 : ℕ) / 8 = g.val
      omega
    · show 5 + k + (y 0 : ℕ) % 8 = r
      omega
    · exact h1
  unfold xcv
  rw [ek 0 (by omega) (5 + t) (by omega) (by omega), ek 1 (by omega) (6 + t) (by omega) (by omega), ek 2 (by omega) (7 + t) (by omega) (by omega), ek 3 (by omega) (8 + t) (by omega) (by omega), hq]

theorem load2 (c : Dev nD) (arg14 : Memref sig .tc .vmem S64x1024 .bf16) (harg14 : arg14.IsWhole) (arg16 : Memref sig .tc .vmem S8x3x1024 .f32) (harg16 : arg16.IsWhole) (x13 : FVec Ideal S64x1024 .bf16) (x15 : FVec Ideal S8x3x1024 .f32) (v : View sig .tc .vmem S8x16x1024 .f32) (B : Rect S8x16x1024) (h : 5 ≤ B.off 1) :
    v.readCov (kernelRun0_A.sl.HS2_16 (F := Ideal) c arg14 harg14 arg16 harg16 x13 x15) B.toLoadRect = View.ld (lext x13 x15) B := by
  rw [View.readCov_eq_canon']
  funext j
  exact canon2 c arg14 harg14 arg16 harg16 x13 x15 (B.emb j) (le_trans h (Nat.le_add_right _ _))

set_option maxHeartbeats 4000000 in
theorem conv0 (c : Dev nD) (arg14 : Memref sig .tc .vmem S64x1024 .bf16) (harg14 : arg14.IsWhole) (arg16 : Memref sig .tc .vmem S8x3x1024 .f32) (harg16 : arg16.IsWhole) (arg18 : Memref sig .tc .vmem S4x1024 .f32) (harg18 : arg18.IsWhole) (arg19 : Memref sig .tc .vmem S1x1024 .f32) (harg19 : arg19.IsWhole) (arg40 : Memref sig .tc .vmem S8x16x1024 .f32) (x13 : FVec Ideal S64x1024 .bf16) (x15 : FVec Ideal S8x3x1024 .f32) (x17 : FVec Ideal S4x1024 .f32) (x18 : FVec Ideal S1x1024 .f32) (x : S8x1024.Idx) (y : S64x1024.Idx) (h0 : (y 0 : ℕ) = 0 + (x 0 : ℕ)) (h1 : (y 1 : ℕ) = (x 1 : ℕ)) :
    (kernelRun0_A.sl.v2599 (F := Ideal) c arg14 harg14 arg16 harg16 arg18 harg18 arg19 harg19 arg40 x13 x15 x17 x18) x = xcv x13 x15 x17 x18 y := by
  have b : (x 0 : ℕ) < 8 := (x 0).isLt
  unfold kernelRun0_A.sl.v2599 kernelRun0_A.sl.v2596 kernelRun0_A.sl.v2589 kernelRun0_A.sl.v2595 kernelRun0_A.sl.v2582 kernelRun0_A.sl.v2588 kernelRun0_A.sl.v2594 kernelRun0_A.sl.v2593 kernelRun0_A.sl.v2575 kernelRun0_A.sl.v2581 kernelRun0_A.sl.v2587 kernelRun0_A.sl.v2586 kernelRun0_A.sl.v2591 kernelRun0_A.sl.v2592 kernelRun0_A.sl.v2568 kernelRun0_A.sl.v2574 kernelRun0_A.sl.v2580 kernelRun0_A.sl.v2579 kernelRun0_A.sl.v2584 kernelRun0_A.sl.v2585 kernelRun0_A.sl.v2564 kernelRun0_A.sl.v2567 kernelRun0_A.sl.v2573 kernelRun0_A.sl.v2572 kernelRun0_A.sl.v2577 kernelRun0_A.sl.v2578 kernelRun0_A.sl.v2566 kernelRun0_A.sl.v2570 kernelRun0_A.sl.v2571
  rw [load2 c arg14 harg14 arg16 harg16 x13 x15 _ _ (by decide), load2 c arg14 harg14 arg16 harg16 x13 x15 _ _ (by decide), load2 c arg14 harg14 arg16 harg16 x13 x15 _ _ (by decide), load2 c arg14 harg14 arg16 harg16 x13 x15 _ _ (by decide)]
  frame_open
  frame_out
  pointwise []
  exact (xcv_at x13 x15 x17 x18 y 0 (x 0 : ℕ) (x 1) b (by rw [h0]; show 0 + _ = 8 * 0 + _; omega) h1).symm

set_option maxHeartbeats 4000000 in
theorem conv1 (c : Dev nD) (arg14 : Memref sig .tc .vmem S64x1024 .bf16) (harg14 : arg14.IsWhole) (arg16 : Memref sig .tc .vmem S8x3x1024 .f32) (harg16 : arg16.IsWhole) (arg18 : Memref sig .tc .vmem S4x1024 .f32) (harg18 : arg18.IsWhole) (arg19 : Memref sig .tc .vmem S1x1024 .f32) (harg19 : arg19.IsWhole) (arg40 : Memref sig .tc .vmem S8x16x1024 .f32) (x13 : FVec Ideal S64x1024 .bf16) (x15 : FVec Ideal S8x3x1024 .f32) (x17 : FVec Ideal S4x1024 .f32) (x18 : FVec Ideal S1x1024 .f32) (x : S8x1024.Idx) (y : S64x1024.Idx) (h0 : (y 0 : ℕ) = 8 + (x 0 : ℕ)) (h1 : (y 1 : ℕ) = (x 1 : ℕ)) :
    (kernelRun0_A.sl.v2640 (F := Ideal) c arg14 harg14 arg16 harg16 arg18 harg18 arg19 harg19 arg40 x13 x15 x17 x18) x = xcv x13 x15 x17 x18 y := by
  have b : (x 0 : ℕ) < 8 := (x 0).isLt
  unfold kernelRun0_A.sl.v2640 kernelRun0_A.sl.v2637 kernelRun0_A.sl.v2630 kernelRun0_A.sl.v2636 kernelRun0_A.sl.v2623 kernelRun0_A.sl.v2629 kernelRun0_A.sl.v2594 kernelRun0_A.sl.v2634 kernelRun0_A.sl.v2616 kernelRun0_A.sl.v2622 kernelRun0_A.sl.v2587 kernelRun0_A.sl.v2627 kernelRun0_A.sl.v2591 kernelRun0_A.sl.v2633 kernelRun0_A.sl.v2568 kernelRun0_A.sl.v2615 kernelRun0_A.sl.v2580 kernelRun0_A.sl.v2620 kernelRun0_A.sl.v2584 kernelRun0_A.sl.v2626 kernelRun0_A.sl.v2564 kernelRun0_A.sl.v2567 kernelRun0_A.sl.v2573 kernelRun0_A.sl.v2613 kernelRun0_A.sl.v2577 kernelRun0_A.sl.v2619 kernelRun0_A.sl.v2566 kernelRun0_A.sl.v2570 kernelRun0_A.sl.v2612
  rw [load2 c arg14 harg14 arg16 harg16 x13 x15 _ _ (by decide), load2 c arg14 harg14 arg16 harg16 x13 x15 _ _ (by decide), load2 c arg14 harg14 arg16 harg16 x13 x15 _ _ (by decide), load2 c arg14 harg14 arg16 harg16 x13 x15 _ _ (by decide)]
  frame_open
  frame_out
  pointwise []
  exact (xcv_at x13 x15 x17 x18 y 1 (x 0 : ℕ) (x 1) b (by rw [h0]; show 8 + _ = 8 * 1 + _; omega) h1).symm

set_option maxHeartbeats 4000000 in
theorem conv2 (c : Dev nD) (arg14 : Memref sig .tc .vmem S64x1024 .bf16) (harg14 : arg14.IsWhole) (arg16 : Memref sig .tc .vmem S8x3x1024 .f32) (harg16 : arg16.IsWhole) (arg18 : Memref sig .tc .vmem S4x1024 .f32) (harg18 : arg18.IsWhole) (arg19 : Memref sig .tc .vmem S1x1024 .f32) (harg19 : arg19.IsWhole) (arg40 : Memref sig .tc .vmem S8x16x1024 .f32) (x13 : FVec Ideal S64x1024 .bf16) (x15 : FVec Ideal S8x3x1024 .f32) (x17 : FVec Ideal S4x1024 .f32) (x18 : FVec Ideal S1x1024 .f32) (x : S8x1024.Idx) (y : S64x1024.Idx) (h0 : (y 0 : ℕ) = 16 + (x 0 : ℕ)) (h1 : (y 1 : ℕ) = (x 1 : ℕ)) :
    (kernelRun0_A.sl.v2681 (F := Ideal) c arg14 harg14 arg16 harg16 arg18 harg18 arg19 harg19 arg40 x13 x15 x17 x18) x = xcv x13 x15 x17 x18 y := by
  have b : (x 0 : ℕ) < 8 := (x 0).isLt
  unfold kernelRun0_A.sl.v2681 kernelRun0_A.sl.v2678 kernelRun0_A.sl.v2671 kernelRun0_A.sl.v2677 kernelRun0_A.sl.v2664 kernelRun0_A.sl.v2670 kernelRun0_A.sl.v2594 kernelRun0_A.sl.v2675 kernelRun0_A.sl.v2657 kernelRun0_A.sl.v2663 kernelRun0_A.sl.v2587 kernelRun0_A.sl.v2668 kernelRun0_A.sl.v2591 kernelRun0_A.sl.v2674 kernelRun0_A.sl.v2568 kernelRun0_A.sl.v2656 kernelRun0_A.sl.v2580 kernelRun0_A.sl.v2661 kernelRun0_A.sl.v2584 kernelRun0_A.sl.v2667 kernelRun0_A.sl.v2564 kernelRun0_A.sl.v2567 kernelRun0_A.sl.v2573 kernelRun0_A.sl.v2654 kernelRun0_A.sl.v2577 kernelRun0_A.sl.v2660 kernelRun0_A.sl.v2566 kernelRun0_A.sl.v2570 kernelRun0_A.sl.v2653
  rw [load2 c arg14 harg14 arg16 harg16 x13 x15 _ _ (by decide), load2 c arg14 harg14 arg16 harg16 x13 x15 _ _ (by decide), load2 c arg14 harg14 arg16 harg16 x13 x15 _ _ (by decide), load2 c arg14 harg14 arg16 harg16 x13 x15 _ _ (by decide)]
  frame_open
  frame_out
  pointwise []
  exact (xcv_at x13 x15 x17 x18 y 2 (x 0 : ℕ) (x 1) b (by rw [h0]; show 16 + _ = 8 * 2 + _; omega) h1).symm

set_option maxHeartbeats 4000000 in
theorem conv3 (c : Dev nD) (arg14 : Memref sig .tc .vmem S64x1024 .bf16) (harg14 : arg14.IsWhole) (arg16 : Memref sig .tc .vmem S8x3x1024 .f32) (harg16 : arg16.IsWhole) (arg18 : Memref sig .tc .vmem S4x1024 .f32) (harg18 : arg18.IsWhole) (arg19 : Memref sig .tc .vmem S1x1024 .f32) (harg19 : arg19.IsWhole) (arg40 : Memref sig .tc .vmem S8x16x1024 .f32) (x13 : FVec Ideal S64x1024 .bf16) (x15 : FVec Ideal S8x3x1024 .f32) (x17 : FVec Ideal S4x1024 .f32) (x18 : FVec Ideal S1x1024 .f32) (x : S8x1024.Idx) (y : S64x1024.Idx) (h0 : (y 0 : ℕ) = 24 + (x 0 : ℕ)) (h1 : (y 1 : ℕ) = (x 1 : ℕ)) :
    (kernelRun0_A.sl.v2722 (F := Ideal) c arg14 harg14 arg16 harg16 arg18 harg18 arg19 harg19 arg40 x13 x15 x17 x18) x = xcv x13 x15 x17 x18 y := by
  have b : (x 0 : ℕ) < 8 := (x 0).isLt
  unfold kernelRun0_A.sl.v2722 kernelRun0_A.sl.v2719 kernelRun0_A.sl.v2712 kernelRun0_A.sl.v2718 kernelRun0_A.sl.v2705 kernelRun0_A.sl.v2711 kernelRun0_A.sl.v2594 kernelRun0_A.sl.v2716 kernelRun0_A.sl.v2698 kernelRun0_A.sl.v2704 kernelRun0_A.sl.v2587 kernelRun0_A.sl.v2709 kernelRun0_A.sl.v2591 kernelRun0_A.sl.v2715 kernelRun0_A.sl.v2568 kernelRun0_A.sl.v2697 kernelRun0_A.sl.v2580 kernelRun0_A.sl.v2702 kernelRun0_A.sl.v2584 kernelRun0_A.sl.v2708 kernelRun0_A.sl.v2564 kernelRun0_A.sl.v2567 kernelRun0_A.sl.v2573 kernelRun0_A.sl.v2695 kernelRun0_A.sl.v2577 kernelRun0_A.sl.v2701 kernelRun0_A.sl.v2566 kernelRun0_A.sl.v2570 kernelRun0_A.sl.v2694
  rw [load2 c arg14 harg14 arg16 harg16 x13 x15 _ _ (by decide), load2 c arg14 harg14 arg16 harg16 x13 x15 _ _ (by decide), load2 c arg14 harg14 arg16 harg16 x13 x15 _ _ (by decide), load2 c arg14 harg14 arg16 harg16 x13 x15 _ _ (by decide)]
  frame_open
  frame_out
  pointwise []
  exact (xcv_at x13 x15 x17 x18 y 3 (x 0 : ℕ) (x 1) b (by rw [h0]; show 24 + _ = 8 * 3 + _; omega) h1).symm

set_option maxHeartbeats 4000000 in
theorem conv4 (c : Dev nD) (arg14 : Memref sig .tc .vmem S64x1024 .bf16) (harg14 : arg14.IsWhole) (arg16 : Memref sig .tc .vmem S8x3x1024 .f32) (harg16 : arg16.IsWhole) (arg18 : Memref sig .tc .vmem S4x1024 .f32) (harg18 : arg18.IsWhole) (arg19 : Memref sig .tc .vmem S1x1024 .f32) (harg19 : arg19.IsWhole) (arg40 : Memref sig .tc .vmem S8x16x1024 .f32) (x13 : FVec Ideal S64x1024 .bf16) (x15 : FVec Ideal S8x3x1024 .f32) (x17 : FVec Ideal S4x1024 .f32) (x18 : FVec Ideal S1x1024 .f32) (x : S8x1024.Idx) (y : S64x1024.Idx) (h0 : (y 0 : ℕ) = 32 + (x 0 : ℕ)) (h1 : (y 1 : ℕ) = (x 1 : ℕ)) :
    (kernelRun0_A.sl.v2763 (F := Ideal) c arg14 harg14 arg16 harg16 arg18 harg18 arg19 harg19 arg40 x13 x15 x17 x18) x = xcv x13 x15 x17 x18 y := by
  have b : (x 0 : ℕ) < 8 := (x 0).isLt
  unfold kernelRun0_A.sl.v2763 kernelRun0_A.sl.v2760 kernelRun0_A.sl.v2753 kernelRun0_A.sl.v2759 kernelRun0_A.sl.v2746 kernelRun0_A.sl.v2752 kernelRun0_A.sl.v2594 kernelRun0_A.sl.v2757 kernelRun0_A.sl.v2739 kernelRun0_A.sl.v2745 kernelRun0_A.sl.v2587 kernelRun0_A.sl.v2750 kernelRun0_A.sl.v2591 kernelRun0_A.sl.v2756 kernelRun0_A.sl.v2568 kernelRun0_A.sl.v2738 kernelRun0_A.sl.v2580 kernelRun0_A.sl.v2743 kernelRun0_A.sl.v2584 kernelRun0_A.sl.v2749 kernelRun0_A.sl.v2564 kernelRun0_A.sl.v2567 kernelRun0_A.sl.v2573 kernelRun0_A.sl.v2736 kernelRun0_A.sl.v2577 kernelRun0_A.sl.v2742 kernelRun0_A.sl.v2566 kernelRun0_A.sl.v2570 kernelRun0_A.sl.v2735
  rw [load2 c arg14 harg14 arg16 harg16 x13 x15 _ _ (by decide), load2 c arg14 harg14 arg16 harg16 x13 x15 _ _ (by decide), load2 c arg14 harg14 arg16 harg16 x13 x15 _ _ (by decide), load2 c arg14 harg14 arg16 harg16 x13 x15 _ _ (by decide)]
  frame_open
  frame_out
  pointwise []
  exact (xcv_at x13 x15 x17 x18 y 4 (x 0 : ℕ) (x 1) b (by rw [h0]; show 32 + _ = 8 * 4 + _; omega) h1).symm

set_option maxHeartbeats 4000000 in
theorem conv5 (c : Dev nD) (arg14 : Memref sig .tc .vmem S64x1024 .bf16) (harg14 : arg14.IsWhole) (arg16 : Memref sig .tc .vmem S8x3x1024 .f32) (harg16 : arg16.IsWhole) (arg18 : Memref sig .tc .vmem S4x1024 .f32) (harg18 : arg18.IsWhole) (arg19 : Memref sig .tc .vmem S1x1024 .f32) (harg19 : arg19.IsWhole) (arg40 : Memref sig .tc .vmem S8x16x1024 .f32) (x13 : FVec Ideal S64x1024 .bf16) (x15 : FVec Ideal S8x3x1024 .f32) (x17 : FVec Ideal S4x1024 .f32) (x18 : FVec Ideal S1x1024 .f32) (x : S8x1024.Idx) (y : S64x1024.Idx) (h0 : (y 0 : ℕ) = 40 + (x 0 : ℕ)) (h1 : (y 1 : ℕ) = (x 1 : ℕ)) :
    (kernelRun0_A.sl.v2804 (F := Ideal) c arg14 harg14 arg16 harg16 arg18 harg18 arg19 harg19 arg40 x13 x15 x17 x18) x = xcv x13 x15 x17 x18 y := by
  have b : (x 0 : ℕ) < 8 := (x 0).isLt
  unfold kernelRun0_A.sl.v2804 kernelRun0_A.sl.v2801 kernelRun0_A.sl.v2794 kernelRun0_A.sl.v2800 kernelRun0_A.sl.v2787 kernelRun0_A.sl.v2793 kernelRun0_A.sl.v2594 kernelRun0_A.sl.v2798 kernelRun0_A.sl.v2780 kernelRun0_A.sl.v2786 kernelRun0_A.sl.v2587 kernelRun0_A.sl.v2791 kernelRun0_A.sl.v2591 kernelRun0_A.sl.v2797 kernelRun0_A.sl.v2568 kernelRun0_A.sl.v2779 kernelRun0_A.sl.v2580 kernelRun0_A.sl.v2784 kernelRun0_A.sl.v2584 kernelRun0_A.sl.v2790 kernelRun0_A.sl.v2564 kernelRun0_A.sl.v2567 kernelRun0_A.sl.v2573 kernelRun0_A.sl.v2777 kernelRun0_A.sl.v2577 kernelRun0_A.sl.v2783 kernelRun0_A.sl.v2566 kernelRun0_A.sl.v2570 kernelRun0_A.sl.v2776
  rw [load2 c arg14 harg14 arg16 harg16 x13 x15 _ _ (by decide), load2 c arg14 harg14 arg16 harg16 x13 x15 _ _ (by decide), load2 c arg14 harg14 arg16 harg16 x13 x15 _ _ (by decide), load2 c arg14 harg14 arg16 harg16 x13 x15 _ _ (by decide)]
  frame_open
  frame_out
  pointwise []
  exact (xcv_at x13 x15 x17 x18 y 5 (x 0 : ℕ) (x 1) b (by rw [h0]; show 40 + _ = 8 * 5 + _; omega) h1).symm

set_option maxHeartbeats 4000000 in
theorem conv6 (c : Dev nD) (arg14 : Memref sig .tc .vmem S64x1024 .bf16) (harg14 : arg14.IsWhole) (arg16 : Memref sig .tc .vmem S8x3x1024 .f32) (harg16 : arg16.IsWhole) (arg18 : Memref sig .tc .vmem S4x1024 .f32) (harg18 : arg18.IsWhole) (arg19 : Memref sig .tc .vmem S1x1024 .f32) (harg19 : arg19.IsWhole) (arg40 : Memref sig .tc .vmem S8x16x1024 .f32) (x13 : FVec Ideal S64x1024 .bf16) (x15 : FVec Ideal S8x3x1024 .f32) (x17 : FVec Ideal S4x1024 .f32) (x18 : FVec Ideal S1x1024 .f32) (x : S8x1024.Idx) (y : S64x1024.Idx) (h0 : (y 0 : ℕ) = 48 + (x 0 : ℕ)) (h1 : (y 1 : ℕ) = (x 1 : ℕ)) :
    (kernelRun0_A.sl.v2845 (F := Ideal) c arg14 harg14 arg16 harg16 arg18 harg18 arg19 harg19 arg40 x13 x15 x17 x18) x = xcv x13 x15 x17 x18 y := by
  have b : (x 0 : ℕ) < 8 := (x 0).isLt
  unfold kernelRun0_A.sl.v2845 kernelRun0_A.sl.v2842 kernelRun0_A.sl.v2835 kernelRun0_A.sl.v2841 kernelRun0_A.sl.v2828 kernelRun0_A.sl.v2834 kernelRun0_A.sl.v2594 kernelRun0_A.sl.v2839 kernelRun0_A.sl.v2821 kernelRun0_A.sl.v2827 kernelRun0_A.sl.v2587 kernelRun0_A.sl.v2832 kernelRun0_A.sl.v2591 kernelRun0_A.sl.v2838 kernelRun0_A.sl.v2568 kernelRun0_A.sl.v2820 kernelRun0_A.sl.v2580 kernelRun0_A.sl.v2825 kernelRun0_A.sl.v2584 kernelRun0_A.sl.v2831 kernelRun0_A.sl.v2564 kernelRun0_A.sl.v2567 kernelRun0_A.sl.v2573 kernelRun0_A.sl.v2818 kernelRun0_A.sl.v2577 kernelRun0_A.sl.v2824 kernelRun0_A.sl.v2566 kernelRun0_A.sl.v2570 kernelRun0_A.sl.v2817
  rw [load2 c arg14 harg14 arg16 harg16 x13 x15 _ _ (by decide), load2 c arg14 harg14 arg16 harg16 x13 x15 _ _ (by decide), load2 c arg14 harg14 arg16 harg16 x13 x15 _ _ (by decide), load2 c arg14 harg14 arg16 harg16 x13 x15 _ _ (by decide)]
  frame_open
  frame_out
  pointwise []
  exact (xcv_at x13 x15 x17 x18 y 6 (x 0 : ℕ) (x 1) b (by rw [h0]; show 48 + _ = 8 * 6 + _; omega) h1).symm

set_option maxHeartbeats 4000000 in
theorem conv7 (c : Dev nD) (arg14 : Memref sig .tc .vmem S64x1024 .bf16) (harg14 : arg14.IsWhole) (arg16 : Memref sig .tc .vmem S8x3x1024 .f32) (harg16 : arg16.IsWhole) (arg18 : Memref sig .tc .vmem S4x1024 .f32) (harg18 : arg18.IsWhole) (arg19 : Memref sig .tc .vmem S1x1024 .f32) (harg19 : arg19.IsWhole) (arg40 : Memref sig .tc .vmem S8x16x1024 .f32) (x13 : FVec Ideal S64x1024 .bf16) (x15 : FVec Ideal S8x3x1024 .f32) (x17 : FVec Ideal S4x1024 .f32) (x18 : FVec Ideal S1x1024 .f32) (x : S8x1024.Idx) (y : S64x1024.Idx) (h0 : (y 0 : ℕ) = 56 + (x 0 : ℕ)) (h1 : (y 1 : ℕ) = (x 1 : ℕ)) :
    (kernelRun0_A.sl.v2886 (F := Ideal) c arg14 harg14 arg16 harg16 arg18 harg18 arg19 harg19 arg40 x13 x15 x17 x18) x = xcv x13 x15 x17 x18 y := by
  have b : (x 0 : ℕ) < 8 := (x 0).isLt
  unfold kernelRun0_A.sl.v2886 kernelRun0_A.sl.v2883 kernelRun0_A.sl.v2876 kernelRun0_A.sl.v2882 kernelRun0_A.sl.v2869 kernelRun0_A.sl.v2875 kernelRun0_A.sl.v2594 kernelRun0_A.sl.v2880 kernelRun0_A.sl.v2862 kernelRun0_A.sl.v2868 kernelRun0_A.sl.v2587 kernelRun0_A.sl.v2873 kernelRun0_A.sl.v2591 kernelRun0_A.sl.v2879 kernelRun0_A.sl.v2568 kernelRun0_A.sl.v2861 kernelRun0_A.sl.v2580 kernelRun0_A.sl.v2866 kernelRun0_A.sl.v2584 kernelRun0_A.sl.v2872 kernelRun0_A.sl.v2564 kernelRun0_A.sl.v2567 kernelRun0_A.sl.v2573 kernelRun0_A.sl.v2859 kernelRun0_A.sl.v2577 kernelRun0_A.sl.v2865 kernelRun0_A.sl.v2566 kernelRun0_A.sl.v2570 kernelRun0_A.sl.v2858
  rw [load2 c arg14 harg14 arg16 harg16 x13 x15 _ _ (by decide), load2 c arg14 harg14 arg16 harg16 x13 x15 _ _ (by decide), load2 c arg14 harg14 arg16 harg16 x13 x15 _ _ (by decide), load2 c arg14 harg14 arg16 harg16 x13 x15 _ _ (by decide)]
  frame_open
  frame_out
  pointwise []
  exact (xcv_at x13 x15 x17 x18 y 7 (x 0 : ℕ) (x 1) b (by rw [h0]; show 56 + _ = 8 * 7 + _; omega) h1).symm

set_option maxHeartbeats 4000000 in
theorem canon3 (c : Dev nD) (arg14 : Memref sig .tc .vmem S64x1024 .bf16) (harg14 : arg14.IsWhole) (arg16 : Memref sig .tc .vmem S8x3x1024 .f32) (harg16 : arg16.IsWhole) (arg18 : Memref sig .tc .vmem S4x1024 .f32) (harg18 : arg18.IsWhole) (arg19 : Memref sig .tc .vmem S1x1024 .f32) (harg19 : arg19.IsWhole) (arg40 : Memref sig .tc .vmem S8x16x1024 .f32) (x13 : FVec Ideal S64x1024 .bf16) (x15 : FVec Ideal S8x3x1024 .f32) (x17 : FVec Ideal S4x1024 .f32) (x18 : FVec Ideal S1x1024 .f32) : View.canon (kernelRun0_A.sl.HS3_8 (F := Ideal) c arg14 harg14 arg16 harg16 arg18 harg18 arg19 harg19 arg40 x13 x15 x17 x18) = xcv x13 x15 x17 x18 := by
  funext y
  unfold kernelRun0_A.sl.HS3_8
  canon_tiles x h
  case piece0 => exact conv7 c arg14 harg14 arg16 harg16 arg18 harg18 arg19 harg19 arg40 x13 x15 x17 x18 x y (by omega) (by omega)
  case piece1 => exact conv6 c arg14 harg14 arg16 harg16 arg18 harg18 arg19 harg19 arg40 x13 x15 x17 x18 x y (by omega) (by omega)
  case piece2 => exact conv5 c arg14 harg14 arg16 harg16 arg18 harg18 arg19 harg19 arg40 x13 x15 x17 x18 x y (by omega) (by omega)
  case piece3 => exact conv4 c arg14 harg14 arg16 harg16 arg18 harg18 arg19 harg19 arg40 x13 x15 x17 x18 x y (by omega) (by omega)
  case piece4 => exact conv3 c arg14 harg14 arg16 harg16 arg18 harg18 arg19 harg19 arg40 x13 x15 x17 x18 x y (by omega) (by omega)
  case piece5 => exact conv2 c arg14 harg14 arg16 harg16 arg18 harg18 arg19 harg19 arg40 x13 x15 x17 x18 x y (by omega) (by omega)
  case piece6 => exact conv1 c arg14 harg14 arg16 harg16 arg18 harg18 arg19 harg19 arg40 x13 x15 x17 x18 x y (by omega) (by omega)
  case piece7 => exact conv0 c arg14 harg14 arg16 harg16 arg18 harg18 arg19 harg19 arg40 x13 x15 x17 x18 x y (by omega) (by omega)

/-- The convolution, loaded back whole. -/
theorem load3 (c : Dev nD) (arg14 : Memref sig .tc .vmem S64x1024 .bf16) (harg14 : arg14.IsWhole) (arg16 : Memref sig .tc .vmem S8x3x1024 .f32) (harg16 : arg16.IsWhole) (arg18 : Memref sig .tc .vmem S4x1024 .f32) (harg18 : arg18.IsWhole) (arg19 : Memref sig .tc .vmem S1x1024 .f32) (harg19 : arg19.IsWhole) (arg40 : Memref sig .tc .vmem S8x16x1024 .f32) (x13 : FVec Ideal S64x1024 .bf16) (x15 : FVec Ideal S8x3x1024 .f32) (x17 : FVec Ideal S4x1024 .f32) (x18 : FVec Ideal S1x1024 .f32) (arg41 : Memref sig .tc .vmem S64x1024 .f32) : (kernelRun0_A.sl.v2892 (F := Ideal) c arg14 harg14 arg16 harg16 arg18 harg18 arg19 harg19 arg40 arg41 x13 x15 x17 x18) = xcv x13 x15 x17 x18 := by
  unfold kernelRun0_A.sl.v2892
  rw [View.readCov_eq_canon', canon3]
  funext j
  refine congrArg (xcv x13 x15 x17 x18) (funext fun d => Fin.ext ?_)
  fin_cases d
  · exact (emb_at (s := S64x1024) j 0).trans (Nat.zero_add _)
  · exact (emb_at (s := S64x1024) j 1).trans (Nat.zero_add _)

end Cert.SampleIdeal.Words
-- ==== Proof.SampleGate.lean ====
/- The gates of the sample branches' kernel, as its scratch buffers keep them. -/
module

public import proofs.«01_k».proof.Proof.SampleConv
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open scoped BigOperators

namespace Cert.SampleIdeal.Words

open Cert.SampleIdeal Cert.SampleIdeal.Gen

/-- A gate's input: the convolution's row through one block's columns, and the bias. -/
def pre (xc : FVec Ideal S64x1024 .f32) (w : FVec Ideal S4x256x256 .bf16) (b : FVec Ideal S1x1024 .f32) (y : S64x1024.Idx) : EReal :=
  (∑ k : Fin 256, (xc (ix2 (y 0) ⟨256 * ((y 1 : ℕ) / 256) + k.val, by have b : (y 1 : ℕ) < 1024 := (y 1).isLt; omega⟩) : EReal)
      * (w (ix3 ⟨(y 1 : ℕ) / 256, by have b : (y 1 : ℕ) < 1024 := (y 1).isLt; omega⟩ k ⟨(y 1 : ℕ) % 256, by omega⟩) : EReal)) + (b (ix2 0 (y 1)) : EReal)

/-- The logistic function. -/
def sigm (z : EReal) : EReal := Ideal.div 1 (1 + Ideal.exp (0 - z))

/-- The logarithm of the decay. -/
def loga (xc : FVec Ideal S64x1024 .f32) (w : FVec Ideal S4x256x256 .bf16) (b l : FVec Ideal S1x1024 .f32) (y : S64x1024.Idx) : EReal :=
  Ideal.ofBits FTy.f32 3238002688#32 * sigm (pre xc w b y)
    * (max (0 - (l (ix2 0 (y 1)) : EReal)) 0 + Ideal.log1p (Ideal.exp (0 - FloatOps.absf (F := Ideal) (φ := .f32) (0 - (l (ix2 0 (y 1)) : EReal) : EReal))))

/-- The decay. -/
def gate (xc : FVec Ideal S64x1024 .f32) (w : FVec Ideal S4x256x256 .bf16) (b l : FVec Ideal S1x1024 .f32) : FVec Ideal S64x1024 .f32 := fun y =>
  Ideal.exp (loga xc w b l y)

/-- The gated input. -/
def inp (xc : FVec Ideal S64x1024 .f32) (w w' : FVec Ideal S4x256x256 .bf16) (b b' l : FVec Ideal S1x1024 .f32) : FVec Ideal S64x1024 .f32 := fun y =>
  Ideal.sqrt (0 - Ideal.tanh (Ideal.ofBits FTy.f32 1056964608#32 * (Ideal.ofBits FTy.f32 1073741824#32 * loga xc w b l y))
      * (Ideal.exp (Ideal.ofBits FTy.f32 1073741824#32 * loga xc w b l y) + 1))
    * (sigm (pre xc w' b' y) * (xc y : EReal))

theorem pre_at (xc : FVec Ideal S64x1024 .f32) (w : FVec Ideal S4x256x256 .bf16) (b : FVec Ideal S1x1024 .f32) (y : S64x1024.Idx) (r : Fin 64) (g : Fin 4) (q : Fin 256)
    (f : Fin 256 → Fin 1024) (hf : ∀ k, (f k).val = 256 * g.val + k.val) (h0 : (y 0 : ℕ) = r.val) (h1 : (y 1 : ℕ) = 256 * g.val + q.val) :
    pre xc w b y = (∑ k : Fin 256, (xc (ix2 r (f k)) : EReal) * (w (ix3 g k q) : EReal)) + (b (ix2 0 (f q)) : EReal) := by
  have e0 : y 0 = r := Fin.ext h0
  have e1 : y 1 = f q := Fin.ext (by rw [hf]; exact h1)
  have e2 : (y 1 : ℕ) / 256 = g.val := by have := q.isLt; omega
  have e3 : (y 1 : ℕ) % 256 = q.val := by have := q.isLt; omega
  have eg : ∀ h, (⟨(y 1 : ℕ) / 256, h⟩ : Fin 4) = g := fun h => Fin.ext e2
  have eq : ∀ h, (⟨(y 1 : ℕ) % 256, h⟩ : Fin 256) = q := fun h => Fin.ext e3
  have ef : ∀ (k : Fin 256) h, (⟨256 * ((y 1 : ℕ) / 256) + k.val, h⟩ : Fin 1024) = f k := fun k h => Fin.ext (by rw [hf, ← e2])
  unfold pre
  simp only [eg, eq, ef, e0]
  rw [e1]

theorem loga_at (xc : FVec Ideal S64x1024 .f32) (w : FVec Ideal S4x256x256 .bf16) (b l : FVec Ideal S1x1024 .f32) (y : S64x1024.Idx) (r : Fin 64) (g : Fin 4) (q : Fin 256)
    (f : Fin 256 → Fin 1024) (hf : ∀ k, (f k).val = 256 * g.val + k.val) (h0 : (y 0 : ℕ) = r.val) (h1 : (y 1 : ℕ) = 256 * g.val + q.val) :
    loga xc w b l y = Ideal.ofBits FTy.f32 3238002688#32 * Ideal.div 1 (1 + Ideal.exp (0 - ((∑ k : Fin 256, (xc (ix2 r (f k)) : EReal) * (w (ix3 g k q) : EReal)) + (b (ix2 0 (f q)) : EReal))))
      * (max (0 - (l (ix2 0 (f q)) : EReal)) 0 + Ideal.log1p (Ideal.exp (0 - FloatOps.absf (F := Ideal) (φ := .f32) (0 - (l (ix2 0 (f q)) : EReal) : EReal)))) := by
  have e1 : y 1 = f q := Fin.ext (by rw [hf]; exact h1)
  unfold loga sigm
  rw [pre_at xc w b y r g q f hf h0 h1, e1]

theorem inp_at (xc : FVec Ideal S64x1024 .f32) (w w' : FVec Ideal S4x256x256 .bf16) (b b' l : FVec Ideal S1x1024 .f32) (y : S64x1024.Idx) (r : Fin 64) (g : Fin 4) (q : Fin 256)
    (f : Fin 256 → Fin 1024) (hf : ∀ k, (f k).val = 256 * g.val + k.val) (h0 : (y 0 : ℕ) = r.val) (h1 : (y 1 : ℕ) = 256 * g.val + q.val) :
    inp xc w w' b b' l y = Ideal.sqrt (0 - Ideal.tanh (Ideal.ofBits FTy.f32 1056964608#32 * (Ideal.ofBits FTy.f32 1073741824#32 * loga xc w b l y))
        * (Ideal.exp (Ideal.ofBits FTy.f32 1073741824#32 * loga xc w b l y) + 1))
      * (Ideal.div 1 (1 + Ideal.exp (0 - ((∑ k : Fin 256, (xc (ix2 r (f k)) : EReal) * (w' (ix3 g k q) : EReal)) + (b' (ix2 0 (f q)) : EReal)))) * (xc (ix2 r (f q)) : EReal)) := by
  have ey : y = ix2 r (f q) := by
    refine funext fun d => Fin.ext ?_
    fin_cases d
    · exact h0
    · exact h1.trans (hf q).symm
  unfold inp sigm
  rw [pre_at xc w' b' y r g q f hf h0 h1]
  exact congrArg (fun z => _ * (_ * (xc z : EReal))) ey

set_option maxHeartbeats 4000000 in
theorem decay0 (c : Dev nD) (arg14 : Memref sig .tc .vmem S64x1024 .bf16) (harg14 : arg14.IsWhole) (arg16 : Memref sig .tc .vmem S8x3x1024 .f32) (harg16 : arg16.IsWhole) (arg18 : Memref sig .tc .vmem S4x1024 .f32) (harg18 : arg18.IsWhole) (arg19 : Memref sig .tc .vmem S1x1024 .f32) (harg19 : arg19.IsWhole) (arg20 : Memref sig .tc .vmem S4x256x256 .bf16) (harg20 : arg20.IsWhole) (arg21 : Memref sig .tc .vmem S1x1024 .f32) (harg21 : arg21.IsWhole) (arg24 : Memref sig .tc .vmem S1x1024 .f32) (harg24 : arg24.IsWhole) (arg40 : Memref sig .tc .vmem S8x16x1024 .f32) (arg41 : Memref sig .tc .vmem S64x1024 .f32) (x13 : FVec Ideal S64x1024 .bf16) (x15 : FVec Ideal S8x3x1024 .f32) (x17 : FVec Ideal S4x1024 .f32) (x18 : FVec Ideal S1x1024 .f32) (x19 : FVec Ideal S4x256x256 .bf16) (x20 : FVec Ideal S1x1024 .f32) (x23 : FVec Ideal S1x1024 .f32) (x : S64x256.Idx) (y : S64x1024.Idx) (h0 : (y 0 : ℕ) = (x 0 : ℕ)) (h1 : (y 1 : ℕ) = 0 + (x 1 : ℕ)) :
    (kernelRun0_A.sl.v2957 (F := Ideal) c arg14 harg14 arg16 harg16 arg18 harg18 arg19 harg19 arg20 harg20 arg21 harg21 arg24 harg24 arg40 arg41 x13 x15 x17 x18 x19 x20 x23) x = gate (xcv x13 x15 x17 x18) x19 x20 x23 y := by
  unfold kernelRun0_A.sl.v2957 kernelRun0_A.sl.v2940 kernelRun0_A.sl.v2939 kernelRun0_A.sl.v2938 kernelRun0_A.sl.v2937 kernelRun0_A.sl.v2904 kernelRun0_A.sl.v2903 kernelRun0_A.sl.v2902 kernelRun0_A.sl.v2901 kernelRun0_A.sl.v2899 kernelRun0_A.sl.v2898 kernelRun0_A.sl.v2896 kernelRun0_A.sl.v2894 kernelRun0_A.sl.v2895 kernelRun0_A.sl.v2936 kernelRun0_A.sl.v2920 kernelRun0_A.sl.v2918 kernelRun0_A.sl.v2916 kernelRun0_A.sl.v2915 kernelRun0_A.sl.v2913 kernelRun0_A.sl.v2912 kernelRun0_A.sl.v2911 kernelRun0_A.sl.v2909 kernelRun0_A.sl.cst_1890 kernelRun0_A.sl.v2908 kernelRun0_A.sl.v2906 kernelRun0_A.sl.v2905 kernelRun0_A.sl.v2914 kernelRun0_A.sl.cst kernelRun0_A.sl.v2917 kernelRun0_A.sl.cst_135 kernelRun0_A.sl.v2935 kernelRun0_A.sl.cst_1905
  rw [load3 c arg14 harg14 arg16 harg16 arg18 harg18 arg19 harg19 arg40 x13 x15 x17 x18 arg41]
  generalize xcv x13 x15 x17 x18 = xc
  frame_open
  frame_out
  pointwise []
  exact congrArg Ideal.exp (loga_at xc x19 x20 x23 y (x 0) 0 (x 1) (fun j => ⟨j.val, by omega⟩) (fun j => (Nat.zero_add _).symm) h0 h1).symm

set_option maxHeartbeats 4000000 in
theorem input0 (c : Dev nD) (arg14 : Memref sig .tc .vmem S64x1024 .bf16) (harg14 : arg14.IsWhole) (arg16 : Memref sig .tc .vmem S8x3x1024 .f32) (harg16 : arg16.IsWhole) (arg18 : Memref sig .tc .vmem S4x1024 .f32) (harg18 : arg18.IsWhole) (arg19 : Memref sig .tc .vmem S1x1024 .f32) (harg19 : arg19.IsWhole) (arg20 : Memref sig .tc .vmem S4x256x256 .bf16) (harg20 : arg20.IsWhole) (arg21 : Memref sig .tc .vmem S1x1024 .f32) (harg21 : arg21.IsWhole) (arg22 : Memref sig .tc .vmem S4x256x256 .bf16) (harg22 : arg22.IsWhole) (arg23 : Memref sig .tc .vmem S1x1024 .f32) (harg23 : arg23.IsWhole) (arg24 : Memref sig .tc .vmem S1x1024 .f32) (harg24 : arg24.IsWhole) (arg40 : Memref sig .tc .vmem S8x16x1024 .f32) (arg41 : Memref sig .tc .vmem S64x1024 .f32) (x13 : FVec Ideal S64x1024 .bf16) (x15 : FVec Ideal S8x3x1024 .f32) (x17 : FVec Ideal S4x1024 .f32) (x18 : FVec Ideal S1x1024 .f32) (x19 : FVec Ideal S4x256x256 .bf16) (x20 : FVec Ideal S1x1024 .f32) (x21 : FVec Ideal S4x256x256 .bf16) (x22 : FVec Ideal S1x1024 .f32) (x23 : FVec Ideal S1x1024 .f32) (x : S64x256.Idx) (y : S64x1024.Idx) (h0 : (y 0 : ℕ) = (x 0 : ℕ)) (h1 : (y 1 : ℕ) = 0 + (x 1 : ℕ)) :
    (kernelRun0_A.sl.v2960 (F := Ideal) c arg14 harg14 arg16 harg16 arg18 harg18 arg19 harg19 arg20 harg20 arg21 harg21 arg22 harg22 arg23 harg23 arg24 harg24 arg40 arg41 x13 x15 x17 x18 x19 x20 x21 x22 x23) x = inp (xcv x13 x15 x17 x18) x19 x21 x20 x22 x23 y := by
  unfold kernelRun0_A.sl.v2960 kernelRun0_A.sl.v2954 kernelRun0_A.sl.v2953 kernelRun0_A.sl.v2934 kernelRun0_A.sl.v2932 kernelRun0_A.sl.v2930 kernelRun0_A.sl.v2929 kernelRun0_A.sl.v2927 kernelRun0_A.sl.v2926 kernelRun0_A.sl.v2925 kernelRun0_A.sl.v2923 kernelRun0_A.sl.v2922 kernelRun0_A.sl.v2952 kernelRun0_A.sl.v2951 kernelRun0_A.sl.v2949 kernelRun0_A.sl.v2948 kernelRun0_A.sl.v2946 kernelRun0_A.sl.v2945 kernelRun0_A.sl.v2944 kernelRun0_A.sl.v2942 kernelRun0_A.sl.v2939 kernelRun0_A.sl.v2938 kernelRun0_A.sl.v2937 kernelRun0_A.sl.v2904 kernelRun0_A.sl.v2903 kernelRun0_A.sl.v2902 kernelRun0_A.sl.v2901 kernelRun0_A.sl.v2899 kernelRun0_A.sl.v2898 kernelRun0_A.sl.v2896 kernelRun0_A.sl.v2894 kernelRun0_A.sl.v2895 kernelRun0_A.sl.v2936 kernelRun0_A.sl.v2920 kernelRun0_A.sl.v2918 kernelRun0_A.sl.v2916 kernelRun0_A.sl.v2915 kernelRun0_A.sl.v2913 kernelRun0_A.sl.v2912 kernelRun0_A.sl.v2911 kernelRun0_A.sl.v2909 kernelRun0_A.sl.cst_1890 kernelRun0_A.sl.v2908 kernelRun0_A.sl.v2906 kernelRun0_A.sl.v2905 kernelRun0_A.sl.v2917 kernelRun0_A.sl.cst_135 kernelRun0_A.sl.v2935 kernelRun0_A.sl.cst_1905 kernelRun0_A.sl.v2941 kernelRun0_A.sl.cst_1906 kernelRun0_A.sl.v2943 kernelRun0_A.sl.cst_1907 kernelRun0_A.sl.v2914 kernelRun0_A.sl.cst
  rw [load3 c arg14 harg14 arg16 harg16 arg18 harg18 arg19 harg19 arg40 x13 x15 x17 x18 arg41]
  generalize xcv x13 x15 x17 x18 = xc
  frame_open
  frame_out
  pointwise []
  refine Eq.trans ?_ (inp_at xc x19 x21 x20 x22 x23 y (x 0) 0 (x 1) (fun j => ⟨j.val, by omega⟩) (fun j => (Nat.zero_add _).symm) h0 h1).symm
  rw [loga_at xc x19 x20 x23 y (x 0) 0 (x 1) (fun j => ⟨j.val, by omega⟩) (fun j => (Nat.zero_add _).symm) h0 h1]

set_option maxHeartbeats 4000000 in
theorem decay1 (c : Dev nD) (arg14 : Memref sig .tc .vmem S64x1024 .bf16) (harg14 : arg14.IsWhole) (arg16 : Memref sig .tc .vmem S8x3x1024 .f32) (harg16 : arg16.IsWhole) (arg18 : Memref sig .tc .vmem S4x1024 .f32) (harg18 : arg18.IsWhole) (arg19 : Memref sig .tc .vmem S1x1024 .f32) (harg19 : arg19.IsWhole) (arg20 : Memref sig .tc .vmem S4x256x256 .bf16) (harg20 : arg20.IsWhole) (arg21 : Memref sig .tc .vmem S1x1024 .f32) (harg21 : arg21.IsWhole) (arg24 : Memref sig .tc .vmem S1x1024 .f32) (harg24 : arg24.IsWhole) (arg40 : Memref sig .tc .vmem S8x16x1024 .f32) (arg41 : Memref sig .tc .vmem S64x1024 .f32) (x13 : FVec Ideal S64x1024 .bf16) (x15 : FVec Ideal S8x3x1024 .f32) (x17 : FVec Ideal S4x1024 .f32) (x18 : FVec Ideal S1x1024 .f32) (x19 : FVec Ideal S4x256x256 .bf16) (x20 : FVec Ideal S1x1024 .f32) (x23 : FVec Ideal S1x1024 .f32) (x : S64x256.Idx) (y : S64x1024.Idx) (h0 : (y 0 : ℕ) = (x 0 : ℕ)) (h1 : (y 1 : ℕ) = 256 + (x 1 : ℕ)) :
    (kernelRun0_A.sl.v3013 (F := Ideal) c arg14 harg14 arg16 harg16 arg18 harg18 arg19 harg19 arg20 harg20 arg21 harg21 arg24 harg24 arg40 arg41 x13 x15 x17 x18 x19 x20 x23) x = gate (xcv x13 x15 x17 x18) x19 x20 x23 y := by
  unfold kernelRun0_A.sl.v3013 kernelRun0_A.sl.v2996 kernelRun0_A.sl.v2995 kernelRun0_A.sl.v2994 kernelRun0_A.sl.v2993 kernelRun0_A.sl.v2904 kernelRun0_A.sl.v2903 kernelRun0_A.sl.v2902 kernelRun0_A.sl.v2901 kernelRun0_A.sl.v2899 kernelRun0_A.sl.v2898 kernelRun0_A.sl.v2896 kernelRun0_A.sl.v2894 kernelRun0_A.sl.v2895 kernelRun0_A.sl.v2992 kernelRun0_A.sl.v2976 kernelRun0_A.sl.v2974 kernelRun0_A.sl.v2972 kernelRun0_A.sl.v2971 kernelRun0_A.sl.v2969 kernelRun0_A.sl.v2968 kernelRun0_A.sl.v2967 kernelRun0_A.sl.v2965 kernelRun0_A.sl.cst_1890 kernelRun0_A.sl.v2964 kernelRun0_A.sl.v2962 kernelRun0_A.sl.v2961 kernelRun0_A.sl.v2914 kernelRun0_A.sl.cst kernelRun0_A.sl.v2917 kernelRun0_A.sl.cst_135 kernelRun0_A.sl.v2935 kernelRun0_A.sl.cst_1905
  rw [load3 c arg14 harg14 arg16 harg16 arg18 harg18 arg19 harg19 arg40 x13 x15 x17 x18 arg41]
  generalize xcv x13 x15 x17 x18 = xc
  frame_open
  frame_out
  pointwise []
  exact congrArg Ideal.exp (loga_at xc x19 x20 x23 y (x 0) 1 (x 1) (fun j => ⟨256 + j.val, by omega⟩) (fun j => rfl) h0 h1).symm

set_option maxHeartbeats 4000000 in
theorem input1 (c : Dev nD) (arg14 : Memref sig .tc .vmem S64x1024 .bf16) (harg14 : arg14.IsWhole) (arg16 : Memref sig .tc .vmem S8x3x1024 .f32) (harg16 : arg16.IsWhole) (arg18 : Memref sig .tc .vmem S4x1024 .f32) (harg18 : arg18.IsWhole) (arg19 : Memref sig .tc .vmem S1x1024 .f32) (harg19 : arg19.IsWhole) (arg20 : Memref sig .tc .vmem S4x256x256 .bf16) (harg20 : arg20.IsWhole) (arg21 : Memref sig .tc .vmem S1x1024 .f32) (harg21 : arg21.IsWhole) (arg22 : Memref sig .tc .vmem S4x256x256 .bf16) (harg22 : arg22.IsWhole) (arg23 : Memref sig .tc .vmem S1x1024 .f32) (harg23 : arg23.IsWhole) (arg24 : Memref sig .tc .vmem S1x1024 .f32) (harg24 : arg24.IsWhole) (arg40 : Memref sig .tc .vmem S8x16x1024 .f32) (arg41 : Memref sig .tc .vmem S64x1024 .f32) (x13 : FVec Ideal S64x1024 .bf16) (x15 : FVec Ideal S8x3x1024 .f32) (x17 : FVec Ideal S4x1024 .f32) (x18 : FVec Ideal S1x1024 .f32) (x19 : FVec Ideal S4x256x256 .bf16) (x20 : FVec Ideal S1x1024 .f32) (x21 : FVec Ideal S4x256x256 .bf16) (x22 : FVec Ideal S1x1024 .f32) (x23 : FVec Ideal S1x1024 .f32) (x : S64x256.Idx) (y : S64x1024.Idx) (h0 : (y 0 : ℕ) = (x 0 : ℕ)) (h1 : (y 1 : ℕ) = 256 + (x 1 : ℕ)) :
    (kernelRun0_A.sl.v3016 (F := Ideal) c arg14 harg14 arg16 harg16 arg18 harg18 arg19 harg19 arg20 harg20 arg21 harg21 arg22 harg22 arg23 harg23 arg24 harg24 arg40 arg41 x13 x15 x17 x18 x19 x20 x21 x22 x23) x = inp (xcv x13 x15 x17 x18) x19 x21 x20 x22 x23 y := by
  unfold kernelRun0_A.sl.v3016 kernelRun0_A.sl.v3010 kernelRun0_A.sl.v3009 kernelRun0_A.sl.v2990 kernelRun0_A.sl.v2988 kernelRun0_A.sl.v2986 kernelRun0_A.sl.v2985 kernelRun0_A.sl.v2983 kernelRun0_A.sl.v2982 kernelRun0_A.sl.v2981 kernelRun0_A.sl.v2979 kernelRun0_A.sl.v2978 kernelRun0_A.sl.v3008 kernelRun0_A.sl.v3007 kernelRun0_A.sl.v3005 kernelRun0_A.sl.v3004 kernelRun0_A.sl.v3002 kernelRun0_A.sl.v3001 kernelRun0_A.sl.v3000 kernelRun0_A.sl.v2998 kernelRun0_A.sl.v2995 kernelRun0_A.sl.v2994 kernelRun0_A.sl.v2993 kernelRun0_A.sl.v2904 kernelRun0_A.sl.v2903 kernelRun0_A.sl.v2902 kernelRun0_A.sl.v2901 kernelRun0_A.sl.v2899 kernelRun0_A.sl.v2898 kernelRun0_A.sl.v2896 kernelRun0_A.sl.v2894 kernelRun0_A.sl.v2895 kernelRun0_A.sl.v2992 kernelRun0_A.sl.v2976 kernelRun0_A.sl.v2974 kernelRun0_A.sl.v2972 kernelRun0_A.sl.v2971 kernelRun0_A.sl.v2969 kernelRun0_A.sl.v2968 kernelRun0_A.sl.v2967 kernelRun0_A.sl.v2965 kernelRun0_A.sl.cst_1890 kernelRun0_A.sl.v2964 kernelRun0_A.sl.v2962 kernelRun0_A.sl.v2961 kernelRun0_A.sl.v2917 kernelRun0_A.sl.cst_135 kernelRun0_A.sl.v2935 kernelRun0_A.sl.cst_1905 kernelRun0_A.sl.v2941 kernelRun0_A.sl.cst_1906 kernelRun0_A.sl.v2943 kernelRun0_A.sl.cst_1907 kernelRun0_A.sl.v2914 kernelRun0_A.sl.cst
  rw [load3 c arg14 harg14 arg16 harg16 arg18 harg18 arg19 harg19 arg40 x13 x15 x17 x18 arg41]
  generalize xcv x13 x15 x17 x18 = xc
  frame_open
  frame_out
  pointwise []
  refine Eq.trans ?_ (inp_at xc x19 x21 x20 x22 x23 y (x 0) 1 (x 1) (fun j => ⟨256 + j.val, by omega⟩) (fun j => rfl) h0 h1).symm
  rw [loga_at xc x19 x20 x23 y (x 0) 1 (x 1) (fun j => ⟨256 + j.val, by omega⟩) (fun j => rfl) h0 h1]

set_option maxHeartbeats 4000000 in
theorem decay2 (c : Dev nD) (arg14 : Memref sig .tc .vmem S64x1024 .bf16) (harg14 : arg14.IsWhole) (arg16 : Memref sig .tc .vmem S8x3x1024 .f32) (harg16 : arg16.IsWhole) (arg18 : Memref sig .tc .vmem S4x1024 .f32) (harg18 : arg18.IsWhole) (arg19 : Memref sig .tc .vmem S1x1024 .f32) (harg19 : arg19.IsWhole) (arg20 : Memref sig .tc .vmem S4x256x256 .bf16) (harg20 : arg20.IsWhole) (arg21 : Memref sig .tc .vmem S1x1024 .f32) (harg21 : arg21.IsWhole) (arg24 : Memref sig .tc .vmem S1x1024 .f32) (harg24 : arg24.IsWhole) (arg40 : Memref sig .tc .vmem S8x16x1024 .f32) (arg41 : Memref sig .tc .vmem S64x1024 .f32) (x13 : FVec Ideal S64x1024 .bf16) (x15 : FVec Ideal S8x3x1024 .f32) (x17 : FVec Ideal S4x1024 .f32) (x18 : FVec Ideal S1x1024 .f32) (x19 : FVec Ideal S4x256x256 .bf16) (x20 : FVec Ideal S1x1024 .f32) (x23 : FVec Ideal S1x1024 .f32) (x : S64x256.Idx) (y : S64x1024.Idx) (h0 : (y 0 : ℕ) = (x 0 : ℕ)) (h1 : (y 1 : ℕ) = 512 + (x 1 : ℕ)) :
    (kernelRun0_A.sl.v3069 (F := Ideal) c arg14 harg14 arg16 harg16 arg18 harg18 arg19 harg19 arg20 harg20 arg21 harg21 arg24 harg24 arg40 arg41 x13 x15 x17 x18 x19 x20 x23) x = gate (xcv x13 x15 x17 x18) x19 x20 x23 y := by
  unfold kernelRun0_A.sl.v3069 kernelRun0_A.sl.v3052 kernelRun0_A.sl.v3051 kernelRun0_A.sl.v3050 kernelRun0_A.sl.v3049 kernelRun0_A.sl.v2904 kernelRun0_A.sl.v2903 kernelRun0_A.sl.v2902 kernelRun0_A.sl.v2901 kernelRun0_A.sl.v2899 kernelRun0_A.sl.v2898 kernelRun0_A.sl.v2896 kernelRun0_A.sl.v2894 kernelRun0_A.sl.v2895 kernelRun0_A.sl.v3048 kernelRun0_A.sl.v3032 kernelRun0_A.sl.v3030 kernelRun0_A.sl.v3028 kernelRun0_A.sl.v3027 kernelRun0_A.sl.v3025 kernelRun0_A.sl.v3024 kernelRun0_A.sl.v3023 kernelRun0_A.sl.v3021 kernelRun0_A.sl.cst_1890 kernelRun0_A.sl.v3020 kernelRun0_A.sl.v3018 kernelRun0_A.sl.v3017 kernelRun0_A.sl.v2914 kernelRun0_A.sl.cst kernelRun0_A.sl.v2917 kernelRun0_A.sl.cst_135 kernelRun0_A.sl.v2935 kernelRun0_A.sl.cst_1905
  rw [load3 c arg14 harg14 arg16 harg16 arg18 harg18 arg19 harg19 arg40 x13 x15 x17 x18 arg41]
  generalize xcv x13 x15 x17 x18 = xc
  frame_open
  frame_out
  pointwise []
  exact congrArg Ideal.exp (loga_at xc x19 x20 x23 y (x 0) 2 (x 1) (fun j => ⟨512 + j.val, by omega⟩) (fun j => rfl) h0 h1).symm

set_option maxHeartbeats 4000000 in
theorem input2 (c : Dev nD) (arg14 : Memref sig .tc .vmem S64x1024 .bf16) (harg14 : arg14.IsWhole) (arg16 : Memref sig .tc .vmem S8x3x1024 .f32) (harg16 : arg16.IsWhole) (arg18 : Memref sig .tc .vmem S4x1024 .f32) (harg18 : arg18.IsWhole) (arg19 : Memref sig .tc .vmem S1x1024 .f32) (harg19 : arg19.IsWhole) (arg20 : Memref sig .tc .vmem S4x256x256 .bf16) (harg20 : arg20.IsWhole) (arg21 : Memref sig .tc .vmem S1x1024 .f32) (harg21 : arg21.IsWhole) (arg22 : Memref sig .tc .vmem S4x256x256 .bf16) (harg22 : arg22.IsWhole) (arg23 : Memref sig .tc .vmem S1x1024 .f32) (harg23 : arg23.IsWhole) (arg24 : Memref sig .tc .vmem S1x1024 .f32) (harg24 : arg24.IsWhole) (arg40 : Memref sig .tc .vmem S8x16x1024 .f32) (arg41 : Memref sig .tc .vmem S64x1024 .f32) (x13 : FVec Ideal S64x1024 .bf16) (x15 : FVec Ideal S8x3x1024 .f32) (x17 : FVec Ideal S4x1024 .f32) (x18 : FVec Ideal S1x1024 .f32) (x19 : FVec Ideal S4x256x256 .bf16) (x20 : FVec Ideal S1x1024 .f32) (x21 : FVec Ideal S4x256x256 .bf16) (x22 : FVec Ideal S1x1024 .f32) (x23 : FVec Ideal S1x1024 .f32) (x : S64x256.Idx) (y : S64x1024.Idx) (h0 : (y 0 : ℕ) = (x 0 : ℕ)) (h1 : (y 1 : ℕ) = 512 + (x 1 : ℕ)) :
    (kernelRun0_A.sl.v3072 (F := Ideal) c arg14 harg14 arg16 harg16 arg18 harg18 arg19 harg19 arg20 harg20 arg21 harg21 arg22 harg22 arg23 harg23 arg24 harg24 arg40 arg41 x13 x15 x17 x18 x19 x20 x21 x22 x23) x = inp (xcv x13 x15 x17 x18) x19 x21 x20 x22 x23 y := by
  unfold kernelRun0_A.sl.v3072 kernelRun0_A.sl.v3066 kernelRun0_A.sl.v3065 kernelRun0_A.sl.v3046 kernelRun0_A.sl.v3044 kernelRun0_A.sl.v3042 kernelRun0_A.sl.v3041 kernelRun0_A.sl.v3039 kernelRun0_A.sl.v3038 kernelRun0_A.sl.v3037 kernelRun0_A.sl.v3035 kernelRun0_A.sl.v3034 kernelRun0_A.sl.v3064 kernelRun0_A.sl.v3063 kernelRun0_A.sl.v3061 kernelRun0_A.sl.v3060 kernelRun0_A.sl.v3058 kernelRun0_A.sl.v3057 kernelRun0_A.sl.v3056 kernelRun0_A.sl.v3054 kernelRun0_A.sl.v3051 kernelRun0_A.sl.v3050 kernelRun0_A.sl.v3049 kernelRun0_A.sl.v2904 kernelRun0_A.sl.v2903 kernelRun0_A.sl.v2902 kernelRun0_A.sl.v2901 kernelRun0_A.sl.v2899 kernelRun0_A.sl.v2898 kernelRun0_A.sl.v2896 kernelRun0_A.sl.v2894 kernelRun0_A.sl.v2895 kernelRun0_A.sl.v3048 kernelRun0_A.sl.v3032 kernelRun0_A.sl.v3030 kernelRun0_A.sl.v3028 kernelRun0_A.sl.v3027 kernelRun0_A.sl.v3025 kernelRun0_A.sl.v3024 kernelRun0_A.sl.v3023 kernelRun0_A.sl.v3021 kernelRun0_A.sl.cst_1890 kernelRun0_A.sl.v3020 kernelRun0_A.sl.v3018 kernelRun0_A.sl.v3017 kernelRun0_A.sl.v2917 kernelRun0_A.sl.cst_135 kernelRun0_A.sl.v2935 kernelRun0_A.sl.cst_1905 kernelRun0_A.sl.v2941 kernelRun0_A.sl.cst_1906 kernelRun0_A.sl.v2943 kernelRun0_A.sl.cst_1907 kernelRun0_A.sl.v2914 kernelRun0_A.sl.cst
  rw [load3 c arg14 harg14 arg16 harg16 arg18 harg18 arg19 harg19 arg40 x13 x15 x17 x18 arg41]
  generalize xcv x13 x15 x17 x18 = xc
  frame_open
  frame_out
  pointwise []
  refine Eq.trans ?_ (inp_at xc x19 x21 x20 x22 x23 y (x 0) 2 (x 1) (fun j => ⟨512 + j.val, by omega⟩) (fun j => rfl) h0 h1).symm
  rw [loga_at xc x19 x20 x23 y (x 0) 2 (x 1) (fun j => ⟨512 + j.val, by omega⟩) (fun j => rfl) h0 h1]

set_option maxHeartbeats 4000000 in
theorem decay3 (c : Dev nD) (arg14 : Memref sig .tc .vmem S64x1024 .bf16) (harg14 : arg14.IsWhole) (arg16 : Memref sig .tc .vmem S8x3x1024 .f32) (harg16 : arg16.IsWhole) (arg18 : Memref sig .tc .vmem S4x1024 .f32) (harg18 : arg18.IsWhole) (arg19 : Memref sig .tc .vmem S1x1024 .f32) (harg19 : arg19.IsWhole) (arg20 : Memref sig .tc .vmem S4x256x256 .bf16) (harg20 : arg20.IsWhole) (arg21 : Memref sig .tc .vmem S1x1024 .f32) (harg21 : arg21.IsWhole) (arg24 : Memref sig .tc .vmem S1x1024 .f32) (harg24 : arg24.IsWhole) (arg40 : Memref sig .tc .vmem S8x16x1024 .f32) (arg41 : Memref sig .tc .vmem S64x1024 .f32) (x13 : FVec Ideal S64x1024 .bf16) (x15 : FVec Ideal S8x3x1024 .f32) (x17 : FVec Ideal S4x1024 .f32) (x18 : FVec Ideal S1x1024 .f32) (x19 : FVec Ideal S4x256x256 .bf16) (x20 : FVec Ideal S1x1024 .f32) (x23 : FVec Ideal S1x1024 .f32) (x : S64x256.Idx) (y : S64x1024.Idx) (h0 : (y 0 : ℕ) = (x 0 : ℕ)) (h1 : (y 1 : ℕ) = 768 + (x 1 : ℕ)) :
    (kernelRun0_A.sl.v3125 (F := Ideal) c arg14 harg14 arg16 harg16 arg18 harg18 arg19 harg19 arg20 harg20 arg21 harg21 arg24 harg24 arg40 arg41 x13 x15 x17 x18 x19 x20 x23) x = gate (xcv x13 x15 x17 x18) x19 x20 x23 y := by
  unfold kernelRun0_A.sl.v3125 kernelRun0_A.sl.v3108 kernelRun0_A.sl.v3107 kernelRun0_A.sl.v3106 kernelRun0_A.sl.v3105 kernelRun0_A.sl.v2904 kernelRun0_A.sl.v2903 kernelRun0_A.sl.v2902 kernelRun0_A.sl.v2901 kernelRun0_A.sl.v2899 kernelRun0_A.sl.v2898 kernelRun0_A.sl.v2896 kernelRun0_A.sl.v2894 kernelRun0_A.sl.v2895 kernelRun0_A.sl.v3104 kernelRun0_A.sl.v3088 kernelRun0_A.sl.v3086 kernelRun0_A.sl.v3084 kernelRun0_A.sl.v3083 kernelRun0_A.sl.v3081 kernelRun0_A.sl.v3080 kernelRun0_A.sl.v3079 kernelRun0_A.sl.v3077 kernelRun0_A.sl.cst_1890 kernelRun0_A.sl.v3076 kernelRun0_A.sl.v3074 kernelRun0_A.sl.v3073 kernelRun0_A.sl.v2914 kernelRun0_A.sl.cst kernelRun0_A.sl.v2917 kernelRun0_A.sl.cst_135 kernelRun0_A.sl.v2935 kernelRun0_A.sl.cst_1905
  rw [load3 c arg14 harg14 arg16 harg16 arg18 harg18 arg19 harg19 arg40 x13 x15 x17 x18 arg41]
  generalize xcv x13 x15 x17 x18 = xc
  frame_open
  frame_out
  pointwise []
  exact congrArg Ideal.exp (loga_at xc x19 x20 x23 y (x 0) 3 (x 1) (fun j => ⟨768 + j.val, by omega⟩) (fun j => rfl) h0 h1).symm

set_option maxHeartbeats 4000000 in
theorem input3 (c : Dev nD) (arg14 : Memref sig .tc .vmem S64x1024 .bf16) (harg14 : arg14.IsWhole) (arg16 : Memref sig .tc .vmem S8x3x1024 .f32) (harg16 : arg16.IsWhole) (arg18 : Memref sig .tc .vmem S4x1024 .f32) (harg18 : arg18.IsWhole) (arg19 : Memref sig .tc .vmem S1x1024 .f32) (harg19 : arg19.IsWhole) (arg20 : Memref sig .tc .vmem S4x256x256 .bf16) (harg20 : arg20.IsWhole) (arg21 : Memref sig .tc .vmem S1x1024 .f32) (harg21 : arg21.IsWhole) (arg22 : Memref sig .tc .vmem S4x256x256 .bf16) (harg22 : arg22.IsWhole) (arg23 : Memref sig .tc .vmem S1x1024 .f32) (harg23 : arg23.IsWhole) (arg24 : Memref sig .tc .vmem S1x1024 .f32) (harg24 : arg24.IsWhole) (arg40 : Memref sig .tc .vmem S8x16x1024 .f32) (arg41 : Memref sig .tc .vmem S64x1024 .f32) (x13 : FVec Ideal S64x1024 .bf16) (x15 : FVec Ideal S8x3x1024 .f32) (x17 : FVec Ideal S4x1024 .f32) (x18 : FVec Ideal S1x1024 .f32) (x19 : FVec Ideal S4x256x256 .bf16) (x20 : FVec Ideal S1x1024 .f32) (x21 : FVec Ideal S4x256x256 .bf16) (x22 : FVec Ideal S1x1024 .f32) (x23 : FVec Ideal S1x1024 .f32) (x : S64x256.Idx) (y : S64x1024.Idx) (h0 : (y 0 : ℕ) = (x 0 : ℕ)) (h1 : (y 1 : ℕ) = 768 + (x 1 : ℕ)) :
    (kernelRun0_A.sl.v3128 (F := Ideal) c arg14 harg14 arg16 harg16 arg18 harg18 arg19 harg19 arg20 harg20 arg21 harg21 arg22 harg22 arg23 harg23 arg24 harg24 arg40 arg41 x13 x15 x17 x18 x19 x20 x21 x22 x23) x = inp (xcv x13 x15 x17 x18) x19 x21 x20 x22 x23 y := by
  unfold kernelRun0_A.sl.v3128 kernelRun0_A.sl.v3122 kernelRun0_A.sl.v3121 kernelRun0_A.sl.v3102 kernelRun0_A.sl.v3100 kernelRun0_A.sl.v3098 kernelRun0_A.sl.v3097 kernelRun0_A.sl.v3095 kernelRun0_A.sl.v3094 kernelRun0_A.sl.v3093 kernelRun0_A.sl.v3091 kernelRun0_A.sl.v3090 kernelRun0_A.sl.v3120 kernelRun0_A.sl.v3119 kernelRun0_A.sl.v3117 kernelRun0_A.sl.v3116 kernelRun0_A.sl.v3114 kernelRun0_A.sl.v3113 kernelRun0_A.sl.v3112 kernelRun0_A.sl.v3110 kernelRun0_A.sl.v3107 kernelRun0_A.sl.v3106 kernelRun0_A.sl.v3105 kernelRun0_A.sl.v2904 kernelRun0_A.sl.v2903 kernelRun0_A.sl.v2902 kernelRun0_A.sl.v2901 kernelRun0_A.sl.v2899 kernelRun0_A.sl.v2898 kernelRun0_A.sl.v2896 kernelRun0_A.sl.v2894 kernelRun0_A.sl.v2895 kernelRun0_A.sl.v3104 kernelRun0_A.sl.v3088 kernelRun0_A.sl.v3086 kernelRun0_A.sl.v3084 kernelRun0_A.sl.v3083 kernelRun0_A.sl.v3081 kernelRun0_A.sl.v3080 kernelRun0_A.sl.v3079 kernelRun0_A.sl.v3077 kernelRun0_A.sl.cst_1890 kernelRun0_A.sl.v3076 kernelRun0_A.sl.v3074 kernelRun0_A.sl.v3073 kernelRun0_A.sl.v2917 kernelRun0_A.sl.cst_135 kernelRun0_A.sl.v2935 kernelRun0_A.sl.cst_1905 kernelRun0_A.sl.v2941 kernelRun0_A.sl.cst_1906 kernelRun0_A.sl.v2943 kernelRun0_A.sl.cst_1907 kernelRun0_A.sl.v2914 kernelRun0_A.sl.cst
  rw [load3 c arg14 harg14 arg16 harg16 arg18 harg18 arg19 harg19 arg40 x13 x15 x17 x18 arg41]
  generalize xcv x13 x15 x17 x18 = xc
  frame_open
  frame_out
  pointwise []
  refine Eq.trans ?_ (inp_at xc x19 x21 x20 x22 x23 y (x 0) 3 (x 1) (fun j => ⟨768 + j.val, by omega⟩) (fun j => rfl) h0 h1).symm
  rw [loga_at xc x19 x20 x23 y (x 0) 3 (x 1) (fun j => ⟨768 + j.val, by omega⟩) (fun j => rfl) h0 h1]

set_option maxHeartbeats 4000000 in
theorem canon4 (c : Dev nD) (arg14 : Memref sig .tc .vmem S64x1024 .bf16) (harg14 : arg14.IsWhole) (arg16 : Memref sig .tc .vmem S8x3x1024 .f32) (harg16 : arg16.IsWhole) (arg18 : Memref sig .tc .vmem S4x1024 .f32) (harg18 : arg18.IsWhole) (arg19 : Memref sig .tc .vmem S1x1024 .f32) (harg19 : arg19.IsWhole) (arg20 : Memref sig .tc .vmem S4x256x256 .bf16) (harg20 : arg20.IsWhole) (arg21 : Memref sig .tc .vmem S1x1024 .f32) (harg21 : arg21.IsWhole) (arg24 : Memref sig .tc .vmem S1x1024 .f32) (harg24 : arg24.IsWhole) (arg40 : Memref sig .tc .vmem S8x16x1024 .f32) (arg41 : Memref sig .tc .vmem S64x1024 .f32) (x13 : FVec Ideal S64x1024 .bf16) (x15 : FVec Ideal S8x3x1024 .f32) (x17 : FVec Ideal S4x1024 .f32) (x18 : FVec Ideal S1x1024 .f32) (x19 : FVec Ideal S4x256x256 .bf16) (x20 : FVec Ideal S1x1024 .f32) (x23 : FVec Ideal S1x1024 .f32) : View.canon (kernelRun0_A.sl.HS4_4 (F := Ideal) c arg14 harg14 arg16 harg16 arg18 harg18 arg19 harg19 arg20 harg20 arg21 harg21 arg24 harg24 arg40 arg41 x13 x15 x17 x18 x19 x20 x23) = gate (xcv x13 x15 x17 x18) x19 x20 x23 := by
  funext y
  unfold kernelRun0_A.sl.HS4_4
  canon_tiles x h
  case piece0 => exact decay3 c arg14 harg14 arg16 harg16 arg18 harg18 arg19 harg19 arg20 harg20 arg21 harg21 arg24 harg24 arg40 arg41 x13 x15 x17 x18 x19 x20 x23 x y (by omega) (by omega)
  case piece1 => exact decay2 c arg14 harg14 arg16 harg16 arg18 harg18 arg19 harg19 arg20 harg20 arg21 harg21 arg24 harg24 arg40 arg41 x13 x15 x17 x18 x19 x20 x23 x y (by omega) (by omega)
  case piece2 => exact decay1 c arg14 harg14 arg16 harg16 arg18 harg18 arg19 harg19 arg20 harg20 arg21 harg21 arg24 harg24 arg40 arg41 x13 x15 x17 x18 x19 x20 x23 x y (by omega) (by omega)
  case piece3 => exact decay0 c arg14 harg14 arg16 harg16 arg18 harg18 arg19 harg19 arg20 harg20 arg21 harg21 arg24 harg24 arg40 arg41 x13 x15 x17 x18 x19 x20 x23 x y (by omega) (by omega)

set_option maxHeartbeats 4000000 in
theorem canon5 (c : Dev nD) (arg14 : Memref sig .tc .vmem S64x1024 .bf16) (harg14 : arg14.IsWhole) (arg16 : Memref sig .tc .vmem S8x3x1024 .f32) (harg16 : arg16.IsWhole) (arg18 : Memref sig .tc .vmem S4x1024 .f32) (harg18 : arg18.IsWhole) (arg19 : Memref sig .tc .vmem S1x1024 .f32) (harg19 : arg19.IsWhole) (arg20 : Memref sig .tc .vmem S4x256x256 .bf16) (harg20 : arg20.IsWhole) (arg21 : Memref sig .tc .vmem S1x1024 .f32) (harg21 : arg21.IsWhole) (arg22 : Memref sig .tc .vmem S4x256x256 .bf16) (harg22 : arg22.IsWhole) (arg23 : Memref sig .tc .vmem S1x1024 .f32) (harg23 : arg23.IsWhole) (arg24 : Memref sig .tc .vmem S1x1024 .f32) (harg24 : arg24.IsWhole) (arg40 : Memref sig .tc .vmem S8x16x1024 .f32) (arg41 : Memref sig .tc .vmem S64x1024 .f32) (x13 : FVec Ideal S64x1024 .bf16) (x15 : FVec Ideal S8x3x1024 .f32) (x17 : FVec Ideal S4x1024 .f32) (x18 : FVec Ideal S1x1024 .f32) (x19 : FVec Ideal S4x256x256 .bf16) (x20 : FVec Ideal S1x1024 .f32) (x21 : FVec Ideal S4x256x256 .bf16) (x22 : FVec Ideal S1x1024 .f32) (x23 : FVec Ideal S1x1024 .f32) : View.canon (kernelRun0_A.sl.HS5_4 (F := Ideal) c arg14 harg14 arg16 harg16 arg18 harg18 arg19 harg19 arg20 harg20 arg21 harg21 arg22 harg22 arg23 harg23 arg24 harg24 arg40 arg41 x13 x15 x17 x18 x19 x20 x21 x22 x23) = inp (xcv x13 x15 x17 x18) x19 x21 x20 x22 x23 := by
  funext y
  unfold kernelRun0_A.sl.HS5_4
  canon_tiles x h
  case piece0 => exact input3 c arg14 harg14 arg16 harg16 arg18 harg18 arg19 harg19 arg20 harg20 arg21 harg21 arg22 harg22 arg23 harg23 arg24 harg24 arg40 arg41 x13 x15 x17 x18 x19 x20 x21 x22 x23 x y (by omega) (by omega)
  case piece1 => exact input2 c arg14 harg14 arg16 harg16 arg18 harg18 arg19 harg19 arg20 harg20 arg21 harg21 arg22 harg22 arg23 harg23 arg24 harg24 arg40 arg41 x13 x15 x17 x18 x19 x20 x21 x22 x23 x y (by omega) (by omega)
  case piece2 => exact input1 c arg14 harg14 arg16 harg16 arg18 harg18 arg19 harg19 arg20 harg20 arg21 harg21 arg22 harg22 arg23 harg23 arg24 harg24 arg40 arg41 x13 x15 x17 x18 x19 x20 x21 x22 x23 x y (by omega) (by omega)
  case piece3 => exact input0 c arg14 harg14 arg16 harg16 arg18 harg18 arg19 harg19 arg20 harg20 arg21 harg21 arg22 harg22 arg23 harg23 arg24 harg24 arg40 arg41 x13 x15 x17 x18 x19 x20 x21 x22 x23 x y (by omega) (by omega)

end Cert.SampleIdeal.Words
-- ==== Proof.StateMath.lean ====
/- The scalar equations of the recurrent branch: the kernel's spelling of exp x - 1 and of softplus, and a sum over a row of a block-diagonal matrix. -/
module

public import Idealize.ShloMosaic.Lib.Pipeline.ValueKit
public import Mathlib.Analysis.SpecialFunctions.Trigonometric.DerivHyp

@[expose] public section

namespace Cert.StateMath

open Idealize.ShloMosaic

/-- `tanh (x / 2) (e^x + 1) = e^x - 1`, the infinities included. -/
theorem tanh_half (x : EReal) : Ideal.tanh (((1 / 2 : ℝ) : EReal) * x) * (Ideal.exp x + 1) = Ideal.expm1 x := by
  induction x using EReal.rec with
  | bot =>
    rw [EReal.coe_mul_bot_of_pos (by norm_num)]
    simp [Ideal.expm1]
  | top =>
    rw [EReal.coe_mul_top_of_pos (by norm_num)]
    simp [Ideal.expm1]
    rfl
  | coe r =>
    have e : Real.tanh (1 / 2 * r) * (Real.exp r + 1) = Real.exp r - 1 := by
      have h : Real.exp r = Real.exp (1 / 2 * r) * Real.exp (1 / 2 * r) := by rw [← Real.exp_add]; ring_nf
      have hp := Real.exp_pos (1 / 2 * r)
      rw [Real.tanh_eq_sinh_div_cosh, Real.sinh_eq, Real.cosh_eq, Real.exp_neg, h]
      have : Real.exp (1 / 2 * r) * Real.exp (1 / 2 * r) + 1 ≠ 0 := by positivity
      field_simp
    rw [← EReal.coe_mul]
    simp only [Ideal.tanh_coe, Ideal.exp_coe, Ideal.expm1]
    rw [← EReal.coe_one, ← EReal.coe_add, ← EReal.coe_mul, e, EReal.coe_sub]

/-- Two sums over 256 and over 64: a row of a block-diagonal matrix of four blocks, the block `b` the one that is not zero. -/
theorem sum_block (b : Fin 4) (x : Fin 256 → EReal) (w : Fin 4 → Fin 64 → EReal)
    : (∑ k : Fin 256, x k * (w ⟨k.val / 64, by omega⟩ ⟨k.val % 64, by omega⟩ * (if k.val / 64 = b.val then 1 else 0)))
      = ∑ d : Fin 64, x ⟨64 * b.val + d.val, by omega⟩ * w b d := by
  rw [← Finset.sum_filter_add_sum_filter_not Finset.univ (fun k : Fin 256 => k.val / 64 = b.val)]
  rw [Finset.sum_eq_zero (s := Finset.univ.filter fun k : Fin 256 => ¬ k.val / 64 = b.val), add_zero]
  · symm
    refine Finset.sum_bij (fun d _ => (⟨64 * b.val + d.val, by omega⟩ : Fin 256)) ?_ ?_ ?_ ?_
    · intro d _
      simp only [Finset.mem_filter, Finset.mem_univ, true_and]; omega
    · intro d _ d' _ h
      simp only [Fin.mk.injEq] at h; exact Fin.ext (by omega)
    · intro k hk
      simp only [Finset.mem_filter, Finset.mem_univ, true_and] at hk
      exact ⟨⟨k.val % 64, by omega⟩, Finset.mem_univ _, Fin.ext (by simp only; omega)⟩
    · intro d _
      have h1 : (64 * b.val + d.val) / 64 = b.val := by omega
      have h2 : (64 * b.val + d.val) % 64 = d.val := by omega
      simp only [h1, if_true, mul_one]
      congr 2
      exact Fin.ext h2.symm
  · intro k hk
    simp only [Finset.mem_filter, Finset.mem_univ, true_and] at hk
    rw [if_neg hk, mul_zero, mul_zero]

end Cert.StateMath
-- ==== Proof.HidRef.lean ====
/- The reference's recurrence read at an index. -/
module

public import proofs.«01_k».proof.Proof.StateAt
public import proofs.«01_k».proof.Proof.StateMath

@[expose] public section

set_option maxRecDepth 16384

noncomputable section

open Idealize.ShloMosaic Idealize.ShloMosaic.TcCoe Idealize.SL.Sem

namespace Cert.SampleRefIdeal.State

open Cert.SampleRefIdeal Cert.SampleRefIdeal.Gen

theorem v67_at (a0 : FVec Ideal S9472x11776 .bf16) (a5 : FVec Ideal S2x128x3x1024 .f32) (a11 : FVec Ideal S2x4x1024 .f32) (a12 : FVec Ideal S2x1024 .f32) (i : S128x8x1024.Idx) (b : Fin 128) (t : Fin 8) (q : Fin 1024) (h0 : i 0 = b) (h1 : i 1 = t) (h2 : i 2 = q) :
    v67 a0 a5 a11 a12 i = ((((v31 a0 a5 (ix3 b ⟨t.val, by omega⟩ q) : EReal) * a11 (ix3 1 0 q) + (v31 a0 a5 (ix3 b ⟨1 + t.val, by omega⟩ q) : EReal) * a11 (ix3 1 1 q))
      + (v31 a0 a5 (ix3 b ⟨2 + t.val, by omega⟩ q) : EReal) * a11 (ix3 1 2 q)) + (v31 a0 a5 (ix3 b ⟨3 + t.val, by omega⟩ q) : EReal) * a11 (ix3 1 3 q)) + a12 (ix2 1 q) := by
  subst h0 h1 h2
  pointwise [v67, v33]

theorem v109_at (a0 : FVec Ideal S9472x11776 .bf16) (a5 : FVec Ideal S2x128x3x1024 .f32) (a11 : FVec Ideal S2x4x1024 .f32) (a12 : FVec Ideal S2x1024 .f32) (a13 : FVec Ideal S2x16x64x64 .f32) (a14 : FVec Ideal S2x1024 .f32) (a17 : FVec Ideal S2x1024 .f32) (i : S128x8x1024.Idx) :
    v109 a0 a5 a11 a12 a13 a14 a17 i = (Ideal.ofBits FTy.f32 3238002688#32 * Ideal.div 1 (1 + Ideal.exp (-((∑ x : Fin 64,
        (a13 (ix4 1 ⟨(i 2 : ℕ) / 64, by have b : (i 2 : ℕ) < 1024 := (i 2).isLt; omega⟩ x ⟨(i 2 : ℕ) % 64, by omega⟩) : EReal)
          * v67 a0 a5 a11 a12 (ix3 (i 0) (i 1) ⟨(i 2 : ℕ) / 64 * 64 + x.val, by have b : (i 2 : ℕ) < 1024 := (i 2).isLt; omega⟩)) + a14 (ix2 1 (i 2))))))
      * (max (-(a17 (ix2 1 (i 2)) : EReal)) 0 + Ideal.log1p (Ideal.exp (-FloatOps.absf (F := Ideal) (φ := .f32) (-(a17 (ix2 1 (i 2)) : EReal) : EReal)))) := by
  pointwise [v109, v68, c3, c0, v105]
  rw [if_neg (fun h => h rfl)]

theorem v117_at (a0 : FVec Ideal S9472x11776 .bf16) (a5 : FVec Ideal S2x128x3x1024 .f32) (a11 : FVec Ideal S2x4x1024 .f32) (a12 : FVec Ideal S2x1024 .f32) (a13 : FVec Ideal S2x16x64x64 .f32) (a14 : FVec Ideal S2x1024 .f32) (a15 : FVec Ideal S2x16x64x64 .f32) (a16 : FVec Ideal S2x1024 .f32) (a17 : FVec Ideal S2x1024 .f32) (i : S128x8x1024.Idx) :
    v117 a0 a5 a11 a12 a13 a14 a15 a16 a17 i = Ideal.sqrt (-(Ideal.exp (Ideal.ofBits FTy.f32 1073741824#32 * v109 a0 a5 a11 a12 a13 a14 a17 i) - 1))
      * (Ideal.div 1 (1 + Ideal.exp (-((∑ x : Fin 64,
        (a15 (ix4 1 ⟨(i 2 : ℕ) / 64, by have b : (i 2 : ℕ) < 1024 := (i 2).isLt; omega⟩ x ⟨(i 2 : ℕ) % 64, by omega⟩) : EReal)
          * v67 a0 a5 a11 a12 (ix3 (i 0) (i 1) ⟨(i 2 : ℕ) / 64 * 64 + x.val, by have b : (i 2 : ℕ) < 1024 := (i 2).isLt; omega⟩)) + a16 (ix2 1 (i 2)))))
        * v67 a0 a5 a11 a12 i) := by
  pointwise [v117, v68]

theorem v110_at (a0 : FVec Ideal S9472x11776 .bf16) (a5 : FVec Ideal S2x128x3x1024 .f32) (a11 : FVec Ideal S2x4x1024 .f32) (a12 : FVec Ideal S2x1024 .f32) (a13 : FVec Ideal S2x16x64x64 .f32) (a14 : FVec Ideal S2x1024 .f32) (a17 : FVec Ideal S2x1024 .f32) (i : S128x8x1024.Idx) : v110 a0 a5 a11 a12 a13 a14 a17 i = Ideal.exp (v109 a0 a5 a11 a12 a13 a14 a17 i) := by
  pointwise [v110]

theorem sh_old (a0 : FVec Ideal S9472x11776 .bf16) (a5 : FVec Ideal S2x128x3x1024 .f32) (a6 : FVec Ideal S2x128x1024 .f32) (a11 : FVec Ideal S2x4x1024 .f32) (a12 : FVec Ideal S2x1024 .f32) (a13 : FVec Ideal S2x16x64x64 .f32) (a14 : FVec Ideal S2x1024 .f32) (a15 : FVec Ideal S2x16x64x64 .f32) (a16 : FVec Ideal S2x1024 .f32) (a17 : FVec Ideal S2x1024 .f32) (a22 : FVec Ideal S256x1024 .f32) (i : S256x1024.Idx) (h : (i 0 : ℕ) < 128) : sh a0 a5 a6 a11 a12 a13 a14 a15 a16 a17 a22 i = a22 i := by
  pointwise [sh]
  rw [dif_pos h]

/-- One step of the recurrence. -/
def step (a x h : EReal) : EReal := a * h + x

theorem sh_new (a0 : FVec Ideal S9472x11776 .bf16) (a5 : FVec Ideal S2x128x3x1024 .f32) (a6 : FVec Ideal S2x128x1024 .f32) (a11 : FVec Ideal S2x4x1024 .f32) (a12 : FVec Ideal S2x1024 .f32) (a13 : FVec Ideal S2x16x64x64 .f32) (a14 : FVec Ideal S2x1024 .f32) (a15 : FVec Ideal S2x16x64x64 .f32) (a16 : FVec Ideal S2x1024 .f32) (a17 : FVec Ideal S2x1024 .f32) (a22 : FVec Ideal S256x1024 .f32) (i : S256x1024.Idx) (h : 128 ≤ (i 0 : ℕ)) (b : Fin 128) (q : Fin 1024) (hb : b.val = (i 0 : ℕ) - 128) (hq : i 1 = q) :
    sh a0 a5 a6 a11 a12 a13 a14 a15 a16 a17 a22 i = (step (v110 a0 a5 a11 a12 a13 a14 a17 (ix3 b 7 q)) (v117 a0 a5 a11 a12 a13 a14 a15 a16 a17 (ix3 b 7 q)) (step (v110 a0 a5 a11 a12 a13 a14 a17 (ix3 b 6 q)) (v117 a0 a5 a11 a12 a13 a14 a15 a16 a17 (ix3 b 6 q)) (step (v110 a0 a5 a11 a12 a13 a14 a17 (ix3 b 5 q)) (v117 a0 a5 a11 a12 a13 a14 a15 a16 a17 (ix3 b 5 q)) (step (v110 a0 a5 a11 a12 a13 a14 a17 (ix3 b 4 q)) (v117 a0 a5 a11 a12 a13 a14 a15 a16 a17 (ix3 b 4 q)) (step (v110 a0 a5 a11 a12 a13 a14 a17 (ix3 b 3 q)) (v117 a0 a5 a11 a12 a13 a14 a15 a16 a17 (ix3 b 3 q)) (step (v110 a0 a5 a11 a12 a13 a14 a17 (ix3 b 2 q)) (v117 a0 a5 a11 a12 a13 a14 a15 a16 a17 (ix3 b 2 q)) (step (v110 a0 a5 a11 a12 a13 a14 a17 (ix3 b 1 q)) (v117 a0 a5 a11 a12 a13 a14 a15 a16 a17 (ix3 b 1 q)) (step (v110 a0 a5 a11 a12 a13 a14 a17 (ix3 b 0 q)) (v117 a0 a5 a11 a12 a13 a14 a15 a16 a17 (ix3 b 0 q)) (a6 (ix3 1 b q) : EReal))))))))) := by
  have e : b = ⟨(i 0 : ℕ) - 128, by have c : (i 0 : ℕ) < 256 := (i 0).isLt; omega⟩ := Fin.ext hb
  subst hq
  rw [e]
  unfold step
  pointwise [sh]
  rw [dif_neg (by omega)]

end Cert.SampleRefIdeal.State
-- ==== Proof.SampleRows.lean ====
/- The recurrence's last states, as the sample branches' kernel computes them row by row. -/
module

public import proofs.«01_k».proof.Proof.SampleGate
public import proofs.«01_k».proof.Proof.HidRef
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open scoped BigOperators

open Idealize.ShloMosaic.Pipeline (Dat)
open scoped BigOperators

namespace Cert.SampleIdeal.Words

open Cert.SampleIdeal Cert.SampleIdeal.Gen
open Cert.SampleRefIdeal.State (step)

theorem load4 (c : Dev nD) (arg14 : Memref sig .tc .vmem S64x1024 .bf16) (harg14 : arg14.IsWhole) (arg16 : Memref sig .tc .vmem S8x3x1024 .f32) (harg16 : arg16.IsWhole) (arg18 : Memref sig .tc .vmem S4x1024 .f32) (harg18 : arg18.IsWhole) (arg19 : Memref sig .tc .vmem S1x1024 .f32) (harg19 : arg19.IsWhole) (arg20 : Memref sig .tc .vmem S4x256x256 .bf16) (harg20 : arg20.IsWhole) (arg21 : Memref sig .tc .vmem S1x1024 .f32) (harg21 : arg21.IsWhole) (arg24 : Memref sig .tc .vmem S1x1024 .f32) (harg24 : arg24.IsWhole) (arg40 : Memref sig .tc .vmem S8x16x1024 .f32) (arg41 : Memref sig .tc .vmem S64x1024 .f32) (x13 : FVec Ideal S64x1024 .bf16) (x15 : FVec Ideal S8x3x1024 .f32) (x17 : FVec Ideal S4x1024 .f32) (x18 : FVec Ideal S1x1024 .f32) (x19 : FVec Ideal S4x256x256 .bf16) (x20 : FVec Ideal S1x1024 .f32) (x23 : FVec Ideal S1x1024 .f32) (v : View sig .tc .vmem S64x1024 .f32) (B : Rect S64x1024) :
    v.readCov ((kernelRun0_A.sl.HS4_4 (F := Ideal) c arg14 harg14 arg16 harg16 arg18 harg18 arg19 harg19 arg20 harg20 arg21 harg21 arg24 harg24 arg40 arg41 x13 x15 x17 x18 x19 x20 x23)) B.toLoadRect = View.ld (gate (xcv x13 x15 x17 x18) x19 x20 x23) B := by
  rw [View.readCov_eq_canon', canon4]

theorem load5 (c : Dev nD) (arg14 : Memref sig .tc .vmem S64x1024 .bf16) (harg14 : arg14.IsWhole) (arg16 : Memref sig .tc .vmem S8x3x1024 .f32) (harg16 : arg16.IsWhole) (arg18 : Memref sig .tc .vmem S4x1024 .f32) (harg18 : arg18.IsWhole) (arg19 : Memref sig .tc .vmem S1x1024 .f32) (harg19 : arg19.IsWhole) (arg20 : Memref sig .tc .vmem S4x256x256 .bf16) (harg20 : arg20.IsWhole) (arg21 : Memref sig .tc .vmem S1x1024 .f32) (harg21 : arg21.IsWhole) (arg22 : Memref sig .tc .vmem S4x256x256 .bf16) (harg22 : arg22.IsWhole) (arg23 : Memref sig .tc .vmem S1x1024 .f32) (harg23 : arg23.IsWhole) (arg24 : Memref sig .tc .vmem S1x1024 .f32) (harg24 : arg24.IsWhole) (arg40 : Memref sig .tc .vmem S8x16x1024 .f32) (arg41 : Memref sig .tc .vmem S64x1024 .f32) (x13 : FVec Ideal S64x1024 .bf16) (x15 : FVec Ideal S8x3x1024 .f32) (x17 : FVec Ideal S4x1024 .f32) (x18 : FVec Ideal S1x1024 .f32) (x19 : FVec Ideal S4x256x256 .bf16) (x20 : FVec Ideal S1x1024 .f32) (x21 : FVec Ideal S4x256x256 .bf16) (x22 : FVec Ideal S1x1024 .f32) (x23 : FVec Ideal S1x1024 .f32) (v : View sig .tc .vmem S64x1024 .f32) (B : Rect S64x1024) :
    v.readCov ((kernelRun0_A.sl.HS5_4 (F := Ideal) c arg14 harg14 arg16 harg16 arg18 harg18 arg19 harg19 arg20 harg20 arg21 harg21 arg22 harg22 arg23 harg23 arg24 harg24 arg40 arg41 x13 x15 x17 x18 x19 x20 x21 x22 x23)) B.toLoadRect = View.ld (inp (xcv x13 x15 x17 x18) x19 x21 x20 x22 x23) B := by
  rw [View.readCov_eq_canon', canon5]

set_option maxHeartbeats 4000000 in
theorem row0 (c : Dev nD) (arg14 : Memref sig .tc .vmem S64x1024 .bf16) (harg14 : arg14.IsWhole) (arg16 : Memref sig .tc .vmem S8x3x1024 .f32) (harg16 : arg16.IsWhole) (arg17 : Memref sig .tc .vmem S8x1024 .f32) (harg17 : arg17.IsWhole) (arg18 : Memref sig .tc .vmem S4x1024 .f32) (harg18 : arg18.IsWhole) (arg19 : Memref sig .tc .vmem S1x1024 .f32) (harg19 : arg19.IsWhole) (arg20 : Memref sig .tc .vmem S4x256x256 .bf16) (harg20 : arg20.IsWhole) (arg21 : Memref sig .tc .vmem S1x1024 .f32) (harg21 : arg21.IsWhole) (arg22 : Memref sig .tc .vmem S4x256x256 .bf16) (harg22 : arg22.IsWhole) (arg23 : Memref sig .tc .vmem S1x1024 .f32) (harg23 : arg23.IsWhole) (arg24 : Memref sig .tc .vmem S1x1024 .f32) (harg24 : arg24.IsWhole) (arg40 : Memref sig .tc .vmem S8x16x1024 .f32) (arg41 : Memref sig .tc .vmem S64x1024 .f32) (arg42 : Memref sig .tc .vmem S64x1024 .f32) (arg43 : Memref sig .tc .vmem S64x1024 .f32) (x13 : FVec Ideal S64x1024 .bf16) (x15 : FVec Ideal S8x3x1024 .f32) (x16 : FVec Ideal S8x1024 .f32) (x17 : FVec Ideal S4x1024 .f32) (x18 : FVec Ideal S1x1024 .f32) (x19 : FVec Ideal S4x256x256 .bf16) (x20 : FVec Ideal S1x1024 .f32) (x21 : FVec Ideal S4x256x256 .bf16) (x22 : FVec Ideal S1x1024 .f32) (x23 : FVec Ideal S1x1024 .f32) (x : S1x1024.Idx) (q : Fin 1024) (hq : x 1 = q) :
    ((kernelRun0_A.sl.v3183 (F := Ideal) c arg14 harg14 arg16 harg16 arg17 harg17 arg18 harg18 arg19 harg19 arg20 harg20 arg21 harg21 arg22 harg22 arg23 harg23 arg24 harg24 arg40 arg41 arg42 arg43 x13 x15 x16 x17 x18 x19 x20 x21 x22 x23)) x = (step (gate (xcv x13 x15 x17 x18) x19 x20 x23 (ix2 7 q)) (inp (xcv x13 x15 x17 x18) x19 x21 x20 x22 x23 (ix2 7 q)) (step (gate (xcv x13 x15 x17 x18) x19 x20 x23 (ix2 6 q)) (inp (xcv x13 x15 x17 x18) x19 x21 x20 x22 x23 (ix2 6 q)) (step (gate (xcv x13 x15 x17 x18) x19 x20 x23 (ix2 5 q)) (inp (xcv x13 x15 x17 x18) x19 x21 x20 x22 x23 (ix2 5 q)) (step (gate (xcv x13 x15 x17 x18) x19 x20 x23 (ix2 4 q)) (inp (xcv x13 x15 x17 x18) x19 x21 x20 x22 x23 (ix2 4 q)) (step (gate (xcv x13 x15 x17 x18) x19 x20 x23 (ix2 3 q)) (inp (xcv x13 x15 x17 x18) x19 x21 x20 x22 x23 (ix2 3 q)) (step (gate (xcv x13 x15 x17 x18) x19 x20 x23 (ix2 2 q)) (inp (xcv x13 x15 x17 x18) x19 x21 x20 x22 x23 (ix2 2 q)) (step (gate (xcv x13 x15 x17 x18) x19 x20 x23 (ix2 1 q)) (inp (xcv x13 x15 x17 x18) x19 x21 x20 x22 x23 (ix2 1 q)) (step (gate (xcv x13 x15 x17 x18) x19 x20 x23 (ix2 0 q)) (inp (xcv x13 x15 x17 x18) x19 x21 x20 x22 x23 (ix2 0 q)) (x16 (ix2 0 q) : EReal))))))))) := by
  subst hq
  unfold kernelRun0_A.sl.v3183 kernelRun0_A.sl.v3182 kernelRun0_A.sl.v3181 kernelRun0_A.sl.v3176 kernelRun0_A.sl.v3175 kernelRun0_A.sl.v3174 kernelRun0_A.sl.v3169 kernelRun0_A.sl.v3168 kernelRun0_A.sl.v3167 kernelRun0_A.sl.v3162 kernelRun0_A.sl.v3161 kernelRun0_A.sl.v3160 kernelRun0_A.sl.v3155 kernelRun0_A.sl.v3154 kernelRun0_A.sl.v3153 kernelRun0_A.sl.v3148 kernelRun0_A.sl.v3147 kernelRun0_A.sl.v3146 kernelRun0_A.sl.v3141 kernelRun0_A.sl.v3140 kernelRun0_A.sl.v3139 kernelRun0_A.sl.v3134 kernelRun0_A.sl.v3133 kernelRun0_A.sl.v3132 kernelRun0_A.sl.v3130 kernelRun0_A.sl.v3131 kernelRun0_A.sl.v3138 kernelRun0_A.sl.v3145 kernelRun0_A.sl.v3152 kernelRun0_A.sl.v3159 kernelRun0_A.sl.v3166 kernelRun0_A.sl.v3173 kernelRun0_A.sl.v3180
  rw [load4, load4, load4, load4, load4, load4, load4, load4, load5, load5, load5, load5, load5, load5, load5, load5]
  generalize gate (xcv x13 x15 x17 x18) x19 x20 x23 = a
  generalize inp (xcv x13 x15 x17 x18) x19 x21 x20 x22 x23 = u
  unfold step
  frame_open
  frame_out
  pointwise []

set_option maxHeartbeats 4000000 in
theorem row1 (c : Dev nD) (arg14 : Memref sig .tc .vmem S64x1024 .bf16) (harg14 : arg14.IsWhole) (arg16 : Memref sig .tc .vmem S8x3x1024 .f32) (harg16 : arg16.IsWhole) (arg17 : Memref sig .tc .vmem S8x1024 .f32) (harg17 : arg17.IsWhole) (arg18 : Memref sig .tc .vmem S4x1024 .f32) (harg18 : arg18.IsWhole) (arg19 : Memref sig .tc .vmem S1x1024 .f32) (harg19 : arg19.IsWhole) (arg20 : Memref sig .tc .vmem S4x256x256 .bf16) (harg20 : arg20.IsWhole) (arg21 : Memref sig .tc .vmem S1x1024 .f32) (harg21 : arg21.IsWhole) (arg22 : Memref sig .tc .vmem S4x256x256 .bf16) (harg22 : arg22.IsWhole) (arg23 : Memref sig .tc .vmem S1x1024 .f32) (harg23 : arg23.IsWhole) (arg24 : Memref sig .tc .vmem S1x1024 .f32) (harg24 : arg24.IsWhole) (arg40 : Memref sig .tc .vmem S8x16x1024 .f32) (arg41 : Memref sig .tc .vmem S64x1024 .f32) (arg42 : Memref sig .tc .vmem S64x1024 .f32) (arg43 : Memref sig .tc .vmem S64x1024 .f32) (x13 : FVec Ideal S64x1024 .bf16) (x15 : FVec Ideal S8x3x1024 .f32) (x16 : FVec Ideal S8x1024 .f32) (x17 : FVec Ideal S4x1024 .f32) (x18 : FVec Ideal S1x1024 .f32) (x19 : FVec Ideal S4x256x256 .bf16) (x20 : FVec Ideal S1x1024 .f32) (x21 : FVec Ideal S4x256x256 .bf16) (x22 : FVec Ideal S1x1024 .f32) (x23 : FVec Ideal S1x1024 .f32) (x : S1x1024.Idx) (q : Fin 1024) (hq : x 1 = q) :
    ((kernelRun0_A.sl.v3242 (F := Ideal) c arg14 harg14 arg16 harg16 arg17 harg17 arg18 harg18 arg19 harg19 arg20 harg20 arg21 harg21 arg22 harg22 arg23 harg23 arg24 harg24 arg40 arg41 arg42 arg43 x13 x15 x16 x17 x18 x19 x20 x21 x22 x23)) x = (step (gate (xcv x13 x15 x17 x18) x19 x20 x23 (ix2 15 q)) (inp (xcv x13 x15 x17 x18) x19 x21 x20 x22 x23 (ix2 15 q)) (step (gate (xcv x13 x15 x17 x18) x19 x20 x23 (ix2 14 q)) (inp (xcv x13 x15 x17 x18) x19 x21 x20 x22 x23 (ix2 14 q)) (step (gate (xcv x13 x15 x17 x18) x19 x20 x23 (ix2 13 q)) (inp (xcv x13 x15 x17 x18) x19 x21 x20 x22 x23 (ix2 13 q)) (step (gate (xcv x13 x15 x17 x18) x19 x20 x23 (ix2 12 q)) (inp (xcv x13 x15 x17 x18) x19 x21 x20 x22 x23 (ix2 12 q)) (step (gate (xcv x13 x15 x17 x18) x19 x20 x23 (ix2 11 q)) (inp (xcv x13 x15 x17 x18) x19 x21 x20 x22 x23 (ix2 11 q)) (step (gate (xcv x13 x15 x17 x18) x19 x20 x23 (ix2 10 q)) (inp (xcv x13 x15 x17 x18) x19 x21 x20 x22 x23 (ix2 10 q)) (step (gate (xcv x13 x15 x17 x18) x19 x20 x23 (ix2 9 q)) (inp (xcv x13 x15 x17 x18) x19 x21 x20 x22 x23 (ix2 9 q)) (step (gate (xcv x13 x15 x17 x18) x19 x20 x23 (ix2 8 q)) (inp (xcv x13 x15 x17 x18) x19 x21 x20 x22 x23 (ix2 8 q)) (x16 (ix2 1 q) : EReal))))))))) := by
  subst hq
  unfold kernelRun0_A.sl.v3242 kernelRun0_A.sl.v3241 kernelRun0_A.sl.v3240 kernelRun0_A.sl.v3235 kernelRun0_A.sl.v3234 kernelRun0_A.sl.v3233 kernelRun0_A.sl.v3228 kernelRun0_A.sl.v3227 kernelRun0_A.sl.v3226 kernelRun0_A.sl.v3221 kernelRun0_A.sl.v3220 kernelRun0_A.sl.v3219 kernelRun0_A.sl.v3214 kernelRun0_A.sl.v3213 kernelRun0_A.sl.v3212 kernelRun0_A.sl.v3207 kernelRun0_A.sl.v3206 kernelRun0_A.sl.v3205 kernelRun0_A.sl.v3200 kernelRun0_A.sl.v3199 kernelRun0_A.sl.v3198 kernelRun0_A.sl.v3193 kernelRun0_A.sl.v3192 kernelRun0_A.sl.v3191 kernelRun0_A.sl.v3189 kernelRun0_A.sl.v3190 kernelRun0_A.sl.v3197 kernelRun0_A.sl.v3204 kernelRun0_A.sl.v3211 kernelRun0_A.sl.v3218 kernelRun0_A.sl.v3225 kernelRun0_A.sl.v3232 kernelRun0_A.sl.v3239
  rw [load4, load4, load4, load4, load4, load4, load4, load4, load5, load5, load5, load5, load5, load5, load5, load5]
  generalize gate (xcv x13 x15 x17 x18) x19 x20 x23 = a
  generalize inp (xcv x13 x15 x17 x18) x19 x21 x20 x22 x23 = u
  unfold step
  frame_open
  frame_out
  pointwise []

set_option maxHeartbeats 4000000 in
theorem row2 (c : Dev nD) (arg14 : Memref sig .tc .vmem S64x1024 .bf16) (harg14 : arg14.IsWhole) (arg16 : Memref sig .tc .vmem S8x3x1024 .f32) (harg16 : arg16.IsWhole) (arg17 : Memref sig .tc .vmem S8x1024 .f32) (harg17 : arg17.IsWhole) (arg18 : Memref sig .tc .vmem S4x1024 .f32) (harg18 : arg18.IsWhole) (arg19 : Memref sig .tc .vmem S1x1024 .f32) (harg19 : arg19.IsWhole) (arg20 : Memref sig .tc .vmem S4x256x256 .bf16) (harg20 : arg20.IsWhole) (arg21 : Memref sig .tc .vmem S1x1024 .f32) (harg21 : arg21.IsWhole) (arg22 : Memref sig .tc .vmem S4x256x256 .bf16) (harg22 : arg22.IsWhole) (arg23 : Memref sig .tc .vmem S1x1024 .f32) (harg23 : arg23.IsWhole) (arg24 : Memref sig .tc .vmem S1x1024 .f32) (harg24 : arg24.IsWhole) (arg40 : Memref sig .tc .vmem S8x16x1024 .f32) (arg41 : Memref sig .tc .vmem S64x1024 .f32) (arg42 : Memref sig .tc .vmem S64x1024 .f32) (arg43 : Memref sig .tc .vmem S64x1024 .f32) (x13 : FVec Ideal S64x1024 .bf16) (x15 : FVec Ideal S8x3x1024 .f32) (x16 : FVec Ideal S8x1024 .f32) (x17 : FVec Ideal S4x1024 .f32) (x18 : FVec Ideal S1x1024 .f32) (x19 : FVec Ideal S4x256x256 .bf16) (x20 : FVec Ideal S1x1024 .f32) (x21 : FVec Ideal S4x256x256 .bf16) (x22 : FVec Ideal S1x1024 .f32) (x23 : FVec Ideal S1x1024 .f32) (x : S1x1024.Idx) (q : Fin 1024) (hq : x 1 = q) :
    ((kernelRun0_A.sl.v3301 (F := Ideal) c arg14 harg14 arg16 harg16 arg17 harg17 arg18 harg18 arg19 harg19 arg20 harg20 arg21 harg21 arg22 harg22 arg23 harg23 arg24 harg24 arg40 arg41 arg42 arg43 x13 x15 x16 x17 x18 x19 x20 x21 x22 x23)) x = (step (gate (xcv x13 x15 x17 x18) x19 x20 x23 (ix2 23 q)) (inp (xcv x13 x15 x17 x18) x19 x21 x20 x22 x23 (ix2 23 q)) (step (gate (xcv x13 x15 x17 x18) x19 x20 x23 (ix2 22 q)) (inp (xcv x13 x15 x17 x18) x19 x21 x20 x22 x23 (ix2 22 q)) (step (gate (xcv x13 x15 x17 x18) x19 x20 x23 (ix2 21 q)) (inp (xcv x13 x15 x17 x18) x19 x21 x20 x22 x23 (ix2 21 q)) (step (gate (xcv x13 x15 x17 x18) x19 x20 x23 (ix2 20 q)) (inp (xcv x13 x15 x17 x18) x19 x21 x20 x22 x23 (ix2 20 q)) (step (gate (xcv x13 x15 x17 x18) x19 x20 x23 (ix2 19 q)) (inp (xcv x13 x15 x17 x18) x19 x21 x20 x22 x23 (ix2 19 q)) (step (gate (xcv x13 x15 x17 x18) x19 x20 x23 (ix2 18 q)) (inp (xcv x13 x15 x17 x18) x19 x21 x20 x22 x23 (ix2 18 q)) (step (gate (xcv x13 x15 x17 x18) x19 x20 x23 (ix2 17 q)) (inp (xcv x13 x15 x17 x18) x19 x21 x20 x22 x23 (ix2 17 q)) (step (gate (xcv x13 x15 x17 x18) x19 x20 x23 (ix2 16 q)) (inp (xcv x13 x15 x17 x18) x19 x21 x20 x22 x23 (ix2 16 q)) (x16 (ix2 2 q) : EReal))))))))) := by
  subst hq
  unfold kernelRun0_A.sl.v3301 kernelRun0_A.sl.v3300 kernelRun0_A.sl.v3299 kernelRun0_A.sl.v3294 kernelRun0_A.sl.v3293 kernelRun0_A.sl.v3292 kernelRun0_A.sl.v3287 kernelRun0_A.sl.v3286 kernelRun0_A.sl.v3285 kernelRun0_A.sl.v3280 kernelRun0_A.sl.v3279 kernelRun0_A.sl.v3278 kernelRun0_A.sl.v3273 kernelRun0_A.sl.v3272 kernelRun0_A.sl.v3271 kernelRun0_A.sl.v3266 kernelRun0_A.sl.v3265 kernelRun0_A.sl.v3264 kernelRun0_A.sl.v3259 kernelRun0_A.sl.v3258 kernelRun0_A.sl.v3257 kernelRun0_A.sl.v3252 kernelRun0_A.sl.v3251 kernelRun0_A.sl.v3250 kernelRun0_A.sl.v3248 kernelRun0_A.sl.v3249 kernelRun0_A.sl.v3256 kernelRun0_A.sl.v3263 kernelRun0_A.sl.v3270 kernelRun0_A.sl.v3277 kernelRun0_A.sl.v3284 kernelRun0_A.sl.v3291 kernelRun0_A.sl.v3298
  rw [load4, load4, load4, load4, load4, load4, load4, load4, load5, load5, load5, load5, load5, load5, load5, load5]
  generalize gate (xcv x13 x15 x17 x18) x19 x20 x23 = a
  generalize inp (xcv x13 x15 x17 x18) x19 x21 x20 x22 x23 = u
  unfold step
  frame_open
  frame_out
  pointwise []

set_option maxHeartbeats 4000000 in
theorem row3 (c : Dev nD) (arg14 : Memref sig .tc .vmem S64x1024 .bf16) (harg14 : arg14.IsWhole) (arg16 : Memref sig .tc .vmem S8x3x1024 .f32) (harg16 : arg16.IsWhole) (arg17 : Memref sig .tc .vmem S8x1024 .f32) (harg17 : arg17.IsWhole) (arg18 : Memref sig .tc .vmem S4x1024 .f32) (harg18 : arg18.IsWhole) (arg19 : Memref sig .tc .vmem S1x1024 .f32) (harg19 : arg19.IsWhole) (arg20 : Memref sig .tc .vmem S4x256x256 .bf16) (harg20 : arg20.IsWhole) (arg21 : Memref sig .tc .vmem S1x1024 .f32) (harg21 : arg21.IsWhole) (arg22 : Memref sig .tc .vmem S4x256x256 .bf16) (harg22 : arg22.IsWhole) (arg23 : Memref sig .tc .vmem S1x1024 .f32) (harg23 : arg23.IsWhole) (arg24 : Memref sig .tc .vmem S1x1024 .f32) (harg24 : arg24.IsWhole) (arg40 : Memref sig .tc .vmem S8x16x1024 .f32) (arg41 : Memref sig .tc .vmem S64x1024 .f32) (arg42 : Memref sig .tc .vmem S64x1024 .f32) (arg43 : Memref sig .tc .vmem S64x1024 .f32) (x13 : FVec Ideal S64x1024 .bf16) (x15 : FVec Ideal S8x3x1024 .f32) (x16 : FVec Ideal S8x1024 .f32) (x17 : FVec Ideal S4x1024 .f32) (x18 : FVec Ideal S1x1024 .f32) (x19 : FVec Ideal S4x256x256 .bf16) (x20 : FVec Ideal S1x1024 .f32) (x21 : FVec Ideal S4x256x256 .bf16) (x22 : FVec Ideal S1x1024 .f32) (x23 : FVec Ideal S1x1024 .f32) (x : S1x1024.Idx) (q : Fin 1024) (hq : x 1 = q) :
    ((kernelRun0_A.sl.v3360 (F := Ideal) c arg14 harg14 arg16 harg16 arg17 harg17 arg18 harg18 arg19 harg19 arg20 harg20 arg21 harg21 arg22 harg22 arg23 harg23 arg24 harg24 arg40 arg41 arg42 arg43 x13 x15 x16 x17 x18 x19 x20 x21 x22 x23)) x = (step (gate (xcv x13 x15 x17 x18) x19 x20 x23 (ix2 31 q)) (inp (xcv x13 x15 x17 x18) x19 x21 x20 x22 x23 (ix2 31 q)) (step (gate (xcv x13 x15 x17 x18) x19 x20 x23 (ix2 30 q)) (inp (xcv x13 x15 x17 x18) x19 x21 x20 x22 x23 (ix2 30 q)) (step (gate (xcv x13 x15 x17 x18) x19 x20 x23 (ix2 29 q)) (inp (xcv x13 x15 x17 x18) x19 x21 x20 x22 x23 (ix2 29 q)) (step (gate (xcv x13 x15 x17 x18) x19 x20 x23 (ix2 28 q)) (inp (xcv x13 x15 x17 x18) x19 x21 x20 x22 x23 (ix2 28 q)) (step (gate (xcv x13 x15 x17 x18) x19 x20 x23 (ix2 27 q)) (inp (xcv x13 x15 x17 x18) x19 x21 x20 x22 x23 (ix2 27 q)) (step (gate (xcv x13 x15 x17 x18) x19 x20 x23 (ix2 26 q)) (inp (xcv x13 x15 x17 x18) x19 x21 x20 x22 x23 (ix2 26 q)) (step (gate (xcv x13 x15 x17 x18) x19 x20 x23 (ix2 25 q)) (inp (xcv x13 x15 x17 x18) x19 x21 x20 x22 x23 (ix2 25 q)) (step (gate (xcv x13 x15 x17 x18) x19 x20 x23 (ix2 24 q)) (inp (xcv x13 x15 x17 x18) x19 x21 x20 x22 x23 (ix2 24 q)) (x16 (ix2 3 q) : EReal))))))))) := by
  subst hq
  unfold kernelRun0_A.sl.v3360 kernelRun0_A.sl.v3359 kernelRun0_A.sl.v3358 kernelRun0_A.sl.v3353 kernelRun0_A.sl.v3352 kernelRun0_A.sl.v3351 kernelRun0_A.sl.v3346 kernelRun0_A.sl.v3345 kernelRun0_A.sl.v3344 kernelRun0_A.sl.v3339 kernelRun0_A.sl.v3338 kernelRun0_A.sl.v3337 kernelRun0_A.sl.v3332 kernelRun0_A.sl.v3331 kernelRun0_A.sl.v3330 kernelRun0_A.sl.v3325 kernelRun0_A.sl.v3324 kernelRun0_A.sl.v3323 kernelRun0_A.sl.v3318 kernelRun0_A.sl.v3317 kernelRun0_A.sl.v3316 kernelRun0_A.sl.v3311 kernelRun0_A.sl.v3310 kernelRun0_A.sl.v3309 kernelRun0_A.sl.v3307 kernelRun0_A.sl.v3308 kernelRun0_A.sl.v3315 kernelRun0_A.sl.v3322 kernelRun0_A.sl.v3329 kernelRun0_A.sl.v3336 kernelRun0_A.sl.v3343 kernelRun0_A.sl.v3350 kernelRun0_A.sl.v3357
  rw [load4, load4, load4, load4, load4, load4, load4, load4, load5, load5, load5, load5, load5, load5, load5, load5]
  generalize gate (xcv x13 x15 x17 x18) x19 x20 x23 = a
  generalize inp (xcv x13 x15 x17 x18) x19 x21 x20 x22 x23 = u
  unfold step
  frame_open
  frame_out
  pointwise []

set_option maxHeartbeats 4000000 in
theorem row4 (c : Dev nD) (arg14 : Memref sig .tc .vmem S64x1024 .bf16) (harg14 : arg14.IsWhole) (arg16 : Memref sig .tc .vmem S8x3x1024 .f32) (harg16 : arg16.IsWhole) (arg17 : Memref sig .tc .vmem S8x1024 .f32) (harg17 : arg17.IsWhole) (arg18 : Memref sig .tc .vmem S4x1024 .f32) (harg18 : arg18.IsWhole) (arg19 : Memref sig .tc .vmem S1x1024 .f32) (harg19 : arg19.IsWhole) (arg20 : Memref sig .tc .vmem S4x256x256 .bf16) (harg20 : arg20.IsWhole) (arg21 : Memref sig .tc .vmem S1x1024 .f32) (harg21 : arg21.IsWhole) (arg22 : Memref sig .tc .vmem S4x256x256 .bf16) (harg22 : arg22.IsWhole) (arg23 : Memref sig .tc .vmem S1x1024 .f32) (harg23 : arg23.IsWhole) (arg24 : Memref sig .tc .vmem S1x1024 .f32) (harg24 : arg24.IsWhole) (arg40 : Memref sig .tc .vmem S8x16x1024 .f32) (arg41 : Memref sig .tc .vmem S64x1024 .f32) (arg42 : Memref sig .tc .vmem S64x1024 .f32) (arg43 : Memref sig .tc .vmem S64x1024 .f32) (x13 : FVec Ideal S64x1024 .bf16) (x15 : FVec Ideal S8x3x1024 .f32) (x16 : FVec Ideal S8x1024 .f32) (x17 : FVec Ideal S4x1024 .f32) (x18 : FVec Ideal S1x1024 .f32) (x19 : FVec Ideal S4x256x256 .bf16) (x20 : FVec Ideal S1x1024 .f32) (x21 : FVec Ideal S4x256x256 .bf16) (x22 : FVec Ideal S1x1024 .f32) (x23 : FVec Ideal S1x1024 .f32) (x : S1x1024.Idx) (q : Fin 1024) (hq : x 1 = q) :
    ((kernelRun0_A.sl.v3419 (F := Ideal) c arg14 harg14 arg16 harg16 arg17 harg17 arg18 harg18 arg19 harg19 arg20 harg20 arg21 harg21 arg22 harg22 arg23 harg23 arg24 harg24 arg40 arg41 arg42 arg43 x13 x15 x16 x17 x18 x19 x20 x21 x22 x23)) x = (step (gate (xcv x13 x15 x17 x18) x19 x20 x23 (ix2 39 q)) (inp (xcv x13 x15 x17 x18) x19 x21 x20 x22 x23 (ix2 39 q)) (step (gate (xcv x13 x15 x17 x18) x19 x20 x23 (ix2 38 q)) (inp (xcv x13 x15 x17 x18) x19 x21 x20 x22 x23 (ix2 38 q)) (step (gate (xcv x13 x15 x17 x18) x19 x20 x23 (ix2 37 q)) (inp (xcv x13 x15 x17 x18) x19 x21 x20 x22 x23 (ix2 37 q)) (step (gate (xcv x13 x15 x17 x18) x19 x20 x23 (ix2 36 q)) (inp (xcv x13 x15 x17 x18) x19 x21 x20 x22 x23 (ix2 36 q)) (step (gate (xcv x13 x15 x17 x18) x19 x20 x23 (ix2 35 q)) (inp (xcv x13 x15 x17 x18) x19 x21 x20 x22 x23 (ix2 35 q)) (step (gate (xcv x13 x15 x17 x18) x19 x20 x23 (ix2 34 q)) (inp (xcv x13 x15 x17 x18) x19 x21 x20 x22 x23 (ix2 34 q)) (step (gate (xcv x13 x15 x17 x18) x19 x20 x23 (ix2 33 q)) (inp (xcv x13 x15 x17 x18) x19 x21 x20 x22 x23 (ix2 33 q)) (step (gate (xcv x13 x15 x17 x18) x19 x20 x23 (ix2 32 q)) (inp (xcv x13 x15 x17 x18) x19 x21 x20 x22 x23 (ix2 32 q)) (x16 (ix2 4 q) : EReal))))))))) := by
  subst hq
  unfold kernelRun0_A.sl.v3419 kernelRun0_A.sl.v3418 kernelRun0_A.sl.v3417 kernelRun0_A.sl.v3412 kernelRun0_A.sl.v3411 kernelRun0_A.sl.v3410 kernelRun0_A.sl.v3405 kernelRun0_A.sl.v3404 kernelRun0_A.sl.v3403 kernelRun0_A.sl.v3398 kernelRun0_A.sl.v3397 kernelRun0_A.sl.v3396 kernelRun0_A.sl.v3391 kernelRun0_A.sl.v3390 kernelRun0_A.sl.v3389 kernelRun0_A.sl.v3384 kernelRun0_A.sl.v3383 kernelRun0_A.sl.v3382 kernelRun0_A.sl.v3377 kernelRun0_A.sl.v3376 kernelRun0_A.sl.v3375 kernelRun0_A.sl.v3370 kernelRun0_A.sl.v3369 kernelRun0_A.sl.v3368 kernelRun0_A.sl.v3366 kernelRun0_A.sl.v3367 kernelRun0_A.sl.v3374 kernelRun0_A.sl.v3381 kernelRun0_A.sl.v3388 kernelRun0_A.sl.v3395 kernelRun0_A.sl.v3402 kernelRun0_A.sl.v3409 kernelRun0_A.sl.v3416
  rw [load4, load4, load4, load4, load4, load4, load4, load4, load5, load5, load5, load5, load5, load5, load5, load5]
  generalize gate (xcv x13 x15 x17 x18) x19 x20 x23 = a
  generalize inp (xcv x13 x15 x17 x18) x19 x21 x20 x22 x23 = u
  unfold step
  frame_open
  frame_out
  pointwise []

set_option maxHeartbeats 4000000 in
theorem row5 (c : Dev nD) (arg14 : Memref sig .tc .vmem S64x1024 .bf16) (harg14 : arg14.IsWhole) (arg16 : Memref sig .tc .vmem S8x3x1024 .f32) (harg16 : arg16.IsWhole) (arg17 : Memref sig .tc .vmem S8x1024 .f32) (harg17 : arg17.IsWhole) (arg18 : Memref sig .tc .vmem S4x1024 .f32) (harg18 : arg18.IsWhole) (arg19 : Memref sig .tc .vmem S1x1024 .f32) (harg19 : arg19.IsWhole) (arg20 : Memref sig .tc .vmem S4x256x256 .bf16) (harg20 : arg20.IsWhole) (arg21 : Memref sig .tc .vmem S1x1024 .f32) (harg21 : arg21.IsWhole) (arg22 : Memref sig .tc .vmem S4x256x256 .bf16) (harg22 : arg22.IsWhole) (arg23 : Memref sig .tc .vmem S1x1024 .f32) (harg23 : arg23.IsWhole) (arg24 : Memref sig .tc .vmem S1x1024 .f32) (harg24 : arg24.IsWhole) (arg40 : Memref sig .tc .vmem S8x16x1024 .f32) (arg41 : Memref sig .tc .vmem S64x1024 .f32) (arg42 : Memref sig .tc .vmem S64x1024 .f32) (arg43 : Memref sig .tc .vmem S64x1024 .f32) (x13 : FVec Ideal S64x1024 .bf16) (x15 : FVec Ideal S8x3x1024 .f32) (x16 : FVec Ideal S8x1024 .f32) (x17 : FVec Ideal S4x1024 .f32) (x18 : FVec Ideal S1x1024 .f32) (x19 : FVec Ideal S4x256x256 .bf16) (x20 : FVec Ideal S1x1024 .f32) (x21 : FVec Ideal S4x256x256 .bf16) (x22 : FVec Ideal S1x1024 .f32) (x23 : FVec Ideal S1x1024 .f32) (x : S1x1024.Idx) (q : Fin 1024) (hq : x 1 = q) :
    ((kernelRun0_A.sl.v3478 (F := Ideal) c arg14 harg14 arg16 harg16 arg17 harg17 arg18 harg18 arg19 harg19 arg20 harg20 arg21 harg21 arg22 harg22 arg23 harg23 arg24 harg24 arg40 arg41 arg42 arg43 x13 x15 x16 x17 x18 x19 x20 x21 x22 x23)) x = (step (gate (xcv x13 x15 x17 x18) x19 x20 x23 (ix2 47 q)) (inp (xcv x13 x15 x17 x18) x19 x21 x20 x22 x23 (ix2 47 q)) (step (gate (xcv x13 x15 x17 x18) x19 x20 x23 (ix2 46 q)) (inp (xcv x13 x15 x17 x18) x19 x21 x20 x22 x23 (ix2 46 q)) (step (gate (xcv x13 x15 x17 x18) x19 x20 x23 (ix2 45 q)) (inp (xcv x13 x15 x17 x18) x19 x21 x20 x22 x23 (ix2 45 q)) (step (gate (xcv x13 x15 x17 x18) x19 x20 x23 (ix2 44 q)) (inp (xcv x13 x15 x17 x18) x19 x21 x20 x22 x23 (ix2 44 q)) (step (gate (xcv x13 x15 x17 x18) x19 x20 x23 (ix2 43 q)) (inp (xcv x13 x15 x17 x18) x19 x21 x20 x22 x23 (ix2 43 q)) (step (gate (xcv x13 x15 x17 x18) x19 x20 x23 (ix2 42 q)) (inp (xcv x13 x15 x17 x18) x19 x21 x20 x22 x23 (ix2 42 q)) (step (gate (xcv x13 x15 x17 x18) x19 x20 x23 (ix2 41 q)) (inp (xcv x13 x15 x17 x18) x19 x21 x20 x22 x23 (ix2 41 q)) (step (gate (xcv x13 x15 x17 x18) x19 x20 x23 (ix2 40 q)) (inp (xcv x13 x15 x17 x18) x19 x21 x20 x22 x23 (ix2 40 q)) (x16 (ix2 5 q) : EReal))))))))) := by
  subst hq
  unfold kernelRun0_A.sl.v3478 kernelRun0_A.sl.v3477 kernelRun0_A.sl.v3476 kernelRun0_A.sl.v3471 kernelRun0_A.sl.v3470 kernelRun0_A.sl.v3469 kernelRun0_A.sl.v3464 kernelRun0_A.sl.v3463 kernelRun0_A.sl.v3462 kernelRun0_A.sl.v3457 kernelRun0_A.sl.v3456 kernelRun0_A.sl.v3455 kernelRun0_A.sl.v3450 kernelRun0_A.sl.v3449 kernelRun0_A.sl.v3448 kernelRun0_A.sl.v3443 kernelRun0_A.sl.v3442 kernelRun0_A.sl.v3441 kernelRun0_A.sl.v3436 kernelRun0_A.sl.v3435 kernelRun0_A.sl.v3434 kernelRun0_A.sl.v3429 kernelRun0_A.sl.v3428 kernelRun0_A.sl.v3427 kernelRun0_A.sl.v3425 kernelRun0_A.sl.v3426 kernelRun0_A.sl.v3433 kernelRun0_A.sl.v3440 kernelRun0_A.sl.v3447 kernelRun0_A.sl.v3454 kernelRun0_A.sl.v3461 kernelRun0_A.sl.v3468 kernelRun0_A.sl.v3475
  rw [load4, load4, load4, load4, load4, load4, load4, load4, load5, load5, load5, load5, load5, load5, load5, load5]
  generalize gate (xcv x13 x15 x17 x18) x19 x20 x23 = a
  generalize inp (xcv x13 x15 x17 x18) x19 x21 x20 x22 x23 = u
  unfold step
  frame_open
  frame_out
  pointwise []

set_option maxHeartbeats 4000000 in
theorem row6 (c : Dev nD) (arg14 : Memref sig .tc .vmem S64x1024 .bf16) (harg14 : arg14.IsWhole) (arg16 : Memref sig .tc .vmem S8x3x1024 .f32) (harg16 : arg16.IsWhole) (arg17 : Memref sig .tc .vmem S8x1024 .f32) (harg17 : arg17.IsWhole) (arg18 : Memref sig .tc .vmem S4x1024 .f32) (harg18 : arg18.IsWhole) (arg19 : Memref sig .tc .vmem S1x1024 .f32) (harg19 : arg19.IsWhole) (arg20 : Memref sig .tc .vmem S4x256x256 .bf16) (harg20 : arg20.IsWhole) (arg21 : Memref sig .tc .vmem S1x1024 .f32) (harg21 : arg21.IsWhole) (arg22 : Memref sig .tc .vmem S4x256x256 .bf16) (harg22 : arg22.IsWhole) (arg23 : Memref sig .tc .vmem S1x1024 .f32) (harg23 : arg23.IsWhole) (arg24 : Memref sig .tc .vmem S1x1024 .f32) (harg24 : arg24.IsWhole) (arg40 : Memref sig .tc .vmem S8x16x1024 .f32) (arg41 : Memref sig .tc .vmem S64x1024 .f32) (arg42 : Memref sig .tc .vmem S64x1024 .f32) (arg43 : Memref sig .tc .vmem S64x1024 .f32) (x13 : FVec Ideal S64x1024 .bf16) (x15 : FVec Ideal S8x3x1024 .f32) (x16 : FVec Ideal S8x1024 .f32) (x17 : FVec Ideal S4x1024 .f32) (x18 : FVec Ideal S1x1024 .f32) (x19 : FVec Ideal S4x256x256 .bf16) (x20 : FVec Ideal S1x1024 .f32) (x21 : FVec Ideal S4x256x256 .bf16) (x22 : FVec Ideal S1x1024 .f32) (x23 : FVec Ideal S1x1024 .f32) (x : S1x1024.Idx) (q : Fin 1024) (hq : x 1 = q) :
    ((kernelRun0_A.sl.v3537 (F := Ideal) c arg14 harg14 arg16 harg16 arg17 harg17 arg18 harg18 arg19 harg19 arg20 harg20 arg21 harg21 arg22 harg22 arg23 harg23 arg24 harg24 arg40 arg41 arg42 arg43 x13 x15 x16 x17 x18 x19 x20 x21 x22 x23)) x = (step (gate (xcv x13 x15 x17 x18) x19 x20 x23 (ix2 55 q)) (inp (xcv x13 x15 x17 x18) x19 x21 x20 x22 x23 (ix2 55 q)) (step (gate (xcv x13 x15 x17 x18) x19 x20 x23 (ix2 54 q)) (inp (xcv x13 x15 x17 x18) x19 x21 x20 x22 x23 (ix2 54 q)) (step (gate (xcv x13 x15 x17 x18) x19 x20 x23 (ix2 53 q)) (inp (xcv x13 x15 x17 x18) x19 x21 x20 x22 x23 (ix2 53 q)) (step (gate (xcv x13 x15 x17 x18) x19 x20 x23 (ix2 52 q)) (inp (xcv x13 x15 x17 x18) x19 x21 x20 x22 x23 (ix2 52 q)) (step (gate (xcv x13 x15 x17 x18) x19 x20 x23 (ix2 51 q)) (inp (xcv x13 x15 x17 x18) x19 x21 x20 x22 x23 (ix2 51 q)) (step (gate (xcv x13 x15 x17 x18) x19 x20 x23 (ix2 50 q)) (inp (xcv x13 x15 x17 x18) x19 x21 x20 x22 x23 (ix2 50 q)) (step (gate (xcv x13 x15 x17 x18) x19 x20 x23 (ix2 49 q)) (inp (xcv x13 x15 x17 x18) x19 x21 x20 x22 x23 (ix2 49 q)) (step (gate (xcv x13 x15 x17 x18) x19 x20 x23 (ix2 48 q)) (inp (xcv x13 x15 x17 x18) x19 x21 x20 x22 x23 (ix2 48 q)) (x16 (ix2 6 q) : EReal))))))))) := by
  subst hq
  unfold kernelRun0_A.sl.v3537 kernelRun0_A.sl.v3536 kernelRun0_A.sl.v3535 kernelRun0_A.sl.v3530 kernelRun0_A.sl.v3529 kernelRun0_A.sl.v3528 kernelRun0_A.sl.v3523 kernelRun0_A.sl.v3522 kernelRun0_A.sl.v3521 kernelRun0_A.sl.v3516 kernelRun0_A.sl.v3515 kernelRun0_A.sl.v3514 kernelRun0_A.sl.v3509 kernelRun0_A.sl.v3508 kernelRun0_A.sl.v3507 kernelRun0_A.sl.v3502 kernelRun0_A.sl.v3501 kernelRun0_A.sl.v3500 kernelRun0_A.sl.v3495 kernelRun0_A.sl.v3494 kernelRun0_A.sl.v3493 kernelRun0_A.sl.v3488 kernelRun0_A.sl.v3487 kernelRun0_A.sl.v3486 kernelRun0_A.sl.v3484 kernelRun0_A.sl.v3485 kernelRun0_A.sl.v3492 kernelRun0_A.sl.v3499 kernelRun0_A.sl.v3506 kernelRun0_A.sl.v3513 kernelRun0_A.sl.v3520 kernelRun0_A.sl.v3527 kernelRun0_A.sl.v3534
  rw [load4, load4, load4, load4, load4, load4, load4, load4, load5, load5, load5, load5, load5, load5, load5, load5]
  generalize gate (xcv x13 x15 x17 x18) x19 x20 x23 = a
  generalize inp (xcv x13 x15 x17 x18) x19 x21 x20 x22 x23 = u
  unfold step
  frame_open
  frame_out
  pointwise []

set_option maxHeartbeats 4000000 in
theorem row7 (c : Dev nD) (arg14 : Memref sig .tc .vmem S64x1024 .bf16) (harg14 : arg14.IsWhole) (arg16 : Memref sig .tc .vmem S8x3x1024 .f32) (harg16 : arg16.IsWhole) (arg17 : Memref sig .tc .vmem S8x1024 .f32) (harg17 : arg17.IsWhole) (arg18 : Memref sig .tc .vmem S4x1024 .f32) (harg18 : arg18.IsWhole) (arg19 : Memref sig .tc .vmem S1x1024 .f32) (harg19 : arg19.IsWhole) (arg20 : Memref sig .tc .vmem S4x256x256 .bf16) (harg20 : arg20.IsWhole) (arg21 : Memref sig .tc .vmem S1x1024 .f32) (harg21 : arg21.IsWhole) (arg22 : Memref sig .tc .vmem S4x256x256 .bf16) (harg22 : arg22.IsWhole) (arg23 : Memref sig .tc .vmem S1x1024 .f32) (harg23 : arg23.IsWhole) (arg24 : Memref sig .tc .vmem S1x1024 .f32) (harg24 : arg24.IsWhole) (arg40 : Memref sig .tc .vmem S8x16x1024 .f32) (arg41 : Memref sig .tc .vmem S64x1024 .f32) (arg42 : Memref sig .tc .vmem S64x1024 .f32) (arg43 : Memref sig .tc .vmem S64x1024 .f32) (x13 : FVec Ideal S64x1024 .bf16) (x15 : FVec Ideal S8x3x1024 .f32) (x16 : FVec Ideal S8x1024 .f32) (x17 : FVec Ideal S4x1024 .f32) (x18 : FVec Ideal S1x1024 .f32) (x19 : FVec Ideal S4x256x256 .bf16) (x20 : FVec Ideal S1x1024 .f32) (x21 : FVec Ideal S4x256x256 .bf16) (x22 : FVec Ideal S1x1024 .f32) (x23 : FVec Ideal S1x1024 .f32) (x : S1x1024.Idx) (q : Fin 1024) (hq : x 1 = q) :
    ((kernelRun0_A.sl.v3596 (F := Ideal) c arg14 harg14 arg16 harg16 arg17 harg17 arg18 harg18 arg19 harg19 arg20 harg20 arg21 harg21 arg22 harg22 arg23 harg23 arg24 harg24 arg40 arg41 arg42 arg43 x13 x15 x16 x17 x18 x19 x20 x21 x22 x23)) x = (step (gate (xcv x13 x15 x17 x18) x19 x20 x23 (ix2 63 q)) (inp (xcv x13 x15 x17 x18) x19 x21 x20 x22 x23 (ix2 63 q)) (step (gate (xcv x13 x15 x17 x18) x19 x20 x23 (ix2 62 q)) (inp (xcv x13 x15 x17 x18) x19 x21 x20 x22 x23 (ix2 62 q)) (step (gate (xcv x13 x15 x17 x18) x19 x20 x23 (ix2 61 q)) (inp (xcv x13 x15 x17 x18) x19 x21 x20 x22 x23 (ix2 61 q)) (step (gate (xcv x13 x15 x17 x18) x19 x20 x23 (ix2 60 q)) (inp (xcv x13 x15 x17 x18) x19 x21 x20 x22 x23 (ix2 60 q)) (step (gate (xcv x13 x15 x17 x18) x19 x20 x23 (ix2 59 q)) (inp (xcv x13 x15 x17 x18) x19 x21 x20 x22 x23 (ix2 59 q)) (step (gate (xcv x13 x15 x17 x18) x19 x20 x23 (ix2 58 q)) (inp (xcv x13 x15 x17 x18) x19 x21 x20 x22 x23 (ix2 58 q)) (step (gate (xcv x13 x15 x17 x18) x19 x20 x23 (ix2 57 q)) (inp (xcv x13 x15 x17 x18) x19 x21 x20 x22 x23 (ix2 57 q)) (step (gate (xcv x13 x15 x17 x18) x19 x20 x23 (ix2 56 q)) (inp (xcv x13 x15 x17 x18) x19 x21 x20 x22 x23 (ix2 56 q)) (x16 (ix2 7 q) : EReal))))))))) := by
  subst hq
  unfold kernelRun0_A.sl.v3596 kernelRun0_A.sl.v3595 kernelRun0_A.sl.v3594 kernelRun0_A.sl.v3589 kernelRun0_A.sl.v3588 kernelRun0_A.sl.v3587 kernelRun0_A.sl.v3582 kernelRun0_A.sl.v3581 kernelRun0_A.sl.v3580 kernelRun0_A.sl.v3575 kernelRun0_A.sl.v3574 kernelRun0_A.sl.v3573 kernelRun0_A.sl.v3568 kernelRun0_A.sl.v3567 kernelRun0_A.sl.v3566 kernelRun0_A.sl.v3561 kernelRun0_A.sl.v3560 kernelRun0_A.sl.v3559 kernelRun0_A.sl.v3554 kernelRun0_A.sl.v3553 kernelRun0_A.sl.v3552 kernelRun0_A.sl.v3547 kernelRun0_A.sl.v3546 kernelRun0_A.sl.v3545 kernelRun0_A.sl.v3543 kernelRun0_A.sl.v3544 kernelRun0_A.sl.v3551 kernelRun0_A.sl.v3558 kernelRun0_A.sl.v3565 kernelRun0_A.sl.v3572 kernelRun0_A.sl.v3579 kernelRun0_A.sl.v3586 kernelRun0_A.sl.v3593
  rw [load4, load4, load4, load4, load4, load4, load4, load4, load5, load5, load5, load5, load5, load5, load5, load5]
  generalize gate (xcv x13 x15 x17 x18) x19 x20 x23 = a
  generalize inp (xcv x13 x15 x17 x18) x19 x21 x20 x22 x23 = u
  unfold step
  frame_open
  frame_out
  pointwise []

end Cert.SampleIdeal.Words
-- ==== Proof.HidEq.lean ====
/- The kernel's convolution, decay and gated input are the reference's, row by row. -/
module

public import proofs.«01_k».proof.Proof.SampleGate
public import proofs.«01_k».proof.Proof.SampleBlocks
public import proofs.«01_k».proof.Proof.HidRef
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open scoped BigOperators

open Idealize.ShloMosaic.Pipeline (Dat)
open scoped BigOperators

namespace Cert.SampleIdeal.Words

open Cert.SampleIdeal Cert.SampleIdeal.Gen Cert.SampleIdeal.Blocks Cert.StateMath
open Cert.SampleRefIdeal.State (v31 v31_state v31_new v67 v67_at v109 v109_at v110 v110_at v117 v117_at)

theorem lext_v31 (T : ℕ) (hT : T < 16) (x13 : FVec Ideal S64x1024 .bf16) (x15 : FVec Ideal S8x3x1024 .f32) (a0 : FVec Ideal S9472x11776 .bf16) (a5 : FVec Ideal S2x128x3x1024 .f32) (h13 : ∀ (y : S64x1024.Idx) (j : S9472x11776.Idx), (j 0 : ℕ) = 8448 + 64 * T + y 0 → (j 1 : ℕ) = 3072 + y 1 → (x13 y : EReal) = a0 j) (h15 : ∀ (y : S8x3x1024.Idx) (j : S2x128x3x1024.Idx), (j 0 : ℕ) = 1 → (j 1 : ℕ) = 8 * T + y 0 → (j 2 : ℕ) = y 1 → (j 3 : ℕ) = y 2 → x15 y = a5 j)
    (g : Fin 8) (r k : ℕ) (hr : r < 16) (hk : k < 11) (e : r = 5 + k) (q : Fin 1024) (b : Fin 128) (hb : b.val = 8 * T + g.val) :
    lext x13 x15 (ix3 g ⟨r, hr⟩ q) = v31 a0 a5 (ix3 b ⟨k, hk⟩ q) := by
  by_cases h : k < 3
  · refine (lext_state x13 x15 _ (ix3 g ⟨k, h⟩ q) ?_ rfl ?_ rfl).trans ((h15 (ix3 g ⟨k, h⟩ q) (ix4 1 b ⟨k, h⟩ q) rfl hb rfl rfl).trans (v31_state a0 a5 _ h (ix4 1 b ⟨k, h⟩ q) rfl rfl rfl rfl).symm)
    · show r < 8
      omega
    · show k = r - 5
      omega
  · refine (lext_new x13 x15 _ (ix2 ⟨8 * g.val + (k - 3), by omega⟩ q) ?_ ?_ rfl).trans
      ((h13 _ (ix2 ⟨8448 + 64 * T + (8 * g.val + (k - 3)), by omega⟩ ⟨3072 + q.val, by omega⟩) rfl rfl).trans (v31_new a0 a5 _ ?_ _ ?_ rfl).symm)
    · show 8 ≤ r
      omega
    · show 8 * g.val + (k - 3) = 8 * g.val + (r - 8)
      omega
    · show 3 ≤ k
      omega
    · show 8448 + 64 * T + (8 * g.val + (k - 3)) = 8448 + 8 * b.val + (k - 3)
      omega

theorem shuffle (B l0 l1 l2 l3 w0 w1 w2 w3 : EReal) :
    (((B + w0 * l0) + w1 * l1) + w2 * l2) + w3 * l3 = (((l0 * w0 + l1 * w1) + l2 * w2) + l3 * w3) + B := by
  rw [mul_comm w0, mul_comm w1, mul_comm w2, mul_comm w3]
  abel

theorem xcv_v67 (T : ℕ) (hT : T < 16) (x13 : FVec Ideal S64x1024 .bf16) (x15 : FVec Ideal S8x3x1024 .f32) (x17 : FVec Ideal S4x1024 .f32) (x18 : FVec Ideal S1x1024 .f32) (a0 : FVec Ideal S9472x11776 .bf16) (a5 : FVec Ideal S2x128x3x1024 .f32) (a11 : FVec Ideal S2x4x1024 .f32) (a12 : FVec Ideal S2x1024 .f32) (h13 : ∀ (y : S64x1024.Idx) (j : S9472x11776.Idx), (j 0 : ℕ) = 8448 + 64 * T + y 0 → (j 1 : ℕ) = 3072 + y 1 → (x13 y : EReal) = a0 j) (h15 : ∀ (y : S8x3x1024.Idx) (j : S2x128x3x1024.Idx), (j 0 : ℕ) = 1 → (j 1 : ℕ) = 8 * T + y 0 → (j 2 : ℕ) = y 1 → (j 3 : ℕ) = y 2 → x15 y = a5 j) (h17 : ∀ (y : S4x1024.Idx) (j : S2x4x1024.Idx), (j 0 : ℕ) = 1 → (j 1 : ℕ) = y 0 → (j 2 : ℕ) = y 1 → x17 y = a11 j) (h18 : ∀ (y : S1x1024.Idx) (j : S2x1024.Idx), (j 0 : ℕ) = 1 → (j 1 : ℕ) = y 1 → x18 y = a12 j)
    (y : S64x1024.Idx) (g : Fin 8) (t : Fin 8) (q : Fin 1024) (b : Fin 128) (hb : b.val = 8 * T + g.val) (h0 : (y 0 : ℕ) = 8 * g.val + t.val) (h1 : (y 1 : ℕ) = q.val) :
    xcv x13 x15 x17 x18 y = v67 a0 a5 a11 a12 (ix3 b t q) := by
  rw [xcv_at x13 x15 x17 x18 y g t.val q t.isLt h0 h1, v67_at a0 a5 a11 a12 _ b t q rfl rfl rfl]
  rw [lext_v31 T hT x13 x15 a0 a5 h13 h15 g (5 + t.val) t.val (by omega) (by omega) rfl q b hb,
    lext_v31 T hT x13 x15 a0 a5 h13 h15 g (6 + t.val) (1 + t.val) (by omega) (by omega) (by omega) q b hb,
    lext_v31 T hT x13 x15 a0 a5 h13 h15 g (7 + t.val) (2 + t.val) (by omega) (by omega) (by omega) q b hb,
    lext_v31 T hT x13 x15 a0 a5 h13 h15 g (8 + t.val) (3 + t.val) (by omega) (by omega) (by omega) q b hb]
  rw [h18 (ix2 0 q) (ix2 1 q) rfl rfl, h17 (ix2 0 q) (ix3 1 0 q) rfl rfl rfl, h17 (ix2 1 q) (ix3 1 1 q) rfl rfl rfl, h17 (ix2 2 q) (ix3 1 2 q) rfl rfl rfl, h17 (ix2 3 q) (ix3 1 3 q) rfl rfl rfl]
  exact shuffle _ _ _ _ _ _ _ _ _

/-- A gate's input through the block-diagonal weight is the one through the heads. -/
theorem pre_eq (xc : FVec Ideal S64x1024 .f32) (a13 : FVec Ideal S2x16x64x64 .f32) (x20 : FVec Ideal S1x1024 .f32) (a14 : FVec Ideal S2x1024 .f32) (h20 : ∀ (y : S1x1024.Idx) (j : S2x1024.Idx), (j 0 : ℕ) = 1 → (j 1 : ℕ) = y 1 → x20 y = a14 j) (V : Fin 1024 → EReal)
    (r : Fin 64) (Q : Fin 1024) (hV : ∀ q, (xc (ix2 r q) : EReal) = V q) :
    pre xc (blockdiag a13) x20 (ix2 r Q) = (∑ x : Fin 64, (a13 (ix4 1 ⟨(Q : ℕ) / 64, by omega⟩ x ⟨(Q : ℕ) % 64, by omega⟩) : EReal) * V ⟨(Q : ℕ) / 64 * 64 + x.val, by omega⟩) + a14 (ix2 1 Q) := by
  have hb : (x20 (ix2 0 Q) : EReal) = a14 (ix2 1 Q) := h20 _ _ rfl rfl
  have hs : (∑ k : Fin 256, (xc (ix2 r ⟨256 * ((Q : ℕ) / 256) + k.val, by omega⟩) : EReal) * (blockdiag a13 (ix3 ⟨(Q : ℕ) / 256, by omega⟩ k ⟨(Q : ℕ) % 256, by omega⟩) : EReal))
      = ∑ x : Fin 64, (a13 (ix4 1 ⟨(Q : ℕ) / 64, by omega⟩ x ⟨(Q : ℕ) % 64, by omega⟩) : EReal) * V ⟨(Q : ℕ) / 64 * 64 + x.val, by omega⟩ := by
    refine Eq.trans (Finset.sum_congr rfl fun k _ => ?_) ((sum_block ⟨(Q : ℕ) % 256 / 64, by omega⟩ (fun k => V ⟨256 * ((Q : ℕ) / 256) + k.val, by omega⟩)
      (fun e d => (a13 (ix4 1 ⟨4 * ((Q : ℕ) / 256) + e.val, by omega⟩ d ⟨(Q : ℕ) % 64, by omega⟩) : EReal))).trans (Finset.sum_congr rfl fun d _ => ?_))
    · rw [hV]
      exact congrArg _ (castW a13 _ (ix4 1 ⟨4 * ((Q : ℕ) / 256) + k.val / 64, by omega⟩ ⟨k.val % 64, by omega⟩ ⟨(Q : ℕ) % 64, by omega⟩) rfl rfl rfl (by show (Q : ℕ) % 64 = (Q : ℕ) % 256 % 64; omega))
    · have e1 : (⟨4 * ((Q : ℕ) / 256) + (Q : ℕ) % 256 / 64, by omega⟩ : Fin 16) = ⟨(Q : ℕ) / 64, by omega⟩ := Fin.ext (by show 4 * ((Q : ℕ) / 256) + (Q : ℕ) % 256 / 64 = (Q : ℕ) / 64; omega)
      have e2 : (⟨256 * ((Q : ℕ) / 256) + (64 * ((Q : ℕ) % 256 / 64) + d.val), by omega⟩ : Fin 1024) = ⟨(Q : ℕ) / 64 * 64 + d.val, by omega⟩ :=
        Fin.ext (by show 256 * ((Q : ℕ) / 256) + (64 * ((Q : ℕ) % 256 / 64) + d.val) = (Q : ℕ) / 64 * 64 + d.val; omega)
      show V ⟨256 * ((Q : ℕ) / 256) + (64 * ((Q : ℕ) % 256 / 64) + d.val), _⟩ * (a13 (ix4 1 ⟨4 * ((Q : ℕ) / 256) + (Q : ℕ) % 256 / 64, _⟩ d ⟨(Q : ℕ) % 64, _⟩) : EReal) = _
      rw [e1, e2, mul_comm]
  exact congrArg₂ (· + ·) hs hb

theorem half : Ideal.ofBits FTy.f32 1056964608#32 = (((1 / 2 : ℝ)) : EReal) := by
  simp [Ideal.ofBits, Ideal.ieee, -EReal.coe_mul]; norm_num

theorem loga_v109 (T : ℕ) (hT : T < 16) (x13 : FVec Ideal S64x1024 .bf16) (x15 : FVec Ideal S8x3x1024 .f32) (x17 : FVec Ideal S4x1024 .f32) (x18 : FVec Ideal S1x1024 .f32) (x20 : FVec Ideal S1x1024 .f32) (x23 : FVec Ideal S1x1024 .f32) (a0 : FVec Ideal S9472x11776 .bf16) (a5 : FVec Ideal S2x128x3x1024 .f32) (a11 : FVec Ideal S2x4x1024 .f32) (a12 : FVec Ideal S2x1024 .f32) (a13 : FVec Ideal S2x16x64x64 .f32) (a14 : FVec Ideal S2x1024 .f32) (a17 : FVec Ideal S2x1024 .f32) (h13 : ∀ (y : S64x1024.Idx) (j : S9472x11776.Idx), (j 0 : ℕ) = 8448 + 64 * T + y 0 → (j 1 : ℕ) = 3072 + y 1 → (x13 y : EReal) = a0 j) (h15 : ∀ (y : S8x3x1024.Idx) (j : S2x128x3x1024.Idx), (j 0 : ℕ) = 1 → (j 1 : ℕ) = 8 * T + y 0 → (j 2 : ℕ) = y 1 → (j 3 : ℕ) = y 2 → x15 y = a5 j) (h17 : ∀ (y : S4x1024.Idx) (j : S2x4x1024.Idx), (j 0 : ℕ) = 1 → (j 1 : ℕ) = y 0 → (j 2 : ℕ) = y 1 → x17 y = a11 j) (h18 : ∀ (y : S1x1024.Idx) (j : S2x1024.Idx), (j 0 : ℕ) = 1 → (j 1 : ℕ) = y 1 → x18 y = a12 j) (h20 : ∀ (y : S1x1024.Idx) (j : S2x1024.Idx), (j 0 : ℕ) = 1 → (j 1 : ℕ) = y 1 → x20 y = a14 j) (h23 : ∀ (y : S1x1024.Idx) (j : S2x1024.Idx), (j 0 : ℕ) = 1 → (j 1 : ℕ) = y 1 → x23 y = a17 j)
    (r : Fin 64) (g : Fin 8) (t : Fin 8) (Q : Fin 1024) (b : Fin 128) (hb : b.val = 8 * T + g.val) (h0 : r.val = 8 * g.val + t.val) :
    loga (xcv x13 x15 x17 x18) (blockdiag a13) x20 x23 (ix2 r Q) = v109 a0 a5 a11 a12 a13 a14 a17 (ix3 b t Q) := by
  unfold loga sigm
  rw [pre_eq (xcv x13 x15 x17 x18) a13 x20 a14 h20 (fun q => v67 a0 a5 a11 a12 (ix3 b t q)) r Q (fun q => xcv_v67 T hT x13 x15 x17 x18 a0 a5 a11 a12 h13 h15 h17 h18 (ix2 r q) g t q b hb h0 rfl)]
  have hl : (x23 (ix2 0 ((ix2 r Q : S64x1024.Idx) 1)) : EReal) = a17 (ix2 1 Q) := h23 _ _ rfl rfl
  refine Eq.trans ?_ (v109_at a0 a5 a11 a12 a13 a14 a17 (ix3 b t Q)).symm
  rw [hl]
  simp only [zero_sub]
  rfl

theorem gate_v110 (T : ℕ) (hT : T < 16) (x13 : FVec Ideal S64x1024 .bf16) (x15 : FVec Ideal S8x3x1024 .f32) (x17 : FVec Ideal S4x1024 .f32) (x18 : FVec Ideal S1x1024 .f32) (x20 : FVec Ideal S1x1024 .f32) (x23 : FVec Ideal S1x1024 .f32) (a0 : FVec Ideal S9472x11776 .bf16) (a5 : FVec Ideal S2x128x3x1024 .f32) (a11 : FVec Ideal S2x4x1024 .f32) (a12 : FVec Ideal S2x1024 .f32) (a13 : FVec Ideal S2x16x64x64 .f32) (a14 : FVec Ideal S2x1024 .f32) (a17 : FVec Ideal S2x1024 .f32) (h13 : ∀ (y : S64x1024.Idx) (j : S9472x11776.Idx), (j 0 : ℕ) = 8448 + 64 * T + y 0 → (j 1 : ℕ) = 3072 + y 1 → (x13 y : EReal) = a0 j) (h15 : ∀ (y : S8x3x1024.Idx) (j : S2x128x3x1024.Idx), (j 0 : ℕ) = 1 → (j 1 : ℕ) = 8 * T + y 0 → (j 2 : ℕ) = y 1 → (j 3 : ℕ) = y 2 → x15 y = a5 j) (h17 : ∀ (y : S4x1024.Idx) (j : S2x4x1024.Idx), (j 0 : ℕ) = 1 → (j 1 : ℕ) = y 0 → (j 2 : ℕ) = y 1 → x17 y = a11 j) (h18 : ∀ (y : S1x1024.Idx) (j : S2x1024.Idx), (j 0 : ℕ) = 1 → (j 1 : ℕ) = y 1 → x18 y = a12 j) (h20 : ∀ (y : S1x1024.Idx) (j : S2x1024.Idx), (j 0 : ℕ) = 1 → (j 1 : ℕ) = y 1 → x20 y = a14 j) (h23 : ∀ (y : S1x1024.Idx) (j : S2x1024.Idx), (j 0 : ℕ) = 1 → (j 1 : ℕ) = y 1 → x23 y = a17 j)
    (r : Fin 64) (g : Fin 8) (t : Fin 8) (Q : Fin 1024) (b : Fin 128) (hb : b.val = 8 * T + g.val) (h0 : r.val = 8 * g.val + t.val) :
    gate (xcv x13 x15 x17 x18) (blockdiag a13) x20 x23 (ix2 r Q) = v110 a0 a5 a11 a12 a13 a14 a17 (ix3 b t Q) := by
  rw [v110_at]
  unfold gate
  rw [loga_v109 T hT x13 x15 x17 x18 x20 x23 a0 a5 a11 a12 a13 a14 a17 h13 h15 h17 h18 h20 h23 r g t Q b hb h0]

theorem inp_v117 (T : ℕ) (hT : T < 16) (x13 : FVec Ideal S64x1024 .bf16) (x15 : FVec Ideal S8x3x1024 .f32) (x17 : FVec Ideal S4x1024 .f32) (x18 : FVec Ideal S1x1024 .f32) (x20 : FVec Ideal S1x1024 .f32) (x22 : FVec Ideal S1x1024 .f32) (x23 : FVec Ideal S1x1024 .f32) (a0 : FVec Ideal S9472x11776 .bf16) (a5 : FVec Ideal S2x128x3x1024 .f32) (a11 : FVec Ideal S2x4x1024 .f32) (a12 : FVec Ideal S2x1024 .f32) (a13 : FVec Ideal S2x16x64x64 .f32) (a14 : FVec Ideal S2x1024 .f32) (a15 : FVec Ideal S2x16x64x64 .f32) (a16 : FVec Ideal S2x1024 .f32) (a17 : FVec Ideal S2x1024 .f32) (h13 : ∀ (y : S64x1024.Idx) (j : S9472x11776.Idx), (j 0 : ℕ) = 8448 + 64 * T + y 0 → (j 1 : ℕ) = 3072 + y 1 → (x13 y : EReal) = a0 j) (h15 : ∀ (y : S8x3x1024.Idx) (j : S2x128x3x1024.Idx), (j 0 : ℕ) = 1 → (j 1 : ℕ) = 8 * T + y 0 → (j 2 : ℕ) = y 1 → (j 3 : ℕ) = y 2 → x15 y = a5 j) (h17 : ∀ (y : S4x1024.Idx) (j : S2x4x1024.Idx), (j 0 : ℕ) = 1 → (j 1 : ℕ) = y 0 → (j 2 : ℕ) = y 1 → x17 y = a11 j) (h18 : ∀ (y : S1x1024.Idx) (j : S2x1024.Idx), (j 0 : ℕ) = 1 → (j 1 : ℕ) = y 1 → x18 y = a12 j) (h20 : ∀ (y : S1x1024.Idx) (j : S2x1024.Idx), (j 0 : ℕ) = 1 → (j 1 : ℕ) = y 1 → x20 y = a14 j) (h22 : ∀ (y : S1x1024.Idx) (j : S2x1024.Idx), (j 0 : ℕ) = 1 → (j 1 : ℕ) = y 1 → x22 y = a16 j) (h23 : ∀ (y : S1x1024.Idx) (j : S2x1024.Idx), (j 0 : ℕ) = 1 → (j 1 : ℕ) = y 1 → x23 y = a17 j)
    (r : Fin 64) (g : Fin 8) (t : Fin 8) (Q : Fin 1024) (b : Fin 128) (hb : b.val = 8 * T + g.val) (h0 : r.val = 8 * g.val + t.val) :
    inp (xcv x13 x15 x17 x18) (blockdiag a13) (blockdiag a15) x20 x22 x23 (ix2 r Q) = v117 a0 a5 a11 a12 a13 a14 a15 a16 a17 (ix3 b t Q) := by
  unfold inp sigm
  rw [loga_v109 T hT x13 x15 x17 x18 x20 x23 a0 a5 a11 a12 a13 a14 a17 h13 h15 h17 h18 h20 h23 r g t Q b hb h0]
  rw [pre_eq (xcv x13 x15 x17 x18) a15 x22 a16 h22 (fun q => v67 a0 a5 a11 a12 (ix3 b t q)) r Q (fun q => xcv_v67 T hT x13 x15 x17 x18 a0 a5 a11 a12 h13 h15 h17 h18 (ix2 r q) g t q b hb h0 rfl)]
  rw [xcv_v67 T hT x13 x15 x17 x18 a0 a5 a11 a12 h13 h15 h17 h18 (ix2 r Q) g t Q b hb h0 rfl, half, tanh_half]
  refine Eq.trans ?_ (v117_at a0 a5 a11 a12 a13 a14 a15 a16 a17 (ix3 b t Q)).symm
  simp only [zero_sub]
  rfl

end Cert.SampleIdeal.Words
-- ==== Proof.SampleHid.lean ====
/- The recurrence's last states, result 12, by the reference. -/
module

public import proofs.«01_k».proof.Proof.SampleRows
public import proofs.«01_k».proof.Proof.HidEq
public import proofs.«01_k».proof.Proof.StateAt
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open scoped BigOperators

open Idealize.ShloMosaic.Pipeline (Dat)
open scoped BigOperators

namespace Cert.SampleIdeal.Point

open Cert.SampleIdeal Cert.SampleIdeal.Gen Cert.SampleIdeal.Blocks Cert.SampleIdeal.Words
open Cert.SampleRefIdeal.State (sh sh_old sh_new step v110 v117)

variable (m : (ℓ : Loc nD τ sig) → Buf (Elt Ideal) ℓ)

/-- Window 31's block at a grid point, by the reference. -/
def G31 (c : Dev nD) (t : Fin cfg0.N) : FVec Ideal S8x1024 .f32 := fun y =>
  sh (m ((c : Thread nD τ).loc main_arg0)) (m ((c : Thread nD τ).loc main_arg5)) (m ((c : Thread nD τ).loc main_arg6)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg22)) (ix2 ⟨128 + 8 * t.val + (y 0 : ℕ), by have := lt16 t; have b : (y 0 : ℕ) < 8 := (y 0).isLt; omega⟩ (y 1))

theorem decay31 (c : Dev nD) (t : Fin cfg0.N) (r : Fin 64) (g : Fin 8) (k : Fin 8) (q : Fin 1024) (b : Fin 128) (hb : b.val = 8 * t.val + g.val) (h : r.val = 8 * g.val + k.val) :
    gate (xcv (X0_13 m c t) (iblk m c 15 t) (iblk m c 17 t) (iblk m c 18 t)) (blockdiag (m ((c : Thread nD τ).loc main_arg13))) (iblk m c 20 t) (iblk m c 23 t) (ix2 r q) = v110 (m ((c : Thread nD τ).loc main_arg0)) (m ((c : Thread nD τ).loc main_arg5)) (m ((c : Thread nD τ).loc main_arg11)) (m ((c : Thread nD τ).loc main_arg12)) (m ((c : Thread nD τ).loc main_arg13)) (m ((c : Thread nD τ).loc main_arg14)) (m ((c : Thread nD τ).loc main_arg17)) (ix3 b k q) :=
  gate_v110 t.val (lt16 t) _ _ _ _ _ _ _ _ _ _ _ _ _ (x13 m c t) (x15 m c t) (x17 m c t) (x18 m c t) (x20 m c t) (x23 m c t) r g k q b hb h

theorem input31 (c : Dev nD) (t : Fin cfg0.N) (r : Fin 64) (g : Fin 8) (k : Fin 8) (q : Fin 1024) (b : Fin 128) (hb : b.val = 8 * t.val + g.val) (h : r.val = 8 * g.val + k.val) :
    inp (xcv (X0_13 m c t) (iblk m c 15 t) (iblk m c 17 t) (iblk m c 18 t)) (blockdiag (m ((c : Thread nD τ).loc main_arg13))) (blockdiag (m ((c : Thread nD τ).loc main_arg15))) (iblk m c 20 t) (iblk m c 22 t) (iblk m c 23 t) (ix2 r q) = v117 (m ((c : Thread nD τ).loc main_arg0)) (m ((c : Thread nD τ).loc main_arg5)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (ix3 b k q) :=
  inp_v117 t.val (lt16 t) _ _ _ _ _ _ _ _ _ _ _ _ _ _ _ _ (x13 m c t) (x15 m c t) (x17 m c t) (x18 m c t) (x20 m c t) (x22 m c t) (x23 m c t) r g k q b hb h

set_option maxHeartbeats 4000000 in
theorem piece31_0 (c : Dev nD) (t : Fin cfg0.N) (x : S1x1024.Idx) (y : S8x1024.Idx) (h0 : (y 0 : ℕ) = 0) (h1 : (y 1 : ℕ) = (x 1 : ℕ)) :
    (kernelRun0_A.sl.v3183 (F := Ideal) c (ms0_13 t) (hs0_13 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_2 scM0_3 scM0_4 scM0_5 (X0_13 m c t) (iblk m c 15 t) (iblk m c 16 t) (iblk m c 17 t) (iblk m c 18 t) (iblk m c 19 t) (iblk m c 20 t) (iblk m c 21 t) (iblk m c 22 t) (iblk m c 23 t)) x = G31 m c t y := by
  have ht := lt16 t
  refine (row0 c (ms0_13 t) (hs0_13 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_2 scM0_3 scM0_4 scM0_5 (X0_13 m c t) (iblk m c 15 t) (iblk m c 16 t) (iblk m c 17 t) (iblk m c 18 t) (iblk m c 19 t) (iblk m c 20 t) (iblk m c 21 t) (iblk m c 22 t) (iblk m c 23 t) x (y 1) (Fin.ext h1.symm)).trans ?_
  obtain ⟨b, hb⟩ : ∃ b : Fin 128, b.val = 8 * t.val + (0 : Fin 8).val := ⟨⟨8 * t.val + 0, by omega⟩, rfl⟩
  have hb' : b.val = 8 * t.val + 0 := hb
  refine Eq.trans ?_ (sh_new (m ((c : Thread nD τ).loc main_arg0)) (m ((c : Thread nD τ).loc main_arg5)) (m ((c : Thread nD τ).loc main_arg6)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg22)) _ ?_ b (y 1) ?_ rfl).symm
  · rw [x19, x21]
    rw [decay31 m c t 0 0 0 (y 1) b hb rfl, input31 m c t 0 0 0 (y 1) b hb rfl, decay31 m c t 1 0 1 (y 1) b hb rfl, input31 m c t 1 0 1 (y 1) b hb rfl, decay31 m c t 2 0 2 (y 1) b hb rfl, input31 m c t 2 0 2 (y 1) b hb rfl, decay31 m c t 3 0 3 (y 1) b hb rfl, input31 m c t 3 0 3 (y 1) b hb rfl, decay31 m c t 4 0 4 (y 1) b hb rfl, input31 m c t 4 0 4 (y 1) b hb rfl, decay31 m c t 5 0 5 (y 1) b hb rfl, input31 m c t 5 0 5 (y 1) b hb rfl, decay31 m c t 6 0 6 (y 1) b hb rfl, input31 m c t 6 0 6 (y 1) b hb rfl, decay31 m c t 7 0 7 (y 1) b hb rfl, input31 m c t 7 0 7 (y 1) b hb rfl]
    rw [x16 m c t (ix2 0 (y 1)) (ix3 1 b (y 1)) rfl hb rfl]
  · show 128 ≤ 128 + 8 * t.val + (y 0 : ℕ)
    omega
  · show b.val = 128 + 8 * t.val + (y 0 : ℕ) - 128
    omega

set_option maxHeartbeats 4000000 in
theorem piece31_1 (c : Dev nD) (t : Fin cfg0.N) (x : S1x1024.Idx) (y : S8x1024.Idx) (h0 : (y 0 : ℕ) = 1) (h1 : (y 1 : ℕ) = (x 1 : ℕ)) :
    (kernelRun0_A.sl.v3242 (F := Ideal) c (ms0_13 t) (hs0_13 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_2 scM0_3 scM0_4 scM0_5 (X0_13 m c t) (iblk m c 15 t) (iblk m c 16 t) (iblk m c 17 t) (iblk m c 18 t) (iblk m c 19 t) (iblk m c 20 t) (iblk m c 21 t) (iblk m c 22 t) (iblk m c 23 t)) x = G31 m c t y := by
  have ht := lt16 t
  refine (row1 c (ms0_13 t) (hs0_13 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_2 scM0_3 scM0_4 scM0_5 (X0_13 m c t) (iblk m c 15 t) (iblk m c 16 t) (iblk m c 17 t) (iblk m c 18 t) (iblk m c 19 t) (iblk m c 20 t) (iblk m c 21 t) (iblk m c 22 t) (iblk m c 23 t) x (y 1) (Fin.ext h1.symm)).trans ?_
  obtain ⟨b, hb⟩ : ∃ b : Fin 128, b.val = 8 * t.val + (1 : Fin 8).val := ⟨⟨8 * t.val + 1, by omega⟩, rfl⟩
  have hb' : b.val = 8 * t.val + 1 := hb
  refine Eq.trans ?_ (sh_new (m ((c : Thread nD τ).loc main_arg0)) (m ((c : Thread nD τ).loc main_arg5)) (m ((c : Thread nD τ).loc main_arg6)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg22)) _ ?_ b (y 1) ?_ rfl).symm
  · rw [x19, x21]
    rw [decay31 m c t 8 1 0 (y 1) b hb rfl, input31 m c t 8 1 0 (y 1) b hb rfl, decay31 m c t 9 1 1 (y 1) b hb rfl, input31 m c t 9 1 1 (y 1) b hb rfl, decay31 m c t 10 1 2 (y 1) b hb rfl, input31 m c t 10 1 2 (y 1) b hb rfl, decay31 m c t 11 1 3 (y 1) b hb rfl, input31 m c t 11 1 3 (y 1) b hb rfl, decay31 m c t 12 1 4 (y 1) b hb rfl, input31 m c t 12 1 4 (y 1) b hb rfl, decay31 m c t 13 1 5 (y 1) b hb rfl, input31 m c t 13 1 5 (y 1) b hb rfl, decay31 m c t 14 1 6 (y 1) b hb rfl, input31 m c t 14 1 6 (y 1) b hb rfl, decay31 m c t 15 1 7 (y 1) b hb rfl, input31 m c t 15 1 7 (y 1) b hb rfl]
    rw [x16 m c t (ix2 1 (y 1)) (ix3 1 b (y 1)) rfl hb rfl]
  · show 128 ≤ 128 + 8 * t.val + (y 0 : ℕ)
    omega
  · show b.val = 128 + 8 * t.val + (y 0 : ℕ) - 128
    omega

set_option maxHeartbeats 4000000 in
theorem piece31_2 (c : Dev nD) (t : Fin cfg0.N) (x : S1x1024.Idx) (y : S8x1024.Idx) (h0 : (y 0 : ℕ) = 2) (h1 : (y 1 : ℕ) = (x 1 : ℕ)) :
    (kernelRun0_A.sl.v3301 (F := Ideal) c (ms0_13 t) (hs0_13 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_2 scM0_3 scM0_4 scM0_5 (X0_13 m c t) (iblk m c 15 t) (iblk m c 16 t) (iblk m c 17 t) (iblk m c 18 t) (iblk m c 19 t) (iblk m c 20 t) (iblk m c 21 t) (iblk m c 22 t) (iblk m c 23 t)) x = G31 m c t y := by
  have ht := lt16 t
  refine (row2 c (ms0_13 t) (hs0_13 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_2 scM0_3 scM0_4 scM0_5 (X0_13 m c t) (iblk m c 15 t) (iblk m c 16 t) (iblk m c 17 t) (iblk m c 18 t) (iblk m c 19 t) (iblk m c 20 t) (iblk m c 21 t) (iblk m c 22 t) (iblk m c 23 t) x (y 1) (Fin.ext h1.symm)).trans ?_
  obtain ⟨b, hb⟩ : ∃ b : Fin 128, b.val = 8 * t.val + (2 : Fin 8).val := ⟨⟨8 * t.val + 2, by omega⟩, rfl⟩
  have hb' : b.val = 8 * t.val + 2 := hb
  refine Eq.trans ?_ (sh_new (m ((c : Thread nD τ).loc main_arg0)) (m ((c : Thread nD τ).loc main_arg5)) (m ((c : Thread nD τ).loc main_arg6)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg22)) _ ?_ b (y 1) ?_ rfl).symm
  · rw [x19, x21]
    rw [decay31 m c t 16 2 0 (y 1) b hb rfl, input31 m c t 16 2 0 (y 1) b hb rfl, decay31 m c t 17 2 1 (y 1) b hb rfl, input31 m c t 17 2 1 (y 1) b hb rfl, decay31 m c t 18 2 2 (y 1) b hb rfl, input31 m c t 18 2 2 (y 1) b hb rfl, decay31 m c t 19 2 3 (y 1) b hb rfl, input31 m c t 19 2 3 (y 1) b hb rfl, decay31 m c t 20 2 4 (y 1) b hb rfl, input31 m c t 20 2 4 (y 1) b hb rfl, decay31 m c t 21 2 5 (y 1) b hb rfl, input31 m c t 21 2 5 (y 1) b hb rfl, decay31 m c t 22 2 6 (y 1) b hb rfl, input31 m c t 22 2 6 (y 1) b hb rfl, decay31 m c t 23 2 7 (y 1) b hb rfl, input31 m c t 23 2 7 (y 1) b hb rfl]
    rw [x16 m c t (ix2 2 (y 1)) (ix3 1 b (y 1)) rfl hb rfl]
  · show 128 ≤ 128 + 8 * t.val + (y 0 : ℕ)
    omega
  · show b.val = 128 + 8 * t.val + (y 0 : ℕ) - 128
    omega

set_option maxHeartbeats 4000000 in
theorem piece31_3 (c : Dev nD) (t : Fin cfg0.N) (x : S1x1024.Idx) (y : S8x1024.Idx) (h0 : (y 0 : ℕ) = 3) (h1 : (y 1 : ℕ) = (x 1 : ℕ)) :
    (kernelRun0_A.sl.v3360 (F := Ideal) c (ms0_13 t) (hs0_13 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_2 scM0_3 scM0_4 scM0_5 (X0_13 m c t) (iblk m c 15 t) (iblk m c 16 t) (iblk m c 17 t) (iblk m c 18 t) (iblk m c 19 t) (iblk m c 20 t) (iblk m c 21 t) (iblk m c 22 t) (iblk m c 23 t)) x = G31 m c t y := by
  have ht := lt16 t
  refine (row3 c (ms0_13 t) (hs0_13 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_2 scM0_3 scM0_4 scM0_5 (X0_13 m c t) (iblk m c 15 t) (iblk m c 16 t) (iblk m c 17 t) (iblk m c 18 t) (iblk m c 19 t) (iblk m c 20 t) (iblk m c 21 t) (iblk m c 22 t) (iblk m c 23 t) x (y 1) (Fin.ext h1.symm)).trans ?_
  obtain ⟨b, hb⟩ : ∃ b : Fin 128, b.val = 8 * t.val + (3 : Fin 8).val := ⟨⟨8 * t.val + 3, by omega⟩, rfl⟩
  have hb' : b.val = 8 * t.val + 3 := hb
  refine Eq.trans ?_ (sh_new (m ((c : Thread nD τ).loc main_arg0)) (m ((c : Thread nD τ).loc main_arg5)) (m ((c : Thread nD τ).loc main_arg6)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg22)) _ ?_ b (y 1) ?_ rfl).symm
  · rw [x19, x21]
    rw [decay31 m c t 24 3 0 (y 1) b hb rfl, input31 m c t 24 3 0 (y 1) b hb rfl, decay31 m c t 25 3 1 (y 1) b hb rfl, input31 m c t 25 3 1 (y 1) b hb rfl, decay31 m c t 26 3 2 (y 1) b hb rfl, input31 m c t 26 3 2 (y 1) b hb rfl, decay31 m c t 27 3 3 (y 1) b hb rfl, input31 m c t 27 3 3 (y 1) b hb rfl, decay31 m c t 28 3 4 (y 1) b hb rfl, input31 m c t 28 3 4 (y 1) b hb rfl, decay31 m c t 29 3 5 (y 1) b hb rfl, input31 m c t 29 3 5 (y 1) b hb rfl, decay31 m c t 30 3 6 (y 1) b hb rfl, input31 m c t 30 3 6 (y 1) b hb rfl, decay31 m c t 31 3 7 (y 1) b hb rfl, input31 m c t 31 3 7 (y 1) b hb rfl]
    rw [x16 m c t (ix2 3 (y 1)) (ix3 1 b (y 1)) rfl hb rfl]
  · show 128 ≤ 128 + 8 * t.val + (y 0 : ℕ)
    omega
  · show b.val = 128 + 8 * t.val + (y 0 : ℕ) - 128
    omega

set_option maxHeartbeats 4000000 in
theorem piece31_4 (c : Dev nD) (t : Fin cfg0.N) (x : S1x1024.Idx) (y : S8x1024.Idx) (h0 : (y 0 : ℕ) = 4) (h1 : (y 1 : ℕ) = (x 1 : ℕ)) :
    (kernelRun0_A.sl.v3419 (F := Ideal) c (ms0_13 t) (hs0_13 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_2 scM0_3 scM0_4 scM0_5 (X0_13 m c t) (iblk m c 15 t) (iblk m c 16 t) (iblk m c 17 t) (iblk m c 18 t) (iblk m c 19 t) (iblk m c 20 t) (iblk m c 21 t) (iblk m c 22 t) (iblk m c 23 t)) x = G31 m c t y := by
  have ht := lt16 t
  refine (row4 c (ms0_13 t) (hs0_13 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_2 scM0_3 scM0_4 scM0_5 (X0_13 m c t) (iblk m c 15 t) (iblk m c 16 t) (iblk m c 17 t) (iblk m c 18 t) (iblk m c 19 t) (iblk m c 20 t) (iblk m c 21 t) (iblk m c 22 t) (iblk m c 23 t) x (y 1) (Fin.ext h1.symm)).trans ?_
  obtain ⟨b, hb⟩ : ∃ b : Fin 128, b.val = 8 * t.val + (4 : Fin 8).val := ⟨⟨8 * t.val + 4, by omega⟩, rfl⟩
  have hb' : b.val = 8 * t.val + 4 := hb
  refine Eq.trans ?_ (sh_new (m ((c : Thread nD τ).loc main_arg0)) (m ((c : Thread nD τ).loc main_arg5)) (m ((c : Thread nD τ).loc main_arg6)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg22)) _ ?_ b (y 1) ?_ rfl).symm
  · rw [x19, x21]
    rw [decay31 m c t 32 4 0 (y 1) b hb rfl, input31 m c t 32 4 0 (y 1) b hb rfl, decay31 m c t 33 4 1 (y 1) b hb rfl, input31 m c t 33 4 1 (y 1) b hb rfl, decay31 m c t 34 4 2 (y 1) b hb rfl, input31 m c t 34 4 2 (y 1) b hb rfl, decay31 m c t 35 4 3 (y 1) b hb rfl, input31 m c t 35 4 3 (y 1) b hb rfl, decay31 m c t 36 4 4 (y 1) b hb rfl, input31 m c t 36 4 4 (y 1) b hb rfl, decay31 m c t 37 4 5 (y 1) b hb rfl, input31 m c t 37 4 5 (y 1) b hb rfl, decay31 m c t 38 4 6 (y 1) b hb rfl, input31 m c t 38 4 6 (y 1) b hb rfl, decay31 m c t 39 4 7 (y 1) b hb rfl, input31 m c t 39 4 7 (y 1) b hb rfl]
    rw [x16 m c t (ix2 4 (y 1)) (ix3 1 b (y 1)) rfl hb rfl]
  · show 128 ≤ 128 + 8 * t.val + (y 0 : ℕ)
    omega
  · show b.val = 128 + 8 * t.val + (y 0 : ℕ) - 128
    omega

set_option maxHeartbeats 4000000 in
theorem piece31_5 (c : Dev nD) (t : Fin cfg0.N) (x : S1x1024.Idx) (y : S8x1024.Idx) (h0 : (y 0 : ℕ) = 5) (h1 : (y 1 : ℕ) = (x 1 : ℕ)) :
    (kernelRun0_A.sl.v3478 (F := Ideal) c (ms0_13 t) (hs0_13 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_2 scM0_3 scM0_4 scM0_5 (X0_13 m c t) (iblk m c 15 t) (iblk m c 16 t) (iblk m c 17 t) (iblk m c 18 t) (iblk m c 19 t) (iblk m c 20 t) (iblk m c 21 t) (iblk m c 22 t) (iblk m c 23 t)) x = G31 m c t y := by
  have ht := lt16 t
  refine (row5 c (ms0_13 t) (hs0_13 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_2 scM0_3 scM0_4 scM0_5 (X0_13 m c t) (iblk m c 15 t) (iblk m c 16 t) (iblk m c 17 t) (iblk m c 18 t) (iblk m c 19 t) (iblk m c 20 t) (iblk m c 21 t) (iblk m c 22 t) (iblk m c 23 t) x (y 1) (Fin.ext h1.symm)).trans ?_
  obtain ⟨b, hb⟩ : ∃ b : Fin 128, b.val = 8 * t.val + (5 : Fin 8).val := ⟨⟨8 * t.val + 5, by omega⟩, rfl⟩
  have hb' : b.val = 8 * t.val + 5 := hb
  refine Eq.trans ?_ (sh_new (m ((c : Thread nD τ).loc main_arg0)) (m ((c : Thread nD τ).loc main_arg5)) (m ((c : Thread nD τ).loc main_arg6)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg22)) _ ?_ b (y 1) ?_ rfl).symm
  · rw [x19, x21]
    rw [decay31 m c t 40 5 0 (y 1) b hb rfl, input31 m c t 40 5 0 (y 1) b hb rfl, decay31 m c t 41 5 1 (y 1) b hb rfl, input31 m c t 41 5 1 (y 1) b hb rfl, decay31 m c t 42 5 2 (y 1) b hb rfl, input31 m c t 42 5 2 (y 1) b hb rfl, decay31 m c t 43 5 3 (y 1) b hb rfl, input31 m c t 43 5 3 (y 1) b hb rfl, decay31 m c t 44 5 4 (y 1) b hb rfl, input31 m c t 44 5 4 (y 1) b hb rfl, decay31 m c t 45 5 5 (y 1) b hb rfl, input31 m c t 45 5 5 (y 1) b hb rfl, decay31 m c t 46 5 6 (y 1) b hb rfl, input31 m c t 46 5 6 (y 1) b hb rfl, decay31 m c t 47 5 7 (y 1) b hb rfl, input31 m c t 47 5 7 (y 1) b hb rfl]
    rw [x16 m c t (ix2 5 (y 1)) (ix3 1 b (y 1)) rfl hb rfl]
  · show 128 ≤ 128 + 8 * t.val + (y 0 : ℕ)
    omega
  · show b.val = 128 + 8 * t.val + (y 0 : ℕ) - 128
    omega

set_option maxHeartbeats 4000000 in
theorem piece31_6 (c : Dev nD) (t : Fin cfg0.N) (x : S1x1024.Idx) (y : S8x1024.Idx) (h0 : (y 0 : ℕ) = 6) (h1 : (y 1 : ℕ) = (x 1 : ℕ)) :
    (kernelRun0_A.sl.v3537 (F := Ideal) c (ms0_13 t) (hs0_13 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_2 scM0_3 scM0_4 scM0_5 (X0_13 m c t) (iblk m c 15 t) (iblk m c 16 t) (iblk m c 17 t) (iblk m c 18 t) (iblk m c 19 t) (iblk m c 20 t) (iblk m c 21 t) (iblk m c 22 t) (iblk m c 23 t)) x = G31 m c t y := by
  have ht := lt16 t
  refine (row6 c (ms0_13 t) (hs0_13 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_2 scM0_3 scM0_4 scM0_5 (X0_13 m c t) (iblk m c 15 t) (iblk m c 16 t) (iblk m c 17 t) (iblk m c 18 t) (iblk m c 19 t) (iblk m c 20 t) (iblk m c 21 t) (iblk m c 22 t) (iblk m c 23 t) x (y 1) (Fin.ext h1.symm)).trans ?_
  obtain ⟨b, hb⟩ : ∃ b : Fin 128, b.val = 8 * t.val + (6 : Fin 8).val := ⟨⟨8 * t.val + 6, by omega⟩, rfl⟩
  have hb' : b.val = 8 * t.val + 6 := hb
  refine Eq.trans ?_ (sh_new (m ((c : Thread nD τ).loc main_arg0)) (m ((c : Thread nD τ).loc main_arg5)) (m ((c : Thread nD τ).loc main_arg6)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg22)) _ ?_ b (y 1) ?_ rfl).symm
  · rw [x19, x21]
    rw [decay31 m c t 48 6 0 (y 1) b hb rfl, input31 m c t 48 6 0 (y 1) b hb rfl, decay31 m c t 49 6 1 (y 1) b hb rfl, input31 m c t 49 6 1 (y 1) b hb rfl, decay31 m c t 50 6 2 (y 1) b hb rfl, input31 m c t 50 6 2 (y 1) b hb rfl, decay31 m c t 51 6 3 (y 1) b hb rfl, input31 m c t 51 6 3 (y 1) b hb rfl, decay31 m c t 52 6 4 (y 1) b hb rfl, input31 m c t 52 6 4 (y 1) b hb rfl, decay31 m c t 53 6 5 (y 1) b hb rfl, input31 m c t 53 6 5 (y 1) b hb rfl, decay31 m c t 54 6 6 (y 1) b hb rfl, input31 m c t 54 6 6 (y 1) b hb rfl, decay31 m c t 55 6 7 (y 1) b hb rfl, input31 m c t 55 6 7 (y 1) b hb rfl]
    rw [x16 m c t (ix2 6 (y 1)) (ix3 1 b (y 1)) rfl hb rfl]
  · show 128 ≤ 128 + 8 * t.val + (y 0 : ℕ)
    omega
  · show b.val = 128 + 8 * t.val + (y 0 : ℕ) - 128
    omega

set_option maxHeartbeats 4000000 in
theorem piece31_7 (c : Dev nD) (t : Fin cfg0.N) (x : S1x1024.Idx) (y : S8x1024.Idx) (h0 : (y 0 : ℕ) = 7) (h1 : (y 1 : ℕ) = (x 1 : ℕ)) :
    (kernelRun0_A.sl.v3596 (F := Ideal) c (ms0_13 t) (hs0_13 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_2 scM0_3 scM0_4 scM0_5 (X0_13 m c t) (iblk m c 15 t) (iblk m c 16 t) (iblk m c 17 t) (iblk m c 18 t) (iblk m c 19 t) (iblk m c 20 t) (iblk m c 21 t) (iblk m c 22 t) (iblk m c 23 t)) x = G31 m c t y := by
  have ht := lt16 t
  refine (row7 c (ms0_13 t) (hs0_13 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_2 scM0_3 scM0_4 scM0_5 (X0_13 m c t) (iblk m c 15 t) (iblk m c 16 t) (iblk m c 17 t) (iblk m c 18 t) (iblk m c 19 t) (iblk m c 20 t) (iblk m c 21 t) (iblk m c 22 t) (iblk m c 23 t) x (y 1) (Fin.ext h1.symm)).trans ?_
  obtain ⟨b, hb⟩ : ∃ b : Fin 128, b.val = 8 * t.val + (7 : Fin 8).val := ⟨⟨8 * t.val + 7, by omega⟩, rfl⟩
  have hb' : b.val = 8 * t.val + 7 := hb
  refine Eq.trans ?_ (sh_new (m ((c : Thread nD τ).loc main_arg0)) (m ((c : Thread nD τ).loc main_arg5)) (m ((c : Thread nD τ).loc main_arg6)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg22)) _ ?_ b (y 1) ?_ rfl).symm
  · rw [x19, x21]
    rw [decay31 m c t 56 7 0 (y 1) b hb rfl, input31 m c t 56 7 0 (y 1) b hb rfl, decay31 m c t 57 7 1 (y 1) b hb rfl, input31 m c t 57 7 1 (y 1) b hb rfl, decay31 m c t 58 7 2 (y 1) b hb rfl, input31 m c t 58 7 2 (y 1) b hb rfl, decay31 m c t 59 7 3 (y 1) b hb rfl, input31 m c t 59 7 3 (y 1) b hb rfl, decay31 m c t 60 7 4 (y 1) b hb rfl, input31 m c t 60 7 4 (y 1) b hb rfl, decay31 m c t 61 7 5 (y 1) b hb rfl, input31 m c t 61 7 5 (y 1) b hb rfl, decay31 m c t 62 7 6 (y 1) b hb rfl, input31 m c t 62 7 6 (y 1) b hb rfl, decay31 m c t 63 7 7 (y 1) b hb rfl, input31 m c t 63 7 7 (y 1) b hb rfl]
    rw [x16 m c t (ix2 7 (y 1)) (ix3 1 b (y 1)) rfl hb rfl]
  · show 128 ≤ 128 + 8 * t.val + (y 0 : ℕ)
    omega
  · show b.val = 128 + 8 * t.val + (y 0 : ℕ) - 128
    omega

set_option maxHeartbeats 4000000 in
theorem blk31 (c : Dev nD) (t : Fin cfg0.N) : (dats m 0 c).after 31 t = G31 m c t := by
  rw [after0_31]
  unfold outsAt0
  dsimp only
  unfold out0_A_31
  unfold kernelRun0_A
  dsimp only
  rw [View.read_writes_junk_eq_canon]
  funext y
  canon_tiles x h
  case piece0 => exact piece31_7 m c t x y (by omega) (by omega)
  case piece1 => exact piece31_6 m c t x y (by omega) (by omega)
  case piece2 => exact piece31_5 m c t x y (by omega) (by omega)
  case piece3 => exact piece31_4 m c t x y (by omega) (by omega)
  case piece4 => exact piece31_3 m c t x y (by omega) (by omega)
  case piece5 => exact piece31_2 m c t x y (by omega) (by omega)
  case piece6 => exact piece31_1 m c t x y (by omega) (by omega)
  case piece7 => exact piece31_0 m c t x y (by omega) (by omega)

theorem emb31 (t : Fin cfg0.N) (y : ((cfg0.win 31).xblock (cfg0.grid.coords t)).Idx) :
    (((cfg0.win 31).blk t).view.emb y 0 : ℕ) = 128 + 8 * t.val + (y 0 : ℕ) ∧ (((cfg0.win 31).blk t).view.emb y 1 : ℕ) = (y 1 : ℕ) := by
  refine ⟨?_, ?_⟩
  · blk_simp [idx t]
    omega
  · blk_simp [idx t]

set_option maxHeartbeats 4000000 in
/-- The whole result: the old half kept, the new half by the reference. -/
theorem final31 (c : Dev nD) : (dats m 0 c).arrAt 31 cfg0.N = sh (m ((c : Thread nD τ).loc main_arg0)) (m ((c : Thread nD τ).loc main_arg5)) (m ((c : Thread nD τ).loc main_arg6)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg22)) := by
  have hw : (dats m 0 c).arrAt 31 cfg0.N = fun i => if 128 ≤ (i 0 : ℕ) then sh (m ((c : Thread nD τ).loc main_arg0)) (m ((c : Thread nD τ).loc main_arg5)) (m ((c : Thread nD τ).loc main_arg6)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg22)) i else V m c main_v64_7 i := by
    refine (dats m 0 c).arrAt_eq_of_coversWhere 31 _ (fun β => 16 ≤ β 0) (by decide +kernel) (fun t hf y => ?_) (fun j => by blk_simp [Pipeline.Window.cell_apply]; omega)
    refine Eq.trans (congrFun (blk31 m c t) ((cfg0.win 31).xinj (cfg0.grid.coords t) y)) ?_
    have ht := lt16 t
    unfold G31
    refine congrArg (sh (m ((c : Thread nD τ).loc main_arg0)) (m ((c : Thread nD τ).loc main_arg5)) (m ((c : Thread nD τ).loc main_arg6)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg22))) (funext fun d => Fin.ext ?_)
    fin_cases d
    · refine Eq.trans ?_ (emb31 t y).1.symm
      rfl
    · refine Eq.trans ?_ (emb31 t y).2.symm
      rfl
  rw [hw]
  funext i
  split
  · rfl
  · exact (congrFun (V_v64_7 m c) i).trans (sh_old _ _ _ _ _ _ _ _ _ _ _ i (by omega)).symm

end Cert.SampleIdeal.Point
-- ==== Proof.InLast.lean ====
/- The keys and values of the last window of the prompts, cut from the input projections of both layers. -/
module

public import proofs.«01_k».proof.Proof.Gen.InLastIdeal.Frame
public import proofs.«01_k».proof.Proof.Gen.InLastRefIdeal
public import Idealize.ShloMosaic.Lib.Pipeline.ValueKit
public import Idealize.ShloMosaic.Lib.Pointwise
public import Idealize.ShloMosaic.Lib.StableHlo.Run

@[expose] public section

set_option maxRecDepth 16384

noncomputable section

open Idealize.ShloMosaic Idealize.ShloMosaic.TcCoe Idealize.SL Idealize.SL.BI Idealize.SL.Sem
open scoped Idealize.SL.BI
open Idealize.SL.RA Idealize.SL.BI.BIBase Idealize.SL.BI.Laws Idealize.SL.ProofMode
open Idealize.ShloMosaic.Pipeline (Dat Cfg Window BodyObligation cellOf)
open Idealize.ShloMosaic.Tactic Idealize.ShloMosaic.Rounds
open scoped BigOperators

namespace Cert.InLastIdeal.Point

open Cert.InLastIdeal Cert.InLastIdeal.Gen

variable (m : (ℓ : Loc nD τ sig) → Buf (Elt Ideal) ℓ) (ρ : Dev nD → PrngReg)

local notation "𝕄" => MT nD τ sig Unit (Elt Ideal) ℕ (UR sig nD τ) ℕ

/-- The reference's keys over its arguments. -/
abbrev refK (a0 : FVec Ideal Cert.InLastRefIdeal.S9472x2048 .bf16) (a1 : FVec Ideal Cert.InLastRefIdeal.S2048x11776 .bf16) (a2 : FVec Ideal Cert.InLastRefIdeal.S9472x2048 .bf16) (a3 : FVec Ideal Cert.InLastRefIdeal.S2048x11776 .bf16) : FVec Ideal Cert.InLastRefIdeal.S2x2x128x4x64 .f32 :=
  concatenate Cert.InLastRefIdeal.S2x2x128x4x64 0 [⟨Cert.InLastRefIdeal.S1x2x128x4x64, (broadcastInDim Cert.InLastRefIdeal.S1x2x128x4x64 ![1, 2, 3, 4] Cert.InLastRefIdeal.Gen.bcast_S2x128x4x64_S1x2x128x4x64_1_2_3_4 (shapeCast _ (extractStridedSlice Cert.InLastRefIdeal.S2x128x256 ![0, 0, 1024] (extractStridedSlice Cert.InLastRefIdeal.S2x128x11776 ![0, 4096, 0] (shapeCast _ (extractStridedSlice Cert.InLastRefIdeal.S8448x11776 ![0, 0] (Host.dotGeneral Cert.InLastRefIdeal.dot_S9472x2048_S2048x11776_S9472x11776_1_0_0_1_n_n none (extf .f32 a0 Cert.InLastRefIdeal.Gen.bitsLt_bf16_f32) (extf .f32 a1 Cert.InLastRefIdeal.Gen.bitsLt_bf16_f32)) Cert.InLastRefIdeal.Gen.slices_S9472x11776_S8448x11776_0_0) Cert.InLastRefIdeal.Gen.shapeCasts_S8448x11776_S2x4224x11776) Cert.InLastRefIdeal.Gen.slices_S2x4224x11776_S2x128x11776_0_4096_0) Cert.InLastRefIdeal.Gen.slices_S2x128x11776_S2x128x256_0_0_1024) Cert.InLastRefIdeal.Gen.shapeCasts_S2x128x256_S2x128x4x64))⟩, ⟨Cert.InLastRefIdeal.S1x2x128x4x64, (broadcastInDim Cert.InLastRefIdeal.S1x2x128x4x64 ![1, 2, 3, 4] Cert.InLastRefIdeal.Gen.bcast_S2x128x4x64_S1x2x128x4x64_1_2_3_4 (shapeCast _ (extractStridedSlice Cert.InLastRefIdeal.S2x128x256 ![0, 0, 1024] (extractStridedSlice Cert.InLastRefIdeal.S2x128x11776 ![0, 4096, 0] (shapeCast _ (extractStridedSlice Cert.InLastRefIdeal.S8448x11776 ![0, 0] (Host.dotGeneral Cert.InLastRefIdeal.dot_S9472x2048_S2048x11776_S9472x11776_1_0_0_1_n_n none (extf .f32 a2 Cert.InLastRefIdeal.Gen.bitsLt_bf16_f32) (extf .f32 a3 Cert.InLastRefIdeal.Gen.bitsLt_bf16_f32)) Cert.InLastRefIdeal.Gen.slices_S9472x11776_S8448x11776_0_0) Cert.InLastRefIdeal.Gen.shapeCasts_S8448x11776_S2x4224x11776) Cert.InLastRefIdeal.Gen.slices_S2x4224x11776_S2x128x11776_0_4096_0) Cert.InLastRefIdeal.Gen.slices_S2x128x11776_S2x128x256_0_0_1024) Cert.InLastRefIdeal.Gen.shapeCasts_S2x128x256_S2x128x4x64))⟩] Cert.InLastRefIdeal.Gen.concatenates_S1x2x128x4x64_S1x2x128x4x64_S2x2x128x4x64_d0

/-- The reference's values over its arguments. -/
abbrev refV (a0 : FVec Ideal Cert.InLastRefIdeal.S9472x2048 .bf16) (a1 : FVec Ideal Cert.InLastRefIdeal.S2048x11776 .bf16) (a2 : FVec Ideal Cert.InLastRefIdeal.S9472x2048 .bf16) (a3 : FVec Ideal Cert.InLastRefIdeal.S2048x11776 .bf16) : FVec Ideal Cert.InLastRefIdeal.S2x2x128x4x64 .f32 :=
  concatenate Cert.InLastRefIdeal.S2x2x128x4x64 0 [⟨Cert.InLastRefIdeal.S1x2x128x4x64, (broadcastInDim Cert.InLastRefIdeal.S1x2x128x4x64 ![1, 2, 3, 4] Cert.InLastRefIdeal.Gen.bcast_S2x128x4x64_S1x2x128x4x64_1_2_3_4 (shapeCast _ (extractStridedSlice Cert.InLastRefIdeal.S2x128x256 ![0, 0, 1280] (extractStridedSlice Cert.InLastRefIdeal.S2x128x11776 ![0, 4096, 0] (shapeCast _ (extractStridedSlice Cert.InLastRefIdeal.S8448x11776 ![0, 0] (Host.dotGeneral Cert.InLastRefIdeal.dot_S9472x2048_S2048x11776_S9472x11776_1_0_0_1_n_n none (extf .f32 a0 Cert.InLastRefIdeal.Gen.bitsLt_bf16_f32) (extf .f32 a1 Cert.InLastRefIdeal.Gen.bitsLt_bf16_f32)) Cert.InLastRefIdeal.Gen.slices_S9472x11776_S8448x11776_0_0) Cert.InLastRefIdeal.Gen.shapeCasts_S8448x11776_S2x4224x11776) Cert.InLastRefIdeal.Gen.slices_S2x4224x11776_S2x128x11776_0_4096_0) Cert.InLastRefIdeal.Gen.slices_S2x128x11776_S2x128x256_0_0_1280) Cert.InLastRefIdeal.Gen.shapeCasts_S2x128x256_S2x128x4x64))⟩, ⟨Cert.InLastRefIdeal.S1x2x128x4x64, (broadcastInDim Cert.InLastRefIdeal.S1x2x128x4x64 ![1, 2, 3, 4] Cert.InLastRefIdeal.Gen.bcast_S2x128x4x64_S1x2x128x4x64_1_2_3_4 (shapeCast _ (extractStridedSlice Cert.InLastRefIdeal.S2x128x256 ![0, 0, 1280] (extractStridedSlice Cert.InLastRefIdeal.S2x128x11776 ![0, 4096, 0] (shapeCast _ (extractStridedSlice Cert.InLastRefIdeal.S8448x11776 ![0, 0] (Host.dotGeneral Cert.InLastRefIdeal.dot_S9472x2048_S2048x11776_S9472x11776_1_0_0_1_n_n none (extf .f32 a2 Cert.InLastRefIdeal.Gen.bitsLt_bf16_f32) (extf .f32 a3 Cert.InLastRefIdeal.Gen.bitsLt_bf16_f32)) Cert.InLastRefIdeal.Gen.slices_S9472x11776_S8448x11776_0_0) Cert.InLastRefIdeal.Gen.shapeCasts_S8448x11776_S2x4224x11776) Cert.InLastRefIdeal.Gen.slices_S2x4224x11776_S2x128x11776_0_4096_0) Cert.InLastRefIdeal.Gen.slices_S2x128x11776_S2x128x256_0_0_1280) Cert.InLastRefIdeal.Gen.shapeCasts_S2x128x256_S2x128x4x64))⟩] Cert.InLastRefIdeal.Gen.concatenates_S1x2x128x4x64_S1x2x128x4x64_S2x2x128x4x64_d0

/-- The column of the weights that the projection's column `j` comes from. -/
abbrev col (j : Fin 11776) : Fin 11776 :=
  ⟨if j.val < 1024 then j.val else if j.val < 11264 then j.val + 512 else j.val - 10240, by split_ifs <;> omega⟩

/-- The projection: rows times weights, the columns of keys and values last. -/
def proj (x : FVec Ideal S9472x2048 .bf16) (w : FVec Ideal S2048x11776 .bf16) : FVec Ideal S9472x11776 .bf16 :=
  fun i => ∑ k : Fin 2048, x (ix2 (i 0) k) * w (ix2 k (col (i 1)))

/-- What the host keeps of one projection: the last 128 rows of each prompt, the columns of keys and values. -/
def tail (z : FVec Ideal S9472x11776 .bf16) : FVec Ideal S2x128x512 .f32 :=
  extf .f32 (concatenate S2x128x512 0 [⟨S1x128x512, (broadcastInDim S1x128x512 ![1, 2] bcast_S128x512_S1x128x512_1_2 (extractStridedSlice S128x512 ![4096, 11264] z slices_S9472x11776_S128x512_4096_11264) : (⟨S1x128x512, .bf16⟩ : BufTy).Contents (Elt Ideal))⟩, ⟨S1x128x512, (broadcastInDim S1x128x512 ![1, 2] bcast_S128x512_S1x128x512_1_2 (extractStridedSlice S128x512 ![8320, 11264] z slices_S9472x11776_S128x512_8320_11264) : (⟨S1x128x512, .bf16⟩ : BufTy).Contents (Elt Ideal))⟩] concatenates_S1x128x512_S1x128x512_S2x128x512_d0) bitsLt_bf16_f32

/-- The kernel's keys, from both projections. -/
def outK (z0 z1 : FVec Ideal S9472x11776 .bf16) : FVec Ideal S2x2x128x4x64 .f32 :=
  concatenate S2x2x128x4x64 0 [⟨S1x2x128x4x64, (broadcastInDim S1x2x128x4x64 ![1, 2, 3, 4] bcast_S2x128x4x64_S1x2x128x4x64_1_2_3_4 (shapeCast S2x128x4x64 (extractStridedSlice S2x128x256 ![0, 0, 0] (tail z0) slices_S2x128x512_S2x128x256_0_0_0) shapeCasts_S2x128x256_S2x128x4x64) : (⟨S1x2x128x4x64, .f32⟩ : BufTy).Contents (Elt Ideal))⟩, ⟨S1x2x128x4x64, (broadcastInDim S1x2x128x4x64 ![1, 2, 3, 4] bcast_S2x128x4x64_S1x2x128x4x64_1_2_3_4 (shapeCast S2x128x4x64 (extractStridedSlice S2x128x256 ![0, 0, 0] (tail z1) slices_S2x128x512_S2x128x256_0_0_0) shapeCasts_S2x128x256_S2x128x4x64) : (⟨S1x2x128x4x64, .f32⟩ : BufTy).Contents (Elt Ideal))⟩] concatenates_S1x2x128x4x64_S1x2x128x4x64_S2x2x128x4x64_d0

/-- The kernel's values, from both projections. -/
def outV (z0 z1 : FVec Ideal S9472x11776 .bf16) : FVec Ideal S2x2x128x4x64 .f32 :=
  concatenate S2x2x128x4x64 0 [⟨S1x2x128x4x64, (broadcastInDim S1x2x128x4x64 ![1, 2, 3, 4] bcast_S2x128x4x64_S1x2x128x4x64_1_2_3_4 (shapeCast S2x128x4x64 (extractStridedSlice S2x128x256 ![0, 0, 256] (tail z0) slices_S2x128x512_S2x128x256_0_0_256) shapeCasts_S2x128x256_S2x128x4x64) : (⟨S1x2x128x4x64, .f32⟩ : BufTy).Contents (Elt Ideal))⟩, ⟨S1x2x128x4x64, (broadcastInDim S1x2x128x4x64 ![1, 2, 3, 4] bcast_S2x128x4x64_S1x2x128x4x64_1_2_3_4 (shapeCast S2x128x4x64 (extractStridedSlice S2x128x256 ![0, 0, 256] (tail z1) slices_S2x128x512_S2x128x256_0_0_256) shapeCasts_S2x128x256_S2x128x4x64) : (⟨S1x2x128x4x64, .f32⟩ : BufTy).Contents (Elt Ideal))⟩] concatenates_S1x2x128x4x64_S1x2x128x4x64_S2x2x128x4x64_d0

theorem after_v24 (w : Valuation τ sig (Elt Ideal)) : StableHlo.after hostOps2 w (Proc.devRef .tc main_v24)
    = outK (w (Proc.devRef .tc main_v0)) (w (Proc.devRef .tc main_v1)) := by
  unfold outK tail; after_results <;> rfl

theorem after_v27 (w : Valuation τ sig (Elt Ideal)) : StableHlo.after hostOps2 w (Proc.devRef .tc main_v27)
    = outV (w (Proc.devRef .tc main_v0)) (w (Proc.devRef .tc main_v1)) := by
  unfold outV tail; after_results <;> rfl

/-- Where each window's block of the first projection lies at every grid point. -/
theorem idx0 : ∀ t : Fin cfg0.N, win0_0.index t = ![t.val / 23, 0]
    ∧ win0_1.index t = ![0, if t.val % 23 < 2 then t.val % 23 else if t.val % 23 < 22 then t.val % 23 + 1 else 2]
    ∧ win0_2.index t = ![t.val / 23, t.val % 23] :=
  (by decide +kernel : ∀ t : Fin grid0.N, _)

/-- The same of the second projection. -/
theorem idx1 : ∀ t : Fin cfg1.N, win1_0.index t = ![t.val / 23, 0]
    ∧ win1_1.index t = ![0, if t.val % 23 < 2 then t.val % 23 else if t.val % 23 < 22 then t.val % 23 + 1 else 2]
    ∧ win1_2.index t = ![t.val / 23, t.val % 23] :=
  (by decide +kernel : ∀ t : Fin grid1.N, _)

theorem point0 (V : (c : Dev nD) → (b : Ref sig .tc) → Buf (Elt Ideal) ((c : Thread nD τ).loc b)) (c : Dev nD) (t : Fin cfg0.N) (y) :
    k0_pay1 (iblk0 V c 0 t) (iblk0 V c 1 t) y
      = proj (V c main_arg0) (V c main_arg1) (((cfg0.win 2).blk t).view.emb y) := by
  pointwise [k0_pay1, proj]
  blk_point [iblk0, col, idx0 t] <;> split_ifs <;> omega

theorem point1 (V : (c : Dev nD) → (b : Ref sig .tc) → Buf (Elt Ideal) ((c : Thread nD τ).loc b)) (c : Dev nD) (t : Fin cfg1.N) (y) :
    k1_pay1 (iblk1 V c 0 t) (iblk1 V c 1 t) y
      = proj (V c main_arg2) (V c main_arg3) (((cfg1.win 2).blk t).view.emb y) := by
  pointwise [k1_pay1, proj]
  blk_point [iblk1, col, idx1 t] <;> split_ifs <;> omega

theorem arr0 (V : (c : Dev nD) → (b : Ref sig .tc) → Buf (Elt Ideal) ((c : Thread nD τ).loc b)) (c : Dev nD) :
    (dat0 V c).arrAt 2 cfg0.N = proj (V c main_arg0) (V c main_arg1) := by
  refine (dat0 V c).arrAt_eq_of_covers 2 _ (by decide +kernel) fun t hf y => ?_
  blk_simp; rw [after0_2]; frame_out
  exact point0 V c t y

theorem arr1 (V : (c : Dev nD) → (b : Ref sig .tc) → Buf (Elt Ideal) ((c : Thread nD τ).loc b)) (c : Dev nD) :
    (dat1 V c).arrAt 2 cfg1.N = proj (V c main_arg2) (V c main_arg3) := by
  refine (dat1 V c).arrAt_eq_of_covers 2 _ (by decide +kernel) fun t hf y => ?_
  blk_simp; rw [after1_2]; frame_out
  exact point1 V c t y

/-- The first projection's array when the host begins to cut. -/
theorem held0 (c : Dev nD) : W2 m ρ c (Proc.devRef .tc main_v0)
    = proj (m ((c : Thread nD τ).loc main_arg0)) (m ((c : Thread nD τ).loc main_arg1)) :=
  (W2_of m ρ c main_v0 (by decide +kernel)).trans ((W1_arr m ρ c 2).trans (arr0 (V0 m ρ) c))

/-- The second projection's array when the host begins to cut. -/
theorem held1 (c : Dev nD) : W2 m ρ c (Proc.devRef .tc main_v1)
    = proj (m ((c : Thread nD τ).loc main_arg2)) (m ((c : Thread nD τ).loc main_arg3)) := by
  refine (W2_arr m ρ c 2).trans ((arr1 (V1 m ρ) c).trans ?_)
  rw [show V1 m ρ c main_arg2 = m ((c : Thread nD τ).loc main_arg2) from W1_args m ρ c main_arg2 (by decide),
    show V1 m ρ c main_arg3 = m ((c : Thread nD τ).loc main_arg3) from W1_args m ρ c main_arg3 (by decide)]

/-- A product of a row and a column is named by the two numbers. -/
theorem dot_congr (x : FVec Ideal S9472x2048 .bf16) (w : FVec Ideal S2048x11776 .bf16) {r r' : Fin 9472} {j j' : Fin 11776}
    (hr : r.val = r'.val) (hj : j.val = j'.val) :
    ∑ k : Fin 2048, x (ix2 r k) * w (ix2 k j) = ∑ k : Fin 2048, x (ix2 r' k) * w (ix2 k j') := by
  rw [Fin.ext hr, Fin.ext hj]

theorem col_last (n : ℕ) (h : 11264 + n < 11776) : (col ⟨11264 + n, h⟩).val = 1024 + n := by
  dsimp only [col]
  split_ifs <;> omega

theorem eqK (a0 : FVec Ideal Cert.InLastRefIdeal.S9472x2048 .bf16) (a1 : FVec Ideal Cert.InLastRefIdeal.S2048x11776 .bf16) (a2 : FVec Ideal Cert.InLastRefIdeal.S9472x2048 .bf16) (a3 : FVec Ideal Cert.InLastRefIdeal.S2048x11776 .bf16) : outK (proj a0 a1) (proj a2 a3) = refK a0 a1 a2 a3 := by
  funext i
  have h1 : (i 1).val < 2 := (i 1).isLt
  pointwise [outK, tail, proj, refK]
  split_ifs <;> exact dot_congr _ _ (by dsimp only <;> omega) ((col_last _ _).trans (by dsimp only <;> omega))

theorem eqV (a0 : FVec Ideal Cert.InLastRefIdeal.S9472x2048 .bf16) (a1 : FVec Ideal Cert.InLastRefIdeal.S2048x11776 .bf16) (a2 : FVec Ideal Cert.InLastRefIdeal.S9472x2048 .bf16) (a3 : FVec Ideal Cert.InLastRefIdeal.S2048x11776 .bf16) : outV (proj a0 a1) (proj a2 a3) = refV a0 a1 a2 a3 := by
  funext i
  have h1 : (i 1).val < 2 := (i 1).isLt
  pointwise [outV, tail, proj, refV]
  split_ifs <;> exact dot_congr _ _ (by dsimp only <;> omega) ((col_last _ _).trans (by dsimp only <;> omega))

-- unifying the launch lemma's conclusion with this one unfolds plain definitions in a metavariable's type
set_option backward.isDefEq.respectTransparency.types false in
/-- The run with both results named, the arguments kept. -/
theorem run_last : θ_run defs (onTc (τ := τ) (main (F := Ideal))) ⟨m, fun _ => 0, ρ⟩ (fun r => ∀ c : Dev nD,
      r.2.mem ((c.tc : Thread nD τ).loc main_v24) = W3 m ρ c (Proc.devRef .tc main_v24)
      ∧ r.2.mem ((c.tc : Thread nD τ).loc main_v27) = W3 m ρ c (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz c =>
      ⟨h c _ (mem_uc main_v24 (by decide)), h c _ (mem_uc main_v27 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

theorem finalK (c : Dev nD) : W3 m ρ c (Proc.devRef .tc main_v24)
    = refK (m ((c : Thread nD τ).loc main_arg0)) (m ((c : Thread nD τ).loc main_arg1)) (m ((c : Thread nD τ).loc main_arg2)) (m ((c : Thread nD τ).loc main_arg3)) := by
  refine (after_v24 (W2 m ρ c)).trans ?_
  rw [held0, held1]; exact eqK _ _ _ _

theorem finalV (c : Dev nD) : W3 m ρ c (Proc.devRef .tc main_v27)
    = refV (m ((c : Thread nD τ).loc main_arg0)) (m ((c : Thread nD τ).loc main_arg1)) (m ((c : Thread nD τ).loc main_arg2)) (m ((c : Thread nD τ).loc main_arg3)) := by
  refine (after_v27 (W2 m ρ c)).trans ?_
  rw [held0, held1]; exact eqV _ _ _ _

end Cert.InLastIdeal.Point

end
-- ==== Proof.lean ====
module

public import proofs.«01_k».proof.Defs
public import proofs.«01_k».proof.Proof.Gen.MoeUp
public import proofs.«01_k».proof.Proof.Gen.MoeUp.Skeleton
public import proofs.«01_k».proof.Proof.Gen.MoeUp.Launch
public import proofs.«01_k».proof.Proof.Gen.MoeUp.Points
public import proofs.«01_k».proof.Proof.Gen.MoeUp.Frame
public import proofs.«01_k».proof.Proof.Gen.MoeUpIdeal
public import proofs.«01_k».proof.Proof.Gen.MoeUpIdeal.Skeleton
public import proofs.«01_k».proof.Proof.Gen.MoeUpIdeal.Launch
public import proofs.«01_k».proof.Proof.Gen.MoeUpIdeal.Points
public import proofs.«01_k».proof.Proof.Gen.MoeUpIdeal.Frame
public import proofs.«01_k».proof.Proof.Gen.MoeUpRefIdeal
public import proofs.«01_k».proof.Proof.Gen.MoeUpRefIdeal.Run
public import proofs.«01_k».proof.Proof.Gen.MoeDown
public import proofs.«01_k».proof.Proof.Gen.MoeDown.Skeleton
public import proofs.«01_k».proof.Proof.Gen.MoeDown.Launch
public import proofs.«01_k».proof.Proof.Gen.MoeDown.Points
public import proofs.«01_k».proof.Proof.Gen.MoeDown.Frame
public import proofs.«01_k».proof.Proof.Gen.MoeDownIdeal
public import proofs.«01_k».proof.Proof.Gen.MoeDownIdeal.Skeleton
public import proofs.«01_k».proof.Proof.Gen.MoeDownIdeal.Launch
public import proofs.«01_k».proof.Proof.Gen.MoeDownIdeal.Points
public import proofs.«01_k».proof.Proof.Gen.MoeDownIdeal.Frame
public import proofs.«01_k».proof.Proof.Gen.MoeDownRefIdeal
public import proofs.«01_k».proof.Proof.Gen.MoeDownRefIdeal.Run
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Value
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.InProjRefIdeal.Run
public import proofs.«01_k».proof.Proof.Gen.FfnUp
public import proofs.«01_k».proof.Proof.Gen.FfnUp.Skeleton
public import proofs.«01_k».proof.Proof.Gen.FfnUp.Launch
public import proofs.«01_k».proof.Proof.Gen.FfnUp.Points
public import proofs.«01_k».proof.Proof.Gen.FfnUp.Frame
public import proofs.«01_k».proof.Proof.Gen.FfnUpIdeal
public import proofs.«01_k».proof.Proof.Gen.FfnUpIdeal.Value
public import proofs.«01_k».proof.Proof.Gen.FfnUpIdeal.Skeleton
public import proofs.«01_k».proof.Proof.Gen.FfnUpIdeal.Launch
public import proofs.«01_k».proof.Proof.Gen.FfnUpIdeal.Points
public import proofs.«01_k».proof.Proof.Gen.FfnUpIdeal.Frame
public import proofs.«01_k».proof.Proof.Gen.FfnUpRefIdeal
public import proofs.«01_k».proof.Proof.Gen.FfnUpRefIdeal.Run
public import proofs.«01_k».proof.Proof.Gen.FfnDown
public import proofs.«01_k».proof.Proof.Gen.FfnDown.Skeleton
public import proofs.«01_k».proof.Proof.Gen.FfnDown.Launch
public import proofs.«01_k».proof.Proof.Gen.FfnDown.Points
public import proofs.«01_k».proof.Proof.Gen.FfnDown.Frame
public import proofs.«01_k».proof.Proof.Gen.FfnDownIdeal
public import proofs.«01_k».proof.Proof.Gen.FfnDownIdeal.Value
public import proofs.«01_k».proof.Proof.Gen.FfnDownIdeal.Skeleton
public import proofs.«01_k».proof.Proof.Gen.FfnDownIdeal.Launch
public import proofs.«01_k».proof.Proof.Gen.FfnDownIdeal.Points
public import proofs.«01_k».proof.Proof.Gen.FfnDownIdeal.Frame
public import proofs.«01_k».proof.Proof.Gen.FfnDownRefIdeal
public import proofs.«01_k».proof.Proof.Gen.FfnDownRefIdeal.Run
public import proofs.«01_k».proof.Proof.Gen.Sample
public import proofs.«01_k».proof.Proof.Gen.Sample.Skeleton
public import proofs.«01_k».proof.Proof.Gen.Sample.Launch
public import proofs.«01_k».proof.Proof.Gen.Sample.Points
public import proofs.«01_k».proof.Proof.Gen.SampleIdeal
public import proofs.«01_k».proof.Proof.Gen.SampleIdeal.Skeleton
public import proofs.«01_k».proof.Proof.Gen.SampleIdeal.Launch
public import proofs.«01_k».proof.Proof.Gen.SampleIdeal.Points
public import proofs.«01_k».proof.Proof.Gen.SampleRefIdeal
public import proofs.«01_k».proof.Proof.Gen.SampleRefIdeal.Run
public import proofs.«01_k».proof.Proof.Gen.InLast
public import proofs.«01_k».proof.Proof.Gen.InLast.Skeleton
public import proofs.«01_k».proof.Proof.Gen.InLast.Launch
public import proofs.«01_k».proof.Proof.Gen.InLast.Points
public import proofs.«01_k».proof.Proof.Gen.InLast.Frame
public import proofs.«01_k».proof.Proof.Gen.InLastIdeal
public import proofs.«01_k».proof.Proof.Gen.InLastIdeal.Skeleton
public import proofs.«01_k».proof.Proof.Gen.InLastIdeal.Launch
public import proofs.«01_k».proof.Proof.Gen.InLastIdeal.Points
public import proofs.«01_k».proof.Proof.Gen.InLastIdeal.Frame
public import proofs.«01_k».proof.Proof.Gen.InLastRefIdeal
public import proofs.«01_k».proof.Proof.Gen.InLastRefIdeal.Run
public import proofs.«01_k».proof.Proof.Gen.Pre_in_range
public import proofs.«01_k».proof.Proof.Gen.Pre_in_range2
public import proofs.«01_k».proof.Proof.MoeOk
public import proofs.«01_k».proof.Proof.MoeUp
public import proofs.«01_k».proof.Proof.MoeDown
public import proofs.«01_k».proof.Proof.InProj
public import proofs.«01_k».proof.Proof.FfnUp
public import proofs.«01_k».proof.Proof.FfnDown
public import proofs.«01_k».proof.Proof.SampleFrame
public import proofs.«01_k».proof.Proof.SampleIdealFrame
public import proofs.«01_k».proof.Proof.StateRef
public import proofs.«01_k».proof.Proof.SampleKv
public import proofs.«01_k».proof.Proof.SampleIn
public import proofs.«01_k».proof.Proof.SampleHid
public import proofs.«01_k».proof.Proof.InLast
public import Idealize.ShloMosaic.Adequacy
public import Idealize.ShloMosaic.Init
public import Idealize.ShloMosaic.Lib.Quiescent

@[expose] public section

set_option maxRecDepth 16384

noncomputable section

namespace Cert.Proof

open Idealize.ShloMosaic Idealize.SL.Sem Cert.MoeUp

/-- The tables that the precondition admits put every block of `MoeUp` inside its array. -/
theorem ok_MoeUp (m : (ℓ : Loc Cert.MoeUp.nD Cert.MoeUp.τ Cert.MoeUp.sig) → Buf (Elt Bits) ℓ) (h : Cert.Pre_MoeUp m) : Cert.MoeUp.Gen.Ok m :=
  Cert.MoeUp.Point.ok_of_range (Cert.MoeUp.Gen.tbl m) (Cert.Pre_in_range.words _ _ _ _ _ (h 0)).1 (Cert.Pre_in_range.words _ _ _ _ _ (h 0)).2

/-- The tables that the precondition admits put every block of `MoeUpIdeal` inside its array. -/
theorem ok_MoeUpIdeal (m : (ℓ : Loc Cert.MoeUpIdeal.nD Cert.MoeUpIdeal.τ Cert.MoeUpIdeal.sig) → Buf (Elt Ideal) ℓ) (h : Cert.Pre_MoeUpIdeal m) : Cert.MoeUpIdeal.Gen.Ok m :=
  Cert.MoeUpIdeal.Point.ok_of_range (Cert.MoeUpIdeal.Gen.tbl m) (Cert.Pre_in_range.words _ _ _ _ _ (h 0)).1 (Cert.Pre_in_range.words _ _ _ _ _ (h 0)).2

/-- `MoeUpIdeal` computes what the reference does. -/
theorem value_MoeUp : Cert.algebraic_MoeUpIdeal_MoeUpRefIdeal := by
  intro m g m' g' hpre hag
  refine ⟨fun c => Cert.MoeUpIdeal.Point.ref0 (m ((c.tc : Thread Cert.MoeUpIdeal.nD Cert.MoeUpIdeal.τ).loc Cert.MoeUpIdeal.main_arg0)) (m ((c.tc : Thread Cert.MoeUpIdeal.nD Cert.MoeUpIdeal.τ).loc Cert.MoeUpIdeal.main_arg1)) (m ((c.tc : Thread Cert.MoeUpIdeal.nD Cert.MoeUpIdeal.τ).loc Cert.MoeUpIdeal.main_arg2)) (m ((c.tc : Thread Cert.MoeUpIdeal.nD Cert.MoeUpIdeal.τ).loc Cert.MoeUpIdeal.main_arg3)) (m ((c.tc : Thread Cert.MoeUpIdeal.nD Cert.MoeUpIdeal.τ).loc Cert.MoeUpIdeal.main_arg4)), ?_, ?_⟩
  · refine (θ_run _ _ _).mono (fun r h c => ⟨((h.1 c).1 3).trans ?_, h.2 c⟩)
      (θ_run_and (Cert.MoeUpIdeal.Gen.run_main m g (ok_MoeUpIdeal m hpre)) (Cert.MoeUpIdeal.Gen.unchanged m g (ok_MoeUpIdeal m hpre)))
    exact Cert.MoeUpIdeal.Point.final m (ok_MoeUpIdeal m hpre) c (Cert.Pre_in_range.words _ _ _ _ _ (hpre c)).1
  · refine (θ_run _ _ _).mono (fun r h c => ⟨(h c).1.trans ?_, (h c).2⟩) (Cert.MoeUpRefIdeal.Value.run m' g')
    have e := congr (congr (congr (congr (congrArg Cert.MoeUpIdeal.Point.ref0 (hag c).1) (hag c).2.1) (hag c).2.2.1) (hag c).2.2.2.1) (hag c).2.2.2.2
    exact e

/-- The tables that the precondition admits put every block of `MoeDown` inside its array. -/
theorem ok_MoeDown (m : (ℓ : Loc Cert.MoeDown.nD Cert.MoeDown.τ Cert.MoeDown.sig) → Buf (Elt Bits) ℓ) (h : Cert.Pre_MoeDown m) : Cert.MoeDown.Gen.Ok m :=
  Cert.MoeDown.Point.ok_of_range (Cert.MoeDown.Gen.tbl m) (Cert.Pre_in_range2.words _ _ _ _ (h 0)).1 (Cert.Pre_in_range2.words _ _ _ _ (h 0)).2

/-- The tables that the precondition admits put every block of `MoeDownIdeal` inside its array. -/
theorem ok_MoeDownIdeal (m : (ℓ : Loc Cert.MoeDownIdeal.nD Cert.MoeDownIdeal.τ Cert.MoeDownIdeal.sig) → Buf (Elt Ideal) ℓ) (h : Cert.Pre_MoeDownIdeal m) : Cert.MoeDownIdeal.Gen.Ok m :=
  Cert.MoeDownIdeal.Point.ok_of_range (Cert.MoeDownIdeal.Gen.tbl m) (Cert.Pre_in_range2.words _ _ _ _ (h 0)).1 (Cert.Pre_in_range2.words _ _ _ _ (h 0)).2

/-- `MoeDownIdeal` computes what the reference does. -/
theorem value_MoeDown : Cert.algebraic_MoeDownIdeal_MoeDownRefIdeal := by
  intro m g m' g' hpre hag
  refine ⟨fun c => Cert.MoeDownIdeal.Point.ref0 (m ((c.tc : Thread Cert.MoeDownIdeal.nD Cert.MoeDownIdeal.τ).loc Cert.MoeDownIdeal.main_arg0)) (m ((c.tc : Thread Cert.MoeDownIdeal.nD Cert.MoeDownIdeal.τ).loc Cert.MoeDownIdeal.main_arg1)) (m ((c.tc : Thread Cert.MoeDownIdeal.nD Cert.MoeDownIdeal.τ).loc Cert.MoeDownIdeal.main_arg2)) (m ((c.tc : Thread Cert.MoeDownIdeal.nD Cert.MoeDownIdeal.τ).loc Cert.MoeDownIdeal.main_arg3)), ?_, ?_⟩
  · refine (θ_run _ _ _).mono (fun r h c => ⟨((h.1 c).1 2).trans ?_, h.2 c⟩)
      (θ_run_and (Cert.MoeDownIdeal.Gen.run_main m g (ok_MoeDownIdeal m hpre)) (Cert.MoeDownIdeal.Gen.unchanged m g (ok_MoeDownIdeal m hpre)))
    exact Cert.MoeDownIdeal.Point.final m (ok_MoeDownIdeal m hpre) c (Cert.Pre_in_range2.words _ _ _ _ (hpre c)).1
  · refine (θ_run _ _ _).mono (fun r h c => ⟨(h c).1.trans ?_, (h c).2⟩) (Cert.MoeDownRefIdeal.Value.run m' g')
    have e := congr (congr (congr (congrArg Cert.MoeDownIdeal.Point.ref0 (hag c).1) (hag c).2.1) (hag c).2.2.1) (hag c).2.2.2
    exact e

/-- `InProjIdeal` computes what the reference does. -/
theorem value_InProj : Cert.algebraic_InProjIdeal_InProjRefIdeal := by
  intro m g m' g' hpre hag
  refine ⟨fun c => Cert.InProjIdeal.Point.ref0 (m ((c.tc : Thread Cert.InProjIdeal.nD Cert.InProjIdeal.τ).loc Cert.InProjIdeal.main_arg0)) (m ((c.tc : Thread Cert.InProjIdeal.nD Cert.InProjIdeal.τ).loc Cert.InProjIdeal.main_arg1)), ?_, ?_⟩
  · exact (θ_run _ _ _).mono (fun r h c => ⟨(h c).1.trans (Cert.InProjIdeal.Point.final m c), (h c).2⟩) (Cert.InProjIdeal.Value.run_blocks m g)
  · refine (θ_run _ _ _).mono (fun r h c => ?_) (Cert.InProjRefIdeal.Value.run m' g')
    have e0 := congr (congrArg Cert.InProjIdeal.Point.ref0 (hag c).1) (hag c).2
    exact ⟨(h c).1.trans e0, (h c).2⟩

/-- `FfnUpIdeal` computes what the reference does. -/
theorem value_FfnUp : Cert.algebraic_FfnUpIdeal_FfnUpRefIdeal := by
  intro m g m' g' hpre hag
  refine ⟨fun c => Cert.FfnUpIdeal.Point.ref0 (m ((c.tc : Thread Cert.FfnUpIdeal.nD Cert.FfnUpIdeal.τ).loc Cert.FfnUpIdeal.main_arg0)) (m ((c.tc : Thread Cert.FfnUpIdeal.nD Cert.FfnUpIdeal.τ).loc Cert.FfnUpIdeal.main_arg1)) (m ((c.tc : Thread Cert.FfnUpIdeal.nD Cert.FfnUpIdeal.τ).loc Cert.FfnUpIdeal.main_arg2)), ?_, ?_⟩
  · exact (θ_run _ _ _).mono (fun r h c => ⟨(h c).1.trans (Cert.FfnUpIdeal.Point.final m c), (h c).2⟩) (Cert.FfnUpIdeal.Value.run_blocks m g)
  · refine (θ_run _ _ _).mono (fun r h c => ?_) (Cert.FfnUpRefIdeal.Value.run m' g')
    have e0 := congr (congr (congrArg Cert.FfnUpIdeal.Point.ref0 (hag c).1) (hag c).2.1) (hag c).2.2
    exact ⟨(h c).1.trans e0, (h c).2⟩

/-- `FfnDownIdeal` computes what the reference does. -/
theorem value_FfnDown : Cert.algebraic_FfnDownIdeal_FfnDownRefIdeal := by
  intro m g m' g' hpre hag
  refine ⟨fun c => Cert.FfnDownIdeal.Point.ref0 (m ((c.tc : Thread Cert.FfnDownIdeal.nD Cert.FfnDownIdeal.τ).loc Cert.FfnDownIdeal.main_arg0)) (m ((c.tc : Thread Cert.FfnDownIdeal.nD Cert.FfnDownIdeal.τ).loc Cert.FfnDownIdeal.main_arg1)) (m ((c.tc : Thread Cert.FfnDownIdeal.nD Cert.FfnDownIdeal.τ).loc Cert.FfnDownIdeal.main_arg2)), fun c => Cert.FfnDownIdeal.Point.ref1 (m ((c.tc : Thread Cert.FfnDownIdeal.nD Cert.FfnDownIdeal.τ).loc Cert.FfnDownIdeal.main_arg0)) (m ((c.tc : Thread Cert.FfnDownIdeal.nD Cert.FfnDownIdeal.τ).loc Cert.FfnDownIdeal.main_arg1)) (m ((c.tc : Thread Cert.FfnDownIdeal.nD Cert.FfnDownIdeal.τ).loc Cert.FfnDownIdeal.main_arg2)) (m ((c.tc : Thread Cert.FfnDownIdeal.nD Cert.FfnDownIdeal.τ).loc Cert.FfnDownIdeal.main_arg3)), ?_, ?_⟩
  · exact (θ_run _ _ _).mono (fun r h c => ⟨(h c).1.trans (Cert.FfnDownIdeal.Point.final0 m c), (h c).2.1.trans (Cert.FfnDownIdeal.Point.final1 m c), (h c).2.2⟩) (Cert.FfnDownIdeal.Value.run_blocks m g)
  · refine (θ_run _ _ _).mono (fun r h c => ?_) (Cert.FfnDownRefIdeal.Value.run m' g')
    have e0 := congr (congr (congrArg Cert.FfnDownIdeal.Point.ref0 (hag c).1) (hag c).2.1) (hag c).2.2.1
    have e1 := congr (congr (congr (congrArg Cert.FfnDownIdeal.Point.ref1 (hag c).1) (hag c).2.1) (hag c).2.2.1) (hag c).2.2.2
    exact ⟨(h c).1.trans e0, (h c).2.1.trans e1, (h c).2.2⟩

/-- The reference `MoeUpRefIdeal` runs, its arguments kept; it has no semaphore. -/
theorem frame_MoeUpRef (m : (ℓ : Loc Cert.MoeUpRefIdeal.nD Cert.MoeUpRefIdeal.τ Cert.MoeUpRefIdeal.sig) → Buf (Elt Ideal) ℓ) (g : Dev Cert.MoeUpRefIdeal.nD → PrngReg) :
    θ_run (Cert.MoeUpRefIdeal.defs (F := Ideal)) (onTc (τ := Cert.MoeUpRefIdeal.τ) (Cert.MoeUpRefIdeal.main (F := Ideal))) ⟨m, fun _ => 0, g⟩ (fun r => (∀ c : Dev Cert.MoeUpRefIdeal.nD,
      r.2.mem ((c.tc : Thread Cert.MoeUpRefIdeal.nD Cert.MoeUpRefIdeal.τ).loc Cert.MoeUpRefIdeal.main_arg0) = m ((c.tc : Thread Cert.MoeUpRefIdeal.nD Cert.MoeUpRefIdeal.τ).loc Cert.MoeUpRefIdeal.main_arg0)
      ∧ r.2.mem ((c.tc : Thread Cert.MoeUpRefIdeal.nD Cert.MoeUpRefIdeal.τ).loc Cert.MoeUpRefIdeal.main_arg1) = m ((c.tc : Thread Cert.MoeUpRefIdeal.nD Cert.MoeUpRefIdeal.τ).loc Cert.MoeUpRefIdeal.main_arg1)
      ∧ r.2.mem ((c.tc : Thread Cert.MoeUpRefIdeal.nD Cert.MoeUpRefIdeal.τ).loc Cert.MoeUpRefIdeal.main_arg2) = m ((c.tc : Thread Cert.MoeUpRefIdeal.nD Cert.MoeUpRefIdeal.τ).loc Cert.MoeUpRefIdeal.main_arg2)
      ∧ r.2.mem ((c.tc : Thread Cert.MoeUpRefIdeal.nD Cert.MoeUpRefIdeal.τ).loc Cert.MoeUpRefIdeal.main_arg3) = m ((c.tc : Thread Cert.MoeUpRefIdeal.nD Cert.MoeUpRefIdeal.τ).loc Cert.MoeUpRefIdeal.main_arg3)
      ∧ r.2.mem ((c.tc : Thread Cert.MoeUpRefIdeal.nD Cert.MoeUpRefIdeal.τ).loc Cert.MoeUpRefIdeal.main_arg4) = m ((c.tc : Thread Cert.MoeUpRefIdeal.nD Cert.MoeUpRefIdeal.τ).loc Cert.MoeUpRefIdeal.main_arg4))
      ∧ r.2.sem = fun _ => 0) :=
  (θ_run _ _ _).mono (fun r h => ⟨fun c => (h c).2, sem_eq_zero_of_no_sems rfl _⟩) (Cert.MoeUpRefIdeal.Value.run m g)

/-- The reference `MoeDownRefIdeal` runs, its arguments kept; it has no semaphore. -/
theorem frame_MoeDownRef (m : (ℓ : Loc Cert.MoeDownRefIdeal.nD Cert.MoeDownRefIdeal.τ Cert.MoeDownRefIdeal.sig) → Buf (Elt Ideal) ℓ) (g : Dev Cert.MoeDownRefIdeal.nD → PrngReg) :
    θ_run (Cert.MoeDownRefIdeal.defs (F := Ideal)) (onTc (τ := Cert.MoeDownRefIdeal.τ) (Cert.MoeDownRefIdeal.main (F := Ideal))) ⟨m, fun _ => 0, g⟩ (fun r => (∀ c : Dev Cert.MoeDownRefIdeal.nD,
      r.2.mem ((c.tc : Thread Cert.MoeDownRefIdeal.nD Cert.MoeDownRefIdeal.τ).loc Cert.MoeDownRefIdeal.main_arg0) = m ((c.tc : Thread Cert.MoeDownRefIdeal.nD Cert.MoeDownRefIdeal.τ).loc Cert.MoeDownRefIdeal.main_arg0)
      ∧ r.2.mem ((c.tc : Thread Cert.MoeDownRefIdeal.nD Cert.MoeDownRefIdeal.τ).loc Cert.MoeDownRefIdeal.main_arg1) = m ((c.tc : Thread Cert.MoeDownRefIdeal.nD Cert.MoeDownRefIdeal.τ).loc Cert.MoeDownRefIdeal.main_arg1)
      ∧ r.2.mem ((c.tc : Thread Cert.MoeDownRefIdeal.nD Cert.MoeDownRefIdeal.τ).loc Cert.MoeDownRefIdeal.main_arg2) = m ((c.tc : Thread Cert.MoeDownRefIdeal.nD Cert.MoeDownRefIdeal.τ).loc Cert.MoeDownRefIdeal.main_arg2)
      ∧ r.2.mem ((c.tc : Thread Cert.MoeDownRefIdeal.nD Cert.MoeDownRefIdeal.τ).loc Cert.MoeDownRefIdeal.main_arg3) = m ((c.tc : Thread Cert.MoeDownRefIdeal.nD Cert.MoeDownRefIdeal.τ).loc Cert.MoeDownRefIdeal.main_arg3))
      ∧ r.2.sem = fun _ => 0) :=
  (θ_run _ _ _).mono (fun r h => ⟨fun c => (h c).2, sem_eq_zero_of_no_sems rfl _⟩) (Cert.MoeDownRefIdeal.Value.run m g)

/-- The reference `InProjRefIdeal` runs, its arguments kept; it has no semaphore. -/
theorem frame_InProjRef (m : (ℓ : Loc Cert.InProjRefIdeal.nD Cert.InProjRefIdeal.τ Cert.InProjRefIdeal.sig) → Buf (Elt Ideal) ℓ) (g : Dev Cert.InProjRefIdeal.nD → PrngReg) :
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0) :=
  (θ_run _ _ _).mono (fun r h => ⟨fun c => (h c).2, sem_eq_zero_of_no_sems rfl _⟩) (Cert.InProjRefIdeal.Value.run m g)

/-- The reference `FfnUpRefIdeal` runs, its arguments kept; it has no semaphore. -/
theorem frame_FfnUpRef (m : (ℓ : Loc Cert.FfnUpRefIdeal.nD Cert.FfnUpRefIdeal.τ Cert.FfnUpRefIdeal.sig) → Buf (Elt Ideal) ℓ) (g : Dev Cert.FfnUpRefIdeal.nD → PrngReg) :
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2))
      ∧ r.2.sem = fun _ => 0) :=
  (θ_run _ _ _).mono (fun r h => ⟨fun c => (h c).2, sem_eq_zero_of_no_sems rfl _⟩) (Cert.FfnUpRefIdeal.Value.run m g)

/-- The reference `FfnDownRefIdeal` runs, its arguments kept; it has no semaphore. -/
theorem frame_FfnDownRef (m : (ℓ : Loc Cert.FfnDownRefIdeal.nD Cert.FfnDownRefIdeal.τ Cert.FfnDownRefIdeal.sig) → Buf (Elt Ideal) ℓ) (g : Dev Cert.FfnDownRefIdeal.nD → PrngReg) :
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2)
      ∧ r.2.mem ((c.tc : Thread Cert.FfnDownRefIdeal.nD Cert.FfnDownRefIdeal.τ).loc Cert.FfnDownRefIdeal.main_arg3) = m ((c.tc : Thread Cert.FfnDownRefIdeal.nD Cert.FfnDownRefIdeal.τ).loc Cert.FfnDownRefIdeal.main_arg3))
      ∧ r.2.sem = fun _ => 0) :=
  (θ_run _ _ _).mono (fun r h => ⟨fun c => (h c).2.2, sem_eq_zero_of_no_sems rfl _⟩) (Cert.FfnDownRefIdeal.Value.run m g)

set_option maxHeartbeats 4000000 in
/-- The decoding rows' call leaves the states that the reference does. -/
theorem value_Sample : Cert.algebraic_SampleIdeal_SampleRefIdeal := by
  intro m g m' g' hpre hag
  refine ⟨fun c => Cert.SampleRefIdeal.State.sk (m (((c.tc : Thread Cert.SampleIdeal.nD Cert.SampleIdeal.τ)).loc Cert.SampleIdeal.main_arg0)) (m (((c.tc : Thread Cert.SampleIdeal.nD Cert.SampleIdeal.τ)).loc Cert.SampleIdeal.main_arg2)) (m (((c.tc : Thread Cert.SampleIdeal.nD Cert.SampleIdeal.τ)).loc Cert.SampleIdeal.main_arg18)), fun c => Cert.SampleRefIdeal.State.sv (m (((c.tc : Thread Cert.SampleIdeal.nD Cert.SampleIdeal.τ)).loc Cert.SampleIdeal.main_arg0)) (m (((c.tc : Thread Cert.SampleIdeal.nD Cert.SampleIdeal.τ)).loc Cert.SampleIdeal.main_arg3)) (m (((c.tc : Thread Cert.SampleIdeal.nD Cert.SampleIdeal.τ)).loc Cert.SampleIdeal.main_arg19)), fun c => Cert.SampleRefIdeal.State.sconv (m (((c.tc : Thread Cert.SampleIdeal.nD Cert.SampleIdeal.τ)).loc Cert.SampleIdeal.main_arg0)) (m (((c.tc : Thread Cert.SampleIdeal.nD Cert.SampleIdeal.τ)).loc Cert.SampleIdeal.main_arg4)) (m (((c.tc : Thread Cert.SampleIdeal.nD Cert.SampleIdeal.τ)).loc Cert.SampleIdeal.main_arg20)), fun c => Cert.SampleRefIdeal.State.slconv (m (((c.tc : Thread Cert.SampleIdeal.nD Cert.SampleIdeal.τ)).loc Cert.SampleIdeal.main_arg0)) (m (((c.tc : Thread Cert.SampleIdeal.nD Cert.SampleIdeal.τ)).loc Cert.SampleIdeal.main_arg5)) (m (((c.tc : Thread Cert.SampleIdeal.nD Cert.SampleIdeal.τ)).loc Cert.SampleIdeal.main_arg21)), fun c => Cert.SampleRefIdeal.State.sh (m (((c.tc : Thread Cert.SampleIdeal.nD Cert.SampleIdeal.τ)).loc Cert.SampleIdeal.main_arg0)) (m (((c.tc : Thread Cert.SampleIdeal.nD Cert.SampleIdeal.τ)).loc Cert.SampleIdeal.main_arg5)) (m (((c.tc : Thread Cert.SampleIdeal.nD Cert.SampleIdeal.τ)).loc Cert.SampleIdeal.main_arg6)) (m (((c.tc : Thread Cert.SampleIdeal.nD Cert.SampleIdeal.τ)).loc Cert.SampleIdeal.main_arg11)) (m (((c.tc : Thread Cert.SampleIdeal.nD Cert.SampleIdeal.τ)).loc Cert.SampleIdeal.main_arg12)) (m (((c.tc : Thread Cert.SampleIdeal.nD Cert.SampleIdeal.τ)).loc Cert.SampleIdeal.main_arg13)) (m (((c.tc : Thread Cert.SampleIdeal.nD Cert.SampleIdeal.τ)).loc Cert.SampleIdeal.main_arg14)) (m (((c.tc : Thread Cert.SampleIdeal.nD Cert.SampleIdeal.τ)).loc Cert.SampleIdeal.main_arg15)) (m (((c.tc : Thread Cert.SampleIdeal.nD Cert.SampleIdeal.τ)).loc Cert.SampleIdeal.main_arg16)) (m (((c.tc : Thread Cert.SampleIdeal.nD Cert.SampleIdeal.τ)).loc Cert.SampleIdeal.main_arg17)) (m (((c.tc : Thread Cert.SampleIdeal.nD Cert.SampleIdeal.τ)).loc Cert.SampleIdeal.main_arg22)), ?_, ?_⟩
  · exact (θ_run _ _ _).mono (fun r h c => ⟨((h.1 c).1 25).trans (Cert.SampleIdeal.Point.final25 m c), ((h.1 c).1 26).trans (Cert.SampleIdeal.Point.final26 m c), ((h.1 c).1 28).trans (Cert.SampleIdeal.Point.final28 m c), ((h.1 c).1 30).trans (Cert.SampleIdeal.Point.final30 m c), ((h.1 c).1 31).trans (Cert.SampleIdeal.Point.final31 m c), h.2 c⟩)
      (θ_run_and (Cert.SampleIdeal.Gen.run_main m g) (Cert.SampleIdeal.Gen.unchanged m g))
  · refine (θ_run _ _ _).mono (fun r h c => ?_) (Cert.SampleRefIdeal.State.run m' g')
    have e0 := congr (congr (congrArg Cert.SampleRefIdeal.State.sk (hag c).1) (hag c).2.2.1) (hag c).2.2.2.2.2.2.2.2.2.2.2.2.2.2.2.2.2.2.1
    have e1 := congr (congr (congrArg Cert.SampleRefIdeal.State.sv (hag c).1) (hag c).2.2.2.1) (hag c).2.2.2.2.2.2.2.2.2.2.2.2.2.2.2.2.2.2.2.1
    have e2 := congr (congr (congrArg Cert.SampleRefIdeal.State.sconv (hag c).1) (hag c).2.2.2.2.1) (hag c).2.2.2.2.2.2.2.2.2.2.2.2.2.2.2.2.2.2.2.2.1
    have e3 := congr (congr (congrArg Cert.SampleRefIdeal.State.slconv (hag c).1) (hag c).2.2.2.2.2.1) (hag c).2.2.2.2.2.2.2.2.2.2.2.2.2.2.2.2.2.2.2.2.2.1
    have e4 := congr (congr (congr (congr (congr (congr (congr (congr (congr (congr (congrArg Cert.SampleRefIdeal.State.sh (hag c).1) (hag c).2.2.2.2.2.1) (hag c).2.2.2.2.2.2.1) (hag c).2.2.2.2.2.2.2.2.2.2.2.1) (hag c).2.2.2.2.2.2.2.2.2.2.2.2.1) (hag c).2.2.2.2.2.2.2.2.2.2.2.2.2.1) (hag c).2.2.2.2.2.2.2.2.2.2.2.2.2.2.1) (hag c).2.2.2.2.2.2.2.2.2.2.2.2.2.2.2.1) (hag c).2.2.2.2.2.2.2.2.2.2.2.2.2.2.2.2.1) (hag c).2.2.2.2.2.2.2.2.2.2.2.2.2.2.2.2.2.1) (hag c).2.2.2.2.2.2.2.2.2.2.2.2.2.2.2.2.2.2.2.2.2.2
    exact ⟨(h c).1.trans e0, (h c).2.1.trans e1, (h c).2.2.1.trans e2, (h c).2.2.2.1.trans e3, (h c).2.2.2.2.1.trans e4, (h c).2.2.2.2.2⟩

/-- The reference `SampleRefIdeal` runs, its arguments kept; it has no semaphore. -/
theorem frame_SampleRef (m : (ℓ : Loc Cert.SampleRefIdeal.nD Cert.SampleRefIdeal.τ Cert.SampleRefIdeal.sig) → Buf (Elt Ideal) ℓ) (g : Dev Cert.SampleRefIdeal.nD → PrngReg) :
    θ_run (Cert.SampleRefIdeal.defs (F := Ideal)) (onTc (τ := Cert.SampleRefIdeal.τ) (Cert.SampleRefIdeal.main (F := Ideal))) ⟨m, fun _ => 0, g⟩ (fun r => (∀ c : Dev Cert.SampleRefIdeal.nD,
      r.2.mem ((c.tc : Thread Cert.SampleRefIdeal.nD Cert.SampleRefIdeal.τ).loc Cert.SampleRefIdeal.main_arg0) = m ((c.tc : Thread Cert.SampleRefIdeal.nD Cert.SampleRefIdeal.τ).loc Cert.SampleRefIdeal.main_arg0)
      ∧ r.2.mem ((c.tc : Thread Cert.SampleRefIdeal.nD Cert.SampleRefIdeal.τ).loc Cert.SampleRefIdeal.main_arg1) = m ((c.tc : Thread Cert.SampleRefIdeal.nD Cert.SampleRefIdeal.τ).loc Cert.SampleRefIdeal.main_arg1)
      ∧ r.2.mem ((c.tc : Thread Cert.SampleRefIdeal.nD Cert.SampleRefIdeal.τ).loc Cert.SampleRefIdeal.main_arg2) = m ((c.tc : Thread Cert.SampleRefIdeal.nD Cert.SampleRefIdeal.τ).loc Cert.SampleRefIdeal.main_arg2)
      ∧ r.2.mem ((c.tc : Thread Cert.SampleRefIdeal.nD Cert.SampleRefIdeal.τ).loc Cert.SampleRefIdeal.main_arg3) = m ((c.tc : Thread Cert.SampleRefIdeal.nD Cert.SampleRefIdeal.τ).loc Cert.SampleRefIdeal.main_arg3)
      ∧ r.2.mem ((c.tc : Thread Cert.SampleRefIdeal.nD Cert.SampleRefIdeal.τ).loc Cert.SampleRefIdeal.main_arg4) = m ((c.tc : Thread Cert.SampleRefIdeal.nD Cert.SampleRefIdeal.τ).loc Cert.SampleRefIdeal.main_arg4)
      ∧ r.2.mem ((c.tc : Thread Cert.SampleRefIdeal.nD Cert.SampleRefIdeal.τ).loc Cert.SampleRefIdeal.main_arg5) = m ((c.tc : Thread Cert.SampleRefIdeal.nD Cert.SampleRefIdeal.τ).loc Cert.SampleRefIdeal.main_arg5)
      ∧ r.2.mem ((c.tc : Thread Cert.SampleRefIdeal.nD Cert.SampleRefIdeal.τ).loc Cert.SampleRefIdeal.main_arg6) = m ((c.tc : Thread Cert.SampleRefIdeal.nD Cert.SampleRefIdeal.τ).loc Cert.SampleRefIdeal.main_arg6)
      ∧ r.2.mem ((c.tc : Thread Cert.SampleRefIdeal.nD Cert.SampleRefIdeal.τ).loc Cert.SampleRefIdeal.main_arg7) = m ((c.tc : Thread Cert.SampleRefIdeal.nD Cert.SampleRefIdeal.τ).loc Cert.SampleRefIdeal.main_arg7)
      ∧ r.2.mem ((c.tc : Thread Cert.SampleRefIdeal.nD Cert.SampleRefIdeal.τ).loc Cert.SampleRefIdeal.main_arg8) = m ((c.tc : Thread Cert.SampleRefIdeal.nD Cert.SampleRefIdeal.τ).loc Cert.SampleRefIdeal.main_arg8)
      ∧ r.2.mem ((c.tc : Thread Cert.SampleRefIdeal.nD Cert.SampleRefIdeal.τ).loc Cert.SampleRefIdeal.main_arg9) = m ((c.tc : Thread Cert.SampleRefIdeal.nD Cert.SampleRefIdeal.τ).loc Cert.SampleRefIdeal.main_arg9)
      ∧ r.2.mem ((c.tc : Thread Cert.SampleRefIdeal.nD Cert.SampleRefIdeal.τ).loc Cert.SampleRefIdeal.main_arg10) = m ((c.tc : Thread Cert.SampleRefIdeal.nD Cert.SampleRefIdeal.τ).loc Cert.SampleRefIdeal.main_arg10)
      ∧ r.2.mem ((c.tc : Thread Cert.SampleRefIdeal.nD Cert.SampleRefIdeal.τ).loc Cert.SampleRefIdeal.main_arg11) = m ((c.tc : Thread Cert.SampleRefIdeal.nD Cert.SampleRefIdeal.τ).loc Cert.SampleRefIdeal.main_arg11)
      ∧ r.2.mem ((c.tc : Thread Cert.SampleRefIdeal.nD Cert.SampleRefIdeal.τ).loc Cert.SampleRefIdeal.main_arg12) = m ((c.tc : Thread Cert.SampleRefIdeal.nD Cert.SampleRefIdeal.τ).loc Cert.SampleRefIdeal.main_arg12)
      ∧ r.2.mem ((c.tc : Thread Cert.SampleRefIdeal.nD Cert.SampleRefIdeal.τ).loc Cert.SampleRefIdeal.main_arg13) = m ((c.tc : Thread Cert.SampleRefIdeal.nD Cert.SampleRefIdeal.τ).loc Cert.SampleRefIdeal.main_arg13)
      ∧ r.2.mem ((c.tc : Thread Cert.SampleRefIdeal.nD Cert.SampleRefIdeal.τ).loc Cert.SampleRefIdeal.main_arg14) = m ((c.tc : Thread Cert.SampleRefIdeal.nD Cert.SampleRefIdeal.τ).loc Cert.SampleRefIdeal.main_arg14)
      ∧ r.2.mem ((c.tc : Thread Cert.SampleRefIdeal.nD Cert.SampleRefIdeal.τ).loc Cert.SampleRefIdeal.main_arg15) = m ((c.tc : Thread Cert.SampleRefIdeal.nD Cert.SampleRefIdeal.τ).loc Cert.SampleRefIdeal.main_arg15)
      ∧ r.2.mem ((c.tc : Thread Cert.SampleRefIdeal.nD Cert.SampleRefIdeal.τ).loc Cert.SampleRefIdeal.main_arg16) = m ((c.tc : Thread Cert.SampleRefIdeal.nD Cert.SampleRefIdeal.τ).loc Cert.SampleRefIdeal.main_arg16)
      ∧ r.2.mem ((c.tc : Thread Cert.SampleRefIdeal.nD Cert.SampleRefIdeal.τ).loc Cert.SampleRefIdeal.main_arg17) = m ((c.tc : Thread Cert.SampleRefIdeal.nD Cert.SampleRefIdeal.τ).loc Cert.SampleRefIdeal.main_arg17)
      ∧ r.2.mem ((c.tc : Thread Cert.SampleRefIdeal.nD Cert.SampleRefIdeal.τ).loc Cert.SampleRefIdeal.main_arg18) = m ((c.tc : Thread Cert.SampleRefIdeal.nD Cert.SampleRefIdeal.τ).loc Cert.SampleRefIdeal.main_arg18)
      ∧ r.2.mem ((c.tc : Thread Cert.SampleRefIdeal.nD Cert.SampleRefIdeal.τ).loc Cert.SampleRefIdeal.main_arg19) = m ((c.tc : Thread Cert.SampleRefIdeal.nD Cert.SampleRefIdeal.τ).loc Cert.SampleRefIdeal.main_arg19)
      ∧ r.2.mem ((c.tc : Thread Cert.SampleRefIdeal.nD Cert.SampleRefIdeal.τ).loc Cert.SampleRefIdeal.main_arg20) = m ((c.tc : Thread Cert.SampleRefIdeal.nD Cert.SampleRefIdeal.τ).loc Cert.SampleRefIdeal.main_arg20)
      ∧ r.2.mem ((c.tc : Thread Cert.SampleRefIdeal.nD Cert.SampleRefIdeal.τ).loc Cert.SampleRefIdeal.main_arg21) = m ((c.tc : Thread Cert.SampleRefIdeal.nD Cert.SampleRefIdeal.τ).loc Cert.SampleRefIdeal.main_arg21)
      ∧ r.2.mem ((c.tc : Thread Cert.SampleRefIdeal.nD Cert.SampleRefIdeal.τ).loc Cert.SampleRefIdeal.main_arg22) = m ((c.tc : Thread Cert.SampleRefIdeal.nD Cert.SampleRefIdeal.τ).loc Cert.SampleRefIdeal.main_arg22))
      ∧ r.2.sem = fun _ => 0) :=
  (θ_run _ _ _).mono (fun r h => ⟨fun c => (h c).2.2.2.2.2, sem_eq_zero_of_no_sems rfl _⟩) (Cert.SampleRefIdeal.State.run m g)

/-- The named constants stand for the values written. -/
theorem named_Sample : Cert.preserves_Sample_SampleIdeal :=
  ⟨IdealRules.named_const.statement Cert.SampleIdeal.κ "slope0" .f32 0x3F3504F3#32 (((Real.sqrt 2)⁻¹ : ℝ) : EReal) rfl,
   IdealRules.named_const.statement Cert.SampleIdeal.κ "slope2" .f32 0x3EB504F3#32 (((Real.sqrt 8)⁻¹ : ℝ) : EReal) rfl,
   IdealRules.named_const.statement Cert.SampleIdeal.κ "mask" .f32 0xF149F2CA#32 ⊥ rfl,
   IdealRules.named_const.statement Cert.SampleIdeal.κ "slope4" .f32 0x3E3504F3#32 (((Real.sqrt 32)⁻¹ : ℝ) : EReal) rfl,
   IdealRules.named_const.statement Cert.SampleIdeal.κ "slope6" .f32 0x3DB504F3#32 (((Real.sqrt 128)⁻¹ : ℝ) : EReal) rfl,
   IdealRules.named_const.statement Cert.SampleIdeal.κ "slope8" .f32 0x3D3504F3#32 (((Real.sqrt 512)⁻¹ : ℝ) : EReal) rfl,
   IdealRules.named_const.statement Cert.SampleIdeal.κ "slope10" .f32 0x3CB504F3#32 (((Real.sqrt 2048)⁻¹ : ℝ) : EReal) rfl,
   IdealRules.named_const.statement Cert.SampleIdeal.κ "slope12" .f32 0x3C3504F3#32 (((Real.sqrt 8192)⁻¹ : ℝ) : EReal) rfl,
   IdealRules.named_const.statement Cert.SampleIdeal.κ "slope14" .f32 0x3BB504F3#32 (((Real.sqrt 32768)⁻¹ : ℝ) : EReal) rfl⟩

/-- Both projections with the cut of their last window give what the reference does. -/
theorem value_InLast : Cert.algebraic_InLastIdeal_InLastRefIdeal := by
  intro m g m' g' hpre hag
  refine ⟨fun c => Cert.InLastIdeal.Point.refK (m (((c.tc : Thread Cert.InLastIdeal.nD Cert.InLastIdeal.τ)).loc Cert.InLastIdeal.main_arg0)) (m (((c.tc : Thread Cert.InLastIdeal.nD Cert.InLastIdeal.τ)).loc Cert.InLastIdeal.main_arg1)) (m (((c.tc : Thread Cert.InLastIdeal.nD Cert.InLastIdeal.τ)).loc Cert.InLastIdeal.main_arg2)) (m (((c.tc : Thread Cert.InLastIdeal.nD Cert.InLastIdeal.τ)).loc Cert.InLastIdeal.main_arg3)), fun c => Cert.InLastIdeal.Point.refV (m (((c.tc : Thread Cert.InLastIdeal.nD Cert.InLastIdeal.τ)).loc Cert.InLastIdeal.main_arg0)) (m (((c.tc : Thread Cert.InLastIdeal.nD Cert.InLastIdeal.τ)).loc Cert.InLastIdeal.main_arg1)) (m (((c.tc : Thread Cert.InLastIdeal.nD Cert.InLastIdeal.τ)).loc Cert.InLastIdeal.main_arg2)) (m (((c.tc : Thread Cert.InLastIdeal.nD Cert.InLastIdeal.τ)).loc Cert.InLastIdeal.main_arg3)), ?_, ?_⟩
  · exact (θ_run _ _ _).mono (fun r h c => ⟨(h c).1.trans (Cert.InLastIdeal.Point.finalK m g c), (h c).2.1.trans (Cert.InLastIdeal.Point.finalV m g c), (h c).2.2⟩)
      (Cert.InLastIdeal.Point.run_last m g)
  · refine (θ_run _ _ _).mono (fun r h c => ?_) (Cert.InLastRefIdeal.Value.run m' g')
    have e0 := congr (congr (congr (congrArg Cert.InLastIdeal.Point.refK (hag c).1) (hag c).2.1) (hag c).2.2.1) (hag c).2.2.2
    have e1 := congr (congr (congr (congrArg Cert.InLastIdeal.Point.refV (hag c).1) (hag c).2.1) (hag c).2.2.1) (hag c).2.2.2
    exact ⟨(h c).1.trans e0, (h c).2.1.trans e1, (h c).2.2⟩

/-- The reference `InLastRefIdeal` runs, its arguments kept; it has no semaphore. -/
theorem frame_InLastRef (m : (ℓ : Loc Cert.InLastRefIdeal.nD Cert.InLastRefIdeal.τ Cert.InLastRefIdeal.sig) → Buf (Elt Ideal) ℓ) (g : Dev Cert.InLastRefIdeal.nD → PrngReg) :
    θ_run (Cert.InLastRefIdeal.defs (F := Ideal)) (onTc (τ := Cert.InLastRefIdeal.τ) (Cert.InLastRefIdeal.main (F := Ideal))) ⟨m, fun _ => 0, g⟩ (fun r => (∀ c : Dev Cert.InLastRefIdeal.nD,
      r.2.mem ((c.tc : Thread Cert.InLastRefIdeal.nD Cert.InLastRefIdeal.τ).loc Cert.InLastRefIdeal.main_arg0) = m ((c.tc : Thread Cert.InLastRefIdeal.nD Cert.InLastRefIdeal.τ).loc Cert.InLastRefIdeal.main_arg0)
      ∧ r.2.mem ((c.tc : Thread Cert.InLastRefIdeal.nD Cert.InLastRefIdeal.τ).loc Cert.InLastRefIdeal.main_arg1) = m ((c.tc : Thread Cert.InLastRefIdeal.nD Cert.InLastRefIdeal.τ).loc Cert.InLastRefIdeal.main_arg1)
      ∧ r.2.mem ((c.tc : Thread Cert.InLastRefIdeal.nD Cert.InLastRefIdeal.τ).loc Cert.InLastRefIdeal.main_arg2) = m ((c.tc : Thread Cert.InLastRefIdeal.nD Cert.InLastRefIdeal.τ).loc Cert.InLastRefIdeal.main_arg2)
      ∧ r.2.mem ((c.tc : Thread Cert.InLastRefIdeal.nD Cert.InLastRefIdeal.τ).loc Cert.InLastRefIdeal.main_arg3) = m ((c.tc : Thread Cert.InLastRefIdeal.nD Cert.InLastRefIdeal.τ).loc Cert.InLastRefIdeal.main_arg3))
      ∧ r.2.sem = fun _ => 0) :=
  (θ_run _ _ _).mono (fun r h => ⟨fun c => (h c).2.2, sem_eq_zero_of_no_sems rfl _⟩) (Cert.InLastRefIdeal.Value.run m g)

theorem claim : Cert.Claim := ⟨Cert.MoeUp.Gen.facts, Cert.MoeUpIdeal.Gen.facts, Cert.MoeUpRefIdeal.Gen.facts, Cert.MoeDown.Gen.facts, Cert.MoeDownIdeal.Gen.facts, Cert.MoeDownRefIdeal.Gen.facts, Cert.InProj.Gen.facts, Cert.InProjIdeal.Gen.facts, Cert.InProjRefIdeal.Gen.facts, Cert.FfnUp.Gen.facts, Cert.FfnUpIdeal.Gen.facts, Cert.FfnUpRefIdeal.Gen.facts, Cert.FfnDown.Gen.facts, Cert.FfnDownIdeal.Gen.facts, Cert.FfnDownRefIdeal.Gen.facts, Cert.Sample.Gen.facts, Cert.SampleIdeal.Gen.facts, Cert.SampleRefIdeal.Gen.facts, Cert.InLast.Gen.facts, Cert.InLastIdeal.Gen.facts, Cert.InLastRefIdeal.Gen.facts, Cert.Pre_in_range.Gen.facts, Cert.Pre_in_range2.Gen.facts,
  fun m ρ h => Cert.MoeUp.Gen.frame m ρ (ok_MoeUp m h),
  fun m ρ h => Cert.MoeUpIdeal.Gen.frame m ρ (ok_MoeUpIdeal m h),
  fun m ρ _ => frame_MoeUpRef m ρ,
  fun m ρ _ => frame_MoeUpRef m ρ,
  fun m ρ h => Cert.MoeDown.Gen.frame m ρ (ok_MoeDown m h),
  fun m ρ h => Cert.MoeDownIdeal.Gen.frame m ρ (ok_MoeDownIdeal m h),
  fun m ρ _ => frame_MoeDownRef m ρ,
  fun m ρ _ => frame_MoeDownRef m ρ,
  fun m ρ _ => Cert.InProj.Gen.frame m ρ,
  fun m ρ _ => Cert.InProjIdeal.Gen.frame m ρ,
  fun m ρ _ => frame_InProjRef m ρ,
  fun m ρ _ => Cert.FfnUp.Gen.frame m ρ,
  fun m ρ _ => Cert.FfnUpIdeal.Gen.frame m ρ,
  fun m ρ _ => frame_FfnUpRef m ρ,
  fun m ρ _ => Cert.FfnDown.Gen.frame m ρ,
  fun m ρ _ => Cert.FfnDownIdeal.Gen.frame m ρ,
  fun m ρ _ => frame_FfnDownRef m ρ,
  fun m ρ _ => Cert.Sample.Gen.frame m ρ,
  fun m ρ _ => Cert.SampleIdeal.Gen.frame m ρ,
  fun m ρ _ => frame_SampleRef m ρ,
  fun m ρ _ => Cert.InLast.Gen.frame m ρ,
  fun m ρ _ => Cert.InLastIdeal.Gen.frame m ρ,
  fun m ρ _ => frame_InLastRef m ρ,
  trivial,
  value_MoeUp,
  trivial,
  value_MoeDown,
  trivial,
  value_InProj,
  trivial,
  value_FfnUp,
  trivial,
  value_FfnDown,
  named_Sample,
  value_Sample,
  trivial,
  value_InLast⟩

end Cert.Proof

end
